-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_in [hPre_finite_in : Cert.Pre_finite_in.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_in.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_in [hPre_finite_in : Cert.Pre_finite_in.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_in.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Kernel3Ideal_pre_finite_in [hKernel3Ideal : Cert.Kernel3Ideal.Facts] [hPre_finite_in : Cert.Pre_finite_in.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_in m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Reference3Ideal_pre_finite_in [hReference3Ideal : Cert.Reference3Ideal.Facts] [hPre_finite_in : Cert.Pre_finite_in.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_in m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥
  ∧ IdealRules.named_const.Statement Cert.KernelIdeal.κ "spent" .f32 0x7149F2CA#32 ⊤
  ∧ IdealRules.named_const.Statement Cert.KernelIdeal.κ "dead" .f32 0x43180000#32 ⊤

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)) →
    ∃ (v0 : (c : Dev Cert.Kernel2Ideal.nD) → Buf (Elt Ideal) ((c.tc : Thread Cert.Kernel2Ideal.nD Cert.Kernel2Ideal.τ).loc Cert.Kernel2Ideal.main_v19)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v19) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v52) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13))

def preserves_Kernel3_Kernel3Ideal : Prop :=
  IdealRules.named_const.Statement Cert.Kernel3Ideal.κ "inv_sqrt_d" .f32 0x3DB504F3#32 (((Real.sqrt 128)⁻¹ : ℝ) : EReal)

def algebraic_Kernel3Ideal_Reference3Ideal_pre_finite_in [hKernel3Ideal : Cert.Kernel3Ideal.Facts] [hReference3Ideal : Cert.Reference3Ideal.Facts] [hPre_finite_in : Cert.Pre_finite_in.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_in m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v98)) (v1 : (c : Dev Cert.Kernel3Ideal.nD) → Buf (Elt Ideal) ((c.tc : Thread Cert.Kernel3Ideal.nD Cert.Kernel3Ideal.τ).loc Cert.Kernel3Ideal.main_v101)) (v2 : (c : Dev Cert.Kernel3Ideal.nD) → Buf (Elt Ideal) ((c.tc : Thread Cert.Kernel3Ideal.nD Cert.Kernel3Ideal.τ).loc Cert.Kernel3Ideal.main_v105)) (v3 : (c : Dev Cert.Kernel3Ideal.nD) → Buf (Elt Ideal) ((c.tc : Thread Cert.Kernel3Ideal.nD Cert.Kernel3Ideal.τ).loc Cert.Kernel3Ideal.main_v111)) (v4 : (c : Dev Cert.Kernel3Ideal.nD) → Buf (Elt Ideal) ((c.tc : Thread Cert.Kernel3Ideal.nD Cert.Kernel3Ideal.τ).loc Cert.Kernel3Ideal.main_v113)) (v5 : (c : Dev Cert.Kernel3Ideal.nD) → Buf (Elt Ideal) ((c.tc : Thread Cert.Kernel3Ideal.nD Cert.Kernel3Ideal.τ).loc Cert.Kernel3Ideal.main_v116)) (v6 : (c : Dev Cert.Kernel3Ideal.nD) → Buf (Elt Ideal) ((c.tc : Thread Cert.Kernel3Ideal.nD Cert.Kernel3Ideal.τ).loc Cert.Kernel3Ideal.main_v118)) (v7 : (c : Dev Cert.Kernel3Ideal.nD) → Buf (Elt Ideal) ((c.tc : Thread Cert.Kernel3Ideal.nD Cert.Kernel3Ideal.τ).loc Cert.Kernel3Ideal.main_v120)) (v8 : (c : Dev Cert.Kernel3Ideal.nD) → Buf (Elt Ideal) ((c.tc : Thread Cert.Kernel3Ideal.nD Cert.Kernel3Ideal.τ).loc Cert.Kernel3Ideal.main_v123)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v98) = v0 c
          ∧ r.2.mem ((c.tc : Thread Cert.Kernel3Ideal.nD Cert.Kernel3Ideal.τ).loc Cert.Kernel3Ideal.main_v101) = v1 c
          ∧ r.2.mem ((c.tc : Thread Cert.Kernel3Ideal.nD Cert.Kernel3Ideal.τ).loc Cert.Kernel3Ideal.main_v105) = v2 c
          ∧ r.2.mem ((c.tc : Thread Cert.Kernel3Ideal.nD Cert.Kernel3Ideal.τ).loc Cert.Kernel3Ideal.main_v111) = v3 c
          ∧ r.2.mem ((c.tc : Thread Cert.Kernel3Ideal.nD Cert.Kernel3Ideal.τ).loc Cert.Kernel3Ideal.main_v113) = v4 c
          ∧ r.2.mem ((c.tc : Thread Cert.Kernel3Ideal.nD Cert.Kernel3Ideal.τ).loc Cert.Kernel3Ideal.main_v116) = v5 c
          ∧ r.2.mem ((c.tc : Thread Cert.Kernel3Ideal.nD Cert.Kernel3Ideal.τ).loc Cert.Kernel3Ideal.main_v118) = v6 c
          ∧ r.2.mem ((c.tc : Thread Cert.Kernel3Ideal.nD Cert.Kernel3Ideal.τ).loc Cert.Kernel3Ideal.main_v120) = v7 c
          ∧ r.2.mem ((c.tc : Thread Cert.Kernel3Ideal.nD Cert.Kernel3Ideal.τ).loc Cert.Kernel3Ideal.main_v123) = v8 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v105) = v0 c
          ∧ r.2.mem ((c.tc : Thread Cert.Reference3Ideal.nD Cert.Reference3Ideal.τ).loc Cert.Reference3Ideal.main_v107) = v1 c
          ∧ r.2.mem ((c.tc : Thread Cert.Reference3Ideal.nD Cert.Reference3Ideal.τ).loc Cert.Reference3Ideal.main_v45) = v2 c
          ∧ r.2.mem ((c.tc : Thread Cert.Reference3Ideal.nD Cert.Reference3Ideal.τ).loc Cert.Reference3Ideal.main_v108) = v3 c
          ∧ r.2.mem ((c.tc : Thread Cert.Reference3Ideal.nD Cert.Reference3Ideal.τ).loc Cert.Reference3Ideal.main_v109) = v4 c
          ∧ r.2.mem ((c.tc : Thread Cert.Reference3Ideal.nD Cert.Reference3Ideal.τ).loc Cert.Reference3Ideal.main_v110) = v5 c
          ∧ r.2.mem ((c.tc : Thread Cert.Reference3Ideal.nD Cert.Reference3Ideal.τ).loc Cert.Reference3Ideal.main_v5) = v6 c
          ∧ r.2.mem ((c.tc : Thread Cert.Reference3Ideal.nD Cert.Reference3Ideal.τ).loc Cert.Reference3Ideal.main_v9) = v7 c
          ∧ r.2.mem ((c.tc : Thread Cert.Reference3Ideal.nD Cert.Reference3Ideal.τ).loc Cert.Reference3Ideal.main_v131) = v8 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts) (hPre_finite_in : Cert.Pre_finite_in.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite_in (hKernel3Ideal := hKernel3Ideal) (hPre_finite_in := hPre_finite_in)
    ∧ quiescent_Reference3Ideal (hReference3Ideal := hReference3Ideal)
    ∧ quiescent_Reference3Ideal_pre_finite_in (hReference3Ideal := hReference3Ideal) (hPre_finite_in := hPre_finite_in)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite_in (hKernel3Ideal := hKernel3Ideal) (hReference3Ideal := hReference3Ideal) (hPre_finite_in := hPre_finite_in)
-- ==== Pre_finite.lean ====
abbrev S8x4096x8x64 : Shape := ⟨4, ![8, 4096, 8, 64]⟩
abbrev S_ : Shape := ⟨0, ![]⟩

class Facts : Prop where
  bcast_S_S8x4096x8x64 : S_.BroadcastsInDim S8x4096x8x64 (![] : Fin 0 → Fin S8x4096x8x64.rank)
  reducesTo_S8x4096x8x64_S_d0_1_2_3 : S8x4096x8x64.ReducesTo [0, 1, 2, 3] S_
  h_S_ : 0 < S_.numel

variable [Facts]

def fn {F : FTy → Type} [FloatOps F] (main_arg0 : FVec F S8x4096x8x64 .f32) (main_arg1 : FVec F S8x4096x8x64 .f32) (main_arg2 : FVec F S8x4096x8x64 .f32) : IVec S_ 1 :=
  let main_v0 : FVec F S8x4096x8x64 .f32 := Host.absf main_arg0
  let main_cst : FVec F S_ .f32 := constant S_ .f32 0x7F800000#32
  let main_v1 : FVec F S8x4096x8x64 .f32 := broadcastInDim S8x4096x8x64 ![] bcast_S_S8x4096x8x64 main_cst
  let main_v2 : IVec S8x4096x8x64 1 := cmpf .olt main_v0 main_v1
  let main_c : IVec S_ 1 := constantI S_ 1 1#1
  let main_v3 : IVec S_ 1 := (fun x v => Host.reduce IntOp.andi x v reducesTo_S8x4096x8x64_S_d0_1_2_3 h_S_) main_v2 main_c
  let main_v4 : FVec F S8x4096x8x64 .f32 := Host.absf main_arg1
  let main_cst_0 : FVec F S_ .f32 := constant S_ .f32 0x7F800000#32
  let main_v5 : FVec F S8x4096x8x64 .f32 := broadcastInDim S8x4096x8x64 ![] bcast_S_S8x4096x8x64 main_cst_0
  let main_v6 : IVec S8x4096x8x64 1 := cmpf .olt main_v4 main_v5
  let main_c_1 : IVec S_ 1 := constantI S_ 1 1#1
  let main_v7 : IVec S_ 1 := (fun x v => Host.reduce IntOp.andi x v reducesTo_S8x4096x8x64_S_d0_1_2_3 h_S_) main_v6 main_c_1
  let main_v8 : IVec S_ 1 := andi main_v3 main_v7
  main_v8
-- ==== Pre_finite_in.lean ====
abbrev S8x4096x1024 : Shape := ⟨3, ![8, 4096, 1024]⟩
abbrev S1024x4000 : Shape := ⟨2, ![1024, 4000]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S8x256x4x128 : Shape := ⟨4, ![8, 256, 4, 128]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S1024x4000 : S_.BroadcastsInDim S1024x4000 (![] : Fin 0 → Fin S1024x4000.rank)
  reducesTo_S1024x4000_S_d0_1 : S1024x4000.ReducesTo [0, 1] S_
  bcast_S_S8x256x4x128 : S_.BroadcastsInDim S8x256x4x128 (![] : Fin 0 → Fin S8x256x4x128.rank)
  reducesTo_S8x256x4x128_S_d0_1_2_3 : S8x256x4x128.ReducesTo [0, 1, 2, 3] S_

variable [Facts]

def fn {F : FTy → Type} [FloatOps F] (main_arg0 : FVec F S8x4096x1024 .f32) (main_arg1 : FVec F S1024x4000 .f32) (main_arg2 : FVec F S256 .f32) (main_arg3 : FVec F S256x768 .f32) (main_arg4 : FVec F S128 .f32) (main_arg5 : FVec F S128x1024 .f32) (main_arg6 : FVec F S8x256x4x128 .f32) (main_arg7 : FVec F S8x256x4x128 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S1024x4000 .f32 := Host.absf main_arg1
  let main_cst_0 : FVec F S_ .f32 := constant S_ .f32 0x7F800000#32
  let main_v5 : FVec F S1024x4000 .f32 := broadcastInDim S1024x4000 ![] bcast_S_S1024x4000 main_cst_0
  let main_v6 : IVec S1024x4000 1 := cmpf .olt main_v4 main_v5
  let main_c_1 : IVec S_ 1 := constantI S_ 1 1#1
  let main_v7 : IVec S_ 1 := (fun x v => Host.reduce IntOp.andi x v reducesTo_S1024x4000_S_d0_1 h_S_) main_v6 main_c_1
  let main_v8 : IVec S_ 1 := andi main_v3 main_v7
  let main_v9 : FVec F S8x256x4x128 .f32 := Host.absf main_arg6
  let main_cst_2 : FVec F S_ .f32 := constant S_ .f32 0x7F800000#32
  let main_v10 : FVec F S8x256x4x128 .f32 := broadcastInDim S8x256x4x128 ![] bcast_S_S8x256x4x128 main_cst_2
  let main_v11 : IVec S8x256x4x128 1 := cmpf .olt main_v9 main_v10
  let main_c_3 : IVec S_ 1 := constantI S_ 1 1#1
  let main_v12 : IVec S_ 1 := (fun x v => Host.reduce IntOp.andi x v reducesTo_S8x256x4x128_S_d0_1_2_3 h_S_) main_v11 main_c_3
  let main_v13 : IVec S_ 1 := andi main_v8 main_v12
  main_v13
-- ==== Kernel.lean ====
abbrev S8x4096x8x64 : Shape := ⟨4, ![8, 4096, 8, 64]⟩
abbrev S_ : Shape := ⟨0, ![]⟩
abbrev S8x16x256x8x64 : Shape := ⟨5, ![8, 16, 256, 8, 64]⟩
abbrev S8x8x16x64x256 : Shape := ⟨5, ![8, 8, 16, 64, 256]⟩
abbrev S8x8x16x128x256 : Shape := ⟨5, ![8, 8, 16, 128, 256]⟩
abbrev S8x4096x512 : Shape := ⟨3, ![8, 4096, 512]⟩
abbrev S256x256 : Shape := ⟨2, ![256, 256]⟩
abbrev S256x512 : Shape := ⟨2, ![256, 512]⟩
abbrev S1x4x16x128x256 : Shape := ⟨5, ![1, 4, 16, 128, 256]⟩
abbrev S1x4096x256 : Shape := ⟨3, ![1, 4096, 256]⟩
abbrev S1x4x16x64x256 : Shape := ⟨5, ![1, 4, 16, 64, 256]⟩
abbrev S1x1x1x128x256 : Shape := ⟨5, ![1, 1, 1, 128, 256]⟩
abbrev S128x256 : Shape := ⟨2, ![128, 256]⟩
abbrev S1x256x128 : Shape := ⟨3, ![1, 256, 128]⟩
abbrev S256x128 : Shape := ⟨2, ![256, 128]⟩
abbrev S512x256 : Shape := ⟨2, ![512, 256]⟩
abbrev S1x256 : Shape := ⟨2, ![1, 256]⟩
abbrev S1x1x1x64x256 : Shape := ⟨5, ![1, 1, 1, 64, 256]⟩
abbrev S64x256 : Shape := ⟨2, ![64, 256]⟩
abbrev S1x1x256 : Shape := ⟨3, ![1, 1, 256]⟩
abbrev S1 : Shape := ⟨1, ![1]⟩
abbrev S1x1x1 : Shape := ⟨3, ![1, 1, 1]⟩

abbrev nBuf : Space → Nat
  | .hbm => 43
  | .vmem => 9
  | .smem => 0
  | _ => 0

abbrev bufTy : (tb : Table) → Fin (tcTables nBuf tb) → BufTy
  | .hbm, ⟨0, _⟩ => ⟨S8x4096x8x64, .f32⟩
  | .hbm, ⟨1, _⟩ => ⟨S8x4096x8x64, .f32⟩
  | .hbm, ⟨2, _⟩ => ⟨S8x4096x8x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S8x4096x8x64, .f32⟩
  | .hbm, ⟨8, _⟩ => ⟨S8x4096x8x64, .f32⟩
  | .hbm, ⟨9, _⟩ => ⟨S8x16x256x8x64, .f32⟩
  | .hbm, ⟨10, _⟩ => ⟨S8x8x16x64x256, .f32⟩
  | .hbm, ⟨11, _⟩ => ⟨S8x8x16x128x256, .i32⟩
  | .hbm, ⟨12, _⟩ => ⟨S8x8x16x128x256, .i32⟩
  | .hbm, ⟨13, _⟩ => ⟨S_, .i32⟩
  | .hbm, ⟨14, _⟩ => ⟨S8x8x16x128x256, .i32⟩
  | .hbm, ⟨15, _⟩ => ⟨S8x8x16x128x256, .i32⟩
  | .hbm, ⟨16, _⟩ => ⟨S_, .i32⟩
  | .hbm, ⟨17, _⟩ => ⟨S8x8x16x128x256, .i32⟩
  | .hbm, ⟨18, _⟩ => ⟨S8x8x16x128x256, .i32⟩
  | .hbm, ⟨19, _⟩ => ⟨S8x8x16x128x256, .i1⟩
  | .hbm, ⟨20, _⟩ => ⟨S8x8x16x128x256, .f32⟩
  | .hbm, ⟨21, _⟩ => ⟨S_, .f32⟩
  | .hbm, ⟨22, _⟩ => ⟨S8x8x16x128x256, .f32⟩
  | .hbm, ⟨23, _⟩ => ⟨S8x8x16x128x256, .f32⟩
  | .hbm, ⟨24, _⟩ => ⟨S8x8x16x128x256, .bf16⟩
  | .hbm, ⟨25, _⟩ => ⟨S8x4096x512, .f32⟩
  | .hbm, ⟨26, _⟩ => ⟨S8x4096x512, .bf16⟩
  | .hbm, ⟨27, _⟩ => ⟨S8x16x256x8x64, .f32⟩
  | .hbm, ⟨28, _⟩ => ⟨S8x8x16x64x256, .f32⟩
  | .hbm, ⟨29, _⟩ => ⟨S8x8x16x64x256, .bf16⟩
  | .hbm, ⟨30, _⟩ => ⟨S256x256, .i32⟩
  | .hbm, ⟨31, _⟩ => ⟨S256x256, .i32⟩
  | .hbm, ⟨32, _⟩ => ⟨S256x256, .i1⟩
  | .hbm, ⟨33, _⟩ => ⟨S_, .f32⟩
  | .hbm, ⟨34, _⟩ => ⟨S256x256, .f32⟩
  | .hbm, ⟨35, _⟩ => ⟨S_, .f32⟩
  | .hbm, ⟨36, _⟩ => ⟨S256x256, .f32⟩
  | .hbm, ⟨37, _⟩ => ⟨S256x256, .f32⟩
  | .hbm, ⟨38, _⟩ => ⟨S256x512, .f32⟩
  | .hbm, ⟨39, _⟩ => ⟨S256x512, .bf16⟩
  | .hbm, ⟨40, _⟩ => ⟨S8x8x16x64x256, .f32⟩
  | .hbm, ⟨41, _⟩ => ⟨S8x16x256x8x64, .f32⟩
  | .hbm, ⟨42, _⟩ => ⟨S8x4096x8x64, .f32⟩
  | .local _ .vmem, ⟨0, _⟩ => ⟨S1x4x16x128x256, .bf16⟩
  | .local _ .vmem, ⟨1, _⟩ => ⟨S1x4x16x128x256, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x4x16x64x256, .bf16⟩
  | .local _ .vmem, ⟨5, _⟩ => ⟨S1x4x16x64x256, .bf16⟩
  | .local _ .vmem, ⟨6, _⟩ => ⟨S256x512, .bf16⟩
  | .local _ .vmem, ⟨7, _⟩ => ⟨S1x4x16x64x256, .f32⟩
  | .local _ .vmem, ⟨8, _⟩ => ⟨S1x4x16x64x256, .f32⟩
  | _, _ => ⟨S8x4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 2], ![false, false]⟩

@[reducible] def k0_t1_loop : Scf.Loop 32 :=
  let c0_i32 : BitVec 32 := 0#32
  let c8_i32 : BitVec 32 := 8#32
  let v3 : BitVec 32 := Scalar.addi c0_i32 c8_i32
  let c1_i32 : BitVec 32 := 1#32
  ⟨c0_i32, v3, c1_i32⟩
def k0_off1 (k0_t1 : Fin k0_t1_loop.trips) : Fin 5 → Nat :=
  let c0 : Index := 0#32
  let c0_3 : Index := 0#32
  let c2_i32 : BitVec 32 := 2#32
  let c0_i32 : BitVec 32 := 0#32
  let c1_i32 : BitVec 32 := 1#32
  let arg7 : BitVec 32 := Scf.iv c0_i32 c1_i32 k0_t1
  let v4 : BitVec 32 := Scalar.muli c2_i32 arg7
  let v7 : Index := Scalar.indexCast v4
  let c0_4 : Index := 0#32
  let c0_5 : Index := 0#32
  ![0, 0, v7.toNat, 0, 0]
def k0_off2 (k0_t1 : Fin k0_t1_loop.trips) : Fin 5 → Nat :=
  let c0_6 : Index := 0#32
  let c1 : Index := 1#32
  let c2_i32 : BitVec 32 := 2#32
  let c0_i32 : BitVec 32 := 0#32
  let c1_i32 : BitVec 32 := 1#32
  let arg7 : BitVec 32 := Scf.iv c0_i32 c1_i32 k0_t1
  let v4 : BitVec 32 := Scalar.muli c2_i32 arg7
  let v10 : Index := Scalar.indexCast v4
  let c0_7 : Index := 0#32
  let c0_8 : Index := 0#32
  ![0, 1, v10.toNat, 0, 0]
def k0_off3 (k0_t1 : Fin k0_t1_loop.trips) : Fin 5 → Nat :=
  let c0_9 : Index := 0#32
  let c2 : Index := 2#32
  let c2_i32 : BitVec 32 := 2#32
  let c0_i32 : BitVec 32 := 0#32
  let c1_i32 : BitVec 32 := 1#32
  let arg7 : BitVec 32 := Scf.iv c0_i32 c1_i32 k0_t1
  let v4 : BitVec 32 := Scalar.muli c2_i32 arg7
  let v13 : Index := Scalar.indexCast v4
  let c0_10 : Index := 0#32
  let c0_11 : Index := 0#32
  ![0, 2, v13.toNat, 0, 0]
def k0_off4 (k0_t1 : Fin k0_t1_loop.trips) : Fin 5 → Nat :=
  let c0_12 : Index := 0#32
  let c3 : Index := 3#32
  let c2_i32 : BitVec 32 := 2#32
  let c0_i32 : BitVec 32 := 0#32
  let c1_i32 : BitVec 32 := 1#32
  let arg7 : BitVec 32 := Scf.iv c0_i32 c1_i32 k0_t1
  let v4 : BitVec 32 := Scalar.muli c2_i32 arg7
  let v16 : Index := Scalar.indexCast v4
  let c0_13 : Index := 0#32
  let c0_14 : Index := 0#32
  ![0, 3, v16.toNat, 0, 0]
def k0_off5 (k0_t1 : Fin k0_t1_loop.trips) : Fin 5 → Nat :=
  let c0_15 : Index := 0#32
  let c0_16 : Index := 0#32
  let c2_i32_1 : BitVec 32 := 2#32
  let c0_i32 : BitVec 32 := 0#32
  let c1_i32 : BitVec 32 := 1#32
  let arg7 : BitVec 32 := Scf.iv c0_i32 c1_i32 k0_t1
  let v5 : BitVec 32 := Scalar.muli c2_i32_1 arg7
  let c1_i32_2 : BitVec 32 := 1#32
  let v6 : BitVec 32 := Scalar.addi v5 c1_i32_2
  let v19 : Index := Scalar.indexCast v6
  let c0_17 : Index := 0#32
  let c0_18 : Index := 0#32
  ![0, 0, v19.toNat, 0, 0]
def k0_off6 (k0_t1 : Fin k0_t1_loop.trips) : Fin 5 → Nat :=
  let c0_19 : Index := 0#32
  let c1_20 : Index := 1#32
  let c2_i32_1 : BitVec 32 := 2#32
  let c0_i32 : BitVec 32 := 0#32
  let c1_i32 : BitVec 32 := 1#32
  let arg7 : BitVec 32 := Scf.iv c0_i32 c1_i32 k0_t1
  let v5 : BitVec 32 := Scalar.muli c2_i32_1 arg7
  let c1_i32_2 : BitVec 32 := 1#32
  let v6 : BitVec 32 := Scalar.addi v5 c1_i32_2
  let v22 : Index := Scalar.indexCast v6
  let c0_21 : Index := 0#32
  let c0_22 : Index := 0#32
  ![0, 1, v22.toNat, 0, 0]
def k0_off7 (k0_t1 : Fin k0_t1_loop.trips) : Fin 5 → Nat :=
  let c0_23 : Index := 0#32
  let c2_24 : Index := 2#32
  let c2_i32_1 : BitVec 32 := 2#32
  let c0_i32 : BitVec 32 := 0#32
  let c1_i32 : BitVec 32 := 1#32
  let arg7 : BitVec 32 := Scf.iv c0_i32 c1_i32 k0_t1
  let v5 : BitVec 32 := Scalar.muli c2_i32_1 arg7
  let c1_i32_2 : BitVec 32 := 1#32
  let v6 : BitVec 32 := Scalar.addi v5 c1_i32_2
  let v25 : Index := Scalar.indexCast v6
  let c0_25 : Index := 0#32
  let c0_26 : Index := 0#32
  ![0, 2, v25.toNat, 0, 0]
def k0_off8 (k0_t1 : Fin k0_t1_loop.trips) : Fin 5 → Nat :=
  let c0_27 : Index := 0#32
  let c3_28 : Index := 3#32
  let c2_i32_1 : BitVec 32 := 2#32
  let c0_i32 : BitVec 32 := 0#32
  let c1_i32 : BitVec 32 := 1#32
  let arg7 : BitVec 32 := Scf.iv c0_i32 c1_i32 k0_t1
  let v5 : BitVec 32 := Scalar.muli c2_i32_1 arg7
  let c1_i32_2 : BitVec 32 := 1#32
  let v6 : BitVec 32 := Scalar.addi v5 c1_i32_2
  let v28 : Index := Scalar.indexCast v6
  let c0_29 : Index := 0#32
  let c0_30 : Index := 0#32
  ![0, 3, v28.toNat, 0, 0]
def k0_mult1 (k0_t1 : Fin k0_t1_loop.trips) : BitVec 32 :=
  let c2_i32 : BitVec 32 := 2#32
  let c0_i32 : BitVec 32 := 0#32
  let c1_i32 : BitVec 32 := 1#32
  let arg7 : BitVec 32 := Scf.iv c0_i32 c1_i32 k0_t1
  let v4 : BitVec 32 := Scalar.muli c2_i32 arg7
  let c256_i32 : BitVec 32 := 256#32
  let v31 : BitVec 32 := Scalar.muli v4 c256_i32
  v31
def k0_mult2 (k0_t1 : Fin k0_t1_loop.trips) : BitVec 32 :=
  let c2_i32_1 : BitVec 32 := 2#32
  let c0_i32 : BitVec 32 := 0#32
  let c1_i32 : BitVec 32 := 1#32
  let arg7 : BitVec 32 := Scf.iv c0_i32 c1_i32 k0_t1
  let v5 : BitVec 32 := Scalar.muli c2_i32_1 arg7
  let c1_i32_2 : BitVec 32 := 1#32
  let v6 : BitVec 32 := Scalar.addi v5 c1_i32_2
  let c256_i32_31 : BitVec 32 := 256#32
  let v33 : BitVec 32 := Scalar.muli v6 c256_i32_31
  v33
def k0_off9 (k0_t1 : Fin k0_t1_loop.trips) : Fin 3 → Nat :=
  let c0_32 : Index := 0#32
  let c2_i32 : BitVec 32 := 2#32
  let c0_i32 : BitVec 32 := 0#32
  let c1_i32 : BitVec 32 := 1#32
  let arg7 : BitVec 32 := Scf.iv c0_i32 c1_i32 k0_t1
  let v4 : BitVec 32 := Scalar.muli c2_i32 arg7
  let c256_i32 : BitVec 32 := 256#32
  let v31 : BitVec 32 := Scalar.muli v4 c256_i32
  let v32 : BitVec 32 := v31
  let v35 : Index := Scalar.indexCast v32
  let c0_33 : Index := 0#32
  ![0, v35.toNat, 0]
def k0_off10 (k0_t1 : Fin k0_t1_loop.trips) : Fin 3 → Nat :=
  let c0_37 : Index := 0#32
  let c2_i32 : BitVec 32 := 2#32
  let c0_i32 : BitVec 32 := 0#32
  let c1_i32 : BitVec 32 := 1#32
  let arg7 : BitVec 32 := Scf.iv c0_i32 c1_i32 k0_t1
  let v4 : BitVec 32 := Scalar.muli c2_i32 arg7
  let c256_i32 : BitVec 32 := 256#32
  let v31 : BitVec 32 := Scalar.muli v4 c256_i32
  let v32 : BitVec 32 := v31
  let v43 : Index := Scalar.indexCast v32
  let c128 : Index := 128#32
  ![0, v43.toNat, 128]
def k0_off11 (k0_t1 : Fin k0_t1_loop.trips) : Fin 3 → Nat :=
  let c0_42 : Index := 0#32
  let c2_i32_1 : BitVec 32 := 2#32
  let c0_i32 : BitVec 32 := 0#32
  let c1_i32 : BitVec 32 := 1#32
  let arg7 : BitVec 32 := Scf.iv c0_i32 c1_i32 k0_t1
  let v5 : BitVec 32 := Scalar.muli c2_i32_1 arg7
  let c1_i32_2 : BitVec 32 := 1#32
  let v6 : BitVec 32 := Scalar.addi v5 c1_i32_2
  let c256_i32_31 : BitVec 32 := 256#32
  let v33 : BitVec 32 := Scalar.muli v6 c256_i32_31
  let v34 : BitVec 32 := v33
  let v51 : Index := Scalar.indexCast v34
  let c0_43 : Index := 0#32
  ![0, v51.toNat, 0]
def k0_off12 (k0_t1 : Fin k0_t1_loop.trips) : Fin 3 → Nat :=
  let c0_48 : Index := 0#32
  let c2_i32_1 : BitVec 32 := 2#32
  let c0_i32 : BitVec 32 := 0#32
  let c1_i32 : BitVec 32 := 1#32
  let arg7 : BitVec 32 := Scf.iv c0_i32 c1_i32 k0_t1
  let v5 : BitVec 32 := Scalar.muli c2_i32_1 arg7
  let c1_i32_2 : BitVec 32 := 1#32
  let v6 : BitVec 32 := Scalar.addi v5 c1_i32_2
  let c256_i32_31 : BitVec 32 := 256#32
  let v33 : BitVec 32 := Scalar.muli v6 c256_i32_31
  let v34 : BitVec 32 := v33
  let v59 : Index := Scalar.indexCast v34
  let c128_49 : Index := 128#32
  ![0, v59.toNat, 128]
def k0_mult3 (k0_t1 : Fin k0_t1_loop.trips) : BitVec 32 :=
  let c2_i32 : BitVec 32 := 2#32
  let c0_i32 : BitVec 32 := 0#32
  let c1_i32 : BitVec 32 := 1#32
  let arg7 : BitVec 32 := Scf.iv c0_i32 c1_i32 k0_t1
  let v4 : BitVec 32 := Scalar.muli c2_i32 arg7
  let c1_i32_54 : BitVec 32 := 1#32
  let v67 : BitVec 32 := Scalar.subi v4 c1_i32_54
  let c0_i32_55 : BitVec 32 := 0#32
  let v68 : BitVec 32 := Scalar.maxsi v67 c0_i32_55
  let c256_i32_57 : BitVec 32 := 256#32
  let v70 : BitVec 32 := Scalar.muli v68 c256_i32_57
  v70
def k0_mult4 (k0_t1 : Fin k0_t1_loop.trips) : BitVec 32 :=
  let c2_i32_1 : BitVec 32 := 2#32
  let c0_i32 : BitVec 32 := 0#32
  let c1_i32 : BitVec 32 := 1#32
  let arg7 : BitVec 32 := Scf.iv c0_i32 c1_i32 k0_t1
  let v5 : BitVec 32 := Scalar.muli c2_i32_1 arg7
  let c1_i32_2 : BitVec 32 := 1#32
  let v6 : BitVec 32 := Scalar.addi v5 c1_i32_2
  let c1_i32_56 : BitVec 32 := 1#32
  let v69 : BitVec 32 := Scalar.subi v6 c1_i32_56
  let c256_i32_58 : BitVec 32 := 256#32
  let v72 : BitVec 32 := Scalar.muli v69 c256_i32_58
  v72
def k0_off13 (k0_t1 : Fin k0_t1_loop.trips) : Fin 3 → Nat :=
  let c0_59 : Index := 0#32
  let c2_i32 : BitVec 32 := 2#32
  let c0_i32 : BitVec 32 := 0#32
  let c1_i32 : BitVec 32 := 1#32
  let arg7 : BitVec 32 := Scf.iv c0_i32 c1_i32 k0_t1
  let v4 : BitVec 32 := Scalar.muli c2_i32 arg7
  let c1_i32_54 : BitVec 32 := 1#32
  let v67 : BitVec 32 := Scalar.subi v4 c1_i32_54
  let c0_i32_55 : BitVec 32 := 0#32
  let v68 : BitVec 32 := Scalar.maxsi v67 c0_i32_55
  let c256_i32_57 : BitVec 32 := 256#32
  let v70 : BitVec 32 := Scalar.muli v68 c256_i32_57
  let v71 : BitVec 32 := v70
  let v74 : Index := Scalar.indexCast v71
  let c0_60 : Index := 0#32
  ![0, v74.toNat, 0]
def k0_off14 (k0_t1 : Fin k0_t1_loop.trips) : Fin 3 → Nat :=
  let c0_65 : Index := 0#32
  let c2_i32 : BitVec 32 := 2#32
  let c0_i32 : BitVec 32 := 0#32
  let c1_i32 : BitVec 32 := 1#32
  let arg7 : BitVec 32 := Scf.iv c0_i32 c1_i32 k0_t1
  let v4 : BitVec 32 := Scalar.muli c2_i32 arg7
  let c1_i32_54 : BitVec 32 := 1#32
  let v67 : BitVec 32 := Scalar.subi v4 c1_i32_54
  let c0_i32_55 : BitVec 32 := 0#32
  let v68 : BitVec 32 := Scalar.maxsi v67 c0_i32_55
  let c256_i32_57 : BitVec 32 := 256#32
  let v70 : BitVec 32 := Scalar.muli v68 c256_i32_57
  let v71 : BitVec 32 := v70
  let v82 : Index := Scalar.indexCast v71
  let c128_66 : Index := 128#32
  ![0, v82.toNat, 128]
def k0_off15 (k0_t1 : Fin k0_t1_loop.trips) : Fin 3 → Nat :=
  let c0_71 : Index := 0#32
  let c2_i32_1 : BitVec 32 := 2#32
  let c0_i32 : BitVec 32 := 0#32
  let c1_i32 : BitVec 32 := 1#32
  let arg7 : BitVec 32 := Scf.iv c0_i32 c1_i32 k0_t1
  let v5 : BitVec 32 := Scalar.muli c2_i32_1 arg7
  let c1_i32_2 : BitVec 32 := 1#32
  let v6 : BitVec 32 := Scalar.addi v5 c1_i32_2
  let c1_i32_56 : BitVec 32 := 1#32
  let v69 : BitVec 32 := Scalar.subi v6 c1_i32_56
  let c256_i32_58 : BitVec 32 := 256#32
  let v72 : BitVec 32 := Scalar.muli v69 c256_i32_58
  let v73 : BitVec 32 := v72
  let v90 : Index := Scalar.indexCast v73
  let c0_72 : Index := 0#32
  ![0, v90.toNat, 0]
def k0_off16 (k0_t1 : Fin k0_t1_loop.trips) : Fin 3 → Nat :=
  let c0_77 : Index := 0#32
  let c2_i32_1 : BitVec 32 := 2#32
  let c0_i32 : BitVec 32 := 0#32
  let c1_i32 : BitVec 32 := 1#32
  let arg7 : BitVec 32 := Scf.iv c0_i32 c1_i32 k0_t1
  let v5 : BitVec 32 := Scalar.muli c2_i32_1 arg7
  let c1_i32_2 : BitVec 32 := 1#32
  let v6 : BitVec 32 := Scalar.addi v5 c1_i32_2
  let c1_i32_56 : BitVec 32 := 1#32
  let v69 : BitVec 32 := Scalar.subi v6 c1_i32_56
  let c256_i32_58 : BitVec 32 := 256#32
  let v72 : BitVec 32 := Scalar.muli v69 c256_i32_58
  let v73 : BitVec 32 := v72
  let v98 : Index := Scalar.indexCast v73
  let c128_78 : Index := 128#32
  ![0, v98.toNat, 128]
def k0_off17 (k0_t1 : Fin k0_t1_loop.trips) : Fin 5 → Nat :=
  let c0_156 : Index := 0#32
  let c0_157 : Index := 0#32
  let c2_i32 : BitVec 32 := 2#32
  let c0_i32 : BitVec 32 := 0#32
  let c1_i32 : BitVec 32 := 1#32
  let arg7 : BitVec 32 := Scf.iv c0_i32 c1_i32 k0_t1
  let v4 : BitVec 32 := Scalar.muli c2_i32 arg7
  let v293 : Index := Scalar.indexCast v4
  let c0_158 : Index := 0#32
  let c0_159 : Index := 0#32
  ![0, 0, v293.toNat, 0, 0]
def k0_off18 (k0_t1 : Fin k0_t1_loop.trips) : Fin 5 → Nat :=
  let c0_166 : Index := 0#32
  let c1_167 : Index := 1#32
  let c2_i32 : BitVec 32 := 2#32
  let c0_i32 : BitVec 32 := 0#32
  let c1_i32 : BitVec 32 := 1#32
  let arg7 : BitVec 32 := Scf.iv c0_i32 c1_i32 k0_t1
  let v4 : BitVec 32 := Scalar.muli c2_i32 arg7
  let v308 : Index := Scalar.indexCast v4
  let c0_168 : Index := 0#32
  let c0_169 : Index := 0#32
  ![0, 1, v308.toNat, 0, 0]
def k0_off19 (k0_t1 : Fin k0_t1_loop.trips) : Fin 5 → Nat :=
  let c0_176 : Index := 0#32
  let c2_177 : Index := 2#32
  let c2_i32 : BitVec 32 := 2#32
  let c0_i32 : BitVec 32 := 0#32
  let c1_i32 : BitVec 32 := 1#32
  let arg7 : BitVec 32 := Scf.iv c0_i32 c1_i32 k0_t1
  let v4 : BitVec 32 := Scalar.muli c2_i32 arg7
  let v323 : Index := Scalar.indexCast v4
  let c0_178 : Index := 0#32
  let c0_179 : Index := 0#32
  ![0, 2, v323.toNat, 0, 0]
def k0_off20 (k0_t1 : Fin k0_t1_loop.trips) : Fin 5 → Nat :=
  let c0_186 : Index := 0#32
  let c3_187 : Index := 3#32
  let c2_i32 : BitVec 32 := 2#32
  let c0_i32 : BitVec 32 := 0#32
  let c1_i32 : BitVec 32 := 1#32
  let arg7 : BitVec 32 := Scf.iv c0_i32 c1_i32 k0_t1
  let v4 : BitVec 32 := Scalar.muli c2_i32 arg7
  let v338 : Index := Scalar.indexCast v4
  let c0_188 : Index := 0#32
  let c0_189 : Index := 0#32
  ![0, 3, v338.toNat, 0, 0]
def k0_off21 (k0_t1 : Fin k0_t1_loop.trips) : Fin 5 → Nat :=
  let c0_196 : Index := 0#32
  let c0_197 : Index := 0#32
  let c2_i32_1 : BitVec 32 := 2#32
  let c0_i32 : BitVec 32 := 0#32
  let c1_i32 : BitVec 32 := 1#32
  let arg7 : BitVec 32 := Scf.iv c0_i32 c1_i32 k0_t1
  let v5 : BitVec 32 := Scalar.muli c2_i32_1 arg7
  let c1_i32_2 : BitVec 32 := 1#32
  let v6 : BitVec 32 := Scalar.addi v5 c1_i32_2
  let v353 : Index := Scalar.indexCast v6
  let c0_198 : Index := 0#32
  let c0_199 : Index := 0#32
  ![0, 0, v353.toNat, 0, 0]
def k0_off22 (k0_t1 : Fin k0_t1_loop.trips) : Fin 5 → Nat :=
  let c0_206 : Index := 0#32
  let c1_207 : Index := 1#32
  let c2_i32_1 : BitVec 32 := 2#32
  let c0_i32 : BitVec 32 := 0#32
  let c1_i32 : BitVec 32 := 1#32
  let arg7 : BitVec 32 := Scf.iv c0_i32 c1_i32 k0_t1
  let v5 : BitVec 32 := Scalar.muli c2_i32_1 arg7
  let c1_i32_2 : BitVec 32 := 1#32
  let v6 : BitVec 32 := Scalar.addi v5 c1_i32_2
  let v368 : Index := Scalar.indexCast v6
  let c0_208 : Index := 0#32
  let c0_209 : Index := 0#32
  ![0, 1, v368.toNat, 0, 0]
def k0_off23 (k0_t1 : Fin k0_t1_loop.trips) : Fin 5 → Nat :=
  let c0_216 : Index := 0#32
  let c2_217 : Index := 2#32
  let c2_i32_1 : BitVec 32 := 2#32
  let c0_i32 : BitVec 32 := 0#32
  let c1_i32 : BitVec 32 := 1#32
  let arg7 : BitVec 32 := Scf.iv c0_i32 c1_i32 k0_t1
  let v5 : BitVec 32 := Scalar.muli c2_i32_1 arg7
  let c1_i32_2 : BitVec 32 := 1#32
  let v6 : BitVec 32 := Scalar.addi v5 c1_i32_2
  let v383 : Index := Scalar.indexCast v6
  let c0_218 : Index := 0#32
  let c0_219 : Index := 0#32
  ![0, 2, v383.toNat, 0, 0]
def k0_off24 (k0_t1 : Fin k0_t1_loop.trips) : Fin 5 → Nat :=
  let c0_226 : Index := 0#32
  let c3_227 : Index := 3#32
  let c2_i32_1 : BitVec 32 := 2#32
  let c0_i32 : BitVec 32 := 0#32
  let c1_i32 : BitVec 32 := 1#32
  let arg7 : BitVec 32 := Scf.iv c0_i32 c1_i32 k0_t1
  let v5 : BitVec 32 := Scalar.muli c2_i32_1 arg7
  let c1_i32_2 : BitVec 32 := 1#32
  let v6 : BitVec 32 := Scalar.addi v5 c1_i32_2
  let v398 : Index := Scalar.indexCast v6
  let c0_228 : Index := 0#32
  let c0_229 : Index := 0#32
  ![0, 3, v398.toNat, 0, 0]
def k0_off25 (k0_t1 : Fin k0_t1_loop.trips) : Fin 5 → Nat :=
  let c0_299 : Index := 0#32
  let c0_300 : Index := 0#32
  let c2_i32 : BitVec 32 := 2#32
  let c0_i32 : BitVec 32 := 0#32
  let c1_i32 : BitVec 32 := 1#32
  let arg7 : BitVec 32 := Scf.iv c0_i32 c1_i32 k0_t1
  let v4 : BitVec 32 := Scalar.muli c2_i32 arg7
  let c1_i32_235 : BitVec 32 := 1#32
  let v410 : BitVec 32 := Scalar.subi v4 c1_i32_235
  let c0_i32_236 : BitVec 32 := 0#32
  let v411 : BitVec 32 := Scalar.maxsi v410 c0_i32_236
  let v583 : Index := Scalar.indexCast v411
  let c0_301 : Index := 0#32
  let c0_302 : Index := 0#32
  ![0, 0, v583.toNat, 0, 0]
def k0_off26 (k0_t1 : Fin k0_t1_loop.trips) : Fin 5 → Nat :=
  let c0_313 : Index := 0#32
  let c1_314 : Index := 1#32
  let c2_i32 : BitVec 32 := 2#32
  let c0_i32 : BitVec 32 := 0#32
  let c1_i32 : BitVec 32 := 1#32
  let arg7 : BitVec 32 := Scf.iv c0_i32 c1_i32 k0_t1
  let v4 : BitVec 32 := Scalar.muli c2_i32 arg7
  let c1_i32_235 : BitVec 32 := 1#32
  let v410 : BitVec 32 := Scalar.subi v4 c1_i32_235
  let c0_i32_236 : BitVec 32 := 0#32
  let v411 : BitVec 32 := Scalar.maxsi v410 c0_i32_236
  let v605 : Index := Scalar.indexCast v411
  let c0_315 : Index := 0#32
  let c0_316 : Index := 0#32
  ![0, 1, v605.toNat, 0, 0]
def k0_off27 (k0_t1 : Fin k0_t1_loop.trips) : Fin 5 → Nat :=
  let c0_327 : Index := 0#32
  let c2_328 : Index := 2#32
  let c2_i32 : BitVec 32 := 2#32
  let c0_i32 : BitVec 32 := 0#32
  let c1_i32 : BitVec 32 := 1#32
  let arg7 : BitVec 32 := Scf.iv c0_i32 c1_i32 k0_t1
  let v4 : BitVec 32 := Scalar.muli c2_i32 arg7
  let c1_i32_235 : BitVec 32 := 1#32
  let v410 : BitVec 32 := Scalar.subi v4 c1_i32_235
  let c0_i32_236 : BitVec 32 := 0#32
  let v411 : BitVec 32 := Scalar.maxsi v410 c0_i32_236
  let v627 : Index := Scalar.indexCast v411
  let c0_329 : Index := 0#32
  let c0_330 : Index := 0#32
  ![0, 2, v627.toNat, 0, 0]
def k0_off28 (k0_t1 : Fin k0_t1_loop.trips) : Fin 5 → Nat :=
  let c0_341 : Index := 0#32
  let c3_342 : Index := 3#32
  let c2_i32 : BitVec 32 := 2#32
  let c0_i32 : BitVec 32 := 0#32
  let c1_i32 : BitVec 32 := 1#32
  let arg7 : BitVec 32 := Scf.iv c0_i32 c1_i32 k0_t1
  let v4 : BitVec 32 := Scalar.muli c2_i32 arg7
  let c1_i32_235 : BitVec 32 := 1#32
  let v410 : BitVec 32 := Scalar.subi v4 c1_i32_235
  let c0_i32_236 : BitVec 32 := 0#32
  let v411 : BitVec 32 := Scalar.maxsi v410 c0_i32_236
  let v649 : Index := Scalar.indexCast v411
  let c0_343 : Index := 0#32
  let c0_344 : Index := 0#32
  ![0, 3, v649.toNat, 0, 0]
def k0_off29 (k0_t1 : Fin k0_t1_loop.trips) : Fin 5 → Nat :=
  let c0_355 : Index := 0#32
  let c0_356 : Index := 0#32
  let c2_i32_1 : BitVec 32 := 2#32
  let c0_i32 : BitVec 32 := 0#32
  let c1_i32 : BitVec 32 := 1#32
  let arg7 : BitVec 32 := Scf.iv c0_i32 c1_i32 k0_t1
  let v5 : BitVec 32 := Scalar.muli c2_i32_1 arg7
  let c1_i32_2 : BitVec 32 := 1#32
  let v6 : BitVec 32 := Scalar.addi v5 c1_i32_2
  let c1_i32_237 : BitVec 32 := 1#32
  let v412 : BitVec 32 := Scalar.subi v6 c1_i32_237
  let v671 : Index := Scalar.indexCast v412
  let c0_357 : Index := 0#32
  let c0_358 : Index := 0#32
  ![0, 0, v671.toNat, 0, 0]
def k0_off30 (k0_t1 : Fin k0_t1_loop.trips) : Fin 5 → Nat :=
  let c0_369 : Index := 0#32
  let c1_370 : Index := 1#32
  let c2_i32_1 : BitVec 32 := 2#32
  let c0_i32 : BitVec 32 := 0#32
  let c1_i32 : BitVec 32 := 1#32
  let arg7 : BitVec 32 := Scf.iv c0_i32 c1_i32 k0_t1
  let v5 : BitVec 32 := Scalar.muli c2_i32_1 arg7
  let c1_i32_2 : BitVec 32 := 1#32
  let v6 : BitVec 32 := Scalar.addi v5 c1_i32_2
  let c1_i32_237 : BitVec 32 := 1#32
  let v412 : BitVec 32 := Scalar.subi v6 c1_i32_237
  let v693 : Index := Scalar.indexCast v412
  let c0_371 : Index := 0#32
  let c0_372 : Index := 0#32
  ![0, 1, v693.toNat, 0, 0]
def k0_off31 (k0_t1 : Fin k0_t1_loop.trips) : Fin 5 → Nat :=
  let c0_383 : Index := 0#32
  let c2_384 : Index := 2#32
  let c2_i32_1 : BitVec 32 := 2#32
  let c0_i32 : BitVec 32 := 0#32
  let c1_i32 : BitVec 32 := 1#32
  let arg7 : BitVec 32 := Scf.iv c0_i32 c1_i32 k0_t1
  let v5 : BitVec 32 := Scalar.muli c2_i32_1 arg7
  let c1_i32_2 : BitVec 32 := 1#32
  let v6 : BitVec 32 := Scalar.addi v5 c1_i32_2
  let c1_i32_237 : BitVec 32 := 1#32
  let v412 : BitVec 32 := Scalar.subi v6 c1_i32_237
  let v715 : Index := Scalar.indexCast v412
  let c0_385 : Index := 0#32
  let c0_386 : Index := 0#32
  ![0, 2, v715.toNat, 0, 0]
def k0_off32 (k0_t1 : Fin k0_t1_loop.trips) : Fin 5 → Nat :=
  let c0_397 : Index := 0#32
  let c3_398 : Index := 3#32
  let c2_i32_1 : BitVec 32 := 2#32
  let c0_i32 : BitVec 32 := 0#32
  let c1_i32 : BitVec 32 := 1#32
  let arg7 : BitVec 32 := Scf.iv c0_i32 c1_i32 k0_t1
  let v5 : BitVec 32 := Scalar.muli c2_i32_1 arg7
  let c1_i32_2 : BitVec 32 := 1#32
  let v6 : BitVec 32 := Scalar.addi v5 c1_i32_2
  let c1_i32_237 : BitVec 32 := 1#32
  let v412 : BitVec 32 := Scalar.subi v6 c1_i32_237
  let v737 : Index := Scalar.indexCast v412
  let c0_399 : Index := 0#32
  let c0_400 : Index := 0#32
  ![0, 3, v737.toNat, 0, 0]
def k0_mult5 (k0_t1 : Fin k0_t1_loop.trips) (arg8 : BitVec 32) : BitVec 32 :=
  let c2_i32 : BitVec 32 := 2#32
  let c0_i32 : BitVec 32 := 0#32
  let c1_i32 : BitVec 32 := 1#32
  let arg7 : BitVec 32 := Scf.iv c0_i32 c1_i32 k0_t1
  let v4 : BitVec 32 := Scalar.muli c2_i32 arg7
  let v771 : BitVec 32 := Scalar.subi v4 arg8
  let c0_i32_414 : BitVec 32 := 0#32
  let v772 : BitVec 32 := Scalar.maxsi v771 c0_i32_414
  let c256_i32_419 : BitVec 32 := 256#32
  let v783 : BitVec 32 := Scalar.muli v772 c256_i32_419
  v783

def k0_mult6 (k0_t1 : Fin k0_t1_loop.trips) (arg8 : BitVec 32) : BitVec 32 :=
  let c2_i32_1 : BitVec 32 := 2#32
  let c0_i32 : BitVec 32 := 0#32
  let c1_i32 : BitVec 32 := 1#32
  let arg7 : BitVec 32 := Scf.iv c0_i32 c1_i32 k0_t1
  let v5 : BitVec 32 := Scalar.muli c2_i32_1 arg7
  let c1_i32_2 : BitVec 32 := 1#32
  let v6 : BitVec 32 := Scalar.addi v5 c1_i32_2
  let v773 : BitVec 32 := Scalar.subi v6 arg8
  let c256_i32_420 : BitVec 32 := 256#32
  let v785 : BitVec 32 := Scalar.muli v773 c256_i32_420
  v785
def k0_off33 (k0_t1 : Fin k0_t1_loop.trips) (arg8 : BitVec 32) : Fin 3 → Nat :=
  let c0_421 : Index := 0#32
  let c2_i32 : BitVec 32 := 2#32
  let c0_i32 : BitVec 32 := 0#32
  let c1_i32 : BitVec 32 := 1#32
  let arg7 : BitVec 32 := Scf.iv c0_i32 c1_i32 k0_t1
  let v4 : BitVec 32 := Scalar.muli c2_i32 arg7
  let v771 : BitVec 32 := Scalar.subi v4 arg8
  let c0_i32_414 : BitVec 32 := 0#32
  let v772 : BitVec 32 := Scalar.maxsi v771 c0_i32_414
  let c256_i32_419 : BitVec 32 := 256#32
  let v783 : BitVec 32 := Scalar.muli v772 c256_i32_419
  let v784 : BitVec 32 := v783
  let v787 : Index := Scalar.indexCast v784
  let c0_422 : Index := 0#32
  ![0, v787.toNat, 0]
def k0_off34 (k0_t1 : Fin k0_t1_loop.trips) (arg8 : BitVec 32) : Fin 3 → Nat :=
  let c0_427 : Index := 0#32
  let c2_i32 : BitVec 32 := 2#32
  let c0_i32 : BitVec 32 := 0#32
  let c1_i32 : BitVec 32 := 1#32
  let arg7 : BitVec 32 := Scf.iv c0_i32 c1_i32 k0_t1
  let v4 : BitVec 32 := Scalar.muli c2_i32 arg7
  let v771 : BitVec 32 := Scalar.subi v4 arg8
  let c0_i32_414 : BitVec 32 := 0#32
  let v772 : BitVec 32 := Scalar.maxsi v771 c0_i32_414
  let c256_i32_419 : BitVec 32 := 256#32
  let v783 : BitVec 32 := Scalar.muli v772 c256_i32_419
  let v784 : BitVec 32 := v783
  let v795 : Index := Scalar.indexCast v784
  let c128_428 : Index := 128#32
  ![0, v795.toNat, 128]
def k0_off35 (k0_t1 : Fin k0_t1_loop.trips) (arg8 : BitVec 32) : Fin 3 → Nat :=
  let c0_433 : Index := 0#32
  let c2_i32_1 : BitVec 32 := 2#32
  let c0_i32 : BitVec 32 := 0#32
  let c1_i32 : BitVec 32 := 1#32
  let arg7 : BitVec 32 := Scf.iv c0_i32 c1_i32 k0_t1
  let v5 : BitVec 32 := Scalar.muli c2_i32_1 arg7
  let c1_i32_2 : BitVec 32 := 1#32
  let v6 : BitVec 32 := Scalar.addi v5 c1_i32_2
  let v773 : BitVec 32 := Scalar.subi v6 arg8
  let c256_i32_420 : BitVec 32 := 256#32
  let v785 : BitVec 32 := Scalar.muli v773 c256_i32_420
  let v786 : BitVec 32 := v785
  let v803 : Index := Scalar.indexCast v786
  let c0_434 : Index := 0#32
  ![0, v803.toNat, 0]
def k0_off36 (k0_t1 : Fin k0_t1_loop.trips) (arg8 : BitVec 32) : Fin 3 → Nat :=
  let c0_439 : Index := 0#32
  let c2_i32_1 : BitVec 32 := 2#32
  let c0_i32 : BitVec 32 := 0#32
  let c1_i32 : BitVec 32 := 1#32
  let arg7 : BitVec 32 := Scf.iv c0_i32 c1_i32 k0_t1
  let v5 : BitVec 32 := Scalar.muli c2_i32_1 arg7
  let c1_i32_2 : BitVec 32 := 1#32
  let v6 : BitVec 32 := Scalar.addi v5 c1_i32_2
  let v773 : BitVec 32 := Scalar.subi v6 arg8
  let c256_i32_420 : BitVec 32 := 256#32
  let v785 : BitVec 32 := Scalar.muli v773 c256_i32_420
  let v786 : BitVec 32 := v785
  let v811 : Index := Scalar.indexCast v786
  let c128_440 : Index := 128#32
  ![0, v811.toNat, 128]
def k0_off37 (k0_t1 : Fin k0_t1_loop.trips) (arg8 : BitVec 32) : Fin 5 → Nat :=
  let c0_501 : Index := 0#32
  let c0_502 : Index := 0#32
  let c2_i32 : BitVec 32 := 2#32
  let c0_i32 : BitVec 32 := 0#32
  let c1_i32 : BitVec 32 := 1#32
  let arg7 : BitVec 32 := Scf.iv c0_i32 c1_i32 k0_t1
  let v4 : BitVec 32 := Scalar.muli c2_i32 arg7
  let v771 : BitVec 32 := Scalar.subi v4 arg8
  let c0_i32_414 : BitVec 32 := 0#32
  let v772 : BitVec 32 := Scalar.maxsi v771 c0_i32_414
  let v980 : Index := Scalar.indexCast v772
  let c0_503 : Index := 0#32
  let c0_504 : Index := 0#32
  ![0, 0, v980.toNat, 0, 0]
def k0_off38 (k0_t1 : Fin k0_t1_loop.trips) : Fin 5 → Nat :=
  let c0_507 : Index := 0#32
  let c0_508 : Index := 0#32
  let c2_i32 : BitVec 32 := 2#32
  let c0_i32 : BitVec 32 := 0#32
  let c1_i32 : BitVec 32 := 1#32
  let arg7 : BitVec 32 := Scf.iv c0_i32 c1_i32 k0_t1
  let v4 : BitVec 32 := Scalar.muli c2_i32 arg7
  let v991 : Index := Scalar.indexCast v4
  let c0_509 : Index := 0#32
  let c0_510 : Index := 0#32
  ![0, 0, v991.toNat, 0, 0]
def k0_off39 (k0_t1 : Fin k0_t1_loop.trips) (arg8 : BitVec 32) : Fin 5 → Nat :=
  let c0_515 : Index := 0#32
  let c1_516 : Index := 1#32
  let c2_i32 : BitVec 32 := 2#32
  let c0_i32 : BitVec 32 := 0#32
  let c1_i32 : BitVec 32 := 1#32
  let arg7 : BitVec 32 := Scf.iv c0_i32 c1_i32 k0_t1
  let v4 : BitVec 32 := Scalar.muli c2_i32 arg7
  let v771 : BitVec 32 := Scalar.subi v4 arg8
  let c0_i32_414 : BitVec 32 := 0#32
  let v772 : BitVec 32 := Scalar.maxsi v771 c0_i32_414
  let v1002 : Index := Scalar.indexCast v772
  let c0_517 : Index := 0#32
  let c0_518 : Index := 0#32
  ![0, 1, v1002.toNat, 0, 0]
def k0_off40 (k0_t1 : Fin k0_t1_loop.trips) : Fin 5 → Nat :=
  let c0_521 : Index := 0#32
  let c1_522 : Index := 1#32
  let c2_i32 : BitVec 32 := 2#32
  let c0_i32 : BitVec 32 := 0#32
  let c1_i32 : BitVec 32 := 1#32
  let arg7 : BitVec 32 := Scf.iv c0_i32 c1_i32 k0_t1
  let v4 : BitVec 32 := Scalar.muli c2_i32 arg7
  let v1013 : Index := Scalar.indexCast v4
  let c0_523 : Index := 0#32
  let c0_524 : Index := 0#32
  ![0, 1, v1013.toNat, 0, 0]
def k0_off41 (k0_t1 : Fin k0_t1_loop.trips) (arg8 : BitVec 32) : Fin 5 → Nat :=
  let c0_529 : Index := 0#32
  let c2_530 : Index := 2#32
  let c2_i32 : BitVec 32 := 2#32
  let c0_i32 : BitVec 32 := 0#32
  let c1_i32 : BitVec 32 := 1#32
  let arg7 : BitVec 32 := Scf.iv c0_i32 c1_i32 k0_t1
  let v4 : BitVec 32 := Scalar.muli c2_i32 arg7
  let v771 : BitVec 32 := Scalar.subi v4 arg8
  let c0_i32_414 : BitVec 32 := 0#32
  let v772 : BitVec 32 := Scalar.maxsi v771 c0_i32_414
  let v1024 : Index := Scalar.indexCast v772
  let c0_531 : Index := 0#32
  let c0_532 : Index := 0#32
  ![0, 2, v1024.toNat, 0, 0]
def k0_off42 (k0_t1 : Fin k0_t1_loop.trips) : Fin 5 → Nat :=
  let c0_535 : Index := 0#32
  let c2_536 : Index := 2#32
  let c2_i32 : BitVec 32 := 2#32
  let c0_i32 : BitVec 32 := 0#32
  let c1_i32 : BitVec 32 := 1#32
  let arg7 : BitVec 32 := Scf.iv c0_i32 c1_i32 k0_t1
  let v4 : BitVec 32 := Scalar.muli c2_i32 arg7
  let v1035 : Index := Scalar.indexCast v4
  let c0_537 : Index := 0#32
  let c0_538 : Index := 0#32
  ![0, 2, v1035.toNat, 0, 0]
def k0_off43 (k0_t1 : Fin k0_t1_loop.trips) (arg8 : BitVec 32) : Fin 5 → Nat :=
  let c0_543 : Index := 0#32
  let c3_544 : Index := 3#32
  let c2_i32 : BitVec 32 := 2#32
  let c0_i32 : BitVec 32 := 0#32
  let c1_i32 : BitVec 32 := 1#32
  let arg7 : BitVec 32 := Scf.iv c0_i32 c1_i32 k0_t1
  let v4 : BitVec 32 := Scalar.muli c2_i32 arg7
  let v771 : BitVec 32 := Scalar.subi v4 arg8
  let c0_i32_414 : BitVec 32 := 0#32
  let v772 : BitVec 32 := Scalar.maxsi v771 c0_i32_414
  let v1046 : Index := Scalar.indexCast v772
  let c0_545 : Index := 0#32
  let c0_546 : Index := 0#32
  ![0, 3, v1046.toNat, 0, 0]
def k0_off44 (k0_t1 : Fin k0_t1_loop.trips) : Fin 5 → Nat :=
  let c0_549 : Index := 0#32
  let c3_550 : Index := 3#32
  let c2_i32 : BitVec 32 := 2#32
  let c0_i32 : BitVec 32 := 0#32
  let c1_i32 : BitVec 32 := 1#32
  let arg7 : BitVec 32 := Scf.iv c0_i32 c1_i32 k0_t1
  let v4 : BitVec 32 := Scalar.muli c2_i32 arg7
  let v1057 : Index := Scalar.indexCast v4
  let c0_551 : Index := 0#32
  let c0_552 : Index := 0#32
  ![0, 3, v1057.toNat, 0, 0]
def k0_off45 (k0_t1 : Fin k0_t1_loop.trips) (arg8 : BitVec 32) : Fin 5 → Nat :=
  let c0_557 : Index := 0#32
  let c0_558 : Index := 0#32
  let c2_i32_1 : BitVec 32 := 2#32
  let c0_i32 : BitVec 32 := 0#32
  let c1_i32 : BitVec 32 := 1#32
  let arg7 : BitVec 32 := Scf.iv c0_i32 c1_i32 k0_t1
  let v5 : BitVec 32 := Scalar.muli c2_i32_1 arg7
  let c1_i32_2 : BitVec 32 := 1#32
  let v6 : BitVec 32 := Scalar.addi v5 c1_i32_2
  let v773 : BitVec 32 := Scalar.subi v6 arg8
  let v1068 : Index := Scalar.indexCast v773
  let c0_559 : Index := 0#32
  let c0_560 : Index := 0#32
  ![0, 0, v1068.toNat, 0, 0]
def k0_off46 (k0_t1 : Fin k0_t1_loop.trips) : Fin 5 → Nat :=
  let c0_563 : Index := 0#32
  let c0_564 : Index := 0#32
  let c2_i32_1 : BitVec 32 := 2#32
  let c0_i32 : BitVec 32 := 0#32
  let c1_i32 : BitVec 32 := 1#32
  let arg7 : BitVec 32 := Scf.iv c0_i32 c1_i32 k0_t1
  let v5 : BitVec 32 := Scalar.muli c2_i32_1 arg7
  let c1_i32_2 : BitVec 32 := 1#32
  let v6 : BitVec 32 := Scalar.addi v5 c1_i32_2
  let v1079 : Index := Scalar.indexCast v6
  let c0_565 : Index := 0#32
  let c0_566 : Index := 0#32
  ![0, 0, v1079.toNat, 0, 0]
def k0_off47 (k0_t1 : Fin k0_t1_loop.trips) (arg8 : BitVec 32) : Fin 5 → Nat :=
  let c0_571 : Index := 0#32
  let c1_572 : Index := 1#32
  let c2_i32_1 : BitVec 32 := 2#32
  let c0_i32 : BitVec 32 := 0#32
  let c1_i32 : BitVec 32 := 1#32
  let arg7 : BitVec 32 := Scf.iv c0_i32 c1_i32 k0_t1
  let v5 : BitVec 32 := Scalar.muli c2_i32_1 arg7
  let c1_i32_2 : BitVec 32 := 1#32
  let v6 : BitVec 32 := Scalar.addi v5 c1_i32_2
  let v773 : BitVec 32 := Scalar.subi v6 arg8
  let v1090 : Index := Scalar.indexCast v773
  let c0_573 : Index := 0#32
  let c0_574 : Index := 0#32
  ![0, 1, v1090.toNat, 0, 0]
def k0_off48 (k0_t1 : Fin k0_t1_loop.trips) : Fin 5 → Nat :=
  let c0_577 : Index := 0#32
  let c1_578 : Index := 1#32
  let c2_i32_1 : BitVec 32 := 2#32
  let c0_i32 : BitVec 32 := 0#32
  let c1_i32 : BitVec 32 := 1#32
  let arg7 : BitVec 32 := Scf.iv c0_i32 c1_i32 k0_t1
  let v5 : BitVec 32 := Scalar.muli c2_i32_1 arg7
  let c1_i32_2 : BitVec 32 := 1#32
  let v6 : BitVec 32 := Scalar.addi v5 c1_i32_2
  let v1101 : Index := Scalar.indexCast v6
  let c0_579 : Index := 0#32
  let c0_580 : Index := 0#32
  ![0, 1, v1101.toNat, 0, 0]
def k0_off49 (k0_t1 : Fin k0_t1_loop.trips) (arg8 : BitVec 32) : Fin 5 → Nat :=
  let c0_585 : Index := 0#32
  let c2_586 : Index := 2#32
  let c2_i32_1 : BitVec 32 := 2#32
  let c0_i32 : BitVec 32 := 0#32
  let c1_i32 : BitVec 32 := 1#32
  let arg7 : BitVec 32 := Scf.iv c0_i32 c1_i32 k0_t1
  let v5 : BitVec 32 := Scalar.muli c2_i32_1 arg7
  let c1_i32_2 : BitVec 32 := 1#32
  let v6 : BitVec 32 := Scalar.addi v5 c1_i32_2
  let v773 : BitVec 32 := Scalar.subi v6 arg8
  let v1112 : Index := Scalar.indexCast v773
  let c0_587 : Index := 0#32
  let c0_588 : Index := 0#32
  ![0, 2, v1112.toNat, 0, 0]
def k0_off50 (k0_t1 : Fin k0_t1_loop.trips) : Fin 5 → Nat :=
  let c0_591 : Index := 0#32
  let c2_592 : Index := 2#32
  let c2_i32_1 : BitVec 32 := 2#32
  let c0_i32 : BitVec 32 := 0#32
  let c1_i32 : BitVec 32 := 1#32
  let arg7 : BitVec 32 := Scf.iv c0_i32 c1_i32 k0_t1
  let v5 : BitVec 32 := Scalar.muli c2_i32_1 arg7
  let c1_i32_2 : BitVec 32 := 1#32
  let v6 : BitVec 32 := Scalar.addi v5 c1_i32_2
  let v1123 : Index := Scalar.indexCast v6
  let c0_593 : Index := 0#32
  let c0_594 : Index := 0#32
  ![0, 2, v1123.toNat, 0, 0]
def k0_off51 (k0_t1 : Fin k0_t1_loop.trips) (arg8 : BitVec 32) : Fin 5 → Nat :=
  let c0_599 : Index := 0#32
  let c3_600 : Index := 3#32
  let c2_i32_1 : BitVec 32 := 2#32
  let c0_i32 : BitVec 32 := 0#32
  let c1_i32 : BitVec 32 := 1#32
  let arg7 : BitVec 32 := Scf.iv c0_i32 c1_i32 k0_t1
  let v5 : BitVec 32 := Scalar.muli c2_i32_1 arg7
  let c1_i32_2 : BitVec 32 := 1#32
  let v6 : BitVec 32 := Scalar.addi v5 c1_i32_2
  let v773 : BitVec 32 := Scalar.subi v6 arg8
  let v1134 : Index := Scalar.indexCast v773
  let c0_601 : Index := 0#32
  let c0_602 : Index := 0#32
  ![0, 3, v1134.toNat, 0, 0]

def k0_chk1 (k0_t1 : Fin k0_t1_loop.trips) (arg8 : BitVec 32) : Prop :=
  (256 ∣ (k0_mult5 k0_t1 arg8).toNat) ∧
  (256 ∣ (k0_mult6 k0_t1 arg8).toNat) ∧
  (∀ a, (k0_off33 k0_t1 arg8) a + S1x256x128.size a ≤ S1x4096x256.size a) ∧
  (∀ a, (k0_off34 k0_t1 arg8) a + S1x256x128.size a ≤ S1x4096x256.size a) ∧
  (∀ a, (k0_off35 k0_t1 arg8) a + S1x256x128.size a ≤ S1x4096x256.size a) ∧
  (∀ a, (k0_off36 k0_t1 arg8) a + S1x256x128.size a ≤ S1x4096x256.size a) ∧
  (∀ a, (k0_off37 k0_t1 arg8) a + S1x1x1x64x256.size a ≤ S1x4x16x64x256.size a) ∧
  (∀ a, (k0_off39 k0_t1 arg8) a + S1x1x1x64x256.size a ≤ S1x4x16x64x256.size a) ∧
  (∀ a, (k0_off41 k0_t1 arg8) a + S1x1x1x64x256.size a ≤ S1x4x16x64x256.size a) ∧
  (∀ a, (k0_off43 k0_t1 arg8) a + S1x1x1x64x256.size a ≤ S1x4x16x64x256.size a) ∧
  (∀ a, (k0_off45 k0_t1 arg8) a + S1x1x1x64x256.size a ≤ S1x4x16x64x256.size a) ∧
  (∀ a, (k0_off47 k0_t1 arg8) a + S1x1x1x64x256.size a ≤ S1x4x16x64x256.size a) ∧
  (∀ a, (k0_off49 k0_t1 arg8) a + S1x1x1x64x256.size a ≤ S1x4x16x64x256.size a) ∧
  (∀ a, (k0_off51 k0_t1 arg8) a + S1x1x1x64x256.size a ≤ S1x4x16x64x256.size a)
theorem k0_mult5_dvd : ∀ (k0_t1 : Fin k0_t1_loop.trips) (arg8 : BitVec 32) (k0_hw1 : k0_chk1 k0_t1 arg8), 256 ∣ (k0_mult5 k0_t1 arg8).toNat := fun k0_t1 arg8 k0_hw1 => k0_hw1.1
theorem k0_mult6_dvd : ∀ (k0_t1 : Fin k0_t1_loop.trips) (arg8 : BitVec 32) (k0_hw1 : k0_chk1 k0_t1 arg8), 256 ∣ (k0_mult6 k0_t1 arg8).toNat := fun k0_t1 arg8 k0_hw1 => k0_hw1.2.1
theorem k0_off33_inb : ∀ (k0_t1 : Fin k0_t1_loop.trips) (arg8 : BitVec 32) (k0_hw1 : k0_chk1 k0_t1 arg8), ∀ a, (k0_off33 k0_t1 arg8) a + S1x256x128.size a ≤ S1x4096x256.size a := fun k0_t1 arg8 k0_hw1 => k0_hw1.2.2.1
theorem k0_off34_inb : ∀ (k0_t1 : Fin k0_t1_loop.trips) (arg8 : BitVec 32) (k0_hw1 : k0_chk1 k0_t1 arg8), ∀ a, (k0_off34 k0_t1 arg8) a + S1x256x128.size a ≤ S1x4096x256.size a := fun k0_t1 arg8 k0_hw1 => k0_hw1.2.2.2.1
theorem k0_off35_inb : ∀ (k0_t1 : Fin k0_t1_loop.trips) (arg8 : BitVec 32) (k0_hw1 : k0_chk1 k0_t1 arg8), ∀ a, (k0_off35 k0_t1 arg8) a + S1x256x128.size a ≤ S1x4096x256.size a := fun k0_t1 arg8 k0_hw1 => k0_hw1.2.2.2.2.1
theorem k0_off36_inb : ∀ (k0_t1 : Fin k0_t1_loop.trips) (arg8 : BitVec 32) (k0_hw1 : k0_chk1 k0_t1 arg8), ∀ a, (k0_off36 k0_t1 arg8) a + S1x256x128.size a ≤ S1x4096x256.size a := fun k0_t1 arg8 k0_hw1 => k0_hw1.2.2.2.2.2.1
theorem k0_off37_inb : ∀ (k0_t1 : Fin k0_t1_loop.trips) (arg8 : BitVec 32) (k0_hw1 : k0_chk1 k0_t1 arg8), ∀ a, (k0_off37 k0_t1 arg8) a + S1x1x1x64x256.size a ≤ S1x4x16x64x256.size a := fun k0_t1 arg8 k0_hw1 => k0_hw1.2.2.2.2.2.2.1
theorem k0_off39_inb : ∀ (k0_t1 : Fin k0_t1_loop.trips) (arg8 : BitVec 32) (k0_hw1 : k0_chk1 k0_t1 arg8), ∀ a, (k0_off39 k0_t1 arg8) a + S1x1x1x64x256.size a ≤ S1x4x16x64x256.size a := fun k0_t1 arg8 k0_hw1 => k0_hw1.2.2.2.2.2.2.2.1
theorem k0_off41_inb : ∀ (k0_t1 : Fin k0_t1_loop.trips) (arg8 : BitVec 32) (k0_hw1 : k0_chk1 k0_t1 arg8), ∀ a, (k0_off41 k0_t1 arg8) a + S1x1x1x64x256.size a ≤ S1x4x16x64x256.size a := fun k0_t1 arg8 k0_hw1 => k0_hw1.2.2.2.2.2.2.2.2.1
theorem k0_off43_inb : ∀ (k0_t1 : Fin k0_t1_loop.trips) (arg8 : BitVec 32) (k0_hw1 : k0_chk1 k0_t1 arg8), ∀ a, (k0_off43 k0_t1 arg8) a + S1x1x1x64x256.size a ≤ S1x4x16x64x256.size a := fun k0_t1 arg8 k0_hw1 => k0_hw1.2.2.2.2.2.2.2.2.2.1
theorem k0_off45_inb : ∀ (k0_t1 : Fin k0_t1_loop.trips) (arg8 : BitVec 32) (k0_hw1 : k0_chk1 k0_t1 arg8), ∀ a, (k0_off45 k0_t1 arg8) a + S1x1x1x64x256.size a ≤ S1x4x16x64x256.size a := fun k0_t1 arg8 k0_hw1 => k0_hw1.2.2.2.2.2.2.2.2.2.2.1
theorem k0_off47_inb : ∀ (k0_t1 : Fin k0_t1_loop.trips) (arg8 : BitVec 32) (k0_hw1 : k0_chk1 k0_t1 arg8), ∀ a, (k0_off47 k0_t1 arg8) a + S1x1x1x64x256.size a ≤ S1x4x16x64x256.size a := fun k0_t1 arg8 k0_hw1 => k0_hw1.2.2.2.2.2.2.2.2.2.2.2.1
theorem k0_off49_inb : ∀ (k0_t1 : Fin k0_t1_loop.trips) (arg8 : BitVec 32) (k0_hw1 : k0_chk1 k0_t1 arg8), ∀ a, (k0_off49 k0_t1 arg8) a + S1x1x1x64x256.size a ≤ S1x4x16x64x256.size a := fun k0_t1 arg8 k0_hw1 => k0_hw1.2.2.2.2.2.2.2.2.2.2.2.2.1
theorem k0_off51_inb : ∀ (k0_t1 : Fin k0_t1_loop.trips) (arg8 : BitVec 32) (k0_hw1 : k0_chk1 k0_t1 arg8), ∀ a, (k0_off51 k0_t1 arg8) a + S1x1x1x64x256.size a ≤ S1x4x16x64x256.size a := fun k0_t1 arg8 k0_hw1 => k0_hw1.2.2.2.2.2.2.2.2.2.2.2.2.2

def k0_off52 (k0_t1 : Fin k0_t1_loop.trips) : Fin 5 → Nat :=
  let c0_605 : Index := 0#32
  let c3_606 : Index := 3#32
  let c2_i32_1 : BitVec 32 := 2#32
  let c0_i32 : BitVec 32 := 0#32
  let c1_i32 : BitVec 32 := 1#32
  let arg7 : BitVec 32 := Scf.iv c0_i32 c1_i32 k0_t1
  let v5 : BitVec 32 := Scalar.muli c2_i32_1 arg7
  let c1_i32_2 : BitVec 32 := 1#32
  let v6 : BitVec 32 := Scalar.addi v5 c1_i32_2
  let v1145 : Index := Scalar.indexCast v6
  let c0_607 : Index := 0#32
  let c0_608 : Index := 0#32
  ![0, 3, v1145.toNat, 0, 0]
def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S1x4x16x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x16x64x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x4x16x64x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "dead" => some ⊤
  | "log2e" => some (((Real.log 2)⁻¹ : ℝ) : EReal)
  | "mask" => some ⊥
  | "spent" => some ⊤
  | _ => none
-- ==== ReferenceIdeal.lean ====
abbrev S8x4096x8x64 : Shape := ⟨4, ![8, 4096, 8, 64]⟩
abbrev S8x8x4096x4096 : Shape := ⟨4, ![8, 8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x8x64x4096 : Shape := ⟨4, ![8, 8, 64, 4096]⟩

abbrev nBuf : Space → Nat
  | .hbm => 65
  | .vmem => 0
  | .smem => 0
  | _ => 0

abbrev bufTy : (tb : Table) → Fin (tcTables nBuf tb) → BufTy
  | .hbm, ⟨0, _⟩ => ⟨S8x4096x8x64, .f32⟩
  | .hbm, ⟨1, _⟩ => ⟨S8x4096x8x64, .f32⟩
  | .hbm, ⟨2, _⟩ => ⟨S8x4096x8x64, .f32⟩
  | .hbm, ⟨3, _⟩ => ⟨S8x8x4096x4096, .f32⟩
  | .hbm, ⟨4, _⟩ => ⟨S_, .f32⟩
  | .hbm, ⟨5, _⟩ => ⟨S8x8x4096x4096, .f32⟩
  | .hbm, ⟨6, _⟩ => ⟨S8x8x4096x4096, .f32⟩
  | .hbm, ⟨7, _⟩ => ⟨S4096, .i32⟩
  | .hbm, ⟨8, _⟩ => ⟨S1x4096, .i32⟩
  | .hbm, ⟨9, _⟩ => ⟨S4096, .i32⟩
  | .hbm, ⟨10, _⟩ => ⟨S4096x1, .i32⟩
  | .hbm, ⟨11, _⟩ => ⟨S4096x4096, .i32⟩
  | .hbm, ⟨12, _⟩ => ⟨S4096x4096, .i32⟩
  | .hbm, ⟨13, _⟩ => ⟨S4096x4096, .i1⟩
  | .hbm, ⟨14, _⟩ => ⟨S8x8x4096x4096, .f32⟩
  | .hbm, ⟨15, _⟩ => ⟨S_, .f32⟩
  | .hbm, ⟨16, _⟩ => ⟨S8x8x4096x4096, .f32⟩
  | .hbm, ⟨17, _⟩ => ⟨S8x8x4096x4096, .f32⟩
  | .hbm, ⟨18, _⟩ => ⟨S8x8x4096x4096, .f32⟩
  | .hbm, ⟨19, _⟩ => ⟨S8x8x4096x4096, .f32⟩
  | .hbm, ⟨20, _⟩ => ⟨S8x8x4096x4096, .i1⟩
  | .hbm, ⟨21, _⟩ => ⟨S8x8x4096x4096, .f32⟩
  | .hbm, ⟨22, _⟩ => ⟨S8x8x4096x4096, .f32⟩
  | .hbm, ⟨23, _⟩ => ⟨S8x8x4096x4096, .f32⟩
  | .hbm, ⟨24, _⟩ => ⟨S8x8x4096x4096, .f32⟩
  | .hbm, ⟨25, _⟩ => ⟨S8x8x4096x4096, .f32⟩
  | .hbm, ⟨26, _⟩ => ⟨S8x8x4096x4096, .f32⟩
  | .hbm, ⟨27, _⟩ => ⟨S8x8x4096x4096, .f32⟩
  | .hbm, ⟨28, _⟩ => ⟨S8x8x4096x4096, .f32⟩
  | .hbm, ⟨29, _⟩ => ⟨S8x8x4096x4096, .f32⟩
  | .hbm, ⟨30, _⟩ => ⟨S8x8x4096x4096, .f32⟩
  | .hbm, ⟨31, _⟩ => ⟨S8x8x4096x4096, .f32⟩
  | .hbm, ⟨32, _⟩ => ⟨S_, .f32⟩
  | .hbm, ⟨33, _⟩ => ⟨S8x8x4096x4096, .f32⟩
  | .hbm, ⟨34, _⟩ => ⟨S8x8x4096x4096, .f32⟩
  | .hbm, ⟨35, _⟩ => ⟨S8x8x4096x4096, .f32⟩
  | .hbm, ⟨36, _⟩ => ⟨S8x8x4096x4096, .f32⟩
  | .hbm, ⟨37, _⟩ => ⟨S8x8x4096x4096, .i1⟩
  | .hbm, ⟨38, _⟩ => ⟨S8x8x4096x4096, .f32⟩
  | .hbm, ⟨39, _⟩ => ⟨S8x8x4096x4096, .f32⟩
  | .hbm, ⟨40, _⟩ => ⟨S8x8x4096x4096, .f32⟩
  | .hbm, ⟨41, _⟩ => ⟨S8x8x4096x4096, .f32⟩
  | .hbm, ⟨42, _⟩ => ⟨S8x8x4096x4096, .f32⟩
  | .hbm, ⟨43, _⟩ => ⟨S8x8x4096x4096, .f32⟩
  | .hbm, ⟨44, _⟩ => ⟨S8x8x4096x4096, .f32⟩
  | .hbm, ⟨45, _⟩ => ⟨S8x8x4096x4096, .f32⟩
  | .hbm, ⟨46, _⟩ => ⟨S8x8x4096x4096, .f32⟩
  | .hbm, ⟨47, _⟩ => ⟨S_, .f32⟩
  | .hbm, ⟨48, _⟩ => ⟨S_, .f32⟩
  | .hbm, ⟨49, _⟩ => ⟨S8x8x4096x4096, .i1⟩
  | .hbm, ⟨50, _⟩ => ⟨S8x8x4096x4096, .f32⟩
  | .hbm, ⟨51, _⟩ => ⟨S8x8x4096x4096, .f32⟩
  | .hbm, ⟨52, _⟩ => ⟨S_, .f32⟩
  | .hbm, ⟨53, _⟩ => ⟨S_, .f32⟩
  | .hbm, ⟨54, _⟩ => ⟨S8x8x4096x4096, .f32⟩
  | .hbm, ⟨55, _⟩ => ⟨S8x8x4096x4096, .f32⟩
  | .hbm, ⟨56, _⟩ => ⟨S8x8x4096x4096, .f32⟩
  | .hbm, ⟨57, _⟩ => ⟨S8x8x4096x4096, .f32⟩
  | .hbm, ⟨58, _⟩ => ⟨S_, .f32⟩
  | .hbm, ⟨59, _⟩ => ⟨S_, .f32⟩
  | .hbm, ⟨60, _⟩ => ⟨S8x8x4096x4096, .i1⟩
  | .hbm, ⟨61, _⟩ => ⟨S8x8x4096x4096, .f32⟩
  | .hbm, ⟨62, _⟩ => ⟨S8x8x4096x4096, .f32⟩
  | .hbm, ⟨63, _⟩ => ⟨S8x8x64x4096, .f32⟩
  | .hbm, ⟨64, _⟩ => ⟨S8x4096x8x64, .f32⟩
  | _, _ => ⟨S8x4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_call0_v0 : Ref sig .tc := ⟨.hbm, 14, rfl⟩
abbrev main_call0_call0_cst : Ref sig .tc := ⟨.hbm, 15, rfl⟩
abbrev main_call0_call0_v0 : Ref sig .tc := ⟨.hbm, 16, rfl⟩
abbrev main_call0_call0_v1 : Ref sig .tc := ⟨.hbm, 17, rfl⟩
abbrev main_call0_call0_v2 : Ref sig .tc := ⟨.hbm, 18, rfl⟩
abbrev main_call0_call0_v3 : Ref sig .tc := ⟨.hbm, 19, rfl⟩
abbrev main_call0_call0_v4 : Ref sig .tc := ⟨.hbm, 20, rfl⟩
abbrev main_call0_call0_v5 : Ref sig .tc := ⟨.hbm, 21, rfl⟩
abbrev main_call0_call0_v6 : Ref sig .tc := ⟨.hbm, 22, rfl⟩
abbrev main_call0_call0_v7 : Ref sig .tc := ⟨.hbm, 23, rfl⟩
abbrev main_call0_call0_v8 : Ref sig .tc := ⟨.hbm, 24, rfl⟩
abbrev main_call0_call0_v9 : Ref sig .tc := ⟨.hbm, 25, rfl⟩
abbrev main_call0_call0_v10 : Ref sig .tc := ⟨.hbm, 26, rfl⟩
abbrev main_call0_call0_v11 : Ref sig .tc := ⟨.hbm, 27, rfl⟩
abbrev main_call0_v1 : Ref sig .tc := ⟨.hbm, 28, rfl⟩
abbrev main_v10 : Ref sig .tc := ⟨.hbm, 29, rfl⟩
abbrev main_v11 : Ref sig .tc := ⟨.hbm, 30, rfl⟩
abbrev main_call1_v0 : Ref sig .tc := ⟨.hbm, 31, rfl⟩
abbrev main_call1_call0_cst : Ref sig .tc := ⟨.hbm, 32, rfl⟩
abbrev main_call1_call0_v0 : Ref sig .tc := ⟨.hbm, 33, rfl⟩
abbrev main_call1_call0_v1 : Ref sig .tc := ⟨.hbm, 34, rfl⟩
abbrev main_call1_call0_v2 : Ref sig .tc := ⟨.hbm, 35, rfl⟩
abbrev main_call1_call0_v3 : Ref sig .tc := ⟨.hbm, 36, rfl⟩
abbrev main_call1_call0_v4 : Ref sig .tc := ⟨.hbm, 37, rfl⟩
abbrev main_call1_call0_v5 : Ref sig .tc := ⟨.hbm, 38, rfl⟩
abbrev main_call1_call0_v6 : Ref sig .tc := ⟨.hbm, 39, rfl⟩
abbrev main_call1_call0_v7 : Ref sig .tc := ⟨.hbm, 40, rfl⟩
abbrev main_call1_call0_v8 : Ref sig .tc := ⟨.hbm, 41, rfl⟩
abbrev main_call1_call0_v9 : Ref sig .tc := ⟨.hbm, 42, rfl⟩
abbrev main_call1_call0_v10 : Ref sig .tc := ⟨.hbm, 43, rfl⟩
abbrev main_call1_call0_v11 : Ref sig .tc := ⟨.hbm, 44, rfl⟩
abbrev main_call1_v1 : Ref sig .tc := ⟨.hbm, 45, rfl⟩
abbrev main_v12 : Ref sig .tc := ⟨.hbm, 46, rfl⟩
abbrev main_cst_0 : Ref sig .tc := ⟨.hbm, 47, rfl⟩
abbrev main_call2_v0 : Ref sig .tc := ⟨.hbm, 48, rfl⟩
abbrev main_call2_v1 : Ref sig .tc := ⟨.hbm, 49, rfl⟩
abbrev main_call2_v2 : Ref sig .tc := ⟨.hbm, 50, rfl⟩
abbrev main_v13 : Ref sig .tc := ⟨.hbm, 51, rfl⟩
abbrev main_call3_cst : Ref sig .tc := ⟨.hbm, 52, rfl⟩
abbrev main_call3_v0 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_cst_1 : Ref sig .tc := ⟨.hbm, 58, rfl⟩
abbrev main_call4_v0 : Ref sig .tc := ⟨.hbm, 59, rfl⟩
abbrev main_call4_v1 : Ref sig .tc := ⟨.hbm, 60, rfl⟩
abbrev main_call4_v2 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩

abbrev nD : Nat := 1
abbrev τ : Topo := Topo.v7x

variable {F : FTy → Type} [FloatOps F]
-- ==== Kernel2.lean ====
abbrev S8x4096x1024 : Shape := ⟨3, ![8, 4096, 1024]⟩
abbrev S8x4096x8x64 : Shape := ⟨4, ![8, 4096, 8, 64]⟩
abbrev S8x4096x512 : Shape := ⟨3, ![8, 4096, 512]⟩
abbrev S512x1024 : Shape := ⟨2, ![512, 1024]⟩
abbrev S1024x3072 : Shape := ⟨2, ![1024, 3072]⟩
abbrev S3072 : Shape := ⟨1, ![3072]⟩
abbrev S1024x1024 : Shape := ⟨2, ![1024, 1024]⟩
abbrev S1024 : Shape := ⟨1, ![1024]⟩
abbrev S8x16x256x8x64 : Shape := ⟨5, ![8, 16, 256, 8, 64]⟩
abbrev S8x8x16x64x256 : Shape := ⟨5, ![8, 8, 16, 64, 256]⟩
abbrev S8x16x256x512 : Shape := ⟨4, ![8, 16, 256, 512]⟩
abbrev S8x16x512x256 : Shape := ⟨4, ![8, 16, 512, 256]⟩
abbrev S1x3072 : Shape := ⟨2, ![1, 3072]⟩
abbrev S1x1024 : Shape := ⟨2, ![1, 1024]⟩
abbrev S1x1024x1024 : Shape := ⟨3, ![1, 1024, 1024]⟩
abbrev S1x8x4x64x256 : Shape := ⟨5, ![1, 8, 4, 64, 256]⟩
abbrev S1x4x512x256 : Shape := ⟨4, ![1, 4, 512, 256]⟩
abbrev S1x256x1024 : Shape := ⟨3, ![1, 256, 1024]⟩
abbrev S256x1024 : Shape := ⟨2, ![256, 1024]⟩
abbrev S1x8x1x64x256 : Shape := ⟨5, ![1, 8, 1, 64, 256]⟩
abbrev S8x64x256 : Shape := ⟨3, ![8, 64, 256]⟩
abbrev S512x256 : Shape := ⟨2, ![512, 256]⟩
abbrev S1x1x512x256 : Shape := ⟨4, ![1, 1, 512, 256]⟩
abbrev S256 : Shape := ⟨1, ![256]⟩
abbrev S256x1 : Shape := ⟨2, ![256, 1]⟩

abbrev nBuf : Space → Nat
  | .hbm => 34
  | .vmem => 22
  | .smem => 0
  | _ => 0

abbrev bufTy : (tb : Table) → Fin (tcTables nBuf tb) → BufTy
  | .hbm, ⟨0, _⟩ => ⟨S8x4096x1024, .f32⟩
  | .hbm, ⟨1, _⟩ => ⟨S8x4096x8x64, .f32⟩
  | .hbm, ⟨2, _⟩ => ⟨S8x4096x8x64, .f32⟩
  | .hbm, ⟨3, _⟩ => ⟨S8x4096x512, .f32⟩
  | .hbm, ⟨4, _⟩ => ⟨S8x4096x512, .f32⟩
  | .hbm, ⟨5, _⟩ => ⟨S8x4096x512, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S1024x3072, .f32⟩
  | .hbm, ⟨10, _⟩ => ⟨S3072, .f32⟩
  | .hbm, ⟨11, _⟩ => ⟨S1024x1024, .f32⟩
  | .hbm, ⟨12, _⟩ => ⟨S1024, .f32⟩
  | .hbm, ⟨13, _⟩ => ⟨S1024, .f32⟩
  | .hbm, ⟨14, _⟩ => ⟨S8x16x256x8x64, .f32⟩
  | .hbm, ⟨15, _⟩ => ⟨S8x8x16x64x256, .f32⟩
  | .hbm, ⟨16, _⟩ => ⟨S8x16x256x8x64, .f32⟩
  | .hbm, ⟨17, _⟩ => ⟨S8x8x16x64x256, .f32⟩
  | .hbm, ⟨18, _⟩ => ⟨S8x16x256x512, .f32⟩
  | .hbm, ⟨19, _⟩ => ⟨S8x16x512x256, .f32⟩
  | .hbm, ⟨20, _⟩ => ⟨S8x16x256x512, .f32⟩
  | .hbm, ⟨21, _⟩ => ⟨S8x16x512x256, .f32⟩
  | .hbm, ⟨22, _⟩ => ⟨S8x16x256x512, .f32⟩
  | .hbm, ⟨23, _⟩ => ⟨S8x16x512x256, .f32⟩
  | .hbm, ⟨24, _⟩ => ⟨S8x16x512x256, .bf16⟩
  | .hbm, ⟨25, _⟩ => ⟨S512x1024, .bf16⟩
  | .hbm, ⟨26, _⟩ => ⟨S512x1024, .bf16⟩
  | .hbm, ⟨27, _⟩ => ⟨S512x1024, .bf16⟩
  | .hbm, ⟨28, _⟩ => ⟨S1024x3072, .bf16⟩
  | .hbm, ⟨29, _⟩ => ⟨S1x3072, .f32⟩
  | .hbm, ⟨30, _⟩ => ⟨S1024x1024, .bf16⟩
  | .hbm, ⟨31, _⟩ => ⟨S1x1024, .f32⟩
  | .hbm, ⟨32, _⟩ => ⟨S1x1024, .f32⟩
  | .hbm, ⟨33, _⟩ => ⟨S8x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x8x4x64x256, .f32⟩
  | .local _ .vmem, ⟨3, _⟩ => ⟨S1x8x4x64x256, .f32⟩
  | .local _ .vmem, ⟨4, _⟩ => ⟨S1x8x4x64x256, .f32⟩
  | .local _ .vmem, ⟨5, _⟩ => ⟨S1x8x4x64x256, .f32⟩
  | .local _ .vmem, ⟨6, _⟩ => ⟨S1x4x512x256, .f32⟩
  | .local _ .vmem, ⟨7, _⟩ => ⟨S1x4x512x256, .f32⟩
  | .local _ .vmem, ⟨8, _⟩ => ⟨S1x4x512x256, .f32⟩
  | .local _ .vmem, ⟨9, _⟩ => ⟨S1x4x512x256, .f32⟩
  | .local _ .vmem, ⟨10, _⟩ => ⟨S1x4x512x256, .bf16⟩
  | .local _ .vmem, ⟨11, _⟩ => ⟨S1x4x512x256, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S1024x3072, .bf16⟩
  | .local _ .vmem, ⟨16, _⟩ => ⟨S1x3072, .f32⟩
  | .local _ .vmem, ⟨17, _⟩ => ⟨S1024x1024, .bf16⟩
  | .local _ .vmem, ⟨18, _⟩ => ⟨S1x1024, .f32⟩
  | .local _ .vmem, ⟨19, _⟩ => ⟨S1x1024, .f32⟩
  | .local _ .vmem, ⟨20, _⟩ => ⟨S1x1024x1024, .f32⟩
  | .local _ .vmem, ⟨21, _⟩ => ⟨S1x1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg14_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem14_1 : DmaSem sig := 21

abbrev nD : Nat := 1
abbrev τ : Topo := Topo.v7x

variable {F : FTy → Type} [FloatOps F]

abbrev grid0 : Pipeline.Grid := ⟨2, ![8, 4], ![false, false]⟩

@[reducible] def k0_t1_loop : Scf.Loop 32 :=
  let c0_i32 : BitVec 32 := 0#32
  let c4_i32 : BitVec 32 := 4#32
  let v0 : BitVec 32 := Scalar.addi c0_i32 c4_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg17 : BitVec 32 := Scf.iv c0_i32 c1_i32 k0_t1
  let c256_i32 : BitVec 32 := 256#32
  let v1 : BitVec 32 := Scalar.muli arg17 c256_i32
  v1
def k0_off1 (k0_t1 : Fin k0_t1_loop.trips) : Fin 3 → Nat :=
  let c0 : Index := 0#32
  let c0_i32 : BitVec 32 := 0#32
  let c1_i32 : BitVec 32 := 1#32
  let arg17 : BitVec 32 := Scf.iv c0_i32 c1_i32 k0_t1
  let c256_i32 : BitVec 32 := 256#32
  let v1 : BitVec 32 := Scalar.muli arg17 c256_i32
  let v2 : BitVec 32 := v1
  let v3 : Index := Scalar.indexCast v2
  let c0_1 : Index := 0#32
  ![0, v3.toNat, 0]
def k0_off2 (k0_t1 : Fin k0_t1_loop.trips) : Fin 5 → Nat :=
  let c0_2 : Index := 0#32
  let c0_3 : Index := 0#32
  let c0_i32 : BitVec 32 := 0#32
  let c1_i32 : BitVec 32 := 1#32
  let arg17 : BitVec 32 := Scf.iv c0_i32 c1_i32 k0_t1
  let v7 : Index := Scalar.indexCast arg17
  let c0_4 : Index := 0#32
  let c0_5 : Index := 0#32
  ![0, 0, v7.toNat, 0, 0]
def k0_off3 (k0_t1 : Fin k0_t1_loop.trips) : Fin 4 → Nat :=
  let c0_10 : Index := 0#32
  let c0_i32 : BitVec 32 := 0#32
  let c1_i32 : BitVec 32 := 1#32
  let arg17 : BitVec 32 := Scf.iv c0_i32 c1_i32 k0_t1
  let v15 : Index := Scalar.indexCast arg17
  let c0_11 : Index := 0#32
  let c0_12 : Index := 0#32
  ![0, v15.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x4x64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x4x64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x3072 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x3072 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x1024x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference2Ideal.lean ====
abbrev S8x4096x1024 : Shape := ⟨3, ![8, 4096, 1024]⟩
abbrev S8x4096x8x64 : Shape := ⟨4, ![8, 4096, 8, 64]⟩
abbrev S8x4096x512 : Shape := ⟨3, ![8, 4096, 512]⟩
abbrev S512x1024 : Shape := ⟨2, ![512, 1024]⟩
abbrev S1024x3072 : Shape := ⟨2, ![1024, 3072]⟩
abbrev S3072 : Shape := ⟨1, ![3072]⟩
abbrev S1024x1024 : Shape := ⟨2, ![1024, 1024]⟩
abbrev S1024 : Shape := ⟨1, ![1024]⟩
abbrev S_ : Shape := ⟨0, ![]⟩
abbrev S8x4096x3072 : Shape := ⟨3, ![8, 4096, 3072]⟩
abbrev S1x1x3072 : Shape := ⟨3, ![1, 1, 3072]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 91
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x8x64, .f32⟩
  | .hbm, ⟨2, _⟩ => ⟨S8x4096x8x64, .f32⟩
  | .hbm, ⟨3, _⟩ => ⟨S8x4096x512, .f32⟩
  | .hbm, ⟨4, _⟩ => ⟨S8x4096x512, .f32⟩
  | .hbm, ⟨5, _⟩ => ⟨S8x4096x512, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S1024x3072, .f32⟩
  | .hbm, ⟨10, _⟩ => ⟨S3072, .f32⟩
  | .hbm, ⟨11, _⟩ => ⟨S1024x1024, .f32⟩
  | .hbm, ⟨12, _⟩ => ⟨S1024, .f32⟩
  | .hbm, ⟨13, _⟩ => ⟨S1024, .f32⟩
  | .hbm, ⟨14, _⟩ => ⟨S8x4096x512, .f32⟩
  | .hbm, ⟨15, _⟩ => ⟨S8x4096x512, .f32⟩
  | .hbm, ⟨16, _⟩ => ⟨S8x4096x512, .f32⟩
  | .hbm, ⟨17, _⟩ => ⟨S_, .f32⟩
  | .hbm, ⟨18, _⟩ => ⟨S8x4096x512, .f32⟩
  | .hbm, ⟨19, _⟩ => ⟨S8x4096x512, .f32⟩
  | .hbm, ⟨20, _⟩ => ⟨S_, .f32⟩
  | .hbm, ⟨21, _⟩ => ⟨S8x4096x512, .f32⟩
  | .hbm, ⟨22, _⟩ => ⟨S8x4096x512, .f32⟩
  | .hbm, ⟨23, _⟩ => ⟨S8x4096x512, .f32⟩
  | .hbm, ⟨24, _⟩ => ⟨S8x4096x512, .f32⟩
  | .hbm, ⟨25, _⟩ => ⟨S8x4096x1024, .f32⟩
  | .hbm, ⟨26, _⟩ => ⟨S8x4096x512, .f32⟩
  | .hbm, ⟨27, _⟩ => ⟨S8x4096x512, .f32⟩
  | .hbm, ⟨28, _⟩ => ⟨S8x4096x512, .f32⟩
  | .hbm, ⟨29, _⟩ => ⟨S_, .f32⟩
  | .hbm, ⟨30, _⟩ => ⟨S8x4096x512, .f32⟩
  | .hbm, ⟨31, _⟩ => ⟨S8x4096x512, .f32⟩
  | .hbm, ⟨32, _⟩ => ⟨S_, .f32⟩
  | .hbm, ⟨33, _⟩ => ⟨S8x4096x512, .f32⟩
  | .hbm, ⟨34, _⟩ => ⟨S8x4096x512, .f32⟩
  | .hbm, ⟨35, _⟩ => ⟨S8x4096x512, .f32⟩
  | .hbm, ⟨36, _⟩ => ⟨S8x4096x512, .f32⟩
  | .hbm, ⟨37, _⟩ => ⟨S8x4096x1024, .f32⟩
  | .hbm, ⟨38, _⟩ => ⟨S8x4096x1024, .f32⟩
  | .hbm, ⟨39, _⟩ => ⟨S8x4096x3072, .f32⟩
  | .hbm, ⟨40, _⟩ => ⟨S1x1x3072, .f32⟩
  | .hbm, ⟨41, _⟩ => ⟨S8x4096x3072, .f32⟩
  | .hbm, ⟨42, _⟩ => ⟨S8x4096x3072, .f32⟩
  | .hbm, ⟨43, _⟩ => ⟨S8x4096x3072, .f32⟩
  | .hbm, ⟨44, _⟩ => ⟨S8x4096x3072, .f32⟩
  | .hbm, ⟨45, _⟩ => ⟨S_, .f32⟩
  | .hbm, ⟨46, _⟩ => ⟨S8x4096x3072, .f32⟩
  | .hbm, ⟨47, _⟩ => ⟨S8x4096x3072, .f32⟩
  | .hbm, ⟨48, _⟩ => ⟨S_, .f32⟩
  | .hbm, ⟨49, _⟩ => ⟨S8x4096x3072, .f32⟩
  | .hbm, ⟨50, _⟩ => ⟨S8x4096x3072, .f32⟩
  | .hbm, ⟨51, _⟩ => ⟨S8x4096x1024, .f32⟩
  | .hbm, ⟨52, _⟩ => ⟨S8x4096x1024, .f32⟩
  | .hbm, ⟨53, _⟩ => ⟨S8x4096x1024, .f32⟩
  | .hbm, ⟨54, _⟩ => ⟨S8x4096x1024, .f32⟩
  | .hbm, ⟨55, _⟩ => ⟨S8x4096x1024, .f32⟩
  | .hbm, ⟨56, _⟩ => ⟨S8x4096x1024, .f32⟩
  | .hbm, ⟨57, _⟩ => ⟨S8x4096x1024, .f32⟩
  | .hbm, ⟨58, _⟩ => ⟨S8x4096x1024, .f32⟩
  | .hbm, ⟨59, _⟩ => ⟨S8x4096x1024, .f32⟩
  | .hbm, ⟨60, _⟩ => ⟨S_, .f32⟩
  | .hbm, ⟨61, _⟩ => ⟨S8x4096x1024, .f32⟩
  | .hbm, ⟨62, _⟩ => ⟨S8x4096x1024, .f32⟩
  | .hbm, ⟨63, _⟩ => ⟨S8x4096x1024, .f32⟩
  | .hbm, ⟨64, _⟩ => ⟨S_, .f32⟩
  | .hbm, ⟨65, _⟩ => ⟨S8x4096, .f32⟩
  | .hbm, ⟨66, _⟩ => ⟨S8x4096x1, .f32⟩
  | .hbm, ⟨67, _⟩ => ⟨S_, .f32⟩
  | .hbm, ⟨68, _⟩ => ⟨S8x4096x1, .f32⟩
  | .hbm, ⟨69, _⟩ => ⟨S8x4096x1, .f32⟩
  | .hbm, ⟨70, _⟩ => ⟨S8x4096x1024, .f32⟩
  | .hbm, ⟨71, _⟩ => ⟨S8x4096x1024, .f32⟩
  | .hbm, ⟨72, _⟩ => ⟨S8x4096x1024, .f32⟩
  | .hbm, ⟨73, _⟩ => ⟨S_, .f32⟩
  | .hbm, ⟨74, _⟩ => ⟨S8x4096, .f32⟩
  | .hbm, ⟨75, _⟩ => ⟨S8x4096x1, .f32⟩
  | .hbm, ⟨76, _⟩ => ⟨S_, .f32⟩
  | .hbm, ⟨77, _⟩ => ⟨S8x4096x1, .f32⟩
  | .hbm, ⟨78, _⟩ => ⟨S8x4096x1, .f32⟩
  | .hbm, ⟨79, _⟩ => ⟨S_, .f32⟩
  | .hbm, ⟨80, _⟩ => ⟨S8x4096x1, .f32⟩
  | .hbm, ⟨81, _⟩ => ⟨S8x4096x1, .f32⟩
  | .hbm, ⟨82, _⟩ => ⟨S8x4096x1, .f32⟩
  | .hbm, ⟨83, _⟩ => ⟨S8x4096x1024, .f32⟩
  | .hbm, ⟨84, _⟩ => ⟨S8x4096x1024, .f32⟩
  | .hbm, ⟨85, _⟩ => ⟨S1x1x1024, .f32⟩
  | .hbm, ⟨86, _⟩ => ⟨S8x4096x1024, .f32⟩
  | .hbm, ⟨87, _⟩ => ⟨S8x4096x1024, .f32⟩
  | .hbm, ⟨88, _⟩ => ⟨S1x1x1024, .f32⟩
  | .hbm, ⟨89, _⟩ => ⟨S8x4096x1024, .f32⟩
  | .hbm, ⟨90, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_call1_v0 : Ref sig .tc := ⟨.hbm, 27, rfl⟩
abbrev main_call1_v1 : Ref sig .tc := ⟨.hbm, 28, rfl⟩
abbrev main_call1_cst : Ref sig .tc := ⟨.hbm, 29, rfl⟩
abbrev main_call1_v2 : Ref sig .tc := ⟨.hbm, 30, rfl⟩
abbrev main_call1_v3 : Ref sig .tc := ⟨.hbm, 31, rfl⟩
abbrev main_call1_cst_0 : Ref sig .tc := ⟨.hbm, 32, rfl⟩
abbrev main_call1_v4 : Ref sig .tc := ⟨.hbm, 33, rfl⟩
abbrev main_call1_v5 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_cst : Ref sig .tc := ⟨.hbm, 45, rfl⟩
abbrev main_v15 : Ref sig .tc := ⟨.hbm, 46, rfl⟩
abbrev main_v16 : Ref sig .tc := ⟨.hbm, 47, rfl⟩
abbrev main_cst_0 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_cst_1 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_cst_2 : Ref sig .tc := ⟨.hbm, 64, rfl⟩
abbrev main_v31 : Ref sig .tc := ⟨.hbm, 65, rfl⟩
abbrev main_v32 : Ref sig .tc := ⟨.hbm, 66, rfl⟩
abbrev main_cst_3 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_cst_4 : Ref sig .tc := ⟨.hbm, 73, rfl⟩
abbrev main_v38 : Ref sig .tc := ⟨.hbm, 74, rfl⟩
abbrev main_v39 : Ref sig .tc := ⟨.hbm, 75, rfl⟩
abbrev main_cst_5 : Ref sig .tc := ⟨.hbm, 76, rfl⟩
abbrev main_v40 : Ref sig .tc := ⟨.hbm, 77, rfl⟩
abbrev main_v41 : Ref sig .tc := ⟨.hbm, 78, rfl⟩
abbrev main_cst_6 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩

abbrev nD : Nat := 1
abbrev τ : Topo := Topo.v7x

variable {F : FTy → Type} [FloatOps F]
-- ==== Kernel3.lean ====
abbrev S8x4096x1024 : Shape := ⟨3, ![8, 4096, 1024]⟩
abbrev S1024x4000 : Shape := ⟨2, ![1024, 4000]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S8x256x4x128 : Shape := ⟨4, ![8, 256, 4, 128]⟩
abbrev S1024x512 : Shape := ⟨2, ![1024, 512]⟩
abbrev S1024x384 : Shape := ⟨2, ![1024, 384]⟩
abbrev S1024x1024 : Shape := ⟨2, ![1024, 1024]⟩
abbrev S1024x3456 : Shape := ⟨2, ![1024, 3456]⟩
abbrev S3456x1024 : Shape := ⟨2, ![3456, 1024]⟩
abbrev S1024x32 : Shape := ⟨2, ![1024, 32]⟩
abbrev S1024x16 : Shape := ⟨2, ![1024, 16]⟩
abbrev S1024x128 : Shape := ⟨2, ![1024, 128]⟩
abbrev S_ : Shape := ⟨0, ![]⟩
abbrev S1024x64 : Shape := ⟨2, ![1024, 64]⟩
abbrev S1024x768 : Shape := ⟨2, ![1024, 768]⟩
abbrev S256x8x96 : Shape := ⟨3, ![256, 8, 96]⟩
abbrev S256x8x64 : Shape := ⟨3, ![256, 8, 64]⟩
abbrev S256x512 : Shape := ⟨2, ![256, 512]⟩
abbrev S256x8x16 : Shape := ⟨3, ![256, 8, 16]⟩
abbrev S256x128 : Shape := ⟨2, ![256, 128]⟩
abbrev S768x256 : Shape := ⟨2, ![768, 256]⟩
abbrev S128x8x128 : Shape := ⟨3, ![128, 8, 128]⟩
abbrev S128x8x64 : Shape := ⟨3, ![128, 8, 64]⟩
abbrev S128x512 : Shape := ⟨2, ![128, 512]⟩
abbrev S512x128 : Shape := ⟨2, ![512, 128]⟩
abbrev S256x1024 : Shape := ⟨2, ![256, 1024]⟩
abbrev S256x1 : Shape := ⟨2, ![256, 1]⟩
abbrev S128x1 : Shape := ⟨2, ![128, 1]⟩
abbrev S1x128 : Shape := ⟨2, ![1, 128]⟩
abbrev S16 : Shape := ⟨1, ![16]⟩
abbrev S4096 : Shape := ⟨1, ![4096]⟩
abbrev S4096x1 : Shape := ⟨2, ![4096, 1]⟩
abbrev S1x16 : Shape := ⟨2, ![1, 16]⟩
abbrev S4096x16 : Shape := ⟨2, ![4096, 16]⟩
abbrev S16x256x16 : Shape := ⟨3, ![16, 256, 16]⟩
abbrev S16x16x256 : Shape := ⟨3, ![16, 16, 256]⟩
abbrev S1x16x1x16x1x256 : Shape := ⟨6, ![1, 16, 1, 16, 1, 256]⟩
abbrev S1x16x8x16x1x256 : Shape := ⟨6, ![1, 16, 8, 16, 1, 256]⟩
abbrev S16x128x256 : Shape := ⟨3, ![16, 128, 256]⟩
abbrev S4096x96 : Shape := ⟨2, ![4096, 96]⟩
abbrev S4096x128 : Shape := ⟨2, ![4096, 128]⟩
abbrev S8x256x512 : Shape := ⟨3, ![8, 256, 512]⟩
abbrev S8x512x256 : Shape := ⟨3, ![8, 512, 256]⟩
abbrev S8x8x16x128x256 : Shape := ⟨5, ![8, 8, 16, 128, 256]⟩
abbrev S8x8x16x80x256 : Shape := ⟨5, ![8, 8, 16, 80, 256]⟩
abbrev S8x4096x512 : Shape := ⟨3, ![8, 4096, 512]⟩
abbrev S8x8x16x64x256 : Shape := ⟨5, ![8, 8, 16, 64, 256]⟩
abbrev S8x16x512x256 : Shape := ⟨4, ![8, 16, 512, 256]⟩
abbrev S1x1024x1024 : Shape := ⟨3, ![1, 1024, 1024]⟩
abbrev S4x128x256 : Shape := ⟨3, ![4, 128, 256]⟩
abbrev S1x256x512 : Shape := ⟨3, ![1, 256, 512]⟩
abbrev S1x512x256 : Shape := ⟨3, ![1, 512, 256]⟩
abbrev S1x8x4x128x256 : Shape := ⟨5, ![1, 8, 4, 128, 256]⟩
abbrev S1x8x4x80x256 : Shape := ⟨5, ![1, 8, 4, 80, 256]⟩
abbrev S1x1024x512 : Shape := ⟨3, ![1, 1024, 512]⟩
abbrev S1x8x4x64x256 : Shape := ⟨5, ![1, 8, 4, 64, 256]⟩
abbrev S1x4x512x256 : Shape := ⟨4, ![1, 4, 512, 256]⟩
abbrev S1x256x1024 : Shape := ⟨3, ![1, 256, 1024]⟩
abbrev S256x256 : Shape := ⟨2, ![256, 256]⟩
abbrev S384x1024 : Shape := ⟨2, ![384, 1024]⟩
abbrev S384x256 : Shape := ⟨2, ![384, 256]⟩
abbrev S512x1024 : Shape := ⟨2, ![512, 1024]⟩
abbrev S512x256 : Shape := ⟨2, ![512, 256]⟩
abbrev S128x256 : Shape := ⟨2, ![128, 256]⟩
abbrev S1x256 : Shape := ⟨2, ![1, 256]⟩
abbrev S1x1x128x256 : Shape := ⟨4, ![1, 1, 128, 256]⟩
abbrev S1x128x256 : Shape := ⟨3, ![1, 128, 256]⟩
abbrev S32x256 : Shape := ⟨2, ![32, 256]⟩
abbrev S64x256 : Shape := ⟨2, ![64, 256]⟩
abbrev S1x1x1x64x256 : Shape := ⟨5, ![1, 1, 1, 64, 256]⟩
abbrev S16x256 : Shape := ⟨2, ![16, 256]⟩
abbrev S1x1x1x16x256 : Shape := ⟨5, ![1, 1, 1, 16, 256]⟩
abbrev S1x1x1x32x256 : Shape := ⟨5, ![1, 1, 1, 32, 256]⟩
abbrev S1x1x512x256 : Shape := ⟨4, ![1, 1, 512, 256]⟩
abbrev S8x16x256x8x128 : Shape := ⟨5, ![8, 16, 256, 8, 128]⟩
abbrev S8x4096x8x128 : Shape := ⟨4, ![8, 4096, 8, 128]⟩
abbrev S8x4096x8x96 : Shape := ⟨4, ![8, 4096, 8, 96]⟩
abbrev S8x16x256x8x80 : Shape := ⟨5, ![8, 16, 256, 8, 80]⟩
abbrev S8x4096x8x80 : Shape := ⟨4, ![8, 4096, 8, 80]⟩
abbrev S8x4096x8x64 : Shape := ⟨4, ![8, 4096, 8, 64]⟩
abbrev S8x16x256x8x64 : Shape := ⟨5, ![8, 16, 256, 8, 64]⟩
abbrev S8x16x256x512 : Shape := ⟨4, ![8, 16, 256, 512]⟩

abbrev nBuf : Space → Nat
  | .hbm => 150
  | .vmem => 40
  | .smem => 0
  | _ => 0

abbrev hbmTy0_0 (i : Nat) : BufTy := match i % 128 with
  | 0 => ⟨S8x4096x1024, .f32⟩
  | 1 => ⟨S1024x4000, .f32⟩
  | 2 => ⟨S256, .f32⟩
  | 3 => ⟨S256x768, .f32⟩
  | 4 => ⟨S128, .f32⟩
  | 5 => ⟨S128x1024, .f32⟩
  | 6 => ⟨S8x256x4x128, .f32⟩
  | 7 => ⟨S8x256x4x128, .f32⟩
  | 8 => ⟨S1024x512, .f32⟩
  | 9 => ⟨S1024x384, .f32⟩
  | 10 => ⟨S1024x512, .f32⟩
  | 11 => ⟨S1024x512, .f32⟩
  | 12 => ⟨S1024x1024, .f32⟩
  | 13 => ⟨S1024x512, .f32⟩
  | 14 => ⟨S1024x3456, .f32⟩
  | 15 => ⟨S1024x3456, .bf16⟩
  | 16 => ⟨S3456x1024, .bf16⟩
  | 17 => ⟨S1024x32, .f32⟩
  | 18 => ⟨S1024x16, .f32⟩
  | 19 => ⟨S1024x16, .f32⟩
  | 20 => ⟨S1024x16, .f32⟩
  | 21 => ⟨S1024x32, .f32⟩
  | 22 => ⟨S1024x128, .f32⟩
  | 23 => ⟨S1024x512, .f32⟩
  | 24 => ⟨S_, .f32⟩
  | 25 => ⟨S1024x64, .f32⟩
  | 26 => ⟨S1024x768, .f32⟩
  | 27 => ⟨S1024x768, .bf16⟩
  | 28 => ⟨S256x8x96, .f32⟩
  | 29 => ⟨S256x8x64, .f32⟩
  | 30 => ⟨S256x512, .f32⟩
  | 31 => ⟨S256x8x16, .f32⟩
  | 32 => ⟨S256x128, .f32⟩
  | 33 => ⟨S256x8x16, .f32⟩
  | 34 => ⟨S256x128, .f32⟩
  | 35 => ⟨S256x768, .f32⟩
  | 36 => ⟨S256x768, .bf16⟩
  | 37 => ⟨S768x256, .bf16⟩
  | 38 => ⟨S128x8x128, .f32⟩
  | 39 => ⟨S128x8x64, .f32⟩
  | 40 => ⟨S128x512, .f32⟩
  | 41 => ⟨S128x512, .bf16⟩
  | 42 => ⟨S512x128, .bf16⟩
  | 43 => ⟨S128x8x128, .i32⟩
  | 44 => ⟨S128x8x128, .i32⟩
  | 45 => ⟨S_, .f32⟩
  | 46 => ⟨S128x8x128, .f32⟩
  | 47 => ⟨S_, .f32⟩
  | 48 => ⟨S128x8x128, .f32⟩
  | 49 => ⟨S_, .i32⟩
  | 50 => ⟨S128x8x128, .i32⟩
  | 51 => ⟨S128x8x128, .i1⟩
  | 52 => ⟨S128x8x128, .f32⟩
  | 53 => ⟨S128x8x128, .f32⟩
  | 54 => ⟨S128x8x128, .f32⟩
  | 55 => ⟨S128x8x128, .f32⟩
  | 56 => ⟨S128x8x128, .f32⟩
  | 57 => ⟨S_, .i32⟩
  | 58 => ⟨S128x8x128, .i32⟩
  | 59 => ⟨S128x8x128, .i1⟩
  | 60 => ⟨S_, .i32⟩
  | 61 => ⟨S128x8x128, .i32⟩
  | 62 => ⟨S128x8x128, .i32⟩
  | 63 => ⟨S128x8x128, .i1⟩
  | 64 => ⟨S128x8x128, .i1⟩
  | 65 => ⟨S128x8x128, .f32⟩
  | 66 => ⟨S128x1024, .f32⟩
  | 67 => ⟨S128x1024, .f32⟩
  | 68 => ⟨S256x1024, .f32⟩
  | 69 => ⟨S256x1024, .bf16⟩
  | 70 => ⟨S256x1, .f32⟩
  | 71 => ⟨S128x1, .f32⟩
  | 72 => ⟨S1x128, .f32⟩
  | 73 => ⟨S16, .f32⟩
  | 74 => ⟨S16, .f32⟩
  | 75 => ⟨S_, .f32⟩
  | 76 => ⟨S16, .f32⟩
  | 77 => ⟨S16, .f32⟩
  | 78 => ⟨S_, .f32⟩
  | 79 => ⟨S16, .f32⟩
  | 80 => ⟨S16, .f32⟩
  | 81 => ⟨S4096, .i32⟩
  | 82 => ⟨S4096, .f32⟩
  | 83 => ⟨S4096x1, .f32⟩
  | 84 => ⟨S1x16, .f32⟩
  | 85 => ⟨S4096x16, .f32⟩
  | 86 => ⟨S4096x16, .f32⟩
  | 87 => ⟨S4096x16, .f32⟩
  | 88 => ⟨S4096x16, .f32⟩
  | 89 => ⟨S4096x16, .f32⟩
  | 90 => ⟨S16x256x16, .f32⟩
  | 91 => ⟨S16x16x256, .f32⟩
  | 92 => ⟨S1x16x1x16x1x256, .f32⟩
  | 93 => ⟨S1x16x8x16x1x256, .f32⟩
  | 94 => ⟨S16x128x256, .f32⟩
  | 95 => ⟨S16x256x16, .f32⟩
  | 96 => ⟨S16x16x256, .f32⟩
  | 97 => ⟨S1x16x1x16x1x256, .f32⟩
  | 98 => ⟨S1x16x8x16x1x256, .f32⟩
  | 99 => ⟨S16x128x256, .f32⟩
  | 100 => ⟨S_, .f32⟩
  | 101 => ⟨S4096x96, .f32⟩
  | 102 => ⟨S4096x128, .f32⟩
  | 103 => ⟨S4096x128, .f32⟩
  | 104 => ⟨S8x256x512, .f32⟩
  | 105 => ⟨S8x256x512, .bf16⟩
  | 106 => ⟨S8x256x512, .f32⟩
  | 107 => ⟨S8x512x256, .f32⟩
  | 108 => ⟨S8x512x256, .bf16⟩
  | 109 => ⟨S8x8x16x128x256, .bf16⟩
  | 110 => ⟨S8x4096x1024, .bf16⟩
  | 111 => ⟨S8x8x16x80x256, .bf16⟩
  | 112 => ⟨S8x8x16x128x256, .bf16⟩
  | 113 => ⟨S8x4096x512, .bf16⟩
  | 114 => ⟨S8x8x16x64x256, .bf16⟩
  | 115 => ⟨S8x16x512x256, .f32⟩
  | 116 => ⟨S8x16x512x256, .f32⟩
  | 117 => ⟨S8x16x512x256, .bf16⟩
  | 118 => ⟨S8x16x256x8x128, .bf16⟩
  | 119 => ⟨S8x4096x8x128, .bf16⟩
  | 120 => ⟨S8x4096x8x128, .f32⟩
  | 121 => ⟨S8x4096x8x96, .f32⟩
  | 122 => ⟨S_, .f32⟩
  | 123 => ⟨S8x4096x8x96, .f32⟩
  | 124 => ⟨S8x4096x8x96, .f32⟩
  | 125 => ⟨S8x4096x8x128, .bf16⟩
  | 126 => ⟨S8x4096x8x128, .f32⟩
  | 127 => ⟨S8x4096x8x96, .f32⟩
  | _ => ⟨S8x4096x1024, .f32⟩

abbrev hbmTy0_1 (i : Nat) : BufTy := match i % 128 with
  | 0 => ⟨S8x16x256x8x80, .bf16⟩
  | 1 => ⟨S8x4096x8x80, .bf16⟩
  | 2 => ⟨S8x4096x8x80, .f32⟩
  | 3 => ⟨S8x4096x8x64, .f32⟩
  | 4 => ⟨S8x16x256x8x128, .bf16⟩
  | 5 => ⟨S8x4096x8x128, .bf16⟩
  | 6 => ⟨S8x4096x8x128, .f32⟩
  | 7 => ⟨S8x4096x8x64, .f32⟩
  | 8 => ⟨S8x4096x8x64, .f32⟩
  | 9 => ⟨S8x4096x8x64, .f32⟩
  | 10 => ⟨S8x4096x8x64, .bf16⟩
  | 11 => ⟨S8x4096x8x64, .f32⟩
  | 12 => ⟨S8x16x256x8x64, .bf16⟩
  | 13 => ⟨S8x4096x8x64, .bf16⟩
  | 14 => ⟨S8x4096x8x64, .f32⟩
  | 15 => ⟨S8x16x256x512, .f32⟩
  | 16 => ⟨S8x4096x512, .f32⟩
  | 17 => ⟨S8x16x256x512, .f32⟩
  | 18 => ⟨S8x4096x512, .f32⟩
  | 19 => ⟨S8x16x256x512, .bf16⟩
  | 20 => ⟨S8x4096x512, .bf16⟩
  | 21 => ⟨S8x4096x512, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | .local _ .vmem, ⟨0, _⟩ => ⟨S1x1024x1024, .f32⟩
  | .local _ .vmem, ⟨1, _⟩ => ⟨S1x1024x1024, .f32⟩
  | .local _ .vmem, ⟨2, _⟩ => ⟨S3456x1024, .bf16⟩
  | .local _ .vmem, ⟨3, _⟩ => ⟨S1024x768, .bf16⟩
  | .local _ .vmem, ⟨4, _⟩ => ⟨S256x1, .f32⟩
  | .local _ .vmem, ⟨5, _⟩ => ⟨S128x1, .f32⟩
  | .local _ .vmem, ⟨6, _⟩ => ⟨S1x128, .f32⟩
  | .local _ .vmem, ⟨7, _⟩ => ⟨S768x256, .bf16⟩
  | .local _ .vmem, ⟨8, _⟩ => ⟨S512x128, .bf16⟩
  | .local _ .vmem, ⟨9, _⟩ => ⟨S256x1024, .bf16⟩
  | .local _ .vmem, ⟨10, _⟩ => ⟨S4x128x256, .f32⟩
  | .local _ .vmem, ⟨11, _⟩ => ⟨S4x128x256, .f32⟩
  | .local _ .vmem, ⟨12, _⟩ => ⟨S4x128x256, .f32⟩
  | .local _ .vmem, ⟨13, _⟩ => ⟨S4x128x256, .f32⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | .local _ .vmem, ⟨18, _⟩ => ⟨S1x256x512, .bf16⟩
  | .local _ .vmem, ⟨19, _⟩ => ⟨S1x256x512, .bf16⟩
  | .local _ .vmem, ⟨20, _⟩ => ⟨S1x512x256, .bf16⟩
  | .local _ .vmem, ⟨21, _⟩ => ⟨S1x512x256, .bf16⟩
  | .local _ .vmem, ⟨22, _⟩ => ⟨S1x8x4x128x256, .bf16⟩
  | .local _ .vmem, ⟨23, _⟩ => ⟨S1x8x4x128x256, .bf16⟩
  | .local _ .vmem, ⟨24, _⟩ => ⟨S1x1024x1024, .bf16⟩
  | .local _ .vmem, ⟨25, _⟩ => ⟨S1x1024x1024, .bf16⟩
  | .local _ .vmem, ⟨26, _⟩ => ⟨S1x8x4x80x256, .bf16⟩
  | .local _ .vmem, ⟨27, _⟩ => ⟨S1x8x4x80x256, .bf16⟩
  | .local _ .vmem, ⟨28, _⟩ => ⟨S1x8x4x128x256, .bf16⟩
  | .local _ .vmem, ⟨29, _⟩ => ⟨S1x8x4x128x256, .bf16⟩
  | .local _ .vmem, ⟨30, _⟩ => ⟨S1x1024x512, .bf16⟩
  | .local _ .vmem, ⟨31, _⟩ => ⟨S1x1024x512, .bf16⟩
  | .local _ .vmem, ⟨32, _⟩ => ⟨S1x8x4x64x256, .bf16⟩
  | .local _ .vmem, ⟨33, _⟩ => ⟨S1x8x4x64x256, .bf16⟩
  | .local _ .vmem, ⟨34, _⟩ => ⟨S1x4x512x256, .f32⟩
  | .local _ .vmem, ⟨35, _⟩ => ⟨S1x4x512x256, .f32⟩
  | .local _ .vmem, ⟨36, _⟩ => ⟨S1x4x512x256, .f32⟩
  | .local _ .vmem, ⟨37, _⟩ => ⟨S1x4x512x256, .f32⟩
  | .local _ .vmem, ⟨38, _⟩ => ⟨S1x4x512x256, .bf16⟩
  | .local _ .vmem, ⟨39, _⟩ => ⟨S1x4x512x256, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_0 : Ref sig .tc := ⟨.hbm, 45, rfl⟩
abbrev main_v36 : Ref sig .tc := ⟨.hbm, 46, rfl⟩
abbrev main_cst_1 : Ref sig .tc := ⟨.hbm, 47, rfl⟩
abbrev main_v37 : Ref sig .tc := ⟨.hbm, 48, rfl⟩
abbrev main_c : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_c_2 : Ref sig .tc := ⟨.hbm, 57, rfl⟩
abbrev main_v45 : Ref sig .tc := ⟨.hbm, 58, rfl⟩
abbrev main_v46 : Ref sig .tc := ⟨.hbm, 59, rfl⟩
abbrev main_c_3 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_cst_4 : Ref sig .tc := ⟨.hbm, 75, rfl⟩
abbrev main_v61 : Ref sig .tc := ⟨.hbm, 76, rfl⟩
abbrev main_v62 : Ref sig .tc := ⟨.hbm, 77, rfl⟩
abbrev main_cst_5 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_cst_6 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92_0 : Ref sig .tc := ⟨.hbm, 109, rfl⟩
abbrev main_v92_1 : Ref sig .tc := ⟨.hbm, 110, rfl⟩
abbrev main_v92_2 : Ref sig .tc := ⟨.hbm, 111, rfl⟩
abbrev main_v92_3 : Ref sig .tc := ⟨.hbm, 112, rfl⟩
abbrev main_v92_4 : Ref sig .tc := ⟨.hbm, 113, rfl⟩
abbrev main_v92_5 : Ref sig .tc := ⟨.hbm, 114, rfl⟩
abbrev main_v92_6 : Ref sig .tc := ⟨.hbm, 115, rfl⟩
abbrev main_v92_7 : Ref sig .tc := ⟨.hbm, 116, rfl⟩
abbrev main_v92_8 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_cst_7 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_stg20_0 : Ref sig .tc := ⟨.vmem, 32, rfl⟩
abbrev cc0_stg20_1 : Ref sig .tc := ⟨.vmem, 33, rfl⟩
abbrev cc0_stg21_0 : Ref sig .tc := ⟨.vmem, 34, rfl⟩
abbrev cc0_stg21_1 : Ref sig .tc := ⟨.vmem, 35, rfl⟩
abbrev cc0_stg22_0 : Ref sig .tc := ⟨.vmem, 36, rfl⟩
abbrev cc0_stg22_1 : Ref sig .tc := ⟨.vmem, 37, rfl⟩
abbrev cc0_stg23_0 : Ref sig .tc := ⟨.vmem, 38, rfl⟩
abbrev cc0_stg23_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31
abbrev cc0_sem20_0 : DmaSem sig := 32
abbrev cc0_sem20_1 : DmaSem sig := 33
abbrev cc0_sem21_0 : DmaSem sig := 34
abbrev cc0_sem21_1 : DmaSem sig := 35
abbrev cc0_sem22_0 : DmaSem sig := 36
abbrev cc0_sem22_1 : DmaSem sig := 37
abbrev cc0_sem23_0 : DmaSem sig := 38
abbrev cc0_sem23_1 : DmaSem sig := 39

abbrev nD : Nat := 1
abbrev τ : Topo := Topo.v7x

variable {F : FTy → Type} [FloatOps F]

abbrev grid0 : Pipeline.Grid := ⟨2, ![8, 4], ![false, false]⟩

@[reducible] def k0_t1_loop : Scf.Loop 32 :=
  let c0_i32 : BitVec 32 := 0#32
  let c4_i32 : BitVec 32 := 4#32
  let v0 : BitVec 32 := Scalar.addi c0_i32 c4_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg26 : BitVec 32 := Scf.iv c0_i32 c1_i32 k0_t1
  let c256_i32 : BitVec 32 := 256#32
  let v1 : BitVec 32 := Scalar.muli arg26 c256_i32
  v1
def k0_off1 (k0_t1 : Fin k0_t1_loop.trips) : Fin 3 → Nat :=
  let c0 : Index := 0#32
  let c0_i32 : BitVec 32 := 0#32
  let c1_i32 : BitVec 32 := 1#32
  let arg26 : BitVec 32 := Scf.iv c0_i32 c1_i32 k0_t1
  let c256_i32 : BitVec 32 := 256#32
  let v1 : BitVec 32 := Scalar.muli arg26 c256_i32
  let v2 : BitVec 32 := v1
  let v3 : Index := Scalar.indexCast v2
  let c0_1 : Index := 0#32
  ![0, v3.toNat, 0]
def k0_off2 (k0_t1 : Fin k0_t1_loop.trips) : Fin 4 → Nat :=
  let c0_39 : Index := 0#32
  let c0_i32 : BitVec 32 := 0#32
  let c1_i32 : BitVec 32 := 1#32
  let arg26 : BitVec 32 := Scf.iv c0_i32 c1_i32 k0_t1
  let v81 : Index := Scalar.indexCast arg26
  let c0_40 : Index := 0#32
  let c0_41 : Index := 0#32
  ![0, v81.toNat, 0, 0]
def k0_off3 (k0_t1 : Fin k0_t1_loop.trips) : Fin 4 → Nat :=
  let c0_50 : Index := 0#32
  let c0_i32 : BitVec 32 := 0#32
  let c1_i32 : BitVec 32 := 1#32
  let arg26 : BitVec 32 := Scf.iv c0_i32 c1_i32 k0_t1
  let v112 : Index := Scalar.indexCast arg26
  let c128 : Index := 128#32
  let c0_51 : Index := 0#32
  ![0, v112.toNat, 128, 0]
def k0_off4 (k0_t1 : Fin k0_t1_loop.trips) : Fin 4 → Nat :=
  let c0_60 : Index := 0#32
  let c0_i32 : BitVec 32 := 0#32
  let c1_i32 : BitVec 32 := 1#32
  let arg26 : BitVec 32 := Scf.iv c0_i32 c1_i32 k0_t1
  let v143 : Index := Scalar.indexCast arg26
  let c256_61 : Index := 256#32
  let c0_62 : Index := 0#32
  ![0, v143.toNat, 256, 0]
def k0_off5 (k0_t1 : Fin k0_t1_loop.trips) : Fin 4 → Nat :=
  let c0_71 : Index := 0#32
  let c0_i32 : BitVec 32 := 0#32
  let c1_i32 : BitVec 32 := 1#32
  let arg26 : BitVec 32 := Scf.iv c0_i32 c1_i32 k0_t1
  let v174 : Index := Scalar.indexCast arg26
  let c384 : Index := 384#32
  let c0_72 : Index := 0#32
  ![0, v174.toNat, 384, 0]
def k0_off6 (k0_t1 : Fin k0_t1_loop.trips) : Fin 3 → Nat :=
  let c0_i32 : BitVec 32 := 0#32
  let c1_i32 : BitVec 32 := 1#32
  let arg26 : BitVec 32 := Scf.iv c0_i32 c1_i32 k0_t1
  let v199 : Index := Scalar.indexCast arg26
  let c0_81 : Index := 0#32
  let c0_82 : Index := 0#32
  ![v199.toNat, 0, 0]
def k0_off7 (k0_t1 : Fin k0_t1_loop.trips) : Fin 5 → Nat :=
  let c0_89 : Index := 0#32
  let c0_90 : Index := 0#32
  let c0_i32 : BitVec 32 := 0#32
  let c1_i32 : BitVec 32 := 1#32
  let arg26 : BitVec 32 := Scf.iv c0_i32 c1_i32 k0_t1
  let v221 : Index := Scalar.indexCast arg26
  let c0_91 : Index := 0#32
  let c0_92 : Index := 0#32
  ![0, 0, v221.toNat, 0, 0]
def k0_off8 (k0_t1 : Fin k0_t1_loop.trips) : Fin 5 → Nat :=
  let c0_93 : Index := 0#32
  let c0_94 : Index := 0#32
  let c0_i32 : BitVec 32 := 0#32
  let c1_i32 : BitVec 32 := 1#32
  let arg26 : BitVec 32 := Scf.iv c0_i32 c1_i32 k0_t1
  let v227 : Index := Scalar.indexCast arg26
  let c64 : Index := 64#32
  let c0_95 : Index := 0#32
  ![0, 0, v227.toNat, 64, 0]
def k0_off9 (k0_t1 : Fin k0_t1_loop.trips) : Fin 5 → Nat :=
  let c0_96 : Index := 0#32
  let c0_97 : Index := 0#32
  let c0_i32 : BitVec 32 := 0#32
  let c1_i32 : BitVec 32 := 1#32
  let arg26 : BitVec 32 := Scf.iv c0_i32 c1_i32 k0_t1
  let v233 : Index := Scalar.indexCast arg26
  let c80 : Index := 80#32
  let c0_98 : Index := 0#32
  ![0, 0, v233.toNat, 80, 0]
def k0_off10 (k0_t1 : Fin k0_t1_loop.trips) : Fin 5 → Nat :=
  let c0_99 : Index := 0#32
  let c0_100 : Index := 0#32
  let c0_i32 : BitVec 32 := 0#32
  let c1_i32 : BitVec 32 := 1#32
  let arg26 : BitVec 32 := Scf.iv c0_i32 c1_i32 k0_t1
  let v237 : Index := Scalar.indexCast arg26
  let c96 : Index := 96#32
  let c0_101 : Index := 0#32
  ![0, 0, v237.toNat, 96, 0]
def k0_off11 (k0_t1 : Fin k0_t1_loop.trips) : Fin 5 → Nat :=
  let c0_102 : Index := 0#32
  let c1 : Index := 1#32
  let c0_i32 : BitVec 32 := 0#32
  let c1_i32 : BitVec 32 := 1#32
  let arg26 : BitVec 32 := Scf.iv c0_i32 c1_i32 k0_t1
  let v243 : Index := Scalar.indexCast arg26
  let c0_103 : Index := 0#32
  let c0_104 : Index := 0#32
  ![0, 1, v243.toNat, 0, 0]
def k0_off12 (k0_t1 : Fin k0_t1_loop.trips) : Fin 5 → Nat :=
  let c0_105 : Index := 0#32
  let c1_106 : Index := 1#32
  let c0_i32 : BitVec 32 := 0#32
  let c1_i32 : BitVec 32 := 1#32
  let arg26 : BitVec 32 := Scf.iv c0_i32 c1_i32 k0_t1
  let v249 : Index := Scalar.indexCast arg26
  let c64_107 : Index := 64#32
  let c0_108 : Index := 0#32
  ![0, 1, v249.toNat, 64, 0]
def k0_off13 (k0_t1 : Fin k0_t1_loop.trips) : Fin 5 → Nat :=
  let c0_109 : Index := 0#32
  let c1_110 : Index := 1#32
  let c0_i32 : BitVec 32 := 0#32
  let c1_i32 : BitVec 32 := 1#32
  let arg26 : BitVec 32 := Scf.iv c0_i32 c1_i32 k0_t1
  let v255 : Index := Scalar.indexCast arg26
  let c80_111 : Index := 80#32
  let c0_112 : Index := 0#32
  ![0, 1, v255.toNat, 80, 0]
def k0_off14 (k0_t1 : Fin k0_t1_loop.trips) : Fin 5 → Nat :=
  let c0_113 : Index := 0#32
  let c1_114 : Index := 1#32
  let c0_i32 : BitVec 32 := 0#32
  let c1_i32 : BitVec 32 := 1#32
  let arg26 : BitVec 32 := Scf.iv c0_i32 c1_i32 k0_t1
  let v259 : Index := Scalar.indexCast arg26
  let c96_115 : Index := 96#32
  let c0_116 : Index := 0#32
  ![0, 1, v259.toNat, 96, 0]
def k0_off15 (k0_t1 : Fin k0_t1_loop.trips) : Fin 5 → Nat :=
  let c0_117 : Index := 0#32
  let c2 : Index := 2#32
  let c0_i32 : BitVec 32 := 0#32
  let c1_i32 : BitVec 32 := 1#32
  let arg26 : BitVec 32 := Scf.iv c0_i32 c1_i32 k0_t1
  let v265 : Index := Scalar.indexCast arg26
  let c0_118 : Index := 0#32
  let c0_119 : Index := 0#32
  ![0, 2, v265.toNat, 0, 0]
def k0_off16 (k0_t1 : Fin k0_t1_loop.trips) : Fin 5 → Nat :=
  let c0_120 : Index := 0#32
  let c2_121 : Index := 2#32
  let c0_i32 : BitVec 32 := 0#32
  let c1_i32 : BitVec 32 := 1#32
  let arg26 : BitVec 32 := Scf.iv c0_i32 c1_i32 k0_t1
  let v271 : Index := Scalar.indexCast arg26
  let c64_122 : Index := 64#32
  let c0_123 : Index := 0#32
  ![0, 2, v271.toNat, 64, 0]
def k0_off17 (k0_t1 : Fin k0_t1_loop.trips) : Fin 5 → Nat :=
  let c0_124 : Index := 0#32
  let c2_125 : Index := 2#32
  let c0_i32 : BitVec 32 := 0#32
  let c1_i32 : BitVec 32 := 1#32
  let arg26 : BitVec 32 := Scf.iv c0_i32 c1_i32 k0_t1
  let v277 : Index := Scalar.indexCast arg26
  let c80_126 : Index := 80#32
  let c0_127 : Index := 0#32
  ![0, 2, v277.toNat, 80, 0]
def k0_off18 (k0_t1 : Fin k0_t1_loop.trips) : Fin 5 → Nat :=
  let c0_128 : Index := 0#32
  let c2_129 : Index := 2#32
  let c0_i32 : BitVec 32 := 0#32
  let c1_i32 : BitVec 32 := 1#32
  let arg26 : BitVec 32 := Scf.iv c0_i32 c1_i32 k0_t1
  let v281 : Index := Scalar.indexCast arg26
  let c96_130 : Index := 96#32
  let c0_131 : Index := 0#32
  ![0, 2, v281.toNat, 96, 0]
def k0_off19 (k0_t1 : Fin k0_t1_loop.trips) : Fin 5 → Nat :=
  let c0_132 : Index := 0#32
  let c3 : Index := 3#32
  let c0_i32 : BitVec 32 := 0#32
  let c1_i32 : BitVec 32 := 1#32
  let arg26 : BitVec 32 := Scf.iv c0_i32 c1_i32 k0_t1
  let v287 : Index := Scalar.indexCast arg26
  let c0_133 : Index := 0#32
  let c0_134 : Index := 0#32
  ![0, 3, v287.toNat, 0, 0]
def k0_off20 (k0_t1 : Fin k0_t1_loop.trips) : Fin 5 → Nat :=
  let c0_135 : Index := 0#32
  let c3_136 : Index := 3#32
  let c0_i32 : BitVec 32 := 0#32
  let c1_i32 : BitVec 32 := 1#32
  let arg26 : BitVec 32 := Scf.iv c0_i32 c1_i32 k0_t1
  let v293 : Index := Scalar.indexCast arg26
  let c64_137 : Index := 64#32
  let c0_138 : Index := 0#32
  ![0, 3, v293.toNat, 64, 0]
def k0_off21 (k0_t1 : Fin k0_t1_loop.trips) : Fin 5 → Nat :=
  let c0_139 : Index := 0#32
  let c3_140 : Index := 3#32
  let c0_i32 : BitVec 32 := 0#32
  let c1_i32 : BitVec 32 := 1#32
  let arg26 : BitVec 32 := Scf.iv c0_i32 c1_i32 k0_t1
  let v299 : Index := Scalar.indexCast arg26
  let c80_141 : Index := 80#32
  let c0_142 : Index := 0#32
  ![0, 3, v299.toNat, 80, 0]
def k0_off22 (k0_t1 : Fin k0_t1_loop.trips) : Fin 5 → Nat :=
  let c0_143 : Index := 0#32
  let c3_144 : Index := 3#32
  let c0_i32 : BitVec 32 := 0#32
  let c1_i32 : BitVec 32 := 1#32
  let arg26 : BitVec 32 := Scf.iv c0_i32 c1_i32 k0_t1
  let v303 : Index := Scalar.indexCast arg26
  let c96_145 : Index := 96#32
  let c0_146 : Index := 0#32
  ![0, 3, v303.toNat, 96, 0]
def k0_off23 (k0_t1 : Fin k0_t1_loop.trips) : Fin 5 → Nat :=
  let c0_147 : Index := 0#32
  let c4 : Index := 4#32
  let c0_i32 : BitVec 32 := 0#32
  let c1_i32 : BitVec 32 := 1#32
  let arg26 : BitVec 32 := Scf.iv c0_i32 c1_i32 k0_t1
  let v309 : Index := Scalar.indexCast arg26
  let c0_148 : Index := 0#32
  let c0_149 : Index := 0#32
  ![0, 4, v309.toNat, 0, 0]
def k0_off24 (k0_t1 : Fin k0_t1_loop.trips) : Fin 5 → Nat :=
  let c0_150 : Index := 0#32
  let c4_151 : Index := 4#32
  let c0_i32 : BitVec 32 := 0#32
  let c1_i32 : BitVec 32 := 1#32
  let arg26 : BitVec 32 := Scf.iv c0_i32 c1_i32 k0_t1
  let v315 : Index := Scalar.indexCast arg26
  let c64_152 : Index := 64#32
  let c0_153 : Index := 0#32
  ![0, 4, v315.toNat, 64, 0]
def k0_off25 (k0_t1 : Fin k0_t1_loop.trips) : Fin 5 → Nat :=
  let c0_154 : Index := 0#32
  let c4_155 : Index := 4#32
  let c0_i32 : BitVec 32 := 0#32
  let c1_i32 : BitVec 32 := 1#32
  let arg26 : BitVec 32 := Scf.iv c0_i32 c1_i32 k0_t1
  let v321 : Index := Scalar.indexCast arg26
  let c80_156 : Index := 80#32
  let c0_157 : Index := 0#32
  ![0, 4, v321.toNat, 80, 0]
def k0_off26 (k0_t1 : Fin k0_t1_loop.trips) : Fin 5 → Nat :=
  let c0_158 : Index := 0#32
  let c4_159 : Index := 4#32
  let c0_i32 : BitVec 32 := 0#32
  let c1_i32 : BitVec 32 := 1#32
  let arg26 : BitVec 32 := Scf.iv c0_i32 c1_i32 k0_t1
  let v325 : Index := Scalar.indexCast arg26
  let c96_160 : Index := 96#32
  let c0_161 : Index := 0#32
  ![0, 4, v325.toNat, 96, 0]
def k0_off27 (k0_t1 : Fin k0_t1_loop.trips) : Fin 5 → Nat :=
  let c0_162 : Index := 0#32
  let c5 : Index := 5#32
  let c0_i32 : BitVec 32 := 0#32
  let c1_i32 : BitVec 32 := 1#32
  let arg26 : BitVec 32 := Scf.iv c0_i32 c1_i32 k0_t1
  let v331 : Index := Scalar.indexCast arg26
  let c0_163 : Index := 0#32
  let c0_164 : Index := 0#32
  ![0, 5, v331.toNat, 0, 0]
def k0_off28 (k0_t1 : Fin k0_t1_loop.trips) : Fin 5 → Nat :=
  let c0_165 : Index := 0#32
  let c5_166 : Index := 5#32
  let c0_i32 : BitVec 32 := 0#32
  let c1_i32 : BitVec 32 := 1#32
  let arg26 : BitVec 32 := Scf.iv c0_i32 c1_i32 k0_t1
  let v337 : Index := Scalar.indexCast arg26
  let c64_167 : Index := 64#32
  let c0_168 : Index := 0#32
  ![0, 5, v337.toNat, 64, 0]
def k0_off29 (k0_t1 : Fin k0_t1_loop.trips) : Fin 5 → Nat :=
  let c0_169 : Index := 0#32
  let c5_170 : Index := 5#32
  let c0_i32 : BitVec 32 := 0#32
  let c1_i32 : BitVec 32 := 1#32
  let arg26 : BitVec 32 := Scf.iv c0_i32 c1_i32 k0_t1
  let v343 : Index := Scalar.indexCast arg26
  let c80_171 : Index := 80#32
  let c0_172 : Index := 0#32
  ![0, 5, v343.toNat, 80, 0]
def k0_off30 (k0_t1 : Fin k0_t1_loop.trips) : Fin 5 → Nat :=
  let c0_173 : Index := 0#32
  let c5_174 : Index := 5#32
  let c0_i32 : BitVec 32 := 0#32
  let c1_i32 : BitVec 32 := 1#32
  let arg26 : BitVec 32 := Scf.iv c0_i32 c1_i32 k0_t1
  let v347 : Index := Scalar.indexCast arg26
  let c96_175 : Index := 96#32
  let c0_176 : Index := 0#32
  ![0, 5, v347.toNat, 96, 0]
def k0_off31 (k0_t1 : Fin k0_t1_loop.trips) : Fin 5 → Nat :=
  let c0_177 : Index := 0#32
  let c6 : Index := 6#32
  let c0_i32 : BitVec 32 := 0#32
  let c1_i32 : BitVec 32 := 1#32
  let arg26 : BitVec 32 := Scf.iv c0_i32 c1_i32 k0_t1
  let v353 : Index := Scalar.indexCast arg26
  let c0_178 : Index := 0#32
  let c0_179 : Index := 0#32
  ![0, 6, v353.toNat, 0, 0]
def k0_off32 (k0_t1 : Fin k0_t1_loop.trips) : Fin 5 → Nat :=
  let c0_180 : Index := 0#32
  let c6_181 : Index := 6#32
  let c0_i32 : BitVec 32 := 0#32
  let c1_i32 : BitVec 32 := 1#32
  let arg26 : BitVec 32 := Scf.iv c0_i32 c1_i32 k0_t1
  let v359 : Index := Scalar.indexCast arg26
  let c64_182 : Index := 64#32
  let c0_183 : Index := 0#32
  ![0, 6, v359.toNat, 64, 0]
def k0_off33 (k0_t1 : Fin k0_t1_loop.trips) : Fin 5 → Nat :=
  let c0_184 : Index := 0#32
  let c6_185 : Index := 6#32
  let c0_i32 : BitVec 32 := 0#32
  let c1_i32 : BitVec 32 := 1#32
  let arg26 : BitVec 32 := Scf.iv c0_i32 c1_i32 k0_t1
  let v365 : Index := Scalar.indexCast arg26
  let c80_186 : Index := 80#32
  let c0_187 : Index := 0#32
  ![0, 6, v365.toNat, 80, 0]
def k0_off34 (k0_t1 : Fin k0_t1_loop.trips) : Fin 5 → Nat :=
  let c0_188 : Index := 0#32
  let c6_189 : Index := 6#32
  let c0_i32 : BitVec 32 := 0#32
  let c1_i32 : BitVec 32 := 1#32
  let arg26 : BitVec 32 := Scf.iv c0_i32 c1_i32 k0_t1
  let v369 : Index := Scalar.indexCast arg26
  let c96_190 : Index := 96#32
  let c0_191 : Index := 0#32
  ![0, 6, v369.toNat, 96, 0]
def k0_off35 (k0_t1 : Fin k0_t1_loop.trips) : Fin 5 → Nat :=
  let c0_192 : Index := 0#32
  let c7 : Index := 7#32
  let c0_i32 : BitVec 32 := 0#32
  let c1_i32 : BitVec 32 := 1#32
  let arg26 : BitVec 32 := Scf.iv c0_i32 c1_i32 k0_t1
  let v375 : Index := Scalar.indexCast arg26
  let c0_193 : Index := 0#32
  let c0_194 : Index := 0#32
  ![0, 7, v375.toNat, 0, 0]
def k0_off36 (k0_t1 : Fin k0_t1_loop.trips) : Fin 5 → Nat :=
  let c0_195 : Index := 0#32
  let c7_196 : Index := 7#32
  let c0_i32 : BitVec 32 := 0#32
  let c1_i32 : BitVec 32 := 1#32
  let arg26 : BitVec 32 := Scf.iv c0_i32 c1_i32 k0_t1
  let v381 : Index := Scalar.indexCast arg26
  let c64_197 : Index := 64#32
  let c0_198 : Index := 0#32
  ![0, 7, v381.toNat, 64, 0]
def k0_off37 (k0_t1 : Fin k0_t1_loop.trips) : Fin 5 → Nat :=
  let c0_199 : Index := 0#32
  let c7_200 : Index := 7#32
  let c0_i32 : BitVec 32 := 0#32
  let c1_i32 : BitVec 32 := 1#32
  let arg26 : BitVec 32 := Scf.iv c0_i32 c1_i32 k0_t1
  let v387 : Index := Scalar.indexCast arg26
  let c80_201 : Index := 80#32
  let c0_202 : Index := 0#32
  ![0, 7, v387.toNat, 80, 0]
def k0_off38 (k0_t1 : Fin k0_t1_loop.trips) : Fin 5 → Nat :=
  let c0_203 : Index := 0#32
  let c7_204 : Index := 7#32
  let c0_i32 : BitVec 32 := 0#32
  let c1_i32 : BitVec 32 := 1#32
  let arg26 : BitVec 32 := Scf.iv c0_i32 c1_i32 k0_t1
  let v391 : Index := Scalar.indexCast arg26
  let c96_205 : Index := 96#32
  let c0_206 : Index := 0#32
  ![0, 7, v391.toNat, 96, 0]
def k0_off39 (k0_t1 : Fin k0_t1_loop.trips) : Fin 5 → Nat :=
  let c0_218 : Index := 0#32
  let c0_219 : Index := 0#32
  let c0_i32 : BitVec 32 := 0#32
  let c1_i32 : BitVec 32 := 1#32
  let arg26 : BitVec 32 := Scf.iv c0_i32 c1_i32 k0_t1
  let v423 : Index := Scalar.indexCast arg26
  let c0_220 : Index := 0#32
  let c0_221 : Index := 0#32
  ![0, 0, v423.toNat, 0, 0]
def k0_off40 (k0_t1 : Fin k0_t1_loop.trips) : Fin 5 → Nat :=
  let c0_222 : Index := 0#32
  let c0_223 : Index := 0#32
  let c0_i32 : BitVec 32 := 0#32
  let c1_i32 : BitVec 32 := 1#32
  let arg26 : BitVec 32 := Scf.iv c0_i32 c1_i32 k0_t1
  let v427 : Index := Scalar.indexCast arg26
  let c64_224 : Index := 64#32
  let c0_225 : Index := 0#32
  ![0, 0, v427.toNat, 64, 0]
def k0_off41 (k0_t1 : Fin k0_t1_loop.trips) : Fin 5 → Nat :=
  let c0_226 : Index := 0#32
  let c1_227 : Index := 1#32
  let c0_i32 : BitVec 32 := 0#32
  let c1_i32 : BitVec 32 := 1#32
  let arg26 : BitVec 32 := Scf.iv c0_i32 c1_i32 k0_t1
  let v433 : Index := Scalar.indexCast arg26
  let c0_228 : Index := 0#32
  let c0_229 : Index := 0#32
  ![0, 1, v433.toNat, 0, 0]
def k0_off42 (k0_t1 : Fin k0_t1_loop.trips) : Fin 5 → Nat :=
  let c0_230 : Index := 0#32
  let c1_231 : Index := 1#32
  let c0_i32 : BitVec 32 := 0#32
  let c1_i32 : BitVec 32 := 1#32
  let arg26 : BitVec 32 := Scf.iv c0_i32 c1_i32 k0_t1
  let v437 : Index := Scalar.indexCast arg26
  let c64_232 : Index := 64#32
  let c0_233 : Index := 0#32
  ![0, 1, v437.toNat, 64, 0]
def k0_off43 (k0_t1 : Fin k0_t1_loop.trips) : Fin 5 → Nat :=
  let c0_234 : Index := 0#32
  let c2_235 : Index := 2#32
  let c0_i32 : BitVec 32 := 0#32
  let c1_i32 : BitVec 32 := 1#32
  let arg26 : BitVec 32 := Scf.iv c0_i32 c1_i32 k0_t1
  let v443 : Index := Scalar.indexCast arg26
  let c0_236 : Index := 0#32
  let c0_237 : Index := 0#32
  ![0, 2, v443.toNat, 0, 0]
def k0_off44 (k0_t1 : Fin k0_t1_loop.trips) : Fin 5 → Nat :=
  let c0_238 : Index := 0#32
  let c2_239 : Index := 2#32
  let c0_i32 : BitVec 32 := 0#32
  let c1_i32 : BitVec 32 := 1#32
  let arg26 : BitVec 32 := Scf.iv c0_i32 c1_i32 k0_t1
  let v447 : Index := Scalar.indexCast arg26
  let c64_240 : Index := 64#32
  let c0_241 : Index := 0#32
  ![0, 2, v447.toNat, 64, 0]
def k0_off45 (k0_t1 : Fin k0_t1_loop.trips) : Fin 5 → Nat :=
  let c0_242 : Index := 0#32
  let c3_243 : Index := 3#32
  let c0_i32 : BitVec 32 := 0#32
  let c1_i32 : BitVec 32 := 1#32
  let arg26 : BitVec 32 := Scf.iv c0_i32 c1_i32 k0_t1
  let v453 : Index := Scalar.indexCast arg26
  let c0_244 : Index := 0#32
  let c0_245 : Index := 0#32
  ![0, 3, v453.toNat, 0, 0]
def k0_off46 (k0_t1 : Fin k0_t1_loop.trips) : Fin 5 → Nat :=
  let c0_246 : Index := 0#32
  let c3_247 : Index := 3#32
  let c0_i32 : BitVec 32 := 0#32
  let c1_i32 : BitVec 32 := 1#32
  let arg26 : BitVec 32 := Scf.iv c0_i32 c1_i32 k0_t1
  let v457 : Index := Scalar.indexCast arg26
  let c64_248 : Index := 64#32
  let c0_249 : Index := 0#32
  ![0, 3, v457.toNat, 64, 0]
def k0_off47 (k0_t1 : Fin k0_t1_loop.trips) : Fin 5 → Nat :=
  let c0_250 : Index := 0#32
  let c4_251 : Index := 4#32
  let c0_i32 : BitVec 32 := 0#32
  let c1_i32 : BitVec 32 := 1#32
  let arg26 : BitVec 32 := Scf.iv c0_i32 c1_i32 k0_t1
  let v463 : Index := Scalar.indexCast arg26
  let c0_252 : Index := 0#32
  let c0_253 : Index := 0#32
  ![0, 4, v463.toNat, 0, 0]
def k0_off48 (k0_t1 : Fin k0_t1_loop.trips) : Fin 5 → Nat :=
  let c0_254 : Index := 0#32
  let c4_255 : Index := 4#32
  let c0_i32 : BitVec 32 := 0#32
  let c1_i32 : BitVec 32 := 1#32
  let arg26 : BitVec 32 := Scf.iv c0_i32 c1_i32 k0_t1
  let v467 : Index := Scalar.indexCast arg26
  let c64_256 : Index := 64#32
  let c0_257 : Index := 0#32
  ![0, 4, v467.toNat, 64, 0]
def k0_off49 (k0_t1 : Fin k0_t1_loop.trips) : Fin 5 → Nat :=
  let c0_258 : Index := 0#32
  let c5_259 : Index := 5#32
  let c0_i32 : BitVec 32 := 0#32
  let c1_i32 : BitVec 32 := 1#32
  let arg26 : BitVec 32 := Scf.iv c0_i32 c1_i32 k0_t1
  let v473 : Index := Scalar.indexCast arg26
  let c0_260 : Index := 0#32
  let c0_261 : Index := 0#32
  ![0, 5, v473.toNat, 0, 0]
def k0_off50 (k0_t1 : Fin k0_t1_loop.trips) : Fin 5 → Nat :=
  let c0_262 : Index := 0#32
  let c5_263 : Index := 5#32
  let c0_i32 : BitVec 32 := 0#32
  let c1_i32 : BitVec 32 := 1#32
  let arg26 : BitVec 32 := Scf.iv c0_i32 c1_i32 k0_t1
  let v477 : Index := Scalar.indexCast arg26
  let c64_264 : Index := 64#32
  let c0_265 : Index := 0#32
  ![0, 5, v477.toNat, 64, 0]
def k0_off51 (k0_t1 : Fin k0_t1_loop.trips) : Fin 5 → Nat :=
  let c0_266 : Index := 0#32
  let c6_267 : Index := 6#32
  let c0_i32 : BitVec 32 := 0#32
  let c1_i32 : BitVec 32 := 1#32
  let arg26 : BitVec 32 := Scf.iv c0_i32 c1_i32 k0_t1
  let v483 : Index := Scalar.indexCast arg26
  let c0_268 : Index := 0#32
  let c0_269 : Index := 0#32
  ![0, 6, v483.toNat, 0, 0]
def k0_off52 (k0_t1 : Fin k0_t1_loop.trips) : Fin 5 → Nat :=
  let c0_270 : Index := 0#32
  let c6_271 : Index := 6#32
  let c0_i32 : BitVec 32 := 0#32
  let c1_i32 : BitVec 32 := 1#32
  let arg26 : BitVec 32 := Scf.iv c0_i32 c1_i32 k0_t1
  let v487 : Index := Scalar.indexCast arg26
  let c64_272 : Index := 64#32
  let c0_273 : Index := 0#32
  ![0, 6, v487.toNat, 64, 0]
def k0_off53 (k0_t1 : Fin k0_t1_loop.trips) : Fin 5 → Nat :=
  let c0_274 : Index := 0#32
  let c7_275 : Index := 7#32
  let c0_i32 : BitVec 32 := 0#32
  let c1_i32 : BitVec 32 := 1#32
  let arg26 : BitVec 32 := Scf.iv c0_i32 c1_i32 k0_t1
  let v493 : Index := Scalar.indexCast arg26
  let c0_276 : Index := 0#32
  let c0_277 : Index := 0#32
  ![0, 7, v493.toNat, 0, 0]
def k0_off54 (k0_t1 : Fin k0_t1_loop.trips) : Fin 5 → Nat :=
  let c0_278 : Index := 0#32
  let c7_279 : Index := 7#32
  let c0_i32 : BitVec 32 := 0#32
  let c1_i32 : BitVec 32 := 1#32
  let arg26 : BitVec 32 := Scf.iv c0_i32 c1_i32 k0_t1
  let v497 : Index := Scalar.indexCast arg26
  let c64_280 : Index := 64#32
  let c0_281 : Index := 0#32
  ![0, 7, v497.toNat, 64, 0]
def k0_off55 (k0_t1 : Fin k0_t1_loop.trips) : Fin 2 → Nat :=
  let c0_i32 : BitVec 32 := 0#32
  let c1_i32 : BitVec 32 := 1#32
  let arg26 : BitVec 32 := Scf.iv c0_i32 c1_i32 k0_t1
  let c256_i32 : BitVec 32 := 256#32
  let v1 : BitVec 32 := Scalar.muli arg26 c256_i32
  let v2 : BitVec 32 := v1
  let v517 : Index := Scalar.indexCast v2
  let c0_287 : Index := 0#32
  ![v517.toNat, 0]
def k0_off56 (k0_t1 : Fin k0_t1_loop.trips) : Fin 3 → Nat :=
  let c0_294 : Index := 0#32
  let c0_i32 : BitVec 32 := 0#32
  let c1_i32 : BitVec 32 := 1#32
  let arg26 : BitVec 32 := Scf.iv c0_i32 c1_i32 k0_t1
  let c256_i32 : BitVec 32 := 256#32
  let v1 : BitVec 32 := Scalar.muli arg26 c256_i32
  let v2 : BitVec 32 := v1
  let v540 : Index := Scalar.indexCast v2
  let c0_295 : Index := 0#32
  ![0, v540.toNat, 0]
def k0_off57 (k0_t1 : Fin k0_t1_loop.trips) : Fin 5 → Nat :=
  let c0_301 : Index := 0#32
  let c0_302 : Index := 0#32
  let c0_i32 : BitVec 32 := 0#32
  let c1_i32 : BitVec 32 := 1#32
  let arg26 : BitVec 32 := Scf.iv c0_i32 c1_i32 k0_t1
  let v551 : Index := Scalar.indexCast arg26
  let c64_303 : Index := 64#32
  let c0_304 : Index := 0#32
  ![0, 0, v551.toNat, 64, 0]
def k0_off58 (k0_t1 : Fin k0_t1_loop.trips) : Fin 5 → Nat :=
  let c0_305 : Index := 0#32
  let c0_306 : Index := 0#32
  let c0_i32 : BitVec 32 := 0#32
  let c1_i32 : BitVec 32 := 1#32
  let arg26 : BitVec 32 := Scf.iv c0_i32 c1_i32 k0_t1
  let v557 : Index := Scalar.indexCast arg26
  let c0_307 : Index := 0#32
  let c0_308 : Index := 0#32
  ![0, 0, v557.toNat, 0, 0]
def k0_off59 (k0_t1 : Fin k0_t1_loop.trips) : Fin 5 → Nat :=
  let c0_309 : Index := 0#32
  let c1_310 : Index := 1#32
  let c0_i32 : BitVec 32 := 0#32
  let c1_i32 : BitVec 32 := 1#32
  let arg26 : BitVec 32 := Scf.iv c0_i32 c1_i32 k0_t1
  let v563 : Index := Scalar.indexCast arg26
  let c64_311 : Index := 64#32
  let c0_312 : Index := 0#32
  ![0, 1, v563.toNat, 64, 0]
def k0_off60 (k0_t1 : Fin k0_t1_loop.trips) : Fin 5 → Nat :=
  let c0_317 : Index := 0#32
  let c1_318 : Index := 1#32
  let c0_i32 : BitVec 32 := 0#32
  let c1_i32 : BitVec 32 := 1#32
  let arg26 : BitVec 32 := Scf.iv c0_i32 c1_i32 k0_t1
  let v573 : Index := Scalar.indexCast arg26
  let c0_319 : Index := 0#32
  let c0_320 : Index := 0#32
  ![0, 1, v573.toNat, 0, 0]
def k0_off61 (k0_t1 : Fin k0_t1_loop.trips) : Fin 5 → Nat :=
  let c0_325 : Index := 0#32
  let c2_326 : Index := 2#32
  let c0_i32 : BitVec 32 := 0#32
  let c1_i32 : BitVec 32 := 1#32
  let arg26 : BitVec 32 := Scf.iv c0_i32 c1_i32 k0_t1
  let v583 : Index := Scalar.indexCast arg26
  let c64_327 : Index := 64#32
  let c0_328 : Index := 0#32
  ![0, 2, v583.toNat, 64, 0]
def k0_off62 (k0_t1 : Fin k0_t1_loop.trips) : Fin 5 → Nat :=
  let c0_329 : Index := 0#32
  let c2_330 : Index := 2#32
  let c0_i32 : BitVec 32 := 0#32
  let c1_i32 : BitVec 32 := 1#32
  let arg26 : BitVec 32 := Scf.iv c0_i32 c1_i32 k0_t1
  let v589 : Index := Scalar.indexCast arg26
  let c0_331 : Index := 0#32
  let c0_332 : Index := 0#32
  ![0, 2, v589.toNat, 0, 0]
def k0_off63 (k0_t1 : Fin k0_t1_loop.trips) : Fin 5 → Nat :=
  let c0_333 : Index := 0#32
  let c3_334 : Index := 3#32
  let c0_i32 : BitVec 32 := 0#32
  let c1_i32 : BitVec 32 := 1#32
  let arg26 : BitVec 32 := Scf.iv c0_i32 c1_i32 k0_t1
  let v595 : Index := Scalar.indexCast arg26
  let c64_335 : Index := 64#32
  let c0_336 : Index := 0#32
  ![0, 3, v595.toNat, 64, 0]
def k0_off64 (k0_t1 : Fin k0_t1_loop.trips) : Fin 5 → Nat :=
  let c0_341 : Index := 0#32
  let c3_342 : Index := 3#32
  let c0_i32 : BitVec 32 := 0#32
  let c1_i32 : BitVec 32 := 1#32
  let arg26 : BitVec 32 := Scf.iv c0_i32 c1_i32 k0_t1
  let v605 : Index := Scalar.indexCast arg26
  let c0_343 : Index := 0#32
  let c0_344 : Index := 0#32
  ![0, 3, v605.toNat, 0, 0]
def k0_off65 (k0_t1 : Fin k0_t1_loop.trips) : Fin 5 → Nat :=
  let c0_349 : Index := 0#32
  let c4_350 : Index := 4#32
  let c0_i32 : BitVec 32 := 0#32
  let c1_i32 : BitVec 32 := 1#32
  let arg26 : BitVec 32 := Scf.iv c0_i32 c1_i32 k0_t1
  let v615 : Index := Scalar.indexCast arg26
  let c64_351 : Index := 64#32
  let c0_352 : Index := 0#32
  ![0, 4, v615.toNat, 64, 0]
def k0_off66 (k0_t1 : Fin k0_t1_loop.trips) : Fin 5 → Nat :=
  let c0_353 : Index := 0#32
  let c4_354 : Index := 4#32
  let c0_i32 : BitVec 32 := 0#32
  let c1_i32 : BitVec 32 := 1#32
  let arg26 : BitVec 32 := Scf.iv c0_i32 c1_i32 k0_t1
  let v621 : Index := Scalar.indexCast arg26
  let c0_355 : Index := 0#32
  let c0_356 : Index := 0#32
  ![0, 4, v621.toNat, 0, 0]
def k0_off67 (k0_t1 : Fin k0_t1_loop.trips) : Fin 5 → Nat :=
  let c0_357 : Index := 0#32
  let c5_358 : Index := 5#32
  let c0_i32 : BitVec 32 := 0#32
  let c1_i32 : BitVec 32 := 1#32
  let arg26 : BitVec 32 := Scf.iv c0_i32 c1_i32 k0_t1
  let v627 : Index := Scalar.indexCast arg26
  let c64_359 : Index := 64#32
  let c0_360 : Index := 0#32
  ![0, 5, v627.toNat, 64, 0]
def k0_off68 (k0_t1 : Fin k0_t1_loop.trips) : Fin 5 → Nat :=
  let c0_365 : Index := 0#32
  let c5_366 : Index := 5#32
  let c0_i32 : BitVec 32 := 0#32
  let c1_i32 : BitVec 32 := 1#32
  let arg26 : BitVec 32 := Scf.iv c0_i32 c1_i32 k0_t1
  let v637 : Index := Scalar.indexCast arg26
  let c0_367 : Index := 0#32
  let c0_368 : Index := 0#32
  ![0, 5, v637.toNat, 0, 0]
def k0_off69 (k0_t1 : Fin k0_t1_loop.trips) : Fin 5 → Nat :=
  let c0_373 : Index := 0#32
  let c6_374 : Index := 6#32
  let c0_i32 : BitVec 32 := 0#32
  let c1_i32 : BitVec 32 := 1#32
  let arg26 : BitVec 32 := Scf.iv c0_i32 c1_i32 k0_t1
  let v647 : Index := Scalar.indexCast arg26
  let c64_375 : Index := 64#32
  let c0_376 : Index := 0#32
  ![0, 6, v647.toNat, 64, 0]
def k0_off70 (k0_t1 : Fin k0_t1_loop.trips) : Fin 5 → Nat :=
  let c0_377 : Index := 0#32
  let c6_378 : Index := 6#32
  let c0_i32 : BitVec 32 := 0#32
  let c1_i32 : BitVec 32 := 1#32
  let arg26 : BitVec 32 := Scf.iv c0_i32 c1_i32 k0_t1
  let v653 : Index := Scalar.indexCast arg26
  let c0_379 : Index := 0#32
  let c0_380 : Index := 0#32
  ![0, 6, v653.toNat, 0, 0]
def k0_off71 (k0_t1 : Fin k0_t1_loop.trips) : Fin 5 → Nat :=
  let c0_381 : Index := 0#32
  let c7_382 : Index := 7#32
  let c0_i32 : BitVec 32 := 0#32
  let c1_i32 : BitVec 32 := 1#32
  let arg26 : BitVec 32 := Scf.iv c0_i32 c1_i32 k0_t1
  let v659 : Index := Scalar.indexCast arg26
  let c64_383 : Index := 64#32
  let c0_384 : Index := 0#32
  ![0, 7, v659.toNat, 64, 0]
def k0_off72 (k0_t1 : Fin k0_t1_loop.trips) : Fin 5 → Nat :=
  let c0_389 : Index := 0#32
  let c7_390 : Index := 7#32
  let c0_i32 : BitVec 32 := 0#32
  let c1_i32 : BitVec 32 := 1#32
  let arg26 : BitVec 32 := Scf.iv c0_i32 c1_i32 k0_t1
  let v669 : Index := Scalar.indexCast arg26
  let c0_391 : Index := 0#32
  let c0_392 : Index := 0#32
  ![0, 7, v669.toNat, 0, 0]
def k0_off73 (k0_t1 : Fin k0_t1_loop.trips) : Fin 4 → Nat :=
  let c0_393 : Index := 0#32
  let c0_i32 : BitVec 32 := 0#32
  let c1_i32 : BitVec 32 := 1#32
  let arg26 : BitVec 32 := Scf.iv c0_i32 c1_i32 k0_t1
  let v673 : Index := Scalar.indexCast arg26
  let c0_394 : Index := 0#32
  let c0_395 : Index := 0#32
  ![0, v673.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_18 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_21 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_22 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_23 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S3456x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S768x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S4x128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S4x128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1024x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S1x256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x8x4x128x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1024x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x8x4x80x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x8x4x128x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x1024x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x8x4x64x256 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x4x512x256 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x4x512x256 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x4x512x256 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]
-- ==== Kernel3Ideal.lean ====
variable {F : FTy → Type} [FloatOps F] [Named F]
def κ : String → Option EReal := fun
  | "inv_sqrt_d" => some (((Real.sqrt 128)⁻¹ : ℝ) : EReal)
  | _ => none
-- ==== Reference3Ideal.lean ====
abbrev S8x4096x1024 : Shape := ⟨3, ![8, 4096, 1024]⟩
abbrev S1024x4000 : Shape := ⟨2, ![1024, 4000]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S8x256x4x128 : Shape := ⟨4, ![8, 256, 4, 128]⟩
abbrev S4096 : Shape := ⟨1, ![4096]⟩
abbrev S8x4096x4000 : Shape := ⟨3, ![8, 4096, 4000]⟩
abbrev S8x4096x256 : Shape := ⟨3, ![8, 4096, 256]⟩
abbrev S8x4096x128 : Shape := ⟨3, ![8, 4096, 128]⟩
abbrev S8x4096x32 : Shape := ⟨3, ![8, 4096, 32]⟩
abbrev S8x4096x512 : Shape := ⟨3, ![8, 4096, 512]⟩
abbrev S_ : Shape := ⟨0, ![]⟩
abbrev S8x4096 : Shape := ⟨2, ![8, 4096]⟩
abbrev S8x4096x1 : Shape := ⟨3, ![8, 4096, 1]⟩
abbrev S1x1x256 : Shape := ⟨3, ![1, 1, 256]⟩
abbrev S8x4096x768 : Shape := ⟨3, ![8, 4096, 768]⟩
abbrev S8x4096x8x96 : Shape := ⟨4, ![8, 4096, 8, 96]⟩
abbrev S1x1x128 : Shape := ⟨3, ![1, 1, 128]⟩
abbrev S8x4096x8x128 : Shape := ⟨4, ![8, 4096, 8, 128]⟩
abbrev S8x4096x8x64 : Shape := ⟨4, ![8, 4096, 8, 64]⟩
abbrev S8x4096x8x32 : Shape := ⟨4, ![8, 4096, 8, 32]⟩
abbrev S8x4096x1x32 : Shape := ⟨4, ![8, 4096, 1, 32]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S1x4096x1x16 : Shape := ⟨4, ![1, 4096, 1, 16]⟩
abbrev S8x4096x1x16 : Shape := ⟨4, ![8, 4096, 1, 16]⟩
abbrev S8x4096x8x16 : Shape := ⟨4, ![8, 4096, 8, 16]⟩
abbrev S8x4096x4x128 : Shape := ⟨4, ![8, 4096, 4, 128]⟩
abbrev S8x4x4096x256 : Shape := ⟨4, ![8, 4, 4096, 256]⟩
abbrev S8x4x4096 : Shape := ⟨3, ![8, 4, 4096]⟩
abbrev S8x4x4096x1 : Shape := ⟨4, ![8, 4, 4096, 1]⟩
abbrev S8x4x128x4096 : Shape := ⟨4, ![8, 4, 128, 4096]⟩

abbrev nBuf : Space → Nat
  | .hbm => 162
  | .vmem => 0
  | .smem => 0
  | _ => 0

abbrev hbmTy0_0 (i : Nat) : BufTy := match i % 128 with
  | 0 => ⟨S8x4096x1024, .f32⟩
  | 1 => ⟨S1024x4000, .f32⟩
  | 2 => ⟨S256, .f32⟩
  | 3 => ⟨S256x768, .f32⟩
  | 4 => ⟨S128, .f32⟩
  | 5 => ⟨S128x1024, .f32⟩
  | 6 => ⟨S8x256x4x128, .f32⟩
  | 7 => ⟨S8x256x4x128, .f32⟩
  | 8 => ⟨S4096, .i32⟩
  | 9 => ⟨S8x4096x4000, .f32⟩
  | 10 => ⟨S8x4096x256, .f32⟩
  | 11 => ⟨S8x4096x128, .f32⟩
  | 12 => ⟨S8x4096x32, .f32⟩
  | 13 => ⟨S8x4096x512, .f32⟩
  | 14 => ⟨S8x4096x512, .f32⟩
  | 15 => ⟨S8x4096x512, .f32⟩
  | 16 => ⟨S8x4096x512, .f32⟩
  | 17 => ⟨S8x4096x512, .f32⟩
  | 18 => ⟨S8x4096x512, .f32⟩
  | 19 => ⟨S8x4096x512, .f32⟩
  | 20 => ⟨S8x4096x256, .f32⟩
  | 21 => ⟨S_, .f32⟩
  | 22 => ⟨S8x4096, .f32⟩
  | 23 => ⟨S8x4096x1, .f32⟩
  | 24 => ⟨S_, .f32⟩
  | 25 => ⟨S8x4096x1, .f32⟩
  | 26 => ⟨S8x4096x1, .f32⟩
  | 27 => ⟨S_, .f32⟩
  | 28 => ⟨S8x4096x1, .f32⟩
  | 29 => ⟨S8x4096x1, .f32⟩
  | 30 => ⟨S8x4096x1, .f32⟩
  | 31 => ⟨S8x4096x256, .f32⟩
  | 32 => ⟨S8x4096x256, .f32⟩
  | 33 => ⟨S1x1x256, .f32⟩
  | 34 => ⟨S8x4096x256, .f32⟩
  | 35 => ⟨S8x4096x256, .f32⟩
  | 36 => ⟨S8x4096x768, .f32⟩
  | 37 => ⟨S8x4096x8x96, .f32⟩
  | 38 => ⟨S8x4096x128, .f32⟩
  | 39 => ⟨S_, .f32⟩
  | 40 => ⟨S8x4096, .f32⟩
  | 41 => ⟨S8x4096x1, .f32⟩
  | 42 => ⟨S_, .f32⟩
  | 43 => ⟨S8x4096x1, .f32⟩
  | 44 => ⟨S8x4096x1, .f32⟩
  | 45 => ⟨S_, .f32⟩
  | 46 => ⟨S8x4096x1, .f32⟩
  | 47 => ⟨S8x4096x1, .f32⟩
  | 48 => ⟨S8x4096x1, .f32⟩
  | 49 => ⟨S8x4096x128, .f32⟩
  | 50 => ⟨S8x4096x128, .f32⟩
  | 51 => ⟨S1x1x128, .f32⟩
  | 52 => ⟨S8x4096x128, .f32⟩
  | 53 => ⟨S8x4096x128, .f32⟩
  | 54 => ⟨S8x4096x1024, .f32⟩
  | 55 => ⟨S8x4096x8x128, .f32⟩
  | 56 => ⟨S8x4096x8x64, .f32⟩
  | 57 => ⟨S8x4096x8x32, .f32⟩
  | 58 => ⟨S8x4096x8x64, .f32⟩
  | 59 => ⟨S8x4096x8x64, .f32⟩
  | 60 => ⟨S8x4096x1x32, .f32⟩
  | 61 => ⟨S16, .f32⟩
  | 62 => ⟨S16, .f32⟩
  | 63 => ⟨S_, .f32⟩
  | 64 => ⟨S16, .f32⟩
  | 65 => ⟨S16, .f32⟩
  | 66 => ⟨S_, .f32⟩
  | 67 => ⟨S16, .f32⟩
  | 68 => ⟨S16, .f32⟩
  | 69 => ⟨S4096, .f32⟩
  | 70 => ⟨S4096x1, .f32⟩
  | 71 => ⟨S1x16, .f32⟩
  | 72 => ⟨S4096x16, .f32⟩
  | 73 => ⟨S4096x16, .f32⟩
  | 74 => ⟨S4096x16, .f32⟩
  | 75 => ⟨S4096x16, .f32⟩
  | 76 => ⟨S1x4096x1x16, .f32⟩
  | 77 => ⟨S4096x16, .f32⟩
  | 78 => ⟨S1x4096x1x16, .f32⟩
  | 79 => ⟨S8x4096x1x16, .f32⟩
  | 80 => ⟨S8x4096x1x16, .f32⟩
  | 81 => ⟨S8x4096x1x16, .f32⟩
  | 82 => ⟨S8x4096x1x16, .f32⟩
  | 83 => ⟨S8x4096x1x16, .f32⟩
  | 84 => ⟨S8x4096x1x16, .f32⟩
  | 85 => ⟨S8x4096x1x16, .f32⟩
  | 86 => ⟨S8x4096x1x16, .f32⟩
  | 87 => ⟨S8x4096x1x16, .f32⟩
  | 88 => ⟨S8x4096x1x16, .f32⟩
  | 89 => ⟨S8x4096x1x16, .f32⟩
  | 90 => ⟨S8x4096x1x16, .f32⟩
  | 91 => ⟨S8x4096x1x32, .f32⟩
  | 92 => ⟨S16, .f32⟩
  | 93 => ⟨S16, .f32⟩
  | 94 => ⟨S_, .f32⟩
  | 95 => ⟨S16, .f32⟩
  | 96 => ⟨S16, .f32⟩
  | 97 => ⟨S_, .f32⟩
  | 98 => ⟨S16, .f32⟩
  | 99 => ⟨S16, .f32⟩
  | 100 => ⟨S4096, .f32⟩
  | 101 => ⟨S4096x1, .f32⟩
  | 102 => ⟨S1x16, .f32⟩
  | 103 => ⟨S4096x16, .f32⟩
  | 104 => ⟨S4096x16, .f32⟩
  | 105 => ⟨S4096x16, .f32⟩
  | 106 => ⟨S4096x16, .f32⟩
  | 107 => ⟨S1x4096x1x16, .f32⟩
  | 108 => ⟨S4096x16, .f32⟩
  | 109 => ⟨S1x4096x1x16, .f32⟩
  | 110 => ⟨S8x4096x8x16, .f32⟩
  | 111 => ⟨S8x4096x8x16, .f32⟩
  | 112 => ⟨S8x4096x8x16, .f32⟩
  | 113 => ⟨S8x4096x8x16, .f32⟩
  | 114 => ⟨S8x4096x8x16, .f32⟩
  | 115 => ⟨S8x4096x8x16, .f32⟩
  | 116 => ⟨S8x4096x8x16, .f32⟩
  | 117 => ⟨S8x4096x8x16, .f32⟩
  | 118 => ⟨S8x4096x8x16, .f32⟩
  | 119 => ⟨S8x4096x8x16, .f32⟩
  | 120 => ⟨S8x4096x8x16, .f32⟩
  | 121 => ⟨S8x4096x8x16, .f32⟩
  | 122 => ⟨S8x4096x8x32, .f32⟩
  | 123 => ⟨S8x4096x8x96, .f32⟩
  | 124 => ⟨S8x4096x8x32, .f32⟩
  | 125 => ⟨S8x4096x8x96, .f32⟩
  | 126 => ⟨S8x4096x8x64, .f32⟩
  | 127 => ⟨S8x4096x8x64, .f32⟩
  | _ => ⟨S8x4096x1024, .f32⟩

abbrev hbmTy0_1 (i : Nat) : BufTy := match i % 128 with
  | 0 => ⟨S8x4096x8x64, .f32⟩
  | 1 => ⟨S8x4096x4x128, .f32⟩
  | 2 => ⟨S8x4x4096x256, .f32⟩
  | 3 => ⟨S_, .f32⟩
  | 4 => ⟨S_, .f32⟩
  | 5 => ⟨S8x4x4096x256, .f32⟩
  | 6 => ⟨S8x4x4096x256, .f32⟩
  | 7 => ⟨S_, .f32⟩
  | 8 => ⟨S8x4x4096, .f32⟩
  | 9 => ⟨S_, .f32⟩
  | 10 => ⟨S8x4x4096, .f32⟩
  | 11 => ⟨S8x4x4096, .f32⟩
  | 12 => ⟨S8x4x4096x1, .f32⟩
  | 13 => ⟨S8x4x4096x256, .f32⟩
  | 14 => ⟨S8x4x4096x256, .f32⟩
  | 15 => ⟨S8x4x4096x256, .f32⟩
  | 16 => ⟨S_, .f32⟩
  | 17 => ⟨S8x4x4096, .f32⟩
  | 18 => ⟨S8x4x4096x1, .f32⟩
  | 19 => ⟨S8x4x4096x256, .f32⟩
  | 20 => ⟨S8x4x4096x256, .f32⟩
  | 21 => ⟨S8x4x128x4096, .f32⟩
  | 22 => ⟨S8x4096x4x128, .f32⟩
  | 23 => ⟨S8x4096x512, .f32⟩
  | 24 => ⟨S8x4096x512, .f32⟩
  | 25 => ⟨S8x4096x512, .f32⟩
  | 26 => ⟨S_, .f32⟩
  | 27 => ⟨S8x4096x512, .f32⟩
  | 28 => ⟨S8x4096x512, .f32⟩
  | 29 => ⟨S_, .f32⟩
  | 30 => ⟨S8x4096x512, .f32⟩
  | 31 => ⟨S8x4096x512, .f32⟩
  | 32 => ⟨S8x4096x512, .f32⟩
  | 33 => ⟨S8x4096x512, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_2 : Ref sig .tc := ⟨.hbm, 39, rfl⟩
abbrev main_v28 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_5 : Ref sig .tc := ⟨.hbm, 63, rfl⟩
abbrev main_v49 : Ref sig .tc := ⟨.hbm, 64, rfl⟩
abbrev main_v50 : Ref sig .tc := ⟨.hbm, 65, rfl⟩
abbrev main_cst_6 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_cst_7 : Ref sig .tc := ⟨.hbm, 94, rfl⟩
abbrev main_v78 : Ref sig .tc := ⟨.hbm, 95, rfl⟩
abbrev main_v79 : Ref sig .tc := ⟨.hbm, 96, rfl⟩
abbrev main_cst_8 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_cst_9 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_cst_10 : Ref sig .tc := ⟨.hbm, 135, rfl⟩
abbrev main_v116 : Ref sig .tc := ⟨.hbm, 136, rfl⟩
abbrev main_cst_11 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_cst_12 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_call0_v0 : Ref sig .tc := ⟨.hbm, 152, rfl⟩
abbrev main_call0_v1 : Ref sig .tc := ⟨.hbm, 153, rfl⟩
abbrev main_call0_cst : Ref sig .tc := ⟨.hbm, 154, rfl⟩
abbrev main_call0_v2 : Ref sig .tc := ⟨.hbm, 155, rfl⟩
abbrev main_call0_v3 : Ref sig .tc := ⟨.hbm, 156, rfl⟩
abbrev main_call0_cst_0 : Ref sig .tc := ⟨.hbm, 157, rfl⟩
abbrev main_call0_v4 : Ref sig .tc := ⟨.hbm, 158, rfl⟩
abbrev main_call0_v5 : Ref sig .tc := ⟨.hbm, 159, rfl⟩
abbrev main_v130 : Ref sig .tc := ⟨.hbm, 160, rfl⟩
abbrev main_v131 : Ref sig .tc := ⟨.hbm, 161, rfl⟩

abbrev nD : Nat := 1
abbrev τ : Topo := Topo.v7x

variable {F : FTy → Type} [FloatOps F]
-- ==== Proof.SbI.Tile.lean ====
/-
  The tiles the stick-breaking kernel's trips read and write, and what one trip leaves: the windows of the four arrays in
  closed form, the masses of a tile, and the result block after one key tile of each of the two query tiles.
-/
module

public import proofs.«01_k».proof.Proof.Gen.KernelIdeal.Skeleton
public import Idealize.ShloMosaic.Lib.VecWindow

@[expose] public section

set_option maxRecDepth 16384

noncomputable section

namespace Cert.KernelIdeal.Sb

open Cert.KernelIdeal Cert.KernelIdeal.Gen
open Idealize.ShloMosaic Idealize.ShloMosaic.TcCoe

variable {F : FTy → Type} [FloatOps F] [Named F]

/-! ### Windows -/

theorem qInb (g : Fin 4) (n : Fin 16) : ∀ a, (![0, g.val, n.val, 0, 0] : Fin 5 → ℕ) a + S1x1x1x128x256.size a ≤ S1x4x16x128x256.size a := by
  intro a; have := g.isLt; have := n.isLt; fin_cases a <;> simp <;> omega

theorem kInb (n : Fin 16) (p : Fin 2) : ∀ a, (![0, 256 * n.val, 128 * p.val] : Fin 3 → ℕ) a + S1x256x128.size a ≤ S1x4096x256.size a := by
  intro a; have := p.isLt; have := n.isLt; fin_cases a <;> simp <;> omega

theorem oInb (g : Fin 4) (n : Fin 16) : ∀ a, (![0, g.val, n.val, 0, 0] : Fin 5 → ℕ) a + S1x1x1x64x256.size a ≤ S1x4x16x64x256.size a := by
  intro a; have := g.isLt; have := n.isLt; fin_cases a <;> simp <;> omega

theorem tInb : ∀ a, (![0, 0] : Fin 2 → ℕ) a + S256x512.size a ≤ S256x512.size a := by decide

/-- Query tile `n` of head `g` of the block. -/
def qWin (X : Vec F S1x4x16x128x256 .bf16) (g : Fin 4) (n : Fin 16) : Vec F S1x1x1x128x256 .bf16 :=
  VecWindow.window X ![0, g.val, n.val, 0, 0] S1x1x1x128x256.size (qInb g n)

/-- Key tile `n`, the columns of the pair of heads `p`. -/
def kWin (X : Vec F S1x4096x256 .bf16) (n : Fin 16) (p : Fin 2) : Vec F S1x256x128 .bf16 :=
  VecWindow.window X ![0, 256 * n.val, 128 * p.val] S1x256x128.size (kInb n p)

/-- Value tile `n` of head `g`. -/
def vWin (X : Vec F S1x4x16x64x256 .bf16) (g : Fin 4) (n : Fin 16) : Vec F S1x1x1x64x256 .bf16 :=
  VecWindow.window X ![0, g.val, n.val, 0, 0] S1x1x1x64x256.size (oInb g n)

/-- Result tile `n` of head `g`. -/
def oWin (X : Vec F S1x4x16x64x256 .f32) (g : Fin 4) (n : Fin 16) : Vec F S1x1x1x64x256 .f32 :=
  VecWindow.window X ![0, g.val, n.val, 0, 0] S1x1x1x64x256.size (oInb g n)

/-- The result block with tile `n` of head `g` replaced. -/
def oPut (X : Vec F S1x4x16x64x256 .f32) (g : Fin 4) (n : Fin 16) (w : Vec F S1x1x1x64x256 .f32) : Vec F S1x4x16x64x256 .f32 :=
  VecWindow.put X ![0, g.val, n.val, 0, 0] S1x1x1x64x256.size w

theorem oWin_oPut_same (X : Vec F S1x4x16x64x256 .f32) (g : Fin 4) (n : Fin 16) (w : Vec F S1x1x1x64x256 .f32) :
    oWin (oPut X g n w) g n = w := VecWindow.window_put_same _ _ _ _ _

theorem oWin_oPut_head (X : Vec F S1x4x16x64x256 .f32) (g g' : Fin 4) (n n' : Fin 16) (w : Vec F S1x1x1x64x256 .f32) (h : g' ≠ g) :
    oWin (oPut X g n w) g' n' = oWin X g' n' :=
  VecWindow.window_put_of_disjoint _ _ _ _ _ _ _ (1 : Fin 5) (by
    have : g'.val ≠ g.val := fun e => h (Fin.ext e)
    simp; omega)

theorem oWin_oPut_tile (X : Vec F S1x4x16x64x256 .f32) (g g' : Fin 4) (n n' : Fin 16) (w : Vec F S1x1x1x64x256 .f32) (h : n' ≠ n) :
    oWin (oPut X g n w) g' n' = oWin X g' n' :=
  VecWindow.window_put_of_disjoint _ _ _ _ _ _ _ (2 : Fin 5) (by
    have : n'.val ≠ n.val := fun e => h (Fin.ext e)
    simp; omega)

/-! ### A tile's masses -/

/-- The two query tiles' queries, slot by slot and head by head. -/
abbrev Qs (F : FTy → Type) := Fin 2 → Fin 4 → FVec F S128x256 .bf16
/-- The running masses, slot by slot and head by head. -/
abbrev Runs (F : FTy → Type) := Fin 2 → Fin 4 → FVec F S1x256 .f32

/-- The pair of heads head `g` shares its key columns with. -/
def pairOf (g : Fin 4) : Fin 2 := ⟨g.val / 2, by omega⟩

theorem pairOf0 : pairOf 0 = 0 := rfl
theorem pairOf1 : pairOf 1 = 0 := rfl
theorem pairOf2 : pairOf 2 = 1 := rfl
theorem pairOf3 : pairOf 3 = 1 := rfl

/-- The logits of a query tile against key tile `n`. -/
def tileU (q : FVec F S128x256 .bf16) (K : Vec F S1x4096x256 .bf16) (n : Fin 16) (g : Fin 4) : FVec F S256x256 .f32 :=
  k0_pay12 q (kWin K n (pairOf g))

/-- The suffix sums of the tile's masses. -/
def tileS (T : Vec F S256x512 .bf16) (u : FVec F S256x256 .f32) : FVec F S256x256 .f32 := k0_pay67 u T

/-- The running mass after the tile. -/
def runNext (S : FVec F S256x256 .f32) (r : FVec F S1x256 .f32) : FVec F S1x256 .f32 := k0_pay86 S r

/-- The result tile after adding the tile's part. -/
def oAdd (u S : FVec F S256x256 .f32) (r : FVec F S1x256 .f32) (v : Vec F S1x1x1x64x256 .bf16) (o : Vec F S1x1x1x64x256 .f32) :
    Vec F S1x1x1x64x256 .f32 := k0_pay85 r (k0_pay84 u S) v o

/-- The result block after the part of one head of one query tile `no`, read against key tile `n`. -/
def oneHead (q : FVec F S128x256 .bf16) (r : FVec F S1x256 .f32) (K : Vec F S1x4096x256 .bf16) (V : Vec F S1x4x16x64x256 .bf16)
    (T : Vec F S256x512 .bf16) (no n : Fin 16) (g : Fin 4) (O : Vec F S1x4x16x64x256 .f32) : Vec F S1x4x16x64x256 .f32 :=
  oPut O g no (oAdd (tileU q K n g) (tileS T (tileU q K n g)) r (vWin V g n) (oWin O g no))

/-- … of its four heads. -/
def fourHeads (q : Fin 4 → FVec F S128x256 .bf16) (r : Fin 4 → FVec F S1x256 .f32) (K : Vec F S1x4096x256 .bf16) (V : Vec F S1x4x16x64x256 .bf16)
    (T : Vec F S256x512 .bf16) (no n : Fin 16) (O : Vec F S1x4x16x64x256 .f32) : Vec F S1x4x16x64x256 .f32 :=
  oneHead (q 3) (r 3) K V T no n 3 (oneHead (q 2) (r 2) K V T no n 2 (oneHead (q 1) (r 1) K V T no n 1 (oneHead (q 0) (r 0) K V T no n 0 O)))

/-- The running masses after one key tile each. -/
def nextRuns (Q : Qs F) (R : Runs F) (K : Vec F S1x4096x256 .bf16) (T : Vec F S256x512 .bf16) (n : Fin 2 → Fin 16) : Runs F :=
  fun a g => runNext (tileS T (tileU (Q a g) K (n a) g)) (R a g)

/-- The two query tiles of trip `k`. -/
def oTile (k : Fin k0_t1_loop.trips) (a : Fin 2) : Fin 16 := ⟨2 * k.val + a.val, by
  have h : k.val < 8 := k.isLt
  have := a.isLt; omega⟩

/-- The key tile of slot `a` at step `i` of trip `k`: counted back from the diagonal, not before the first. -/
def kTile (k : Fin k0_t1_loop.trips) (i : ℕ) (a : Fin 2) : Fin 16 := ⟨2 * k.val + a.val - i, by
  have h : k.val < 8 := k.isLt
  have := a.isLt; omega⟩

/-- The masses at entry to step `i`: slot 0's is spent once its tiles are. -/
def spendAt (k : Fin k0_t1_loop.trips) (s : BitVec 32) (R : Runs F) : Runs F :=
  fun a g => if a = 0 then k0_pay108 s (R 0 g) (Scalar.muli 2#32 (Scf.iv 0#32 1#32 k)) else R a g

/-- The result block after one step of both slots. -/
def stepO (Q : Qs F) (R : Runs F) (K : Vec F S1x4096x256 .bf16) (V : Vec F S1x4x16x64x256 .bf16) (T : Vec F S256x512 .bf16)
    (no n : Fin 2 → Fin 16) (O : Vec F S1x4x16x64x256 .f32) : Vec F S1x4x16x64x256 .f32 :=
  fourHeads (Q 1) (R 1) K V T (no 1) (n 1) (fourHeads (Q 0) (R 0) K V T (no 0) (n 0) O)

/-- The stopping test: every running mass is beyond the bound. -/
def deadBit (R : Runs F) : BitVec 1 :=
  Scalar.cmpf .ogt (k0_pay3 (R 1 3) (minimumf (minimumf (minimumf (minimumf (minimumf (minimumf (R 0 0) (R 0 1)) (R 0 2)) (R 0 3)) (R 1 0)) (R 1 1)) (R 1 2)))
    (Named.named κ "dead" 0x43180000#32)

/-- The result block after at most `n` further steps of trip `k` from step `i`, none once the stopping bit is set. -/
def whileO (k : Fin k0_t1_loop.trips) (Q : Qs F) (K : Vec F S1x4096x256 .bf16) (V : Vec F S1x4x16x64x256 .bf16) (T : Vec F S256x512 .bf16) :
    ℕ → ℕ → BitVec 1 → Runs F → Vec F S1x4x16x64x256 .f32 → Vec F S1x4x16x64x256 .f32
  | 0, _, _, _, O => O
  | n + 1, i, d, R, O =>
    if Scalar.xori d 1#1 = 1#1 then
      whileO k Q K V T n (i + 1) (deadBit (nextRuns Q (spendAt k (BitVec.ofNat 32 i) R) K T (kTile k i)))
        (nextRuns Q (spendAt k (BitVec.ofNat 32 i) R) K T (kTile k i))
        (stepO Q (spendAt k (BitVec.ofNat 32 i) R) K V T (oTile k) (kTile k i) O)
    else O

/-- The queries of trip `k`. -/
def tripQ (X : Vec F S1x4x16x128x256 .bf16) (k : Fin k0_t1_loop.trips) : Qs F := fun a g => k0_pay4 (qWin X g (oTile k a))

/-- The diagonal tile's suffix sums. -/
def diagS (T : Vec F S256x512 .bf16) (u : FVec F S256x256 .f32) : FVec F S256x256 .f32 := k0_pay28 k0_pay1 u T

/-- The result block after the diagonal tile of one head. -/
def diagHead (q : FVec F S128x256 .bf16) (K : Vec F S1x4096x256 .bf16) (V : Vec F S1x4x16x64x256 .bf16)
    (T : Vec F S256x512 .bf16) (no : Fin 16) (g : Fin 4) (O : Vec F S1x4x16x64x256 .f32) : Vec F S1x4x16x64x256 .f32 :=
  oPut O g no (k0_pay47 k0_pay1 (tileU q K no g) (diagS T (tileU q K no g)) (vWin V g no))

/-- … of the four heads of one query tile. -/
def diagFour (q : Fin 4 → FVec F S128x256 .bf16) (K : Vec F S1x4096x256 .bf16) (V : Vec F S1x4x16x64x256 .bf16)
    (T : Vec F S256x512 .bf16) (no : Fin 16) (O : Vec F S1x4x16x64x256 .f32) : Vec F S1x4x16x64x256 .f32 :=
  diagHead (q 3) K V T no 3 (diagHead (q 2) K V T no 2 (diagHead (q 1) K V T no 1 (diagHead (q 0) K V T no 0 O)))

/-- … of both query tiles. -/
def diagO (Q : Qs F) (K : Vec F S1x4096x256 .bf16) (V : Vec F S1x4x16x64x256 .bf16) (T : Vec F S256x512 .bf16)
    (no : Fin 2 → Fin 16) (O : Vec F S1x4x16x64x256 .f32) : Vec F S1x4x16x64x256 .f32 :=
  diagFour (Q 1) K V T (no 1) (diagFour (Q 0) K V T (no 0) O)

/-- The masses after the diagonal tiles. -/
def diagRuns (Q : Qs F) (K : Vec F S1x4096x256 .bf16) (T : Vec F S256x512 .bf16) (no : Fin 2 → Fin 16) : Runs F :=
  fun a g => k0_pay48 (diagS T (tileU (Q a g) K (no a) g))

/-- The masses at entry to step 1: slot 0's is spent where it has one tile only. -/
def spendOne (k : Fin k0_t1_loop.trips) (R : Runs F) : Runs F :=
  fun a g => if a = 0 then k0_pay80 (Scalar.muli 2#32 (Scf.iv 0#32 1#32 k)) (R 0 g) else R a g

/-- The masses after step 1 of trip `k`. -/
def tripRuns (Q : Qs F) (K : Vec F S1x4096x256 .bf16) (T : Vec F S256x512 .bf16) (k : Fin k0_t1_loop.trips) : Runs F :=
  nextRuns Q (spendOne k (diagRuns Q K T (oTile k))) K T (kTile k 1)

/-- The result block after step 1 of trip `k`. -/
def tripO1 (Q : Qs F) (K : Vec F S1x4096x256 .bf16) (V : Vec F S1x4x16x64x256 .bf16) (T : Vec F S256x512 .bf16) (k : Fin k0_t1_loop.trips)
    (O : Vec F S1x4x16x64x256 .f32) : Vec F S1x4x16x64x256 .f32 :=
  stepO Q (spendOne k (diagRuns Q K T (oTile k))) K V T (oTile k) (kTile k 1) (diagO Q K V T (oTile k) O)

/-- The result block after trip `k`: the diagonal tiles, the tiles before them, the loop over the rest. -/
def tripO (X : Vec F S1x4x16x128x256 .bf16) (K : Vec F S1x4096x256 .bf16) (V : Vec F S1x4x16x64x256 .bf16) (T : Vec F S256x512 .bf16)
    (k : Fin k0_t1_loop.trips) (O : Vec F S1x4x16x64x256 .f32) : Vec F S1x4x16x64x256 .f32 :=
  whileO k (tripQ X k) K V T (2 * k.val) 2 (deadBit (tripRuns (tripQ X k) K T k)) (tripRuns (tripQ X k) K T k) (tripO1 (tripQ X k) K V T k O)

/-- The result block after the first `n` trips. -/
def blockO (X : Vec F S1x4x16x128x256 .bf16) (K : Vec F S1x4096x256 .bf16) (V : Vec F S1x4x16x64x256 .bf16) (T : Vec F S256x512 .bf16)
    (O : Vec F S1x4x16x64x256 .f32) : ℕ → Vec F S1x4x16x64x256 .f32
  | 0 => O
  | n + 1 => if h : n < k0_t1_loop.trips then tripO X K V T ⟨n, h⟩ (blockO X K V T O n) else blockO X K V T O n

/-! ### The offsets in closed form -/

theorem off33_eq : ∀ (k : Fin k0_t1_loop.trips) (i : Fin 16), i.val ≤ 2 * k.val + 1 → k0_off33 k (BitVec.ofNat 32 i.val) = ![0, 256 * (kTile k i.val 0).val, 128 * (0 : Fin 2).val] := by decide +kernel
theorem off34_eq : ∀ (k : Fin k0_t1_loop.trips) (i : Fin 16), i.val ≤ 2 * k.val + 1 → k0_off34 k (BitVec.ofNat 32 i.val) = ![0, 256 * (kTile k i.val 0).val, 128 * (1 : Fin 2).val] := by decide +kernel
theorem off35_eq : ∀ (k : Fin k0_t1_loop.trips) (i : Fin 16), i.val ≤ 2 * k.val + 1 → k0_off35 k (BitVec.ofNat 32 i.val) = ![0, 256 * (kTile k i.val 1).val, 128 * (0 : Fin 2).val] := by decide +kernel
theorem off36_eq : ∀ (k : Fin k0_t1_loop.trips) (i : Fin 16), i.val ≤ 2 * k.val + 1 → k0_off36 k (BitVec.ofNat 32 i.val) = ![0, 256 * (kTile k i.val 1).val, 128 * (1 : Fin 2).val] := by decide +kernel
theorem chk1_of : ∀ (k : Fin k0_t1_loop.trips) (i : Fin 16), i.val ≤ 2 * k.val + 1 → k0_chk1 k (BitVec.ofNat 32 i.val) := by
  have h : ∀ (k : Fin k0_t1_loop.trips) (i : Fin 16), i.val ≤ 2 * k.val + 1 → @decide (k0_chk1 k (BitVec.ofNat 32 i.val)) (k0_chk1.dec k (BitVec.ofNat 32 i.val)) = true := by decide +kernel
  intro k i hi
  exact @of_decide_eq_true _ (k0_chk1.dec k (BitVec.ofNat 32 i.val)) (h k i hi)
theorem off37_eq : ∀ (k : Fin k0_t1_loop.trips) (i : Fin 16), i.val ≤ 2 * k.val + 1 → k0_off37 k (BitVec.ofNat 32 i.val) = ![0, (0 : Fin 4).val, (kTile k i.val 0).val, 0, 0] := by decide +kernel
theorem off39_eq : ∀ (k : Fin k0_t1_loop.trips) (i : Fin 16), i.val ≤ 2 * k.val + 1 → k0_off39 k (BitVec.ofNat 32 i.val) = ![0, (1 : Fin 4).val, (kTile k i.val 0).val, 0, 0] := by decide +kernel
theorem off41_eq : ∀ (k : Fin k0_t1_loop.trips) (i : Fin 16), i.val ≤ 2 * k.val + 1 → k0_off41 k (BitVec.ofNat 32 i.val) = ![0, (2 : Fin 4).val, (kTile k i.val 0).val, 0, 0] := by decide +kernel
theorem off43_eq : ∀ (k : Fin k0_t1_loop.trips) (i : Fin 16), i.val ≤ 2 * k.val + 1 → k0_off43 k (BitVec.ofNat 32 i.val) = ![0, (3 : Fin 4).val, (kTile k i.val 0).val, 0, 0] := by decide +kernel
theorem off45_eq : ∀ (k : Fin k0_t1_loop.trips) (i : Fin 16), i.val ≤ 2 * k.val + 1 → k0_off45 k (BitVec.ofNat 32 i.val) = ![0, (0 : Fin 4).val, (kTile k i.val 1).val, 0, 0] := by decide +kernel
theorem off47_eq : ∀ (k : Fin k0_t1_loop.trips) (i : Fin 16), i.val ≤ 2 * k.val + 1 → k0_off47 k (BitVec.ofNat 32 i.val) = ![0, (1 : Fin 4).val, (kTile k i.val 1).val, 0, 0] := by decide +kernel
theorem off49_eq : ∀ (k : Fin k0_t1_loop.trips) (i : Fin 16), i.val ≤ 2 * k.val + 1 → k0_off49 k (BitVec.ofNat 32 i.val) = ![0, (2 : Fin 4).val, (kTile k i.val 1).val, 0, 0] := by decide +kernel
theorem off51_eq : ∀ (k : Fin k0_t1_loop.trips) (i : Fin 16), i.val ≤ 2 * k.val + 1 → k0_off51 k (BitVec.ofNat 32 i.val) = ![0, (3 : Fin 4).val, (kTile k i.val 1).val, 0, 0] := by decide +kernel
theorem off1_eq : ∀ (k : Fin k0_t1_loop.trips), k0_off1 k = ![0, (0 : Fin 4).val, (oTile k 0).val, 0, 0] := by decide +kernel
theorem off2_eq : ∀ (k : Fin k0_t1_loop.trips), k0_off2 k = ![0, (1 : Fin 4).val, (oTile k 0).val, 0, 0] := by decide +kernel
theorem off3_eq : ∀ (k : Fin k0_t1_loop.trips), k0_off3 k = ![0, (2 : Fin 4).val, (oTile k 0).val, 0, 0] := by decide +kernel
theorem off4_eq : ∀ (k : Fin k0_t1_loop.trips), k0_off4 k = ![0, (3 : Fin 4).val, (oTile k 0).val, 0, 0] := by decide +kernel
theorem off5_eq : ∀ (k : Fin k0_t1_loop.trips), k0_off5 k = ![0, (0 : Fin 4).val, (oTile k 1).val, 0, 0] := by decide +kernel
theorem off6_eq : ∀ (k : Fin k0_t1_loop.trips), k0_off6 k = ![0, (1 : Fin 4).val, (oTile k 1).val, 0, 0] := by decide +kernel
theorem off7_eq : ∀ (k : Fin k0_t1_loop.trips), k0_off7 k = ![0, (2 : Fin 4).val, (oTile k 1).val, 0, 0] := by decide +kernel
theorem off8_eq : ∀ (k : Fin k0_t1_loop.trips), k0_off8 k = ![0, (3 : Fin 4).val, (oTile k 1).val, 0, 0] := by decide +kernel
theorem off17_eq : ∀ (k : Fin k0_t1_loop.trips), k0_off17 k = ![0, (0 : Fin 4).val, (oTile k 0).val, 0, 0] := by decide +kernel
theorem off18_eq : ∀ (k : Fin k0_t1_loop.trips), k0_off18 k = ![0, (1 : Fin 4).val, (oTile k 0).val, 0, 0] := by decide +kernel
theorem off19_eq : ∀ (k : Fin k0_t1_loop.trips), k0_off19 k = ![0, (2 : Fin 4).val, (oTile k 0).val, 0, 0] := by decide +kernel
theorem off20_eq : ∀ (k : Fin k0_t1_loop.trips), k0_off20 k = ![0, (3 : Fin 4).val, (oTile k 0).val, 0, 0] := by decide +kernel
theorem off21_eq : ∀ (k : Fin k0_t1_loop.trips), k0_off21 k = ![0, (0 : Fin 4).val, (oTile k 1).val, 0, 0] := by decide +kernel
theorem off22_eq : ∀ (k : Fin k0_t1_loop.trips), k0_off22 k = ![0, (1 : Fin 4).val, (oTile k 1).val, 0, 0] := by decide +kernel
theorem off23_eq : ∀ (k : Fin k0_t1_loop.trips), k0_off23 k = ![0, (2 : Fin 4).val, (oTile k 1).val, 0, 0] := by decide +kernel
theorem off24_eq : ∀ (k : Fin k0_t1_loop.trips), k0_off24 k = ![0, (3 : Fin 4).val, (oTile k 1).val, 0, 0] := by decide +kernel
theorem off38_eq : ∀ (k : Fin k0_t1_loop.trips), k0_off38 k = ![0, (0 : Fin 4).val, (oTile k 0).val, 0, 0] := by decide +kernel
theorem off40_eq : ∀ (k : Fin k0_t1_loop.trips), k0_off40 k = ![0, (1 : Fin 4).val, (oTile k 0).val, 0, 0] := by decide +kernel
theorem off42_eq : ∀ (k : Fin k0_t1_loop.trips), k0_off42 k = ![0, (2 : Fin 4).val, (oTile k 0).val, 0, 0] := by decide +kernel
theorem off44_eq : ∀ (k : Fin k0_t1_loop.trips), k0_off44 k = ![0, (3 : Fin 4).val, (oTile k 0).val, 0, 0] := by decide +kernel
theorem off46_eq : ∀ (k : Fin k0_t1_loop.trips), k0_off46 k = ![0, (0 : Fin 4).val, (oTile k 1).val, 0, 0] := by decide +kernel
theorem off48_eq : ∀ (k : Fin k0_t1_loop.trips), k0_off48 k = ![0, (1 : Fin 4).val, (oTile k 1).val, 0, 0] := by decide +kernel
theorem off50_eq : ∀ (k : Fin k0_t1_loop.trips), k0_off50 k = ![0, (2 : Fin 4).val, (oTile k 1).val, 0, 0] := by decide +kernel
theorem off52_eq : ∀ (k : Fin k0_t1_loop.trips), k0_off52 k = ![0, (3 : Fin 4).val, (oTile k 1).val, 0, 0] := by decide +kernel
theorem off25_eq : ∀ (k : Fin k0_t1_loop.trips), k0_off25 k = ![0, (0 : Fin 4).val, (kTile k 1 0).val, 0, 0] := by decide +kernel
theorem off26_eq : ∀ (k : Fin k0_t1_loop.trips), k0_off26 k = ![0, (1 : Fin 4).val, (kTile k 1 0).val, 0, 0] := by decide +kernel
theorem off27_eq : ∀ (k : Fin k0_t1_loop.trips), k0_off27 k = ![0, (2 : Fin 4).val, (kTile k 1 0).val, 0, 0] := by decide +kernel
theorem off28_eq : ∀ (k : Fin k0_t1_loop.trips), k0_off28 k = ![0, (3 : Fin 4).val, (kTile k 1 0).val, 0, 0] := by decide +kernel
theorem off29_eq : ∀ (k : Fin k0_t1_loop.trips), k0_off29 k = ![0, (0 : Fin 4).val, (kTile k 1 1).val, 0, 0] := by decide +kernel
theorem off30_eq : ∀ (k : Fin k0_t1_loop.trips), k0_off30 k = ![0, (1 : Fin 4).val, (kTile k 1 1).val, 0, 0] := by decide +kernel
theorem off31_eq : ∀ (k : Fin k0_t1_loop.trips), k0_off31 k = ![0, (2 : Fin 4).val, (kTile k 1 1).val, 0, 0] := by decide +kernel
theorem off32_eq : ∀ (k : Fin k0_t1_loop.trips), k0_off32 k = ![0, (3 : Fin 4).val, (kTile k 1 1).val, 0, 0] := by decide +kernel
theorem off9_eq : ∀ (k : Fin k0_t1_loop.trips), k0_off9 k = ![0, 256 * (oTile k 0).val, 128 * (0 : Fin 2).val] := by decide +kernel
theorem off13_eq : ∀ (k : Fin k0_t1_loop.trips), k0_off13 k = ![0, 256 * (kTile k 1 0).val, 128 * (0 : Fin 2).val] := by decide +kernel
theorem off10_eq : ∀ (k : Fin k0_t1_loop.trips), k0_off10 k = ![0, 256 * (oTile k 0).val, 128 * (1 : Fin 2).val] := by decide +kernel
theorem off14_eq : ∀ (k : Fin k0_t1_loop.trips), k0_off14 k = ![0, 256 * (kTile k 1 0).val, 128 * (1 : Fin 2).val] := by decide +kernel
theorem off11_eq : ∀ (k : Fin k0_t1_loop.trips), k0_off11 k = ![0, 256 * (oTile k 1).val, 128 * (0 : Fin 2).val] := by decide +kernel
theorem off15_eq : ∀ (k : Fin k0_t1_loop.trips), k0_off15 k = ![0, 256 * (kTile k 1 1).val, 128 * (0 : Fin 2).val] := by decide +kernel
theorem off12_eq : ∀ (k : Fin k0_t1_loop.trips), k0_off12 k = ![0, 256 * (oTile k 1).val, 128 * (1 : Fin 2).val] := by decide +kernel
theorem off16_eq : ∀ (k : Fin k0_t1_loop.trips), k0_off16 k = ![0, 256 * (kTile k 1 1).val, 128 * (1 : Fin 2).val] := by decide +kernel

end Cert.KernelIdeal.Sb

end
-- ==== Proof.SbI.Block.lean ====
/-
  What the result block holds, tile by tile: a trip fills its two query tiles with values that read nothing of the
  block, and leaves the others; after the eight trips the block is `outVal`, whatever it held.
-/
module

public import proofs.«01_k».proof.Proof.SbI.Tile
public import Idealize.ShloMosaic.Lib.Pointwise

@[expose] public section

set_option maxRecDepth 16384

noncomputable section

namespace Cert.KernelIdeal.Sb

open Idealize.ShloMosaic Idealize.ShloMosaic.TcCoe
open Cert.KernelIdeal Cert.KernelIdeal.Gen

variable {F : FTy → Type} [FloatOps F] [Named F]

/-- The result tiles, slot by slot and head by head. -/
abbrev Accs (F : FTy → Type) := Fin 2 → Fin 4 → Vec F S1x1x1x64x256 .f32

/-- The result tiles after one step of both slots. -/
def stepA (Q : Qs F) (R : Runs F) (K : Vec F S1x4096x256 .bf16) (V : Vec F S1x4x16x64x256 .bf16) (T : Vec F S256x512 .bf16)
    (n : Fin 2 → Fin 16) (A : Accs F) : Accs F :=
  fun a g => oAdd (tileU (Q a g) K (n a) g) (tileS T (tileU (Q a g) K (n a) g)) (R a g) (vWin V g (n a)) (A a g)

/-- The result tiles after the diagonal tiles. -/
def diagA (Q : Qs F) (K : Vec F S1x4096x256 .bf16) (V : Vec F S1x4x16x64x256 .bf16) (T : Vec F S256x512 .bf16)
    (no : Fin 2 → Fin 16) : Accs F :=
  fun a g => k0_pay47 k0_pay1 (tileU (Q a g) K (no a) g) (diagS T (tileU (Q a g) K (no a) g)) (vWin V g (no a))

/-- The result tiles after at most `n` further steps. -/
def whileA (k : Fin k0_t1_loop.trips) (Q : Qs F) (K : Vec F S1x4096x256 .bf16) (V : Vec F S1x4x16x64x256 .bf16) (T : Vec F S256x512 .bf16) :
    ℕ → ℕ → BitVec 1 → Runs F → Accs F → Accs F
  | 0, _, _, _, A => A
  | n + 1, i, d, R, A =>
    if Scalar.xori d 1#1 = 1#1 then
      whileA k Q K V T n (i + 1) (deadBit (nextRuns Q (spendAt k (BitVec.ofNat 32 i) R) K T (kTile k i)))
        (nextRuns Q (spendAt k (BitVec.ofNat 32 i) R) K T (kTile k i))
        (stepA Q (spendAt k (BitVec.ofNat 32 i) R) K V T (kTile k i) A)
    else A

/-- The result tiles of trip `k`. -/
def tripA (X : Vec F S1x4x16x128x256 .bf16) (K : Vec F S1x4096x256 .bf16) (V : Vec F S1x4x16x64x256 .bf16) (T : Vec F S256x512 .bf16)
    (k : Fin k0_t1_loop.trips) : Accs F :=
  whileA k (tripQ X k) K V T (2 * k.val) 2 (deadBit (tripRuns (tripQ X k) K T k)) (tripRuns (tripQ X k) K T k)
    (stepA (tripQ X k) (spendOne k (diagRuns (tripQ X k) K T (oTile k))) K V T (kTile k 1) (diagA (tripQ X k) K V T (oTile k)))

/-- The trip that fills query tile `t`, and its slot there. -/
def tripOf (t : Fin 16) : Fin k0_t1_loop.trips := ⟨t.val / 2, by show t.val / 2 < 8; omega⟩
def slotOf (t : Fin 16) : Fin 2 := ⟨t.val % 2, by omega⟩

theorem oTile_tripOf (t : Fin 16) : oTile (tripOf t) (slotOf t) = t := Fin.ext (by
  simp only [oTile, tripOf, slotOf]; omega)

/-- The result block. -/
def outVal (X : Vec F S1x4x16x128x256 .bf16) (K : Vec F S1x4096x256 .bf16) (V : Vec F S1x4x16x64x256 .bf16) (T : Vec F S256x512 .bf16) :
    Vec F S1x4x16x64x256 .f32 :=
  fun j => tripA X K V T (tripOf (j 2)) (slotOf (j 2)) (j 1) (ix5 0 0 0 (j 3) (j 4))

/-- The tiles of a trip, read off the block. -/
def tilesOf (k : Fin k0_t1_loop.trips) (O : Vec F S1x4x16x64x256 .f32) : Accs F := fun a g => oWin O g (oTile k a)

theorem oTile_ne (k : Fin k0_t1_loop.trips) {a b : Fin 2} (h : a ≠ b) : oTile k a ≠ oTile k b := fun e => h (Fin.ext (by
  have := congrArg Fin.val e
  simp only [oTile] at this; omega))

theorem oWin_fourHeads (q : Fin 4 → FVec F S128x256 .bf16) (r : Fin 4 → FVec F S1x256 .f32) (K : Vec F S1x4096x256 .bf16) (V : Vec F S1x4x16x64x256 .bf16)
    (T : Vec F S256x512 .bf16) (no n : Fin 16) (O : Vec F S1x4x16x64x256 .f32) (g : Fin 4) :
    oWin (fourHeads q r K V T no n O) g no = oAdd (tileU (q g) K n g) (tileS T (tileU (q g) K n g)) (r g) (vWin V g n) (oWin O g no) := by
  unfold fourHeads oneHead
  fin_cases g <;>
    simp only [Fin.zero_eta, Fin.mk_one, Fin.reduceFinMk, oWin_oPut_same,
      oWin_oPut_head _ _ _ _ _ _ (show (0 : Fin 4) ≠ 1 by decide), oWin_oPut_head _ _ _ _ _ _ (show (0 : Fin 4) ≠ 2 by decide), oWin_oPut_head _ _ _ _ _ _ (show (0 : Fin 4) ≠ 3 by decide),
      oWin_oPut_head _ _ _ _ _ _ (show (1 : Fin 4) ≠ 0 by decide), oWin_oPut_head _ _ _ _ _ _ (show (1 : Fin 4) ≠ 2 by decide), oWin_oPut_head _ _ _ _ _ _ (show (1 : Fin 4) ≠ 3 by decide),
      oWin_oPut_head _ _ _ _ _ _ (show (2 : Fin 4) ≠ 0 by decide), oWin_oPut_head _ _ _ _ _ _ (show (2 : Fin 4) ≠ 1 by decide), oWin_oPut_head _ _ _ _ _ _ (show (2 : Fin 4) ≠ 3 by decide),
      oWin_oPut_head _ _ _ _ _ _ (show (3 : Fin 4) ≠ 0 by decide), oWin_oPut_head _ _ _ _ _ _ (show (3 : Fin 4) ≠ 1 by decide), oWin_oPut_head _ _ _ _ _ _ (show (3 : Fin 4) ≠ 2 by decide)]

theorem oWin_fourHeads_of_ne (q : Fin 4 → FVec F S128x256 .bf16) (r : Fin 4 → FVec F S1x256 .f32) (K : Vec F S1x4096x256 .bf16) (V : Vec F S1x4x16x64x256 .bf16)
    (T : Vec F S256x512 .bf16) (no n : Fin 16) (O : Vec F S1x4x16x64x256 .f32) (g : Fin 4) {t : Fin 16} (h : t ≠ no) :
    oWin (fourHeads q r K V T no n O) g t = oWin O g t := by
  unfold fourHeads oneHead
  simp only [oWin_oPut_tile _ _ _ _ _ _ h]

theorem oWin_diagFour (q : Fin 4 → FVec F S128x256 .bf16) (K : Vec F S1x4096x256 .bf16) (V : Vec F S1x4x16x64x256 .bf16)
    (T : Vec F S256x512 .bf16) (no : Fin 16) (O : Vec F S1x4x16x64x256 .f32) (g : Fin 4) :
    oWin (diagFour q K V T no O) g no = k0_pay47 k0_pay1 (tileU (q g) K no g) (diagS T (tileU (q g) K no g)) (vWin V g no) := by
  unfold diagFour diagHead
  fin_cases g <;>
    simp only [Fin.zero_eta, Fin.mk_one, Fin.reduceFinMk, oWin_oPut_same,
      oWin_oPut_head _ _ _ _ _ _ (show (0 : Fin 4) ≠ 1 by decide), oWin_oPut_head _ _ _ _ _ _ (show (0 : Fin 4) ≠ 2 by decide), oWin_oPut_head _ _ _ _ _ _ (show (0 : Fin 4) ≠ 3 by decide),
      oWin_oPut_head _ _ _ _ _ _ (show (1 : Fin 4) ≠ 2 by decide), oWin_oPut_head _ _ _ _ _ _ (show (1 : Fin 4) ≠ 3 by decide), oWin_oPut_head _ _ _ _ _ _ (show (2 : Fin 4) ≠ 3 by decide)]

theorem oWin_diagFour_of_ne (q : Fin 4 → FVec F S128x256 .bf16) (K : Vec F S1x4096x256 .bf16) (V : Vec F S1x4x16x64x256 .bf16)
    (T : Vec F S256x512 .bf16) (no : Fin 16) (O : Vec F S1x4x16x64x256 .f32) (g : Fin 4) {t : Fin 16} (h : t ≠ no) :
    oWin (diagFour q K V T no O) g t = oWin O g t := by
  unfold diagFour diagHead
  simp only [oWin_oPut_tile _ _ _ _ _ _ h]

variable (k : Fin k0_t1_loop.trips) (Q : Qs F) (K : Vec F S1x4096x256 .bf16) (V : Vec F S1x4x16x64x256 .bf16) (T : Vec F S256x512 .bf16)

theorem tilesOf_stepO (R : Runs F) (n : Fin 2 → Fin 16) (O : Vec F S1x4x16x64x256 .f32) :
    tilesOf k (stepO Q R K V T (oTile k) n O) = stepA Q R K V T n (tilesOf k O) := by
  funext a g
  fin_cases a
  · simp only [tilesOf, stepO, stepA, Fin.zero_eta]
    rw [oWin_fourHeads_of_ne _ _ _ _ _ _ _ _ _ (oTile_ne k (by decide)), oWin_fourHeads]
  · simp only [tilesOf, stepO, stepA, Fin.mk_one]
    rw [oWin_fourHeads, oWin_fourHeads_of_ne _ _ _ _ _ _ _ _ _ (oTile_ne k (by decide))]

theorem oWin_stepO_of_ne (R : Runs F) (n : Fin 2 → Fin 16) (O : Vec F S1x4x16x64x256 .f32) (g : Fin 4) {t : Fin 16} (h : ∀ a, t ≠ oTile k a) :
    oWin (stepO Q R K V T (oTile k) n O) g t = oWin O g t := by
  unfold stepO
  rw [oWin_fourHeads_of_ne _ _ _ _ _ _ _ _ _ (h 1), oWin_fourHeads_of_ne _ _ _ _ _ _ _ _ _ (h 0)]

theorem tilesOf_diagO (O : Vec F S1x4x16x64x256 .f32) : tilesOf k (diagO Q K V T (oTile k) O) = diagA Q K V T (oTile k) := by
  funext a g
  fin_cases a
  · simp only [tilesOf, diagO, diagA, Fin.zero_eta]
    rw [oWin_diagFour_of_ne _ _ _ _ _ _ _ (oTile_ne k (by decide)), oWin_diagFour]
  · simp only [tilesOf, diagO, diagA, Fin.mk_one]
    rw [oWin_diagFour]

theorem oWin_diagO_of_ne (O : Vec F S1x4x16x64x256 .f32) (g : Fin 4) {t : Fin 16} (h : ∀ a, t ≠ oTile k a) :
    oWin (diagO Q K V T (oTile k) O) g t = oWin O g t := by
  unfold diagO
  rw [oWin_diagFour_of_ne _ _ _ _ _ _ _ (h 1), oWin_diagFour_of_ne _ _ _ _ _ _ _ (h 0)]

theorem tilesOf_whileO : ∀ (n i : ℕ) (d : BitVec 1) (R : Runs F) (O : Vec F S1x4x16x64x256 .f32),
    tilesOf k (whileO k Q K V T n i d R O) = whileA k Q K V T n i d R (tilesOf k O)
  | 0, _, _, _, _ => rfl
  | n + 1, i, d, R, O => by
    simp only [whileO, whileA]
    split
    · rw [tilesOf_whileO n, tilesOf_stepO]
    · rfl

theorem oWin_whileO_of_ne : ∀ (n i : ℕ) (d : BitVec 1) (R : Runs F) (O : Vec F S1x4x16x64x256 .f32) (g : Fin 4) {t : Fin 16} (h : ∀ a, t ≠ oTile k a),
    oWin (whileO k Q K V T n i d R O) g t = oWin O g t
  | 0, _, _, _, _, _, _, _ => rfl
  | n + 1, i, d, R, O, g, t, h => by
    simp only [whileO]
    split
    · rw [oWin_whileO_of_ne n _ _ _ _ _ h, oWin_stepO_of_ne _ _ _ _ _ _ _ _ _ h]
    · rfl

theorem tilesOf_tripO (X : Vec F S1x4x16x128x256 .bf16) (O : Vec F S1x4x16x64x256 .f32) : tilesOf k (tripO X K V T k O) = tripA X K V T k := by
  unfold tripO tripO1 tripA
  rw [tilesOf_whileO, tilesOf_stepO, tilesOf_diagO]

theorem oWin_tripO_of_ne (X : Vec F S1x4x16x128x256 .bf16) (O : Vec F S1x4x16x64x256 .f32) (g : Fin 4) {t : Fin 16} (h : ∀ a, t ≠ oTile k a) :
    oWin (tripO X K V T k O) g t = oWin O g t := by
  unfold tripO tripO1
  rw [oWin_whileO_of_ne _ _ _ _ _ _ _ _ _ _ _ h, oWin_stepO_of_ne _ _ _ _ _ _ _ _ _ h, oWin_diagO_of_ne _ _ _ _ _ _ _ h]

/-- After the first `n` trips their query tiles are filled. -/
theorem oWin_blockO (X : Vec F S1x4x16x128x256 .bf16) (O : Vec F S1x4x16x64x256 .f32) (g : Fin 4) (t : Fin 16) :
    ∀ n, n ≤ 8 → t.val < 2 * n → oWin (blockO X K V T O n) g t = tripA X K V T (tripOf t) (slotOf t) g
  | 0, _, h => absurd h (by omega)
  | n + 1, hn, h => by
    have e : blockO X K V T O (n + 1) = tripO X K V T ⟨n, show n < 8 by omega⟩ (blockO X K V T O n) := dif_pos (show n < 8 by omega)
    rw [e]
    by_cases ht : t.val < 2 * n
    · rw [oWin_tripO_of_ne _ _ _ _ _ _ _ (fun a e => by
        have := congrArg Fin.val e; simp only [oTile] at this; omega), oWin_blockO X O g t n (by omega) ht]
    · have hk : (⟨n, show n < 8 by omega⟩ : Fin k0_t1_loop.trips) = tripOf t := Fin.ext (by simp only [tripOf]; omega)
      rw [hk]
      have h2 := congrFun (congrFun (tilesOf_tripO (tripOf t) K V T X (blockO X K V T O n)) (slotOf t)) g
      unfold tilesOf at h2
      rw [oTile_tripOf] at h2
      exact h2

/-- The block read through its tiles. -/
theorem eq_oWin (O : Vec F S1x4x16x64x256 .f32) (j : S1x4x16x64x256.Idx) : O j = oWin O (j 1) (j 2) (ix5 0 0 0 (j 3) (j 4)) := by
  unfold oWin VecWindow.window
  refine congrArg O (funext fun a => Fin.ext ?_)
  fin_cases a <;> simp [ix5] <;> omega

theorem blockO_eq (X : Vec F S1x4x16x128x256 .bf16) (O : Vec F S1x4x16x64x256 .f32) : blockO X K V T O 8 = outVal X K V T := by
  funext j
  rw [eq_oWin (blockO X K V T O 8) j, oWin_blockO K V T X O (j 1) (j 2) 8 le_rfl (by have : (j 2).val < 16 := (j 2).isLt; omega)]
  rfl

end Cert.KernelIdeal.Sb

end
-- ==== Proof.Sb.Core.lean ====
/-
  Stick-breaking weights over the reals: the mass of a logit in both bases, the weight of a key, and the sums over a
  tile of 256 keys that a tiled evaluation forms from the last key to the first.
-/
module

public import Idealize.ShloMosaic.PureOps.Ideal
public import Idealize.ShloMosaic.PureOps.IdealRules

@[expose] public section

noncomputable section

namespace Cert.SbCore

open Idealize.ShloMosaic
open scoped BigOperators

/-- The mass of a natural logit: log(1 + eᶻ), in its stable form. -/
def sp (z : ℝ) : ℝ := max z 0 + Real.log (1 + Real.exp (-|z|))

/-- The mass of a logit in base two. -/
def mass (u : ℝ) : ℝ := max u 0 + Real.log (1 + Real.rpow 2 (-|u|)) * (Real.log 2)⁻¹

theorem rpow_scaled (x : ℝ) : Real.rpow 2 (x * (Real.log 2)⁻¹) = Real.exp x := by
  have h : Real.log 2 ≠ 0 := (Real.log_pos one_lt_two).ne'
  show (2 : ℝ) ^ (x * (Real.log 2)⁻¹) = _
  rw [Real.rpow_def_of_pos two_pos]
  congr 1
  field_simp

theorem mass_scaled (z : ℝ) : mass (z * (Real.log 2)⁻¹) = sp z * (Real.log 2)⁻¹ := by
  have hp : (0 : ℝ) < (Real.log 2)⁻¹ := inv_pos.mpr (Real.log_pos one_lt_two)
  unfold mass sp
  rw [abs_mul, abs_of_pos hp, ← neg_mul, rpow_scaled, add_mul, max_mul_of_nonneg _ _ hp.le, zero_mul]

theorem coe_max (a b : ℝ) : max (a : EReal) (b : EReal) = ((max a b : ℝ) : EReal) :=
  (EReal.coe_strictMono.monotone.map_max).symm

theorem log_coe_pos {x : ℝ} (h : 0 < x) : Ideal.log (x : EReal) = ((Real.log x : ℝ) : EReal) := by
  show (if x ≤ 0 then (⊥ : EReal) else _) = _
  rw [if_neg (not_le.mpr h)]

theorem exp2_coe' (x : ℝ) : Ideal.exp2 (x : EReal) = ((Real.rpow 2 x : ℝ) : EReal) := rfl
theorem exp_coe' (x : ℝ) : Ideal.exp (x : EReal) = ((Real.exp x : ℝ) : EReal) := rfl

theorem rpow_two_pos (x : ℝ) : 0 < Real.rpow 2 x := Real.rpow_pos_of_pos two_pos x

theorem rpow_two_mul (a b : ℝ) : Real.rpow 2 a * Real.rpow 2 b = Real.rpow 2 (a + b) := (Real.rpow_add two_pos a b).symm

theorem mass_ereal (u : ℝ) :
    max (u : EReal) 0 + Ideal.log (1 + Ideal.exp2 (0 - max (u : EReal) (-(u : EReal)))) * (((Real.log 2)⁻¹ : ℝ) : EReal)
      = ((mass u : ℝ) : EReal) := by
  have h1 : (0 : EReal) = ((0 : ℝ) : EReal) := rfl
  have h2 : (1 : EReal) = ((1 : ℝ) : EReal) := rfl
  have h3 : 0 - max u (-u) = -|u| := by rw [zero_sub]; rfl
  have h4 : 0 < 1 + Real.rpow 2 (-|u|) := by have := rpow_two_pos (-|u|); linarith
  rw [h1, h2, ← EReal.coe_neg, coe_max, coe_max, ← EReal.coe_sub, h3, exp2_coe', ← EReal.coe_add, log_coe_pos h4,
    ← EReal.coe_mul, ← EReal.coe_add]
  rfl

/-- The weight of key s for a query at position t, from the logits in base two. -/
def kw (u : ℕ → ℝ) (t s : ℕ) : ℝ := if s < t then Real.rpow 2 (u s - ∑ x ∈ Finset.Ico s t, mass (u x)) else 0

/-- The weight of key s for a query at position t, from the natural logits. -/
def wt (z : ℕ → ℝ) (t s : ℕ) : ℝ := if s < t then Real.exp (z s - ∑ x ∈ Finset.Ico s t, sp (z x)) else 0

theorem kw_scaled (z : ℕ → ℝ) (t s : ℕ) : kw (fun x => z x * (Real.log 2)⁻¹) t s = wt z t s := by
  unfold kw wt
  split
  · rw [← rpow_scaled]
    congr 1
    simp only [mass_scaled, ← Finset.sum_mul, sub_mul]
  · rfl

theorem kw_of_le (u : ℕ → ℝ) {t s : ℕ} (h : t ≤ s) : kw u t s = 0 := if_neg (not_lt.mpr h)

theorem kw_nonneg (u : ℕ → ℝ) (t s : ℕ) : 0 ≤ kw u t s := by
  unfold kw; split
  · exact (rpow_two_pos _).le
  · exact le_rfl

/-- The weighted sum of the values of the keys from lo up to hi. -/
def acc (v : ℕ → EReal) (u : ℕ → ℝ) (t lo hi : ℕ) : EReal := ∑ s ∈ Finset.Ico lo hi, v s * ((kw u t s : ℝ) : EReal)

/-- The mass of the keys from lo up to the query. -/
def run (u : ℕ → ℝ) (t lo : ℕ) : ℝ := ∑ s ∈ Finset.Ico lo t, mass (u s)

theorem sum_tile {M : Type*} [AddCommMonoid M] (f : ℕ → M) (B : ℕ) :
    ∑ j : Fin 256, f (B + j.val) = ∑ s ∈ Finset.Ico B (B + 256), f s := by
  rw [Finset.sum_Ico_eq_sum_range, Nat.add_sub_cancel_left, Finset.sum_range]

theorem sum_coe {ι : Type*} (s : Finset ι) (f : ι → ℝ) : ∑ i ∈ s, (f i : EReal) = ((∑ i ∈ s, f i : ℝ) : EReal) := by
  classical
  induction s using Finset.induction_on with
  | empty => rfl
  | insert a s ha ih => rw [Finset.sum_insert ha, Finset.sum_insert ha, ih, EReal.coe_add]

theorem sum_mul_coe {ι : Type*} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (EReal.coe_nonneg.mpr hc) (EReal.coe_ne_top c), ih]

/-- The suffix sums of a tile by the triangle of ones, the remainders of the rounded masses being zero. -/
theorem suffix_tile (T T' : Fin 256 → EReal) (m : ℕ → ℝ) (B hi : ℕ) (hhi : hi ≤ B + 256) (j : Fin 256)
    (hT : ∀ x, T x = if j ≤ x then 1 else 0) :
    (∑ x : Fin 256, T x * (((if B + x.val < hi then m (B + x.val) else 0 : ℝ)) : EReal))
        + ∑ x : Fin 256, T' x * ((((if B + x.val < hi then m (B + x.val) else 0 : ℝ)) : EReal)
            - (((if B + x.val < hi then m (B + x.val) else 0 : ℝ)) : EReal))
      = ((∑ s ∈ Finset.Ico (B + j.val) hi, m s : ℝ) : EReal) := by
  have h1 : ∀ x : Fin 256, T' x * ((((if B + x.val < hi then m (B + x.val) else 0 : ℝ)) : EReal)
            - (((if B + x.val < hi then m (B + x.val) else 0 : ℝ)) : EReal)) = 0 := by
    intro x
    rw [← EReal.coe_sub, sub_self, EReal.coe_zero, mul_zero]
  have h2 : ∀ x : Fin 256, T x * (((if B + x.val < hi then m (B + x.val) else 0 : ℝ)) : EReal)
      = (((fun s => if B + j.val ≤ s ∧ s < hi then m s else 0) (B + x.val) : ℝ) : EReal) := by
    intro x
    rw [hT]
    by_cases h : j ≤ x
    · have h' : B + j.val ≤ B + x.val := by have : j.val ≤ x.val := h; omega
      simp only [h, if_true, one_mul, h', true_and]
    · have h' : ¬ B + j.val ≤ B + x.val := by have : ¬ j.val ≤ x.val := h; omega
      simp only [h, if_false, zero_mul, h', false_and, EReal.coe_zero]
  rw [Finset.sum_congr rfl (fun x _ => h1 x), Finset.sum_const_zero, add_zero, Finset.sum_congr rfl (fun x _ => h2 x), sum_coe,
    sum_tile (fun s => if B + j.val ≤ s ∧ s < hi then m s else 0) B, ← Finset.sum_filter]
  congr 2
  ext s
  simp only [Finset.mem_filter, Finset.mem_Ico]
  omega

/-- The diagonal tile's weighted values. -/
theorem diag_tile (v : ℕ → EReal) (u : ℕ → ℝ) (B : ℕ) (t : Fin 256) :
    (∑ j : Fin 256, v (B + j.val) * Ideal.exp2 (if j < t then ((u (B + j.val) : ℝ) : EReal)
        - ((∑ s ∈ Finset.Ico (B + j.val) (B + t.val), mass (u s) : ℝ) : EReal) else ⊥))
      = acc v u (B + t.val) B (B + 256) := by
  unfold acc
  rw [← sum_tile (fun s => v s * ((kw u (B + t.val) s : ℝ) : EReal)) B]
  refine Finset.sum_congr rfl fun j _ => congrArg (v (B + j.val) * ·) ?_
  unfold kw
  by_cases h : j < t
  · have h' : B + j.val < B + t.val := by have : j.val < t.val := h; omega
    rw [if_pos h, if_pos h', ← EReal.coe_sub, exp2_coe']
  · have h' : ¬ B + j.val < B + t.val := by have : ¬ j.val < t.val := h; omega
    rw [if_neg h, if_neg h', Ideal.exp2_bot, EReal.coe_zero]

/-- One tile further: the tile's weighted values, discounted by the mass of the keys behind it, are added. -/
theorem step_tile (v : ℕ → EReal) (u : ℕ → ℝ) (B hi t : ℕ) (ht : B + 256 ≤ t) (hh : B + 256 ≤ hi) :
    acc v u t (B + 256) hi
        + (∑ j : Fin 256, v (B + j.val) * Ideal.exp2 (((u (B + j.val) : ℝ) : EReal)
            - ((∑ s ∈ Finset.Ico (B + j.val) (B + 256), mass (u s) : ℝ) : EReal)))
          * Ideal.exp2 (0 - ((run u t (B + 256) : ℝ) : EReal))
      = acc v u t B hi := by
  have h1 : (0 : EReal) - ((run u t (B + 256) : ℝ) : EReal) = ((0 - run u t (B + 256) : ℝ) : EReal) := rfl
  have h2 : (∑ j : Fin 256, v (B + j.val) * Ideal.exp2 (((u (B + j.val) : ℝ) : EReal)
            - ((∑ s ∈ Finset.Ico (B + j.val) (B + 256), mass (u s) : ℝ) : EReal)))
          * ((Real.rpow 2 (0 - run u t (B + 256)) : ℝ) : EReal) = acc v u t B (B + 256) := by
    unfold acc
    rw [sum_mul_coe _ _ (rpow_two_pos _).le, ← sum_tile (fun s => v s * ((kw u t s : ℝ) : EReal)) B]
    refine Finset.sum_congr rfl fun j _ => ?_
    rw [mul_assoc, ← EReal.coe_sub, exp2_coe', ← EReal.coe_mul]
    have hj := j.isLt
    have h' : B + j.val < t := by omega
    congr 2
    unfold kw run
    rw [if_pos h', ← Finset.sum_Ico_consecutive (fun s => mass (u s)) (show B + j.val ≤ B + 256 by omega) ht]
    rw [rpow_two_mul]
    congr 1
    ring
  rw [h1, exp2_coe', h2, add_comm]
  unfold acc
  exact Finset.sum_Ico_consecutive _ (by omega) hh

theorem run_tile (u : ℕ → ℝ) (B t : ℕ) (ht : B + 256 ≤ t) :
    ((run u t (B + 256) : ℝ) : EReal) + ((∑ s ∈ Finset.Ico B (B + 256), mass (u s) : ℝ) : EReal) = ((run u t B : ℝ) : EReal) := by
  unfold run
  rw [← EReal.coe_add, add_comm, Finset.sum_Ico_consecutive _ (by omega) ht]

/-- Keys at and behind the query weigh nothing. -/
theorem acc_all (v : ℕ → EReal) (u : ℕ → ℝ) (t hi N : ℕ) (ht : t ≤ hi) (hN : hi ≤ N) :
    acc v u t 0 hi = ∑ s : Fin N, v s.val * ((kw u t s.val : ℝ) : EReal) := by
  have h0 : ∑ s ∈ Finset.Ico hi N, v s * ((kw u t s : ℝ) : EReal) = 0 := by
    refine Finset.sum_eq_zero fun s hs => ?_
    rw [kw_of_le u (ht.trans (Finset.mem_Ico.mp hs).1), EReal.coe_zero, mul_zero]
  have h1 := Finset.sum_Ico_consecutive (fun s => v s * ((kw u t s : ℝ) : EReal)) (Nat.zero_le hi) hN
  rw [h0, add_zero] at h1
  unfold acc
  rw [h1, ← Finset.range_eq_Ico, Finset.sum_range]

theorem ofBits_eighth : Ideal.ofBits .f32 0x3E000000#32 = ((1 / 8 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

/-- The scale of the queries: one eighth over log 2. -/
theorem scale_eq : Ideal.div (Ideal.ofBits .f32 0x3E000000#32) (Ideal.log (Ideal.ofBits .f32 0x40000000#32))
    = (((1 / 8 : ℝ) * (Real.log 2)⁻¹ : ℝ) : EReal) := by
  rw [ofBits_eighth, ofBits_two, log_coe_pos two_pos, Ideal.div_coe (Real.log_pos one_lt_two).ne', ← EReal.coe_mul, one_div (Real.log 2)]

end Cert.SbCore

end
-- ==== Proof.SbI.Pay.lean ====
/-
  The stick-breaking kernel's steps on extended reals, element by element: logits, masses and their suffix sums, the
  accumulated outputs and the running masses.
-/
module

public import proofs.«01_k».proof.Proof.SbI.Block
public import proofs.«01_k».proof.Proof.Sb.Core
public import Idealize.ShloMosaic.Lib.Pointwise
public import Idealize.ShloMosaic.Lib.ValueIdx

@[expose] public section

set_option maxRecDepth 16384

noncomputable section

namespace Cert.KernelIdeal.Sb

open Cert.KernelIdeal Cert.KernelIdeal.Gen Cert.SbCore
open Idealize.ShloMosaic Idealize.ShloMosaic.TcCoe
open scoped BigOperators

theorem pay4_apply (x : Vec Ideal S1x1x1x128x256 .bf16) (r : Fin 128) (t : Fin 256) :
    k0_pay4 (F := Ideal) x (ix2 r t) = x (ix5 0 0 0 r t) := by
  pointwise [k0_pay4]

theorem pay12_apply (q : FVec Ideal S128x256 .bf16) (w : Vec Ideal S1x256x128 .bf16) (j t : Fin 256) :
    k0_pay12 (F := Ideal) q w (ix2 j t) = ∑ r : Fin 128, w (ix3 0 j r) * q (ix2 r t) := by
  pointwise [k0_pay12]

theorem pay48_apply (S : FVec Ideal S256x256 .f32) (t : Fin 256) :
    k0_pay48 (F := Ideal) S (ix2 0 t) = S (ix2 0 t) := by
  pointwise [k0_pay48]

theorem pay84_apply (u S : FVec Ideal S256x256 .f32) (j t : Fin 256) :
    k0_pay84 (F := Ideal) u S (ix2 j t) = u (ix2 j t) - S (ix2 j t) := by
  pointwise [k0_pay84]

theorem pay86_apply (S : FVec Ideal S256x256 .f32) (r : FVec Ideal S1x256 .f32) (t : Fin 256) :
    k0_pay86 (F := Ideal) S r (ix2 0 t) = r (ix2 0 t) + S (ix2 0 t) := by
  pointwise [k0_pay86]

theorem pay85_apply (r : FVec Ideal S1x256 .f32) (w : FVec Ideal S256x256 .f32) (v : Vec Ideal S1x1x1x64x256 .bf16)
    (o : Vec Ideal S1x1x1x64x256 .f32) (d : Fin 64) (t : Fin 256) :
    k0_pay85 (F := Ideal) r w v o (ix5 0 0 0 d t)
      = o (ix5 0 0 0 d t) + (∑ j : Fin 256, v (ix5 0 0 0 d j) * Ideal.exp2 (w (ix2 j t))) * Ideal.exp2 (0 - r (ix2 0 t)) := by
  pointwise [k0_pay85]
  rfl

theorem named_log2e : Named.named (F := Ideal) (φ := .f32) κ "log2e" 0x3FB8AA3B#32 = (((Real.log 2)⁻¹ : ℝ) : EReal) := rfl
theorem named_mask : Named.named (F := Ideal) (φ := .f32) κ "mask" 0xF149F2CA#32 = (⊥ : EReal) := rfl
theorem named_spent : Named.named (F := Ideal) (φ := .f32) κ "spent" 0x7149F2CA#32 = (⊤ : EReal) := rfl
theorem named_dead : Named.named (F := Ideal) (φ := .f32) κ "dead" 0x43180000#32 = (⊤ : EReal) := rfl

theorem slt_bool {a b : ℕ} (ha : a < 2 ^ 31) (hb : b < 2 ^ 31) : (BitVec.ofNat 32 a).slt (BitVec.ofNat 32 b) = decide (a < b) := by
  rw [BitVec.slt_eq_decide, BitVec.toInt_eq_toNat_of_lt (by rw [BitVec.toNat_ofNat]; omega), BitVec.toInt_eq_toNat_of_lt (by rw [BitVec.toNat_ofNat]; omega),
    BitVec.toNat_ofNat, BitVec.toNat_ofNat, Nat.mod_eq_of_lt (by omega), Nat.mod_eq_of_lt (by omega)]
  simp only [Nat.cast_lt]

theorem slt_of_lt {a b : ℕ} (ha : a < 2 ^ 31) (hb : b < 2 ^ 31) :
    IntOp.cmpi .slt (BitVec.ofNat 32 a) (BitVec.ofNat 32 b) = if a < b then 1#1 else 0#1 := by
  show BitVec.ofBool ((BitVec.ofNat 32 a).slt (BitVec.ofNat 32 b)) = _
  rw [slt_bool ha hb]
  by_cases hab : a < b <;> simp [hab]

theorem pay1_apply (j t : Fin 256) : k0_pay1 (ix2 j t) = if j < t then 1#1 else 0#1 := by
  pointwise [k0_pay1]
  exact slt_of_lt (by have := j.isLt; omega) (by have := t.isLt; omega)

theorem select_ite {α : Type} (c : Prop) [Decidable c] (a b : α) : Scalar.select (if c then 1#1 else 0#1) a b = if c then a else b := by
  by_cases h : c <;> simp [h, Scalar.select]

theorem pay47_apply (u S : FVec Ideal S256x256 .f32) (v : Vec Ideal S1x1x1x64x256 .bf16) (d : Fin 64) (t : Fin 256) :
    k0_pay47 (F := Ideal) k0_pay1 u S v (ix5 0 0 0 d t)
      = ∑ j : Fin 256, v (ix5 0 0 0 d j) * Ideal.exp2 (if j < t then u (ix2 j t) - S (ix2 j t) else ⊥) := by
  pointwise [k0_pay47, pay1_apply]
  simp only [named_mask, select_ite]
  rfl

/-- The table of the suffix sums: its first half holds ones on and right of the diagonal. -/
def Tri (T : Vec Ideal S256x512 .bf16) : Prop :=
  ∀ j x : Fin 256, T (ix2 j ⟨x.val, by omega⟩) = if j ≤ x then (1 : EReal) else 0

theorem pay67_apply (u : FVec Ideal S256x256 .f32) (T : Vec Ideal S256x512 .bf16) (hT : Tri T) (f : ℕ → ℝ) (B : ℕ) (j t : Fin 256)
    (hu : ∀ x : Fin 256, u (ix2 x t) = ((f (B + x.val) : ℝ) : EReal)) :
    k0_pay67 (F := Ideal) u T (ix2 j t) = ((∑ s ∈ Finset.Ico (B + j.val) (B + 256), mass (f s) : ℝ) : EReal) := by
  rw [← suffix_tile (fun x => T (ix2 j ⟨x.val, by omega⟩)) (fun x => T (ix2 j ⟨256 + x.val, by omega⟩)) (fun s => mass (f s)) B (B + 256) le_rfl j (hT j)]
  pointwise [k0_pay67]
  simp only [named_log2e, hu]
  have h : ∀ x : Fin 256, B + x.val < B + 256 := fun x => by omega
  simp only [h, if_true, ← mass_ereal]
  rfl

theorem pay28_apply (u : FVec Ideal S256x256 .f32) (T : Vec Ideal S256x512 .bf16) (hT : Tri T) (f : ℕ → ℝ) (B : ℕ) (j t : Fin 256)
    (hu : ∀ x : Fin 256, u (ix2 x t) = ((f (B + x.val) : ℝ) : EReal)) :
    k0_pay28 (F := Ideal) k0_pay1 u T (ix2 j t) = ((∑ s ∈ Finset.Ico (B + j.val) (B + t.val), mass (f s) : ℝ) : EReal) := by
  rw [← suffix_tile (fun x => T (ix2 j ⟨x.val, by omega⟩)) (fun x => T (ix2 j ⟨256 + x.val, by omega⟩)) (fun s => mass (f s)) B (B + t.val) (by omega) j (hT j)]
  have h : ∀ x : Fin 256, (((if B + x.val < B + t.val then mass (f (B + x.val)) else 0 : ℝ)) : EReal) = if x < t then ((mass (f (B + x.val)) : ℝ) : EReal) else 0 := by
    intro x
    by_cases hx : x < t
    · have : B + x.val < B + t.val := by have : x.val < t.val := hx; omega
      rw [if_pos hx, if_pos this]
    · have : ¬ B + x.val < B + t.val := by have : ¬ x.val < t.val := hx; omega
      rw [if_neg hx, if_neg this, EReal.coe_zero]
  simp only [h]
  pointwise [k0_pay28, pay1_apply]
  simp only [named_log2e, hu, select_ite, mul_ite, mul_zero, ← mass_ereal]
  rfl

end Cert.KernelIdeal.Sb

end
-- ==== Proof.SbI.Value.lean ====
/-
  The result block of a grid point on extended reals: each query's values weighted by the stick-breaking weights of the
  keys before it, whatever order the trips add the tiles in.
-/
module

public import proofs.«01_k».proof.Proof.SbI.Pay

@[expose] public section

set_option maxRecDepth 16384

noncomputable section

namespace Cert.KernelIdeal.Sb

open Cert.KernelIdeal Cert.KernelIdeal.Gen Cert.SbCore
open Idealize.ShloMosaic Idealize.ShloMosaic.TcCoe
open scoped BigOperators

/-! ### The windows, element by element -/

theorem qWin_apply (X : Vec Ideal S1x4x16x128x256 .bf16) (g : Fin 4) (n : Fin 16) (r : Fin 128) (t : Fin 256) :
    qWin X g n (ix5 0 0 0 r t) = X (ix5 0 g n r t) := by
  unfold qWin VecWindow.window
  refine congrArg X (funext fun a => Fin.ext ?_)
  fin_cases a <;> first | rfl | (simp [ix5]; done)

theorem kWin_apply (X : Vec Ideal S1x4096x256 .bf16) (n : Fin 16) (p : Fin 2) (j : Fin 256) (r : Fin 128) :
    kWin X n p (ix3 0 j r) = X (ix3 0 ⟨256 * n.val + j.val, by omega⟩ ⟨128 * p.val + r.val, by omega⟩) := by
  unfold kWin VecWindow.window
  refine congrArg X (funext fun a => Fin.ext ?_)
  fin_cases a <;> first | rfl | (simp [ix3]; done)

theorem vWin_apply (X : Vec Ideal S1x4x16x64x256 .bf16) (g : Fin 4) (n : Fin 16) (d : Fin 64) (t : Fin 256) :
    vWin X g n (ix5 0 0 0 d t) = X (ix5 0 g n d t) := by
  unfold vWin VecWindow.window
  refine congrArg X (funext fun a => Fin.ext ?_)
  fin_cases a <;> first | rfl | (simp [ix5]; done)

/-- The values of a head, key by key. -/
def vals (V : Vec Ideal S1x4x16x64x256 .bf16) (g : Fin 4) (d : Fin 64) (s : ℕ) : EReal :=
  if h : s < 4096 then V (ix5 0 g ⟨s / 256, by omega⟩ d ⟨s % 256, by omega⟩) else 0

theorem vals_tile (V : Vec Ideal S1x4x16x64x256 .bf16) (g : Fin 4) (d : Fin 64) (n : Fin 16) (j : Fin 256) :
    V (ix5 0 g n d j) = vals V g d (256 * n.val + j.val) := by
  have h : 256 * n.val + j.val < 4096 := by omega
  have h1 : (⟨(256 * n.val + j.val) / 256, by omega⟩ : Fin 16) = n := Fin.ext (by show (256 * n.val + j.val) / 256 = n.val; omega)
  have h2 : (⟨(256 * n.val + j.val) % 256, by omega⟩ : Fin 256) = j := Fin.ext (by show (256 * n.val + j.val) % 256 = j.val; omega)
  unfold vals
  rw [dif_pos h, h1, h2]

/-- The logits in base two are the reals `U`: head, query tile, query, key. -/
def Logits (X : Vec Ideal S1x4x16x128x256 .bf16) (K : Vec Ideal S1x4096x256 .bf16) (U : Fin 4 → Fin 16 → Fin 256 → ℕ → ℝ) : Prop :=
  ∀ (g : Fin 4) (n : Fin 16) (t : Fin 256) (s : Fin 4096),
    ∑ r : Fin 128, K (ix3 0 s ⟨128 * (pairOf g).val + r.val, by omega⟩) * X (ix5 0 g n r t) = ((U g n t s.val : ℝ) : EReal)

variable {X : Vec Ideal S1x4x16x128x256 .bf16} {K : Vec Ideal S1x4096x256 .bf16} {V : Vec Ideal S1x4x16x64x256 .bf16}
  {T : Vec Ideal S256x512 .bf16} {U : Fin 4 → Fin 16 → Fin 256 → ℕ → ℝ}

theorem tileU_apply (hU : Logits X K U) (k : Fin k0_t1_loop.trips) (a : Fin 2) (g : Fin 4) (n : Fin 16) (j t : Fin 256) :
    tileU (tripQ X k a g) K n g (ix2 j t) = ((U g (oTile k a) t (256 * n.val + j.val) : ℝ) : EReal) := by
  unfold tileU tripQ
  rw [pay12_apply]
  simp only [pay4_apply, qWin_apply, kWin_apply]
  exact hU g (oTile k a) t ⟨256 * n.val + j.val, by omega⟩

theorem tileS_apply (hU : Logits X K U) (hT : Tri T) (k : Fin k0_t1_loop.trips) (a : Fin 2) (g : Fin 4) (n : Fin 16) (j t : Fin 256) :
    tileS T (tileU (tripQ X k a g) K n g) (ix2 j t)
      = ((∑ s ∈ Finset.Ico (256 * n.val + j.val) (256 * n.val + 256), mass (U g (oTile k a) t s) : ℝ) : EReal) :=
  pay67_apply _ T hT (U g (oTile k a) t) (256 * n.val) j t fun x => tileU_apply hU k a g n x t

theorem diagS_apply (hU : Logits X K U) (hT : Tri T) (k : Fin k0_t1_loop.trips) (a : Fin 2) (g : Fin 4) (n : Fin 16) (j t : Fin 256) :
    diagS T (tileU (tripQ X k a g) K n g) (ix2 j t)
      = ((∑ s ∈ Finset.Ico (256 * n.val + j.val) (256 * n.val + t.val), mass (U g (oTile k a) t s) : ℝ) : EReal) :=
  pay28_apply _ T hT (U g (oTile k a) t) (256 * n.val) j t fun x => tileU_apply hU k a g n x t

/-! ### One step -/

/-- The first key of the tiles that slot `a` of trip `k` has added before step `i`. -/
def lo (k : Fin k0_t1_loop.trips) (i : ℕ) (a : Fin 2) : ℕ := 256 * (2 * k.val + a.val + 1 - i)
/-- The position of a query. -/
def pos (k : Fin k0_t1_loop.trips) (a : Fin 2) (t : Fin 256) : ℕ := 256 * (2 * k.val + a.val) + t.val
def hiK (k : Fin k0_t1_loop.trips) (a : Fin 2) : ℕ := 256 * (2 * k.val + a.val) + 256

/-- What the result tiles hold before step `i`. -/
def AccIs (V : Vec Ideal S1x4x16x64x256 .bf16) (U : Fin 4 → Fin 16 → Fin 256 → ℕ → ℝ) (k : Fin k0_t1_loop.trips) (i : ℕ) (A : Accs Ideal) : Prop :=
  ∀ a g (d : Fin 64) (t : Fin 256), A a g (ix5 0 0 0 d t) = acc (vals V g d) (U g (oTile k a) t) (pos k a t) (lo k i a) (hiK k a)

/-- What the running masses are before step `i`, for the slots with tiles left. -/
def RunIs (U : Fin 4 → Fin 16 → Fin 256 → ℕ → ℝ) (k : Fin k0_t1_loop.trips) (i : ℕ) (R : Runs Ideal) : Prop :=
  ∀ a g (t : Fin 256), i ≤ 2 * k.val + a.val → R a g (ix2 0 t) = ((run (U g (oTile k a) t) (pos k a t) (lo k i a) : ℝ) : EReal)

/-- A slot without tiles left has its mass spent. -/
def SpentIs (k : Fin k0_t1_loop.trips) (i : ℕ) (R : Runs Ideal) : Prop :=
  ∀ a g (t : Fin 256), ¬ i ≤ 2 * k.val + a.val → R a g (ix2 0 t) = (⊤ : EReal)

theorem step_acc (hU : Logits X K U) (hT : Tri T) (k : Fin k0_t1_loop.trips) (i : ℕ) (hi : 1 ≤ i) (R : Runs Ideal) (A : Accs Ideal)
    (hR : RunIs U k i R) (hS : SpentIs k i R) (hA : AccIs V U k i A) :
    AccIs V U k (i + 1) (stepA (tripQ X k) R K V T (kTile k i) A) := by
  intro a g d t
  unfold stepA oAdd
  rw [pay85_apply, hA a g d t]
  simp only [pay84_apply, tileU_apply hU, tileS_apply hU hT, vWin_apply, vals_tile]
  by_cases h : i ≤ 2 * k.val + a.val
  · rw [hR a g t h]
    have e1 : lo k i a = 256 * (kTile k i a).val + 256 := by simp only [lo, kTile]; omega
    have e2 : lo k (i + 1) a = 256 * (kTile k i a).val := by simp only [lo, kTile]; omega
    rw [e1, e2]
    exact step_tile (vals V g d) (U g (oTile k a) t) (256 * (kTile k i a).val) (hiK k a) (pos k a t)
      (by simp only [pos, kTile]; omega) (by simp only [hiK, kTile]; omega)
  · rw [hS a g t h]
    have e1 : lo k (i + 1) a = lo k i a := by simp only [lo]; omega
    have e2 : (0 : EReal) - ⊤ = ⊥ := rfl
    rw [e1, e2, Ideal.exp2_bot, mul_zero, add_zero]

theorem step_run (hU : Logits X K U) (hT : Tri T) (k : Fin k0_t1_loop.trips) (i : ℕ) (hi : 1 ≤ i) (R : Runs Ideal)
    (hR : RunIs U k i R) : RunIs U k (i + 1) (nextRuns (tripQ X k) R K T (kTile k i)) := by
  intro a g t h
  unfold nextRuns runNext
  rw [pay86_apply, tileS_apply hU hT, hR a g t (by omega)]
  have e1 : lo k i a = 256 * (kTile k i a).val + 256 := by simp only [lo, kTile]; omega
  have e2 : lo k (i + 1) a = 256 * (kTile k i a).val := by simp only [lo, kTile]; omega
  rw [e1, e2]
  exact run_tile (U g (oTile k a) t) (256 * (kTile k i a).val) (pos k a t) (by simp only [pos, kTile]; omega)

/-! ### The spent masses -/

theorem twice_trip (k : Fin k0_t1_loop.trips) : Scalar.muli 2#32 (Scf.iv 0#32 1#32 k) = BitVec.ofNat 32 (2 * k.val) := by
  have hk : k.val < 8 := k.isLt
  obtain ⟨k, hk'⟩ := k
  simp only at hk
  interval_cases k <;> rfl

theorem spendOne_zero (k : Fin k0_t1_loop.trips) (R : Runs Ideal) (g : Fin 4) (t : Fin 256) :
    spendOne k R 0 g (ix2 0 t) = if 2 * k.val < 1 then (⊤ : EReal) else R 0 g (ix2 0 t) := by
  have hk : k.val < 8 := k.isLt
  unfold spendOne
  rw [if_pos rfl, twice_trip]
  unfold k0_pay80
  have h : Scalar.cmpi .slt (BitVec.ofNat 32 (2 * k.val)) 1#32 = if 2 * k.val < 1 then 1#1 else 0#1 := slt_of_lt (by omega) (by omega)
  by_cases hc : 2 * k.val < 1
  · rw [if_pos hc] at h ⊢
    simp only [h, Scalar.select, if_true]
    exact named_spent
  · rw [if_neg hc] at h ⊢
    simp only [h, Scalar.select]
    rfl

theorem spendAt_zero (k : Fin k0_t1_loop.trips) (i : ℕ) (hi : i < 100) (R : Runs Ideal) (g : Fin 4) (t : Fin 256) :
    spendAt k (BitVec.ofNat 32 i) R 0 g (ix2 0 t) = if 2 * k.val < i then (⊤ : EReal) else R 0 g (ix2 0 t) := by
  have hk : k.val < 8 := k.isLt
  unfold spendAt
  rw [if_pos rfl, twice_trip]
  unfold k0_pay108
  have h : Scalar.cmpi .sgt (BitVec.ofNat 32 i) (BitVec.ofNat 32 (2 * k.val)) = if 2 * k.val < i then 1#1 else 0#1 :=
    slt_of_lt (a := 2 * k.val) (b := i) (by omega) (by omega)
  by_cases hc : 2 * k.val < i
  · rw [if_pos hc] at h ⊢
    simp only [h, Scalar.select, if_true]
    exact named_spent
  · rw [if_neg hc] at h ⊢
    simp only [h, Scalar.select]
    rfl

theorem spend_runs (k : Fin k0_t1_loop.trips) (i : ℕ) (hi : i ≤ 2 * k.val + 1) (R R' : Runs Ideal)
    (h0 : ∀ g (t : Fin 256), R' 0 g (ix2 0 t) = if 2 * k.val < i then (⊤ : EReal) else R 0 g (ix2 0 t)) (h1 : ∀ g, R' 1 g = R 1 g)
    (hR : RunIs U k i R) : RunIs U k i R' ∧ SpentIs k i R' := by
  constructor
  · intro a g t h
    fin_cases a
    · have h' : ¬ 2 * k.val < i := by have : i ≤ 2 * k.val + 0 := h; omega
      show R' 0 g (ix2 0 t) = _
      rw [h0 g t, if_neg h']
      exact hR 0 g t h
    · show R' 1 g (ix2 0 t) = _
      rw [h1 g]
      exact hR 1 g t h
  · intro a g t h
    fin_cases a
    · have h' : 2 * k.val < i := by have : ¬ i ≤ 2 * k.val + 0 := h; omega
      show R' 0 g (ix2 0 t) = _
      rw [h0 g t, if_pos h']
    · exact absurd (show i ≤ 2 * k.val + 1 from hi) h

theorem deadBit_zero (R : Runs Ideal) : deadBit R = 0#1 := by
  unfold deadBit
  rw [named_dead]
  show Ideal.cmp .ogt _ ⊤ = 0#1
  simp [Ideal.cmp]

/-! ### All steps -/

theorem while_acc (hU : Logits X K U) (hT : Tri T) (k : Fin k0_t1_loop.trips) :
    ∀ (f i : ℕ) (R : Runs Ideal) (A : Accs Ideal), 1 ≤ i → i + f = 2 * k.val + 2 → RunIs U k i R → AccIs V U k i A →
      AccIs V U k (2 * k.val + 2) (whileA k (tripQ X k) K V T f i 0#1 R A)
  | 0, i, R, A, _, h2, _, hA => by
    rw [Nat.add_zero] at h2
    subst h2
    exact hA
  | f + 1, i, R, A, h1, h2, hR, hA => by
    have hk : k.val < 8 := k.isLt
    unfold whileA
    rw [if_pos (by decide), deadBit_zero]
    have hs := spend_runs (U := U) k i (by omega) R (spendAt k (BitVec.ofNat 32 i) R) (spendAt_zero k i (by omega) R)
      (fun g => by unfold spendAt; rw [if_neg (by decide)]) hR
    exact while_acc hU hT k f (i + 1) _ _ (by omega) (by omega) (step_run hU hT k i h1 _ hs.1) (step_acc hU hT k i h1 _ _ hs.1 hs.2 hA)

theorem diag_acc (hU : Logits X K U) (hT : Tri T) (k : Fin k0_t1_loop.trips) :
    AccIs V U k 1 (diagA (tripQ X k) K V T (oTile k)) := by
  intro a g d t
  unfold diagA
  rw [pay47_apply]
  simp only [tileU_apply hU, diagS_apply hU hT, vWin_apply, vals_tile]
  have e1 : lo k 1 a = 256 * (oTile k a).val := by simp only [lo, oTile]; omega
  rw [e1]
  exact diag_tile (vals V g d) (U g (oTile k a) t) (256 * (oTile k a).val) t

theorem diag_run (hU : Logits X K U) (hT : Tri T) (k : Fin k0_t1_loop.trips) :
    RunIs U k 1 (diagRuns (tripQ X k) K T (oTile k)) := by
  intro a g t h
  unfold diagRuns
  rw [pay48_apply, diagS_apply hU hT]
  have e1 : lo k 1 a = 256 * (oTile k a).val := by simp only [lo, oTile]; omega
  rw [e1]
  rfl

theorem trip_acc (hU : Logits X K U) (hT : Tri T) (k : Fin k0_t1_loop.trips) :
    AccIs V U k (2 * k.val + 2) (tripA X K V T k) := by
  unfold tripA
  rw [deadBit_zero]
  have hs := spend_runs (U := U) k 1 (by omega) _ (spendOne k (diagRuns (tripQ X k) K T (oTile k))) (spendOne_zero k _)
      (fun g => by unfold spendOne; rw [if_neg (by decide)]) (diag_run hU hT k)
  exact while_acc hU hT k _ 2 _ _ (by omega) (by omega) (step_run hU hT k 1 le_rfl _ hs.1)
    (step_acc hU hT k 1 le_rfl _ _ hs.1 hs.2 (diag_acc hU hT k))

/-- The result block, element by element. -/
theorem outVal_apply (hU : Logits X K U) (hT : Tri T) (g : Fin 4) (n : Fin 16) (d : Fin 64) (t : Fin 256) :
    outVal X K V T (ix5 0 g n d t)
      = ∑ s : Fin 4096, vals V g d s.val * ((kw (U g n t) (256 * n.val + t.val) s.val : ℝ) : EReal) := by
  have h := trip_acc (V := V) hU hT (tripOf n) (slotOf n) g d t
  rw [oTile_tripOf] at h
  have e : (oTile (tripOf n) (slotOf n)).val = n.val := congrArg Fin.val (oTile_tripOf n)
  have e' : 2 * (tripOf n).val + (slotOf n).val = n.val := e
  have hs := (slotOf n).isLt
  have e1 : lo (tripOf n) (2 * (tripOf n).val + 2) (slotOf n) = 0 := by simp only [lo]; omega
  have e2 : pos (tripOf n) (slotOf n) t = 256 * n.val + t.val := by simp only [pos, e']
  have e3 : hiK (tripOf n) (slotOf n) = 256 * n.val + 256 := by simp only [hiK, e']
  rw [e1, e2, e3, acc_all _ _ _ _ 4096 (by omega) (by omega)] at h
  exact h

end Cert.KernelIdeal.Sb

end
-- ==== Proof.SbI.Norm.lean ====
/-
  The printed payloads that compute the same thing, restated as one: a printed kernel names each use of a helper anew, and
  cuts some where a part of the program ends.
-/
module

public import proofs.«01_k».proof.Proof.Gen.KernelIdeal.Skeleton

@[expose] public section

set_option maxRecDepth 16384

noncomputable section

namespace Cert.KernelIdeal.Sb

open Cert.KernelIdeal Cert.KernelIdeal.Gen
open Idealize.ShloMosaic Idealize.ShloMosaic.TcCoe

variable {F : FTy → Type} [FloatOps F] [Named F]

theorem n5 (z : Vec F S1x1x1x128x256 .bf16) : k0_pay5 z = k0_pay4 z := rfl
theorem n6 (z : Vec F S1x1x1x128x256 .bf16) : k0_pay6 z = k0_pay4 z := rfl
theorem n7 (z : Vec F S1x1x1x128x256 .bf16) : k0_pay7 z = k0_pay4 z := rfl
theorem n8 (z : Vec F S1x1x1x128x256 .bf16) : k0_pay8 z = k0_pay4 z := rfl
theorem n9 (z : Vec F S1x1x1x128x256 .bf16) : k0_pay9 z = k0_pay4 z := rfl
theorem n10 (z : Vec F S1x1x1x128x256 .bf16) : k0_pay10 z = k0_pay4 z := rfl
theorem n11 (z : Vec F S1x1x1x128x256 .bf16) : k0_pay11 z = k0_pay4 z := rfl
theorem n13 (q : FVec F S128x256 .bf16) (kk : Vec F S1x256x128 .bf16) : k0_pay13 q kk = k0_pay12 q kk := rfl
theorem n14 (q : FVec F S128x256 .bf16) (kk : Vec F S1x256x128 .bf16) : k0_pay14 q kk = k0_pay12 q kk := rfl
theorem n15 (q : FVec F S128x256 .bf16) (kk : Vec F S1x256x128 .bf16) : k0_pay15 q kk = k0_pay12 q kk := rfl
theorem n16 (q : FVec F S128x256 .bf16) (kk : Vec F S1x256x128 .bf16) : k0_pay16 q kk = k0_pay12 q kk := rfl
theorem n17 (q : FVec F S128x256 .bf16) (kk : Vec F S1x256x128 .bf16) : k0_pay17 q kk = k0_pay12 q kk := rfl
theorem n18 (q : FVec F S128x256 .bf16) (kk : Vec F S1x256x128 .bf16) : k0_pay18 q kk = k0_pay12 q kk := rfl
theorem n19 (q : FVec F S128x256 .bf16) (kk : Vec F S1x256x128 .bf16) : k0_pay19 q kk = k0_pay12 q kk := rfl
theorem n20 (q : FVec F S128x256 .bf16) (kk : Vec F S1x256x128 .bf16) : k0_pay20 q kk = k0_pay12 q kk := rfl
theorem n21 (q : FVec F S128x256 .bf16) (kk : Vec F S1x256x128 .bf16) : k0_pay21 q kk = k0_pay12 q kk := rfl
theorem n22 (q : FVec F S128x256 .bf16) (kk : Vec F S1x256x128 .bf16) : k0_pay22 q kk = k0_pay12 q kk := rfl
theorem n23 (q : FVec F S128x256 .bf16) (kk : Vec F S1x256x128 .bf16) : k0_pay23 q kk = k0_pay12 q kk := rfl
theorem n24 (q : FVec F S128x256 .bf16) (kk : Vec F S1x256x128 .bf16) : k0_pay24 q kk = k0_pay12 q kk := rfl
theorem n25 (q : FVec F S128x256 .bf16) (kk : Vec F S1x256x128 .bf16) : k0_pay25 q kk = k0_pay12 q kk := rfl
theorem n26 (q : FVec F S128x256 .bf16) (kk : Vec F S1x256x128 .bf16) : k0_pay26 q kk = k0_pay12 q kk := rfl
theorem n27 (q : FVec F S128x256 .bf16) (kk : Vec F S1x256x128 .bf16) : k0_pay27 q kk = k0_pay12 q kk := rfl
theorem n112 (q : FVec F S128x256 .bf16) (kk : Vec F S1x256x128 .bf16) : k0_pay112 q kk = k0_pay12 q kk := rfl
theorem n113 (q : FVec F S128x256 .bf16) (kk : Vec F S1x256x128 .bf16) : k0_pay113 q kk = k0_pay12 q kk := rfl
theorem n114 (q : FVec F S128x256 .bf16) (kk : Vec F S1x256x128 .bf16) : k0_pay114 q kk = k0_pay12 q kk := rfl
theorem n115 (q : FVec F S128x256 .bf16) (kk : Vec F S1x256x128 .bf16) : k0_pay115 q kk = k0_pay12 q kk := rfl
theorem n116 (q : FVec F S128x256 .bf16) (kk : Vec F S1x256x128 .bf16) : k0_pay116 q kk = k0_pay12 q kk := rfl
theorem n117 (q : FVec F S128x256 .bf16) (kk : Vec F S1x256x128 .bf16) : k0_pay117 q kk = k0_pay12 q kk := rfl
theorem n118 (q : FVec F S128x256 .bf16) (kk : Vec F S1x256x128 .bf16) : k0_pay118 q kk = k0_pay12 q kk := rfl
theorem n119 (q : FVec F S128x256 .bf16) (kk : Vec F S1x256x128 .bf16) : k0_pay119 q kk = k0_pay12 q kk := rfl
theorem n31 (m : IVec S256x256 1) (u : FVec F S256x256 .f32) (t : Vec F S256x512 .bf16) : k0_pay31 m u t = k0_pay28 m u t := rfl
theorem n34 (m : IVec S256x256 1) (u : FVec F S256x256 .f32) (t : Vec F S256x512 .bf16) : k0_pay34 m u t = k0_pay28 m u t := rfl
theorem n37 (m : IVec S256x256 1) (u : FVec F S256x256 .f32) (t : Vec F S256x512 .bf16) : k0_pay37 m u t = k0_pay28 m u t := rfl
theorem n30 (m : IVec S256x256 1) (u : FVec F S256x256 .f32) (t : Vec F S256x512 .bf16) : k0_pay30 m (k0_pay29 u) (Scalar.ofBits .f32 0x00000000#32) t = k0_pay28 m u t := rfl
theorem n33 (m : IVec S256x256 1) (u : FVec F S256x256 .f32) (t : Vec F S256x512 .bf16) : k0_pay33 m (k0_pay32 u) (Scalar.ofBits .f32 0x00000000#32) t = k0_pay28 m u t := rfl
theorem n36 (m : IVec S256x256 1) (u : FVec F S256x256 .f32) (t : Vec F S256x512 .bf16) : k0_pay36 m (k0_pay35 u) (Scalar.ofBits .f32 0x00000000#32) t = k0_pay28 m u t := rfl
theorem n39 (m : IVec S256x256 1) (u : FVec F S256x256 .f32) (t : Vec F S256x512 .bf16) : k0_pay39 m (k0_pay38 u) (Scalar.ofBits .f32 0x00000000#32) t = k0_pay28 m u t := rfl
theorem n51 (S : FVec F S256x256 .f32) : k0_pay51 S (k0_pay40 (F := F)) = k0_pay48 S := rfl
theorem n53 (S : FVec F S256x256 .f32) : k0_pay53 S (k0_pay41 (F := F)) = k0_pay48 S := rfl
theorem n57 (S : FVec F S256x256 .f32) : k0_pay57 S (k0_pay42 (F := F)) = k0_pay48 S := rfl
theorem n59 (S : FVec F S256x256 .f32) : k0_pay59 S (k0_pay43 (F := F)) = k0_pay48 S := rfl
theorem n62 (S : FVec F S256x256 .f32) : k0_pay62 S (k0_pay44 (F := F)) = k0_pay48 S := rfl
theorem n64 (S : FVec F S256x256 .f32) : k0_pay64 S (k0_pay45 (F := F)) = k0_pay48 S := rfl
theorem n66 (S : FVec F S256x256 .f32) : k0_pay66 S (k0_pay46 (F := F)) = k0_pay48 S := rfl
theorem n50 (m : IVec S256x256 1) (u : FVec F S256x256 .f32) (S : FVec F S256x256 .f32) (v : Vec F S1x1x1x64x256 .bf16) : k0_pay50 (k0_pay49 m u S) v = k0_pay47 m u S v := rfl
theorem n52 (m : IVec S256x256 1) (u : FVec F S256x256 .f32) (S : FVec F S256x256 .f32) (v : Vec F S1x1x1x64x256 .bf16) : k0_pay52 m u S v = k0_pay47 m u S v := rfl
theorem n58 (m : IVec S256x256 1) (u : FVec F S256x256 .f32) (S : FVec F S256x256 .f32) (v : Vec F S1x1x1x64x256 .bf16) : k0_pay58 m u S v = k0_pay47 m u S v := rfl
theorem n63 (m : IVec S256x256 1) (u : FVec F S256x256 .f32) (S : FVec F S256x256 .f32) (v : Vec F S1x1x1x64x256 .bf16) : k0_pay63 m u S v = k0_pay47 m u S v := rfl
theorem n65 (m : IVec S256x256 1) (u : FVec F S256x256 .f32) (S : FVec F S256x256 .f32) (v : Vec F S1x1x1x64x256 .bf16) : k0_pay65 m u S v = k0_pay47 m u S v := rfl
theorem n56 (m : IVec S256x256 1) (u : FVec F S256x256 .f32) (S : FVec F S256x256 .f32) (v : Vec F S1x1x1x64x256 .bf16) : k0_pay56 (k0_pay54 v) (k0_pay55 m u S) = k0_pay47 m u S v := rfl
theorem n61 (m : IVec S256x256 1) (u : FVec F S256x256 .f32) (S : FVec F S256x256 .f32) (v : Vec F S1x1x1x64x256 .bf16) : k0_pay61 (k0_pay60 m u S v) = k0_pay47 m u S v := rfl
theorem n68 (u : FVec F S256x256 .f32) (t : Vec F S256x512 .bf16) : k0_pay68 u t = k0_pay67 u t := rfl
theorem n71 (u : FVec F S256x256 .f32) (t : Vec F S256x512 .bf16) : k0_pay71 u t = k0_pay67 u t := rfl
theorem n75 (u : FVec F S256x256 .f32) (t : Vec F S256x512 .bf16) : k0_pay75 u t = k0_pay67 u t := rfl
theorem n79 (u : FVec F S256x256 .f32) (t : Vec F S256x512 .bf16) : k0_pay79 u t = k0_pay67 u t := rfl
theorem n120 (u : FVec F S256x256 .f32) (t : Vec F S256x512 .bf16) : k0_pay120 u t = k0_pay67 u t := rfl
theorem n124 (u : FVec F S256x256 .f32) (t : Vec F S256x512 .bf16) : k0_pay124 u t = k0_pay67 u t := rfl
theorem n129 (u : FVec F S256x256 .f32) (t : Vec F S256x512 .bf16) : k0_pay129 u t = k0_pay67 u t := rfl
theorem n133 (u : FVec F S256x256 .f32) (t : Vec F S256x512 .bf16) : k0_pay133 u t = k0_pay67 u t := rfl
theorem n134 (u : FVec F S256x256 .f32) (t : Vec F S256x512 .bf16) : k0_pay134 u t = k0_pay67 u t := rfl
theorem n70 (u : FVec F S256x256 .f32) (t : Vec F S256x512 .bf16) : k0_pay70 u (k0_pay69 u) t = k0_pay67 u t := rfl
theorem n74 (u : FVec F S256x256 .f32) (t : Vec F S256x512 .bf16) : k0_pay74 (k0_pay72 u) (k0_pay73 u) (Scalar.ofBits .f32 0x3F800000#32) t = k0_pay67 u t := rfl
theorem n78 (u : FVec F S256x256 .f32) (t : Vec F S256x512 .bf16) : k0_pay78 (k0_pay76 u) (k0_pay77 u) t = k0_pay67 u t := rfl
theorem n123 (u : FVec F S256x256 .f32) (t : Vec F S256x512 .bf16) : k0_pay123 (k0_pay121 u) (k0_pay122 u) (Named.named κ "log2e" 0x3FB8AA3B#32) t = k0_pay67 u t := rfl
theorem n128 (u : FVec F S256x256 .f32) (t : Vec F S256x512 .bf16) : k0_pay128 (k0_pay126 u) (k0_pay127 u) t = k0_pay67 u t := rfl
theorem n132 (u : FVec F S256x256 .f32) (t : Vec F S256x512 .bf16) : k0_pay132 (k0_pay130 t) (k0_pay131 u) = k0_pay67 u t := rfl
theorem n81 (s : BitVec 32) (r : FVec F S1x256 .f32) : k0_pay81 s r = k0_pay80 s r := rfl
theorem n82 (s : BitVec 32) (r : FVec F S1x256 .f32) : k0_pay82 s r = k0_pay80 s r := rfl
theorem n83 (s : BitVec 32) (r : FVec F S1x256 .f32) : k0_pay83 s r = k0_pay80 s r := rfl
theorem n109 (s w : BitVec 32) (r : FVec F S1x256 .f32) : k0_pay109 s r w = k0_pay108 s r w := rfl
theorem n110 (s w : BitVec 32) (r : FVec F S1x256 .f32) : k0_pay110 s r w = k0_pay108 s r w := rfl
theorem n111 (s w : BitVec 32) (r : FVec F S1x256 .f32) : k0_pay111 s r w = k0_pay108 s r w := rfl
theorem n98 (u : FVec F S256x256 .f32) (S : FVec F S256x256 .f32) : k0_pay98 u S = k0_pay84 u S := rfl
theorem n135 (u : FVec F S256x256 .f32) (S : FVec F S256x256 .f32) : k0_pay135 u S = k0_pay84 u S := rfl
theorem n89 (S : FVec F S256x256 .f32) (r : FVec F S1x256 .f32) : k0_pay89 S r = k0_pay86 S r := rfl
theorem n91 (S : FVec F S256x256 .f32) (r : FVec F S1x256 .f32) : k0_pay91 S r = k0_pay86 S r := rfl
theorem n95 (S : FVec F S256x256 .f32) (r : FVec F S1x256 .f32) : k0_pay95 S r = k0_pay86 S r := rfl
theorem n97 (S : FVec F S256x256 .f32) (r : FVec F S1x256 .f32) : k0_pay97 r S = k0_pay86 S r := rfl
theorem n100 (S : FVec F S256x256 .f32) (r : FVec F S1x256 .f32) : k0_pay100 r S = k0_pay86 S r := rfl
theorem n104 (S : FVec F S256x256 .f32) (r : FVec F S1x256 .f32) : k0_pay104 r S = k0_pay86 S r := rfl
theorem n106 (S : FVec F S256x256 .f32) (r : FVec F S1x256 .f32) : k0_pay106 r S = k0_pay86 S r := rfl
theorem n137 (S : FVec F S256x256 .f32) (r : FVec F S1x256 .f32) : k0_pay137 r S = k0_pay86 S r := rfl
theorem n140 (S : FVec F S256x256 .f32) (r : FVec F S1x256 .f32) : k0_pay140 r S = k0_pay86 S r := rfl
theorem n142 (S : FVec F S256x256 .f32) (r : FVec F S1x256 .f32) : k0_pay142 r S = k0_pay86 S r := rfl
theorem n145 (S : FVec F S256x256 .f32) (r : FVec F S1x256 .f32) : k0_pay145 r S = k0_pay86 S r := rfl
theorem n150 (S : FVec F S256x256 .f32) (r : FVec F S1x256 .f32) : k0_pay150 r S = k0_pay86 S r := rfl
theorem n153 (S : FVec F S256x256 .f32) (r : FVec F S1x256 .f32) : k0_pay153 r S = k0_pay86 S r := rfl
theorem n155 (S : FVec F S256x256 .f32) (r : FVec F S1x256 .f32) : k0_pay155 r S = k0_pay86 S r := rfl
theorem n148 (S : FVec F S256x256 .f32) (r : FVec F S1x256 .f32) : k0_pay148 r (k0_pay147 S) = k0_pay86 S r := rfl
theorem n85b (x : FVec F S256x256 .f32) (r : FVec F S1x256 .f32) (v : Vec F S1x1x1x64x256 .bf16) (o : Vec F S1x1x1x64x256 .f32) : k0_pay136 r x v o = k0_pay85 r x v o := rfl
theorem n99 (x : FVec F S256x256 .f32) (r : FVec F S1x256 .f32) (v : Vec F S1x1x1x64x256 .bf16) (o : Vec F S1x1x1x64x256 .f32) : k0_pay99 r x v o = k0_pay85 r x v o := rfl
theorem n88 (u : FVec F S256x256 .f32) (S : FVec F S256x256 .f32) (r : FVec F S1x256 .f32) (v : Vec F S1x1x1x64x256 .bf16) (o : Vec F S1x1x1x64x256 .f32) : k0_pay88 (k0_pay87 u S r v o) = k0_pay85 r (k0_pay84 u S) v o := rfl
theorem n90 (u : FVec F S256x256 .f32) (S : FVec F S256x256 .f32) (r : FVec F S1x256 .f32) (v : Vec F S1x1x1x64x256 .bf16) (o : Vec F S1x1x1x64x256 .f32) : k0_pay90 u S r v o = k0_pay85 r (k0_pay84 u S) v o := rfl
theorem n94 (u : FVec F S256x256 .f32) (S : FVec F S256x256 .f32) (r : FVec F S1x256 .f32) (v : Vec F S1x1x1x64x256 .bf16) (o : Vec F S1x1x1x64x256 .f32) : k0_pay94 (k0_pay92 u S v) (k0_pay93 r) o = k0_pay85 r (k0_pay84 u S) v o := rfl
theorem n96 (u : FVec F S256x256 .f32) (S : FVec F S256x256 .f32) (r : FVec F S1x256 .f32) (v : Vec F S1x1x1x64x256 .bf16) (o : Vec F S1x1x1x64x256 .f32) : k0_pay96 u r S v o = k0_pay85 r (k0_pay84 u S) v o := rfl
theorem n103 (u : FVec F S256x256 .f32) (S : FVec F S256x256 .f32) (r : FVec F S1x256 .f32) (v : Vec F S1x1x1x64x256 .bf16) (o : Vec F S1x1x1x64x256 .f32) : k0_pay103 (k0_pay101 u r S v) (k0_pay102 o) = k0_pay85 r (k0_pay84 u S) v o := rfl
theorem n105 (u : FVec F S256x256 .f32) (S : FVec F S256x256 .f32) (r : FVec F S1x256 .f32) (v : Vec F S1x1x1x64x256 .bf16) (o : Vec F S1x1x1x64x256 .f32) : k0_pay105 u r S v o = k0_pay85 r (k0_pay84 u S) v o := rfl
theorem n139 (u : FVec F S256x256 .f32) (S : FVec F S256x256 .f32) (r : FVec F S1x256 .f32) (v : Vec F S1x1x1x64x256 .bf16) (o : Vec F S1x1x1x64x256 .f32) : k0_pay139 (k0_pay138 r u S v o) = k0_pay85 r (k0_pay84 u S) v o := rfl
theorem n141 (u : FVec F S256x256 .f32) (S : FVec F S256x256 .f32) (r : FVec F S1x256 .f32) (v : Vec F S1x1x1x64x256 .bf16) (o : Vec F S1x1x1x64x256 .f32) : k0_pay141 r u S v o = k0_pay85 r (k0_pay84 u S) v o := rfl
theorem n144 (u : FVec F S256x256 .f32) (S : FVec F S256x256 .f32) (r : FVec F S1x256 .f32) (v : Vec F S1x1x1x64x256 .bf16) (o : Vec F S1x1x1x64x256 .f32) : k0_pay144 r (k0_pay143 u S v) (Scalar.ofBits .f32 0x00000000#32) o = k0_pay85 r (k0_pay84 u S) v o := rfl
theorem n146 (u : FVec F S256x256 .f32) (S : FVec F S256x256 .f32) (r : FVec F S1x256 .f32) (v : Vec F S1x1x1x64x256 .bf16) (o : Vec F S1x1x1x64x256 .f32) : k0_pay146 r u S v o = k0_pay85 r (k0_pay84 u S) v o := rfl
theorem n149 (u : FVec F S256x256 .f32) (S : FVec F S256x256 .f32) (r : FVec F S1x256 .f32) (v : Vec F S1x1x1x64x256 .bf16) (o : Vec F S1x1x1x64x256 .f32) : k0_pay149 r u S v o = k0_pay85 r (k0_pay84 u S) v o := rfl
theorem n152 (u : FVec F S256x256 .f32) (S : FVec F S256x256 .f32) (r : FVec F S1x256 .f32) (v : Vec F S1x1x1x64x256 .bf16) (o : Vec F S1x1x1x64x256 .f32) : k0_pay152 (k0_pay151 r u S v) o = k0_pay85 r (k0_pay84 u S) v o := rfl
theorem n154 (u : FVec F S256x256 .f32) (S : FVec F S256x256 .f32) (r : FVec F S1x256 .f32) (v : Vec F S1x1x1x64x256 .bf16) (o : Vec F S1x1x1x64x256 .f32) : k0_pay154 r u S v o = k0_pay85 r (k0_pay84 u S) v o := rfl
theorem n156 (r : FVec F S1x256 .f32) (S : FVec F S256x256 .f32) (a b c d e f : FVec F S1x256 .f32) : k0_pay156 r S a b c d e f = minimumf (minimumf (minimumf (minimumf (minimumf (minimumf a b) c) d) e) f) (k0_pay86 S r) := rfl
theorem n107 (r r' : FVec F S1x256 .f32) (S S' : FVec F S256x256 .f32) (a b c d e f : FVec F S1x256 .f32) :
    k0_pay2 (k0_pay107 r r' S S' a b c d e f) = k0_pay3 (k0_pay86 S' r') (minimumf (minimumf (minimumf (minimumf (minimumf (minimumf a b) c) d) e) f) (k0_pay86 S r)) := rfl

end Cert.KernelIdeal.Sb

end
-- ==== Proof.Sb.Hold.lean ====
/-
  A buffer held by the value it reads: loading a window of it, and storing over a window of it.
-/
module

public import Idealize.ShloMosaic.Lib.VecWindow
public import Idealize.ShloMosaic.Lib.Memref
public import Idealize.ShloMosaic.Lib.Tactic

@[expose] public section

noncomputable section

namespace Cert.Hold

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {Val : EltTy → Type} {Name : Type} [DecidableEq Name]
variable {U : Type} [URA U]
variable {Lvl : Type} {Λ : Labels}
variable [Preorder Lvl] {defs : Defs nD τ sig Val Λ} (𝒱 : Variants) (c : Thread nD τ)
variable (bd : Option 𝒱.V) (E : Set Name)
variable {cs : CoreSpace} {s : Shape} {e : EltTy}
variable {α : Type} {Q : α → sProp (MT nD τ sig Ix Val Name U Lvl)}

local notation "𝕄" => MT nD τ sig Ix Val Name U Lvl

/-- A memref whose view covers its buffer, held whole at contents that read `X`. -/
def own (m : Memref sig c.2.kind cs s e) (X : s.Idx → Val e) : sProp 𝕄 :=
  iprop(∃ f, ⌜m.view.read Val f = X⌝ ∗ (m.view.loc c ↦{fullShare} f))

/-- Loading a unit-stride window, at offsets given by an equal tuple: the window of the value held. -/
theorem wp_ld {m : Memref sig c.2.kind cs s e} {X : s.Idx → Val e} {off off' size : Fin s.rank → ℕ}
    {inb : ∀ a, off a + size a ≤ s.size a} {hl : m.view.LoadsAt (Rect.unit off size inb).toLoadRect}
    {k : ((Rect.unit off size inb).toLoadRect.shape.Idx → Val e) → Prog (TpuEff nD τ sig Val Λ c.2) α}
    (h : off = off') (inb' : ∀ a, off' a + size a ≤ s.size a) :
    own (Ix := Ix) (Name := Name) (U := U) (Lvl := Lvl) c m X
      ⊢ iprop((own c m X -∗ wp frame (wpE defs 𝒱 c bd) E (k (VecWindow.window X off' size inb')) Q)
        -∗ wp frame (wpE defs 𝒱 c bd) E (.op (.load m (Rect.unit off size inb).toLoadRect hl) k) Q) := by
  subst h
  unfold own
  iintro ⟨%f, %hf, H⟩ Hk
  iapply (wp_load 𝒱 c bd E (m := m) (Finset.subset_univ _)) $$ H
  iintro H
  have e1 : m.view.readAt Val (Rect.unit off size inb).toLoadRect f = VecWindow.window X off size inb' := by
    rw [View.readAt_unit m.view f inb rfl inb', hf]
  rw [e1]
  iapply Hk
  iexists f
  isplitr
  · ipureintro; exact hf
  · iexact H

/-- Loading a memref's own sizes: the value held. -/
theorem wp_ldf {m : Memref sig c.2.kind cs s e} {X : s.Idx → Val e} {off : Fin s.rank → ℕ}
    {inb : ∀ a, off a + s.size a ≤ s.size a} {hl : m.view.LoadsAt (Rect.unit off s.size inb).toLoadRect}
    {k : ((Rect.unit off s.size inb).toLoadRect.shape.Idx → Val e) → Prog (TpuEff nD τ sig Val Λ c.2) α} :
    own (Ix := Ix) (Name := Name) (U := U) (Lvl := Lvl) c m X
      ⊢ iprop((own c m X -∗ wp frame (wpE defs 𝒱 c bd) E (k X) Q)
        -∗ wp frame (wpE defs 𝒱 c bd) E (.op (.load m (Rect.unit off s.size inb).toLoadRect hl) k) Q) := by
  unfold own
  iintro ⟨%f, %hf, H⟩ Hk
  iapply (wp_load 𝒱 c bd E (m := m) (Finset.subset_univ _)) $$ H
  iintro H
  have e1 : m.view.readAt Val (Rect.unit off s.size inb).toLoadRect f = X := by
    rw [View.readAt_full m.view f inb, hf]
  rw [e1]
  iapply Hk
  iexists f
  isplitr
  · ipureintro; exact hf
  · iexact H

/-- Storing over a unit-stride window, at offsets given by an equal tuple: the value held with the payload put there. -/
theorem wp_st {m : Memref sig c.2.kind cs s e} {X : s.Idx → Val e} {off off' size : Fin s.rank → ℕ}
    {inb : ∀ a, off a + size a ≤ s.size a} {w : (Rect.unit off size inb).shape.Idx → Val e}
    {hx : (m.access (Rect.unit off size inb)).Stores Finset.univ} {hm}
    {k : PUnit → Prog (TpuEff nD τ sig Val Λ c.2) α}
    (h : off = off') :
    own (Ix := Ix) (Name := Name) (U := U) (Lvl := Lvl) c m X
      ⊢ iprop((own c m (VecWindow.put X off' size w) -∗ wp frame (wpE defs 𝒱 c bd) E (k ⟨⟩) Q)
        -∗ wp frame (wpE defs 𝒱 c bd) E (.op (.store m (Rect.unit off size inb) w Finset.univ hx hm) k) Q) := by
  subst h
  unfold own
  iintro ⟨%f, %hf, H⟩ Hk
  iapply (wp_store 𝒱 c bd E (m := m) (r := Rect.unit off size inb) (Mk := Finset.univ) (Finset.subset_univ _)) $$ H
  iintro H
  iapply Hk
  iexists ((m.access (Rect.unit off size inb)).write Val f w Finset.univ)
  isplitr
  · ipureintro
    have := View.read_writes_cons_put (Val := Val) m.view f inb w [] rfl
    rw [View.writes_nil, hf] at this
    exact this
  · iexact H

end Cert.Hold

end
-- ==== Proof.SbI.Trip.lean ====
/-
  One trip of the stick-breaking kernel's while loop: holding the four arrays by value, it adds one key tile's part to each
  of the two query tiles' result tiles and calls the loop again with the masses one tile further.
-/
module

public import proofs.«01_k».proof.Proof.SbI.Tile
public import proofs.«01_k».proof.Proof.SbI.Norm
public import proofs.«01_k».proof.Proof.Sb.Hold
public import proofs.«01_k».proof.Proof.Gen.KernelIdeal.Launch
public import Idealize.ShloMosaic.Lib.Tactic
public import Idealize.ShloMosaic.Lib.Pipeline.Kit

@[expose] public section

set_option maxRecDepth 16384

noncomputable section

namespace Cert.KernelIdeal.Sb

open Cert.KernelIdeal Cert.KernelIdeal.Gen Cert.Hold
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The loop's variants: the trips still to run. -/
abbrev 𝒱₀ : Variants := Variants.nat

variable (c : Dev nD) (i : grid0.Coords) (k : Fin k0_t1_loop.trips)
  (arg3 : Memref sig .tc .vmem S1x4096x256 .bf16) (harg3 : arg3.IsWhole) (arg5 : Memref sig .tc .vmem S256x512 .bf16) (harg5 : arg5.IsWhole)
  (arg4 : Memref sig .tc .vmem S1x4x16x64x256 .bf16) (harg4 : arg4.IsWhole) (arg6 : Memref sig .tc .vmem S1x4x16x64x256 .f32) (harg6 : arg6.IsWhole)
  (K : Vec F S1x4096x256 .bf16) (V : Vec F S1x4x16x64x256 .bf16) (T : Vec F S256x512 .bf16)

/-- The keys, the values, the table and the result block, held by value. -/
def held (O : Vec F S1x4x16x64x256 .f32) : sProp 𝕄 :=
  iprop(own (c : Thread nD τ) arg3 K ∗ own (c : Thread nD τ) arg4 V ∗ own (c : Thread nD τ) arg5 T ∗ own (c : Thread nD τ) arg6 O)

/-- The loop's label on the state: counter, stopping bit and masses. -/
abbrev args (Q : Qs F) (s : BitVec 32) (d : BitVec 1) (R : Runs F) : (Λ₀ F).Args (1 : (Λ₀ F).Label) :=
  ⟨i, k, arg3, harg3, Q 0 0, Q 0 1, Q 0 2, Q 0 3, Q 1 0, Q 1 1, Q 1 2, Q 1 3, arg5, harg5, arg4, harg4, arg6, harg6, s, d,
    R 0 0, R 0 1, R 0 2, R 0 3, R 1 0, R 1 1, R 1 2, R 1 3⟩

set_option maxHeartbeats 4000000 in
theorem trip (bd : Option 𝒱₀.V) (E : Set ℕ) (Q : Qs F) (s : Fin 16) (hs : s.val ≤ 2 * k.val + 1) (d : BitVec 1) (R : Runs F)
    (O : Vec F S1x4x16x64x256 .f32)
    (hc : Scalar.andi (Scalar.cmpi .sle (BitVec.ofNat 32 s.val) (Scalar.addi (Scalar.muli 2#32 (Scf.iv 0#32 1#32 k)) 1#32)) (Scalar.xori d 1#1) = 1#1)
    (Φ : (Λ₀ F).Result (1 : (Λ₀ F).Label) → sProp 𝕄) :
    iprop(held c arg3 arg5 arg4 arg6 K V T O
      ∗ (held c arg3 arg5 arg4 arg6 K V T (stepO Q (spendAt k (BitVec.ofNat 32 s.val) R) K V T (oTile k) (kTile k s.val) O)
          -∗ wp frame (wpE (defs₀ (F := F)) 𝒱₀ (c : Thread nD τ) bd) E
              (Prog.lift (.call (1 : (Λ₀ F).Label) (args i k arg3 harg3 arg5 harg5 arg4 harg4 arg6 harg6 Q (Scalar.addi (BitVec.ofNat 32 s.val) 1#32)
                (deadBit (nextRuns Q (spendAt k (BitVec.ofNat 32 s.val) R) K T (kTile k s.val)))
                (nextRuns Q (spendAt k (BitVec.ofNat 32 s.val) R) K T (kTile k s.val))))) Φ))
      ⊢ wp frame (wpE (defs₀ (F := F)) 𝒱₀ (c : Thread nD τ) bd) E
          (cc0_while1 i k arg3 harg3 (Q 0 0) (Q 0 1) (Q 0 2) (Q 0 3) (Q 1 0) (Q 1 1) (Q 1 2) (Q 1 3) arg5 harg5 arg4 harg4 arg6 harg6
            (BitVec.ofNat 32 s.val) d (R 0 0) (R 0 1) (R 0 2) (R 0 3) (R 1 0) (R 1 1) (R 1 2) (R 1 3)) Φ := by
  simp only [cc0_while1_eq_skeleton]; unfold cc0_while1_skel
  simp only [hc, ↓reduceIte, Prog.lift, Prog.bind_op, Prog.bind_ret, Prog.pure_eq_ret, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel, k0_part29_eq_skeleton, k0_part29_skel, k0_part30_eq_skeleton, k0_part30_skel]
  simp only [n112, n113, n114, n115, n116, n117, n118, n119, n120, n124, n129, n133, n134, n123, n128, n132, n109, n110, n111, n135, n137, n140, n142, n145, n150, n153, n155, n148, n85b, n139, n141, n144, n146, n149, n152, n154, n156]
  unfold held
  simp only [stepO, fourHeads, oneHead, oAdd, oPut, oWin, vWin, tileU, tileS, kWin, pairOf0, pairOf1, pairOf2, pairOf3, spendAt, ↓reduceIte, Fin.isValue, one_ne_zero, deadBit, nextRuns, runNext]
  iintro ⟨⟨Hk, Hv, Ht, Ho⟩, Hn⟩
  iapply (wp_assume 𝒱₀ (c : Thread nD τ) bd E (chk1_of k s hs))
  iapply (wp_ld 𝒱₀ (c : Thread nD τ) bd E (off33_eq k s hs) (kInb (kTile k s.val 0) 0)) $$ Hk; iintro Hk
  iapply (wp_ld 𝒱₀ (c : Thread nD τ) bd E (off33_eq k s hs) (kInb (kTile k s.val 0) 0)) $$ Hk; iintro Hk
  iapply (wp_ld 𝒱₀ (c : Thread nD τ) bd E (off34_eq k s hs) (kInb (kTile k s.val 0) 1)) $$ Hk; iintro Hk
  iapply (wp_ld 𝒱₀ (c : Thread nD τ) bd E (off34_eq k s hs) (kInb (kTile k s.val 0) 1)) $$ Hk; iintro Hk
  iapply (wp_ld 𝒱₀ (c : Thread nD τ) bd E (off35_eq k s hs) (kInb (kTile k s.val 1) 0)) $$ Hk; iintro Hk
  iapply (wp_ld 𝒱₀ (c : Thread nD τ) bd E (off35_eq k s hs) (kInb (kTile k s.val 1) 0)) $$ Hk; iintro Hk
  iapply (wp_ld 𝒱₀ (c : Thread nD τ) bd E (off36_eq k s hs) (kInb (kTile k s.val 1) 1)) $$ Hk; iintro Hk
  iapply (wp_ld 𝒱₀ (c : Thread nD τ) bd E (off36_eq k s hs) (kInb (kTile k s.val 1) 1)) $$ Hk; iintro Hk
  iapply (wp_ldf 𝒱₀ (c : Thread nD τ) bd E (m := arg5)) $$ Ht; iintro Ht
  iapply (wp_ldf 𝒱₀ (c : Thread nD τ) bd E (m := arg5)) $$ Ht; iintro Ht
  iapply (wp_ldf 𝒱₀ (c : Thread nD τ) bd E (m := arg5)) $$ Ht; iintro Ht
  iapply (wp_ldf 𝒱₀ (c : Thread nD τ) bd E (m := arg5)) $$ Ht; iintro Ht
  iapply (wp_ldf 𝒱₀ (c : Thread nD τ) bd E (m := arg5)) $$ Ht; iintro Ht
  iapply (wp_ldf 𝒱₀ (c : Thread nD τ) bd E (m := arg5)) $$ Ht; iintro Ht
  iapply (wp_ldf 𝒱₀ (c : Thread nD τ) bd E (m := arg5)) $$ Ht; iintro Ht
  iapply (wp_ldf 𝒱₀ (c : Thread nD τ) bd E (m := arg5)) $$ Ht; iintro Ht
  iapply (wp_ld 𝒱₀ (c : Thread nD τ) bd E (off37_eq k s hs) (oInb 0 (kTile k s.val 0))) $$ Hv; iintro Hv
  iapply (wp_ld 𝒱₀ (c : Thread nD τ) bd E (off38_eq k) (oInb 0 (oTile k 0))) $$ Ho; iintro Ho
  iapply (wp_ld 𝒱₀ (c : Thread nD τ) bd E (off38_eq k) (oInb 0 (oTile k 0))) $$ Ho; iintro Ho
  iapply (wp_st 𝒱₀ (c : Thread nD τ) bd E (off38_eq k)) $$ Ho; iintro Ho
  iapply (wp_ld 𝒱₀ (c : Thread nD τ) bd E (off39_eq k s hs) (oInb 1 (kTile k s.val 0))) $$ Hv; iintro Hv
  iapply (wp_ld 𝒱₀ (c : Thread nD τ) bd E (off40_eq k) (oInb 1 (oTile k 0))) $$ Ho; iintro Ho
  iapply (wp_ld 𝒱₀ (c : Thread nD τ) bd E (off40_eq k) (oInb 1 (oTile k 0))) $$ Ho; iintro Ho
  iapply (wp_st 𝒱₀ (c : Thread nD τ) bd E (off40_eq k)) $$ Ho; iintro Ho
  iapply (wp_ld 𝒱₀ (c : Thread nD τ) bd E (off41_eq k s hs) (oInb 2 (kTile k s.val 0))) $$ Hv; iintro Hv
  iapply (wp_ld 𝒱₀ (c : Thread nD τ) bd E (off42_eq k) (oInb 2 (oTile k 0))) $$ Ho; iintro Ho
  iapply (wp_ld 𝒱₀ (c : Thread nD τ) bd E (off42_eq k) (oInb 2 (oTile k 0))) $$ Ho; iintro Ho
  iapply (wp_st 𝒱₀ (c : Thread nD τ) bd E (off42_eq k)) $$ Ho; iintro Ho
  iapply (wp_ld 𝒱₀ (c : Thread nD τ) bd E (off43_eq k s hs) (oInb 3 (kTile k s.val 0))) $$ Hv; iintro Hv
  iapply (wp_ld 𝒱₀ (c : Thread nD τ) bd E (off44_eq k) (oInb 3 (oTile k 0))) $$ Ho; iintro Ho
  iapply (wp_ld 𝒱₀ (c : Thread nD τ) bd E (off44_eq k) (oInb 3 (oTile k 0))) $$ Ho; iintro Ho
  iapply (wp_st 𝒱₀ (c : Thread nD τ) bd E (off44_eq k)) $$ Ho; iintro Ho
  iapply (wp_ld 𝒱₀ (c : Thread nD τ) bd E (off45_eq k s hs) (oInb 0 (kTile k s.val 1))) $$ Hv; iintro Hv
  iapply (wp_ld 𝒱₀ (c : Thread nD τ) bd E (off46_eq k) (oInb 0 (oTile k 1))) $$ Ho; iintro Ho
  iapply (wp_ld 𝒱₀ (c : Thread nD τ) bd E (off46_eq k) (oInb 0 (oTile k 1))) $$ Ho; iintro Ho
  iapply (wp_st 𝒱₀ (c : Thread nD τ) bd E (off46_eq k)) $$ Ho; iintro Ho
  iapply (wp_ld 𝒱₀ (c : Thread nD τ) bd E (off47_eq k s hs) (oInb 1 (kTile k s.val 1))) $$ Hv; iintro Hv
  iapply (wp_ld 𝒱₀ (c : Thread nD τ) bd E (off48_eq k) (oInb 1 (oTile k 1))) $$ Ho; iintro Ho
  iapply (wp_ld 𝒱₀ (c : Thread nD τ) bd E (off48_eq k) (oInb 1 (oTile k 1))) $$ Ho; iintro Ho
  iapply (wp_st 𝒱₀ (c : Thread nD τ) bd E (off48_eq k)) $$ Ho; iintro Ho
  iapply (wp_ld 𝒱₀ (c : Thread nD τ) bd E (off49_eq k s hs) (oInb 2 (kTile k s.val 1))) $$ Hv; iintro Hv
  iapply (wp_ld 𝒱₀ (c : Thread nD τ) bd E (off50_eq k) (oInb 2 (oTile k 1))) $$ Ho; iintro Ho
  iapply (wp_ld 𝒱₀ (c : Thread nD τ) bd E (off50_eq k) (oInb 2 (oTile k 1))) $$ Ho; iintro Ho
  iapply (wp_st 𝒱₀ (c : Thread nD τ) bd E (off50_eq k)) $$ Ho; iintro Ho
  iapply (wp_ld 𝒱₀ (c : Thread nD τ) bd E (off51_eq k s hs) (oInb 3 (kTile k s.val 1))) $$ Hv; iintro Hv
  iapply (wp_ld 𝒱₀ (c : Thread nD τ) bd E (off52_eq k) (oInb 3 (oTile k 1))) $$ Ho; iintro Ho
  iapply (wp_ld 𝒱₀ (c : Thread nD τ) bd E (off52_eq k) (oInb 3 (oTile k 1))) $$ Ho; iintro Ho
  iapply (wp_st 𝒱₀ (c : Thread nD τ) bd E (off52_eq k)) $$ Ho; iintro Ho
  iapply Hn
  isplitl [Hk]; · iexact Hk
  isplitl [Hv]; · iexact Hv
  isplitl [Ht]; · iexact Ht
  iexact Ho

end Cert.KernelIdeal.Sb

end
-- ==== Proof.SbI.While.lean ====
/-
  The while loop as a whole: entered at step `i` with at most `n` steps left it leaves the result block the recursion
  `whileO` says, by induction on the steps left.
-/
module

public import proofs.«01_k».proof.Proof.SbI.Trip
public import proofs.«01_k».proof.Proof.Sb.Hold
public import proofs.«01_k».proof.Proof.Gen.KernelIdeal.Launch
public import Idealize.ShloMosaic.Lib.Tactic
public import Idealize.ShloMosaic.Lib.Pipeline.Kit

@[expose] public section

set_option maxRecDepth 16384

noncomputable section

namespace Cert.KernelIdeal.Sb

open Cert.KernelIdeal Cert.KernelIdeal.Gen Cert.Hold
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (c : Dev nD) (i : grid0.Coords) (k : Fin k0_t1_loop.trips)
  (arg3 : Memref sig .tc .vmem S1x4096x256 .bf16) (harg3 : arg3.IsWhole) (arg5 : Memref sig .tc .vmem S256x512 .bf16) (harg5 : arg5.IsWhole)
  (arg4 : Memref sig .tc .vmem S1x4x16x64x256 .bf16) (harg4 : arg4.IsWhole) (arg6 : Memref sig .tc .vmem S1x4x16x64x256 .f32) (harg6 : arg6.IsWhole)
  (K : Vec F S1x4096x256 .bf16) (V : Vec F S1x4x16x64x256 .bf16) (T : Vec F S256x512 .bf16)

/-- The label's specification: the result block after the steps left, whatever values it returns. -/
def spec (Q : Qs F) (n s : ℕ) (d : BitVec 1) (R : Runs F) (O : Vec F S1x4x16x64x256 .f32) : sWPT 𝕄 ((Λ₀ F).Result (1 : (Λ₀ F).Label)) := do
  sWPT.consume (held c arg3 arg5 arg4 arg6 K V T O)
  let r ← sWPT.arbitrary
  sWPT.produce (held c arg3 arg5 arg4 arg6 K V T (whileO k Q K V T n s d R O))
  pure r

theorem spec_apply (Q : Qs F) (n s : ℕ) (d : BitVec 1) (R : Runs F) (O : Vec F S1x4x16x64x256 .f32) (Φ : (Λ₀ F).Result (1 : (Λ₀ F).Label) → sProp 𝕄) :
    spec c k arg3 arg5 arg4 arg6 K V T Q n s d R O Φ
      = iprop(held c arg3 arg5 arg4 arg6 K V T O ∗ ∀ r, (held c arg3 arg5 arg4 arg6 K V T (whileO k Q K V T n s d R O) -∗ Φ r)) := rfl

theorem cond_last : ∀ (k : Fin k0_t1_loop.trips) (d : BitVec 1),
    ¬Scalar.andi (Scalar.cmpi .sle (BitVec.ofNat 32 (2 * k.val + 2)) (Scalar.addi (Scalar.muli 2#32 (Scf.iv 0#32 1#32 k)) 1#32)) (Scalar.xori d 1#1) = 1#1 := by
  decide +kernel

theorem cond_of : ∀ (k : Fin k0_t1_loop.trips) (s : Fin 16) (d : BitVec 1), s.val ≤ 2 * k.val + 1 →
    Scalar.andi (Scalar.cmpi .sle (BitVec.ofNat 32 s.val) (Scalar.addi (Scalar.muli 2#32 (Scf.iv 0#32 1#32 k)) 1#32)) (Scalar.xori d 1#1) = Scalar.xori d 1#1 := by
  decide +kernel

theorem cond_mid (k : Fin k0_t1_loop.trips) (s : ℕ) (d : BitVec 1) (hs : s ≤ 2 * k.val + 1) :
    Scalar.andi (Scalar.cmpi .sle (BitVec.ofNat 32 s) (Scalar.addi (Scalar.muli 2#32 (Scf.iv 0#32 1#32 k)) 1#32)) (Scalar.xori d 1#1) = Scalar.xori d 1#1 := by
  have h8 : k.val < 8 := k.isLt
  exact cond_of k ⟨s, by omega⟩ d hs

theorem addi_one : ∀ s : Fin 16, Scalar.addi (BitVec.ofNat 32 s.val) 1#32 = BitVec.ofNat 32 (s.val + 1) := by decide +kernel

/-- The label's body meets the specification. -/
theorem spec_le (E : Set ℕ) (Q : Qs F) :
    ∀ n s, s + n = 2 * k.val + 2 → ∀ (d : BitVec 1) (R : Runs F) (O : Vec F S1x4x16x64x256 .f32) (Φ : (Λ₀ F).Result (1 : (Λ₀ F).Label) → sProp 𝕄),
      spec c k arg3 arg5 arg4 arg6 K V T Q n s d R O Φ
        ⊢ wp frame (wpE (defs₀ (F := F)) 𝒱₀ (c : Thread nD τ) (some n)) E
            (defs₀ (F := F) .tc 1 (args i k arg3 harg3 arg5 harg5 arg4 harg4 arg6 harg6 Q (BitVec.ofNat 32 s) d R)) Φ := by
  intro n
  induction n with
  | zero =>
    intro s hs d R O Φ
    rw [spec_apply]
    show _ ⊢ wp frame (wpE (defs₀ (F := F)) 𝒱₀ (c : Thread nD τ) (some 0)) E
      (cc0_while1 i k arg3 harg3 (Q 0 0) (Q 0 1) (Q 0 2) (Q 0 3) (Q 1 0) (Q 1 1) (Q 1 2) (Q 1 3) arg5 harg5 arg4 harg4 arg6 harg6
            (BitVec.ofNat 32 s) d (R 0 0) (R 0 1) (R 0 2) (R 0 3) (R 1 0) (R 1 1) (R 1 2) (R 1 3)) Φ
    simp only [cc0_while1_eq_skeleton]; unfold cc0_while1_skel
    have hT := cond_last k d
    rw [show 2 * k.val + 2 = s by omega] at hT
    simp only [hT, ↓reduceIte, Prog.pure_eq_ret]
    iintro ⟨H, Hn⟩
    rw [wp_ret]; imodintro
    iapply Hn
    simp only [whileO]
    iexact H
  | succ n ih =>
    intro s hs d R O Φ
    have h8 : k.val < 8 := k.isLt
    have hs' : s ≤ 2 * k.val + 1 := by omega
    by_cases hd : Scalar.xori d 1#1 = 1#1
    · refine BIBase.Entails.trans ?_ (trip c i k arg3 harg3 arg5 harg5 arg4 harg4 arg6 harg6 K V T (some (n + 1)) E Q ⟨s, by omega⟩ hs' d R O ((cond_mid k s d hs').trans hd) Φ)
      rw [spec_apply]
      simp only [whileO, hd, ↓reduceIte]
      iintro ⟨H, Hn⟩
      isplitl [H]; · iexact H
      iintro H
      rw [addi_one ⟨s, by omega⟩]
      iapply (wp_call_spec 𝒱₀ (c : Thread nD τ) (some (n + 1)) E (spec c k arg3 arg5 arg4 arg6 K V T Q n (s + 1) _ _ _) n
        (fun u hu => by cases hu; exact Nat.lt_succ_self n) (ih (s + 1) (by omega) _ _ _))
      rw [spec_apply]
      isplitl [H]; · iexact H
      iintro %r H
      rw [wp_ret]; imodintro
      iapply Hn
      iexact H
    · rw [spec_apply]
      show _ ⊢ wp frame (wpE (defs₀ (F := F)) 𝒱₀ (c : Thread nD τ) (some (n + 1))) E
        (cc0_while1 i k arg3 harg3 (Q 0 0) (Q 0 1) (Q 0 2) (Q 0 3) (Q 1 0) (Q 1 1) (Q 1 2) (Q 1 3) arg5 harg5 arg4 harg4 arg6 harg6
              (BitVec.ofNat 32 s) d (R 0 0) (R 0 1) (R 0 2) (R 0 3) (R 1 0) (R 1 1) (R 1 2) (R 1 3)) Φ
      simp only [cc0_while1_eq_skeleton]; unfold cc0_while1_skel
      have hT := cond_mid k s d hs'
      simp only [hT, hd, ↓reduceIte, Prog.pure_eq_ret]
      iintro ⟨H, Hn⟩
      rw [wp_ret]; imodintro
      iapply Hn
      simp only [whileO, hd, ↓reduceIte]
      iexact H

end Cert.KernelIdeal.Sb

end
-- ==== Proof.SbI.Outer.lean ====
/-
  One trip of the stick-breaking kernel's counted loop, and the loop: the result block after each pair of query tiles.
-/
module

public import proofs.«01_k».proof.Proof.SbI.While
public import proofs.«01_k».proof.Proof.Sb.Hold
public import proofs.«01_k».proof.Proof.SbI.Norm
public import proofs.«01_k».proof.Proof.Gen.KernelIdeal.Launch
public import Idealize.ShloMosaic.Lib.Tactic
public import Idealize.ShloMosaic.Lib.Pipeline.Kit

@[expose] public section

set_option maxRecDepth 16384

noncomputable section

namespace Cert.KernelIdeal.Sb

open Cert.KernelIdeal Cert.KernelIdeal.Gen Cert.Hold
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (c : Dev nD) (i : grid0.Coords)
  (arg2 : Memref sig .tc .vmem S1x4x16x128x256 .bf16) (harg2 : arg2.IsWhole)
  (arg3 : Memref sig .tc .vmem S1x4096x256 .bf16) (harg3 : arg3.IsWhole) (arg5 : Memref sig .tc .vmem S256x512 .bf16) (harg5 : arg5.IsWhole)
  (arg4 : Memref sig .tc .vmem S1x4x16x64x256 .bf16) (harg4 : arg4.IsWhole) (arg6 : Memref sig .tc .vmem S1x4x16x64x256 .f32) (harg6 : arg6.IsWhole)
  (X : Vec F S1x4x16x128x256 .bf16) (K : Vec F S1x4096x256 .bf16) (V : Vec F S1x4x16x64x256 .bf16) (T : Vec F S256x512 .bf16)

/-- The five arrays, held by value. -/
def heldAll (O : Vec F S1x4x16x64x256 .f32) : sProp 𝕄 :=
  iprop(own (c : Thread nD τ) arg2 X ∗ held c arg3 arg5 arg4 arg6 K V T O)

set_option maxHeartbeats 4000000 in
theorem outer (k : Fin k0_t1_loop.trips) (O : Vec F S1x4x16x64x256 .f32) (Φ : PUnit → sProp 𝕄) :
    iprop(heldAll c arg2 arg3 arg5 arg4 arg6 X K V T O
      ∗ (heldAll c arg2 arg3 arg5 arg4 arg6 X K V T (tripO X K V T k O) -∗ Φ ⟨⟩))
      ⊢ wp frame (wpE (defs₀ (F := F)) 𝒱₀ (c : Thread nD τ) none) Set.univ
          (k0_t1_body i arg2 harg2 arg3 harg3 arg4 harg4 arg5 harg5 arg6 harg6 k ⟨⟩) Φ := by
  unfold k0_t1_body
  simp only [Prog.lift, Prog.bind_op, Prog.bind_ret, Prog.pure_eq_ret, k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel]
  simp only [n5, n6, n7, n8, n9, n10, n11, n13, n14, n15, n16, n17, n18, n19, n20, n21, n22, n23, n24, n25, n26, n27, n31, n34, n37, n30, n33, n36, n39, n51, n53, n57, n59, n62, n64, n66, n50, n52, n58, n63, n65, n56, n61, n68, n71, n75, n79, n70, n74, n78, n81, n82, n83, n98, n89, n91, n95, n97, n100, n104, n106, n99, n88, n90, n94, n96, n103, n105, n107]
  unfold heldAll held
  iintro ⟨⟨Hq, Hk, Hv, Ht, Ho⟩, Hn⟩
  iapply (wp_ld 𝒱₀ (c : Thread nD τ) none Set.univ (off1_eq k) (qInb 0 (oTile k 0))) $$ Hq; iintro Hq
  iapply (wp_ld 𝒱₀ (c : Thread nD τ) none Set.univ (off2_eq k) (qInb 1 (oTile k 0))) $$ Hq; iintro Hq
  iapply (wp_ld 𝒱₀ (c : Thread nD τ) none Set.univ (off3_eq k) (qInb 2 (oTile k 0))) $$ Hq; iintro Hq
  iapply (wp_ld 𝒱₀ (c : Thread nD τ) none Set.univ (off4_eq k) (qInb 3 (oTile k 0))) $$ Hq; iintro Hq
  iapply (wp_ld 𝒱₀ (c : Thread nD τ) none Set.univ (off5_eq k) (qInb 0 (oTile k 1))) $$ Hq; iintro Hq
  iapply (wp_ld 𝒱₀ (c : Thread nD τ) none Set.univ (off6_eq k) (qInb 1 (oTile k 1))) $$ Hq; iintro Hq
  iapply (wp_ld 𝒱₀ (c : Thread nD τ) none Set.univ (off7_eq k) (qInb 2 (oTile k 1))) $$ Hq; iintro Hq
  iapply (wp_ld 𝒱₀ (c : Thread nD τ) none Set.univ (off8_eq k) (qInb 3 (oTile k 1))) $$ Hq; iintro Hq
  iapply (wp_ld 𝒱₀ (c : Thread nD τ) none Set.univ (off9_eq k) (kInb (oTile k 0) 0)) $$ Hk; iintro Hk
  iapply (wp_ld 𝒱₀ (c : Thread nD τ) none Set.univ (off9_eq k) (kInb (oTile k 0) 0)) $$ Hk; iintro Hk
  iapply (wp_ld 𝒱₀ (c : Thread nD τ) none Set.univ (off10_eq k) (kInb (oTile k 0) 1)) $$ Hk; iintro Hk
  iapply (wp_ld 𝒱₀ (c : Thread nD τ) none Set.univ (off10_eq k) (kInb (oTile k 0) 1)) $$ Hk; iintro Hk
  iapply (wp_ld 𝒱₀ (c : Thread nD τ) none Set.univ (off11_eq k) (kInb (oTile k 1) 0)) $$ Hk; iintro Hk
  iapply (wp_ld 𝒱₀ (c : Thread nD τ) none Set.univ (off11_eq k) (kInb (oTile k 1) 0)) $$ Hk; iintro Hk
  iapply (wp_ld 𝒱₀ (c : Thread nD τ) none Set.univ (off12_eq k) (kInb (oTile k 1) 1)) $$ Hk; iintro Hk
  iapply (wp_ld 𝒱₀ (c : Thread nD τ) none Set.univ (off12_eq k) (kInb (oTile k 1) 1)) $$ Hk; iintro Hk
  iapply (wp_ld 𝒱₀ (c : Thread nD τ) none Set.univ (off13_eq k) (kInb (kTile k 1 0) 0)) $$ Hk; iintro Hk
  iapply (wp_ld 𝒱₀ (c : Thread nD τ) none Set.univ (off13_eq k) (kInb (kTile k 1 0) 0)) $$ Hk; iintro Hk
  iapply (wp_ld 𝒱₀ (c : Thread nD τ) none Set.univ (off14_eq k) (kInb (kTile k 1 0) 1)) $$ Hk; iintro Hk
  iapply (wp_ld 𝒱₀ (c : Thread nD τ) none Set.univ (off14_eq k) (kInb (kTile k 1 0) 1)) $$ Hk; iintro Hk
  iapply (wp_ld 𝒱₀ (c : Thread nD τ) none Set.univ (off15_eq k) (kInb (kTile k 1 1) 0)) $$ Hk; iintro Hk
  iapply (wp_ld 𝒱₀ (c : Thread nD τ) none Set.univ (off15_eq k) (kInb (kTile k 1 1) 0)) $$ Hk; iintro Hk
  iapply (wp_ld 𝒱₀ (c : Thread nD τ) none Set.univ (off16_eq k) (kInb (kTile k 1 1) 1)) $$ Hk; iintro Hk
  iapply (wp_ld 𝒱₀ (c : Thread nD τ) none Set.univ (off16_eq k) (kInb (kTile k 1 1) 1)) $$ Hk; iintro Hk
  iapply (wp_ldf 𝒱₀ (c : Thread nD τ) none Set.univ (m := arg5)) $$ Ht; iintro Ht
  iapply (wp_ldf 𝒱₀ (c : Thread nD τ) none Set.univ (m := arg5)) $$ Ht; iintro Ht
  iapply (wp_ldf 𝒱₀ (c : Thread nD τ) none Set.univ (m := arg5)) $$ Ht; iintro Ht
  iapply (wp_ldf 𝒱₀ (c : Thread nD τ) none Set.univ (m := arg5)) $$ Ht; iintro Ht
  iapply (wp_ldf 𝒱₀ (c : Thread nD τ) none Set.univ (m := arg5)) $$ Ht; iintro Ht
  iapply (wp_ldf 𝒱₀ (c : Thread nD τ) none Set.univ (m := arg5)) $$ Ht; iintro Ht
  iapply (wp_ldf 𝒱₀ (c : Thread nD τ) none Set.univ (m := arg5)) $$ Ht; iintro Ht
  iapply (wp_ldf 𝒱₀ (c : Thread nD τ) none Set.univ (m := arg5)) $$ Ht; iintro Ht
  iapply (wp_ld 𝒱₀ (c : Thread nD τ) none Set.univ (off17_eq k) (oInb 0 (oTile k 0))) $$ Hv; iintro Hv
  iapply (wp_ld 𝒱₀ (c : Thread nD τ) none Set.univ (off17_eq k) (oInb 0 (oTile k 0))) $$ Ho; iintro Ho
  iapply (wp_st 𝒱₀ (c : Thread nD τ) none Set.univ (off17_eq k)) $$ Ho; iintro Ho
  iapply (wp_ld 𝒱₀ (c : Thread nD τ) none Set.univ (off18_eq k) (oInb 1 (oTile k 0))) $$ Hv; iintro Hv
  iapply (wp_ld 𝒱₀ (c : Thread nD τ) none Set.univ (off18_eq k) (oInb 1 (oTile k 0))) $$ Ho; iintro Ho
  iapply (wp_st 𝒱₀ (c : Thread nD τ) none Set.univ (off18_eq k)) $$ Ho; iintro Ho
  iapply (wp_ld 𝒱₀ (c : Thread nD τ) none Set.univ (off19_eq k) (oInb 2 (oTile k 0))) $$ Hv; iintro Hv
  iapply (wp_ld 𝒱₀ (c : Thread nD τ) none Set.univ (off19_eq k) (oInb 2 (oTile k 0))) $$ Ho; iintro Ho
  iapply (wp_st 𝒱₀ (c : Thread nD τ) none Set.univ (off19_eq k)) $$ Ho; iintro Ho
  iapply (wp_ld 𝒱₀ (c : Thread nD τ) none Set.univ (off20_eq k) (oInb 3 (oTile k 0))) $$ Hv; iintro Hv
  iapply (wp_ld 𝒱₀ (c : Thread nD τ) none Set.univ (off20_eq k) (oInb 3 (oTile k 0))) $$ Ho; iintro Ho
  iapply (wp_st 𝒱₀ (c : Thread nD τ) none Set.univ (off20_eq k)) $$ Ho; iintro Ho
  iapply (wp_ld 𝒱₀ (c : Thread nD τ) none Set.univ (off21_eq k) (oInb 0 (oTile k 1))) $$ Hv; iintro Hv
  iapply (wp_ld 𝒱₀ (c : Thread nD τ) none Set.univ (off21_eq k) (oInb 0 (oTile k 1))) $$ Ho; iintro Ho
  iapply (wp_st 𝒱₀ (c : Thread nD τ) none Set.univ (off21_eq k)) $$ Ho; iintro Ho
  iapply (wp_ld 𝒱₀ (c : Thread nD τ) none Set.univ (off22_eq k) (oInb 1 (oTile k 1))) $$ Hv; iintro Hv
  iapply (wp_ld 𝒱₀ (c : Thread nD τ) none Set.univ (off22_eq k) (oInb 1 (oTile k 1))) $$ Ho; iintro Ho
  iapply (wp_st 𝒱₀ (c : Thread nD τ) none Set.univ (off22_eq k)) $$ Ho; iintro Ho
  iapply (wp_ld 𝒱₀ (c : Thread nD τ) none Set.univ (off23_eq k) (oInb 2 (oTile k 1))) $$ Hv; iintro Hv
  iapply (wp_ld 𝒱₀ (c : Thread nD τ) none Set.univ (off23_eq k) (oInb 2 (oTile k 1))) $$ Ho; iintro Ho
  iapply (wp_st 𝒱₀ (c : Thread nD τ) none Set.univ (off23_eq k)) $$ Ho; iintro Ho
  iapply (wp_ld 𝒱₀ (c : Thread nD τ) none Set.univ (off24_eq k) (oInb 3 (oTile k 1))) $$ Hv; iintro Hv
  iapply (wp_ld 𝒱₀ (c : Thread nD τ) none Set.univ (off24_eq k) (oInb 3 (oTile k 1))) $$ Ho; iintro Ho
  iapply (wp_st 𝒱₀ (c : Thread nD τ) none Set.univ (off24_eq k)) $$ Ho; iintro Ho
  iapply (wp_ldf 𝒱₀ (c : Thread nD τ) none Set.univ (m := arg5)) $$ Ht; iintro Ht
  iapply (wp_ldf 𝒱₀ (c : Thread nD τ) none Set.univ (m := arg5)) $$ Ht; iintro Ht
  iapply (wp_ldf 𝒱₀ (c : Thread nD τ) none Set.univ (m := arg5)) $$ Ht; iintro Ht
  iapply (wp_ldf 𝒱₀ (c : Thread nD τ) none Set.univ (m := arg5)) $$ Ht; iintro Ht
  iapply (wp_ldf 𝒱₀ (c : Thread nD τ) none Set.univ (m := arg5)) $$ Ht; iintro Ht
  iapply (wp_ldf 𝒱₀ (c : Thread nD τ) none Set.univ (m := arg5)) $$ Ht; iintro Ht
  iapply (wp_ldf 𝒱₀ (c : Thread nD τ) none Set.univ (m := arg5)) $$ Ht; iintro Ht
  iapply (wp_ldf 𝒱₀ (c : Thread nD τ) none Set.univ (m := arg5)) $$ Ht; iintro Ht
  iapply (wp_ld 𝒱₀ (c : Thread nD τ) none Set.univ (off25_eq k) (oInb 0 (kTile k 1 0))) $$ Hv; iintro Hv
  iapply (wp_ld 𝒱₀ (c : Thread nD τ) none Set.univ (off17_eq k) (oInb 0 (oTile k 0))) $$ Ho; iintro Ho
  iapply (wp_ld 𝒱₀ (c : Thread nD τ) none Set.univ (off17_eq k) (oInb 0 (oTile k 0))) $$ Ho; iintro Ho
  iapply (wp_st 𝒱₀ (c : Thread nD τ) none Set.univ (off17_eq k)) $$ Ho; iintro Ho
  iapply (wp_ld 𝒱₀ (c : Thread nD τ) none Set.univ (off26_eq k) (oInb 1 (kTile k 1 0))) $$ Hv; iintro Hv
  iapply (wp_ld 𝒱₀ (c : Thread nD τ) none Set.univ (off18_eq k) (oInb 1 (oTile k 0))) $$ Ho; iintro Ho
  iapply (wp_ld 𝒱₀ (c : Thread nD τ) none Set.univ (off18_eq k) (oInb 1 (oTile k 0))) $$ Ho; iintro Ho
  iapply (wp_st 𝒱₀ (c : Thread nD τ) none Set.univ (off18_eq k)) $$ Ho; iintro Ho
  iapply (wp_ld 𝒱₀ (c : Thread nD τ) none Set.univ (off27_eq k) (oInb 2 (kTile k 1 0))) $$ Hv; iintro Hv
  iapply (wp_ld 𝒱₀ (c : Thread nD τ) none Set.univ (off19_eq k) (oInb 2 (oTile k 0))) $$ Ho; iintro Ho
  iapply (wp_ld 𝒱₀ (c : Thread nD τ) none Set.univ (off19_eq k) (oInb 2 (oTile k 0))) $$ Ho; iintro Ho
  iapply (wp_st 𝒱₀ (c : Thread nD τ) none Set.univ (off19_eq k)) $$ Ho; iintro Ho
  iapply (wp_ld 𝒱₀ (c : Thread nD τ) none Set.univ (off28_eq k) (oInb 3 (kTile k 1 0))) $$ Hv; iintro Hv
  iapply (wp_ld 𝒱₀ (c : Thread nD τ) none Set.univ (off20_eq k) (oInb 3 (oTile k 0))) $$ Ho; iintro Ho
  iapply (wp_ld 𝒱₀ (c : Thread nD τ) none Set.univ (off20_eq k) (oInb 3 (oTile k 0))) $$ Ho; iintro Ho
  iapply (wp_st 𝒱₀ (c : Thread nD τ) none Set.univ (off20_eq k)) $$ Ho; iintro Ho
  iapply (wp_ld 𝒱₀ (c : Thread nD τ) none Set.univ (off29_eq k) (oInb 0 (kTile k 1 1))) $$ Hv; iintro Hv
  iapply (wp_ld 𝒱₀ (c : Thread nD τ) none Set.univ (off21_eq k) (oInb 0 (oTile k 1))) $$ Ho; iintro Ho
  iapply (wp_ld 𝒱₀ (c : Thread nD τ) none Set.univ (off21_eq k) (oInb 0 (oTile k 1))) $$ Ho; iintro Ho
  iapply (wp_st 𝒱₀ (c : Thread nD τ) none Set.univ (off21_eq k)) $$ Ho; iintro Ho
  iapply (wp_ld 𝒱₀ (c : Thread nD τ) none Set.univ (off30_eq k) (oInb 1 (kTile k 1 1))) $$ Hv; iintro Hv
  iapply (wp_ld 𝒱₀ (c : Thread nD τ) none Set.univ (off22_eq k) (oInb 1 (oTile k 1))) $$ Ho; iintro Ho
  iapply (wp_ld 𝒱₀ (c : Thread nD τ) none Set.univ (off22_eq k) (oInb 1 (oTile k 1))) $$ Ho; iintro Ho
  iapply (wp_st 𝒱₀ (c : Thread nD τ) none Set.univ (off22_eq k)) $$ Ho; iintro Ho
  iapply (wp_ld 𝒱₀ (c : Thread nD τ) none Set.univ (off31_eq k) (oInb 2 (kTile k 1 1))) $$ Hv; iintro Hv
  iapply (wp_ld 𝒱₀ (c : Thread nD τ) none Set.univ (off23_eq k) (oInb 2 (oTile k 1))) $$ Ho; iintro Ho
  iapply (wp_ld 𝒱₀ (c : Thread nD τ) none Set.univ (off23_eq k) (oInb 2 (oTile k 1))) $$ Ho; iintro Ho
  iapply (wp_st 𝒱₀ (c : Thread nD τ) none Set.univ (off23_eq k)) $$ Ho; iintro Ho
  iapply (wp_ld 𝒱₀ (c : Thread nD τ) none Set.univ (off32_eq k) (oInb 3 (kTile k 1 1))) $$ Hv; iintro Hv
  iapply (wp_ld 𝒱₀ (c : Thread nD τ) none Set.univ (off24_eq k) (oInb 3 (oTile k 1))) $$ Ho; iintro Ho
  iapply (wp_ld 𝒱₀ (c : Thread nD τ) none Set.univ (off24_eq k) (oInb 3 (oTile k 1))) $$ Ho; iintro Ho
  iapply (wp_st 𝒱₀ (c : Thread nD τ) none Set.univ (off24_eq k)) $$ Ho; iintro Ho
  iapply (wp_call_spec 𝒱₀ (c : Thread nD τ) none Set.univ
    (spec c k arg3 arg5 arg4 arg6 K V T (tripQ X k) (2 * k.val) 2 (deadBit (tripRuns (tripQ X k) K T k)) (tripRuns (tripQ X k) K T k) (tripO1 (tripQ X k) K V T k O))
    (2 * k.val) (fun u hu => nomatch hu)
    (by
      have h := spec_le c i k arg3 harg3 arg5 harg5 arg4 harg4 arg6 harg6 K V T Set.univ (tripQ X k) (2 * k.val) 2 (by omega)
        (deadBit (tripRuns (tripQ X k) K T k)) (tripRuns (tripQ X k) K T k) (tripO1 (tripQ X k) K V T k O)
      exact h))
  rw [spec_apply]
  isplitl [Hk Hv Ht Ho]
  · simp only [tripO1, stepO, fourHeads, oneHead, diagO, diagFour, diagHead, oAdd, oPut, oWin, vWin, qWin, tileU, tileS, kWin, pairOf0, pairOf1, pairOf2, pairOf3,
      spendOne, diagRuns, diagS, tripQ, ↓reduceIte, Fin.isValue, one_ne_zero]
    unfold held
    isplitl [Hk]; · iexact Hk
    isplitl [Hv]; · iexact Hv
    isplitl [Ht]; · iexact Ht
    iexact Ho
  iintro %r H
  rw [wp_ret]; imodintro
  iapply Hn
  isplitl [Hq]; · iexact Hq
  unfold tripO
  unfold held
  icases H with ⟨Hk, Hv, Ht, Ho⟩
  isplitl [Hk]; · iexact Hk
  isplitl [Hv]; · iexact Hv
  isplitl [Ht]; · iexact Ht
  iexact Ho

/-- The counted loop: every trip in turn. -/
theorem loop (O : Vec F S1x4x16x64x256 .f32) (Φ : PUnit → sProp 𝕄) :
    iprop(heldAll c arg2 arg3 arg5 arg4 arg6 X K V T O
      ∗ (heldAll c arg2 arg3 arg5 arg4 arg6 X K V T (blockO X K V T O 8) -∗ Φ ⟨⟩))
      ⊢ wp frame (wpE (defs₀ (F := F)) 𝒱₀ (c : Thread nD τ) none) Set.univ
          (cc0_sb_attn i arg2 harg2 arg3 harg3 arg4 harg4 arg5 harg5 arg6 harg6) Φ := by
  rw [cc0_sb_attn_eq_skeleton]
  unfold cc0_sb_attn_skel
  have hI := Scf.wp_for_bind frame (wpE (defs₀ (F := F)) 𝒱₀ (c : Thread nD τ) none) Set.univ k0_t1_loop.lb k0_t1_loop.ub k0_t1_loop.st k0_t1_ok ⟨⟩
    (k0_t1_body i arg2 harg2 arg3 harg3 arg4 harg4 arg5 harg5 arg6 harg6)
    (fun n _ => heldAll c arg2 arg3 arg5 arg4 arg6 X K V T (blockO X K V T O n)) (fun k acc => by
      refine BIBase.Entails.trans ?_ (outer c i arg2 harg2 arg3 harg3 arg5 harg5 arg4 harg4 arg6 harg6 X K V T k (blockO X K V T O k.val) _)
      rw [show blockO X K V T O (k.val + 1) = tripO X K V T k (blockO X K V T O k.val) from dif_pos k.isLt]
      iintro H
      isplitl [H]; · iexact H
      iintro H
      iexact H) (kk := fun _ => pure ⟨⟩) (Q := Φ)
  simp only [blockO] at hI
  iintro ⟨H, Hn⟩
  iapply hI $$ H
  iintro %acc H
  rw [show (pure ⟨⟩ : Prog (TpuEff nD τ sig (Elt F) (Λ₀ F) .tc) PUnit) = Prog.ret ⟨⟩ from rfl, wp_ret]; imodintro
  iapply Hn
  iexact H

end Cert.KernelIdeal.Sb

end
-- ==== Proof.SbI.Run.lean ====
/-
  The stick-breaking call's run: what every window's buffer holds at every grid point, the body met at each of them,
  and so what the result array and the arguments hold at the end.
-/
module

public import proofs.«01_k».proof.Proof.Gen.KernelIdeal.Launch
public import proofs.«01_k».proof.Proof.Gen.KernelIdeal.Points
public import proofs.«01_k».proof.Proof.SbI.Outer
public import proofs.«01_k».proof.Proof.SbI.Block
public import Idealize.ShloMosaic.Lib.Pipeline.FrameBody
public import Idealize.ShloMosaic.Lib.Pipeline.FrameSuffix
public import Idealize.ShloMosaic.Lib.Claim

@[expose] public section

set_option maxRecDepth 16384

noncomputable section

namespace Cert.KernelIdeal.Sb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Hold

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Core `c`'s buffers when the call is reached. -/
abbrev V0 (c : Dev nD) : Valuation τ sig (Elt F) := StableHlo.after (List.flatten [hostOps0]) (fun b => m (c, b))
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

set_option maxHeartbeats 800000 in
theorem hmain (𝒱 : Variants) : Pipeline.HMainK (Ix := Unit) (Name := ℕ) (U := UR sig nD τ) (Lvl := ℕ) cfgs 0 defs₀ 𝒱 m (main (F := F)) (V m)
    (fun _ => Pipeline.chain ([hostOps1].map StableHlo.seq)) :=
  Pipeline.hmain_around cfgs 0 defs₀ 𝒱 m main [hostOps0] [hostOps1] (by simp only [List.Forall]; exact hostOps0_sub)
    (by simp only [List.Forall]; exact hostOps0_fresh) main_chain

theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 (launch0 (F := F)).win.arr_unscoped]
  intro ops hops op hop
  rw [List.mem_singleton.mp hops] at hop
  exact Pipeline.sub_ucRefs op ((List.forall_iff_forall_mem.mp hostOps1_sub) op hop)

theorem tail_fresh : ∀ ops ∈ ([hostOps1] : List (List (HloOp τ sig (Elt F)))), ∀ op ∈ ops, op.fresh = ∅ := by
  intro ops hops op hop
  rw [List.mem_singleton.mp hops] at hop
  exact (List.forall_iff_forall_mem.mp hostOps1_fresh) op hop

theorem tail_keeps : ∀ ops ∈ ([hostOps1] : List (List (HloOp τ sig (Elt F)))), ∀ op ∈ ops,
    ∀ w, Proc.devRef .tc (Pipeline.arrRef spec0 w) ∉ op.writes := by
  intro ops hops op hop
  rw [List.mem_singleton.mp hops] at hop
  simp only [hostOps1, List.mem_cons, List.mem_nil_iff, or_false] at hop
  rcases hop with rfl | rfl
  all_goals intro w; fin_cases w <;> simp only [StableHlo.unary_writes, StableHlo.reshape_writes, Finset.mem_singleton] <;> exact StableHlo.devRef_ne_of_ne (by decide)

theorem V_main_arg0 (c : Dev nD) : V m c main_arg0 = m ((c : Thread nD τ).loc main_arg0) :=
  StableHlo.after_of_forall_not_mem (b := Proc.devRef .tc main_arg0) _ _ (List.forall_iff_forall_mem.mp (by
    simp only [List.flatten_cons, List.flatten_nil, List.append_nil, hostOps0, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))

theorem V_main_arg1 (c : Dev nD) : V m c main_arg1 = m ((c : Thread nD τ).loc main_arg1) :=
  StableHlo.after_of_forall_not_mem (b := Proc.devRef .tc main_arg1) _ _ (List.forall_iff_forall_mem.mp (by
    simp only [List.flatten_cons, List.flatten_nil, List.append_nil, hostOps0, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))

theorem V_main_arg2 (c : Dev nD) : V m c main_arg2 = m ((c : Thread nD τ).loc main_arg2) :=
  StableHlo.after_of_forall_not_mem (b := Proc.devRef .tc main_arg2) _ _ (List.forall_iff_forall_mem.mp (by
    simp only [List.flatten_cons, List.flatten_nil, List.append_nil, hostOps0, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))

/-- Window `w`'s block at point `t`, of the array as the call finds it. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- The result block of point `t`. -/
def outAt (c : Dev nD) (t : Fin (cfg0 (F := F)).N) : Vec F S1x4x16x64x256 .f32 :=
  outVal (iblk m c 0 t) (iblk m c 1 t) (iblk m c 2 t) (iblk m c 3 t)

/-- The arrays at entry; after the body each input's buffer at its block, the result's at `outAt`. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ _ := Pipeline.ΦA spec0 c
  q _ := fullShare
  owed _ := 0

theorem A_eq (c : Dev nD) (w : Fin (cfg0 (F := F)).W) : (dats m 0 c).A w = V m c (Pipeline.arrRef spec0 w) := rfl
theorem after0_0 (c : Dev nD) (t : Fin (cfg0 (F := F)).N) : (dats m 0 c).after 0 t = iblk m c 0 t := rfl
theorem after0_1 (c : Dev nD) (t : Fin (cfg0 (F := F)).N) : (dats m 0 c).after 1 t = iblk m c 1 t := rfl
theorem after0_2 (c : Dev nD) (t : Fin (cfg0 (F := F)).N) : (dats m 0 c).after 2 t = iblk m c 2 t := rfl
theorem after0_3 (c : Dev nD) (t : Fin (cfg0 (F := F)).N) : (dats m 0 c).after 3 t = iblk m c 3 t := rfl
theorem after0_4 (c : Dev nD) (t : Fin (cfg0 (F := F)).N) : (dats m 0 c).after 4 t = outAt m c t := rfl

theorem before0_0 (c : Dev nD) (t : Fin (cfg0 (F := F)).N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)

theorem before0_1 (c : Dev nD) (t : Fin (cfg0 (F := F)).N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)

theorem before0_2 (c : Dev nD) (t : Fin (cfg0 (F := F)).N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)

theorem before0_3 (c : Dev nD) (t : Fin (cfg0 (F := F)).N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)

abbrev ms0_0 (t : Fin (cfg0 (F := F)).N) : Memref sig .tc .vmem S1x4x16x128x256 .bf16 := win0_0.stage ((cfg0 (F := F)).slots t 0)
abbrev hs0_0 (t : Fin (cfg0 (F := F)).N) : (ms0_0 t).IsWhole := hstage0_0 (((cfg0 (F := F)).slots t 0).cast nbuf0_0)
abbrev ms0_1 (t : Fin (cfg0 (F := F)).N) : Memref sig .tc .vmem S1x4096x256 .bf16 := win0_1.stage ((cfg0 (F := F)).slots t 1)
abbrev hs0_1 (t : Fin (cfg0 (F := F)).N) : (ms0_1 t).IsWhole := hstage0_1 (((cfg0 (F := F)).slots t 1).cast nbuf0_1)
abbrev ms0_2 (t : Fin (cfg0 (F := F)).N) : Memref sig .tc .vmem S1x4x16x64x256 .bf16 := win0_2.stage ((cfg0 (F := F)).slots t 2)
abbrev hs0_2 (t : Fin (cfg0 (F := F)).N) : (ms0_2 t).IsWhole := hstage0_2 (((cfg0 (F := F)).slots t 2).cast nbuf0_2)
abbrev ms0_3 (t : Fin (cfg0 (F := F)).N) : Memref sig .tc .vmem S256x512 .bf16 := win0_3.stage ((cfg0 (F := F)).slots t 3)
abbrev hs0_3 (t : Fin (cfg0 (F := F)).N) : (ms0_3 t).IsWhole := hstage0_3 (((cfg0 (F := F)).slots t 3).cast nbuf0_3)
abbrev ms0_4 (t : Fin (cfg0 (F := F)).N) : Memref sig .tc .vmem S1x4x16x64x256 .f32 := win0_4.stage ((cfg0 (F := F)).slots t 4)
abbrev hs0_4 (t : Fin (cfg0 (F := F)).N) : (ms0_4 t).IsWhole := hstage0_4 (((cfg0 (F := F)).slots t 4).cast nbuf0_4)

/-- What the body is called with at point `t`. -/
def bodyPre (c : Dev nD) (t : Fin (cfg0 (F := F)).N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- What it returns. -/
def bodyPost (c : Dev nD) (t : Fin (cfg0 (F := F)).N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

/-- A whole buffer's ownership, as its view's and as the buffer's. -/
theorem owns_own {s : Shape} {e : EltTy} {cs : CoreSpace} {mr : Memref sig .tc cs s e} (h : mr.IsWhole) (c : Dev nD) (X : s.Idx → Elt F e) :
    (owns (c : Thread nD τ) mr fullShare X : sProp 𝕄) = Hold.own (c : Thread nD τ) mr X := by
  unfold owns Hold.own
  rw [h.set_eq_univ]

theorem whole_loop (c : Dev nD) (i : grid0.Coords)
  (arg2 : Memref sig .tc .vmem S1x4x16x128x256 .bf16) (harg2 : arg2.IsWhole)
  (arg3 : Memref sig .tc .vmem S1x4096x256 .bf16) (harg3 : arg3.IsWhole) (arg5 : Memref sig .tc .vmem S256x512 .bf16) (harg5 : arg5.IsWhole)
  (arg4 : Memref sig .tc .vmem S1x4x16x64x256 .bf16) (harg4 : arg4.IsWhole) (arg6 : Memref sig .tc .vmem S1x4x16x64x256 .f32) (harg6 : arg6.IsWhole)
  (X : Vec F S1x4x16x128x256 .bf16) (K : Vec F S1x4096x256 .bf16) (V : Vec F S1x4x16x64x256 .bf16) (T : Vec F S256x512 .bf16)
  (O : Vec F S1x4x16x64x256 .f32) (Φ : PUnit → sProp 𝕄) :
    iprop((owns (c : Thread nD τ) arg2 fullShare X ∗ owns (c : Thread nD τ) arg3 fullShare K ∗ owns (c : Thread nD τ) arg4 fullShare V ∗ owns (c : Thread nD τ) arg5 fullShare T ∗ owns (c : Thread nD τ) arg6 fullShare O)
      ∗ ((owns (c : Thread nD τ) arg2 fullShare X ∗ owns (c : Thread nD τ) arg3 fullShare K ∗ owns (c : Thread nD τ) arg4 fullShare V ∗ owns (c : Thread nD τ) arg5 fullShare T ∗ owns (c : Thread nD τ) arg6 fullShare (outVal X K V T)) -∗ Φ ⟨⟩))
      ⊢ wp frame (wpE (defs₀ (F := F)) 𝒱₀ (c : Thread nD τ) none) Set.univ
          (cc0_sb_attn i arg2 harg2 arg3 harg3 arg4 harg4 arg5 harg5 arg6 harg6) Φ := by
  have h := loop c i arg2 harg2 arg3 harg3 arg5 harg5 arg4 harg4 arg6 harg6 X K V T O Φ
  rw [blockO_eq] at h
  unfold heldAll held at h
  rw [owns_own harg2, owns_own harg3, owns_own harg4, owns_own harg5, owns_own harg6, owns_own harg6]
  exact h

theorem sound_body (c : Dev nD) (t : Fin (cfg0 (F := F)).N) :
    bodyPre m c t ⊢ wp frame (wpE (defs₀ (F := F)) 𝒱₀ c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Hw, ⟨%d0, H0⟩, ⟨%d1, H1⟩, ⟨%d2, H2⟩, ⟨%d3, H3⟩, ⟨%d4, H4⟩⟩
  iapply (whole_loop c (grid0.coords t) (ms0_0 t) (hs0_0 t) (ms0_1 t) (hs0_1 t) (ms0_3 t) (hs0_3 t) (ms0_2 t) (hs0_2 t) (ms0_4 t) (hs0_4 t)
    (iblk m c 0 t) (iblk m c 1 t) (iblk m c 2 t) (iblk m c 3 t) ((dats m 0 c).before 4 t d4) _)
  isplitl [H0 H1 H2 H3 H4]
  · isplitl [H0]; · iexact H0
    isplitl [H1]; · iexact H1
    isplitl [H2]; · iexact H2
    isplitl [H3]; · iexact H3
    iexact H4
  iintro ⟨H0, H1, H2, H3, H4⟩
  isplitl [HΦ]; · iexact HΦ
  isplitl [Hw]; · iexact Hw
  isplitl [H0]; · iexact H0
  isplitl [H1]; · iexact H1
  isplitl [H2]; · iexact H2
  isplitl [H3]; · iexact H3
  unfold outAt
  iexact H4

theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

/-- The host's reshaping of the result array. -/
def unpack (o : FVec F S8x8x16x64x256 .f32) : FVec F S8x4096x8x64 .f32 :=
  shapeCast S8x4096x8x64 (transpose S8x16x256x8x64 [0, 2, 4, 1, 3] o transposes_S8x8x16x64x256_S8x16x256x8x64_0_2_4_1_3) shapeCasts_S8x16x256x8x64_S8x4096x8x64

set_option backward.isDefEq.respectTransparency.types false in
/-- The whole run: the windows' arrays, every other buffer after the reshaping of the result array, the counters at zero. -/
theorem run_main : θ_run defs (onTc (τ := τ) (main (F := F))) (s₀ m ρ) (fun r =>
      (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ 𝒱₀ m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m 𝒱₀) (hA := A_eq m) (hΦ := fun _ _ => rfl)

theorem end_result (c : Dev nD) :
    Pipeline.afterTail₀ cfgs (dats m) 0 (V0 m) [hostOps1] c main_v32 = unpack ((dats m 0 c).arrAt 4 (cfg0 (F := F)).N) := by
  unfold Pipeline.afterTail₀ unpack
  simp only [List.flatten_cons, List.flatten_nil, List.append_nil]
  have h := Pipeline.withArrays_arr spec0 (launch0 (F := F)).win.arr_inj c (V0 m c) (fun w => (dats m 0 c).arrAt w (cfg0 (F := F)).N) 4
  rw [← h]
  after_results_simp <;> rfl

theorem end_rest (c : Dev nD) (b : Ref sig .tc) (h31 : b ≠ main_v31) (h32 : b ≠ main_v32) (hw : ∀ w : Fin 5, Pipeline.arrRef spec0 w ≠ b) :
    Pipeline.afterTail₀ cfgs (dats m) 0 (V0 m) [hostOps1] c b = V m c b := by
  unfold Pipeline.afterTail₀
  rw [StableHlo.after_of_forall_not_mem (b := Proc.devRef .tc b) _ _ (List.forall_iff_forall_mem.mp (by
      simp only [List.flatten_cons, List.flatten_nil, List.append_nil, hostOps1, List.Forall, StableHlo.unary_writes, StableHlo.reshape_writes, Finset.mem_singleton]
      exact ⟨StableHlo.devRef_ne_of_ne h31, StableHlo.devRef_ne_of_ne h32⟩)),
    Pipeline.withArrays_of_ne _ c (V0 m c) _ b hw]

/-- Everything a final state is known by: the result, the arguments as launched, every counter at zero. -/
theorem run : θ_run defs (onTc (τ := τ) (main (F := F))) ⟨m, fun _ => 0, ρ⟩ (fun r => (∀ c : Dev nD,
      r.2.mem ((c.tc : Thread nD τ).loc main_v32) = unpack ((dats m 0 c).arrAt 4 (cfg0 (F := F)).N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c =>
    have hr (b : Ref sig .tc) (hs : b.isScoped = false) (hw : ∀ w : Fin 5, (spec0 w).arr.view.ref ≠ b) :=
      (h.1 c).2 b (Pipeline.mem_restRefs_of b hs hw)
    ⟨(hr main_v32 (by decide) (by decide)).trans (end_result m c),
      ((hr main_arg0 (by decide) (by decide)).trans (end_rest m c main_arg0 (by decide) (by decide) (by decide))).trans (V_main_arg0 m c),
      ((hr main_arg1 (by decide) (by decide)).trans (end_rest m c main_arg1 (by decide) (by decide) (by decide))).trans (V_main_arg1 m c),
      ((hr main_arg2 (by decide) (by decide)).trans (end_rest m c main_arg2 (by decide) (by decide) (by decide))).trans (V_main_arg2 m c)⟩, h.2⟩) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => (h.1 c).2, h.2⟩) (run m ρ)

end Cert.KernelIdeal.Sb

end
-- ==== Proof.SbI.Host.lean ====
/-
  What the stick-breaking kernel's arrays hold at launch, element by element: the scaled queries in the two-head layout,
  the keys, the values and the table of the suffix sums.
-/
module

public import proofs.«01_k».proof.Proof.SbI.Value
public import proofs.«01_k».proof.Proof.SbI.Run

@[expose] public section

set_option maxRecDepth 16384

noncomputable section

namespace Cert.KernelIdeal.Sb

open Cert.KernelIdeal Cert.KernelIdeal.Gen Cert.SbCore
open Idealize.ShloMosaic Idealize.ShloMosaic.TcCoe
open scoped BigOperators

/-- The queries as the kernel receives them. -/
def hostQ (q : FVec Ideal S8x4096x8x64 .f32) : FVec Ideal S8x8x16x128x256 .bf16 :=
  have v2 : FVec Ideal S8x4096x8x64 .f32 := broadcastInDim S8x4096x8x64 ![] bcast_S_S8x4096x8x64
    (Host.divf (constant S_ .f32 0x3E000000#32) (Host.log (constant S_ .f32 0x40000000#32)))
  have v5 : FVec Ideal S8x8x16x64x256 .f32 := transpose S8x8x16x64x256 [0, 3, 1, 4, 2]
    (shapeCast S8x16x256x8x64 (mulf q v2) shapeCasts_S8x4096x8x64_S8x16x256x8x64) transposes_S8x16x256x8x64_S8x8x16x64x256_0_3_1_4_2
  have v9 : IVec S8x8x16x128x256 32 := Host.shrui (iotaInDim S8x8x16x128x256 32 3) (broadcastInDim S8x8x16x128x256 ![] bcast_S_S8x8x16x128x256 (constantI S_ 32 6#32))
  have v11 : IVec S8x8x16x128x256 32 := andi (iotaInDim S8x8x16x128x256 32 1) (broadcastInDim S8x8x16x128x256 ![] bcast_S_S8x8x16x128x256 (constantI S_ 32 1#32))
  have v13 : FVec Ideal S8x8x16x128x256 .f32 := concatenate S8x8x16x128x256 3 [⟨S8x8x16x64x256, v5⟩, ⟨S8x8x16x64x256, v5⟩] concatenates_S8x8x16x64x256_S8x8x16x64x256_S8x8x16x128x256_d3
  truncf .bf16 (select (cmpi .eq v9 v11) v13 (broadcastInDim S8x8x16x128x256 ![] bcast_S_S8x8x16x128x256 (constant S_ .f32 0x00000000#32))) bitsLt_bf16_f32

/-- The keys as the kernel receives them. -/
def hostK (k : FVec Ideal S8x4096x8x64 .f32) : FVec Ideal S8x4096x512 .bf16 :=
  truncf .bf16 (shapeCast S8x4096x512 k shapeCasts_S8x4096x8x64_S8x4096x512) bitsLt_bf16_f32

/-- The values as the kernel receives them. -/
def hostV (v : FVec Ideal S8x4096x8x64 .f32) : FVec Ideal S8x8x16x64x256 .bf16 :=
  truncf .bf16 (transpose S8x8x16x64x256 [0, 3, 1, 4, 2] (shapeCast S8x16x256x8x64 v shapeCasts_S8x4096x8x64_S8x16x256x8x64)
    transposes_S8x16x256x8x64_S8x8x16x64x256_0_3_1_4_2) bitsLt_bf16_f32

/-- The table of the suffix sums. -/
def hostT : FVec Ideal S256x512 .bf16 :=
  have v27 : FVec Ideal S256x256 .f32 := select (cmpi .sle (iotaInDim S256x256 32 0) (iotaInDim S256x256 32 1))
    (broadcastInDim S256x256 ![] bcast_S_S256x256 (constant S_ .f32 0x3F800000#32)) (broadcastInDim S256x256 ![] bcast_S_S256x256 (constant S_ .f32 0x00000000#32))
  truncf .bf16 (concatenate S256x512 1 [⟨S256x256, v27⟩, ⟨S256x256, v27⟩] concatenates_S256x256_S256x256_S256x512_d1) bitsLt_bf16_f32

variable (m : (ℓ : Loc nD τ sig) → Buf (Elt Ideal) ℓ)

theorem V_v16 (c : Dev nD) : V (F := Ideal) m c main_v16 = hostQ (m ((c : Thread nD τ).loc main_arg0)) := by
  unfold V V0 hostOps0
  simp only [List.flatten_cons, List.flatten_nil, List.append_nil]
  after_results_simp <;> rfl

theorem V_v18 (c : Dev nD) : V (F := Ideal) m c main_v18 = hostK (m ((c : Thread nD τ).loc main_arg1)) := by
  unfold V V0 hostOps0
  simp only [List.flatten_cons, List.flatten_nil, List.append_nil]
  after_results_simp <;> rfl

theorem V_v21 (c : Dev nD) : V (F := Ideal) m c main_v21 = hostV (m ((c : Thread nD τ).loc main_arg2)) := by
  unfold V V0 hostOps0
  simp only [List.flatten_cons, List.flatten_nil, List.append_nil]
  after_results_simp <;> rfl

theorem V_v29 (c : Dev nD) : V (F := Ideal) m c main_v29 = hostT := by
  unfold V V0 hostOps0
  simp only [List.flatten_cons, List.flatten_nil, List.append_nil]
  after_results_simp <;> rfl

theorem hostK_apply (k : FVec Ideal S8x4096x8x64 .f32) (b : Fin 8) (s : Fin 4096) (x : Fin 512) :
    hostK k (ix3 b s x) = k (ix4 b s ⟨x.val / 64, by omega⟩ ⟨x.val % 64, by omega⟩) := by
  pointwise [hostK]

theorem hostV_apply (v : FVec Ideal S8x4096x8x64 .f32) (b h : Fin 8) (n : Fin 16) (d : Fin 64) (t : Fin 256) :
    hostV v (ix5 b h n d t) = v (ix4 b ⟨n.val * 256 + t.val, by omega⟩ h d) := by
  pointwise [hostV]

theorem hostT_tri : Tri hostT := by
  intro j x
  pointwise [hostT]
  have h : IntOp.cmpi .sle (BitVec.ofNat 32 j.val) (BitVec.ofNat 32 x.val) = if j ≤ x then 1#1 else 0#1 := by
    show BitVec.ofBool ((BitVec.ofNat 32 j.val).sle (BitVec.ofNat 32 x.val)) = _
    rw [BitVec.sle_eq_not_slt, slt_bool (by omega) (by omega)]
    by_cases hjx : j ≤ x
    · have h3 : ¬ x.val < j.val := by rw [Fin.le_def] at hjx; omega
      simp [hjx, h3]
    · have h3 : x.val < j.val := by rw [Fin.le_def] at hjx; omega
      simp [hjx, h3]
  rw [h, select_ite]

theorem half_bit : ∀ (r : Fin 128) (h : Fin 8),
    IntOp.cmpi .eq (IntOp.shrui .host (BitVec.ofNat 32 r.val) 6#32) (IntOp.andi (BitVec.ofNat 32 h.val) 1#32) = if r.val / 64 = h.val % 2 then 1#1 else 0#1 := by
  decide +kernel

theorem hostQ_apply (q : FVec Ideal S8x4096x8x64 .f32) (b h : Fin 8) (n : Fin 16) (r : Fin 128) (t : Fin 256) :
    hostQ q (ix5 b h n r t)
      = if r.val / 64 = h.val % 2 then q (ix4 b ⟨n.val * 256 + t.val, by omega⟩ h ⟨r.val % 64, by omega⟩) * (((1 / 8 : ℝ) * (Real.log 2)⁻¹ : ℝ) : EReal) else 0 := by
  pointwise [hostQ]
  rw [half_bit, select_ite, scale_eq]
  by_cases hr : r.val < 64
  · rw [dif_pos hr]
    have e : (⟨r.val % 64, by omega⟩ : Fin 64) = ⟨r.val, hr⟩ := Fin.ext (Nat.mod_eq_of_lt hr)
    rw [e]
  · rw [dif_neg hr]
    have e : (⟨r.val % 64, by omega⟩ : Fin 64) = ⟨r.val - 64, by omega⟩ := Fin.ext (by show r.val % 64 = r.val - 64; omega)
    rw [e]

/-! ### The logits of a block -/

/-- A head of a group of four. -/
def headOf (e : Fin 2) (g : Fin 4) : Fin 8 := ⟨4 * e.val + g.val, by omega⟩

/-- The products of a head's queries and keys, the other half of the layout being zero. -/
theorem logits_sum (q k : FVec Ideal S8x4096x8x64 .f32) (b : Fin 8) (e : Fin 2) (g : Fin 4) (n : Fin 16) (t : Fin 256) (s : Fin 4096) :
    ∑ r : Fin 128, hostK k (ix3 b s ⟨256 * e.val + (128 * (pairOf g).val + r.val), by omega⟩) * hostQ q (ix5 b (headOf e g) n r t)
      = ∑ d : Fin 64, k (ix4 b s (headOf e g) d) * (q (ix4 b ⟨n.val * 256 + t.val, by omega⟩ (headOf e g) d) * (((1 / 8 : ℝ) * (Real.log 2)⁻¹ : ℝ) : EReal)) := by
  have hp : (pairOf g).val = g.val / 2 := rfl
  have hh : (headOf e g).val = 4 * e.val + g.val := rfl
  have key : ∀ (r : Fin 128) (d : Fin 64), r.val / 64 = (headOf e g).val % 2 → r.val % 64 = d.val →
      hostK k (ix3 b s ⟨256 * e.val + (128 * (pairOf g).val + r.val), by omega⟩) * hostQ q (ix5 b (headOf e g) n r t)
        = k (ix4 b s (headOf e g) d) * (q (ix4 b ⟨n.val * 256 + t.val, by omega⟩ (headOf e g) d) * (((1 / 8 : ℝ) * (Real.log 2)⁻¹ : ℝ) : EReal)) := by
    intro r d h1 h2
    rw [hostK_apply, hostQ_apply, if_pos h1]
    have e1 : (⟨(256 * e.val + (128 * (pairOf g).val + r.val)) / 64, by omega⟩ : Fin 8) = headOf e g := Fin.ext (by
      show (256 * e.val + (128 * (pairOf g).val + r.val)) / 64 = _
      rw [hh, hp] at *; omega)
    have e2 : (⟨(256 * e.val + (128 * (pairOf g).val + r.val)) % 64, by omega⟩ : Fin 64) = d := Fin.ext (by
      show (256 * e.val + (128 * (pairOf g).val + r.val)) % 64 = _
      rw [hp]; omega)
    have e3 : (⟨r.val % 64, by omega⟩ : Fin 64) = d := Fin.ext h2
    simp only [e1, e2, e3]
  have zer : ∀ (r : Fin 128), ¬ r.val / 64 = (headOf e g).val % 2 →
      hostK k (ix3 b s ⟨256 * e.val + (128 * (pairOf g).val + r.val), by omega⟩) * hostQ q (ix5 b (headOf e g) n r t) = 0 := by
    intro r h1
    rw [hostQ_apply, if_neg h1, mul_zero]
  rw [show (∑ r : Fin 128, hostK k (ix3 b s ⟨256 * e.val + (128 * (pairOf g).val + r.val), by omega⟩) * hostQ q (ix5 b (headOf e g) n r t)) = _ from
    Fin.sum_univ_add (a := 64) (b := 64) (fun r : Fin 128 => hostK k (ix3 b s ⟨256 * e.val + (128 * (pairOf g).val + r.val), by omega⟩) * hostQ q (ix5 b (headOf e g) n r t))]
  rcases Nat.mod_two_eq_zero_or_one (headOf e g).val with h | h
  · exact (congrArg₂ (· + ·) (Finset.sum_congr rfl fun d _ => key (Fin.castAdd 64 d) d (by rw [h]; show d.val / 64 = 0; omega) (by show d.val % 64 = d.val; omega))
      (Finset.sum_eq_zero fun d _ => zer (Fin.natAdd 64 d) (by rw [h]; show ¬ (64 + d.val) / 64 = 0; omega))).trans (add_zero _)
  · exact (congrArg₂ (· + ·) (Finset.sum_eq_zero fun d _ => zer (Fin.castAdd 64 d) (by rw [h]; show ¬ d.val / 64 = 1; omega))
      (Finset.sum_congr rfl fun d _ => key (Fin.natAdd 64 d) d (by rw [h]; show (64 + d.val) / 64 = 1; omega) (by show (64 + d.val) % 64 = d.val; omega))).trans (zero_add _)

end Cert.KernelIdeal.Sb

end
-- ==== Proof.Sb.Logit.lean ====
/-
  The logits of finite queries and keys as reals, and the stick-breaking result they define.
-/
module

public import proofs.«01_k».proof.Proof.Sb.Core
public import Idealize.ShloMosaic.Lib.Pointwise

@[expose] public section

noncomputable section

namespace Cert.SbCore

open Idealize.ShloMosaic
open scoped BigOperators

abbrev SQ : Shape := ⟨4, ![8, 4096, 8, 64]⟩

/-- Every element a real. -/
def Finite (x : FVec Ideal SQ .f32) : Prop := ∀ i, x i = ((EReal.toReal (x i) : ℝ) : EReal)

/-- The natural logit of query `t` and key `s` of head `h`. -/
def logit (q k : FVec Ideal SQ .f32) (b h : Fin 8) (t s : Fin 4096) : ℝ :=
  (∑ d : Fin 64, EReal.toReal (q (ix4 b t h d)) * EReal.toReal (k (ix4 b s h d))) * (1 / 8)

/-- The same at any position, zero past the last key. -/
def zf (q k : FVec Ideal SQ .f32) (b h : Fin 8) (t : Fin 4096) (s : ℕ) : ℝ := if hs : s < 4096 then logit q k b h t ⟨s, hs⟩ else 0

theorem zf_val (q k : FVec Ideal SQ .f32) (b h : Fin 8) (t s : Fin 4096) : zf q k b h t s.val = logit q k b h t s := dif_pos s.isLt

/-- The stick-breaking result. -/
def sbOut (q k v : FVec Ideal SQ .f32) (b h : Fin 8) (t : Fin 4096) (d : Fin 64) : EReal :=
  ∑ s : Fin 4096, v (ix4 b s h d) * ((wt (zf q k b h t) t.val s.val : ℝ) : EReal)

theorem logit_dot {q k : FVec Ideal SQ .f32} (hq : Finite q) (hk : Finite k) (b h : Fin 8) (t s : Fin 4096) :
    (∑ d : Fin 64, q (ix4 b t h d) * k (ix4 b s h d)) * ((1 / 8 : ℝ) : EReal) = ((logit q k b h t s : ℝ) : EReal) := by
  rw [Finset.sum_congr rfl (fun d _ => by rw [EReal.coe_mul, ← hq, ← hk] :
    ∀ d ∈ Finset.univ, q (ix4 b t h d) * k (ix4 b s h d) = ((EReal.toReal (q (ix4 b t h d)) * EReal.toReal (k (ix4 b s h d)) : ℝ) : EReal)),
    sum_coe, ← EReal.coe_mul]
  rfl

theorem logit_scaled {q k : FVec Ideal SQ .f32} (hq : Finite q) (hk : Finite k) (b h : Fin 8) (t s : Fin 4096) (L : ℝ) :
    (∑ d : Fin 64, k (ix4 b s h d) * (q (ix4 b t h d) * (((1 / 8 : ℝ) * L : ℝ) : EReal))) = ((logit q k b h t s * L : ℝ) : EReal) := by
  rw [Finset.sum_congr rfl (fun d _ => by rw [EReal.coe_mul (EReal.toReal _), EReal.coe_mul (EReal.toReal _), ← hq, ← hk] :
    ∀ d ∈ Finset.univ, k (ix4 b s h d) * (q (ix4 b t h d) * (((1 / 8 : ℝ) * L : ℝ) : EReal))
      = ((EReal.toReal (k (ix4 b s h d)) * (EReal.toReal (q (ix4 b t h d)) * ((1 / 8 : ℝ) * L)) : ℝ) : EReal)), sum_coe]
  congr 1
  unfold logit
  rw [Finset.sum_mul, Finset.sum_mul]
  exact Finset.sum_congr rfl fun d _ => by ring

end Cert.SbCore

end
-- ==== Proof.SbI.Final.lean ====
/-
  The stick-breaking kernel's result array, from finite queries and keys: block by block the stick-breaking result.
-/
module

public import proofs.«01_k».proof.Proof.SbI.Host
public import proofs.«01_k».proof.Proof.Sb.Logit
public import Idealize.ShloMosaic.Lib.Pipeline.ValueKit

@[expose] public section

set_option maxRecDepth 16384

noncomputable section

namespace Cert.KernelIdeal.Sb

open Cert.KernelIdeal Cert.KernelIdeal.Gen Cert.SbCore
open Idealize.ShloMosaic Idealize.ShloMosaic.TcCoe
open scoped BigOperators

variable (m : (ℓ : Loc nD τ sig) → Buf (Elt Ideal) ℓ)

/-- The batch element and the group of heads of a grid point. -/
def bOf (t : Fin grid0.N) : Fin 8 := ⟨t.val / 2, by have : t.val < 16 := t.isLt; omega⟩
def eOf (t : Fin grid0.N) : Fin 2 := ⟨t.val % 2, by omega⟩

theorem headOf_val (e : Fin 2) (g : Fin 4) : (headOf e g).val = 4 * e.val + g.val := rfl

theorem idx0 : ∀ t : Fin grid0.N, win0_0.index t = ![(bOf t).val, (eOf t).val, 0, 0, 0] := by decide +kernel
theorem idx1 : ∀ t : Fin grid0.N, win0_1.index t = ![(bOf t).val, 0, (eOf t).val] := by decide +kernel
theorem idx2 : ∀ t : Fin grid0.N, win0_2.index t = ![(bOf t).val, (eOf t).val, 0, 0, 0] := by decide +kernel
theorem idx3 : ∀ t : Fin grid0.N, win0_3.index t = ![0, 0] := by decide +kernel
theorem idx4 : ∀ t : Fin grid0.N, win0_4.index t = ![(bOf t).val, (eOf t).val, 0, 0, 0] := by decide +kernel

theorem iblk0_apply (c : Dev nD) (t : Fin grid0.N) (g : Fin 4) (n : Fin 16) (r : Fin 128) (x : Fin 256) :
    iblk (F := Ideal) m c 0 t (ix5 0 g n r x) = hostQ (m ((c : Thread nD τ).loc main_arg0)) (ix5 (bOf t) (headOf (eOf t) g) n r x) := by
  have h : iblk (F := Ideal) m c 0 t (ix5 0 g n r x) = V (F := Ideal) m c main_v16 (ix5 (bOf t) (headOf (eOf t) g) n r x) := by
    blk_simp [iblk]
    refine congrArg (V (F := Ideal) m c main_v16) ?_
    blk_ext [idx0, headOf_val]
  rw [h, V_v16]

theorem iblk1_apply (c : Dev nD) (t : Fin grid0.N) (s : Fin 4096) (x : Fin 256) :
    iblk (F := Ideal) m c 1 t (ix3 0 s x) = hostK (m ((c : Thread nD τ).loc main_arg1)) (ix3 (bOf t) s ⟨256 * (eOf t).val + x.val, by omega⟩) := by
  have h : iblk (F := Ideal) m c 1 t (ix3 0 s x) = V (F := Ideal) m c main_v18 (ix3 (bOf t) s ⟨256 * (eOf t).val + x.val, by omega⟩) := by
    blk_simp [iblk]
    refine congrArg (V (F := Ideal) m c main_v18) ?_
    blk_ext [idx1]
  rw [h, V_v18]

theorem iblk2_apply (c : Dev nD) (t : Fin grid0.N) (g : Fin 4) (n : Fin 16) (d : Fin 64) (x : Fin 256) :
    iblk (F := Ideal) m c 2 t (ix5 0 g n d x) = hostV (m ((c : Thread nD τ).loc main_arg2)) (ix5 (bOf t) (headOf (eOf t) g) n d x) := by
  have h : iblk (F := Ideal) m c 2 t (ix5 0 g n d x) = V (F := Ideal) m c main_v21 (ix5 (bOf t) (headOf (eOf t) g) n d x) := by
    blk_simp [iblk]
    refine congrArg (V (F := Ideal) m c main_v21) ?_
    blk_ext [idx2, headOf_val]
  rw [h, V_v21]

theorem iblk3_apply (c : Dev nD) (t : Fin grid0.N) (j : Fin 256) (x : Fin 512) :
    iblk (F := Ideal) m c 3 t (ix2 j x) = hostT (ix2 j x) := by
  have h : iblk (F := Ideal) m c 3 t (ix2 j x) = V (F := Ideal) m c main_v29 (ix2 j x) := by
    blk_simp [iblk]
    refine congrArg (V (F := Ideal) m c main_v29) ?_
    blk_ext [idx3]
  rw [h, V_v29]

theorem tri_blk (c : Dev nD) (t : Fin grid0.N) : Tri (iblk (F := Ideal) m c 3 t) := fun j x =>
  (iblk3_apply m c t j _).trans (hostT_tri j x)

/-- The base-two logits of a block. -/
def uOf (c : Dev nD) (t : Fin grid0.N) (g : Fin 4) (n : Fin 16) (x : Fin 256) (s : ℕ) : ℝ :=
  zf (m ((c : Thread nD τ).loc main_arg0)) (m ((c : Thread nD τ).loc main_arg1)) (bOf t) (headOf (eOf t) g) ⟨n.val * 256 + x.val, by omega⟩ s * (Real.log 2)⁻¹

theorem logits_blk (c : Dev nD) (t : Fin grid0.N) (hq : Finite (m ((c : Thread nD τ).loc main_arg0))) (hk : Finite (m ((c : Thread nD τ).loc main_arg1))) :
    Logits (iblk (F := Ideal) m c 0 t) (iblk (F := Ideal) m c 1 t) (uOf m c t) := by
  intro g n x s
  unfold uOf
  rw [zf_val, ← logit_scaled hq hk]
  refine (Finset.sum_congr rfl fun r _ => ?_).trans (logits_sum (m ((c : Thread nD τ).loc main_arg0)) (m ((c : Thread nD τ).loc main_arg1)) (bOf t) (eOf t) g n x s)
  exact congrArg₂ (· * ·) (iblk1_apply m c t s _) (iblk0_apply m c t g n r x)

theorem outAt_apply (c : Dev nD) (t : Fin grid0.N) (hq : Finite (m ((c : Thread nD τ).loc main_arg0))) (hk : Finite (m ((c : Thread nD τ).loc main_arg1)))
    (g : Fin 4) (n : Fin 16) (d : Fin 64) (x : Fin 256) :
    outAt (F := Ideal) m c t (ix5 0 g n d x)
      = sbOut (m ((c : Thread nD τ).loc main_arg0)) (m ((c : Thread nD τ).loc main_arg1)) (m ((c : Thread nD τ).loc main_arg2))
          (bOf t) (headOf (eOf t) g) ⟨n.val * 256 + x.val, by omega⟩ d := by
  unfold outAt
  refine (outVal_apply (logits_blk m c t hq hk) (tri_blk m c t) g n d x).trans ?_
  unfold sbOut
  refine Finset.sum_congr rfl fun s _ => ?_
  have e1 : vals (iblk (F := Ideal) m c 2 t) g d s.val = m ((c : Thread nD τ).loc main_arg2) (ix4 (bOf t) s (headOf (eOf t) g) d) := by
    unfold vals
    rw [dif_pos s.isLt]
    refine (iblk2_apply m c t g _ d _).trans ?_
    rw [hostV_apply]
    have e : (⟨s.val / 256 * 256 + s.val % 256, by omega⟩ : Fin 4096) = s := Fin.ext (by show s.val / 256 * 256 + s.val % 256 = s.val; omega)
    exact congrArg (fun y => m ((c : Thread nD τ).loc main_arg2) (ix4 (bOf t) y (headOf (eOf t) g) d)) e
  have e2 : uOf m c t g n x = fun s => zf (m ((c : Thread nD τ).loc main_arg0)) (m ((c : Thread nD τ).loc main_arg1)) (bOf t) (headOf (eOf t) g) ⟨n.val * 256 + x.val, by omega⟩ s * (Real.log 2)⁻¹ := rfl
  have e3 : 256 * n.val + x.val = n.val * 256 + x.val := by omega
  rw [e1, e2, kw_scaled, e3]

/-- The result array. -/
def result (q k v : FVec Ideal S8x4096x8x64 .f32) : FVec Ideal S8x8x16x64x256 .f32 :=
  fun i => sbOut q k v (i 0) (i 1) ⟨(i 2).val * 256 + (i 4).val, by have h2 : (i 2).val < 16 := (i 2).isLt; have h4 : (i 4).val < 256 := (i 4).isLt; omega⟩ (i 3)

theorem final_o (c : Dev nD) (hq : Finite (m ((c : Thread nD τ).loc main_arg0))) (hk : Finite (m ((c : Thread nD τ).loc main_arg1))) :
    (dats (F := Ideal) m 0 c).arrAt 4 (cfg0 (F := Ideal)).N
      = result (m ((c : Thread nD τ).loc main_arg0)) (m ((c : Thread nD τ).loc main_arg1)) (m ((c : Thread nD τ).loc main_arg2)) := by
  refine (dats (F := Ideal) m 0 c).arrAt_eq_of_covers 4 _ (by decide +kernel) fun t hf y => ?_
  blk_simp
  obtain ⟨g, n, d, x, rfl⟩ : ∃ (g : Fin 4) (n : Fin 16) (d : Fin 64) (x : Fin 256), y = (ix5 0 g n d x : S1x4x16x64x256.Idx) :=
    ⟨y 1, y 2, y 3, y 4, (eq_ix5 (y : S1x4x16x64x256.Idx)).trans (congrArg (fun z => (ix5 z (y 1) (y 2) (y 3) (y 4) : S1x4x16x64x256.Idx)) (Subsingleton.elim (α := Fin 1) _ _))⟩
  have e : (win0_4.blk t).view.emb (ix5 0 g n d x : S1x4x16x64x256.Idx) = (ix5 (bOf t) (headOf (eOf t) g) n d x : S8x8x16x64x256.Idx) := by
    blk_ext [idx4, headOf_val]
  rw [e]
  exact outAt_apply m c t hq hk g n d x

/-- The reshaped result: by batch element, position, head and channel. -/
def packed (q k v : FVec Ideal S8x4096x8x64 .f32) : FVec Ideal S8x4096x8x64 .f32 :=
  fun i => sbOut q k v (i 0) (i 2) (i 1) (i 3)

theorem unpack_result (q k v : FVec Ideal S8x4096x8x64 .f32) : unpack (F := Ideal) (result q k v) = packed q k v := by
  funext i
  obtain ⟨b, t, h, d, rfl⟩ : ∃ (b : Fin 8) (t : Fin 4096) (h : Fin 8) (d : Fin 64), i = (ix4 b t h d : S8x4096x8x64.Idx) :=
    ⟨i 0, i 1, i 2, i 3, eq_ix4 i⟩
  have e : unpack (F := Ideal) (result q k v) (ix4 b t h d)
      = result q k v (ix5 b h ⟨t.val / 256, by omega⟩ d ⟨t.val % 256, by omega⟩) := by
    pointwise [unpack]
  rw [e]
  show sbOut q k v b h ⟨t.val / 256 * 256 + t.val % 256, _⟩ d = sbOut q k v b h t d
  congr 1
  exact Fin.ext (by show t.val / 256 * 256 + t.val % 256 = t.val; omega)

end Cert.KernelIdeal.Sb

end
-- ==== Proof.Sb.Window.lean ====
/-
  The suffix sum along the last axis of a four-axis array, as a host window sum states it.
-/
module

public import proofs.«01_k».proof.Proof.Sb.Core
public import Idealize.ShloMosaic.Lib.Pointwise

@[expose] public section

noncomputable section

namespace Cert.SbCore

open Idealize.ShloMosaic
open scoped BigOperators

theorem foldl_add_sum {ι : Type*} (f : ι → EReal) (l : List ι) (v : EReal) : l.foldl (fun r n => r + f n) v = v + (l.map f).sum := by
  induction l generalizing v with
  | nil => simp
  | cons a l ih => rw [List.foldl_cons, ih, List.map_cons, List.sum_cons, add_assoc]

abbrev SW (N : ℕ) : Shape := ⟨4, ![1, 1, 1, N]⟩
abbrev SL (A B C N : ℕ) : Shape := ⟨4, ![A, B, C, N]⟩
abbrev S0 : Shape := ⟨0, ![]⟩

/-- Positions of the window, by their last coordinate. -/
def winEquiv (N : ℕ) : (SW N).Idx ≃ Fin N where
  toFun p := p 3
  invFun k := ix4 0 0 0 k
  left_inv p := by
    refine (funext fun a => ?_)
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl
  right_inv k := rfl

/-- What the window's sum adds at a position. -/
def winTerm {A B C N : ℕ} (x : (SL A B C N).Idx → EReal) (j : (SL A B C N).Idx) (p : (SW N).Idx) : EReal :=
  if hin : ∀ a : Fin 4, (![0, 0, 0, 0] : Fin 4 → ℕ) a ≤ (j a).val * (![1, 1, 1, 1] : Fin 4 → ℕ) a + (p a).val
      ∧ (j a).val * (![1, 1, 1, 1] : Fin 4 → ℕ) a + (p a).val - (![0, 0, 0, 0] : Fin 4 → ℕ) a < (SL A B C N).size a
    then x (fun a => ⟨(j a).val * (![1, 1, 1, 1] : Fin 4 → ℕ) a + (p a).val - (![0, 0, 0, 0] : Fin 4 → ℕ) a, (hin a).2⟩) else 0

theorem winTerm_apply {A B C N : ℕ} (x : (SL A B C N).Idx → EReal) (b : Fin A) (e : Fin B) (t : Fin C) (s k : Fin N) (f : ℕ → EReal)
    (hf : ∀ s' : Fin N, x (ix4 b e t s') = f s'.val) :
    winTerm x (ix4 b e t s) ((winEquiv N).symm k) = if s.val + k.val < N then f (s.val + k.val) else 0 := by
  unfold winTerm
  have hb := b.isLt
  have he := e.isLt
  have ht := t.isLt
  by_cases hsk : s.val + k.val < N
  · rw [if_pos hsk, dif_pos (by
      intro a
      match a with
      | ⟨0, _⟩ => exact ⟨Nat.zero_le _, by show b.val * 1 + 0 - 0 < A; omega⟩
      | ⟨1, _⟩ => exact ⟨Nat.zero_le _, by show e.val * 1 + 0 - 0 < B; omega⟩
      | ⟨2, _⟩ => exact ⟨Nat.zero_le _, by show t.val * 1 + 0 - 0 < C; omega⟩
      | ⟨3, _⟩ => exact ⟨Nat.zero_le _, by show s.val * 1 + k.val - 0 < N; omega⟩)]
    rw [← hf ⟨s.val + k.val, hsk⟩]
    refine congrArg x (funext fun a => Fin.ext ?_)
    match a with
    | ⟨0, _⟩ => show b.val * 1 + 0 - 0 = b.val; omega
    | ⟨1, _⟩ => show e.val * 1 + 0 - 0 = e.val; omega
    | ⟨2, _⟩ => show t.val * 1 + 0 - 0 = t.val; omega
    | ⟨3, _⟩ => show s.val * 1 + k.val - 0 = s.val + k.val; omega
  · rw [if_neg hsk, dif_neg fun hin => hsk (by
      have h3 : s.val * 1 + k.val - 0 < N := (hin 3).2
      omega)]

theorem window_sum {A B C N H : ℕ} (x : FVec Ideal (SL A B C N) .f32) (init : FVec Ideal S0 .f32) (hinit : ∀ i, init i = (0 : EReal))
    (h : (SL A B C N).ReduceWindows (![1, 1, 1, N] : Fin 4 → ℕ) ![1, 1, 1, 1] ![0, 0, 0, 0] ![0, 0, 0, H] (SL A B C N)) (hu : 0 < S0.numel)
    (b : Fin A) (e : Fin B) (t : Fin C) (s : Fin N) (f : ℕ → EReal) (hf : ∀ s' : Fin N, x (ix4 b e t s') = f s'.val) :
    Host.reduceWindowAdd (F := Ideal) (φ := .f32) (![1, 1, 1, N] : Fin 4 → ℕ) ![1, 1, 1, 1] ![0, 0, 0, 0] ![0, 0, 0, H] x init h hu (ix4 b e t s)
      = ∑ s' ∈ Finset.Ico s.val N, f s' := by
  have hs := s.isLt
  have h1 : Host.reduceWindowAdd (F := Ideal) (φ := .f32) (![1, 1, 1, N] : Fin 4 → ℕ) ![1, 1, 1, 1] ![0, 0, 0, 0] ![0, 0, 0, H] x init h hu (ix4 b e t s)
      = (List.finRange (SW N).numel).foldl (fun r n => r + winTerm x (ix4 b e t s) ((SW N).rowMajor.symm n)) 0 := by
    unfold Host.reduceWindowAdd
    rw [Ideal.hostReduceWindowAdd_def, hinit]
    unfold Ideal.hostReduceWindowAdd Host.reduceWindow
    dsimp only
    refine congrArg (fun F => List.foldl F (0 : EReal) (List.finRange (SW N).numel)) (funext fun r => funext fun n => congrArg (r + ·) ?_)
    unfold winTerm
    by_cases hin : ∀ a : Fin 4, (![0, 0, 0, 0] : Fin 4 → ℕ) a ≤ ((ix4 b e t s : (SL A B C N).Idx) a).val * (![1, 1, 1, 1] : Fin 4 → ℕ) a + ((SW N).rowMajor.symm n a).val
      ∧ ((ix4 b e t s : (SL A B C N).Idx) a).val * (![1, 1, 1, 1] : Fin 4 → ℕ) a + ((SW N).rowMajor.symm n a).val - (![0, 0, 0, 0] : Fin 4 → ℕ) a < (SL A B C N).size a
    · rw [dif_pos hin]
      exact dif_pos hin
    · rw [dif_neg hin]
      exact dif_neg hin
  rw [h1, foldl_add_sum, zero_add, ← Fin.sum_univ_def, Equiv.sum_comp (SW N).rowMajor.symm (winTerm x (ix4 b e t s)),
    ← Equiv.sum_comp (winEquiv N).symm, Finset.sum_congr rfl fun k _ => winTerm_apply x b e t s k f hf, Finset.sum_ite, Finset.sum_const_zero, add_zero]
  refine Finset.sum_bij (fun k _ => s.val + k.val) (fun k hk => ?_) (fun k _ k' _ hkk => Fin.ext (by omega)) (fun n hn => ?_) (fun k _ => rfl)
  · have := (Finset.mem_filter.mp hk).2
    exact Finset.mem_Ico.mpr ⟨by omega, this⟩
  · obtain ⟨h1, h2⟩ := Finset.mem_Ico.mp hn
    exact ⟨⟨n - s.val, by omega⟩, Finset.mem_filter.mpr ⟨Finset.mem_univ _, by show s.val + (n - s.val) < N; omega⟩, by show s.val + (n - s.val) = n; omega⟩

end Cert.SbCore

end
-- ==== Proof.SbR.Ref.lean ====
/-
  The stick-breaking reference, element by element, from finite queries and keys.
-/
module

public import proofs.«01_k».proof.Proof.Gen.ReferenceIdeal.Run
public import proofs.«01_k».proof.Proof.Sb.Logit
public import proofs.«01_k».proof.Proof.Sb.Window
public import Idealize.ShloMosaic.Lib.Quiescent

@[expose] public section

set_option maxRecDepth 16384

noncomputable section

namespace Cert.ReferenceIdeal.Sb

open Cert.ReferenceIdeal Cert.ReferenceIdeal.Gen Cert.SbCore
open Idealize.ShloMosaic Idealize.ShloMosaic.TcCoe
open scoped BigOperators

/-! ### The frame -/

theorem frame {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => (h c).2, sem_eq_zero_of_no_sems (by decide) r.2⟩) (Cert.ReferenceIdeal.Value.run m ρ)

/-! ### The terms of the result -/

/-- The masses of logits, elementwise. -/
def spV (d : FVec Ideal S8x8x4096x4096 .f32) : FVec Ideal S8x8x4096x4096 .f32 :=
  have z : FVec Ideal S8x8x4096x4096 .f32 := broadcastInDim S8x8x4096x4096 ![] bcast_S_S8x8x4096x4096 (constant S_ .f32 0x00000000#32)
  select (cmpf .une (subf d z) (subf d z)) (addf d z) (addf (maximumf d z) (Host.log1p (Host.exp (Host.negf (Host.absf (subf d z))))))

/-- The natural logits. -/
def zV (q k : FVec Ideal S8x4096x8x64 .f32) : FVec Ideal S8x8x4096x4096 .f32 :=
  mulf (Host.dotGeneral dot_S8x4096x8x64_S8x4096x8x64_S8x8x4096x4096_3_3_1_1_02_02 none q k)
    (broadcastInDim S8x8x4096x4096 ![] bcast_S_S8x8x4096x4096 (constant S_ .f32 0x3E000000#32))

/-- Keys before the query. -/
def maskV : IVec S8x8x4096x4096 1 :=
  broadcastInDim S8x8x4096x4096 ![2, 3] bcast_S4096x4096_S8x8x4096x4096_2_3 (cmpi .slt
    (broadcastInDim S4096x4096 ![0, 1] bcast_S1x4096_S4096x4096_0_1 (broadcastInDim S1x4096 ![1] bcast_S4096_S1x4096_1 (iotaInDim S4096 32 0)))
    (broadcastInDim S4096x4096 ![0, 1] bcast_S4096x1_S4096x4096_0_1 (broadcastInDim S4096x1 ![0] bcast_S4096_S4096x1_0 (iotaInDim S4096 32 0))))

def zeroV : FVec Ideal S8x8x4096x4096 .f32 := broadcastInDim S8x8x4096x4096 ![] bcast_S_S8x8x4096x4096 (id (constant S_ .f32 0x00000000#32))

/-- The logarithms of what each key before the query leaves. -/
def keepV (q k : FVec Ideal S8x4096x8x64 .f32) : FVec Ideal S8x8x4096x4096 .f32 :=
  select maskV (Host.negf (spV (Host.negf (Host.negf (zV q k))))) zeroV

/-- The weights. -/
def wV (q k : FVec Ideal S8x4096x8x64 .f32) : FVec Ideal S8x8x4096x4096 .f32 :=
  select maskV (Host.exp (addf (Host.negf (spV (Host.negf (zV q k))))
    (subf (Host.reduceWindowAdd ![1, 1, 1, 4096] ![1, 1, 1, 1] ![0, 0, 0, 0] ![0, 0, 0, 4095] (keepV q k) (constant S_ .f32 0x00000000#32)
      reduceWindows_S8x8x4096x4096_S8x8x4096x4096_w1s1p0_0_w1s1p0_0_w1s1p0_0_w4096s1p0_4095 h_S_) (keepV q k)))) zeroV

/-- The result. -/
def refOut (q k v : FVec Ideal S8x4096x8x64 .f32) : FVec Ideal S8x4096x8x64 .f32 :=
  transpose S8x4096x8x64 [0, 3, 1, 2]
    (Host.dotGeneral dot_S8x4096x8x64_S8x8x4096x4096_S8x8x64x4096_1_3_3_2_02_01 none v (wV q k)) transposes_S8x8x64x4096_S8x4096x8x64_0_3_1_2

theorem res_eq (m : (ℓ : Loc nD τ sig) → Buf (Elt Ideal) ℓ) (c : Dev nD) :
    Cert.ReferenceIdeal.Value.res_main_v20 (F := Ideal) m c
      = refOut (m ((c.tc : Thread nD τ).loc main_arg0)) (m ((c.tc : Thread nD τ).loc main_arg1)) (m ((c.tc : Thread nD τ).loc main_arg2)) := rfl

/-! ### Element by element -/

theorem slt_of_lt {a b : ℕ} (ha : a < 2 ^ 31) (hb : b < 2 ^ 31) :
    IntOp.cmpi .slt (BitVec.ofNat 32 a) (BitVec.ofNat 32 b) = if a < b then 1#1 else 0#1 := by
  have h : (BitVec.ofNat 32 a).slt (BitVec.ofNat 32 b) = decide (a < b) := by
    rw [BitVec.slt_eq_decide, BitVec.toInt_eq_toNat_of_lt (by rw [BitVec.toNat_ofNat]; omega), BitVec.toInt_eq_toNat_of_lt (by rw [BitVec.toNat_ofNat]; omega),
      BitVec.toNat_ofNat, BitVec.toNat_ofNat, Nat.mod_eq_of_lt (by omega), Nat.mod_eq_of_lt (by omega)]
    simp only [Nat.cast_lt]
  show BitVec.ofBool ((BitVec.ofNat 32 a).slt (BitVec.ofNat 32 b)) = _
  rw [h]
  by_cases hab : a < b <;> simp [hab]

theorem maskV_apply (b h : Fin 8) (t s : Fin 4096) : maskV (ix4 b h t s) = if s.val < t.val then 1#1 else 0#1 := by
  pointwise [maskV]
  exact slt_of_lt (by omega) (by omega)

theorem select_ite {α : Type} (c : Prop) [Decidable c] (a b : α) : Scalar.select (if c then 1#1 else 0#1) a b = if c then a else b := by
  by_cases h : c <;> simp [h, Scalar.select]

theorem zeroV_apply (i : S8x8x4096x4096.Idx) : zeroV i = (0 : EReal) := by
  unfold zeroV
  show Ideal.ofBits .f32 0x00000000#32 = 0
  exact Ideal.ofBits_zero_f32

theorem zV_apply (q k : FVec Ideal S8x4096x8x64 .f32) (hq : Finite q) (hk : Finite k) (b h : Fin 8) (t s : Fin 4096) :
    zV q k (ix4 b h t s) = ((zf q k b h t s.val : ℝ) : EReal) := by
  rw [zf_val, ← logit_dot hq hk]
  pointwise [zV]
  rw [ofBits_eighth]

theorem spE (x : ℝ) : max (x : EReal) 0 + Ideal.log1p (Ideal.exp (-(max (x : EReal) (-(x : EReal))))) = ((sp x : ℝ) : EReal) := by
  have h1 : (0 : EReal) = ((0 : ℝ) : EReal) := rfl
  have h2 : (1 : EReal) = ((1 : ℝ) : EReal) := rfl
  have h4 : 0 < 1 + Real.exp (-|x|) := by have := Real.exp_pos (-|x|); linarith
  unfold Ideal.log1p
  rw [h1, h2, ← EReal.coe_neg, coe_max, coe_max, ← EReal.coe_neg, exp_coe', ← EReal.coe_add]
  rw [show max x (-x) = |x| from rfl, log_coe_pos h4, ← EReal.coe_add]
  rfl

theorem spV_apply (d : FVec Ideal S8x8x4096x4096 .f32) (i : S8x8x4096x4096.Idx) (x : ℝ) (hd : d i = (x : EReal)) :
    spV d i = ((sp x : ℝ) : EReal) := by
  have hz : Ideal.ofBits .f32 0x00000000#32 = 0 := Ideal.ofBits_zero_f32
  have h : spV d i = Scalar.select (Ideal.cmp .une (d i - Ideal.ofBits .f32 0x00000000#32) (d i - Ideal.ofBits .f32 0x00000000#32)) (d i + Ideal.ofBits .f32 0x00000000#32)
      (max (d i) (Ideal.ofBits .f32 0x00000000#32) + Ideal.log1p (Ideal.exp (-(max (d i - Ideal.ofBits .f32 0x00000000#32) (-(d i - Ideal.ofBits .f32 0x00000000#32)))))) := rfl
  rw [h, hz, sub_zero, add_zero, hd, spE]
  have hc : Ideal.cmp .une ((x : ℝ) : EReal) ((x : ℝ) : EReal) = 0#1 := by simp [Ideal.cmp]
  rw [hc]
  rfl

theorem keepV_apply (q k : FVec Ideal S8x4096x8x64 .f32) (hq : Finite q) (hk : Finite k) (b h : Fin 8) (t s : Fin 4096) :
    keepV q k (ix4 b h t s) = (((if s.val < t.val then -sp (zf q k b h t s.val) else 0 : ℝ)) : EReal) := by
  have e : keepV q k (ix4 b h t s) = Scalar.select (maskV (ix4 b h t s)) (-(spV (Host.negf (Host.negf (zV q k))) (ix4 b h t s))) (zeroV (ix4 b h t s)) := rfl
  rw [e, maskV_apply, zeroV_apply, spV_apply _ _ (zf q k b h t s.val) (by
    show - -(zV q k (ix4 b h t s)) = _
    rw [zV_apply q k hq hk, neg_neg]), select_ite]
  by_cases hs : s.val < t.val
  · rw [if_pos hs, if_pos hs, EReal.coe_neg]
  · rw [if_neg hs, if_neg hs, EReal.coe_zero]

theorem sp_neg (z : ℝ) : -sp (-z) = z - sp z := by
  unfold sp
  rw [abs_neg]
  rcases le_total 0 z with h | h
  · rw [max_eq_right (by linarith), max_eq_left h]; ring
  · rw [max_eq_left (by linarith), max_eq_right h]; ring

theorem wV_apply (q k : FVec Ideal S8x4096x8x64 .f32) (hq : Finite q) (hk : Finite k) (b h : Fin 8) (t s : Fin 4096) :
    wV q k (ix4 b h t s) = ((wt (zf q k b h t) t.val s.val : ℝ) : EReal) := by
  have e : wV q k (ix4 b h t s) = Scalar.select (maskV (ix4 b h t s)) (Ideal.exp (-(spV (Host.negf (zV q k)) (ix4 b h t s))
      + (Host.reduceWindowAdd (F := Ideal) (φ := .f32) ![1, 1, 1, 4096] ![1, 1, 1, 1] ![0, 0, 0, 0] ![0, 0, 0, 4095] (keepV q k) (constant S_ .f32 0x00000000#32)
      reduceWindows_S8x8x4096x4096_S8x8x4096x4096_w1s1p0_0_w1s1p0_0_w1s1p0_0_w4096s1p0_4095 h_S_ (ix4 b h t s) - keepV q k (ix4 b h t s)))) (zeroV (ix4 b h t s)) := rfl
  have hsum : ∑ s' ∈ Finset.Ico s.val 4096, (((if s' < t.val then -sp (zf q k b h t s') else 0 : ℝ)) : EReal)
      = ((-∑ s' ∈ Finset.Ico s.val t.val, sp (zf q k b h t s') : ℝ) : EReal) := by
    rw [sum_coe, ← Finset.sum_filter, ← Finset.sum_neg_distrib]
    congr 2
    ext s'
    have := t.isLt
    simp only [Finset.mem_filter, Finset.mem_Ico]
    omega
  rw [e, maskV_apply, zeroV_apply, select_ite, spV_apply _ _ (-(zf q k b h t s.val)) (by
    show -(zV q k (ix4 b h t s)) = _
    rw [zV_apply q k hq hk, EReal.coe_neg]), keepV_apply q k hq hk,
    window_sum (A := 8) (B := 8) (C := 4096) (N := 4096) (H := 4095) (keepV q k) (constant S_ .f32 0x00000000#32) (fun _ => Ideal.ofBits_zero_f32) _ _ b h t s
      (fun s' => (((if s' < t.val then -sp (zf q k b h t s') else 0 : ℝ)) : EReal)) (fun s' => keepV_apply q k hq hk b h t s'), hsum]
  unfold wt
  by_cases hs : s.val < t.val
  · rw [if_pos hs, if_pos hs, if_pos hs, ← EReal.coe_neg, ← EReal.coe_sub, ← EReal.coe_add, exp_coe', sp_neg]
    congr 2
    ring
  · rw [if_neg hs, if_neg hs, EReal.coe_zero]

theorem refOut_apply (q k v : FVec Ideal S8x4096x8x64 .f32) (hq : Finite q) (hk : Finite k) (b : Fin 8) (t : Fin 4096) (h : Fin 8) (d : Fin 64) :
    refOut q k v (ix4 b t h d) = sbOut q k v b h t d := by
  unfold sbOut
  simp only [← wV_apply q k hq hk]
  pointwise [refOut]

end Cert.ReferenceIdeal.Sb

end
-- ==== Proof.Ob.Core.lean ====
/-
  One row of the output block on extended reals: the logistic function, the merge of the three gated branches, the output
  projection with the scaled residual, and the layer norm.
-/
module

public import Idealize.ShloMosaic.Lib.Pointwise

@[expose] public section

noncomputable section

namespace Cert.ObCore

open Idealize.ShloMosaic
open scoped BigOperators

/-- The logistic function. -/
def sg (z : EReal) : EReal := Ideal.div 1 (1 + Ideal.exp (-z))

/-- The sigmoid linear unit. -/
def silu (z : EReal) : EReal := z * sg z

/-- The merged branches of one row: each branch's product with its weights, times the logistic of its gate's argument. -/
def merged (z0 z1 z2 : Fin 1024 → EReal) (ha hb hm : Fin 512 → EReal) (wa wb wm : Fin 512 → Fin 1024 → EReal) (e : Fin 1024) : EReal :=
  sg (z0 e) * (∑ w, ha w * wa w e) + sg (z1 e) * (∑ w, hb w * wb w e) + sg (z2 e) * ∑ w, hm w * wm w e

/-- The residual sum of one row. -/
def resid (x : Fin 1024 → EReal) (mg : Fin 1024 → EReal) (wout : Fin 1024 → Fin 1024 → EReal) (e : Fin 1024) : EReal :=
  Ideal.ofBits FTy.f32 0x3F9837F0#32 * x e + ∑ d, mg d * wout d e

/-- A row less its mean. -/
def centred (r : Fin 1024 → EReal) (e : Fin 1024) : EReal :=
  r e - Ideal.div (∑ d, r d) (Ideal.ofBits FTy.f32 0x44800000#32)

/-- A centred row over its standard deviation, scaled and shifted. -/
def normed (rc : Fin 1024 → EReal) (g b : Fin 1024 → EReal) (e : Fin 1024) : EReal :=
  rc e * Ideal.rsqrt (Ideal.div (∑ d, rc d * rc d) (Ideal.ofBits FTy.f32 0x44800000#32) + Ideal.ofBits FTy.f32 0x3727C5AC#32) * g e + b e

/-- The output row. -/
def rowOut (x z0 z1 z2 : Fin 1024 → EReal) (ha hb hm : Fin 512 → EReal) (wa wb wm : Fin 512 → Fin 1024 → EReal)
    (wout : Fin 1024 → Fin 1024 → EReal) (g b : Fin 1024 → EReal) : Fin 1024 → EReal :=
  normed (centred (resid x (merged z0 z1 z2 ha hb hm wa wb wm) wout)) g b

abbrev SX : Shape := ⟨3, ![8, 4096, 1024]⟩
abbrev SH : Shape := ⟨4, ![8, 4096, 8, 64]⟩
abbrev SW : Shape := ⟨3, ![8, 4096, 512]⟩
abbrev SB : Shape := ⟨2, ![512, 1024]⟩
abbrev SG : Shape := ⟨2, ![1024, 3072]⟩
abbrev SGB : Shape := ⟨1, ![3072]⟩
abbrev SO : Shape := ⟨2, ![1024, 1024]⟩
abbrev SV : Shape := ⟨1, ![1024]⟩

/-- The layer's output row at a batch element and position, from the layer's input, the branches' outputs, the gates and
    the weights. -/
def obOut (x : FVec Ideal SX .f32) (oa ob : FVec Ideal SH .f32) (ga gb hm : FVec Ideal SW .f32) (wa wb wm : FVec Ideal SB .f32)
    (wg : FVec Ideal SG .f32) (bg : FVec Ideal SGB .f32) (wo : FVec Ideal SO .f32) (lg lb : FVec Ideal SV .f32) (b : Fin 8) (s : Fin 4096) :
    Fin 1024 → EReal :=
  rowOut (fun d => x (ix3 b s d))
    (fun d => (∑ j : Fin 1024, x (ix3 b s j) * wg (ix2 j ⟨d.val, by omega⟩)) + bg (ix1 ⟨d.val, by omega⟩))
    (fun d => (∑ j : Fin 1024, x (ix3 b s j) * wg (ix2 j ⟨1024 + d.val, by omega⟩)) + bg (ix1 ⟨1024 + d.val, by omega⟩))
    (fun d => (∑ j : Fin 1024, x (ix3 b s j) * wg (ix2 j ⟨2048 + d.val, by omega⟩)) + bg (ix1 ⟨2048 + d.val, by omega⟩))
    (fun w => oa (ix4 b s ⟨w.val / 64, by omega⟩ ⟨w.val % 64, by omega⟩) * silu (ga (ix3 b s w)))
    (fun w => ob (ix4 b s ⟨w.val / 64, by omega⟩ ⟨w.val % 64, by omega⟩) * silu (gb (ix3 b s w)))
    (fun w => hm (ix3 b s w)) (fun w d => wa (ix2 w d)) (fun w d => wb (ix2 w d)) (fun w d => wm (ix2 w d)) (fun d e => wo (ix2 d e))
    (fun d => lg (ix1 d)) (fun d => lb (ix1 d))

end Cert.ObCore

end
-- ==== Proof.Ob.Pay.lean ====
/-
  The output block's tile on extended reals: each of its 256 rows is the output row of the tile's loads.
-/
module

public import proofs.«01_k».proof.Proof.Gen.Kernel2Ideal.Skeleton
public import proofs.«01_k».proof.Proof.Ob.Core
public import Idealize.ShloMosaic.Lib.Pointwise

@[expose] public section

noncomputable section

namespace Cert.Kernel2Ideal.Ob

open Idealize.ShloMosaic Idealize.ShloMosaic.TcCoe
open Cert.Kernel2Ideal.Gen Cert.ObCore
open scoped BigOperators

variable {F : FTy → Type} [FloatOps F]

/-- The centred residual of a tile, from the tile's loads. -/
def tileC (v4 : Vec F S1x256x1024 .f32) (v8 v12 : Vec F S1x8x1x64x256 .f32) (v16 v29 : Vec F S1x1x512x256 .f32) (v42 : Vec F S1x1x512x256 .bf16)
    (v44 : Vec F S1024x1024 .bf16) (v47 : Vec F S1x1024 .f32) (v58 : Vec F S512x1024 .bf16) (v62 : Vec F S1024x1024 .bf16) (v65 : Vec F S1x1024 .f32)
    (v76 : Vec F S512x1024 .bf16) (v81 : Vec F S1024x1024 .bf16) (v84 : Vec F S1x1024 .f32) (v95 : Vec F S512x1024 .bf16) (v101 : Vec F S1024x1024 .bf16) :
    FVec F S256x1024 .f32 :=
  k0_pay14 (k0_pay2 v4) (k0_pay3 v4) (k0_pay9 (k0_pay4 v12) (k0_pay6 v29) (k0_pay7 v29) k0_pay8) (k0_pay10 v42)
    (k0_pay11 (k0_pay3 v4) (k0_pay5 v8 v16) v44 v47 v58) (k0_pay12 (k0_pay3 v4) v62 v65) k0_pay13 v76 v81 v84 v95 v101

/-- The result of a tile, from the tile's loads. -/
def tile (v4 : Vec F S1x256x1024 .f32) (v8 v12 : Vec F S1x8x1x64x256 .f32) (v16 v29 : Vec F S1x1x512x256 .f32) (v42 : Vec F S1x1x512x256 .bf16)
    (v44 : Vec F S1024x1024 .bf16) (v47 : Vec F S1x1024 .f32) (v58 : Vec F S512x1024 .bf16) (v62 : Vec F S1024x1024 .bf16) (v65 : Vec F S1x1024 .f32)
    (v76 : Vec F S512x1024 .bf16) (v81 : Vec F S1024x1024 .bf16) (v84 : Vec F S1x1024 .f32) (v95 : Vec F S512x1024 .bf16) (v101 : Vec F S1024x1024 .bf16)
    (v123 v127 : Vec F S1x1024 .f32) : FVec F S1x256x1024 .f32 :=
  k0_pay1 (tileC v4 v8 v12 v16 v29 v42 v44 v47 v58 v62 v65 v76 v81 v84 v95 v101)
    (k0_pay15 (k0_pay2 v4) (k0_pay3 v4) (k0_pay9 (k0_pay4 v12) (k0_pay6 v29) (k0_pay7 v29) k0_pay8) (k0_pay10 v42)
      (k0_pay11 (k0_pay3 v4) (k0_pay5 v8 v16) v44 v47 v58) (k0_pay12 (k0_pay3 v4) v62 v65) k0_pay13 v76 v81 v84 v95 v101) v123 v127

theorem pay2_apply (v4 : Vec Ideal S1x256x1024 .f32) (q : Fin 256) (e : Fin 1024) : k0_pay2 (F := Ideal) v4 (ix2 q e) = v4 (ix3 0 q e) := by
  pointwise [k0_pay2]

theorem pay3_apply (v4 : Vec Ideal S1x256x1024 .f32) (q : Fin 256) (e : Fin 1024) : k0_pay3 (F := Ideal) v4 (ix2 q e) = v4 (ix3 0 q e) := by
  pointwise [k0_pay3, k0_pay2]

theorem pay5_apply (v8 : Vec Ideal S1x8x1x64x256 .f32) (v16 : Vec Ideal S1x1x512x256 .f32) (w : Fin 512) (q : Fin 256) :
    k0_pay5 (F := Ideal) v8 v16 (ix2 w q)
      = v8 (ix5 0 ⟨w.val / 64, by omega⟩ 0 ⟨w.val % 64, by omega⟩ q) * silu (v16 (ix4 0 0 w q)) := by
  unfold silu sg
  rw [← zero_sub]
  pointwise [k0_pay5]

theorem pay9_apply (v12 : Vec Ideal S1x8x1x64x256 .f32) (v29 : Vec Ideal S1x1x512x256 .f32) (w : Fin 512) (q : Fin 256) :
    k0_pay9 (F := Ideal) (k0_pay4 v12) (k0_pay6 v29) (k0_pay7 v29) k0_pay8 (ix2 w q)
      = v12 (ix5 0 ⟨w.val / 64, by omega⟩ 0 ⟨w.val % 64, by omega⟩ q) * silu (v29 (ix4 0 0 w q)) := by
  unfold silu sg
  rw [← zero_sub]
  pointwise [k0_pay9, k0_pay4, k0_pay6, k0_pay7, k0_pay8]

theorem pay10_apply (v42 : Vec Ideal S1x1x512x256 .bf16) (w : Fin 512) (q : Fin 256) : k0_pay10 (F := Ideal) v42 (ix2 w q) = v42 (ix4 0 0 w q) := by
  pointwise [k0_pay10]

theorem pay11_apply (v6 : FVec Ideal S256x1024 .bf16) (v27 : FVec Ideal S512x256 .bf16) (v44 : Vec Ideal S1024x1024 .bf16) (v47 : Vec Ideal S1x1024 .f32)
    (v58 : Vec Ideal S512x1024 .bf16) (q : Fin 256) (e : Fin 1024) :
    k0_pay11 (F := Ideal) v6 v27 v44 v47 v58 (ix2 q e)
      = sg ((∑ x : Fin 1024, v6 (ix2 q x) * v44 (ix2 x e)) + v47 (ix2 0 e)) * ∑ w : Fin 512, v27 (ix2 w q) * v58 (ix2 w e) := by
  unfold sg
  rw [← zero_sub]
  pointwise [k0_pay11]

theorem pay12_apply (v6 : FVec Ideal S256x1024 .bf16) (v62 : Vec Ideal S1024x1024 .bf16) (v65 : Vec Ideal S1x1024 .f32) (q : Fin 256) (e : Fin 1024) :
    Ideal.div (k0_pay13 (F := Ideal) (ix2 q e)) (k0_pay12 (F := Ideal) v6 v62 v65 (ix2 q e))
      = sg ((∑ x : Fin 1024, v6 (ix2 q x) * v62 (ix2 x e)) + v65 (ix2 0 e)) := by
  unfold sg
  rw [← zero_sub]
  pointwise [k0_pay12, k0_pay13]

theorem pay14_apply (v5 : FVec Ideal S256x1024 .f32) (v6 : FVec Ideal S256x1024 .bf16) (v40 v43 : FVec Ideal S512x256 .bf16)
    (v61 v73 v74 : FVec Ideal S256x1024 .f32) (v76 : Vec Ideal S512x1024 .bf16) (v81 : Vec Ideal S1024x1024 .bf16)
    (v84 : Vec Ideal S1x1024 .f32) (v95 : Vec Ideal S512x1024 .bf16) (v101 : Vec Ideal S1024x1024 .bf16) (q : Fin 256) (e : Fin 1024) :
    k0_pay14 (F := Ideal) v5 v6 v40 v43 v61 v73 v74 v76 v81 v84 v95 v101 (ix2 q e)
      = centred (resid (fun d => v5 (ix2 q d))
          (fun d => v61 (ix2 q d) + Ideal.div (v74 (ix2 q d)) (v73 (ix2 q d)) * (∑ w : Fin 512, v40 (ix2 w q) * v76 (ix2 w d))
            + sg ((∑ x : Fin 1024, v6 (ix2 q x) * v81 (ix2 x d)) + v84 (ix2 0 d)) * ∑ w : Fin 512, v43 (ix2 w q) * v95 (ix2 w d))
          (fun d e => v101 (ix2 d e))) e := by
  unfold centred resid sg
  simp only [← zero_sub]
  pointwise [k0_pay14]

theorem tileC_apply (v4 : Vec Ideal S1x256x1024 .f32) (v8 v12 : Vec Ideal S1x8x1x64x256 .f32) (v16 v29 : Vec Ideal S1x1x512x256 .f32)
    (v42 : Vec Ideal S1x1x512x256 .bf16) (v44 : Vec Ideal S1024x1024 .bf16) (v47 : Vec Ideal S1x1024 .f32) (v58 : Vec Ideal S512x1024 .bf16)
    (v62 : Vec Ideal S1024x1024 .bf16) (v65 : Vec Ideal S1x1024 .f32) (v76 : Vec Ideal S512x1024 .bf16) (v81 : Vec Ideal S1024x1024 .bf16)
    (v84 : Vec Ideal S1x1024 .f32) (v95 : Vec Ideal S512x1024 .bf16) (v101 : Vec Ideal S1024x1024 .bf16) (q : Fin 256) (e : Fin 1024) :
    tileC (F := Ideal) v4 v8 v12 v16 v29 v42 v44 v47 v58 v62 v65 v76 v81 v84 v95 v101 (ix2 q e)
      = centred (resid (fun d => v4 (ix3 0 q d))
          (merged (fun d => (∑ x : Fin 1024, v4 (ix3 0 q x) * v44 (ix2 x d)) + v47 (ix2 0 d))
            (fun d => (∑ x : Fin 1024, v4 (ix3 0 q x) * v62 (ix2 x d)) + v65 (ix2 0 d))
            (fun d => (∑ x : Fin 1024, v4 (ix3 0 q x) * v81 (ix2 x d)) + v84 (ix2 0 d))
            (fun w => v8 (ix5 0 ⟨w.val / 64, by omega⟩ 0 ⟨w.val % 64, by omega⟩ q) * silu (v16 (ix4 0 0 w q)))
            (fun w => v12 (ix5 0 ⟨w.val / 64, by omega⟩ 0 ⟨w.val % 64, by omega⟩ q) * silu (v29 (ix4 0 0 w q)))
            (fun w => v42 (ix4 0 0 w q)) (fun w d => v58 (ix2 w d)) (fun w d => v76 (ix2 w d)) (fun w d => v95 (ix2 w d)))
          (fun d e => v101 (ix2 d e))) e := by
  unfold tileC
  rw [pay14_apply]
  simp only [pay11_apply, pay12_apply, pay2_apply, pay3_apply, pay5_apply, pay9_apply, pay10_apply]
  rfl

theorem tile_apply (v4 : Vec Ideal S1x256x1024 .f32) (v8 v12 : Vec Ideal S1x8x1x64x256 .f32) (v16 v29 : Vec Ideal S1x1x512x256 .f32)
    (v42 : Vec Ideal S1x1x512x256 .bf16) (v44 : Vec Ideal S1024x1024 .bf16) (v47 : Vec Ideal S1x1024 .f32) (v58 : Vec Ideal S512x1024 .bf16)
    (v62 : Vec Ideal S1024x1024 .bf16) (v65 : Vec Ideal S1x1024 .f32) (v76 : Vec Ideal S512x1024 .bf16) (v81 : Vec Ideal S1024x1024 .bf16)
    (v84 : Vec Ideal S1x1024 .f32) (v95 : Vec Ideal S512x1024 .bf16) (v101 : Vec Ideal S1024x1024 .bf16) (v123 v127 : Vec Ideal S1x1024 .f32)
    (q : Fin 256) (e : Fin 1024) :
    tile (F := Ideal) v4 v8 v12 v16 v29 v42 v44 v47 v58 v62 v65 v76 v81 v84 v95 v101 v123 v127 (ix3 0 q e)
      = rowOut (fun d => v4 (ix3 0 q d))
          (fun d => (∑ x : Fin 1024, v4 (ix3 0 q x) * v44 (ix2 x d)) + v47 (ix2 0 d))
          (fun d => (∑ x : Fin 1024, v4 (ix3 0 q x) * v62 (ix2 x d)) + v65 (ix2 0 d))
          (fun d => (∑ x : Fin 1024, v4 (ix3 0 q x) * v81 (ix2 x d)) + v84 (ix2 0 d))
          (fun w => v8 (ix5 0 ⟨w.val / 64, by omega⟩ 0 ⟨w.val % 64, by omega⟩ q) * silu (v16 (ix4 0 0 w q)))
          (fun w => v12 (ix5 0 ⟨w.val / 64, by omega⟩ 0 ⟨w.val % 64, by omega⟩ q) * silu (v29 (ix4 0 0 w q)))
          (fun w => v42 (ix4 0 0 w q)) (fun w d => v58 (ix2 w d)) (fun w d => v76 (ix2 w d)) (fun w d => v95 (ix2 w d))
          (fun d e => v101 (ix2 d e)) (fun d => v123 (ix2 0 d)) (fun d => v127 (ix2 0 d)) e := by
  have h (A B : FVec Ideal S256x1024 .f32) : k0_pay1 (F := Ideal) A B v123 v127 (ix3 0 q e)
      = A (ix2 q e) * Ideal.rsqrt (Ideal.div (∑ d : Fin 1024, B (ix2 q d)) (Ideal.ofBits FTy.f32 0x44800000#32) + Ideal.ofBits FTy.f32 0x3727C5AC#32)
          * v123 (ix2 0 e) + v127 (ix2 0 e) := by
    pointwise [k0_pay1]
  have h' (d : Fin 1024) : k0_pay15 (F := Ideal) (k0_pay2 v4) (k0_pay3 v4) (k0_pay9 (k0_pay4 v12) (k0_pay6 v29) (k0_pay7 v29) k0_pay8) (k0_pay10 v42)
      (k0_pay11 (k0_pay3 v4) (k0_pay5 v8 v16) v44 v47 v58) (k0_pay12 (k0_pay3 v4) v62 v65) k0_pay13 v76 v81 v84 v95 v101 (ix2 q d)
        = tileC (F := Ideal) v4 v8 v12 v16 v29 v42 v44 v47 v58 v62 v65 v76 v81 v84 v95 v101 (ix2 q d)
          * tileC (F := Ideal) v4 v8 v12 v16 v29 v42 v44 v47 v58 v62 v65 v76 v81 v84 v95 v101 (ix2 q d) := rfl
  unfold tile
  rw [h]
  simp only [h', tileC_apply]
  rfl

end Cert.Kernel2Ideal.Ob

end
-- ==== Proof.Ob.Trip.lean ====
/-
  What the output block's body leaves in its block: four tiles of 256 rows, each row the output row of the blocks' rows.
-/
module

public import proofs.«01_k».proof.Proof.Gen.Kernel2Ideal.Frame
public import proofs.«01_k».proof.Proof.Ob.Pay
public import Idealize.ShloMosaic.Lib.Pipeline.ValueKit
public import Idealize.ShloMosaic.Lib.WholeRead

@[expose] public section

noncomputable section

namespace Cert.Kernel2Ideal.Ob

open Idealize.ShloMosaic Idealize.ShloMosaic.TcCoe
open Cert.Kernel2Ideal.Gen Cert.ObCore
open scoped BigOperators

section Pieces

variable {F : FTy → Type} [FloatOps F]

variable (c : Dev nD) (i : grid0.Coords) (arg2 : Memref sig .tc .vmem S1x1024x1024 .f32) (harg2 : arg2.IsWhole) (arg3 : Memref sig .tc .vmem S1x8x4x64x256 .f32) (harg3 : arg3.IsWhole) (arg4 : Memref sig .tc .vmem S1x8x4x64x256 .f32) (harg4 : arg4.IsWhole) (arg5 : Memref sig .tc .vmem S1x4x512x256 .f32) (harg5 : arg5.IsWhole) (arg6 : Memref sig .tc .vmem S1x4x512x256 .f32) (harg6 : arg6.IsWhole) (arg7 : Memref sig .tc .vmem S1x4x512x256 .bf16) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S1024x3072 .bf16) (harg11 : arg11.IsWhole) (arg12 : Memref sig .tc .vmem S1x3072 .f32) (harg12 : arg12.IsWhole) (arg13 : Memref sig .tc .vmem S1024x1024 .bf16) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024x1024 .f32) (harg16 : arg16.IsWhole)
  (x0 : Vec F S1x1024x1024 .f32) (x1 : Vec F S1x8x4x64x256 .f32) (x2 : Vec F S1x8x4x64x256 .f32) (x3 : Vec F S1x4x512x256 .f32) (x4 : Vec F S1x4x512x256 .f32) (x5 : Vec F S1x4x512x256 .bf16) (x6 : Vec F S512x1024 .bf16) (x7 : Vec F S512x1024 .bf16) (x8 : Vec F S512x1024 .bf16) (x9 : Vec F S1024x3072 .bf16) (x10 : Vec F S1x3072 .f32) (x11 : Vec F S1024x1024 .bf16) (x12 : Vec F S1x1024 .f32) (x13 : Vec F S1x1024 .f32)

/-- One trip leaves one piece: the tile of its loads. -/
theorem trip_piece (k : Fin k0_t1_loop.trips) :
    tripL_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (harg2.unread x0) (harg3.unread x1) (harg4.unread x2) (harg5.unread x3) (harg6.unread x4) (harg7.unread x5) (harg8.unread x6) (harg9.unread x7) (harg10.unread x8) (harg11.unread x9) (harg12.unread x10) (harg13.unread x11) (harg14.unread x12) (harg15.unread x13) k
      = [⟨Rect.unit (k0_off1 k) S1x256x1024.size (k0_off1_inb k), tile
        (View.readAt (Elt F) arg2.view (Rect.unit (s := S1x1024x1024) (k0_off1 k) S1x256x1024.size (k0_off1_inb k)).toLoadRect (harg2.unread x0))
        (View.readAt (Elt F) arg3.view (Rect.unit (s := S1x8x4x64x256) (k0_off2 k) S1x8x1x64x256.size (k0_off2_inb k)).toLoadRect (harg3.unread x1))
        (View.readAt (Elt F) arg4.view (Rect.unit (s := S1x8x4x64x256) (k0_off2 k) S1x8x1x64x256.size (k0_off2_inb k)).toLoadRect (harg4.unread x2))
        (View.readAt (Elt F) arg5.view (Rect.unit (s := S1x4x512x256) (k0_off3 k) S1x1x512x256.size (k0_off3_inb k)).toLoadRect (harg5.unread x3))
        (View.readAt (Elt F) arg6.view (Rect.unit (s := S1x4x512x256) (k0_off3 k) S1x1x512x256.size (k0_off3_inb k)).toLoadRect (harg6.unread x4))
        (View.readAt (Elt F) arg7.view (Rect.unit (s := S1x4x512x256) (k0_off3 k) S1x1x512x256.size (k0_off3_inb k)).toLoadRect (harg7.unread x5))
        (View.readAt (Elt F) arg11.view (Rect.unit (s := S1024x3072) ![0, 0] S1024x1024.size inb_S1024x3072_S1024x1024_0_0).toLoadRect (harg11.unread x9))
        (View.readAt (Elt F) arg12.view (Rect.unit (s := S1x3072) ![0, 0] S1x1024.size inb_S1x3072_S1x1024_0_0).toLoadRect (harg12.unread x10))
        (View.readAt (Elt F) arg8.view (Rect.unit (s := S512x1024) ![0, 0] S512x1024.size inb_S512x1024_S512x1024_0_0).toLoadRect (harg8.unread x6))
        (View.readAt (Elt F) arg11.view (Rect.unit (s := S1024x3072) ![0, 1024] S1024x1024.size inb_S1024x3072_S1024x1024_0_1024).toLoadRect (harg11.unread x9))
        (View.readAt (Elt F) arg12.view (Rect.unit (s := S1x3072) ![0, 1024] S1x1024.size inb_S1x3072_S1x1024_0_1024).toLoadRect (harg12.unread x10))
        (View.readAt (Elt F) arg9.view (Rect.unit (s := S512x1024) ![0, 0] S512x1024.size inb_S512x1024_S512x1024_0_0).toLoadRect (harg9.unread x7))
        (View.readAt (Elt F) arg11.view (Rect.unit (s := S1024x3072) ![0, 2048] S1024x1024.size inb_S1024x3072_S1024x1024_0_2048).toLoadRect (harg11.unread x9))
        (View.readAt (Elt F) arg12.view (Rect.unit (s := S1x3072) ![0, 2048] S1x1024.size inb_S1x3072_S1x1024_0_2048).toLoadRect (harg12.unread x10))
        (View.readAt (Elt F) arg10.view (Rect.unit (s := S512x1024) ![0, 0] S512x1024.size inb_S512x1024_S512x1024_0_0).toLoadRect (harg10.unread x8))
        (View.readAt (Elt F) arg13.view (Rect.unit (s := S1024x1024) ![0, 0] S1024x1024.size inb_S1024x1024_S1024x1024_0_0).toLoadRect (harg13.unread x11))
        (View.readAt (Elt F) arg14.view (Rect.unit (s := S1x1024) ![0, 0] S1x1024.size inb_S1x1024_S1x1024_0_0).toLoadRect (harg14.unread x12))
        (View.readAt (Elt F) arg15.view (Rect.unit (s := S1x1024) ![0, 0] S1x1024.size inb_S1x1024_S1x1024_0_0).toLoadRect (harg15.unread x13))⟩] := by
  unfold tripL_k0_t1 trip_k0_t1
  rfl

/-- Every piece of the first trips is some trip's. -/
theorem mem_pieces (n : ℕ) (hn : n ≤ k0_t1_loop.trips) (p : View.Piece (Elt F) S1x1024x1024 .f32)
    (hp : p ∈ pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (harg2.unread x0) (harg3.unread x1) (harg4.unread x2) (harg5.unread x3) (harg6.unread x4) (harg7.unread x5) (harg8.unread x6) (harg9.unread x7) (harg10.unread x8) (harg11.unread x9) (harg12.unread x10) (harg13.unread x11) (harg14.unread x12) (harg15.unread x13) n) :
    ∃ k : Fin k0_t1_loop.trips, p ∈ tripL_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (harg2.unread x0) (harg3.unread x1) (harg4.unread x2) (harg5.unread x3) (harg6.unread x4) (harg7.unread x5) (harg8.unread x6) (harg9.unread x7) (harg10.unread x8) (harg11.unread x9) (harg12.unread x10) (harg13.unread x11) (harg14.unread x12) (harg15.unread x13) k := by
  induction n with
  | zero => exact absurd hp List.not_mem_nil
  | succ n ih =>
    have h := pb_k0_t1_succ (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (harg2.unread x0) (harg3.unread x1) (harg4.unread x2) (harg5.unread x3) (harg6.unread x4) (harg7.unread x5) (harg8.unread x6) (harg9.unread x7) (harg10.unread x8) (harg11.unread x9) (harg12.unread x10) (harg13.unread x11) (harg14.unread x12) (harg15.unread x13) ⟨n, hn⟩
    rw [h] at hp
    rcases List.mem_append.mp hp with hp | hp
    · exact ⟨_, hp⟩
    · exact ih (by omega) hp

/-- The run's pieces are the four trips'. -/
theorem run_pieces :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13).1
      = pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (harg2.unread x0) (harg3.unread x1) (harg4.unread x2) (harg5.unread x3) (harg6.unread x4) (harg7.unread x5) (harg8.unread x6) (harg9.unread x7) (harg10.unread x8) (harg11.unread x9) (harg12.unread x10) (harg13.unread x11) (harg14.unread x12) (harg15.unread x13) 4 := by
  unfold kernelRun0_A
  rfl

end Pieces

/-- The output row of row `p` of a block, from the blocks. -/
def blkRow (x0 : Vec Ideal S1x1024x1024 .f32) (x1 : Vec Ideal S1x8x4x64x256 .f32) (x2 : Vec Ideal S1x8x4x64x256 .f32) (x3 : Vec Ideal S1x4x512x256 .f32) (x4 : Vec Ideal S1x4x512x256 .f32) (x5 : Vec Ideal S1x4x512x256 .bf16) (x6 : Vec Ideal S512x1024 .bf16) (x7 : Vec Ideal S512x1024 .bf16) (x8 : Vec Ideal S512x1024 .bf16) (x9 : Vec Ideal S1024x3072 .bf16) (x10 : Vec Ideal S1x3072 .f32) (x11 : Vec Ideal S1024x1024 .bf16) (x12 : Vec Ideal S1x1024 .f32) (x13 : Vec Ideal S1x1024 .f32) (p : Fin 1024) : Fin 1024 → EReal :=
  rowOut (fun d => x0 (ix3 0 p d))
    (fun d => (∑ x : Fin 1024, x0 (ix3 0 p x) * x9 (ix2 x ⟨d.val, by omega⟩)) + x10 (ix2 0 ⟨d.val, by omega⟩))
    (fun d => (∑ x : Fin 1024, x0 (ix3 0 p x) * x9 (ix2 x ⟨1024 + d.val, by omega⟩)) + x10 (ix2 0 ⟨1024 + d.val, by omega⟩))
    (fun d => (∑ x : Fin 1024, x0 (ix3 0 p x) * x9 (ix2 x ⟨2048 + d.val, by omega⟩)) + x10 (ix2 0 ⟨2048 + d.val, by omega⟩))
    (fun w => x1 (ix5 0 ⟨w.val / 64, by omega⟩ ⟨p.val / 256, by omega⟩ ⟨w.val % 64, by omega⟩ ⟨p.val % 256, by omega⟩)
      * silu (x3 (ix4 0 ⟨p.val / 256, by omega⟩ w ⟨p.val % 256, by omega⟩)))
    (fun w => x2 (ix5 0 ⟨w.val / 64, by omega⟩ ⟨p.val / 256, by omega⟩ ⟨w.val % 64, by omega⟩ ⟨p.val % 256, by omega⟩)
      * silu (x4 (ix4 0 ⟨p.val / 256, by omega⟩ w ⟨p.val % 256, by omega⟩)))
    (fun w => x5 (ix4 0 ⟨p.val / 256, by omega⟩ w ⟨p.val % 256, by omega⟩))
    (fun w d => x6 (ix2 w d)) (fun w d => x7 (ix2 w d)) (fun w d => x8 (ix2 w d)) (fun d e => x11 (ix2 d e))
    (fun d => x12 (ix2 0 d)) (fun d => x13 (ix2 0 d))

section Loads

theorem trips4 (k : Fin k0_t1_loop.trips) : k.val < 4 := Nat.lt_of_lt_of_le k.isLt k0_t1_abs.2.1

/-- The row of the block that row `q` of tile `k` is. -/
def rowOf (k : Fin k0_t1_loop.trips) (q : Fin 256) : Fin 1024 := ⟨256 * k.val + q.val, by have := trips4 k; omega⟩

theorem idx_off1 (k : Fin k0_t1_loop.trips) (q : Fin 256) (e : Fin 1024) :
    (Rect.unit (s := S1x1024x1024) (k0_off1 k) S1x256x1024.size (k0_off1_inb k)).toLoadRect.idx (ix3 0 q e : S1x256x1024.Idx) = (ix3 0 (rowOf k q) e : S1x1024x1024.Idx) := by
  change (Rect.unit _ _ _).emb _ = _
  blk_ext [k0_off1_eq, rowOf]

theorem idx_off2 (k : Fin k0_t1_loop.trips) (h : Fin 8) (d : Fin 64) (q : Fin 256) :
    (Rect.unit (s := S1x8x4x64x256) (k0_off2 k) S1x8x1x64x256.size (k0_off2_inb k)).toLoadRect.idx (ix5 0 h 0 d q : S1x8x1x64x256.Idx)
      = (ix5 0 h ⟨k.val, trips4 k⟩ d q : S1x8x4x64x256.Idx) := by
  change (Rect.unit _ _ _).emb _ = _
  blk_ext [k0_off2_eq]

theorem idx_off3 (k : Fin k0_t1_loop.trips) (w : Fin 512) (q : Fin 256) :
    (Rect.unit (s := S1x4x512x256) (k0_off3 k) S1x1x512x256.size (k0_off3_inb k)).toLoadRect.idx (ix4 0 0 w q : S1x1x512x256.Idx)
      = (ix4 0 ⟨k.val, trips4 k⟩ w q : S1x4x512x256.Idx) := by
  change (Rect.unit _ _ _).emb _ = _
  blk_ext [k0_off3_eq]

theorem idx_wg0 (x d : Fin 1024) :
    (Rect.unit (s := S1024x3072) ![0, 0] S1024x1024.size inb_S1024x3072_S1024x1024_0_0).toLoadRect.idx (ix2 x d : S1024x1024.Idx) = (ix2 x ⟨d.val, by omega⟩ : S1024x3072.Idx) := by
  change (Rect.unit _ _ _).emb _ = _
  blk_ext []

theorem idx_wg1 (x d : Fin 1024) :
    (Rect.unit (s := S1024x3072) ![0, 1024] S1024x1024.size inb_S1024x3072_S1024x1024_0_1024).toLoadRect.idx (ix2 x d : S1024x1024.Idx) = (ix2 x ⟨1024 + d.val, by omega⟩ : S1024x3072.Idx) := by
  change (Rect.unit _ _ _).emb _ = _
  blk_ext []

theorem idx_wg2 (x d : Fin 1024) :
    (Rect.unit (s := S1024x3072) ![0, 2048] S1024x1024.size inb_S1024x3072_S1024x1024_0_2048).toLoadRect.idx (ix2 x d : S1024x1024.Idx) = (ix2 x ⟨2048 + d.val, by omega⟩ : S1024x3072.Idx) := by
  change (Rect.unit _ _ _).emb _ = _
  blk_ext []

theorem idx_bg0 (d : Fin 1024) :
    (Rect.unit (s := S1x3072) ![0, 0] S1x1024.size inb_S1x3072_S1x1024_0_0).toLoadRect.idx (ix2 0 d : S1x1024.Idx) = (ix2 0 ⟨d.val, by omega⟩ : S1x3072.Idx) := by
  change (Rect.unit _ _ _).emb _ = _
  blk_ext []

theorem idx_bg1 (d : Fin 1024) :
    (Rect.unit (s := S1x3072) ![0, 1024] S1x1024.size inb_S1x3072_S1x1024_0_1024).toLoadRect.idx (ix2 0 d : S1x1024.Idx) = (ix2 0 ⟨1024 + d.val, by omega⟩ : S1x3072.Idx) := by
  change (Rect.unit _ _ _).emb _ = _
  blk_ext []

theorem idx_bg2 (d : Fin 1024) :
    (Rect.unit (s := S1x3072) ![0, 2048] S1x1024.size inb_S1x3072_S1x1024_0_2048).toLoadRect.idx (ix2 0 d : S1x1024.Idx) = (ix2 0 ⟨2048 + d.val, by omega⟩ : S1x3072.Idx) := by
  change (Rect.unit _ _ _).emb _ = _
  blk_ext []

theorem idx_wb (w : Fin 512) (d : Fin 1024) :
    (Rect.unit (s := S512x1024) ![0, 0] S512x1024.size inb_S512x1024_S512x1024_0_0).toLoadRect.idx (ix2 w d : S512x1024.Idx) = (ix2 w d : S512x1024.Idx) := by
  change (Rect.unit _ _ _).emb _ = _
  blk_ext []

theorem idx_wo (x d : Fin 1024) :
    (Rect.unit (s := S1024x1024) ![0, 0] S1024x1024.size inb_S1024x1024_S1024x1024_0_0).toLoadRect.idx (ix2 x d : S1024x1024.Idx) = (ix2 x d : S1024x1024.Idx) := by
  change (Rect.unit _ _ _).emb _ = _
  blk_ext []

theorem idx_row (d : Fin 1024) :
    (Rect.unit (s := S1x1024) ![0, 0] S1x1024.size inb_S1x1024_S1x1024_0_0).toLoadRect.idx (ix2 0 d : S1x1024.Idx) = (ix2 0 d : S1x1024.Idx) := by
  change (Rect.unit _ _ _).emb _ = _
  blk_ext []

end Loads

/-- A tile's row from the blocks' rows, once each load is read off its block. -/
theorem tile_row (x0 : Vec Ideal S1x1024x1024 .f32) (x1 : Vec Ideal S1x8x4x64x256 .f32) (x2 : Vec Ideal S1x8x4x64x256 .f32) (x3 : Vec Ideal S1x4x512x256 .f32) (x4 : Vec Ideal S1x4x512x256 .f32) (x5 : Vec Ideal S1x4x512x256 .bf16) (x6 : Vec Ideal S512x1024 .bf16) (x7 : Vec Ideal S512x1024 .bf16) (x8 : Vec Ideal S512x1024 .bf16) (x9 : Vec Ideal S1024x3072 .bf16) (x10 : Vec Ideal S1x3072 .f32) (x11 : Vec Ideal S1024x1024 .bf16) (x12 : Vec Ideal S1x1024 .f32) (x13 : Vec Ideal S1x1024 .f32)
    (v4 : Vec Ideal S1x256x1024 .f32) (v8 v12 : Vec Ideal S1x8x1x64x256 .f32) (v16 v29 : Vec Ideal S1x1x512x256 .f32)
    (v42 : Vec Ideal S1x1x512x256 .bf16) (v44 : Vec Ideal S1024x1024 .bf16) (v47 : Vec Ideal S1x1024 .f32) (v58 : Vec Ideal S512x1024 .bf16)
    (v62 : Vec Ideal S1024x1024 .bf16) (v65 : Vec Ideal S1x1024 .f32) (v76 : Vec Ideal S512x1024 .bf16) (v81 : Vec Ideal S1024x1024 .bf16)
    (v84 : Vec Ideal S1x1024 .f32) (v95 : Vec Ideal S512x1024 .bf16) (v101 : Vec Ideal S1024x1024 .bf16) (v123 v127 : Vec Ideal S1x1024 .f32)
    (k : Fin k0_t1_loop.trips) (q : Fin 256) (e : Fin 1024)
    (h4 : ∀ d, v4 (ix3 0 q d) = x0 (ix3 0 (rowOf k q) d))
    (h8 : ∀ h d, v8 (ix5 0 h 0 d q) = x1 (ix5 0 h ⟨k.val, trips4 k⟩ d q))
    (h12 : ∀ h d, v12 (ix5 0 h 0 d q) = x2 (ix5 0 h ⟨k.val, trips4 k⟩ d q))
    (h16 : ∀ w, v16 (ix4 0 0 w q) = x3 (ix4 0 ⟨k.val, trips4 k⟩ w q))
    (h29 : ∀ w, v29 (ix4 0 0 w q) = x4 (ix4 0 ⟨k.val, trips4 k⟩ w q))
    (h42 : ∀ w, v42 (ix4 0 0 w q) = x5 (ix4 0 ⟨k.val, trips4 k⟩ w q))
    (h44 : ∀ (x d : Fin 1024), v44 (ix2 x d) = x9 (ix2 x ⟨d.val, by omega⟩))
    (h47 : ∀ d : Fin 1024, v47 (ix2 0 d) = x10 (ix2 0 ⟨d.val, by omega⟩))
    (h58 : ∀ w d, v58 (ix2 w d) = x6 (ix2 w d))
    (h62 : ∀ (x d : Fin 1024), v62 (ix2 x d) = x9 (ix2 x ⟨1024 + d.val, by omega⟩))
    (h65 : ∀ d : Fin 1024, v65 (ix2 0 d) = x10 (ix2 0 ⟨1024 + d.val, by omega⟩))
    (h76 : ∀ w d, v76 (ix2 w d) = x7 (ix2 w d))
    (h81 : ∀ (x d : Fin 1024), v81 (ix2 x d) = x9 (ix2 x ⟨2048 + d.val, by omega⟩))
    (h84 : ∀ d : Fin 1024, v84 (ix2 0 d) = x10 (ix2 0 ⟨2048 + d.val, by omega⟩))
    (h95 : ∀ w d, v95 (ix2 w d) = x8 (ix2 w d))
    (h101 : ∀ x d, v101 (ix2 x d) = x11 (ix2 x d))
    (h123 : ∀ d, v123 (ix2 0 d) = x12 (ix2 0 d))
    (h127 : ∀ d, v127 (ix2 0 d) = x13 (ix2 0 d)) :
    tile (F := Ideal) v4 v8 v12 v16 v29 v42 v44 v47 v58 v62 v65 v76 v81 v84 v95 v101 v123 v127 (ix3 0 q e)
      = blkRow x0 x1 x2 x3 x4 x5 x6 x7 x8 x9 x10 x11 x12 x13 (rowOf k q) e := by
  have eT : (⟨(rowOf k q).val / 256, by omega⟩ : Fin 4) = ⟨k.val, trips4 k⟩ := Fin.ext (by show (256 * k.val + q.val) / 256 = k.val; omega)
  have eQ : (⟨(rowOf k q).val % 256, by omega⟩ : Fin 256) = q := Fin.ext (by show (256 * k.val + q.val) % 256 = q.val; omega)
  rw [tile_apply]
  unfold blkRow
  simp only [h4, h8, h12, h16, h29, h42, h44, h47, h58, h62, h65, h76, h81, h84, h95, h101, h123, h127, eT, eQ]

/-- What the body leaves in the output block, row by row. -/
theorem out_apply (c : Dev nD) (i : grid0.Coords) (arg2 : Memref sig .tc .vmem S1x1024x1024 .f32) (harg2 : arg2.IsWhole) (arg3 : Memref sig .tc .vmem S1x8x4x64x256 .f32) (harg3 : arg3.IsWhole) (arg4 : Memref sig .tc .vmem S1x8x4x64x256 .f32) (harg4 : arg4.IsWhole) (arg5 : Memref sig .tc .vmem S1x4x512x256 .f32) (harg5 : arg5.IsWhole) (arg6 : Memref sig .tc .vmem S1x4x512x256 .f32) (harg6 : arg6.IsWhole) (arg7 : Memref sig .tc .vmem S1x4x512x256 .bf16) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S1024x3072 .bf16) (harg11 : arg11.IsWhole) (arg12 : Memref sig .tc .vmem S1x3072 .f32) (harg12 : arg12.IsWhole) (arg13 : Memref sig .tc .vmem S1024x1024 .bf16) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024x1024 .f32) (harg16 : arg16.IsWhole)
    (x0 : Vec Ideal S1x1024x1024 .f32) (x1 : Vec Ideal S1x8x4x64x256 .f32) (x2 : Vec Ideal S1x8x4x64x256 .f32) (x3 : Vec Ideal S1x4x512x256 .f32) (x4 : Vec Ideal S1x4x512x256 .f32) (x5 : Vec Ideal S1x4x512x256 .bf16) (x6 : Vec Ideal S512x1024 .bf16) (x7 : Vec Ideal S512x1024 .bf16) (x8 : Vec Ideal S512x1024 .bf16) (x9 : Vec Ideal S1024x3072 .bf16) (x10 : Vec Ideal S1x3072 .f32) (x11 : Vec Ideal S1024x1024 .bf16) (x12 : Vec Ideal S1x1024 .f32) (x13 : Vec Ideal S1x1024 .f32) (p e : Fin 1024) :
    out0_A_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 (ix3 0 p e)
      = blkRow x0 x1 x2 x3 x4 x5 x6 x7 x8 x9 x10 x11 x12 x13 p e := by
  unfold out0_A_14
  refine View.read_writes_apply_of_pieces (Val := Elt Ideal) VO0_14 _ (fun y : S1x1024x1024.Idx => blkRow x0 x1 x2 x3 x4 x5 x6 x7 x8 x9 x10 x11 x12 x13 (y 1) (y 2)) _ ?_ _ (cover0_A_14 ..)
  intro pc hpc
  rw [run_pieces] at hpc
  obtain ⟨k, hk⟩ := mem_pieces (hn := by decide +kernel) (hp := hpc)
  rw [trip_piece] at hk
  obtain rfl := List.mem_singleton.mp hk
  intro y
  obtain ⟨q, f, rfl⟩ : ∃ (q : Fin 256) (f : Fin 1024), y = (ix3 0 q f : S1x256x1024.Idx) :=
    ⟨y 1, y 2, (eq_ix3 (y : S1x256x1024.Idx)).trans (congrArg (fun z => (ix3 z (y 1) (y 2) : S1x256x1024.Idx)) (Subsingleton.elim (α := Fin 1) _ _))⟩
  have e0 : (Rect.unit (s := S1x1024x1024) (k0_off1 k) S1x256x1024.size (k0_off1_inb k)).emb (ix3 0 q f : S1x256x1024.Idx) = (ix3 0 (rowOf k q) f : S1x1024x1024.Idx) := idx_off1 k q f
  refine Eq.trans ?_ (congrArg (fun y : S1x1024x1024.Idx => blkRow x0 x1 x2 x3 x4 x5 x6 x7 x8 x9 x10 x11 x12 x13 (y 1) (y 2)) e0).symm
  exact tile_row x0 x1 x2 x3 x4 x5 x6 x7 x8 x9 x10 x11 x12 x13 _ _ _ _ _ _ _ _ _ _ _ _ _ _ _ _ _ _ k q f
    (fun d => (harg2.readAt_unread x0 _ _).trans (congrArg x0 (idx_off1 k q d)))
    (fun h d => (harg3.readAt_unread x1 _ _).trans (congrArg x1 (idx_off2 k h d q)))
    (fun h d => (harg4.readAt_unread x2 _ _).trans (congrArg x2 (idx_off2 k h d q)))
    (fun w => (harg5.readAt_unread x3 _ _).trans (congrArg x3 (idx_off3 k w q)))
    (fun w => (harg6.readAt_unread x4 _ _).trans (congrArg x4 (idx_off3 k w q)))
    (fun w => (harg7.readAt_unread x5 _ _).trans (congrArg x5 (idx_off3 k w q)))
    (fun x d => (harg11.readAt_unread x9 _ _).trans (congrArg x9 (idx_wg0 x d)))
    (fun d => (harg12.readAt_unread x10 _ _).trans (congrArg x10 (idx_bg0 d)))
    (fun w d => (harg8.readAt_unread x6 _ _).trans (congrArg x6 (idx_wb w d)))
    (fun x d => (harg11.readAt_unread x9 _ _).trans (congrArg x9 (idx_wg1 x d)))
    (fun d => (harg12.readAt_unread x10 _ _).trans (congrArg x10 (idx_bg1 d)))
    (fun w d => (harg9.readAt_unread x7 _ _).trans (congrArg x7 (idx_wb w d)))
    (fun x d => (harg11.readAt_unread x9 _ _).trans (congrArg x9 (idx_wg2 x d)))
    (fun d => (harg12.readAt_unread x10 _ _).trans (congrArg x10 (idx_bg2 d)))
    (fun w d => (harg10.readAt_unread x8 _ _).trans (congrArg x8 (idx_wb w d)))
    (fun x d => (harg13.readAt_unread x11 _ _).trans (congrArg x11 (idx_wo x d)))
    (fun d => (harg14.readAt_unread x12 _ _).trans (congrArg x12 (idx_row d)))
    (fun d => (harg15.readAt_unread x13 _ _).trans (congrArg x13 (idx_row d)))

end Cert.Kernel2Ideal.Ob

end
-- ==== Proof.Ob.Final.lean ====
/-
  The output block's result array: row by row the layer's output.
-/
module

public import proofs.«01_k».proof.Proof.Ob.Trip

@[expose] public section

set_option maxRecDepth 16384

noncomputable section

namespace Cert.Kernel2Ideal.Ob

open Cert.Kernel2Ideal Cert.Kernel2Ideal.Gen Cert.ObCore
open Idealize.ShloMosaic Idealize.ShloMosaic.TcCoe Idealize.SL.Sem
open scoped BigOperators

/-! ### The arrays the call reads -/

/-- A branch's outputs in tiles of 256 positions, transposed. -/
def tilesOf (o : FVec Ideal S8x4096x8x64 .f32) : FVec Ideal S8x8x16x64x256 .f32 :=
  transpose S8x8x16x64x256 [0, 3, 1, 4, 2] (shapeCast S8x16x256x8x64 o shapeCasts_S8x4096x8x64_S8x16x256x8x64) transposes_S8x16x256x8x64_S8x8x16x64x256_0_3_1_4_2

/-- A wide array in tiles of 256 positions, transposed. -/
def widesOf (g : FVec Ideal S8x4096x512 .f32) : FVec Ideal S8x16x512x256 .f32 :=
  transpose S8x16x512x256 [0, 1, 3, 2] (shapeCast S8x16x256x512 g shapeCasts_S8x4096x512_S8x16x256x512) transposes_S8x16x256x512_S8x16x512x256_0_1_3_2

theorem tilesOf_apply (o : FVec Ideal S8x4096x8x64 .f32) (b h : Fin 8) (n : Fin 16) (d : Fin 64) (q : Fin 256) :
    tilesOf o (ix5 b h n d q) = o (ix4 b ⟨n.val * 256 + q.val, by omega⟩ h d) := by
  pointwise [tilesOf]

theorem widesOf_apply (g : FVec Ideal S8x4096x512 .f32) (b : Fin 8) (n : Fin 16) (w : Fin 512) (q : Fin 256) :
    widesOf g (ix4 b n w q) = g (ix3 b ⟨n.val * 256 + q.val, by omega⟩ w) := by
  pointwise [widesOf]

theorem row3072_apply (v : FVec Ideal S3072 .f32) (d : Fin 3072) : shapeCast S1x3072 v shapeCasts_S3072_S1x3072 (ix2 0 d) = v (ix1 d) := by
  pointwise []

theorem row1024_apply (v : FVec Ideal S1024 .f32) (d : Fin 1024) : shapeCast S1x1024 v shapeCasts_S1024_S1x1024 (ix2 0 d) = v (ix1 d) := by
  pointwise []

variable (m : (ℓ : Loc nD τ sig) → Buf (Elt Ideal) ℓ)

theorem V_v1 (c : Dev nD) : V (F := Ideal) m c main_v1 = tilesOf (m ((c : Thread nD τ).loc main_arg1)) := by
  unfold V hostOps0
  after_results_simp <;> rfl

theorem V_v3 (c : Dev nD) : V (F := Ideal) m c main_v3 = tilesOf (m ((c : Thread nD τ).loc main_arg2)) := by
  unfold V hostOps0
  after_results_simp <;> rfl

theorem V_v5 (c : Dev nD) : V (F := Ideal) m c main_v5 = widesOf (m ((c : Thread nD τ).loc main_arg3)) := by
  unfold V hostOps0
  after_results_simp <;> rfl

theorem V_v7 (c : Dev nD) : V (F := Ideal) m c main_v7 = widesOf (m ((c : Thread nD τ).loc main_arg4)) := by
  unfold V hostOps0
  after_results_simp <;> rfl

theorem V_v10 (c : Dev nD) : V (F := Ideal) m c main_v10 = truncf (F := Ideal) .bf16 (widesOf (m ((c : Thread nD τ).loc main_arg5))) bitsLt_bf16_f32 := by
  unfold V hostOps0
  after_results_simp <;> rfl

theorem V_v11 (c : Dev nD) : V (F := Ideal) m c main_v11 = truncf (F := Ideal) .bf16 (m ((c : Thread nD τ).loc main_arg6)) bitsLt_bf16_f32 := by
  unfold V hostOps0
  after_results_simp <;> rfl

theorem V_v12 (c : Dev nD) : V (F := Ideal) m c main_v12 = truncf (F := Ideal) .bf16 (m ((c : Thread nD τ).loc main_arg7)) bitsLt_bf16_f32 := by
  unfold V hostOps0
  after_results_simp <;> rfl

theorem V_v13 (c : Dev nD) : V (F := Ideal) m c main_v13 = truncf (F := Ideal) .bf16 (m ((c : Thread nD τ).loc main_arg8)) bitsLt_bf16_f32 := by
  unfold V hostOps0
  after_results_simp <;> rfl

theorem V_v14 (c : Dev nD) : V (F := Ideal) m c main_v14 = truncf (F := Ideal) .bf16 (m ((c : Thread nD τ).loc main_arg9)) bitsLt_bf16_f32 := by
  unfold V hostOps0
  after_results_simp <;> rfl

theorem V_v15 (c : Dev nD) : V (F := Ideal) m c main_v15 = shapeCast S1x3072 (m ((c : Thread nD τ).loc main_arg10)) shapeCasts_S3072_S1x3072 := by
  unfold V hostOps0
  after_results_simp <;> rfl

theorem V_v16 (c : Dev nD) : V (F := Ideal) m c main_v16 = truncf (F := Ideal) .bf16 (m ((c : Thread nD τ).loc main_arg11)) bitsLt_bf16_f32 := by
  unfold V hostOps0
  after_results_simp <;> rfl

theorem V_v17 (c : Dev nD) : V (F := Ideal) m c main_v17 = shapeCast S1x1024 (m ((c : Thread nD τ).loc main_arg12)) shapeCasts_S1024_S1x1024 := by
  unfold V hostOps0
  after_results_simp <;> rfl

theorem V_v18 (c : Dev nD) : V (F := Ideal) m c main_v18 = shapeCast S1x1024 (m ((c : Thread nD τ).loc main_arg13)) shapeCasts_S1024_S1x1024 := by
  unfold V hostOps0
  after_results_simp <;> rfl

theorem V_arg0 (c : Dev nD) : V (F := Ideal) m c main_arg0 = (m ((c : Thread nD τ).loc main_arg0)) := by
  unfold V hostOps0
  after_results_simp <;> rfl

/-! ### The blocks -/

/-- The batch element and the group of tiles of a grid point. -/
def bOf (t : Fin grid0.N) : Fin 8 := ⟨t.val / 4, by have : t.val < 32 := t.isLt; omega⟩
def eOf (t : Fin grid0.N) : Fin 4 := ⟨t.val % 4, by omega⟩

/-- The position of row `p` of group `e`. -/
def posOf (e : Fin 4) (p : Fin 1024) : Fin 4096 := ⟨1024 * e.val + p.val, by omega⟩

/-- The tile of tile `n` of group `e`. -/
def tileOf (e n : Fin 4) : Fin 16 := ⟨4 * e.val + n.val, by omega⟩

theorem idx0 : ∀ t : Fin grid0.N, win0_0.index t = ![(bOf t).val, (eOf t).val, 0] := by decide +kernel
theorem idx1 : ∀ t : Fin grid0.N, win0_1.index t = ![(bOf t).val, 0, (eOf t).val, 0, 0] := by decide +kernel
theorem idx2 : ∀ t : Fin grid0.N, win0_2.index t = ![(bOf t).val, 0, (eOf t).val, 0, 0] := by decide +kernel
theorem idx3 : ∀ t : Fin grid0.N, win0_3.index t = ![(bOf t).val, (eOf t).val, 0, 0] := by decide +kernel
theorem idx4 : ∀ t : Fin grid0.N, win0_4.index t = ![(bOf t).val, (eOf t).val, 0, 0] := by decide +kernel
theorem idx5 : ∀ t : Fin grid0.N, win0_5.index t = ![(bOf t).val, (eOf t).val, 0, 0] := by decide +kernel
theorem idx6 : ∀ t : Fin grid0.N, win0_6.index t = ![0, 0] := by decide +kernel
theorem idx7 : ∀ t : Fin grid0.N, win0_7.index t = ![0, 0] := by decide +kernel
theorem idx8 : ∀ t : Fin grid0.N, win0_8.index t = ![0, 0] := by decide +kernel
theorem idx9 : ∀ t : Fin grid0.N, win0_9.index t = ![0, 0] := by decide +kernel
theorem idx10 : ∀ t : Fin grid0.N, win0_10.index t = ![0, 0] := by decide +kernel
theorem idx11 : ∀ t : Fin grid0.N, win0_11.index t = ![0, 0] := by decide +kernel
theorem idx12 : ∀ t : Fin grid0.N, win0_12.index t = ![0, 0] := by decide +kernel
theorem idx13 : ∀ t : Fin grid0.N, win0_13.index t = ![0, 0] := by decide +kernel
theorem idx14 : ∀ t : Fin grid0.N, win0_14.index t = ![(bOf t).val, (eOf t).val, 0] := by decide +kernel

theorem iblk0_apply (c : Dev nD) (t : Fin grid0.N) (p d : Fin 1024) :
    iblk (F := Ideal) m c 0 t (ix3 0 p d) = (m ((c : Thread nD τ).loc main_arg0)) (ix3 (bOf t) (posOf (eOf t) p) d) := by
  have h : iblk (F := Ideal) m c 0 t (ix3 0 p d) = V (F := Ideal) m c main_arg0 (ix3 (bOf t) (posOf (eOf t) p) d) := by
    blk_simp [iblk]
    refine congrArg (V (F := Ideal) m c main_arg0) ?_
    blk_ext [idx0, posOf, tileOf]
  rw [h, V_arg0]

theorem iblk1_apply (c : Dev nD) (t : Fin grid0.N) (h : Fin 8) (n : Fin 4) (d : Fin 64) (q : Fin 256) :
    iblk (F := Ideal) m c 1 t (ix5 0 h n d q) = (m ((c : Thread nD τ).loc main_arg1)) (ix4 (bOf t) ⟨(tileOf (eOf t) n).val * 256 + q.val, by omega⟩ h d) := by
  have h : iblk (F := Ideal) m c 1 t (ix5 0 h n d q) = V (F := Ideal) m c main_v1 (ix5 (bOf t) h (tileOf (eOf t) n) d q) := by
    blk_simp [iblk]
    refine congrArg (V (F := Ideal) m c main_v1) ?_
    blk_ext [idx1, posOf, tileOf]
  rw [h, V_v1]
  rw [tilesOf_apply]

theorem iblk2_apply (c : Dev nD) (t : Fin grid0.N) (h : Fin 8) (n : Fin 4) (d : Fin 64) (q : Fin 256) :
    iblk (F := Ideal) m c 2 t (ix5 0 h n d q) = (m ((c : Thread nD τ).loc main_arg2)) (ix4 (bOf t) ⟨(tileOf (eOf t) n).val * 256 + q.val, by omega⟩ h d) := by
  have h : iblk (F := Ideal) m c 2 t (ix5 0 h n d q) = V (F := Ideal) m c main_v3 (ix5 (bOf t) h (tileOf (eOf t) n) d q) := by
    blk_simp [iblk]
    refine congrArg (V (F := Ideal) m c main_v3) ?_
    blk_ext [idx2, posOf, tileOf]
  rw [h, V_v3]
  rw [tilesOf_apply]

theorem iblk3_apply (c : Dev nD) (t : Fin grid0.N) (n : Fin 4) (w : Fin 512) (q : Fin 256) :
    iblk (F := Ideal) m c 3 t (ix4 0 n w q) = (m ((c : Thread nD τ).loc main_arg3)) (ix3 (bOf t) ⟨(tileOf (eOf t) n).val * 256 + q.val, by omega⟩ w) := by
  have h : iblk (F := Ideal) m c 3 t (ix4 0 n w q) = V (F := Ideal) m c main_v5 (ix4 (bOf t) (tileOf (eOf t) n) w q) := by
    blk_simp [iblk]
    refine congrArg (V (F := Ideal) m c main_v5) ?_
    blk_ext [idx3, posOf, tileOf]
  rw [h, V_v5]
  rw [widesOf_apply]

theorem iblk4_apply (c : Dev nD) (t : Fin grid0.N) (n : Fin 4) (w : Fin 512) (q : Fin 256) :
    iblk (F := Ideal) m c 4 t (ix4 0 n w q) = (m ((c : Thread nD τ).loc main_arg4)) (ix3 (bOf t) ⟨(tileOf (eOf t) n).val * 256 + q.val, by omega⟩ w) := by
  have h : iblk (F := Ideal) m c 4 t (ix4 0 n w q) = V (F := Ideal) m c main_v7 (ix4 (bOf t) (tileOf (eOf t) n) w q) := by
    blk_simp [iblk]
    refine congrArg (V (F := Ideal) m c main_v7) ?_
    blk_ext [idx4, posOf, tileOf]
  rw [h, V_v7]
  rw [widesOf_apply]

theorem iblk5_apply (c : Dev nD) (t : Fin grid0.N) (n : Fin 4) (w : Fin 512) (q : Fin 256) :
    iblk (F := Ideal) m c 5 t (ix4 0 n w q) = (m ((c : Thread nD τ).loc main_arg5)) (ix3 (bOf t) ⟨(tileOf (eOf t) n).val * 256 + q.val, by omega⟩ w) := by
  have h : iblk (F := Ideal) m c 5 t (ix4 0 n w q) = V (F := Ideal) m c main_v10 (ix4 (bOf t) (tileOf (eOf t) n) w q) := by
    blk_simp [iblk]
    refine congrArg (V (F := Ideal) m c main_v10) ?_
    blk_ext [idx5, posOf, tileOf]
  rw [h, V_v10]
  exact widesOf_apply ..

theorem iblk6_apply (c : Dev nD) (t : Fin grid0.N) (w : Fin 512) (d : Fin 1024) :
    iblk (F := Ideal) m c 6 t (ix2 w d) = (m ((c : Thread nD τ).loc main_arg6)) (ix2 w d) := by
  have h : iblk (F := Ideal) m c 6 t (ix2 w d) = V (F := Ideal) m c main_v11 (ix2 w d) := by
    blk_simp [iblk]
    refine congrArg (V (F := Ideal) m c main_v11) ?_
    blk_ext [idx6, posOf, tileOf]
  rw [h, V_v11]
  rfl

theorem iblk7_apply (c : Dev nD) (t : Fin grid0.N) (w : Fin 512) (d : Fin 1024) :
    iblk (F := Ideal) m c 7 t (ix2 w d) = (m ((c : Thread nD τ).loc main_arg7)) (ix2 w d) := by
  have h : iblk (F := Ideal) m c 7 t (ix2 w d) = V (F := Ideal) m c main_v12 (ix2 w d) := by
    blk_simp [iblk]
    refine congrArg (V (F := Ideal) m c main_v12) ?_
    blk_ext [idx7, posOf, tileOf]
  rw [h, V_v12]
  rfl

theorem iblk8_apply (c : Dev nD) (t : Fin grid0.N) (w : Fin 512) (d : Fin 1024) :
    iblk (F := Ideal) m c 8 t (ix2 w d) = (m ((c : Thread nD τ).loc main_arg8)) (ix2 w d) := by
  have h : iblk (F := Ideal) m c 8 t (ix2 w d) = V (F := Ideal) m c main_v13 (ix2 w d) := by
    blk_simp [iblk]
    refine congrArg (V (F := Ideal) m c main_v13) ?_
    blk_ext [idx8, posOf, tileOf]
  rw [h, V_v13]
  rfl

theorem iblk9_apply (c : Dev nD) (t : Fin grid0.N) (x : Fin 1024) (d : Fin 3072) :
    iblk (F := Ideal) m c 9 t (ix2 x d) = (m ((c : Thread nD τ).loc main_arg9)) (ix2 x d) := by
  have h : iblk (F := Ideal) m c 9 t (ix2 x d) = V (F := Ideal) m c main_v14 (ix2 x d) := by
    blk_simp [iblk]
    refine congrArg (V (F := Ideal) m c main_v14) ?_
    blk_ext [idx9, posOf, tileOf]
  rw [h, V_v14]
  rfl

theorem iblk10_apply (c : Dev nD) (t : Fin grid0.N) (d : Fin 3072) :
    iblk (F := Ideal) m c 10 t (ix2 0 d) = (m ((c : Thread nD τ).loc main_arg10)) (ix1 d) := by
  have h : iblk (F := Ideal) m c 10 t (ix2 0 d) = V (F := Ideal) m c main_v15 (ix2 0 d) := by
    blk_simp [iblk]
    refine congrArg (V (F := Ideal) m c main_v15) ?_
    blk_ext [idx10, posOf, tileOf]
  rw [h, V_v15]
  rw [row3072_apply]

theorem iblk11_apply (c : Dev nD) (t : Fin grid0.N) (x d : Fin 1024) :
    iblk (F := Ideal) m c 11 t (ix2 x d) = (m ((c : Thread nD τ).loc main_arg11)) (ix2 x d) := by
  have h : iblk (F := Ideal) m c 11 t (ix2 x d) = V (F := Ideal) m c main_v16 (ix2 x d) := by
    blk_simp [iblk]
    refine congrArg (V (F := Ideal) m c main_v16) ?_
    blk_ext [idx11, posOf, tileOf]
  rw [h, V_v16]
  rfl

theorem iblk12_apply (c : Dev nD) (t : Fin grid0.N) (d : Fin 1024) :
    iblk (F := Ideal) m c 12 t (ix2 0 d) = (m ((c : Thread nD τ).loc main_arg12)) (ix1 d) := by
  have h : iblk (F := Ideal) m c 12 t (ix2 0 d) = V (F := Ideal) m c main_v17 (ix2 0 d) := by
    blk_simp [iblk]
    refine congrArg (V (F := Ideal) m c main_v17) ?_
    blk_ext [idx12, posOf, tileOf]
  rw [h, V_v17]
  rw [row1024_apply]

theorem iblk13_apply (c : Dev nD) (t : Fin grid0.N) (d : Fin 1024) :
    iblk (F := Ideal) m c 13 t (ix2 0 d) = (m ((c : Thread nD τ).loc main_arg13)) (ix1 d) := by
  have h : iblk (F := Ideal) m c 13 t (ix2 0 d) = V (F := Ideal) m c main_v18 (ix2 0 d) := by
    blk_simp [iblk]
    refine congrArg (V (F := Ideal) m c main_v18) ?_
    blk_ext [idx13, posOf, tileOf]
  rw [h, V_v18]
  rw [row1024_apply]

/-- The result array. -/
def result (x : FVec Ideal S8x4096x1024 .f32) (oa ob : FVec Ideal S8x4096x8x64 .f32) (ga gb hm : FVec Ideal S8x4096x512 .f32) (wa wb wm : FVec Ideal S512x1024 .f32)
    (wg : FVec Ideal S1024x3072 .f32) (bg : FVec Ideal S3072 .f32) (wo : FVec Ideal S1024x1024 .f32) (lg lb : FVec Ideal S1024 .f32) : FVec Ideal S8x4096x1024 .f32 :=
  fun i => obOut x oa ob ga gb hm wa wb wm wg bg wo lg lb (i 0) (i 1) (i 2)

theorem outsAt_apply (c : Dev nD) (t : Fin grid0.N) (p e : Fin 1024) :
    outsAt0 (F := Ideal) m c t (ix3 0 p e)
      = obOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (bOf t) (posOf (eOf t) p) e := by
  unfold outsAt0
  refine (out_apply ..).trans ?_
  have eP : (⟨(tileOf (eOf t) ⟨p.val / 256, by omega⟩).val * 256 + p.val % 256, by omega⟩ : Fin 4096) = posOf (eOf t) p :=
    Fin.ext (by show (4 * (eOf t).val + p.val / 256) * 256 + p.val % 256 = 1024 * (eOf t).val + p.val; omega)
  unfold blkRow obOut
  simp only [iblk0_apply, iblk1_apply, iblk2_apply, iblk3_apply, iblk4_apply, iblk5_apply, iblk6_apply, iblk7_apply, iblk8_apply, iblk9_apply,
    iblk10_apply, iblk11_apply, iblk12_apply, iblk13_apply, eP]

theorem final_o (c : Dev nD) :
    (dats (F := Ideal) m 0 c).arrAt 14 cfg0.N
      = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (dats (F := Ideal) m 0 c).arrAt_eq_of_covers 14 _ (by decide +kernel) fun t hf y => ?_
  blk_simp
  obtain ⟨p, e, rfl⟩ : ∃ (p e : Fin 1024), y = (ix3 0 p e : S1x1024x1024.Idx) :=
    ⟨y 1, y 2, (eq_ix3 (y : S1x1024x1024.Idx)).trans (congrArg (fun z => (ix3 z (y 1) (y 2) : S1x1024x1024.Idx)) (Subsingleton.elim (α := Fin 1) _ _))⟩
  have h : (win0_14.blk t).view.emb (ix3 0 p e : S1x1024x1024.Idx) = (ix3 (bOf t) (posOf (eOf t) p) e : S8x4096x1024.Idx) := by
    blk_ext [idx14, posOf]
  rw [h]
  exact outsAt_apply m c t p e

/-- Every run ends with the result array, the arguments unchanged and every counter at zero. -/
theorem run (ρ : Dev nD → PrngReg) :
    θ_run defs (onTc (τ := τ) (main (F := Ideal))) ⟨m, fun _ => 0, ρ⟩ (fun r => (∀ c : Dev nD,
      r.2.mem ((c.tc : Thread nD τ).loc main_v19) = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  (θ_run defs _ _).mono (fun r h => ⟨fun c => ⟨((h.2.1 c).1 14).trans (final_o m c), h.1.1 c⟩, h.1.2⟩)
    (θ_run_and (frame m ρ) (run_main_quiescent m ρ))

end Cert.Kernel2Ideal.Ob

end
-- ==== Proof.Ob.Ref.lean ====
/-
  The output block's reference, element by element.
-/
module

public import proofs.«01_k».proof.Proof.Gen.Reference2Ideal.Run
public import proofs.«01_k».proof.Proof.Ob.Core
public import Idealize.ShloMosaic.Lib.Pointwise
public import Idealize.ShloMosaic.Lib.Quiescent

@[expose] public section

set_option maxRecDepth 16384

noncomputable section

namespace Cert.Reference2Ideal.Ob

open Cert.Reference2Ideal Cert.Reference2Ideal.Gen Cert.ObCore
open Idealize.ShloMosaic Idealize.ShloMosaic.TcCoe
open scoped BigOperators

/-! ### The frame -/

theorem frame {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  (θ_run defs _ _).mono (fun r h => ⟨fun c => (h c).2, sem_eq_zero_of_no_sems (by decide) r.2⟩) (Cert.Reference2Ideal.Value.run m ρ)

/-! ### The terms of the result -/

/-- The gates of a branch. -/
def siluV (g : FVec Ideal S8x4096x512 .f32) : FVec Ideal S8x4096x512 .f32 :=
  mulf g (Host.divf (broadcastInDim S8x4096x512 ![] bcast_S_S8x4096x512 (constant S_ .f32 0x3F800000#32))
    (addf (broadcastInDim S8x4096x512 ![] bcast_S_S8x4096x512 (constant S_ .f32 0x3F800000#32)) (Host.exp (Host.negf g))))

/-- A gated branch's projection. -/
def branchV (o : FVec Ideal S8x4096x8x64 .f32) (g : FVec Ideal S8x4096x512 .f32) (w : FVec Ideal S512x1024 .f32) : FVec Ideal S8x4096x1024 .f32 :=
  Host.dotGeneral dot_S8x4096x512_S512x1024_S8x4096x1024_2_0_01_1_n_n none (mulf (shapeCast S8x4096x512 o shapeCasts_S8x4096x8x64_S8x4096x512) (siluV g)) w

/-- The merge's gates. -/
def gateV (x : FVec Ideal S8x4096x1024 .f32) (wg : FVec Ideal S1024x3072 .f32) (bg : FVec Ideal S3072 .f32) : FVec Ideal S8x4096x3072 .f32 :=
  Host.divf (broadcastInDim S8x4096x3072 ![] bcast_S_S8x4096x3072 (constant S_ .f32 0x3F800000#32))
    (addf (broadcastInDim S8x4096x3072 ![] bcast_S_S8x4096x3072 (constant S_ .f32 0x3F800000#32)) (Host.exp (Host.negf
      (addf (Host.dotGeneral dot_S8x4096x1024_S1024x3072_S8x4096x3072_2_0_01_1_n_n none x wg)
        (broadcastInDim S8x4096x3072 ![0, 1, 2] bcast_S1x1x3072_S8x4096x3072_0_1_2 (broadcastInDim S1x1x3072 ![2] bcast_S3072_S1x1x3072_2 bg))))))

/-- The residual sum. -/
def residV (x : FVec Ideal S8x4096x1024 .f32) (g : FVec Ideal S8x4096x3072 .f32) (ya yb ym : FVec Ideal S8x4096x1024 .f32) (wo : FVec Ideal S1024x1024 .f32) :
    FVec Ideal S8x4096x1024 .f32 :=
  addf (mulf (broadcastInDim S8x4096x1024 ![] bcast_S_S8x4096x1024 (constant S_ .f32 0x3F9837F0#32)) x)
    (Host.dotGeneral dot_S8x4096x1024_S1024x1024_S8x4096x1024_2_0_01_1_n_n none
      (addf (addf (mulf (extractStridedSlice S8x4096x1024 ![0, 0, 0] g slices_S8x4096x3072_S8x4096x1024_0_0_0) ya)
        (mulf (extractStridedSlice S8x4096x1024 ![0, 0, 1024] g slices_S8x4096x3072_S8x4096x1024_0_0_1024) yb))
        (mulf (extractStridedSlice S8x4096x1024 ![0, 0, 2048] g slices_S8x4096x3072_S8x4096x1024_0_0_2048) ym)) wo)

/-- The mean over the channels. -/
def meanV (r : FVec Ideal S8x4096x1024 .f32) : FVec Ideal S8x4096x1 .f32 :=
  Host.divf (broadcastInDim S8x4096x1 ![0, 1] bcast_S8x4096_S8x4096x1_0_1 (Host.reduceAdd r (constant S_ .f32 0x00000000#32) reducesTo_S8x4096x1024_S8x4096_d2 h_S_))
    (broadcastInDim S8x4096x1 ![] bcast_S_S8x4096x1 (constant S_ .f32 0x44800000#32))

/-- The residual less its mean. -/
def centredV (r : FVec Ideal S8x4096x1024 .f32) : FVec Ideal S8x4096x1024 .f32 :=
  subf r (broadcastInDim S8x4096x1024 ![0, 1, 2] bcast_S8x4096x1_S8x4096x1024_0_1_2 (meanV r))

/-- The layer norm's last step. -/
def normV (rc : FVec Ideal S8x4096x1024 .f32) (lg lb : FVec Ideal S1024 .f32) : FVec Ideal S8x4096x1024 .f32 :=
  addf (mulf (mulf rc (broadcastInDim S8x4096x1024 ![0, 1, 2] bcast_S8x4096x1_S8x4096x1024_0_1_2 (Host.rsqrt
      (addf (meanV (mulf rc rc)) (broadcastInDim S8x4096x1 ![] bcast_S_S8x4096x1 (constant S_ .f32 0x3727C5AC#32))))))
    (broadcastInDim S8x4096x1024 ![0, 1, 2] bcast_S1x1x1024_S8x4096x1024_0_1_2 (broadcastInDim S1x1x1024 ![2] bcast_S1024_S1x1x1024_2 lg)))
    (broadcastInDim S8x4096x1024 ![0, 1, 2] bcast_S1x1x1024_S8x4096x1024_0_1_2 (broadcastInDim S1x1x1024 ![2] bcast_S1024_S1x1x1024_2 lb))

/-- The result. -/
def refOut (x : FVec Ideal S8x4096x1024 .f32) (oa ob : FVec Ideal S8x4096x8x64 .f32) (ga gb hm : FVec Ideal S8x4096x512 .f32) (wa wb wm : FVec Ideal S512x1024 .f32)
    (wg : FVec Ideal S1024x3072 .f32) (bg : FVec Ideal S3072 .f32) (wo : FVec Ideal S1024x1024 .f32) (lg lb : FVec Ideal S1024 .f32) : FVec Ideal S8x4096x1024 .f32 :=
  normV (centredV (residV x (gateV x wg bg) (branchV oa ga wa) (branchV ob gb wb)
    (Host.dotGeneral dot_S8x4096x512_S512x1024_S8x4096x1024_2_0_01_1_n_n none hm wm) wo)) lg lb

set_option maxHeartbeats 1000000 in
theorem res_eq (m : (ℓ : Loc nD τ sig) → Buf (Elt Ideal) ℓ) (c : Dev nD) :
    Cert.Reference2Ideal.Value.res_main_v52 (F := Ideal) m c
      = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := rfl

/-! ### Element by element -/

theorem branchV_apply (o : FVec Ideal S8x4096x8x64 .f32) (g : FVec Ideal S8x4096x512 .f32) (w : FVec Ideal S512x1024 .f32) (b : Fin 8) (s : Fin 4096) (e : Fin 1024) :
    branchV o g w (ix3 b s e) = ∑ j : Fin 512, o (ix4 b s ⟨j.val / 64, by omega⟩ ⟨j.val % 64, by omega⟩) * silu (g (ix3 b s j)) * w (ix2 j e) := by
  unfold silu sg
  pointwise [branchV, siluV]

theorem gateV_apply (x : FVec Ideal S8x4096x1024 .f32) (wg : FVec Ideal S1024x3072 .f32) (bg : FVec Ideal S3072 .f32) (b : Fin 8) (s : Fin 4096) (e : Fin 3072) :
    gateV x wg bg (ix3 b s e) = sg ((∑ j : Fin 1024, x (ix3 b s j) * wg (ix2 j e)) + bg (ix1 e)) := by
  unfold sg
  pointwise [gateV]

theorem residV_apply (x : FVec Ideal S8x4096x1024 .f32) (g : FVec Ideal S8x4096x3072 .f32) (ya yb ym : FVec Ideal S8x4096x1024 .f32) (wo : FVec Ideal S1024x1024 .f32)
    (b : Fin 8) (s : Fin 4096) (e : Fin 1024) :
    residV x g ya yb ym wo (ix3 b s e)
      = resid (fun d => x (ix3 b s d)) (fun d => g (ix3 b s ⟨d.val, by omega⟩) * ya (ix3 b s d) + g (ix3 b s ⟨1024 + d.val, by omega⟩) * yb (ix3 b s d)
          + g (ix3 b s ⟨2048 + d.val, by omega⟩) * ym (ix3 b s d)) (fun d e => wo (ix2 d e)) e := by
  unfold resid
  pointwise [residV]

theorem centredV_apply (r : FVec Ideal S8x4096x1024 .f32) (b : Fin 8) (s : Fin 4096) (e : Fin 1024) :
    centredV r (ix3 b s e) = centred (fun d => r (ix3 b s d)) e := by
  unfold centred
  pointwise [centredV, meanV]

theorem normV_apply (rc : FVec Ideal S8x4096x1024 .f32) (lg lb : FVec Ideal S1024 .f32) (b : Fin 8) (s : Fin 4096) (e : Fin 1024) :
    normV rc lg lb (ix3 b s e) = normed (fun d => rc (ix3 b s d)) (fun d => lg (ix1 d)) (fun d => lb (ix1 d)) e := by
  unfold normed
  pointwise [normV, meanV]

theorem memV_apply (hm : FVec Ideal S8x4096x512 .f32) (wm : FVec Ideal S512x1024 .f32) (b : Fin 8) (s : Fin 4096) (e : Fin 1024) :
    Host.dotGeneral dot_S8x4096x512_S512x1024_S8x4096x1024_2_0_01_1_n_n none hm wm (ix3 b s e) = ∑ j : Fin 512, hm (ix3 b s j) * wm (ix2 j e) := by
  pointwise []

theorem refOut_apply (x : FVec Ideal S8x4096x1024 .f32) (oa ob : FVec Ideal S8x4096x8x64 .f32) (ga gb hm : FVec Ideal S8x4096x512 .f32) (wa wb wm : FVec Ideal S512x1024 .f32)
    (wg : FVec Ideal S1024x3072 .f32) (bg : FVec Ideal S3072 .f32) (wo : FVec Ideal S1024x1024 .f32) (lg lb : FVec Ideal S1024 .f32) (b : Fin 8) (s : Fin 4096) (e : Fin 1024) :
    refOut x oa ob ga gb hm wa wb wm wg bg wo lg lb (ix3 b s e) = obOut x oa ob ga gb hm wa wb wm wg bg wo lg lb b s e := by
  unfold refOut
  rw [normV_apply]
  simp only [centredV_apply, residV_apply, gateV_apply, branchV_apply, memV_apply]
  rfl

end Cert.Reference2Ideal.Ob

end
-- ==== Proof.In.Core.lean ====
/-
  The rows of the layer's input projection on extended reals: the root-mean-square norm, and the attention of one
  position into the memory.
-/
module

public import proofs.«01_k».proof.Proof.Ob.Core

@[expose] public section

noncomputable section

namespace Cert.InCore

open Idealize.ShloMosaic
open Cert.ObCore
open scoped BigOperators

/-- A row over its root mean square, times a gain; `N` is the row's length. -/
def rms {n : ℕ} (N : EReal) (c g : Fin n → EReal) (i : Fin n) : EReal :=
  c i * Ideal.rsqrt (Ideal.div (∑ j, c j * c j) N + Ideal.ofBits FTy.f32 0x358637BD#32) * g i

/-- The largest of a position's scores. -/
def top (s : Fin 256 → EReal) : EReal := Finset.fold max (Ideal.ofBits FTy.f32 0xFF800000#32) s Finset.univ

/-- The attention of one position into the memory, the division after the sum: `s` are the scores, `v` the values. -/
def memK (s v : Fin 256 → EReal) : EReal :=
  (∑ m, v m * Ideal.exp (s m - top s)) * Ideal.div 1 (∑ m, Ideal.exp (s m - top s))

end Cert.InCore

end
-- ==== Proof.In.Block.lean ====
/-
  The blocks that the input projection's body writes, as formulas over the blocks it reads.
-/
module

public import proofs.«01_k».proof.Proof.Gen.Kernel3Ideal.Skeleton
public import proofs.«01_k».proof.Proof.In.Core
public import Idealize.ShloMosaic.Lib.Pointwise
public import Idealize.ShloMosaic.Lib.Pipeline.ValueKit

@[expose] public section

noncomputable section

namespace Cert.Kernel3Ideal.In

open Idealize.ShloMosaic Idealize.ShloMosaic.TcCoe
open Cert.Kernel3Ideal.Gen Cert.ObCore Cert.InCore
open scoped BigOperators

/-- The queries' scale. -/
def SC : EReal := Ideal.ofBits FTy.f32 0x3E16C740#32

/-- The scale of the memory's scores. -/
def ISD : EReal := (Named.named κ "inv_sqrt_d" (0x3DB504F3#32) : Ideal FTy.f32)

/-- The row of the block that row `q` of tile `t` is. -/
def rowT (t : Fin 4) (q : Fin 256) : Fin 1024 := ⟨256 * t.val + q.val, by omega⟩

/-- The projection of row `s`, by the transposed weights. -/
def PT (x0 : Vec Ideal S1x1024x1024 .f32) (x1 : Vec Ideal S3456x1024 .bf16) (s : Fin 1024) (c : Fin 3456) : EReal :=
  ∑ j, x0 (ix3 0 s j) * x1 (ix2 c j)

/-- The projection of row `s`, by the plain weights. -/
def PS (x0 : Vec Ideal S1x1024x1024 .f32) (x2 : Vec Ideal S1024x768 .bf16) (s : Fin 1024) (c : Fin 768) : EReal :=
  ∑ j, x0 (ix3 0 s j) * x2 (ix2 j c)

/-- The queries of the first branch before rotation and scale. -/
def qaRow (x0 : Vec Ideal S1x1024x1024 .f32) (x1 : Vec Ideal S3456x1024 .bf16) (x3 : Vec Ideal S256x1 .f32) (x6 : Vec Ideal S768x256 .bf16)
    (s : Fin 1024) (r : Fin 768) : EReal :=
  ∑ x : Fin 256, rms (Ideal.ofBits FTy.f32 0x43800000#32) (fun i : Fin 256 => PT x0 x1 s ⟨512 + i.val, by omega⟩) (fun i => x3 (ix2 i 0)) x * x6 (ix2 r x)

def G15 (x0 : Vec Ideal S1x1024x1024 .f32) (x1 : Vec Ideal S3456x1024 .bf16) (x3 : Vec Ideal S256x1 .f32) (x6 : Vec Ideal S768x256 .bf16)
    (x9 x10 : Vec Ideal S4x128x256 .f32) (h : Fin 8) (t : Fin 4) (d : Fin 128) (q : Fin 256) : EReal :=
  if h1 : d.val < 64 then qaRow x0 x1 x3 x6 (rowT t q) ⟨64 * h.val + d.val, by omega⟩ * SC
  else if h2 : d.val < 80 then
    (qaRow x0 x1 x3 x6 (rowT t q) ⟨512 + (16 * h.val + (d.val - 64)), by omega⟩ * x9 (ix3 t ⟨16 * h.val + (d.val - 64), by omega⟩ q)
      - qaRow x0 x1 x3 x6 (rowT t q) ⟨640 + (16 * h.val + (d.val - 64)), by omega⟩ * x10 (ix3 t ⟨16 * h.val + (d.val - 64), by omega⟩ q)) * SC
  else if h3 : d.val < 96 then
    (qaRow x0 x1 x3 x6 (rowT t q) ⟨512 + (16 * h.val + (d.val - 80)), by omega⟩ * x10 (ix3 t ⟨16 * h.val + (d.val - 80), by omega⟩ q)
      + qaRow x0 x1 x3 x6 (rowT t q) ⟨640 + (16 * h.val + (d.val - 80)), by omega⟩ * x9 (ix3 t ⟨16 * h.val + (d.val - 80), by omega⟩ q)) * SC
  else 0

section G15

variable (x0 : Vec Ideal S1x1024x1024 .f32) (x1 : Vec Ideal S3456x1024 .bf16) (x3 : Vec Ideal S256x1 .f32) (x6 : Vec Ideal S768x256 .bf16)
  (x9 x10 : Vec Ideal S4x128x256 .f32) (h : Fin 8) (t : Fin 4) (q : Fin 256)

theorem G15_a (d : Fin 64) : G15 x0 x1 x3 x6 x9 x10 h t ⟨0 + d.val, by omega⟩ q = qaRow x0 x1 x3 x6 (rowT t q) ⟨64 * h.val + d.val, by omega⟩ * SC := by
  unfold G15
  rw [dif_pos (show 0 + d.val < 64 by omega)]
  simp only [Nat.zero_add]

theorem G15_b (d : Fin 16) : G15 x0 x1 x3 x6 x9 x10 h t ⟨64 + d.val, by omega⟩ q
    = (qaRow x0 x1 x3 x6 (rowT t q) ⟨512 + (16 * h.val + d.val), by omega⟩ * x9 (ix3 t ⟨16 * h.val + d.val, by omega⟩ q)
      - qaRow x0 x1 x3 x6 (rowT t q) ⟨640 + (16 * h.val + d.val), by omega⟩ * x10 (ix3 t ⟨16 * h.val + d.val, by omega⟩ q)) * SC := by
  unfold G15
  rw [dif_neg (show ¬(64 + d.val < 64) by omega), dif_pos (show 64 + d.val < 80 by omega)]
  simp only [Nat.add_sub_cancel_left]

theorem G15_c (d : Fin 16) : G15 x0 x1 x3 x6 x9 x10 h t ⟨80 + d.val, by omega⟩ q
    = (qaRow x0 x1 x3 x6 (rowT t q) ⟨512 + (16 * h.val + d.val), by omega⟩ * x10 (ix3 t ⟨16 * h.val + d.val, by omega⟩ q)
      + qaRow x0 x1 x3 x6 (rowT t q) ⟨640 + (16 * h.val + d.val), by omega⟩ * x9 (ix3 t ⟨16 * h.val + d.val, by omega⟩ q)) * SC := by
  unfold G15
  rw [dif_neg (show ¬(80 + d.val < 64) by omega), dif_neg (show ¬(80 + d.val < 80) by omega), dif_pos (show 80 + d.val < 96 by omega)]
  simp only [Nat.add_sub_cancel_left]

theorem G15_d (d : Fin 32) : G15 x0 x1 x3 x6 x9 x10 h t ⟨96 + d.val, by omega⟩ q = 0 := by
  unfold G15
  rw [dif_neg (show ¬(96 + d.val < 64) by omega), dif_neg (show ¬(96 + d.val < 80) by omega), dif_neg (show ¬(96 + d.val < 96) by omega)]

end G15

/-- The keys of the first branch. -/
def G16 (x0 : Vec Ideal S1x1024x1024 .f32) (x2 : Vec Ideal S1024x768 .bf16) (x5 : Vec Ideal S1x128 .f32) (x8 : Vec Ideal S256x1024 .bf16)
    (x11 x12 : Vec Ideal S1024x128 .f32) (s c : Fin 1024) : EReal :=
  (∑ x : Fin 128, rms (Ideal.ofBits FTy.f32 0x43000000#32) (fun i : Fin 128 => PS x0 x2 s ⟨i.val, by omega⟩) (fun i => x5 (ix2 0 i)) x * x8 (ix2 ⟨x.val, by omega⟩ c))
    + ∑ x : Fin 128, (PS x0 x2 s ⟨640 + x.val, by omega⟩ * x11 (ix2 s x) + PS x0 x2 s ⟨640 + (x.val + 128 - 96) % 128, by omega⟩ * x12 (ix2 s x)) * x8 (ix2 ⟨128 + x.val, by omega⟩ c)

/-- The values of the first branch, a row of one and rows of zeros below. -/
def G17 (x0 : Vec Ideal S1x1024x1024 .f32) (x1 : Vec Ideal S3456x1024 .bf16) (x4 : Vec Ideal S128x1 .f32) (x7 : Vec Ideal S512x128 .bf16)
    (h : Fin 8) (t : Fin 4) (d : Fin 80) (q : Fin 256) : EReal :=
  if h1 : d.val < 64 then
    ∑ x : Fin 128, rms (Ideal.ofBits FTy.f32 0x43000000#32) (fun i : Fin 128 => PT x0 x1 (rowT t q) ⟨768 + i.val, by omega⟩) (fun i => x4 (ix2 i 0)) x
      * x7 (ix2 ⟨64 * h.val + d.val, by omega⟩ x)
  else Scalar.select (IntOp.cmpi CmpIPredicate.eq (BitVec.ofNat 32 (d.val - 64)) 0#32) 1 0

section G17

variable (x0 : Vec Ideal S1x1024x1024 .f32) (x1 : Vec Ideal S3456x1024 .bf16) (x4 : Vec Ideal S128x1 .f32) (x7 : Vec Ideal S512x128 .bf16)
  (h : Fin 8) (t : Fin 4) (q : Fin 256)

theorem G17_a (d : Fin 64) : G17 x0 x1 x4 x7 h t ⟨0 + d.val, by omega⟩ q
    = ∑ x : Fin 128, rms (Ideal.ofBits FTy.f32 0x43000000#32) (fun i : Fin 128 => PT x0 x1 (rowT t q) ⟨768 + i.val, by omega⟩) (fun i => x4 (ix2 i 0)) x
      * x7 (ix2 ⟨64 * h.val + d.val, by omega⟩ x) := by
  unfold G17
  rw [dif_pos (show 0 + d.val < 64 by omega)]
  simp only [Nat.zero_add]

theorem G17_b (d : Fin 16) : G17 x0 x1 x4 x7 h t ⟨64 + d.val, by omega⟩ q = Scalar.select (IntOp.cmpi CmpIPredicate.eq (BitVec.ofNat 32 d.val) 0#32) 1 0 := by
  unfold G17
  rw [dif_neg (show ¬(64 + d.val < 64) by omega)]
  simp only [Nat.add_sub_cancel_left]

end G17

/-- The queries of the second branch, in the half of the rows that the head's parity says, zeros in the other. -/
def G18 (x0 : Vec Ideal S1x1024x1024 .f32) (x1 : Vec Ideal S3456x1024 .bf16) (h : Fin 8) (t : Fin 4) (d : Fin 128) (q : Fin 256) : EReal :=
  if d.val / 64 = h.val % 2 then PT x0 x1 (rowT t q) ⟨1408 + (64 * h.val + d.val % 64), by omega⟩ else 0

section G18

variable (x0 : Vec Ideal S1x1024x1024 .f32) (x1 : Vec Ideal S3456x1024 .bf16) (h : Fin 8) (t : Fin 4) (q : Fin 256)

theorem G18_a (d : Fin 64) (o : ℕ) (ho : o = 64 * (h.val % 2)) : G18 x0 x1 h t ⟨o + d.val, by omega⟩ q
    = PT x0 x1 (rowT t q) ⟨1408 + (64 * h.val + d.val), by omega⟩ := by
  unfold G18
  rw [if_pos (show (o + d.val) / 64 = h.val % 2 by omega)]
  congr 1
  exact Fin.ext (show 1408 + (64 * h.val + (o + d.val) % 64) = 1408 + (64 * h.val + d.val) by omega)

theorem G18_b (d : Fin 64) (o : ℕ) (ho : o = 64 * (1 - h.val % 2)) : G18 x0 x1 h t ⟨o + d.val, by omega⟩ q = 0 := by
  unfold G18
  rw [if_neg (show ¬((o + d.val) / 64 = h.val % 2) by omega)]

end G18

/-- The gated attention into the memory. -/
def G23 (x0 : Vec Ideal S1x1024x1024 .f32) (x1 : Vec Ideal S3456x1024 .bf16) (x13 : Vec Ideal S1x256x512 .bf16) (x14 : Vec Ideal S1x512x256 .bf16)
    (t : Fin 4) (r : Fin 512) (q : Fin 256) : EReal :=
  memK (fun m => (∑ d : Fin 128, x13 (ix3 0 m ⟨128 * (r.val / 128) + d.val, by omega⟩) * PT x0 x1 (rowT t q) ⟨128 * (r.val / 128) + d.val, by omega⟩)
      * ISD)
    (fun m => x14 (ix3 0 r m)) * silu (PT x0 x1 (rowT t q) ⟨2944 + r.val, by omega⟩)

theorem G23_a (x0 : Vec Ideal S1x1024x1024 .f32) (x1 : Vec Ideal S3456x1024 .bf16) (x13 : Vec Ideal S1x256x512 .bf16) (x14 : Vec Ideal S1x512x256 .bf16)
    (t : Fin 4) (h : Fin 4) (d : Fin 128) (q : Fin 256) :
    G23 x0 x1 x13 x14 t ⟨128 * h.val + d.val, by omega⟩ q
      = memK (fun m => (∑ d : Fin 128, x13 (ix3 0 m ⟨128 * h.val + d.val, by omega⟩) * PT x0 x1 (rowT t q) ⟨128 * h.val + d.val, by omega⟩)
      * ISD)
    (fun m => x14 (ix3 0 ⟨128 * h.val + d.val, by omega⟩ m)) * silu (PT x0 x1 (rowT t q) ⟨2944 + (128 * h.val + d.val), by omega⟩) := by
  unfold G23
  simp only [show (128 * h.val + d.val) / 128 = h.val by omega]

end Cert.Kernel3Ideal.In

end
-- ==== Proof.In.Host.lean ====
/-
  The input projections: the arrays the host hands to the call.
-/
module

public import proofs.«01_k».proof.Proof.In.Block
public import proofs.«01_k».proof.Proof.Gen.Kernel3Ideal.Frame
public import Idealize.ShloMosaic.Lib.Pointwise

@[expose] public section

set_option maxRecDepth 16384

noncomputable section

namespace Cert.Kernel3Ideal.In

open Cert.Kernel3Ideal Cert.Kernel3Ideal.Gen Cert.InCore Cert.ObCore
open Idealize.ShloMosaic Idealize.ShloMosaic.TcCoe Idealize.SL.Sem
open scoped BigOperators

/-- The weights in rows, in the order of the call. -/
def hWT (a1 : FVec Ideal S1024x4000 .f32) : FVec Ideal S3456x1024 .bf16 :=
  transpose S3456x1024 [1, 0] (truncf .bf16 (concatenate S1024x3456 1 [⟨S1024x512, (extractStridedSlice S1024x512 ![0, 2976] a1 slices_S1024x4000_S1024x512_0_2976)⟩, ⟨S1024x384, (extractStridedSlice S1024x384 ![0, 0] a1 slices_S1024x4000_S1024x384_0_0)⟩, ⟨S1024x512, (extractStridedSlice S1024x512 ![0, 416] a1 slices_S1024x4000_S1024x512_0_416)⟩, ⟨S1024x512, (extractStridedSlice S1024x512 ![0, 928] a1 slices_S1024x4000_S1024x512_0_928)⟩, ⟨S1024x1024, (extractStridedSlice S1024x1024 ![0, 1952] a1 slices_S1024x4000_S1024x1024_0_1952)⟩, ⟨S1024x512, (extractStridedSlice S1024x512 ![0, 3488] a1 slices_S1024x4000_S1024x512_0_3488)⟩] concatenates_S1024x512_S1024x384_S1024x512_S1024x512_S1024x1024_S1024x512_S1024x3456_d1) bitsLt_bf16_f32) transposes_S1024x3456_S3456x1024_1_0

/-- The weights in columns. -/
def hWS (a1 : FVec Ideal S1024x4000 .f32) : FVec Ideal S1024x768 .bf16 :=
  truncf .bf16 (concatenate S1024x768 1 [⟨S1024x128, (extractStridedSlice S1024x128 ![0, 256] a1 slices_S1024x4000_S1024x128_0_256)⟩, ⟨S1024x512, (extractStridedSlice S1024x512 ![0, 1440] a1 slices_S1024x4000_S1024x512_0_1440)⟩, ⟨S1024x32, (extractStridedSlice S1024x32 ![0, 384] a1 slices_S1024x4000_S1024x32_0_384)⟩, ⟨S1024x32, (concatenate S1024x32 1 [⟨S1024x16, (Host.negf (extractStridedSlice S1024x16 ![0, 16] (extractStridedSlice S1024x32 ![0, 384] a1 slices_S1024x4000_S1024x32_0_384) slices_S1024x32_S1024x16_0_16))⟩, ⟨S1024x16, (extractStridedSlice S1024x16 ![0, 0] (extractStridedSlice S1024x32 ![0, 384] a1 slices_S1024x4000_S1024x32_0_384) slices_S1024x32_S1024x16_0_0)⟩] concatenates_S1024x16_S1024x16_S1024x32_d1)⟩, ⟨S1024x64, (broadcastInDim S1024x64 ![] bcast_S_S1024x64 (constant S_ .f32 0x00000000#32))⟩] concatenates_S1024x128_S1024x512_S1024x32_S1024x32_S1024x64_S1024x768_d1) bitsLt_bf16_f32

/-- The query gain. -/
def hQg (a2 : FVec Ideal S256 .f32) : FVec Ideal S256x1 .f32 :=
  shapeCast S256x1 a2 shapeCasts_S256_S256x1

/-- The key gain as a column. -/
def hKc (a4 : FVec Ideal S128 .f32) : FVec Ideal S128x1 .f32 :=
  shapeCast S128x1 a4 shapeCasts_S128_S128x1

/-- The key gain as a row. -/
def hKr (a4 : FVec Ideal S128 .f32) : FVec Ideal S1x128 .f32 :=
  shapeCast S1x128 a4 shapeCasts_S128_S1x128

/-- The query up-projection. -/
def hWq (a3 : FVec Ideal S256x768 .f32) : FVec Ideal S768x256 .bf16 :=
  transpose S768x256 [1, 0] (truncf .bf16 (concatenate S256x768 1 [⟨S256x512, (shapeCast S256x512 (extractStridedSlice S256x8x64 ![0, 0, 0] (shapeCast S256x8x96 a3 shapeCasts_S256x768_S256x8x96) slices_S256x8x96_S256x8x64_0_0_0) shapeCasts_S256x8x64_S256x512)⟩, ⟨S256x128, (shapeCast S256x128 (extractStridedSlice S256x8x16 ![0, 0, 64] (shapeCast S256x8x96 a3 shapeCasts_S256x768_S256x8x96) slices_S256x8x96_S256x8x16_0_0_64) shapeCasts_S256x8x16_S256x128)⟩, ⟨S256x128, (shapeCast S256x128 (extractStridedSlice S256x8x16 ![0, 0, 80] (shapeCast S256x8x96 a3 shapeCasts_S256x768_S256x8x96) slices_S256x8x96_S256x8x16_0_0_80) shapeCasts_S256x8x16_S256x128)⟩] concatenates_S256x512_S256x128_S256x128_S256x768_d1) bitsLt_bf16_f32) transposes_S256x768_S768x256_1_0

/-- The value up-projection. -/
def hWv (a5 : FVec Ideal S128x1024 .f32) : FVec Ideal S512x128 .bf16 :=
  transpose S512x128 [1, 0] (truncf .bf16 (shapeCast S128x512 (extractStridedSlice S128x8x64 ![0, 0, 64] (shapeCast S128x8x128 a5 shapeCasts_S128x1024_S128x8x128) slices_S128x8x128_S128x8x64_0_0_64) shapeCasts_S128x8x64_S128x512) bitsLt_bf16_f32) transposes_S128x512_S512x128_1_0

/-- The key up-projection over the rotary placement. -/
def hWk (a5 : FVec Ideal S128x1024 .f32) : FVec Ideal S256x1024 .bf16 :=
  truncf .bf16 (concatenate S256x1024 0 [⟨S128x1024, (shapeCast S128x1024 (select (cmpi .slt (iotaInDim S128x8x128 32 2) (broadcastInDim S128x8x128 ![] bcast_S_S128x8x128 (constantI S_ 32 64#32))) (mulf (shapeCast S128x8x128 a5 shapeCasts_S128x1024_S128x8x128) (broadcastInDim S128x8x128 ![] bcast_S_S128x8x128 (constant S_ .f32 0x3F800000#32))) (mulf (shapeCast S128x8x128 a5 shapeCasts_S128x1024_S128x8x128) (broadcastInDim S128x8x128 ![] bcast_S_S128x8x128 (constant S_ .f32 0x00000000#32)))) shapeCasts_S128x8x128_S128x1024)⟩, ⟨S128x1024, (shapeCast S128x1024 (select (andi (cmpi .slt (iotaInDim S128x8x128 32 0) (broadcastInDim S128x8x128 ![] bcast_S_S128x8x128 (constantI S_ 32 32#32))) (cmpi .eq (iotaInDim S128x8x128 32 2) (addi (iotaInDim S128x8x128 32 0) (broadcastInDim S128x8x128 ![] bcast_S_S128x8x128 (constantI S_ 32 64#32))))) (broadcastInDim S128x8x128 ![] bcast_S_S128x8x128 (constant S_ .f32 0x3F800000#32)) (broadcastInDim S128x8x128 ![] bcast_S_S128x8x128 (constant S_ .f32 0x00000000#32))) shapeCasts_S128x8x128_S128x1024)⟩] concatenates_S128x1024_S128x1024_S256x1024_d0) bitsLt_bf16_f32

/-- The angles. -/
def hAng : FVec Ideal S4096x16 .f32 :=
  mulf (broadcastInDim S4096x16 ![0, 1] bcast_S4096x1_S4096x16_0_1 (broadcastInDim S4096x1 ![0] bcast_S4096_S4096x1_0 (sitofp .f32 (iotaInDim S4096 32 0)))) (broadcastInDim S4096x16 ![0, 1] bcast_S1x16_S4096x16_0_1 (broadcastInDim S1x16 ![1] bcast_S16_S1x16_1 (Host.powf (broadcastInDim S16 ![] bcast_S_S16 (constant S_ .f32 0x461C4000#32)) (Host.divf (Host.negf (sitofp .f32 (iotaInDim S16 32 0))) (broadcastInDim S16 ![] bcast_S_S16 (constant S_ .f32 0x41800000#32))))))

/-- The cosines by query tile. -/
def hCosq : FVec Ideal S16x128x256 .f32 :=
  shapeCast S16x128x256 (broadcastInDim S1x16x8x16x1x256 ![0, 1, 2, 3, 4, 5] bcast_S1x16x1x16x1x256_S1x16x8x16x1x256_0_1_2_3_4_5 (shapeCast S1x16x1x16x1x256 (transpose S16x16x256 [0, 2, 1] (shapeCast S16x256x16 (Host.cos hAng) shapeCasts_S4096x16_S16x256x16) transposes_S16x256x16_S16x16x256_0_2_1) shapeCasts_S16x16x256_S1x16x1x16x1x256)) shapeCasts_S1x16x8x16x1x256_S16x128x256

/-- The sines by query tile. -/
def hSinq : FVec Ideal S16x128x256 .f32 :=
  shapeCast S16x128x256 (broadcastInDim S1x16x8x16x1x256 ![0, 1, 2, 3, 4, 5] bcast_S1x16x1x16x1x256_S1x16x8x16x1x256_0_1_2_3_4_5 (shapeCast S1x16x1x16x1x256 (transpose S16x16x256 [0, 2, 1] (shapeCast S16x256x16 (Host.sin hAng) shapeCasts_S4096x16_S16x256x16) transposes_S16x256x16_S16x16x256_0_2_1) shapeCasts_S16x16x256_S1x16x1x16x1x256)) shapeCasts_S1x16x8x16x1x256_S16x128x256

/-- The cosines by key. -/
def hCosk : FVec Ideal S4096x128 .f32 :=
  concatenate S4096x128 1 [⟨S4096x16, (Host.cos hAng)⟩, ⟨S4096x16, (Host.cos hAng)⟩, ⟨S4096x96, (broadcastInDim S4096x96 ![] bcast_S_S4096x96 (constant S_ .f32 0x00000000#32))⟩] concatenates_S4096x16_S4096x16_S4096x96_S4096x128_d1

/-- The sines by key. -/
def hSink : FVec Ideal S4096x128 .f32 :=
  concatenate S4096x128 1 [⟨S4096x16, (Host.sin hAng)⟩, ⟨S4096x16, (Host.sin hAng)⟩, ⟨S4096x96, (broadcastInDim S4096x96 ![] bcast_S_S4096x96 (constant S_ .f32 0x00000000#32))⟩] concatenates_S4096x16_S4096x16_S4096x96_S4096x128_d1

/-- The memory keys. -/
def hKm (a6 : FVec Ideal S8x256x4x128 .f32) : FVec Ideal S8x256x512 .bf16 :=
  truncf .bf16 (shapeCast S8x256x512 a6 shapeCasts_S8x256x4x128_S8x256x512) bitsLt_bf16_f32

/-- The memory values. -/
def hVm (a7 : FVec Ideal S8x256x4x128 .f32) : FVec Ideal S8x512x256 .bf16 :=
  truncf .bf16 (transpose S8x512x256 [0, 2, 1] (shapeCast S8x256x512 a7 shapeCasts_S8x256x4x128_S8x256x512) transposes_S8x256x512_S8x512x256_0_2_1) bitsLt_bf16_f32

variable (m : (ℓ : Loc nD τ sig) → Buf (Elt Ideal) ℓ)

set_option maxHeartbeats 4000000

theorem V_hWT (c : Dev nD) : V (F := Ideal) m c main_v8 = hWT (m ((c : Thread nD τ).loc main_arg1)) := by
  unfold V V0 hostOps0
  simp only [List.flatten_cons, List.flatten_nil, List.append_nil]
  after_results_simp <;> rfl

theorem V_hWS (c : Dev nD) : V (F := Ideal) m c main_v18 = hWS (m ((c : Thread nD τ).loc main_arg1)) := by
  unfold V V0 hostOps0
  simp only [List.flatten_cons, List.flatten_nil, List.append_nil]
  after_results_simp <;> rfl

theorem V_hQg (c : Dev nD) : V (F := Ideal) m c main_v56 = hQg (m ((c : Thread nD τ).loc main_arg2)) := by
  unfold V V0 hostOps0
  simp only [List.flatten_cons, List.flatten_nil, List.append_nil]
  after_results_simp <;> rfl

theorem V_hKc (c : Dev nD) : V (F := Ideal) m c main_v57 = hKc (m ((c : Thread nD τ).loc main_arg4)) := by
  unfold V V0 hostOps0
  simp only [List.flatten_cons, List.flatten_nil, List.append_nil]
  after_results_simp <;> rfl

theorem V_hKr (c : Dev nD) : V (F := Ideal) m c main_v58 = hKr (m ((c : Thread nD τ).loc main_arg4)) := by
  unfold V V0 hostOps0
  simp only [List.flatten_cons, List.flatten_nil, List.append_nil]
  after_results_simp <;> rfl

theorem V_hWq (c : Dev nD) : V (F := Ideal) m c main_v28 = hWq (m ((c : Thread nD τ).loc main_arg3)) := by
  unfold V V0 hostOps0
  simp only [List.flatten_cons, List.flatten_nil, List.append_nil]
  after_results_simp <;> rfl

theorem V_hWv (c : Dev nD) : V (F := Ideal) m c main_v33 = hWv (m ((c : Thread nD τ).loc main_arg5)) := by
  unfold V V0 hostOps0
  simp only [List.flatten_cons, List.flatten_nil, List.append_nil]
  after_results_simp <;> rfl

theorem V_hWk (c : Dev nD) : V (F := Ideal) m c main_v55 = hWk (m ((c : Thread nD τ).loc main_arg5)) := by
  unfold V V0 hostOps0
  simp only [List.flatten_cons, List.flatten_nil, List.append_nil]
  after_results_simp <;> rfl

theorem V_hCosq (c : Dev nD) : V (F := Ideal) m c main_v78 = hCosq := by
  unfold V V0 hostOps0
  simp only [List.flatten_cons, List.flatten_nil, List.append_nil]
  after_results_simp <;> rfl

theorem V_hSinq (c : Dev nD) : V (F := Ideal) m c main_v83 = hSinq := by
  unfold V V0 hostOps0
  simp only [List.flatten_cons, List.flatten_nil, List.append_nil]
  after_results_simp <;> rfl

theorem V_hCosk (c : Dev nD) : V (F := Ideal) m c main_v85 = hCosk := by
  unfold V V0 hostOps0
  simp only [List.flatten_cons, List.flatten_nil, List.append_nil]
  after_results_simp <;> rfl

theorem V_hSink (c : Dev nD) : V (F := Ideal) m c main_v86 = hSink := by
  unfold V V0 hostOps0
  simp only [List.flatten_cons, List.flatten_nil, List.append_nil]
  after_results_simp <;> rfl

theorem V_hKm (c : Dev nD) : V (F := Ideal) m c main_v88 = hKm (m ((c : Thread nD τ).loc main_arg6)) := by
  unfold V V0 hostOps0
  simp only [List.flatten_cons, List.flatten_nil, List.append_nil]
  after_results_simp <;> rfl

theorem V_hVm (c : Dev nD) : V (F := Ideal) m c main_v91 = hVm (m ((c : Thread nD τ).loc main_arg7)) := by
  unfold V V0 hostOps0
  simp only [List.flatten_cons, List.flatten_nil, List.append_nil]
  after_results_simp <;> rfl

theorem V_arg0 (c : Dev nD) : V (F := Ideal) m c main_arg0 = m ((c : Thread nD τ).loc main_arg0) := by
  unfold V V0 hostOps0
  simp only [List.flatten_cons, List.flatten_nil, List.append_nil]
  after_results_simp <;> rfl

end Cert.Kernel3Ideal.In

end
-- ==== Proof.In.Trip.lean ====
/-
  The pieces that one trip of the input projection's loop leaves in each of its nine blocks, over the trip's loads.
-/
module

public import proofs.«01_k».proof.Proof.Gen.Kernel3Ideal.Loops
public import Idealize.ShloMosaic.Lib.WholeRead

@[expose] public section

set_option maxRecDepth 16384

noncomputable section

namespace Cert.Kernel3Ideal.In

open Idealize.ShloMosaic Idealize.ShloMosaic.TcCoe
open Cert.Kernel3Ideal.Gen

variable {F : FTy → Type} [FloatOps F] [Named F]

/-- What one trip writes into block 15, last piece first. -/
def ps15 (k : Fin k0_t1_loop.trips) (v4 : Vec F S1x256x1024 .f32) (v13 : Vec F S384x1024 .bf16) (v189 : Vec F S256x1 .f32) (v193 : Vec F S768x256 .bf16) (v200 : Vec F S1x128x256 .f32) (v203 : Vec F S1x128x256 .f32) :
    List (View.Piece (Elt F) S1x8x4x128x256 .bf16) :=
  [⟨(Rect.unit (s := S1x8x4x128x256) (k0_off38 k) S1x1x1x32x256.size (k0_off38_inb k)), (k0_pay73 (k0_pay37 (F := F)))⟩,
   ⟨(Rect.unit (s := S1x8x4x128x256) (k0_off37 k) S1x1x1x16x256.size (k0_off37_inb k)), (k0_pay72 (k0_pay35 (k0_pay30 (k0_pay4 v4 v13) v189 v193) (k0_pay31 (k0_pay4 v4 v13) v189 v193) (k0_pay32 v200) v203))⟩,
   ⟨(Rect.unit (s := S1x8x4x128x256) (k0_off36 k) S1x1x1x16x256.size (k0_off36_inb k)), (k0_pay71 (k0_pay34 (k0_pay30 (k0_pay4 v4 v13) v189 v193) (k0_pay31 (k0_pay4 v4 v13) v189 v193) (k0_pay32 v200) v203))⟩,
   ⟨(Rect.unit (s := S1x8x4x128x256) (k0_off35 k) S1x1x1x64x256.size (k0_off35_inb k)), (k0_pay70 (k0_pay36 (k0_pay29 (k0_pay4 v4 v13) v189 v193)))⟩,
   ⟨(Rect.unit (s := S1x8x4x128x256) (k0_off34 k) S1x1x1x32x256.size (k0_off34_inb k)), (k0_pay69 (k0_pay37 (F := F)))⟩,
   ⟨(Rect.unit (s := S1x8x4x128x256) (k0_off33 k) S1x1x1x16x256.size (k0_off33_inb k)), (k0_pay68 (k0_pay67 (k0_pay35 (k0_pay30 (k0_pay4 v4 v13) v189 v193) (k0_pay31 (k0_pay4 v4 v13) v189 v193) (k0_pay32 v200) v203)))⟩,
   ⟨(Rect.unit (s := S1x8x4x128x256) (k0_off32 k) S1x1x1x16x256.size (k0_off32_inb k)), (k0_pay66 (k0_pay34 (k0_pay30 (k0_pay4 v4 v13) v189 v193) (k0_pay31 (k0_pay4 v4 v13) v189 v193) (k0_pay32 v200) v203))⟩,
   ⟨(Rect.unit (s := S1x8x4x128x256) (k0_off31 k) S1x1x1x64x256.size (k0_off31_inb k)), (k0_pay65 (k0_pay36 (k0_pay29 (k0_pay4 v4 v13) v189 v193)))⟩,
   ⟨(Rect.unit (s := S1x8x4x128x256) (k0_off30 k) S1x1x1x32x256.size (k0_off30_inb k)), (k0_pay64 (k0_pay37 (F := F)))⟩,
   ⟨(Rect.unit (s := S1x8x4x128x256) (k0_off29 k) S1x1x1x16x256.size (k0_off29_inb k)), (k0_pay63 (k0_pay35 (k0_pay30 (k0_pay4 v4 v13) v189 v193) (k0_pay31 (k0_pay4 v4 v13) v189 v193) (k0_pay32 v200) v203))⟩,
   ⟨(Rect.unit (s := S1x8x4x128x256) (k0_off28 k) S1x1x1x16x256.size (k0_off28_inb k)), (k0_pay62 (k0_pay34 (k0_pay30 (k0_pay4 v4 v13) v189 v193) (k0_pay31 (k0_pay4 v4 v13) v189 v193) (k0_pay32 v200) v203))⟩,
   ⟨(Rect.unit (s := S1x8x4x128x256) (k0_off27 k) S1x1x1x64x256.size (k0_off27_inb k)), (k0_pay61 (k0_pay60 (k0_pay36 (k0_pay29 (k0_pay4 v4 v13) v189 v193))))⟩,
   ⟨(Rect.unit (s := S1x8x4x128x256) (k0_off26 k) S1x1x1x32x256.size (k0_off26_inb k)), (k0_pay59 (k0_pay37 (F := F)))⟩,
   ⟨(Rect.unit (s := S1x8x4x128x256) (k0_off25 k) S1x1x1x16x256.size (k0_off25_inb k)), (k0_pay58 (k0_pay35 (k0_pay30 (k0_pay4 v4 v13) v189 v193) (k0_pay31 (k0_pay4 v4 v13) v189 v193) (k0_pay32 v200) v203))⟩,
   ⟨(Rect.unit (s := S1x8x4x128x256) (k0_off24 k) S1x1x1x16x256.size (k0_off24_inb k)), (k0_pay57 (k0_pay34 (k0_pay30 (k0_pay4 v4 v13) v189 v193) (k0_pay31 (k0_pay4 v4 v13) v189 v193) (k0_pay32 v200) v203))⟩,
   ⟨(Rect.unit (s := S1x8x4x128x256) (k0_off23 k) S1x1x1x64x256.size (k0_off23_inb k)), (k0_pay56 (k0_pay36 (k0_pay29 (k0_pay4 v4 v13) v189 v193)))⟩,
   ⟨(Rect.unit (s := S1x8x4x128x256) (k0_off22 k) S1x1x1x32x256.size (k0_off22_inb k)), (k0_pay55 (k0_pay37 (F := F)))⟩,
   ⟨(Rect.unit (s := S1x8x4x128x256) (k0_off21 k) S1x1x1x16x256.size (k0_off21_inb k)), (k0_pay54 (k0_pay53 (k0_pay35 (k0_pay30 (k0_pay4 v4 v13) v189 v193) (k0_pay31 (k0_pay4 v4 v13) v189 v193) (k0_pay32 v200) v203)))⟩,
   ⟨(Rect.unit (s := S1x8x4x128x256) (k0_off20 k) S1x1x1x16x256.size (k0_off20_inb k)), (k0_pay52 (k0_pay34 (k0_pay30 (k0_pay4 v4 v13) v189 v193) (k0_pay31 (k0_pay4 v4 v13) v189 v193) (k0_pay32 v200) v203))⟩,
   ⟨(Rect.unit (s := S1x8x4x128x256) (k0_off19 k) S1x1x1x64x256.size (k0_off19_inb k)), (k0_pay51 (k0_pay36 (k0_pay29 (k0_pay4 v4 v13) v189 v193)))⟩,
   ⟨(Rect.unit (s := S1x8x4x128x256) (k0_off18 k) S1x1x1x32x256.size (k0_off18_inb k)), (k0_pay50 (k0_pay37 (F := F)))⟩,
   ⟨(Rect.unit (s := S1x8x4x128x256) (k0_off17 k) S1x1x1x16x256.size (k0_off17_inb k)), (k0_pay49 (k0_pay35 (k0_pay30 (k0_pay4 v4 v13) v189 v193) (k0_pay31 (k0_pay4 v4 v13) v189 v193) (k0_pay32 v200) v203))⟩,
   ⟨(Rect.unit (s := S1x8x4x128x256) (k0_off16 k) S1x1x1x16x256.size (k0_off16_inb k)), (k0_pay48 (k0_pay47 (k0_pay34 (k0_pay30 (k0_pay4 v4 v13) v189 v193) (k0_pay31 (k0_pay4 v4 v13) v189 v193) (k0_pay32 v200) v203)))⟩,
   ⟨(Rect.unit (s := S1x8x4x128x256) (k0_off15 k) S1x1x1x64x256.size (k0_off15_inb k)), (k0_pay46 (k0_pay36 (k0_pay29 (k0_pay4 v4 v13) v189 v193)))⟩,
   ⟨(Rect.unit (s := S1x8x4x128x256) (k0_off14 k) S1x1x1x32x256.size (k0_off14_inb k)), (k0_pay45 (k0_pay37 (F := F)))⟩,
   ⟨(Rect.unit (s := S1x8x4x128x256) (k0_off13 k) S1x1x1x16x256.size (k0_off13_inb k)), (k0_pay44 (k0_pay35 (k0_pay30 (k0_pay4 v4 v13) v189 v193) (k0_pay31 (k0_pay4 v4 v13) v189 v193) (k0_pay32 v200) v203))⟩,
   ⟨(Rect.unit (s := S1x8x4x128x256) (k0_off12 k) S1x1x1x16x256.size (k0_off12_inb k)), (k0_pay43 (k0_pay34 (k0_pay30 (k0_pay4 v4 v13) v189 v193) (k0_pay31 (k0_pay4 v4 v13) v189 v193) (k0_pay32 v200) v203))⟩,
   ⟨(Rect.unit (s := S1x8x4x128x256) (k0_off11 k) S1x1x1x64x256.size (k0_off11_inb k)), (k0_pay42 (k0_pay36 (k0_pay29 (k0_pay4 v4 v13) v189 v193)))⟩,
   ⟨(Rect.unit (s := S1x8x4x128x256) (k0_off10 k) S1x1x1x32x256.size (k0_off10_inb k)), (k0_pay41 (k0_pay37 (F := F)))⟩,
   ⟨(Rect.unit (s := S1x8x4x128x256) (k0_off9 k) S1x1x1x16x256.size (k0_off9_inb k)), (k0_pay40 (k0_pay30 (k0_pay4 v4 v13) v189 v193) (k0_pay31 (k0_pay4 v4 v13) v189 v193) (k0_pay32 v200) v203)⟩,
   ⟨(Rect.unit (s := S1x8x4x128x256) (k0_off8 k) S1x1x1x16x256.size (k0_off8_inb k)), (k0_pay39 (k0_pay30 (k0_pay4 v4 v13) v189 v193) (k0_pay31 (k0_pay4 v4 v13) v189 v193) (k0_pay32 v200) v203)⟩,
   ⟨(Rect.unit (s := S1x8x4x128x256) (k0_off7 k) S1x1x1x64x256.size (k0_off7_inb k)), (k0_pay38 (k0_pay29 (k0_pay4 v4 v13) v189 v193))⟩]

/-- What one trip writes into block 16, last piece first. -/
def ps16 (k : Fin k0_t1_loop.trips) (v4 : Vec F S1x256x1024 .f32) (v39 : Vec F S1024x768 .bf16) (v512 : Vec F S1x128 .f32) (v518 : Vec F S256x128 .f32) (v523 : Vec F S256x128 .f32) (v530 : Vec F S256x1024 .bf16) :
    List (View.Piece (Elt F) S1x1024x1024 .bf16) :=
  [⟨(Rect.unit (s := S1x1024x1024) (k0_off1 k) S1x256x1024.size (k0_off1_inb k)), (k0_pay97 (k0_pay96 (k0_pay13 (k0_pay1 v4) v39) v512 v518 v523 v530))⟩]

/-- What one trip writes into block 17, last piece first. -/
def ps17 (k : Fin k0_t1_loop.trips) (v4 : Vec F S1x256x1024 .f32) (v13 : Vec F S384x1024 .bf16) (v406 : Vec F S128x1 .f32) (v410 : Vec F S512x128 .bf16) :
    List (View.Piece (Elt F) S1x8x4x80x256 .bf16) :=
  [⟨(Rect.unit (s := S1x8x4x80x256) (k0_off54 k) S1x1x1x16x256.size (k0_off54_inb k)), (k0_pay95 (k0_pay76 (F := F)))⟩,
   ⟨(Rect.unit (s := S1x8x4x80x256) (k0_off53 k) S1x1x1x64x256.size (k0_off53_inb k)), (k0_pay94 (k0_pay93 (k0_pay75 (k0_pay74 (k0_pay4 v4 v13)) v406 v410)))⟩,
   ⟨(Rect.unit (s := S1x8x4x80x256) (k0_off52 k) S1x1x1x16x256.size (k0_off52_inb k)), (k0_pay92 (k0_pay76 (F := F)))⟩,
   ⟨(Rect.unit (s := S1x8x4x80x256) (k0_off51 k) S1x1x1x64x256.size (k0_off51_inb k)), (k0_pay91 (k0_pay75 (k0_pay74 (k0_pay4 v4 v13)) v406 v410))⟩,
   ⟨(Rect.unit (s := S1x8x4x80x256) (k0_off50 k) S1x1x1x16x256.size (k0_off50_inb k)), (k0_pay90 (k0_pay76 (F := F)))⟩,
   ⟨(Rect.unit (s := S1x8x4x80x256) (k0_off49 k) S1x1x1x64x256.size (k0_off49_inb k)), (k0_pay89 (k0_pay75 (k0_pay74 (k0_pay4 v4 v13)) v406 v410))⟩,
   ⟨(Rect.unit (s := S1x8x4x80x256) (k0_off48 k) S1x1x1x16x256.size (k0_off48_inb k)), (k0_pay88 (k0_pay76 (F := F)))⟩,
   ⟨(Rect.unit (s := S1x8x4x80x256) (k0_off47 k) S1x1x1x64x256.size (k0_off47_inb k)), (k0_pay87 (k0_pay86 (k0_pay75 (k0_pay74 (k0_pay4 v4 v13)) v406 v410)))⟩,
   ⟨(Rect.unit (s := S1x8x4x80x256) (k0_off46 k) S1x1x1x16x256.size (k0_off46_inb k)), (k0_pay85 (k0_pay76 (F := F)))⟩,
   ⟨(Rect.unit (s := S1x8x4x80x256) (k0_off45 k) S1x1x1x64x256.size (k0_off45_inb k)), (k0_pay84 (k0_pay75 (k0_pay74 (k0_pay4 v4 v13)) v406 v410))⟩,
   ⟨(Rect.unit (s := S1x8x4x80x256) (k0_off44 k) S1x1x1x16x256.size (k0_off44_inb k)), (k0_pay83 (k0_pay76 (F := F)))⟩,
   ⟨(Rect.unit (s := S1x8x4x80x256) (k0_off43 k) S1x1x1x64x256.size (k0_off43_inb k)), (k0_pay82 (k0_pay75 (k0_pay74 (k0_pay4 v4 v13)) v406 v410))⟩,
   ⟨(Rect.unit (s := S1x8x4x80x256) (k0_off42 k) S1x1x1x16x256.size (k0_off42_inb k)), (k0_pay81 (k0_pay76 (F := F)))⟩,
   ⟨(Rect.unit (s := S1x8x4x80x256) (k0_off41 k) S1x1x1x64x256.size (k0_off41_inb k)), (k0_pay80 (k0_pay79 (k0_pay74 (k0_pay4 v4 v13)) v406 v410))⟩,
   ⟨(Rect.unit (s := S1x8x4x80x256) (k0_off40 k) S1x1x1x16x256.size (k0_off40_inb k)), (k0_pay78 (F := F))⟩,
   ⟨(Rect.unit (s := S1x8x4x80x256) (k0_off39 k) S1x1x1x64x256.size (k0_off39_inb k)), (k0_pay77 (k0_pay74 (k0_pay4 v4 v13)) v406 v410)⟩]

/-- What one trip writes into block 18, last piece first. -/
def ps18 (k : Fin k0_t1_loop.trips) (v4 : Vec F S1x256x1024 .f32) (v42 : Vec F S512x1024 .bf16) :
    List (View.Piece (Elt F) S1x8x4x128x256 .bf16) :=
  [⟨(Rect.unit (s := S1x8x4x128x256) (k0_off35 k) S1x1x1x64x256.size (k0_off35_inb k)), (k0_pay125 (k0_pay99 (F := F)))⟩,
   ⟨(Rect.unit (s := S1x8x4x128x256) (k0_off71 k) S1x1x1x64x256.size (k0_off71_inb k)), (k0_pay124 (k0_pay123 (k0_pay14 (k0_pay1 v4) v42)))⟩,
   ⟨(Rect.unit (s := S1x8x4x128x256) (k0_off69 k) S1x1x1x64x256.size (k0_off69_inb k)), (k0_pay121 (k0_pay99 (F := F)))⟩,
   ⟨(Rect.unit (s := S1x8x4x128x256) (k0_off31 k) S1x1x1x64x256.size (k0_off31_inb k)), (k0_pay120 (k0_pay14 (k0_pay1 v4) v42))⟩,
   ⟨(Rect.unit (s := S1x8x4x128x256) (k0_off27 k) S1x1x1x64x256.size (k0_off27_inb k)), (k0_pay118 (k0_pay99 (F := F)))⟩,
   ⟨(Rect.unit (s := S1x8x4x128x256) (k0_off67 k) S1x1x1x64x256.size (k0_off67_inb k)), (k0_pay117 (k0_pay116 (k0_pay14 (k0_pay1 v4) v42)))⟩,
   ⟨(Rect.unit (s := S1x8x4x128x256) (k0_off65 k) S1x1x1x64x256.size (k0_off65_inb k)), (k0_pay114 (k0_pay99 (F := F)))⟩,
   ⟨(Rect.unit (s := S1x8x4x128x256) (k0_off23 k) S1x1x1x64x256.size (k0_off23_inb k)), (k0_pay113 (k0_pay14 (k0_pay1 v4) v42))⟩,
   ⟨(Rect.unit (s := S1x8x4x128x256) (k0_off19 k) S1x1x1x64x256.size (k0_off19_inb k)), (k0_pay111 (k0_pay99 (F := F)))⟩,
   ⟨(Rect.unit (s := S1x8x4x128x256) (k0_off63 k) S1x1x1x64x256.size (k0_off63_inb k)), (k0_pay110 (k0_pay109 (k0_pay14 (k0_pay1 v4) v42)))⟩,
   ⟨(Rect.unit (s := S1x8x4x128x256) (k0_off61 k) S1x1x1x64x256.size (k0_off61_inb k)), (k0_pay107 (k0_pay99 (F := F)))⟩,
   ⟨(Rect.unit (s := S1x8x4x128x256) (k0_off15 k) S1x1x1x64x256.size (k0_off15_inb k)), (k0_pay106 (k0_pay14 (k0_pay1 v4) v42))⟩,
   ⟨(Rect.unit (s := S1x8x4x128x256) (k0_off11 k) S1x1x1x64x256.size (k0_off11_inb k)), (k0_pay104 (k0_pay99 (F := F)))⟩,
   ⟨(Rect.unit (s := S1x8x4x128x256) (k0_off59 k) S1x1x1x64x256.size (k0_off59_inb k)), (k0_pay103 (k0_pay14 (k0_pay1 v4) v42))⟩,
   ⟨(Rect.unit (s := S1x8x4x128x256) (k0_off57 k) S1x1x1x64x256.size (k0_off57_inb k)), (k0_pay101 (F := F))⟩,
   ⟨(Rect.unit (s := S1x8x4x128x256) (k0_off7 k) S1x1x1x64x256.size (k0_off7_inb k)), (k0_pay100 (k0_pay14 (k0_pay1 v4) v42))⟩]

/-- What one trip writes into block 19, last piece first. -/
def ps19 (k : Fin k0_t1_loop.trips) (v4 : Vec F S1x256x1024 .f32) (v39 : Vec F S1024x768 .bf16) :
    List (View.Piece (Elt F) S1x1024x512 .bf16) :=
  [⟨(Rect.unit (s := S1x1024x512) (k0_off56 k) S1x256x512.size (k0_off56_inb k)), (k0_pay98 (k0_pay13 (k0_pay1 v4) v39))⟩]

/-- What one trip writes into block 20, last piece first. -/
def ps20 (k : Fin k0_t1_loop.trips) (v4 : Vec F S1x256x1024 .f32) (v45 : Vec F S512x1024 .bf16) :
    List (View.Piece (Elt F) S1x8x4x64x256 .bf16) :=
  [⟨(Rect.unit (s := S1x8x4x64x256) (k0_off72 k) S1x1x1x64x256.size (k0_off72_inb k)), (k0_pay126 (k0_pay15 (k0_pay1 v4) v45))⟩,
   ⟨(Rect.unit (s := S1x8x4x64x256) (k0_off70 k) S1x1x1x64x256.size (k0_off70_inb k)), (k0_pay122 (k0_pay15 (k0_pay1 v4) v45))⟩,
   ⟨(Rect.unit (s := S1x8x4x64x256) (k0_off68 k) S1x1x1x64x256.size (k0_off68_inb k)), (k0_pay119 (k0_pay15 (k0_pay1 v4) v45))⟩,
   ⟨(Rect.unit (s := S1x8x4x64x256) (k0_off66 k) S1x1x1x64x256.size (k0_off66_inb k)), (k0_pay115 (k0_pay15 (k0_pay1 v4) v45))⟩,
   ⟨(Rect.unit (s := S1x8x4x64x256) (k0_off64 k) S1x1x1x64x256.size (k0_off64_inb k)), (k0_pay112 (k0_pay15 (k0_pay1 v4) v45))⟩,
   ⟨(Rect.unit (s := S1x8x4x64x256) (k0_off62 k) S1x1x1x64x256.size (k0_off62_inb k)), (k0_pay108 (k0_pay15 (k0_pay1 v4) v45))⟩,
   ⟨(Rect.unit (s := S1x8x4x64x256) (k0_off60 k) S1x1x1x64x256.size (k0_off60_inb k)), (k0_pay105 (k0_pay15 (k0_pay1 v4) v45))⟩,
   ⟨(Rect.unit (s := S1x8x4x64x256) (k0_off58 k) S1x1x1x64x256.size (k0_off58_inb k)), (k0_pay102 (k0_pay15 (k0_pay1 v4) v45))⟩]

/-- What one trip writes into block 21, last piece first. -/
def ps21 (k : Fin k0_t1_loop.trips) (v4 : Vec F S1x256x1024 .f32) (v16 : Vec F S512x1024 .bf16) :
    List (View.Piece (Elt F) S1x4x512x256 .f32) :=
  [⟨(Rect.unit (s := S1x4x512x256) (k0_off73 k) S1x1x512x256.size (k0_off73_inb k)), (k0_pay127 (k0_pay5 v4 v16))⟩]

/-- What one trip writes into block 22, last piece first. -/
def ps22 (k : Fin k0_t1_loop.trips) (v4 : Vec F S1x256x1024 .f32) (v48 : Vec F S512x1024 .bf16) :
    List (View.Piece (Elt F) S1x4x512x256 .f32) :=
  [⟨(Rect.unit (s := S1x4x512x256) (k0_off73 k) S1x1x512x256.size (k0_off73_inb k)), (k0_pay128 (k0_pay16 (k0_pay1 v4) v48))⟩]

/-- What one trip writes into block 23, last piece first. -/
def ps23 (k : Fin k0_t1_loop.trips) (v4 : Vec F S1x256x1024 .f32) (v7 : Vec F S256x1024 .bf16) (v10 : Vec F S256x1024 .bf16) (v19 : Vec F S1x256x512 .bf16) (v21 : Vec F S1x512x256 .bf16) (v51 : Vec F S512x1024 .bf16) :
    List (View.Piece (Elt F) S1x4x512x256 .bf16) :=
  [⟨(Rect.unit (s := S1x4x512x256) (k0_off5 k) S1x1x128x256.size (k0_off5_inb k)), (k0_pay28 (k0_pay17 (k0_pay1 v4) v51) (k0_pay25 (k0_pay12 (k0_pay6 v19) (k0_pay11 v4 v10))) (k0_pay26 (k0_pay7 v21)) (k0_pay27 (k0_pay12 (k0_pay6 v19) (k0_pay11 v4 v10))))⟩,
   ⟨(Rect.unit (s := S1x4x512x256) (k0_off4 k) S1x1x128x256.size (k0_off4_inb k)), (k0_pay23 (k0_pay7 v21) (k0_pay10 v4 v10 v19) (k0_pay17 (k0_pay1 v4) v51))⟩,
   ⟨(Rect.unit (s := S1x4x512x256) (k0_off3 k) S1x1x128x256.size (k0_off3_inb k)), (k0_pay22 (k0_pay7 v21) (k0_pay9 v4 v7 v19) (k0_pay17 (k0_pay1 v4) v51))⟩,
   ⟨(Rect.unit (s := S1x4x512x256) (k0_off2 k) S1x1x128x256.size (k0_off2_inb k)), (k0_pay21 (k0_pay18 (k0_pay7 v21) (k0_pay8 v4 v7 v19)) (k0_pay19 (k0_pay1 v4) v51) (k0_pay20 (k0_pay1 v4) v51))⟩]

variable (c : Dev nD) (i : grid0.Coords) (arg2 : Memref sig .tc .vmem S1x1024x1024 .f32) (harg2 : arg2.IsWhole) (arg3 : Memref sig .tc .vmem S3456x1024 .bf16) (harg3 : arg3.IsWhole) (arg4 : Memref sig .tc .vmem S1024x768 .bf16) (harg4 : arg4.IsWhole) (arg5 : Memref sig .tc .vmem S256x1 .f32) (harg5 : arg5.IsWhole) (arg6 : Memref sig .tc .vmem S128x1 .f32) (harg6 : arg6.IsWhole) (arg7 : Memref sig .tc .vmem S1x128 .f32) (harg7 : arg7.IsWhole) (arg8 : Memref sig .tc .vmem S768x256 .bf16) (harg8 : arg8.IsWhole) (arg9 : Memref sig .tc .vmem S512x128 .bf16) (harg9 : arg9.IsWhole) (arg10 : Memref sig .tc .vmem S256x1024 .bf16) (harg10 : arg10.IsWhole) (arg11 : Memref sig .tc .vmem S4x128x256 .f32) (harg11 : arg11.IsWhole) (arg12 : Memref sig .tc .vmem S4x128x256 .f32) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1x256x512 .bf16) (harg15 : arg15.IsWhole) (arg16 : Memref sig .tc .vmem S1x512x256 .bf16) (harg16 : arg16.IsWhole) (arg17 : Memref sig .tc .vmem S1x8x4x128x256 .bf16) (harg17 : arg17.IsWhole) (arg18 : Memref sig .tc .vmem S1x1024x1024 .bf16) (harg18 : arg18.IsWhole) (arg19 : Memref sig .tc .vmem S1x8x4x80x256 .bf16) (harg19 : arg19.IsWhole) (arg20 : Memref sig .tc .vmem S1x8x4x128x256 .bf16) (harg20 : arg20.IsWhole) (arg21 : Memref sig .tc .vmem S1x1024x512 .bf16) (harg21 : arg21.IsWhole) (arg22 : Memref sig .tc .vmem S1x8x4x64x256 .bf16) (harg22 : arg22.IsWhole) (arg23 : Memref sig .tc .vmem S1x4x512x256 .f32) (harg23 : arg23.IsWhole) (arg24 : Memref sig .tc .vmem S1x4x512x256 .f32) (harg24 : arg24.IsWhole) (arg25 : Memref sig .tc .vmem S1x4x512x256 .bf16) (harg25 : arg25.IsWhole)
  (x0 : Vec F S1x1024x1024 .f32) (x1 : Vec F S3456x1024 .bf16) (x2 : Vec F S1024x768 .bf16) (x3 : Vec F S256x1 .f32) (x4 : Vec F S128x1 .f32) (x5 : Vec F S1x128 .f32) (x6 : Vec F S768x256 .bf16) (x7 : Vec F S512x128 .bf16) (x8 : Vec F S256x1024 .bf16) (x9 : Vec F S4x128x256 .f32) (x10 : Vec F S4x128x256 .f32) (x11 : Vec F S1024x128 .f32) (x12 : Vec F S1024x128 .f32) (x13 : Vec F S1x256x512 .bf16) (x14 : Vec F S1x512x256 .bf16)

theorem trips (k : Fin k0_t1_loop.trips) :
    tripL_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 (harg2.unread x0) (harg3.unread x1) (harg4.unread x2) (harg5.unread x3) (harg6.unread x4) (harg7.unread x5) (harg8.unread x6) (harg9.unread x7) (harg10.unread x8) (harg11.unread x9) (harg12.unread x10) (harg13.unread x11) (harg14.unread x12) (harg15.unread x13) (harg16.unread x14) k
      = (ps15 k (View.readAt (Elt F) arg2.view (Rect.unit (s := S1x1024x1024) (k0_off1 k) S1x256x1024.size (k0_off1_inb k)).toLoadRect (harg2.unread x0)) (View.readAt (Elt F) arg3.view (Rect.unit (s := S3456x1024) ![512, 0] S384x1024.size inb_S3456x1024_S384x1024_512_0).toLoadRect (harg3.unread x1)) (View.readAt (Elt F) arg5.view (Rect.unit (s := S256x1) ![0, 0] S256x1.size inb_S256x1_S256x1_0_0).toLoadRect (harg5.unread x3)) (View.readAt (Elt F) arg8.view (Rect.unit (s := S768x256) ![0, 0] S768x256.size inb_S768x256_S768x256_0_0).toLoadRect (harg8.unread x6)) (View.readAt (Elt F) arg11.view (Rect.unit (s := S4x128x256) (k0_off6 k) S1x128x256.size (k0_off6_inb k)).toLoadRect (harg11.unread x9)) (View.readAt (Elt F) arg12.view (Rect.unit (s := S4x128x256) (k0_off6 k) S1x128x256.size (k0_off6_inb k)).toLoadRect (harg12.unread x10)),
        ps16 k (View.readAt (Elt F) arg2.view (Rect.unit (s := S1x1024x1024) (k0_off1 k) S1x256x1024.size (k0_off1_inb k)).toLoadRect (harg2.unread x0)) (View.readAt (Elt F) arg4.view (Rect.unit (s := S1024x768) ![0, 0] S1024x768.size inb_S1024x768_S1024x768_0_0).toLoadRect (harg4.unread x2)) (View.readAt (Elt F) arg7.view (Rect.unit (s := S1x128) ![0, 0] S1x128.size inb_S1x128_S1x128_0_0).toLoadRect (harg7.unread x5)) (View.readAt (Elt F) arg13.view (Rect.unit (s := S1024x128) (k0_off55 k) S256x128.size (k0_off55_inb k)).toLoadRect (harg13.unread x11)) (View.readAt (Elt F) arg14.view (Rect.unit (s := S1024x128) (k0_off55 k) S256x128.size (k0_off55_inb k)).toLoadRect (harg14.unread x12)) (View.readAt (Elt F) arg10.view (Rect.unit (s := S256x1024) ![0, 0] S256x1024.size inb_S256x1024_S256x1024_0_0).toLoadRect (harg10.unread x8)),
        ps17 k (View.readAt (Elt F) arg2.view (Rect.unit (s := S1x1024x1024) (k0_off1 k) S1x256x1024.size (k0_off1_inb k)).toLoadRect (harg2.unread x0)) (View.readAt (Elt F) arg3.view (Rect.unit (s := S3456x1024) ![512, 0] S384x1024.size inb_S3456x1024_S384x1024_512_0).toLoadRect (harg3.unread x1)) (View.readAt (Elt F) arg6.view (Rect.unit (s := S128x1) ![0, 0] S128x1.size inb_S128x1_S128x1_0_0).toLoadRect (harg6.unread x4)) (View.readAt (Elt F) arg9.view (Rect.unit (s := S512x128) ![0, 0] S512x128.size inb_S512x128_S512x128_0_0).toLoadRect (harg9.unread x7)),
        ps18 k (View.readAt (Elt F) arg2.view (Rect.unit (s := S1x1024x1024) (k0_off1 k) S1x256x1024.size (k0_off1_inb k)).toLoadRect (harg2.unread x0)) (View.readAt (Elt F) arg3.view (Rect.unit (s := S3456x1024) ![1408, 0] S512x1024.size inb_S3456x1024_S512x1024_1408_0).toLoadRect (harg3.unread x1)),
        ps19 k (View.readAt (Elt F) arg2.view (Rect.unit (s := S1x1024x1024) (k0_off1 k) S1x256x1024.size (k0_off1_inb k)).toLoadRect (harg2.unread x0)) (View.readAt (Elt F) arg4.view (Rect.unit (s := S1024x768) ![0, 0] S1024x768.size inb_S1024x768_S1024x768_0_0).toLoadRect (harg4.unread x2)),
        ps20 k (View.readAt (Elt F) arg2.view (Rect.unit (s := S1x1024x1024) (k0_off1 k) S1x256x1024.size (k0_off1_inb k)).toLoadRect (harg2.unread x0)) (View.readAt (Elt F) arg3.view (Rect.unit (s := S3456x1024) ![1920, 0] S512x1024.size inb_S3456x1024_S512x1024_1920_0).toLoadRect (harg3.unread x1)),
        ps21 k (View.readAt (Elt F) arg2.view (Rect.unit (s := S1x1024x1024) (k0_off1 k) S1x256x1024.size (k0_off1_inb k)).toLoadRect (harg2.unread x0)) (View.readAt (Elt F) arg3.view (Rect.unit (s := S3456x1024) ![896, 0] S512x1024.size inb_S3456x1024_S512x1024_896_0).toLoadRect (harg3.unread x1)),
        ps22 k (View.readAt (Elt F) arg2.view (Rect.unit (s := S1x1024x1024) (k0_off1 k) S1x256x1024.size (k0_off1_inb k)).toLoadRect (harg2.unread x0)) (View.readAt (Elt F) arg3.view (Rect.unit (s := S3456x1024) ![2432, 0] S512x1024.size inb_S3456x1024_S512x1024_2432_0).toLoadRect (harg3.unread x1)),
        ps23 k (View.readAt (Elt F) arg2.view (Rect.unit (s := S1x1024x1024) (k0_off1 k) S1x256x1024.size (k0_off1_inb k)).toLoadRect (harg2.unread x0)) (View.readAt (Elt F) arg3.view (Rect.unit (s := S3456x1024) ![0, 0] S256x1024.size inb_S3456x1024_S256x1024_0_0).toLoadRect (harg3.unread x1)) (View.readAt (Elt F) arg3.view (Rect.unit (s := S3456x1024) ![256, 0] S256x1024.size inb_S3456x1024_S256x1024_256_0).toLoadRect (harg3.unread x1)) (View.readAt (Elt F) arg15.view (Rect.unit (s := S1x256x512) ![0, 0, 0] S1x256x512.size inb_S1x256x512_S1x256x512_0_0_0).toLoadRect (harg15.unread x13)) (View.readAt (Elt F) arg16.view (Rect.unit (s := S1x512x256) ![0, 0, 0] S1x512x256.size inb_S1x512x256_S1x512x256_0_0_0).toLoadRect (harg16.unread x14)) (View.readAt (Elt F) arg3.view (Rect.unit (s := S3456x1024) ![2944, 0] S512x1024.size inb_S3456x1024_S512x1024_2944_0).toLoadRect (harg3.unread x1))) := by
  unfold tripL_k0_t1 trip_k0_t1
  rfl

end Cert.Kernel3Ideal.In

end
-- ==== Proof.In.Loads.lean ====
/-
  The loads of one trip, read off the blocks, and the trip's projections, queries and values over them.
-/
module

public import proofs.«01_k».proof.Proof.In.Block
public import proofs.«01_k».proof.Proof.Gen.Kernel3Ideal.Loops

@[expose] public section

noncomputable section

namespace Cert.Kernel3Ideal.In

open Idealize.ShloMosaic Idealize.ShloMosaic.TcCoe
open Cert.Kernel3Ideal.Gen Cert.ObCore Cert.InCore
open scoped BigOperators

theorem trips4 (k : Fin k0_t1_loop.trips) : k.val < 4 := Nat.lt_of_lt_of_le k.isLt k0_t1_abs.2.1

/-- A trip's tile. -/
def tOf (k : Fin k0_t1_loop.trips) : Fin 4 := ⟨k.val, trips4 k⟩

variable (k : Fin k0_t1_loop.trips)

def ld4 (x0 : Vec Ideal S1x1024x1024 .f32) (k : Fin k0_t1_loop.trips) : Vec Ideal S1x256x1024 .f32 := fun y => x0 ((Rect.unit (s := S1x1024x1024) (k0_off1 k) S1x256x1024.size (k0_off1_inb k)).toLoadRect.idx y)

theorem ld4_apply (x0 : Vec Ideal S1x1024x1024 .f32) (b : Fin 256) (c : Fin 1024) : ld4 x0 k (ix3 0 b c) = x0 (ix3 0 (rowT (tOf k) b) c) := by
  refine congrArg x0 (show (Rect.unit (s := S1x1024x1024) (k0_off1 k) S1x256x1024.size (k0_off1_inb k)).toLoadRect.idx (ix3 0 b c : S1x256x1024.Idx) = (ix3 0 (rowT (tOf k) b) c : S1x1024x1024.Idx) from ?_)
  change (Rect.unit _ _ _).emb _ = _
  blk_ext [k0_off1_eq, tOf, rowT]

def ld7 (x1 : Vec Ideal S3456x1024 .bf16) (k : Fin k0_t1_loop.trips) : Vec Ideal S256x1024 .bf16 := fun y => x1 ((Rect.unit (s := S3456x1024) ![0, 0] S256x1024.size inb_S3456x1024_S256x1024_0_0).toLoadRect.idx y)

theorem ld7_apply (x1 : Vec Ideal S3456x1024 .bf16) (a : Fin 256) (b : Fin 1024) : ld7 x1 k (ix2 a b) = x1 (ix2 ⟨0 + a.val, by omega⟩ b) := by
  refine congrArg x1 (show (Rect.unit (s := S3456x1024) ![0, 0] S256x1024.size inb_S3456x1024_S256x1024_0_0).toLoadRect.idx (ix2 a b : S256x1024.Idx) = (ix2 ⟨0 + a.val, by omega⟩ b : S3456x1024.Idx) from ?_)
  change (Rect.unit _ _ _).emb _ = _
  blk_ext [tOf, rowT]

def ld10 (x1 : Vec Ideal S3456x1024 .bf16) (k : Fin k0_t1_loop.trips) : Vec Ideal S256x1024 .bf16 := fun y => x1 ((Rect.unit (s := S3456x1024) ![256, 0] S256x1024.size inb_S3456x1024_S256x1024_256_0).toLoadRect.idx y)

theorem ld10_apply (x1 : Vec Ideal S3456x1024 .bf16) (a : Fin 256) (b : Fin 1024) : ld10 x1 k (ix2 a b) = x1 (ix2 ⟨256 + a.val, by omega⟩ b) := by
  refine congrArg x1 (show (Rect.unit (s := S3456x1024) ![256, 0] S256x1024.size inb_S3456x1024_S256x1024_256_0).toLoadRect.idx (ix2 a b : S256x1024.Idx) = (ix2 ⟨256 + a.val, by omega⟩ b : S3456x1024.Idx) from ?_)
  change (Rect.unit _ _ _).emb _ = _
  blk_ext [tOf, rowT]

def ld13 (x1 : Vec Ideal S3456x1024 .bf16) (k : Fin k0_t1_loop.trips) : Vec Ideal S384x1024 .bf16 := fun y => x1 ((Rect.unit (s := S3456x1024) ![512, 0] S384x1024.size inb_S3456x1024_S384x1024_512_0).toLoadRect.idx y)

theorem ld13_apply (x1 : Vec Ideal S3456x1024 .bf16) (a : Fin 384) (b : Fin 1024) : ld13 x1 k (ix2 a b) = x1 (ix2 ⟨512 + a.val, by omega⟩ b) := by
  refine congrArg x1 (show (Rect.unit (s := S3456x1024) ![512, 0] S384x1024.size inb_S3456x1024_S384x1024_512_0).toLoadRect.idx (ix2 a b : S384x1024.Idx) = (ix2 ⟨512 + a.val, by omega⟩ b : S3456x1024.Idx) from ?_)
  change (Rect.unit _ _ _).emb _ = _
  blk_ext [tOf, rowT]

def ld16 (x1 : Vec Ideal S3456x1024 .bf16) (k : Fin k0_t1_loop.trips) : Vec Ideal S512x1024 .bf16 := fun y => x1 ((Rect.unit (s := S3456x1024) ![896, 0] S512x1024.size inb_S3456x1024_S512x1024_896_0).toLoadRect.idx y)

theorem ld16_apply (x1 : Vec Ideal S3456x1024 .bf16) (a : Fin 512) (b : Fin 1024) : ld16 x1 k (ix2 a b) = x1 (ix2 ⟨896 + a.val, by omega⟩ b) := by
  refine congrArg x1 (show (Rect.unit (s := S3456x1024) ![896, 0] S512x1024.size inb_S3456x1024_S512x1024_896_0).toLoadRect.idx (ix2 a b : S512x1024.Idx) = (ix2 ⟨896 + a.val, by omega⟩ b : S3456x1024.Idx) from ?_)
  change (Rect.unit _ _ _).emb _ = _
  blk_ext [tOf, rowT]

def ld19 (x13 : Vec Ideal S1x256x512 .bf16) (k : Fin k0_t1_loop.trips) : Vec Ideal S1x256x512 .bf16 := fun y => x13 ((Rect.unit (s := S1x256x512) ![0, 0, 0] S1x256x512.size inb_S1x256x512_S1x256x512_0_0_0).toLoadRect.idx y)

theorem ld19_apply (x13 : Vec Ideal S1x256x512 .bf16) (b : Fin 256) (c : Fin 512) : ld19 x13 k (ix3 0 b c) = x13 (ix3 0 b c) := by
  refine congrArg x13 (show (Rect.unit (s := S1x256x512) ![0, 0, 0] S1x256x512.size inb_S1x256x512_S1x256x512_0_0_0).toLoadRect.idx (ix3 0 b c : S1x256x512.Idx) = (ix3 0 b c : S1x256x512.Idx) from ?_)
  change (Rect.unit _ _ _).emb _ = _
  blk_ext [tOf, rowT]

def ld21 (x14 : Vec Ideal S1x512x256 .bf16) (k : Fin k0_t1_loop.trips) : Vec Ideal S1x512x256 .bf16 := fun y => x14 ((Rect.unit (s := S1x512x256) ![0, 0, 0] S1x512x256.size inb_S1x512x256_S1x512x256_0_0_0).toLoadRect.idx y)

theorem ld21_apply (x14 : Vec Ideal S1x512x256 .bf16) (b : Fin 512) (c : Fin 256) : ld21 x14 k (ix3 0 b c) = x14 (ix3 0 b c) := by
  refine congrArg x14 (show (Rect.unit (s := S1x512x256) ![0, 0, 0] S1x512x256.size inb_S1x512x256_S1x512x256_0_0_0).toLoadRect.idx (ix3 0 b c : S1x512x256.Idx) = (ix3 0 b c : S1x512x256.Idx) from ?_)
  change (Rect.unit _ _ _).emb _ = _
  blk_ext [tOf, rowT]

def ld39 (x2 : Vec Ideal S1024x768 .bf16) (k : Fin k0_t1_loop.trips) : Vec Ideal S1024x768 .bf16 := fun y => x2 ((Rect.unit (s := S1024x768) ![0, 0] S1024x768.size inb_S1024x768_S1024x768_0_0).toLoadRect.idx y)

theorem ld39_apply (x2 : Vec Ideal S1024x768 .bf16) (a : Fin 1024) (b : Fin 768) : ld39 x2 k (ix2 a b) = x2 (ix2 a b) := by
  refine congrArg x2 (show (Rect.unit (s := S1024x768) ![0, 0] S1024x768.size inb_S1024x768_S1024x768_0_0).toLoadRect.idx (ix2 a b : S1024x768.Idx) = (ix2 a b : S1024x768.Idx) from ?_)
  change (Rect.unit _ _ _).emb _ = _
  blk_ext [tOf, rowT]

def ld42 (x1 : Vec Ideal S3456x1024 .bf16) (k : Fin k0_t1_loop.trips) : Vec Ideal S512x1024 .bf16 := fun y => x1 ((Rect.unit (s := S3456x1024) ![1408, 0] S512x1024.size inb_S3456x1024_S512x1024_1408_0).toLoadRect.idx y)

theorem ld42_apply (x1 : Vec Ideal S3456x1024 .bf16) (a : Fin 512) (b : Fin 1024) : ld42 x1 k (ix2 a b) = x1 (ix2 ⟨1408 + a.val, by omega⟩ b) := by
  refine congrArg x1 (show (Rect.unit (s := S3456x1024) ![1408, 0] S512x1024.size inb_S3456x1024_S512x1024_1408_0).toLoadRect.idx (ix2 a b : S512x1024.Idx) = (ix2 ⟨1408 + a.val, by omega⟩ b : S3456x1024.Idx) from ?_)
  change (Rect.unit _ _ _).emb _ = _
  blk_ext [tOf, rowT]

def ld45 (x1 : Vec Ideal S3456x1024 .bf16) (k : Fin k0_t1_loop.trips) : Vec Ideal S512x1024 .bf16 := fun y => x1 ((Rect.unit (s := S3456x1024) ![1920, 0] S512x1024.size inb_S3456x1024_S512x1024_1920_0).toLoadRect.idx y)

theorem ld45_apply (x1 : Vec Ideal S3456x1024 .bf16) (a : Fin 512) (b : Fin 1024) : ld45 x1 k (ix2 a b) = x1 (ix2 ⟨1920 + a.val, by omega⟩ b) := by
  refine congrArg x1 (show (Rect.unit (s := S3456x1024) ![1920, 0] S512x1024.size inb_S3456x1024_S512x1024_1920_0).toLoadRect.idx (ix2 a b : S512x1024.Idx) = (ix2 ⟨1920 + a.val, by omega⟩ b : S3456x1024.Idx) from ?_)
  change (Rect.unit _ _ _).emb _ = _
  blk_ext [tOf, rowT]

def ld48 (x1 : Vec Ideal S3456x1024 .bf16) (k : Fin k0_t1_loop.trips) : Vec Ideal S512x1024 .bf16 := fun y => x1 ((Rect.unit (s := S3456x1024) ![2432, 0] S512x1024.size inb_S3456x1024_S512x1024_2432_0).toLoadRect.idx y)

theorem ld48_apply (x1 : Vec Ideal S3456x1024 .bf16) (a : Fin 512) (b : Fin 1024) : ld48 x1 k (ix2 a b) = x1 (ix2 ⟨2432 + a.val, by omega⟩ b) := by
  refine congrArg x1 (show (Rect.unit (s := S3456x1024) ![2432, 0] S512x1024.size inb_S3456x1024_S512x1024_2432_0).toLoadRect.idx (ix2 a b : S512x1024.Idx) = (ix2 ⟨2432 + a.val, by omega⟩ b : S3456x1024.Idx) from ?_)
  change (Rect.unit _ _ _).emb _ = _
  blk_ext [tOf, rowT]

def ld51 (x1 : Vec Ideal S3456x1024 .bf16) (k : Fin k0_t1_loop.trips) : Vec Ideal S512x1024 .bf16 := fun y => x1 ((Rect.unit (s := S3456x1024) ![2944, 0] S512x1024.size inb_S3456x1024_S512x1024_2944_0).toLoadRect.idx y)

theorem ld51_apply (x1 : Vec Ideal S3456x1024 .bf16) (a : Fin 512) (b : Fin 1024) : ld51 x1 k (ix2 a b) = x1 (ix2 ⟨2944 + a.val, by omega⟩ b) := by
  refine congrArg x1 (show (Rect.unit (s := S3456x1024) ![2944, 0] S512x1024.size inb_S3456x1024_S512x1024_2944_0).toLoadRect.idx (ix2 a b : S512x1024.Idx) = (ix2 ⟨2944 + a.val, by omega⟩ b : S3456x1024.Idx) from ?_)
  change (Rect.unit _ _ _).emb _ = _
  blk_ext [tOf, rowT]

def ld189 (x3 : Vec Ideal S256x1 .f32) (k : Fin k0_t1_loop.trips) : Vec Ideal S256x1 .f32 := fun y => x3 ((Rect.unit (s := S256x1) ![0, 0] S256x1.size inb_S256x1_S256x1_0_0).toLoadRect.idx y)

theorem ld189_apply (x3 : Vec Ideal S256x1 .f32) (a : Fin 256) : ld189 x3 k (ix2 a 0) = x3 (ix2 a 0) := by
  refine congrArg x3 (show (Rect.unit (s := S256x1) ![0, 0] S256x1.size inb_S256x1_S256x1_0_0).toLoadRect.idx (ix2 a 0 : S256x1.Idx) = (ix2 a 0 : S256x1.Idx) from ?_)
  change (Rect.unit _ _ _).emb _ = _
  blk_ext [tOf, rowT]

def ld193 (x6 : Vec Ideal S768x256 .bf16) (k : Fin k0_t1_loop.trips) : Vec Ideal S768x256 .bf16 := fun y => x6 ((Rect.unit (s := S768x256) ![0, 0] S768x256.size inb_S768x256_S768x256_0_0).toLoadRect.idx y)

theorem ld193_apply (x6 : Vec Ideal S768x256 .bf16) (a : Fin 768) (b : Fin 256) : ld193 x6 k (ix2 a b) = x6 (ix2 a b) := by
  refine congrArg x6 (show (Rect.unit (s := S768x256) ![0, 0] S768x256.size inb_S768x256_S768x256_0_0).toLoadRect.idx (ix2 a b : S768x256.Idx) = (ix2 a b : S768x256.Idx) from ?_)
  change (Rect.unit _ _ _).emb _ = _
  blk_ext [tOf, rowT]

def ld200 (x9 : Vec Ideal S4x128x256 .f32) (k : Fin k0_t1_loop.trips) : Vec Ideal S1x128x256 .f32 := fun y => x9 ((Rect.unit (s := S4x128x256) (k0_off6 k) S1x128x256.size (k0_off6_inb k)).toLoadRect.idx y)

theorem ld200_apply (x9 : Vec Ideal S4x128x256 .f32) (b : Fin 128) (c : Fin 256) : ld200 x9 k (ix3 0 b c) = x9 (ix3 (tOf k) b c) := by
  refine congrArg x9 (show (Rect.unit (s := S4x128x256) (k0_off6 k) S1x128x256.size (k0_off6_inb k)).toLoadRect.idx (ix3 0 b c : S1x128x256.Idx) = (ix3 (tOf k) b c : S4x128x256.Idx) from ?_)
  change (Rect.unit _ _ _).emb _ = _
  blk_ext [k0_off6_eq, tOf, rowT]

def ld203 (x10 : Vec Ideal S4x128x256 .f32) (k : Fin k0_t1_loop.trips) : Vec Ideal S1x128x256 .f32 := fun y => x10 ((Rect.unit (s := S4x128x256) (k0_off6 k) S1x128x256.size (k0_off6_inb k)).toLoadRect.idx y)

theorem ld203_apply (x10 : Vec Ideal S4x128x256 .f32) (b : Fin 128) (c : Fin 256) : ld203 x10 k (ix3 0 b c) = x10 (ix3 (tOf k) b c) := by
  refine congrArg x10 (show (Rect.unit (s := S4x128x256) (k0_off6 k) S1x128x256.size (k0_off6_inb k)).toLoadRect.idx (ix3 0 b c : S1x128x256.Idx) = (ix3 (tOf k) b c : S4x128x256.Idx) from ?_)
  change (Rect.unit _ _ _).emb _ = _
  blk_ext [k0_off6_eq, tOf, rowT]

def ld406 (x4 : Vec Ideal S128x1 .f32) (k : Fin k0_t1_loop.trips) : Vec Ideal S128x1 .f32 := fun y => x4 ((Rect.unit (s := S128x1) ![0, 0] S128x1.size inb_S128x1_S128x1_0_0).toLoadRect.idx y)

theorem ld406_apply (x4 : Vec Ideal S128x1 .f32) (a : Fin 128) : ld406 x4 k (ix2 a 0) = x4 (ix2 a 0) := by
  refine congrArg x4 (show (Rect.unit (s := S128x1) ![0, 0] S128x1.size inb_S128x1_S128x1_0_0).toLoadRect.idx (ix2 a 0 : S128x1.Idx) = (ix2 a 0 : S128x1.Idx) from ?_)
  change (Rect.unit _ _ _).emb _ = _
  blk_ext [tOf, rowT]

def ld410 (x7 : Vec Ideal S512x128 .bf16) (k : Fin k0_t1_loop.trips) : Vec Ideal S512x128 .bf16 := fun y => x7 ((Rect.unit (s := S512x128) ![0, 0] S512x128.size inb_S512x128_S512x128_0_0).toLoadRect.idx y)

theorem ld410_apply (x7 : Vec Ideal S512x128 .bf16) (a : Fin 512) (b : Fin 128) : ld410 x7 k (ix2 a b) = x7 (ix2 a b) := by
  refine congrArg x7 (show (Rect.unit (s := S512x128) ![0, 0] S512x128.size inb_S512x128_S512x128_0_0).toLoadRect.idx (ix2 a b : S512x128.Idx) = (ix2 a b : S512x128.Idx) from ?_)
  change (Rect.unit _ _ _).emb _ = _
  blk_ext [tOf, rowT]

def ld512 (x5 : Vec Ideal S1x128 .f32) (k : Fin k0_t1_loop.trips) : Vec Ideal S1x128 .f32 := fun y => x5 ((Rect.unit (s := S1x128) ![0, 0] S1x128.size inb_S1x128_S1x128_0_0).toLoadRect.idx y)

theorem ld512_apply (x5 : Vec Ideal S1x128 .f32) (b : Fin 128) : ld512 x5 k (ix2 0 b) = x5 (ix2 0 b) := by
  refine congrArg x5 (show (Rect.unit (s := S1x128) ![0, 0] S1x128.size inb_S1x128_S1x128_0_0).toLoadRect.idx (ix2 0 b : S1x128.Idx) = (ix2 0 b : S1x128.Idx) from ?_)
  change (Rect.unit _ _ _).emb _ = _
  blk_ext [tOf, rowT]

def ld518 (x11 : Vec Ideal S1024x128 .f32) (k : Fin k0_t1_loop.trips) : Vec Ideal S256x128 .f32 := fun y => x11 ((Rect.unit (s := S1024x128) (k0_off55 k) S256x128.size (k0_off55_inb k)).toLoadRect.idx y)

theorem ld518_apply (x11 : Vec Ideal S1024x128 .f32) (a : Fin 256) (b : Fin 128) : ld518 x11 k (ix2 a b) = x11 (ix2 (rowT (tOf k) a) b) := by
  refine congrArg x11 (show (Rect.unit (s := S1024x128) (k0_off55 k) S256x128.size (k0_off55_inb k)).toLoadRect.idx (ix2 a b : S256x128.Idx) = (ix2 (rowT (tOf k) a) b : S1024x128.Idx) from ?_)
  change (Rect.unit _ _ _).emb _ = _
  blk_ext [k0_off55_eq, tOf, rowT]

def ld523 (x12 : Vec Ideal S1024x128 .f32) (k : Fin k0_t1_loop.trips) : Vec Ideal S256x128 .f32 := fun y => x12 ((Rect.unit (s := S1024x128) (k0_off55 k) S256x128.size (k0_off55_inb k)).toLoadRect.idx y)

theorem ld523_apply (x12 : Vec Ideal S1024x128 .f32) (a : Fin 256) (b : Fin 128) : ld523 x12 k (ix2 a b) = x12 (ix2 (rowT (tOf k) a) b) := by
  refine congrArg x12 (show (Rect.unit (s := S1024x128) (k0_off55 k) S256x128.size (k0_off55_inb k)).toLoadRect.idx (ix2 a b : S256x128.Idx) = (ix2 (rowT (tOf k) a) b : S1024x128.Idx) from ?_)
  change (Rect.unit _ _ _).emb _ = _
  blk_ext [k0_off55_eq, tOf, rowT]

def ld530 (x8 : Vec Ideal S256x1024 .bf16) (k : Fin k0_t1_loop.trips) : Vec Ideal S256x1024 .bf16 := fun y => x8 ((Rect.unit (s := S256x1024) ![0, 0] S256x1024.size inb_S256x1024_S256x1024_0_0).toLoadRect.idx y)

theorem ld530_apply (x8 : Vec Ideal S256x1024 .bf16) (a : Fin 256) (b : Fin 1024) : ld530 x8 k (ix2 a b) = x8 (ix2 a b) := by
  refine congrArg x8 (show (Rect.unit (s := S256x1024) ![0, 0] S256x1024.size inb_S256x1024_S256x1024_0_0).toLoadRect.idx (ix2 a b : S256x1024.Idx) = (ix2 a b : S256x1024.Idx) from ?_)
  change (Rect.unit _ _ _).emb _ = _
  blk_ext [tOf, rowT]

theorem pay4_val (x0 : Vec Ideal S1x1024x1024 .f32) (x1 : Vec Ideal S3456x1024 .bf16) (i : Fin 384) (q : Fin 256) :
    k0_pay4 (F := Ideal) (ld4 x0 k) (ld13 x1 k) (ix2 i q) = PT x0 x1 (rowT (tOf k) q) ⟨512 + i.val, by omega⟩ := by
  have h : ∀ (v4 : Vec Ideal S1x256x1024 .f32) (w : Vec Ideal S384x1024 .bf16), k0_pay4 (F := Ideal) v4 w (ix2 i q) = ∑ j, w (ix2 i j) * v4 (ix3 0 q j) := by
    intro v4 w; pointwise [k0_pay4, k0_pay1]
  rw [h]
  exact Finset.sum_congr rfl fun j _ => by rw [ld13_apply, ld4_apply, mul_comm]

theorem pay5_val (x0 : Vec Ideal S1x1024x1024 .f32) (x1 : Vec Ideal S3456x1024 .bf16) (i : Fin 512) (q : Fin 256) :
    k0_pay5 (F := Ideal) (ld4 x0 k) (ld16 x1 k) (ix2 i q) = PT x0 x1 (rowT (tOf k) q) ⟨896 + i.val, by omega⟩ := by
  have h : ∀ (v4 : Vec Ideal S1x256x1024 .f32) (w : Vec Ideal S512x1024 .bf16), k0_pay5 (F := Ideal) v4 w (ix2 i q) = ∑ j, w (ix2 i j) * v4 (ix3 0 q j) := by
    intro v4 w; pointwise [k0_pay5, k0_pay1]
  rw [h]
  exact Finset.sum_congr rfl fun j _ => by rw [ld16_apply, ld4_apply, mul_comm]

theorem pay14_val (x0 : Vec Ideal S1x1024x1024 .f32) (x1 : Vec Ideal S3456x1024 .bf16) (i : Fin 512) (q : Fin 256) :
    k0_pay14 (F := Ideal) (k0_pay1 (ld4 x0 k)) (ld42 x1 k) (ix2 i q) = PT x0 x1 (rowT (tOf k) q) ⟨1408 + i.val, by omega⟩ := by
  have h : ∀ (v4 : Vec Ideal S1x256x1024 .f32) (w : Vec Ideal S512x1024 .bf16), k0_pay14 (F := Ideal) (k0_pay1 v4) w (ix2 i q) = ∑ j, w (ix2 i j) * v4 (ix3 0 q j) := by
    intro v4 w; pointwise [k0_pay14, k0_pay1]
  rw [h]
  exact Finset.sum_congr rfl fun j _ => by rw [ld42_apply, ld4_apply, mul_comm]

theorem pay15_val (x0 : Vec Ideal S1x1024x1024 .f32) (x1 : Vec Ideal S3456x1024 .bf16) (i : Fin 512) (q : Fin 256) :
    k0_pay15 (F := Ideal) (k0_pay1 (ld4 x0 k)) (ld45 x1 k) (ix2 i q) = PT x0 x1 (rowT (tOf k) q) ⟨1920 + i.val, by omega⟩ := by
  have h : ∀ (v4 : Vec Ideal S1x256x1024 .f32) (w : Vec Ideal S512x1024 .bf16), k0_pay15 (F := Ideal) (k0_pay1 v4) w (ix2 i q) = ∑ j, w (ix2 i j) * v4 (ix3 0 q j) := by
    intro v4 w; pointwise [k0_pay15, k0_pay1]
  rw [h]
  exact Finset.sum_congr rfl fun j _ => by rw [ld45_apply, ld4_apply, mul_comm]

theorem pay16_val (x0 : Vec Ideal S1x1024x1024 .f32) (x1 : Vec Ideal S3456x1024 .bf16) (i : Fin 512) (q : Fin 256) :
    k0_pay16 (F := Ideal) (k0_pay1 (ld4 x0 k)) (ld48 x1 k) (ix2 i q) = PT x0 x1 (rowT (tOf k) q) ⟨2432 + i.val, by omega⟩ := by
  have h : ∀ (v4 : Vec Ideal S1x256x1024 .f32) (w : Vec Ideal S512x1024 .bf16), k0_pay16 (F := Ideal) (k0_pay1 v4) w (ix2 i q) = ∑ j, w (ix2 i j) * v4 (ix3 0 q j) := by
    intro v4 w; pointwise [k0_pay16, k0_pay1]
  rw [h]
  exact Finset.sum_congr rfl fun j _ => by rw [ld48_apply, ld4_apply, mul_comm]

theorem pay17_val (x0 : Vec Ideal S1x1024x1024 .f32) (x1 : Vec Ideal S3456x1024 .bf16) (i : Fin 512) (q : Fin 256) :
    k0_pay17 (F := Ideal) (k0_pay1 (ld4 x0 k)) (ld51 x1 k) (ix2 i q) = PT x0 x1 (rowT (tOf k) q) ⟨2944 + i.val, by omega⟩ := by
  have h : ∀ (v4 : Vec Ideal S1x256x1024 .f32) (w : Vec Ideal S512x1024 .bf16), k0_pay17 (F := Ideal) (k0_pay1 v4) w (ix2 i q) = ∑ j, w (ix2 i j) * v4 (ix3 0 q j) := by
    intro v4 w; pointwise [k0_pay17, k0_pay1]
  rw [h]
  exact Finset.sum_congr rfl fun j _ => by rw [ld51_apply, ld4_apply, mul_comm]

theorem pay2_val (x0 : Vec Ideal S1x1024x1024 .f32) (x1 : Vec Ideal S3456x1024 .bf16) (i : Fin 256) (q : Fin 256) :
    k0_pay2 (F := Ideal) (ld4 x0 k) (ld7 x1 k) (ix2 i q) = PT x0 x1 (rowT (tOf k) q) ⟨0 + i.val, by omega⟩ := by
  have h : ∀ (v4 : Vec Ideal S1x256x1024 .f32) (w : Vec Ideal S256x1024 .bf16), k0_pay2 (F := Ideal) v4 w (ix2 i q) = ∑ j, w (ix2 i j) * v4 (ix3 0 q j) := by
    intro v4 w; pointwise [k0_pay2, k0_pay1]
  rw [h]
  exact Finset.sum_congr rfl fun j _ => by rw [ld7_apply, ld4_apply, mul_comm]

theorem pay3_val (x0 : Vec Ideal S1x1024x1024 .f32) (x1 : Vec Ideal S3456x1024 .bf16) (i : Fin 256) (q : Fin 256) :
    k0_pay3 (F := Ideal) (ld4 x0 k) (ld10 x1 k) (ix2 i q) = PT x0 x1 (rowT (tOf k) q) ⟨256 + i.val, by omega⟩ := by
  have h : ∀ (v4 : Vec Ideal S1x256x1024 .f32) (w : Vec Ideal S256x1024 .bf16), k0_pay3 (F := Ideal) v4 w (ix2 i q) = ∑ j, w (ix2 i j) * v4 (ix3 0 q j) := by
    intro v4 w; pointwise [k0_pay3, k0_pay1]
  rw [h]
  exact Finset.sum_congr rfl fun j _ => by rw [ld10_apply, ld4_apply, mul_comm]

theorem pay13_val (x0 : Vec Ideal S1x1024x1024 .f32) (x2 : Vec Ideal S1024x768 .bf16) (c : Fin 768) (q : Fin 256) :
    k0_pay13 (F := Ideal) (k0_pay1 (ld4 x0 k)) (ld39 x2 k) (ix2 q c) = PS x0 x2 (rowT (tOf k) q) c := by
  have h : ∀ (v4 : Vec Ideal S1x256x1024 .f32) (w : Vec Ideal S1024x768 .bf16), k0_pay13 (F := Ideal) (k0_pay1 v4) w (ix2 q c) = ∑ j, v4 (ix3 0 q j) * w (ix2 j c) := by
    intro v4 w; pointwise [k0_pay13, k0_pay1]
  rw [h]
  exact Finset.sum_congr rfl fun j _ => by rw [ld39_apply, ld4_apply]

/-- The queries of the first branch before rotation and scale. -/
def q196 (x0 : Vec Ideal S1x1024x1024 .f32) (x1 : Vec Ideal S3456x1024 .bf16) (x3 : Vec Ideal S256x1 .f32) (x6 : Vec Ideal S768x256 .bf16)
    (k : Fin k0_t1_loop.trips) : FVec Ideal S768x256 .f32 := k0_pay29 (k0_pay4 (ld4 x0 k) (ld13 x1 k)) (ld189 x3 k) (ld193 x6 k)

theorem q196_val (x0 : Vec Ideal S1x1024x1024 .f32) (x1 : Vec Ideal S3456x1024 .bf16) (x3 : Vec Ideal S256x1 .f32) (x6 : Vec Ideal S768x256 .bf16)
    (r : Fin 768) (q : Fin 256) : q196 x0 x1 x3 x6 k (ix2 r q) = qaRow x0 x1 x3 x6 (rowT (tOf k) q) r := by
  have h : ∀ (v15 : FVec Ideal S384x256 .f32) (v189 : Vec Ideal S256x1 .f32) (v193 : Vec Ideal S768x256 .bf16), k0_pay29 (F := Ideal) v15 v189 v193 (ix2 r q)
      = ∑ x : Fin 256, v193 (ix2 r x) * rms (Ideal.ofBits FTy.f32 0x43800000#32) (fun i : Fin 256 => v15 (ix2 ⟨i.val, by omega⟩ q)) (fun i => v189 (ix2 i 0)) x := by
    intro v15 v189 v193
    unfold rms
    pointwise [k0_pay29]
  unfold q196
  rw [h]
  unfold qaRow
  refine Finset.sum_congr rfl fun x _ => ?_
  rw [ld193_apply, mul_comm]
  simp only [ld189_apply, pay4_val]

/-- The values of the first branch. -/
theorem pay75_val (x0 : Vec Ideal S1x1024x1024 .f32) (x1 : Vec Ideal S3456x1024 .bf16) (x4 : Vec Ideal S128x1 .f32) (x7 : Vec Ideal S512x128 .bf16)
    (r : Fin 512) (q : Fin 256) :
    k0_pay75 (F := Ideal) (k0_pay74 (k0_pay4 (ld4 x0 k) (ld13 x1 k))) (ld406 x4 k) (ld410 x7 k) (ix2 r q)
      = ∑ x : Fin 128, rms (Ideal.ofBits FTy.f32 0x43000000#32) (fun i : Fin 128 => PT x0 x1 (rowT (tOf k) q) ⟨768 + i.val, by omega⟩) (fun i => x4 (ix2 i 0)) x
        * x7 (ix2 r x) := by
  have h : ∀ (v15 : FVec Ideal S384x256 .f32) (v406 : Vec Ideal S128x1 .f32) (v410 : Vec Ideal S512x128 .bf16), k0_pay75 (F := Ideal) (k0_pay74 v15) v406 v410 (ix2 r q)
      = ∑ x : Fin 128, v410 (ix2 r x) * rms (Ideal.ofBits FTy.f32 0x43000000#32) (fun i : Fin 128 => v15 (ix2 ⟨256 + i.val, by omega⟩ q)) (fun i => v406 (ix2 i 0)) x := by
    intro v15 v406 v410
    unfold rms
    pointwise [k0_pay75, k0_pay74]
  rw [h]
  refine Finset.sum_congr rfl fun x _ => ?_
  rw [ld410_apply, mul_comm]
  simp only [ld406_apply, pay4_val]
  simp only [← Nat.add_assoc, Nat.reduceAdd]

/-- The keys of the first branch. -/
theorem pay97_val (x0 : Vec Ideal S1x1024x1024 .f32) (x2 : Vec Ideal S1024x768 .bf16) (x5 : Vec Ideal S1x128 .f32) (x8 : Vec Ideal S256x1024 .bf16)
    (x11 x12 : Vec Ideal S1024x128 .f32) (q : Fin 256) (c : Fin 1024) :
    k0_pay97 (F := Ideal) (k0_pay96 (k0_pay13 (k0_pay1 (ld4 x0 k)) (ld39 x2 k)) (ld512 x5 k) (ld518 x11 k) (ld523 x12 k) (ld530 x8 k)) (ix3 0 q c)
      = G16 x0 x2 x5 x8 x11 x12 (rowT (tOf k) q) c := by
  have h : ∀ (v41 : FVec Ideal S256x768 .f32) (v512 : Vec Ideal S1x128 .f32) (v518 v523 : Vec Ideal S256x128 .f32) (v530 : Vec Ideal S256x1024 .bf16),
      k0_pay97 (F := Ideal) (k0_pay96 v41 v512 v518 v523 v530) (ix3 0 q c)
      = (∑ x : Fin 128, rms (Ideal.ofBits FTy.f32 0x43000000#32) (fun i : Fin 128 => v41 (ix2 q ⟨i.val, by omega⟩)) (fun i => v512 (ix2 0 i)) x * v530 (ix2 ⟨x.val, by omega⟩ c))
        + ∑ x : Fin 128, (v41 (ix2 q ⟨640 + x.val, by omega⟩) * v518 (ix2 q x) + v41 (ix2 q ⟨640 + (x.val + 128 - 96) % 128, by omega⟩) * v523 (ix2 q x)) * v530 (ix2 ⟨128 + x.val, by omega⟩ c) := by
    intro v41 v512 v518 v523 v530
    unfold rms
    pointwise [k0_pay97, k0_pay96]
  rw [h]
  unfold G16
  simp only [ld512_apply, ld518_apply, ld523_apply, ld530_apply, pay13_val]

/-- The scores of one head of the memory, before the scale. -/
theorem sc0_val (x0 : Vec Ideal S1x1024x1024 .f32) (x1 : Vec Ideal S3456x1024 .bf16) (x13 : Vec Ideal S1x256x512 .bf16) (m q : Fin 256) :
    k0_pay8 (F := Ideal) (ld4 x0 k) (ld7 x1 k) (ld19 x13 k) (ix2 m q)
      = ∑ d : Fin 128, x13 (ix3 0 m ⟨128 * 0 + d.val, by omega⟩) * PT x0 x1 (rowT (tOf k) q) ⟨128 * 0 + d.val, by omega⟩ := by
  have h : ∀ (v4 : Vec Ideal S1x256x1024 .f32) (w : Vec Ideal S256x1024 .bf16) (v19 : Vec Ideal S1x256x512 .bf16), k0_pay8 (F := Ideal) v4 w v19 (ix2 m q)
      = ∑ d : Fin 128, v19 (ix3 0 m ⟨128 * 0 + d.val, by omega⟩) * k0_pay2 v4 w (ix2 ⟨0 + d.val, by omega⟩ q) := by
    intro v4 w v19
    pointwise [k0_pay8, k0_pay6]
  rw [h]
  refine Finset.sum_congr rfl fun d _ => ?_
  rw [ld19_apply, pay2_val]
  congr 2
  exact Fin.ext (show 0 + (0 + d.val) = 128 * 0 + d.val by omega)

theorem sc1_val (x0 : Vec Ideal S1x1024x1024 .f32) (x1 : Vec Ideal S3456x1024 .bf16) (x13 : Vec Ideal S1x256x512 .bf16) (m q : Fin 256) :
    k0_pay9 (F := Ideal) (ld4 x0 k) (ld7 x1 k) (ld19 x13 k) (ix2 m q)
      = ∑ d : Fin 128, x13 (ix3 0 m ⟨128 * 1 + d.val, by omega⟩) * PT x0 x1 (rowT (tOf k) q) ⟨128 * 1 + d.val, by omega⟩ := by
  have h : ∀ (v4 : Vec Ideal S1x256x1024 .f32) (w : Vec Ideal S256x1024 .bf16) (v19 : Vec Ideal S1x256x512 .bf16), k0_pay9 (F := Ideal) v4 w v19 (ix2 m q)
      = ∑ d : Fin 128, v19 (ix3 0 m ⟨128 * 1 + d.val, by omega⟩) * k0_pay2 v4 w (ix2 ⟨128 + d.val, by omega⟩ q) := by
    intro v4 w v19
    pointwise [k0_pay9, k0_pay6]
  rw [h]
  refine Finset.sum_congr rfl fun d _ => ?_
  rw [ld19_apply, pay2_val]
  congr 2
  exact Fin.ext (show 0 + (128 + d.val) = 128 * 1 + d.val by omega)

theorem sc2_val (x0 : Vec Ideal S1x1024x1024 .f32) (x1 : Vec Ideal S3456x1024 .bf16) (x13 : Vec Ideal S1x256x512 .bf16) (m q : Fin 256) :
    k0_pay10 (F := Ideal) (ld4 x0 k) (ld10 x1 k) (ld19 x13 k) (ix2 m q)
      = ∑ d : Fin 128, x13 (ix3 0 m ⟨128 * 2 + d.val, by omega⟩) * PT x0 x1 (rowT (tOf k) q) ⟨128 * 2 + d.val, by omega⟩ := by
  have h : ∀ (v4 : Vec Ideal S1x256x1024 .f32) (w : Vec Ideal S256x1024 .bf16) (v19 : Vec Ideal S1x256x512 .bf16), k0_pay10 (F := Ideal) v4 w v19 (ix2 m q)
      = ∑ d : Fin 128, v19 (ix3 0 m ⟨128 * 2 + d.val, by omega⟩) * k0_pay3 v4 w (ix2 ⟨0 + d.val, by omega⟩ q) := by
    intro v4 w v19
    pointwise [k0_pay10, k0_pay6]
  rw [h]
  refine Finset.sum_congr rfl fun d _ => ?_
  rw [ld19_apply, pay3_val]
  congr 2
  exact Fin.ext (show 256 + (0 + d.val) = 128 * 2 + d.val by omega)

theorem sc3_val (x0 : Vec Ideal S1x1024x1024 .f32) (x1 : Vec Ideal S3456x1024 .bf16) (x13 : Vec Ideal S1x256x512 .bf16) (m q : Fin 256) :
    k0_pay12 (F := Ideal) (k0_pay6 (ld19 x13 k)) (k0_pay11 (ld4 x0 k) (ld10 x1 k)) (ix2 m q)
      = ∑ d : Fin 128, x13 (ix3 0 m ⟨128 * 3 + d.val, by omega⟩) * PT x0 x1 (rowT (tOf k) q) ⟨128 * 3 + d.val, by omega⟩ := by
  have h : ∀ (v4 : Vec Ideal S1x256x1024 .f32) (w : Vec Ideal S256x1024 .bf16) (v19 : Vec Ideal S1x256x512 .bf16), k0_pay12 (F := Ideal) (k0_pay6 v19) (k0_pay11 v4 w) (ix2 m q)
      = ∑ d : Fin 128, v19 (ix3 0 m ⟨128 * 3 + d.val, by omega⟩) * k0_pay3 v4 w (ix2 ⟨128 + d.val, by omega⟩ q) := by
    intro v4 w v19
    pointwise [k0_pay12, k0_pay6, k0_pay11]
  rw [h]
  refine Finset.sum_congr rfl fun d _ => ?_
  rw [ld19_apply, pay3_val]
  congr 2
  exact Fin.ext (show 256 + (128 + d.val) = 128 * 3 + d.val by omega)

end Cert.Kernel3Ideal.In

end
-- ==== Proof.In.PieceA.lean ====
/-
  Each piece that a trip writes of the first branch's queries is its part of the block's formula.
-/
module

public import proofs.«01_k».proof.Proof.In.Loads

@[expose] public section

set_option maxRecDepth 16384

noncomputable section

namespace Cert.Kernel3Ideal.In

open Idealize.ShloMosaic Idealize.ShloMosaic.TcCoe
open Cert.Kernel3Ideal.Gen Cert.ObCore Cert.InCore
open scoped BigOperators

theorem split_64 (y : S1x1x1x64x256.Idx) : ∃ (d : Fin 64) (q : Fin 256), y = (ix5 0 0 0 d q : S1x1x1x64x256.Idx) :=
  ⟨y 3, y 4, (eq_ix5 y).trans (by congr 1 <;> exact Subsingleton.elim (α := Fin 1) _ _)⟩

theorem split_16 (y : S1x1x1x16x256.Idx) : ∃ (d : Fin 16) (q : Fin 256), y = (ix5 0 0 0 d q : S1x1x1x16x256.Idx) :=
  ⟨y 3, y 4, (eq_ix5 y).trans (by congr 1 <;> exact Subsingleton.elim (α := Fin 1) _ _)⟩

theorem split_32 (y : S1x1x1x32x256.Idx) : ∃ (d : Fin 32) (q : Fin 256), y = (ix5 0 0 0 d q : S1x1x1x32x256.Idx) :=
  ⟨y 3, y 4, (eq_ix5 y).trans (by congr 1 <;> exact Subsingleton.elim (α := Fin 1) _ _)⟩

theorem split_w (y : S1x1x512x256.Idx) : ∃ (d : Fin 512) (q : Fin 256), y = (ix4 0 0 d q : S1x1x512x256.Idx) :=
  ⟨y 2, y 3, (eq_ix4 y).trans (by congr 1 <;> exact Subsingleton.elim (α := Fin 1) _ _)⟩

theorem split_m (y : S1x1x128x256.Idx) : ∃ (d : Fin 128) (q : Fin 256), y = (ix4 0 0 d q : S1x1x128x256.Idx) :=
  ⟨y 2, y 3, (eq_ix4 y).trans (by congr 1 <;> exact Subsingleton.elim (α := Fin 1) _ _)⟩

theorem split_k (y : S1x256x1024.Idx) : ∃ (d : Fin 256) (q : Fin 1024), y = (ix3 0 d q : S1x256x1024.Idx) :=
  ⟨y 1, y 2, (eq_ix3 y).trans (by congr 1 <;> exact Subsingleton.elim (α := Fin 1) _ _)⟩

theorem split_n (y : S1x256x512.Idx) : ∃ (d : Fin 256) (q : Fin 512), y = (ix3 0 d q : S1x256x512.Idx) :=
  ⟨y 1, y 2, (eq_ix3 y).trans (by congr 1 <;> exact Subsingleton.elim (α := Fin 1) _ _)⟩

/-- The block of the first branch's queries. -/
abbrev B15 (x0 : Vec Ideal S1x1024x1024 .f32) (x1 : Vec Ideal S3456x1024 .bf16) (x3 : Vec Ideal S256x1 .f32) (x6 : Vec Ideal S768x256 .bf16) (x9 : Vec Ideal S4x128x256 .f32) (x10 : Vec Ideal S4x128x256 .f32) : S1x8x4x128x256.Idx → EReal :=
  fun y => G15 x0 x1 x3 x6 x9 x10 (y 1) (y 2) (y 3) (y 4)

/-- A payload of the normed rows, the latent queries' weights and the trip's cosine and sine. -/
abbrev Pay (s : Shape) : Type :=
  FVec Ideal S384x256 .f32 → Vec Ideal S256x1 .f32 → Vec Ideal S768x256 .bf16 → Vec Ideal S1x128x256 .f32 → Vec Ideal S1x128x256 .f32 → s.Idx → EReal

/-- The payload is head `h`'s unrotated part, its rotated first half, its rotated second half. -/
abbrev RotA (h : ℕ) (hh : h < 8) (f : Pay S1x1x1x64x256) : Prop :=
  ∀ v15 v189 v193 v200 v203 (d : Fin 64) (q : Fin 256), f v15 v189 v193 v200 v203 (ix5 0 0 0 d q) = k0_pay29 v15 v189 v193 (ix2 ⟨64 * h + d.val, by omega⟩ q) * SC
abbrev RotB (h : ℕ) (hh : h < 8) (f : Pay S1x1x1x16x256) : Prop :=
  ∀ v15 v189 v193 v200 v203 (d : Fin 16) (q : Fin 256), f v15 v189 v193 v200 v203 (ix5 0 0 0 d q) = (k0_pay29 v15 v189 v193 (ix2 ⟨512 + (16 * h + d.val), by omega⟩ q) * v200 (ix3 0 ⟨16 * h + d.val, by omega⟩ q) - k0_pay29 v15 v189 v193 (ix2 ⟨640 + (16 * h + d.val), by omega⟩ q) * v203 (ix3 0 ⟨16 * h + d.val, by omega⟩ q)) * SC
abbrev RotC (h : ℕ) (hh : h < 8) (f : Pay S1x1x1x16x256) : Prop :=
  ∀ v15 v189 v193 v200 v203 (d : Fin 16) (q : Fin 256), f v15 v189 v193 v200 v203 (ix5 0 0 0 d q) = (k0_pay29 v15 v189 v193 (ix2 ⟨512 + (16 * h + d.val), by omega⟩ q) * v203 (ix3 0 ⟨16 * h + d.val, by omega⟩ q) + k0_pay29 v15 v189 v193 (ix2 ⟨640 + (16 * h + d.val), by omega⟩ q) * v200 (ix3 0 ⟨16 * h + d.val, by omega⟩ q)) * SC

variable (x0 : Vec Ideal S1x1024x1024 .f32) (x1 : Vec Ideal S3456x1024 .bf16) (x3 : Vec Ideal S256x1 .f32) (x6 : Vec Ideal S768x256 .bf16) (x9 : Vec Ideal S4x128x256 .f32) (x10 : Vec Ideal S4x128x256 .f32) (k : Fin k0_t1_loop.trips)

theorem rotA (h : ℕ) (hh : h < 8) (f : Pay S1x1x1x64x256) (hf : RotA h hh f) (E : S1x1x1x64x256.Idx → S1x8x4x128x256.Idx)
    (hE : ∀ (d : Fin 64) (q : Fin 256), E (ix5 0 0 0 d q) = (ix5 0 (⟨h, hh⟩ : Fin 8) (tOf k) ⟨0 + d.val, by omega⟩ q : S1x8x4x128x256.Idx)) (y : S1x1x1x64x256.Idx) :
    f (k0_pay4 (ld4 x0 k) (ld13 x1 k)) (ld189 x3 k) (ld193 x6 k) (ld200 x9 k) (ld203 x10 k) y = B15 x0 x1 x3 x6 x9 x10 (E y) := by
  obtain ⟨d, q, rfl⟩ := split_64 y
  refine Eq.trans ?_ (congrArg (B15 x0 x1 x3 x6 x9 x10) (hE d q)).symm
  refine (hf ..).trans ?_
  change q196 x0 x1 x3 x6 k (ix2 ⟨64 * h + d.val, by omega⟩ q) * SC = _
  rw [q196_val]
  exact (G15_a x0 x1 x3 x6 x9 x10 ⟨h, hh⟩ (tOf k) q d).symm

theorem rotB (h : ℕ) (hh : h < 8) (f : Pay S1x1x1x16x256) (hf : RotB h hh f) (E : S1x1x1x16x256.Idx → S1x8x4x128x256.Idx)
    (hE : ∀ (d : Fin 16) (q : Fin 256), E (ix5 0 0 0 d q) = (ix5 0 (⟨h, hh⟩ : Fin 8) (tOf k) ⟨64 + d.val, by omega⟩ q : S1x8x4x128x256.Idx)) (y : S1x1x1x16x256.Idx) :
    f (k0_pay4 (ld4 x0 k) (ld13 x1 k)) (ld189 x3 k) (ld193 x6 k) (ld200 x9 k) (ld203 x10 k) y = B15 x0 x1 x3 x6 x9 x10 (E y) := by
  obtain ⟨d, q, rfl⟩ := split_16 y
  refine Eq.trans ?_ (congrArg (B15 x0 x1 x3 x6 x9 x10) (hE d q)).symm
  refine (hf ..).trans ?_
  change (q196 x0 x1 x3 x6 k (ix2 ⟨512 + (16 * h + d.val), by omega⟩ q) * (ld200 x9 k) (ix3 0 ⟨16 * h + d.val, by omega⟩ q) - q196 x0 x1 x3 x6 k (ix2 ⟨640 + (16 * h + d.val), by omega⟩ q) * (ld203 x10 k) (ix3 0 ⟨16 * h + d.val, by omega⟩ q)) * SC = _
  rw [q196_val, q196_val, ld200_apply, ld203_apply]
  exact (G15_b x0 x1 x3 x6 x9 x10 ⟨h, hh⟩ (tOf k) q d).symm

theorem rotC (h : ℕ) (hh : h < 8) (f : Pay S1x1x1x16x256) (hf : RotC h hh f) (E : S1x1x1x16x256.Idx → S1x8x4x128x256.Idx)
    (hE : ∀ (d : Fin 16) (q : Fin 256), E (ix5 0 0 0 d q) = (ix5 0 (⟨h, hh⟩ : Fin 8) (tOf k) ⟨80 + d.val, by omega⟩ q : S1x8x4x128x256.Idx)) (y : S1x1x1x16x256.Idx) :
    f (k0_pay4 (ld4 x0 k) (ld13 x1 k)) (ld189 x3 k) (ld193 x6 k) (ld200 x9 k) (ld203 x10 k) y = B15 x0 x1 x3 x6 x9 x10 (E y) := by
  obtain ⟨d, q, rfl⟩ := split_16 y
  refine Eq.trans ?_ (congrArg (B15 x0 x1 x3 x6 x9 x10) (hE d q)).symm
  refine (hf ..).trans ?_
  change (q196 x0 x1 x3 x6 k (ix2 ⟨512 + (16 * h + d.val), by omega⟩ q) * (ld203 x10 k) (ix3 0 ⟨16 * h + d.val, by omega⟩ q) + q196 x0 x1 x3 x6 k (ix2 ⟨640 + (16 * h + d.val), by omega⟩ q) * (ld200 x9 k) (ix3 0 ⟨16 * h + d.val, by omega⟩ q)) * SC = _
  rw [q196_val, q196_val, ld200_apply, ld203_apply]
  exact (G15_c x0 x1 x3 x6 x9 x10 ⟨h, hh⟩ (tOf k) q d).symm

theorem rotD (h : ℕ) (hh : h < 8) (f : S1x1x1x32x256.Idx → EReal) (hf : ∀ (d : Fin 32) (q : Fin 256), f (ix5 0 0 0 d q) = 0) (E : S1x1x1x32x256.Idx → S1x8x4x128x256.Idx)
    (hE : ∀ (d : Fin 32) (q : Fin 256), E (ix5 0 0 0 d q) = (ix5 0 (⟨h, hh⟩ : Fin 8) (tOf k) ⟨96 + d.val, by omega⟩ q : S1x8x4x128x256.Idx)) (y : S1x1x1x32x256.Idx) :
    f y = B15 x0 x1 x3 x6 x9 x10 (E y) := by
  obtain ⟨d, q, rfl⟩ := split_32 y
  refine Eq.trans ?_ (congrArg (B15 x0 x1 x3 x6 x9 x10) (hE d q)).symm
  exact (hf d q).trans (G15_d x0 x1 x3 x6 x9 x10 ⟨h, hh⟩ (tOf k) q d).symm

theorem pc15_0 (y : S1x1x1x64x256.Idx) :
    (k0_pay38 (F := Ideal) (k0_pay29 (k0_pay4 (ld4 x0 k) (ld13 x1 k)) (ld189 x3 k) (ld193 x6 k))) y = B15 x0 x1 x3 x6 x9 x10 ((Rect.unit (s := S1x8x4x128x256) (k0_off7 k) S1x1x1x64x256.size (k0_off7_inb k)).emb y) :=
  rotA x0 x1 x3 x6 x9 x10 k 0 (by omega) (fun v15 v189 v193 v200 v203 => (k0_pay38 (F := Ideal) (k0_pay29 v15 v189 v193))) (by
    intro v15 v189 v193 v200 v203 d q
    unfold SC
    pointwise [k0_pay38, k0_pay36]) _ (by intro d q; blk_ext [k0_off7_eq, tOf, rowT]) y

theorem pc15_1 (y : S1x1x1x16x256.Idx) :
    (k0_pay39 (F := Ideal) (k0_pay30 (k0_pay4 (ld4 x0 k) (ld13 x1 k)) (ld189 x3 k) (ld193 x6 k)) (k0_pay31 (k0_pay4 (ld4 x0 k) (ld13 x1 k)) (ld189 x3 k) (ld193 x6 k)) (k0_pay32 (ld200 x9 k)) (ld203 x10 k)) y = B15 x0 x1 x3 x6 x9 x10 ((Rect.unit (s := S1x8x4x128x256) (k0_off8 k) S1x1x1x16x256.size (k0_off8_inb k)).emb y) :=
  rotB x0 x1 x3 x6 x9 x10 k 0 (by omega) (fun v15 v189 v193 v200 v203 => (k0_pay39 (F := Ideal) (k0_pay30 v15 v189 v193) (k0_pay31 v15 v189 v193) (k0_pay32 v200) v203)) (by
    intro v15 v189 v193 v200 v203 d q
    unfold SC
    pointwise [k0_pay39, k0_pay34, k0_pay33, k0_pay30, k0_pay31, k0_pay32]) _ (by intro d q; blk_ext [k0_off8_eq, tOf, rowT]) y

theorem pc15_2 (y : S1x1x1x16x256.Idx) :
    (k0_pay40 (F := Ideal) (k0_pay30 (k0_pay4 (ld4 x0 k) (ld13 x1 k)) (ld189 x3 k) (ld193 x6 k)) (k0_pay31 (k0_pay4 (ld4 x0 k) (ld13 x1 k)) (ld189 x3 k) (ld193 x6 k)) (k0_pay32 (ld200 x9 k)) (ld203 x10 k)) y = B15 x0 x1 x3 x6 x9 x10 ((Rect.unit (s := S1x8x4x128x256) (k0_off9 k) S1x1x1x16x256.size (k0_off9_inb k)).emb y) :=
  rotC x0 x1 x3 x6 x9 x10 k 0 (by omega) (fun v15 v189 v193 v200 v203 => (k0_pay40 (F := Ideal) (k0_pay30 v15 v189 v193) (k0_pay31 v15 v189 v193) (k0_pay32 v200) v203)) (by
    intro v15 v189 v193 v200 v203 d q
    unfold SC
    pointwise [k0_pay40, k0_pay35, k0_pay33, k0_pay30, k0_pay31, k0_pay32]) _ (by intro d q; blk_ext [k0_off9_eq, tOf, rowT]) y

theorem pc15_3 (y : S1x1x1x32x256.Idx) :
    (k0_pay41 (F := Ideal) (k0_pay37 (F := Ideal))) y = B15 x0 x1 x3 x6 x9 x10 ((Rect.unit (s := S1x8x4x128x256) (k0_off10 k) S1x1x1x32x256.size (k0_off10_inb k)).emb y) := by
  obtain ⟨d, q, rfl⟩ := split_32 y
  have e : (Rect.unit (s := S1x8x4x128x256) (k0_off10 k) S1x1x1x32x256.size (k0_off10_inb k)).emb (ix5 0 0 0 d q : S1x1x1x32x256.Idx) = (ix5 0 (0 : Fin 8) (tOf k) ⟨96 + d.val, by omega⟩ q : S1x8x4x128x256.Idx) := by
    blk_ext [k0_off10_eq, tOf, rowT]
  refine Eq.trans ?_ (congrArg (B15 x0 x1 x3 x6 x9 x10) e).symm
  refine Eq.trans ?_ (G15_d x0 x1 x3 x6 x9 x10 0 (tOf k) q d).symm
  pointwise [k0_pay41, k0_pay37]

theorem pc15_4 (y : S1x1x1x64x256.Idx) :
    (k0_pay42 (F := Ideal) (k0_pay36 (k0_pay29 (k0_pay4 (ld4 x0 k) (ld13 x1 k)) (ld189 x3 k) (ld193 x6 k)))) y = B15 x0 x1 x3 x6 x9 x10 ((Rect.unit (s := S1x8x4x128x256) (k0_off11 k) S1x1x1x64x256.size (k0_off11_inb k)).emb y) :=
  rotA x0 x1 x3 x6 x9 x10 k 1 (by omega) (fun v15 v189 v193 v200 v203 => (k0_pay42 (F := Ideal) (k0_pay36 (k0_pay29 v15 v189 v193)))) (by
    intro v15 v189 v193 v200 v203 d q
    unfold SC
    pointwise [k0_pay42, k0_pay36]) _ (by intro d q; blk_ext [k0_off11_eq, tOf, rowT]) y

theorem pc15_5 (y : S1x1x1x16x256.Idx) :
    (k0_pay43 (F := Ideal) (k0_pay34 (k0_pay30 (k0_pay4 (ld4 x0 k) (ld13 x1 k)) (ld189 x3 k) (ld193 x6 k)) (k0_pay31 (k0_pay4 (ld4 x0 k) (ld13 x1 k)) (ld189 x3 k) (ld193 x6 k)) (k0_pay32 (ld200 x9 k)) (ld203 x10 k))) y = B15 x0 x1 x3 x6 x9 x10 ((Rect.unit (s := S1x8x4x128x256) (k0_off12 k) S1x1x1x16x256.size (k0_off12_inb k)).emb y) :=
  rotB x0 x1 x3 x6 x9 x10 k 1 (by omega) (fun v15 v189 v193 v200 v203 => (k0_pay43 (F := Ideal) (k0_pay34 (k0_pay30 v15 v189 v193) (k0_pay31 v15 v189 v193) (k0_pay32 v200) v203))) (by
    intro v15 v189 v193 v200 v203 d q
    unfold SC
    pointwise [k0_pay43, k0_pay34, k0_pay33, k0_pay30, k0_pay31, k0_pay32]) _ (by intro d q; blk_ext [k0_off12_eq, tOf, rowT]) y

theorem pc15_6 (y : S1x1x1x16x256.Idx) :
    (k0_pay44 (F := Ideal) (k0_pay35 (k0_pay30 (k0_pay4 (ld4 x0 k) (ld13 x1 k)) (ld189 x3 k) (ld193 x6 k)) (k0_pay31 (k0_pay4 (ld4 x0 k) (ld13 x1 k)) (ld189 x3 k) (ld193 x6 k)) (k0_pay32 (ld200 x9 k)) (ld203 x10 k))) y = B15 x0 x1 x3 x6 x9 x10 ((Rect.unit (s := S1x8x4x128x256) (k0_off13 k) S1x1x1x16x256.size (k0_off13_inb k)).emb y) :=
  rotC x0 x1 x3 x6 x9 x10 k 1 (by omega) (fun v15 v189 v193 v200 v203 => (k0_pay44 (F := Ideal) (k0_pay35 (k0_pay30 v15 v189 v193) (k0_pay31 v15 v189 v193) (k0_pay32 v200) v203))) (by
    intro v15 v189 v193 v200 v203 d q
    unfold SC
    pointwise [k0_pay44, k0_pay35, k0_pay33, k0_pay30, k0_pay31, k0_pay32]) _ (by intro d q; blk_ext [k0_off13_eq, tOf, rowT]) y

theorem pc15_7 (y : S1x1x1x32x256.Idx) :
    (k0_pay45 (F := Ideal) (k0_pay37 (F := Ideal))) y = B15 x0 x1 x3 x6 x9 x10 ((Rect.unit (s := S1x8x4x128x256) (k0_off14 k) S1x1x1x32x256.size (k0_off14_inb k)).emb y) := by
  obtain ⟨d, q, rfl⟩ := split_32 y
  have e : (Rect.unit (s := S1x8x4x128x256) (k0_off14 k) S1x1x1x32x256.size (k0_off14_inb k)).emb (ix5 0 0 0 d q : S1x1x1x32x256.Idx) = (ix5 0 (1 : Fin 8) (tOf k) ⟨96 + d.val, by omega⟩ q : S1x8x4x128x256.Idx) := by
    blk_ext [k0_off14_eq, tOf, rowT]
  refine Eq.trans ?_ (congrArg (B15 x0 x1 x3 x6 x9 x10) e).symm
  refine Eq.trans ?_ (G15_d x0 x1 x3 x6 x9 x10 1 (tOf k) q d).symm
  pointwise [k0_pay45, k0_pay37]

theorem pc15_8 (y : S1x1x1x64x256.Idx) :
    (k0_pay46 (F := Ideal) (k0_pay36 (k0_pay29 (k0_pay4 (ld4 x0 k) (ld13 x1 k)) (ld189 x3 k) (ld193 x6 k)))) y = B15 x0 x1 x3 x6 x9 x10 ((Rect.unit (s := S1x8x4x128x256) (k0_off15 k) S1x1x1x64x256.size (k0_off15_inb k)).emb y) :=
  rotA x0 x1 x3 x6 x9 x10 k 2 (by omega) (fun v15 v189 v193 v200 v203 => (k0_pay46 (F := Ideal) (k0_pay36 (k0_pay29 v15 v189 v193)))) (by
    intro v15 v189 v193 v200 v203 d q
    unfold SC
    pointwise [k0_pay46, k0_pay36]) _ (by intro d q; blk_ext [k0_off15_eq, tOf, rowT]) y

theorem pc15_9 (y : S1x1x1x16x256.Idx) :
    (k0_pay48 (F := Ideal) (k0_pay47 (k0_pay34 (k0_pay30 (k0_pay4 (ld4 x0 k) (ld13 x1 k)) (ld189 x3 k) (ld193 x6 k)) (k0_pay31 (k0_pay4 (ld4 x0 k) (ld13 x1 k)) (ld189 x3 k) (ld193 x6 k)) (k0_pay32 (ld200 x9 k)) (ld203 x10 k)))) y = B15 x0 x1 x3 x6 x9 x10 ((Rect.unit (s := S1x8x4x128x256) (k0_off16 k) S1x1x1x16x256.size (k0_off16_inb k)).emb y) :=
  rotB x0 x1 x3 x6 x9 x10 k 2 (by omega) (fun v15 v189 v193 v200 v203 => (k0_pay48 (F := Ideal) (k0_pay47 (k0_pay34 (k0_pay30 v15 v189 v193) (k0_pay31 v15 v189 v193) (k0_pay32 v200) v203)))) (by
    intro v15 v189 v193 v200 v203 d q
    unfold SC
    pointwise [k0_pay48, k0_pay47, k0_pay34, k0_pay33, k0_pay30, k0_pay31, k0_pay32]) _ (by intro d q; blk_ext [k0_off16_eq, tOf, rowT]) y

theorem pc15_10 (y : S1x1x1x16x256.Idx) :
    (k0_pay49 (F := Ideal) (k0_pay35 (k0_pay30 (k0_pay4 (ld4 x0 k) (ld13 x1 k)) (ld189 x3 k) (ld193 x6 k)) (k0_pay31 (k0_pay4 (ld4 x0 k) (ld13 x1 k)) (ld189 x3 k) (ld193 x6 k)) (k0_pay32 (ld200 x9 k)) (ld203 x10 k))) y = B15 x0 x1 x3 x6 x9 x10 ((Rect.unit (s := S1x8x4x128x256) (k0_off17 k) S1x1x1x16x256.size (k0_off17_inb k)).emb y) :=
  rotC x0 x1 x3 x6 x9 x10 k 2 (by omega) (fun v15 v189 v193 v200 v203 => (k0_pay49 (F := Ideal) (k0_pay35 (k0_pay30 v15 v189 v193) (k0_pay31 v15 v189 v193) (k0_pay32 v200) v203))) (by
    intro v15 v189 v193 v200 v203 d q
    unfold SC
    pointwise [k0_pay49, k0_pay35, k0_pay33, k0_pay30, k0_pay31, k0_pay32]) _ (by intro d q; blk_ext [k0_off17_eq, tOf, rowT]) y

theorem pc15_11 (y : S1x1x1x32x256.Idx) :
    (k0_pay50 (F := Ideal) (k0_pay37 (F := Ideal))) y = B15 x0 x1 x3 x6 x9 x10 ((Rect.unit (s := S1x8x4x128x256) (k0_off18 k) S1x1x1x32x256.size (k0_off18_inb k)).emb y) := by
  obtain ⟨d, q, rfl⟩ := split_32 y
  have e : (Rect.unit (s := S1x8x4x128x256) (k0_off18 k) S1x1x1x32x256.size (k0_off18_inb k)).emb (ix5 0 0 0 d q : S1x1x1x32x256.Idx) = (ix5 0 (2 : Fin 8) (tOf k) ⟨96 + d.val, by omega⟩ q : S1x8x4x128x256.Idx) := by
    blk_ext [k0_off18_eq, tOf, rowT]
  refine Eq.trans ?_ (congrArg (B15 x0 x1 x3 x6 x9 x10) e).symm
  refine Eq.trans ?_ (G15_d x0 x1 x3 x6 x9 x10 2 (tOf k) q d).symm
  pointwise [k0_pay50, k0_pay37]

theorem pc15_12 (y : S1x1x1x64x256.Idx) :
    (k0_pay51 (F := Ideal) (k0_pay36 (k0_pay29 (k0_pay4 (ld4 x0 k) (ld13 x1 k)) (ld189 x3 k) (ld193 x6 k)))) y = B15 x0 x1 x3 x6 x9 x10 ((Rect.unit (s := S1x8x4x128x256) (k0_off19 k) S1x1x1x64x256.size (k0_off19_inb k)).emb y) :=
  rotA x0 x1 x3 x6 x9 x10 k 3 (by omega) (fun v15 v189 v193 v200 v203 => (k0_pay51 (F := Ideal) (k0_pay36 (k0_pay29 v15 v189 v193)))) (by
    intro v15 v189 v193 v200 v203 d q
    unfold SC
    pointwise [k0_pay51, k0_pay36]) _ (by intro d q; blk_ext [k0_off19_eq, tOf, rowT]) y

theorem pc15_13 (y : S1x1x1x16x256.Idx) :
    (k0_pay52 (F := Ideal) (k0_pay34 (k0_pay30 (k0_pay4 (ld4 x0 k) (ld13 x1 k)) (ld189 x3 k) (ld193 x6 k)) (k0_pay31 (k0_pay4 (ld4 x0 k) (ld13 x1 k)) (ld189 x3 k) (ld193 x6 k)) (k0_pay32 (ld200 x9 k)) (ld203 x10 k))) y = B15 x0 x1 x3 x6 x9 x10 ((Rect.unit (s := S1x8x4x128x256) (k0_off20 k) S1x1x1x16x256.size (k0_off20_inb k)).emb y) :=
  rotB x0 x1 x3 x6 x9 x10 k 3 (by omega) (fun v15 v189 v193 v200 v203 => (k0_pay52 (F := Ideal) (k0_pay34 (k0_pay30 v15 v189 v193) (k0_pay31 v15 v189 v193) (k0_pay32 v200) v203))) (by
    intro v15 v189 v193 v200 v203 d q
    unfold SC
    pointwise [k0_pay52, k0_pay34, k0_pay33, k0_pay30, k0_pay31, k0_pay32]) _ (by intro d q; blk_ext [k0_off20_eq, tOf, rowT]) y

theorem pc15_14 (y : S1x1x1x16x256.Idx) :
    (k0_pay54 (F := Ideal) (k0_pay53 (k0_pay35 (k0_pay30 (k0_pay4 (ld4 x0 k) (ld13 x1 k)) (ld189 x3 k) (ld193 x6 k)) (k0_pay31 (k0_pay4 (ld4 x0 k) (ld13 x1 k)) (ld189 x3 k) (ld193 x6 k)) (k0_pay32 (ld200 x9 k)) (ld203 x10 k)))) y = B15 x0 x1 x3 x6 x9 x10 ((Rect.unit (s := S1x8x4x128x256) (k0_off21 k) S1x1x1x16x256.size (k0_off21_inb k)).emb y) :=
  rotC x0 x1 x3 x6 x9 x10 k 3 (by omega) (fun v15 v189 v193 v200 v203 => (k0_pay54 (F := Ideal) (k0_pay53 (k0_pay35 (k0_pay30 v15 v189 v193) (k0_pay31 v15 v189 v193) (k0_pay32 v200) v203)))) (by
    intro v15 v189 v193 v200 v203 d q
    unfold SC
    pointwise [k0_pay54, k0_pay53, k0_pay35, k0_pay33, k0_pay30, k0_pay31, k0_pay32]) _ (by intro d q; blk_ext [k0_off21_eq, tOf, rowT]) y

theorem pc15_15 (y : S1x1x1x32x256.Idx) :
    (k0_pay55 (F := Ideal) (k0_pay37 (F := Ideal))) y = B15 x0 x1 x3 x6 x9 x10 ((Rect.unit (s := S1x8x4x128x256) (k0_off22 k) S1x1x1x32x256.size (k0_off22_inb k)).emb y) := by
  obtain ⟨d, q, rfl⟩ := split_32 y
  have e : (Rect.unit (s := S1x8x4x128x256) (k0_off22 k) S1x1x1x32x256.size (k0_off22_inb k)).emb (ix5 0 0 0 d q : S1x1x1x32x256.Idx) = (ix5 0 (3 : Fin 8) (tOf k) ⟨96 + d.val, by omega⟩ q : S1x8x4x128x256.Idx) := by
    blk_ext [k0_off22_eq, tOf, rowT]
  refine Eq.trans ?_ (congrArg (B15 x0 x1 x3 x6 x9 x10) e).symm
  refine Eq.trans ?_ (G15_d x0 x1 x3 x6 x9 x10 3 (tOf k) q d).symm
  pointwise [k0_pay55, k0_pay37]

theorem pc15_16 (y : S1x1x1x64x256.Idx) :
    (k0_pay56 (F := Ideal) (k0_pay36 (k0_pay29 (k0_pay4 (ld4 x0 k) (ld13 x1 k)) (ld189 x3 k) (ld193 x6 k)))) y = B15 x0 x1 x3 x6 x9 x10 ((Rect.unit (s := S1x8x4x128x256) (k0_off23 k) S1x1x1x64x256.size (k0_off23_inb k)).emb y) :=
  rotA x0 x1 x3 x6 x9 x10 k 4 (by omega) (fun v15 v189 v193 v200 v203 => (k0_pay56 (F := Ideal) (k0_pay36 (k0_pay29 v15 v189 v193)))) (by
    intro v15 v189 v193 v200 v203 d q
    unfold SC
    pointwise [k0_pay56, k0_pay36]) _ (by intro d q; blk_ext [k0_off23_eq, tOf, rowT]) y

theorem pc15_17 (y : S1x1x1x16x256.Idx) :
    (k0_pay57 (F := Ideal) (k0_pay34 (k0_pay30 (k0_pay4 (ld4 x0 k) (ld13 x1 k)) (ld189 x3 k) (ld193 x6 k)) (k0_pay31 (k0_pay4 (ld4 x0 k) (ld13 x1 k)) (ld189 x3 k) (ld193 x6 k)) (k0_pay32 (ld200 x9 k)) (ld203 x10 k))) y = B15 x0 x1 x3 x6 x9 x10 ((Rect.unit (s := S1x8x4x128x256) (k0_off24 k) S1x1x1x16x256.size (k0_off24_inb k)).emb y) :=
  rotB x0 x1 x3 x6 x9 x10 k 4 (by omega) (fun v15 v189 v193 v200 v203 => (k0_pay57 (F := Ideal) (k0_pay34 (k0_pay30 v15 v189 v193) (k0_pay31 v15 v189 v193) (k0_pay32 v200) v203))) (by
    intro v15 v189 v193 v200 v203 d q
    unfold SC
    pointwise [k0_pay57, k0_pay34, k0_pay33, k0_pay30, k0_pay31, k0_pay32]) _ (by intro d q; blk_ext [k0_off24_eq, tOf, rowT]) y

theorem pc15_18 (y : S1x1x1x16x256.Idx) :
    (k0_pay58 (F := Ideal) (k0_pay35 (k0_pay30 (k0_pay4 (ld4 x0 k) (ld13 x1 k)) (ld189 x3 k) (ld193 x6 k)) (k0_pay31 (k0_pay4 (ld4 x0 k) (ld13 x1 k)) (ld189 x3 k) (ld193 x6 k)) (k0_pay32 (ld200 x9 k)) (ld203 x10 k))) y = B15 x0 x1 x3 x6 x9 x10 ((Rect.unit (s := S1x8x4x128x256) (k0_off25 k) S1x1x1x16x256.size (k0_off25_inb k)).emb y) :=
  rotC x0 x1 x3 x6 x9 x10 k 4 (by omega) (fun v15 v189 v193 v200 v203 => (k0_pay58 (F := Ideal) (k0_pay35 (k0_pay30 v15 v189 v193) (k0_pay31 v15 v189 v193) (k0_pay32 v200) v203))) (by
    intro v15 v189 v193 v200 v203 d q
    unfold SC
    pointwise [k0_pay58, k0_pay35, k0_pay33, k0_pay30, k0_pay31, k0_pay32]) _ (by intro d q; blk_ext [k0_off25_eq, tOf, rowT]) y

theorem pc15_19 (y : S1x1x1x32x256.Idx) :
    (k0_pay59 (F := Ideal) (k0_pay37 (F := Ideal))) y = B15 x0 x1 x3 x6 x9 x10 ((Rect.unit (s := S1x8x4x128x256) (k0_off26 k) S1x1x1x32x256.size (k0_off26_inb k)).emb y) := by
  obtain ⟨d, q, rfl⟩ := split_32 y
  have e : (Rect.unit (s := S1x8x4x128x256) (k0_off26 k) S1x1x1x32x256.size (k0_off26_inb k)).emb (ix5 0 0 0 d q : S1x1x1x32x256.Idx) = (ix5 0 (4 : Fin 8) (tOf k) ⟨96 + d.val, by omega⟩ q : S1x8x4x128x256.Idx) := by
    blk_ext [k0_off26_eq, tOf, rowT]
  refine Eq.trans ?_ (congrArg (B15 x0 x1 x3 x6 x9 x10) e).symm
  refine Eq.trans ?_ (G15_d x0 x1 x3 x6 x9 x10 4 (tOf k) q d).symm
  pointwise [k0_pay59, k0_pay37]

theorem pc15_20 (y : S1x1x1x64x256.Idx) :
    (k0_pay61 (F := Ideal) (k0_pay60 (k0_pay36 (k0_pay29 (k0_pay4 (ld4 x0 k) (ld13 x1 k)) (ld189 x3 k) (ld193 x6 k))))) y = B15 x0 x1 x3 x6 x9 x10 ((Rect.unit (s := S1x8x4x128x256) (k0_off27 k) S1x1x1x64x256.size (k0_off27_inb k)).emb y) :=
  rotA x0 x1 x3 x6 x9 x10 k 5 (by omega) (fun v15 v189 v193 v200 v203 => (k0_pay61 (F := Ideal) (k0_pay60 (k0_pay36 (k0_pay29 v15 v189 v193))))) (by
    intro v15 v189 v193 v200 v203 d q
    unfold SC
    pointwise [k0_pay61, k0_pay60, k0_pay36]) _ (by intro d q; blk_ext [k0_off27_eq, tOf, rowT]) y

theorem pc15_21 (y : S1x1x1x16x256.Idx) :
    (k0_pay62 (F := Ideal) (k0_pay34 (k0_pay30 (k0_pay4 (ld4 x0 k) (ld13 x1 k)) (ld189 x3 k) (ld193 x6 k)) (k0_pay31 (k0_pay4 (ld4 x0 k) (ld13 x1 k)) (ld189 x3 k) (ld193 x6 k)) (k0_pay32 (ld200 x9 k)) (ld203 x10 k))) y = B15 x0 x1 x3 x6 x9 x10 ((Rect.unit (s := S1x8x4x128x256) (k0_off28 k) S1x1x1x16x256.size (k0_off28_inb k)).emb y) :=
  rotB x0 x1 x3 x6 x9 x10 k 5 (by omega) (fun v15 v189 v193 v200 v203 => (k0_pay62 (F := Ideal) (k0_pay34 (k0_pay30 v15 v189 v193) (k0_pay31 v15 v189 v193) (k0_pay32 v200) v203))) (by
    intro v15 v189 v193 v200 v203 d q
    unfold SC
    pointwise [k0_pay62, k0_pay34, k0_pay33, k0_pay30, k0_pay31, k0_pay32]) _ (by intro d q; blk_ext [k0_off28_eq, tOf, rowT]) y

theorem pc15_22 (y : S1x1x1x16x256.Idx) :
    (k0_pay63 (F := Ideal) (k0_pay35 (k0_pay30 (k0_pay4 (ld4 x0 k) (ld13 x1 k)) (ld189 x3 k) (ld193 x6 k)) (k0_pay31 (k0_pay4 (ld4 x0 k) (ld13 x1 k)) (ld189 x3 k) (ld193 x6 k)) (k0_pay32 (ld200 x9 k)) (ld203 x10 k))) y = B15 x0 x1 x3 x6 x9 x10 ((Rect.unit (s := S1x8x4x128x256) (k0_off29 k) S1x1x1x16x256.size (k0_off29_inb k)).emb y) :=
  rotC x0 x1 x3 x6 x9 x10 k 5 (by omega) (fun v15 v189 v193 v200 v203 => (k0_pay63 (F := Ideal) (k0_pay35 (k0_pay30 v15 v189 v193) (k0_pay31 v15 v189 v193) (k0_pay32 v200) v203))) (by
    intro v15 v189 v193 v200 v203 d q
    unfold SC
    pointwise [k0_pay63, k0_pay35, k0_pay33, k0_pay30, k0_pay31, k0_pay32]) _ (by intro d q; blk_ext [k0_off29_eq, tOf, rowT]) y

theorem pc15_23 (y : S1x1x1x32x256.Idx) :
    (k0_pay64 (F := Ideal) (k0_pay37 (F := Ideal))) y = B15 x0 x1 x3 x6 x9 x10 ((Rect.unit (s := S1x8x4x128x256) (k0_off30 k) S1x1x1x32x256.size (k0_off30_inb k)).emb y) := by
  obtain ⟨d, q, rfl⟩ := split_32 y
  have e : (Rect.unit (s := S1x8x4x128x256) (k0_off30 k) S1x1x1x32x256.size (k0_off30_inb k)).emb (ix5 0 0 0 d q : S1x1x1x32x256.Idx) = (ix5 0 (5 : Fin 8) (tOf k) ⟨96 + d.val, by omega⟩ q : S1x8x4x128x256.Idx) := by
    blk_ext [k0_off30_eq, tOf, rowT]
  refine Eq.trans ?_ (congrArg (B15 x0 x1 x3 x6 x9 x10) e).symm
  refine Eq.trans ?_ (G15_d x0 x1 x3 x6 x9 x10 5 (tOf k) q d).symm
  pointwise [k0_pay64, k0_pay37]

theorem pc15_24 (y : S1x1x1x64x256.Idx) :
    (k0_pay65 (F := Ideal) (k0_pay36 (k0_pay29 (k0_pay4 (ld4 x0 k) (ld13 x1 k)) (ld189 x3 k) (ld193 x6 k)))) y = B15 x0 x1 x3 x6 x9 x10 ((Rect.unit (s := S1x8x4x128x256) (k0_off31 k) S1x1x1x64x256.size (k0_off31_inb k)).emb y) :=
  rotA x0 x1 x3 x6 x9 x10 k 6 (by omega) (fun v15 v189 v193 v200 v203 => (k0_pay65 (F := Ideal) (k0_pay36 (k0_pay29 v15 v189 v193)))) (by
    intro v15 v189 v193 v200 v203 d q
    unfold SC
    pointwise [k0_pay65, k0_pay36]) _ (by intro d q; blk_ext [k0_off31_eq, tOf, rowT]) y

theorem pc15_25 (y : S1x1x1x16x256.Idx) :
    (k0_pay66 (F := Ideal) (k0_pay34 (k0_pay30 (k0_pay4 (ld4 x0 k) (ld13 x1 k)) (ld189 x3 k) (ld193 x6 k)) (k0_pay31 (k0_pay4 (ld4 x0 k) (ld13 x1 k)) (ld189 x3 k) (ld193 x6 k)) (k0_pay32 (ld200 x9 k)) (ld203 x10 k))) y = B15 x0 x1 x3 x6 x9 x10 ((Rect.unit (s := S1x8x4x128x256) (k0_off32 k) S1x1x1x16x256.size (k0_off32_inb k)).emb y) :=
  rotB x0 x1 x3 x6 x9 x10 k 6 (by omega) (fun v15 v189 v193 v200 v203 => (k0_pay66 (F := Ideal) (k0_pay34 (k0_pay30 v15 v189 v193) (k0_pay31 v15 v189 v193) (k0_pay32 v200) v203))) (by
    intro v15 v189 v193 v200 v203 d q
    unfold SC
    pointwise [k0_pay66, k0_pay34, k0_pay33, k0_pay30, k0_pay31, k0_pay32]) _ (by intro d q; blk_ext [k0_off32_eq, tOf, rowT]) y

theorem pc15_26 (y : S1x1x1x16x256.Idx) :
    (k0_pay68 (F := Ideal) (k0_pay67 (k0_pay35 (k0_pay30 (k0_pay4 (ld4 x0 k) (ld13 x1 k)) (ld189 x3 k) (ld193 x6 k)) (k0_pay31 (k0_pay4 (ld4 x0 k) (ld13 x1 k)) (ld189 x3 k) (ld193 x6 k)) (k0_pay32 (ld200 x9 k)) (ld203 x10 k)))) y = B15 x0 x1 x3 x6 x9 x10 ((Rect.unit (s := S1x8x4x128x256) (k0_off33 k) S1x1x1x16x256.size (k0_off33_inb k)).emb y) :=
  rotC x0 x1 x3 x6 x9 x10 k 6 (by omega) (fun v15 v189 v193 v200 v203 => (k0_pay68 (F := Ideal) (k0_pay67 (k0_pay35 (k0_pay30 v15 v189 v193) (k0_pay31 v15 v189 v193) (k0_pay32 v200) v203)))) (by
    intro v15 v189 v193 v200 v203 d q
    unfold SC
    pointwise [k0_pay68, k0_pay67, k0_pay35, k0_pay33, k0_pay30, k0_pay31, k0_pay32]) _ (by intro d q; blk_ext [k0_off33_eq, tOf, rowT]) y

theorem pc15_27 (y : S1x1x1x32x256.Idx) :
    (k0_pay69 (F := Ideal) (k0_pay37 (F := Ideal))) y = B15 x0 x1 x3 x6 x9 x10 ((Rect.unit (s := S1x8x4x128x256) (k0_off34 k) S1x1x1x32x256.size (k0_off34_inb k)).emb y) := by
  obtain ⟨d, q, rfl⟩ := split_32 y
  have e : (Rect.unit (s := S1x8x4x128x256) (k0_off34 k) S1x1x1x32x256.size (k0_off34_inb k)).emb (ix5 0 0 0 d q : S1x1x1x32x256.Idx) = (ix5 0 (6 : Fin 8) (tOf k) ⟨96 + d.val, by omega⟩ q : S1x8x4x128x256.Idx) := by
    blk_ext [k0_off34_eq, tOf, rowT]
  refine Eq.trans ?_ (congrArg (B15 x0 x1 x3 x6 x9 x10) e).symm
  refine Eq.trans ?_ (G15_d x0 x1 x3 x6 x9 x10 6 (tOf k) q d).symm
  pointwise [k0_pay69, k0_pay37]

theorem pc15_28 (y : S1x1x1x64x256.Idx) :
    (k0_pay70 (F := Ideal) (k0_pay36 (k0_pay29 (k0_pay4 (ld4 x0 k) (ld13 x1 k)) (ld189 x3 k) (ld193 x6 k)))) y = B15 x0 x1 x3 x6 x9 x10 ((Rect.unit (s := S1x8x4x128x256) (k0_off35 k) S1x1x1x64x256.size (k0_off35_inb k)).emb y) :=
  rotA x0 x1 x3 x6 x9 x10 k 7 (by omega) (fun v15 v189 v193 v200 v203 => (k0_pay70 (F := Ideal) (k0_pay36 (k0_pay29 v15 v189 v193)))) (by
    intro v15 v189 v193 v200 v203 d q
    unfold SC
    pointwise [k0_pay70, k0_pay36]) _ (by intro d q; blk_ext [k0_off35_eq, tOf, rowT]) y

theorem pc15_29 (y : S1x1x1x16x256.Idx) :
    (k0_pay71 (F := Ideal) (k0_pay34 (k0_pay30 (k0_pay4 (ld4 x0 k) (ld13 x1 k)) (ld189 x3 k) (ld193 x6 k)) (k0_pay31 (k0_pay4 (ld4 x0 k) (ld13 x1 k)) (ld189 x3 k) (ld193 x6 k)) (k0_pay32 (ld200 x9 k)) (ld203 x10 k))) y = B15 x0 x1 x3 x6 x9 x10 ((Rect.unit (s := S1x8x4x128x256) (k0_off36 k) S1x1x1x16x256.size (k0_off36_inb k)).emb y) :=
  rotB x0 x1 x3 x6 x9 x10 k 7 (by omega) (fun v15 v189 v193 v200 v203 => (k0_pay71 (F := Ideal) (k0_pay34 (k0_pay30 v15 v189 v193) (k0_pay31 v15 v189 v193) (k0_pay32 v200) v203))) (by
    intro v15 v189 v193 v200 v203 d q
    unfold SC
    pointwise [k0_pay71, k0_pay34, k0_pay33, k0_pay30, k0_pay31, k0_pay32]) _ (by intro d q; blk_ext [k0_off36_eq, tOf, rowT]) y

theorem pc15_30 (y : S1x1x1x16x256.Idx) :
    (k0_pay72 (F := Ideal) (k0_pay35 (k0_pay30 (k0_pay4 (ld4 x0 k) (ld13 x1 k)) (ld189 x3 k) (ld193 x6 k)) (k0_pay31 (k0_pay4 (ld4 x0 k) (ld13 x1 k)) (ld189 x3 k) (ld193 x6 k)) (k0_pay32 (ld200 x9 k)) (ld203 x10 k))) y = B15 x0 x1 x3 x6 x9 x10 ((Rect.unit (s := S1x8x4x128x256) (k0_off37 k) S1x1x1x16x256.size (k0_off37_inb k)).emb y) :=
  rotC x0 x1 x3 x6 x9 x10 k 7 (by omega) (fun v15 v189 v193 v200 v203 => (k0_pay72 (F := Ideal) (k0_pay35 (k0_pay30 v15 v189 v193) (k0_pay31 v15 v189 v193) (k0_pay32 v200) v203))) (by
    intro v15 v189 v193 v200 v203 d q
    unfold SC
    pointwise [k0_pay72, k0_pay35, k0_pay33, k0_pay30, k0_pay31, k0_pay32]) _ (by intro d q; blk_ext [k0_off37_eq, tOf, rowT]) y

theorem pc15_31 (y : S1x1x1x32x256.Idx) :
    (k0_pay73 (F := Ideal) (k0_pay37 (F := Ideal))) y = B15 x0 x1 x3 x6 x9 x10 ((Rect.unit (s := S1x8x4x128x256) (k0_off38 k) S1x1x1x32x256.size (k0_off38_inb k)).emb y) := by
  obtain ⟨d, q, rfl⟩ := split_32 y
  have e : (Rect.unit (s := S1x8x4x128x256) (k0_off38 k) S1x1x1x32x256.size (k0_off38_inb k)).emb (ix5 0 0 0 d q : S1x1x1x32x256.Idx) = (ix5 0 (7 : Fin 8) (tOf k) ⟨96 + d.val, by omega⟩ q : S1x8x4x128x256.Idx) := by
    blk_ext [k0_off38_eq, tOf, rowT]
  refine Eq.trans ?_ (congrArg (B15 x0 x1 x3 x6 x9 x10) e).symm
  refine Eq.trans ?_ (G15_d x0 x1 x3 x6 x9 x10 7 (tOf k) q d).symm
  pointwise [k0_pay73, k0_pay37]

end Cert.Kernel3Ideal.In

end
-- ==== Proof.In.PieceB.lean ====
/-
  Each piece that a trip writes of the other blocks is its part of the block's formula.
-/
module

public import proofs.«01_k».proof.Proof.In.PieceA

@[expose] public section

set_option maxRecDepth 16384

noncomputable section

namespace Cert.Kernel3Ideal.In

open Idealize.ShloMosaic Idealize.ShloMosaic.TcCoe
open Cert.Kernel3Ideal.Gen Cert.ObCore Cert.InCore
open scoped BigOperators

theorem pc16_0 (x0 : Vec Ideal S1x1024x1024 .f32) (x2 : Vec Ideal S1024x768 .bf16) (x5 : Vec Ideal S1x128 .f32) (x8 : Vec Ideal S256x1024 .bf16) (x11 : Vec Ideal S1024x128 .f32) (x12 : Vec Ideal S1024x128 .f32) (k : Fin k0_t1_loop.trips) (y : S1x256x1024.Idx) :
    (k0_pay97 (F := Ideal) (k0_pay96 (k0_pay13 (k0_pay1 (ld4 x0 k)) (ld39 x2 k)) (ld512 x5 k) (ld518 x11 k) (ld523 x12 k) (ld530 x8 k))) y = (fun y : S1x1024x1024.Idx => G16 x0 x2 x5 x8 x11 x12 (y 1) (y 2)) ((Rect.unit (s := S1x1024x1024) (k0_off1 k) S1x256x1024.size (k0_off1_inb k)).emb y) := by
  obtain ⟨q, c, rfl⟩ := split_k y
  have e : (Rect.unit (s := S1x1024x1024) (k0_off1 k) S1x256x1024.size (k0_off1_inb k)).emb (ix3 0 q c : S1x256x1024.Idx) = (ix3 0 (rowT (tOf k) q) c : S1x1024x1024.Idx) := by
    blk_ext [k0_off1_eq, tOf, rowT]
  refine Eq.trans ?_ (congrArg (fun y : S1x1024x1024.Idx => G16 x0 x2 x5 x8 x11 x12 (y 1) (y 2)) e).symm
  exact pay97_val k x0 x2 x5 x8 x11 x12 q c

section

/-- The block of the first branch's values. -/
abbrev B17 (x0 : Vec Ideal S1x1024x1024 .f32) (x1 : Vec Ideal S3456x1024 .bf16) (x4 : Vec Ideal S128x1 .f32) (x7 : Vec Ideal S512x128 .bf16) : S1x8x4x80x256.Idx → EReal :=
  fun y : S1x8x4x80x256.Idx => G17 x0 x1 x4 x7 (y 1) (y 2) (y 3) (y 4)

variable (x0 : Vec Ideal S1x1024x1024 .f32) (x1 : Vec Ideal S3456x1024 .bf16) (x4 : Vec Ideal S128x1 .f32) (x7 : Vec Ideal S512x128 .bf16) (k : Fin k0_t1_loop.trips)

theorem val17 (h : ℕ) (hh : h < 8) (f : FVec Ideal S384x256 .f32 → Vec Ideal S128x1 .f32 → Vec Ideal S512x128 .bf16 → S1x1x1x64x256.Idx → EReal)
    (hf : ∀ v15 v406 v410 (d : Fin 64) (q : Fin 256), f v15 v406 v410 (ix5 0 0 0 d q) = k0_pay75 (F := Ideal) (k0_pay74 v15) v406 v410 (ix2 ⟨64 * h + d.val, by omega⟩ q))
    (E : S1x1x1x64x256.Idx → S1x8x4x80x256.Idx)
    (hE : ∀ (d : Fin 64) (q : Fin 256), E (ix5 0 0 0 d q) = (ix5 0 (⟨h, hh⟩ : Fin 8) (tOf k) ⟨0 + d.val, by omega⟩ q : S1x8x4x80x256.Idx)) (y : S1x1x1x64x256.Idx) :
    f (k0_pay4 (ld4 x0 k) (ld13 x1 k)) (ld406 x4 k) (ld410 x7 k) y = B17 x0 x1 x4 x7 (E y) := by
  obtain ⟨d, q, rfl⟩ := split_64 y
  refine Eq.trans ?_ (congrArg (B17 x0 x1 x4 x7) (hE d q)).symm
  refine (hf ..).trans ?_
  rw [pay75_val]
  exact (G17_a x0 x1 x4 x7 ⟨h, hh⟩ (tOf k) q d).symm

theorem one17 (h : ℕ) (hh : h < 8) (f : S1x1x1x16x256.Idx → EReal)
    (hf : ∀ (d : Fin 16) (q : Fin 256), f (ix5 0 0 0 d q) = Scalar.select (IntOp.cmpi CmpIPredicate.eq (BitVec.ofNat 32 d.val) 0#32) 1 0)
    (E : S1x1x1x16x256.Idx → S1x8x4x80x256.Idx)
    (hE : ∀ (d : Fin 16) (q : Fin 256), E (ix5 0 0 0 d q) = (ix5 0 (⟨h, hh⟩ : Fin 8) (tOf k) ⟨64 + d.val, by omega⟩ q : S1x8x4x80x256.Idx)) (y : S1x1x1x16x256.Idx) :
    f y = B17 x0 x1 x4 x7 (E y) := by
  obtain ⟨d, q, rfl⟩ := split_16 y
  refine Eq.trans ?_ (congrArg (B17 x0 x1 x4 x7) (hE d q)).symm
  exact (hf d q).trans (G17_b x0 x1 x4 x7 ⟨h, hh⟩ (tOf k) q d).symm

theorem pc17_0 (y : S1x1x1x64x256.Idx) :
    (k0_pay77 (F := Ideal) (k0_pay74 (k0_pay4 (ld4 x0 k) (ld13 x1 k))) (ld406 x4 k) (ld410 x7 k)) y = B17 x0 x1 x4 x7 ((Rect.unit (s := S1x8x4x80x256) (k0_off39 k) S1x1x1x64x256.size (k0_off39_inb k)).emb y) :=
  val17 x0 x1 x4 x7 k 0 (by omega) (fun v15 v406 v410 => (k0_pay77 (F := Ideal) (k0_pay74 v15) v406 v410)) (by intro v15 v406 v410 d q; pointwise [k0_pay77]) _ (by intro d q; blk_ext [k0_off39_eq, tOf, rowT]) y

theorem pc17_1 (y : S1x1x1x16x256.Idx) :
    (k0_pay78 (F := Ideal)) y = B17 x0 x1 x4 x7 ((Rect.unit (s := S1x8x4x80x256) (k0_off40 k) S1x1x1x16x256.size (k0_off40_inb k)).emb y) :=
  one17 x0 x1 x4 x7 k 0 (by omega) _ (by intro d q; pointwise [k0_pay78, k0_pay76]) _ (by intro d q; blk_ext [k0_off40_eq, tOf, rowT]) y

theorem pc17_2 (y : S1x1x1x64x256.Idx) :
    (k0_pay80 (F := Ideal) (k0_pay79 (k0_pay74 (k0_pay4 (ld4 x0 k) (ld13 x1 k))) (ld406 x4 k) (ld410 x7 k))) y = B17 x0 x1 x4 x7 ((Rect.unit (s := S1x8x4x80x256) (k0_off41 k) S1x1x1x64x256.size (k0_off41_inb k)).emb y) :=
  val17 x0 x1 x4 x7 k 1 (by omega) (fun v15 v406 v410 => (k0_pay80 (F := Ideal) (k0_pay79 (k0_pay74 v15) v406 v410))) (by intro v15 v406 v410 d q; pointwise [k0_pay80, k0_pay79]) _ (by intro d q; blk_ext [k0_off41_eq, tOf, rowT]) y

theorem pc17_3 (y : S1x1x1x16x256.Idx) :
    (k0_pay81 (F := Ideal) (k0_pay76 (F := Ideal))) y = B17 x0 x1 x4 x7 ((Rect.unit (s := S1x8x4x80x256) (k0_off42 k) S1x1x1x16x256.size (k0_off42_inb k)).emb y) :=
  one17 x0 x1 x4 x7 k 1 (by omega) _ (by intro d q; pointwise [k0_pay81, k0_pay76]) _ (by intro d q; blk_ext [k0_off42_eq, tOf, rowT]) y

theorem pc17_4 (y : S1x1x1x64x256.Idx) :
    (k0_pay82 (F := Ideal) (k0_pay75 (k0_pay74 (k0_pay4 (ld4 x0 k) (ld13 x1 k))) (ld406 x4 k) (ld410 x7 k))) y = B17 x0 x1 x4 x7 ((Rect.unit (s := S1x8x4x80x256) (k0_off43 k) S1x1x1x64x256.size (k0_off43_inb k)).emb y) :=
  val17 x0 x1 x4 x7 k 2 (by omega) (fun v15 v406 v410 => (k0_pay82 (F := Ideal) (k0_pay75 (k0_pay74 v15) v406 v410))) (by intro v15 v406 v410 d q; pointwise [k0_pay82]) _ (by intro d q; blk_ext [k0_off43_eq, tOf, rowT]) y

theorem pc17_5 (y : S1x1x1x16x256.Idx) :
    (k0_pay83 (F := Ideal) (k0_pay76 (F := Ideal))) y = B17 x0 x1 x4 x7 ((Rect.unit (s := S1x8x4x80x256) (k0_off44 k) S1x1x1x16x256.size (k0_off44_inb k)).emb y) :=
  one17 x0 x1 x4 x7 k 2 (by omega) _ (by intro d q; pointwise [k0_pay83, k0_pay76]) _ (by intro d q; blk_ext [k0_off44_eq, tOf, rowT]) y

theorem pc17_6 (y : S1x1x1x64x256.Idx) :
    (k0_pay84 (F := Ideal) (k0_pay75 (k0_pay74 (k0_pay4 (ld4 x0 k) (ld13 x1 k))) (ld406 x4 k) (ld410 x7 k))) y = B17 x0 x1 x4 x7 ((Rect.unit (s := S1x8x4x80x256) (k0_off45 k) S1x1x1x64x256.size (k0_off45_inb k)).emb y) :=
  val17 x0 x1 x4 x7 k 3 (by omega) (fun v15 v406 v410 => (k0_pay84 (F := Ideal) (k0_pay75 (k0_pay74 v15) v406 v410))) (by intro v15 v406 v410 d q; pointwise [k0_pay84]) _ (by intro d q; blk_ext [k0_off45_eq, tOf, rowT]) y

theorem pc17_7 (y : S1x1x1x16x256.Idx) :
    (k0_pay85 (F := Ideal) (k0_pay76 (F := Ideal))) y = B17 x0 x1 x4 x7 ((Rect.unit (s := S1x8x4x80x256) (k0_off46 k) S1x1x1x16x256.size (k0_off46_inb k)).emb y) :=
  one17 x0 x1 x4 x7 k 3 (by omega) _ (by intro d q; pointwise [k0_pay85, k0_pay76]) _ (by intro d q; blk_ext [k0_off46_eq, tOf, rowT]) y

theorem pc17_8 (y : S1x1x1x64x256.Idx) :
    (k0_pay87 (F := Ideal) (k0_pay86 (k0_pay75 (k0_pay74 (k0_pay4 (ld4 x0 k) (ld13 x1 k))) (ld406 x4 k) (ld410 x7 k)))) y = B17 x0 x1 x4 x7 ((Rect.unit (s := S1x8x4x80x256) (k0_off47 k) S1x1x1x64x256.size (k0_off47_inb k)).emb y) :=
  val17 x0 x1 x4 x7 k 4 (by omega) (fun v15 v406 v410 => (k0_pay87 (F := Ideal) (k0_pay86 (k0_pay75 (k0_pay74 v15) v406 v410)))) (by intro v15 v406 v410 d q; pointwise [k0_pay87, k0_pay86]) _ (by intro d q; blk_ext [k0_off47_eq, tOf, rowT]) y

theorem pc17_9 (y : S1x1x1x16x256.Idx) :
    (k0_pay88 (F := Ideal) (k0_pay76 (F := Ideal))) y = B17 x0 x1 x4 x7 ((Rect.unit (s := S1x8x4x80x256) (k0_off48 k) S1x1x1x16x256.size (k0_off48_inb k)).emb y) :=
  one17 x0 x1 x4 x7 k 4 (by omega) _ (by intro d q; pointwise [k0_pay88, k0_pay76]) _ (by intro d q; blk_ext [k0_off48_eq, tOf, rowT]) y

theorem pc17_10 (y : S1x1x1x64x256.Idx) :
    (k0_pay89 (F := Ideal) (k0_pay75 (k0_pay74 (k0_pay4 (ld4 x0 k) (ld13 x1 k))) (ld406 x4 k) (ld410 x7 k))) y = B17 x0 x1 x4 x7 ((Rect.unit (s := S1x8x4x80x256) (k0_off49 k) S1x1x1x64x256.size (k0_off49_inb k)).emb y) :=
  val17 x0 x1 x4 x7 k 5 (by omega) (fun v15 v406 v410 => (k0_pay89 (F := Ideal) (k0_pay75 (k0_pay74 v15) v406 v410))) (by intro v15 v406 v410 d q; pointwise [k0_pay89]) _ (by intro d q; blk_ext [k0_off49_eq, tOf, rowT]) y

theorem pc17_11 (y : S1x1x1x16x256.Idx) :
    (k0_pay90 (F := Ideal) (k0_pay76 (F := Ideal))) y = B17 x0 x1 x4 x7 ((Rect.unit (s := S1x8x4x80x256) (k0_off50 k) S1x1x1x16x256.size (k0_off50_inb k)).emb y) :=
  one17 x0 x1 x4 x7 k 5 (by omega) _ (by intro d q; pointwise [k0_pay90, k0_pay76]) _ (by intro d q; blk_ext [k0_off50_eq, tOf, rowT]) y

theorem pc17_12 (y : S1x1x1x64x256.Idx) :
    (k0_pay91 (F := Ideal) (k0_pay75 (k0_pay74 (k0_pay4 (ld4 x0 k) (ld13 x1 k))) (ld406 x4 k) (ld410 x7 k))) y = B17 x0 x1 x4 x7 ((Rect.unit (s := S1x8x4x80x256) (k0_off51 k) S1x1x1x64x256.size (k0_off51_inb k)).emb y) :=
  val17 x0 x1 x4 x7 k 6 (by omega) (fun v15 v406 v410 => (k0_pay91 (F := Ideal) (k0_pay75 (k0_pay74 v15) v406 v410))) (by intro v15 v406 v410 d q; pointwise [k0_pay91]) _ (by intro d q; blk_ext [k0_off51_eq, tOf, rowT]) y

theorem pc17_13 (y : S1x1x1x16x256.Idx) :
    (k0_pay92 (F := Ideal) (k0_pay76 (F := Ideal))) y = B17 x0 x1 x4 x7 ((Rect.unit (s := S1x8x4x80x256) (k0_off52 k) S1x1x1x16x256.size (k0_off52_inb k)).emb y) :=
  one17 x0 x1 x4 x7 k 6 (by omega) _ (by intro d q; pointwise [k0_pay92, k0_pay76]) _ (by intro d q; blk_ext [k0_off52_eq, tOf, rowT]) y

theorem pc17_14 (y : S1x1x1x64x256.Idx) :
    (k0_pay94 (F := Ideal) (k0_pay93 (k0_pay75 (k0_pay74 (k0_pay4 (ld4 x0 k) (ld13 x1 k))) (ld406 x4 k) (ld410 x7 k)))) y = B17 x0 x1 x4 x7 ((Rect.unit (s := S1x8x4x80x256) (k0_off53 k) S1x1x1x64x256.size (k0_off53_inb k)).emb y) :=
  val17 x0 x1 x4 x7 k 7 (by omega) (fun v15 v406 v410 => (k0_pay94 (F := Ideal) (k0_pay93 (k0_pay75 (k0_pay74 v15) v406 v410)))) (by intro v15 v406 v410 d q; pointwise [k0_pay94, k0_pay93]) _ (by intro d q; blk_ext [k0_off53_eq, tOf, rowT]) y

theorem pc17_15 (y : S1x1x1x16x256.Idx) :
    (k0_pay95 (F := Ideal) (k0_pay76 (F := Ideal))) y = B17 x0 x1 x4 x7 ((Rect.unit (s := S1x8x4x80x256) (k0_off54 k) S1x1x1x16x256.size (k0_off54_inb k)).emb y) :=
  one17 x0 x1 x4 x7 k 7 (by omega) _ (by intro d q; pointwise [k0_pay95, k0_pay76]) _ (by intro d q; blk_ext [k0_off54_eq, tOf, rowT]) y

end

section

/-- The block of the second branch's queries. -/
abbrev B18 (x0 : Vec Ideal S1x1024x1024 .f32) (x1 : Vec Ideal S3456x1024 .bf16) : S1x8x4x128x256.Idx → EReal :=
  fun y : S1x8x4x128x256.Idx => G18 x0 x1 (y 1) (y 2) (y 3) (y 4)

variable (x0 : Vec Ideal S1x1024x1024 .f32) (x1 : Vec Ideal S3456x1024 .bf16) (k : Fin k0_t1_loop.trips)

theorem val18 (h : ℕ) (hh : h < 8) (o : ℕ) (ho : o = 64 * (h % 2)) (f : FVec Ideal S512x256 .f32 → S1x1x1x64x256.Idx → EReal)
    (hf : ∀ v (d : Fin 64) (q : Fin 256), f v (ix5 0 0 0 d q) = v (ix2 ⟨64 * h + d.val, by omega⟩ q))
    (E : S1x1x1x64x256.Idx → S1x8x4x128x256.Idx)
    (hE : ∀ (d : Fin 64) (q : Fin 256), E (ix5 0 0 0 d q) = (ix5 0 (⟨h, hh⟩ : Fin 8) (tOf k) ⟨o + d.val, by omega⟩ q : S1x8x4x128x256.Idx)) (y : S1x1x1x64x256.Idx) :
    f (k0_pay14 (F := Ideal) (k0_pay1 (ld4 x0 k)) (ld42 x1 k)) y = B18 x0 x1 (E y) := by
  obtain ⟨d, q, rfl⟩ := split_64 y
  refine Eq.trans ?_ (congrArg (B18 x0 x1) (hE d q)).symm
  refine (hf ..).trans ?_
  rw [pay14_val]
  exact (G18_a x0 x1 ⟨h, hh⟩ (tOf k) q d o ho).symm

theorem zero18 (h : ℕ) (hh : h < 8) (o : ℕ) (ho : o = 64 * (1 - h % 2)) (f : S1x1x1x64x256.Idx → EReal)
    (hf : ∀ (d : Fin 64) (q : Fin 256), f (ix5 0 0 0 d q) = 0)
    (E : S1x1x1x64x256.Idx → S1x8x4x128x256.Idx)
    (hE : ∀ (d : Fin 64) (q : Fin 256), E (ix5 0 0 0 d q) = (ix5 0 (⟨h, hh⟩ : Fin 8) (tOf k) ⟨o + d.val, by omega⟩ q : S1x8x4x128x256.Idx)) (y : S1x1x1x64x256.Idx) :
    f y = B18 x0 x1 (E y) := by
  obtain ⟨d, q, rfl⟩ := split_64 y
  refine Eq.trans ?_ (congrArg (B18 x0 x1) (hE d q)).symm
  exact (hf d q).trans (G18_b x0 x1 ⟨h, hh⟩ (tOf k) q d o ho).symm

theorem pc18_0 (y : S1x1x1x64x256.Idx) :
    (k0_pay100 (F := Ideal) (k0_pay14 (k0_pay1 (ld4 x0 k)) (ld42 x1 k))) y = B18 x0 x1 ((Rect.unit (s := S1x8x4x128x256) (k0_off7 k) S1x1x1x64x256.size (k0_off7_inb k)).emb y) :=
  val18 x0 x1 k 0 (by omega) 0 (by decide) (fun v44 => (k0_pay100 (F := Ideal) v44)) (by intro v44 d q; pointwise [k0_pay100]) _ (by intro d q; blk_ext [k0_off7_eq, tOf, rowT]) y

theorem pc18_1 (y : S1x1x1x64x256.Idx) :
    (k0_pay101 (F := Ideal)) y = B18 x0 x1 ((Rect.unit (s := S1x8x4x128x256) (k0_off57 k) S1x1x1x64x256.size (k0_off57_inb k)).emb y) :=
  zero18 x0 x1 k 0 (by omega) 64 (by decide) _ (by intro d q; pointwise [k0_pay101, k0_pay99]) _ (by intro d q; blk_ext [k0_off57_eq, tOf, rowT]) y

theorem pc18_2 (y : S1x1x1x64x256.Idx) :
    (k0_pay103 (F := Ideal) (k0_pay14 (k0_pay1 (ld4 x0 k)) (ld42 x1 k))) y = B18 x0 x1 ((Rect.unit (s := S1x8x4x128x256) (k0_off59 k) S1x1x1x64x256.size (k0_off59_inb k)).emb y) :=
  val18 x0 x1 k 1 (by omega) 64 (by decide) (fun v44 => (k0_pay103 (F := Ideal) v44)) (by intro v44 d q; pointwise [k0_pay103]) _ (by intro d q; blk_ext [k0_off59_eq, tOf, rowT]) y

theorem pc18_3 (y : S1x1x1x64x256.Idx) :
    (k0_pay104 (F := Ideal) (k0_pay99 (F := Ideal))) y = B18 x0 x1 ((Rect.unit (s := S1x8x4x128x256) (k0_off11 k) S1x1x1x64x256.size (k0_off11_inb k)).emb y) :=
  zero18 x0 x1 k 1 (by omega) 0 (by decide) _ (by intro d q; pointwise [k0_pay104, k0_pay99]) _ (by intro d q; blk_ext [k0_off11_eq, tOf, rowT]) y

theorem pc18_4 (y : S1x1x1x64x256.Idx) :
    (k0_pay106 (F := Ideal) (k0_pay14 (k0_pay1 (ld4 x0 k)) (ld42 x1 k))) y = B18 x0 x1 ((Rect.unit (s := S1x8x4x128x256) (k0_off15 k) S1x1x1x64x256.size (k0_off15_inb k)).emb y) :=
  val18 x0 x1 k 2 (by omega) 0 (by decide) (fun v44 => (k0_pay106 (F := Ideal) v44)) (by intro v44 d q; pointwise [k0_pay106]) _ (by intro d q; blk_ext [k0_off15_eq, tOf, rowT]) y

theorem pc18_5 (y : S1x1x1x64x256.Idx) :
    (k0_pay107 (F := Ideal) (k0_pay99 (F := Ideal))) y = B18 x0 x1 ((Rect.unit (s := S1x8x4x128x256) (k0_off61 k) S1x1x1x64x256.size (k0_off61_inb k)).emb y) :=
  zero18 x0 x1 k 2 (by omega) 64 (by decide) _ (by intro d q; pointwise [k0_pay107, k0_pay99]) _ (by intro d q; blk_ext [k0_off61_eq, tOf, rowT]) y

theorem pc18_6 (y : S1x1x1x64x256.Idx) :
    (k0_pay110 (F := Ideal) (k0_pay109 (k0_pay14 (k0_pay1 (ld4 x0 k)) (ld42 x1 k)))) y = B18 x0 x1 ((Rect.unit (s := S1x8x4x128x256) (k0_off63 k) S1x1x1x64x256.size (k0_off63_inb k)).emb y) :=
  val18 x0 x1 k 3 (by omega) 64 (by decide) (fun v44 => (k0_pay110 (F := Ideal) (k0_pay109 v44))) (by intro v44 d q; pointwise [k0_pay110, k0_pay109]) _ (by intro d q; blk_ext [k0_off63_eq, tOf, rowT]) y

theorem pc18_7 (y : S1x1x1x64x256.Idx) :
    (k0_pay111 (F := Ideal) (k0_pay99 (F := Ideal))) y = B18 x0 x1 ((Rect.unit (s := S1x8x4x128x256) (k0_off19 k) S1x1x1x64x256.size (k0_off19_inb k)).emb y) :=
  zero18 x0 x1 k 3 (by omega) 0 (by decide) _ (by intro d q; pointwise [k0_pay111, k0_pay99]) _ (by intro d q; blk_ext [k0_off19_eq, tOf, rowT]) y

theorem pc18_8 (y : S1x1x1x64x256.Idx) :
    (k0_pay113 (F := Ideal) (k0_pay14 (k0_pay1 (ld4 x0 k)) (ld42 x1 k))) y = B18 x0 x1 ((Rect.unit (s := S1x8x4x128x256) (k0_off23 k) S1x1x1x64x256.size (k0_off23_inb k)).emb y) :=
  val18 x0 x1 k 4 (by omega) 0 (by decide) (fun v44 => (k0_pay113 (F := Ideal) v44)) (by intro v44 d q; pointwise [k0_pay113]) _ (by intro d q; blk_ext [k0_off23_eq, tOf, rowT]) y

theorem pc18_9 (y : S1x1x1x64x256.Idx) :
    (k0_pay114 (F := Ideal) (k0_pay99 (F := Ideal))) y = B18 x0 x1 ((Rect.unit (s := S1x8x4x128x256) (k0_off65 k) S1x1x1x64x256.size (k0_off65_inb k)).emb y) :=
  zero18 x0 x1 k 4 (by omega) 64 (by decide) _ (by intro d q; pointwise [k0_pay114, k0_pay99]) _ (by intro d q; blk_ext [k0_off65_eq, tOf, rowT]) y

theorem pc18_10 (y : S1x1x1x64x256.Idx) :
    (k0_pay117 (F := Ideal) (k0_pay116 (k0_pay14 (k0_pay1 (ld4 x0 k)) (ld42 x1 k)))) y = B18 x0 x1 ((Rect.unit (s := S1x8x4x128x256) (k0_off67 k) S1x1x1x64x256.size (k0_off67_inb k)).emb y) :=
  val18 x0 x1 k 5 (by omega) 64 (by decide) (fun v44 => (k0_pay117 (F := Ideal) (k0_pay116 v44))) (by intro v44 d q; pointwise [k0_pay117, k0_pay116]) _ (by intro d q; blk_ext [k0_off67_eq, tOf, rowT]) y

theorem pc18_11 (y : S1x1x1x64x256.Idx) :
    (k0_pay118 (F := Ideal) (k0_pay99 (F := Ideal))) y = B18 x0 x1 ((Rect.unit (s := S1x8x4x128x256) (k0_off27 k) S1x1x1x64x256.size (k0_off27_inb k)).emb y) :=
  zero18 x0 x1 k 5 (by omega) 0 (by decide) _ (by intro d q; pointwise [k0_pay118, k0_pay99]) _ (by intro d q; blk_ext [k0_off27_eq, tOf, rowT]) y

theorem pc18_12 (y : S1x1x1x64x256.Idx) :
    (k0_pay120 (F := Ideal) (k0_pay14 (k0_pay1 (ld4 x0 k)) (ld42 x1 k))) y = B18 x0 x1 ((Rect.unit (s := S1x8x4x128x256) (k0_off31 k) S1x1x1x64x256.size (k0_off31_inb k)).emb y) :=
  val18 x0 x1 k 6 (by omega) 0 (by decide) (fun v44 => (k0_pay120 (F := Ideal) v44)) (by intro v44 d q; pointwise [k0_pay120]) _ (by intro d q; blk_ext [k0_off31_eq, tOf, rowT]) y

theorem pc18_13 (y : S1x1x1x64x256.Idx) :
    (k0_pay121 (F := Ideal) (k0_pay99 (F := Ideal))) y = B18 x0 x1 ((Rect.unit (s := S1x8x4x128x256) (k0_off69 k) S1x1x1x64x256.size (k0_off69_inb k)).emb y) :=
  zero18 x0 x1 k 6 (by omega) 64 (by decide) _ (by intro d q; pointwise [k0_pay121, k0_pay99]) _ (by intro d q; blk_ext [k0_off69_eq, tOf, rowT]) y

theorem pc18_14 (y : S1x1x1x64x256.Idx) :
    (k0_pay124 (F := Ideal) (k0_pay123 (k0_pay14 (k0_pay1 (ld4 x0 k)) (ld42 x1 k)))) y = B18 x0 x1 ((Rect.unit (s := S1x8x4x128x256) (k0_off71 k) S1x1x1x64x256.size (k0_off71_inb k)).emb y) :=
  val18 x0 x1 k 7 (by omega) 64 (by decide) (fun v44 => (k0_pay124 (F := Ideal) (k0_pay123 v44))) (by intro v44 d q; pointwise [k0_pay124, k0_pay123]) _ (by intro d q; blk_ext [k0_off71_eq, tOf, rowT]) y

theorem pc18_15 (y : S1x1x1x64x256.Idx) :
    (k0_pay125 (F := Ideal) (k0_pay99 (F := Ideal))) y = B18 x0 x1 ((Rect.unit (s := S1x8x4x128x256) (k0_off35 k) S1x1x1x64x256.size (k0_off35_inb k)).emb y) :=
  zero18 x0 x1 k 7 (by omega) 0 (by decide) _ (by intro d q; pointwise [k0_pay125, k0_pay99]) _ (by intro d q; blk_ext [k0_off35_eq, tOf, rowT]) y

end

theorem pc19_0 (x0 : Vec Ideal S1x1024x1024 .f32) (x2 : Vec Ideal S1024x768 .bf16) (k : Fin k0_t1_loop.trips) (y : S1x256x512.Idx) :
    (k0_pay98 (F := Ideal) (k0_pay13 (k0_pay1 (ld4 x0 k)) (ld39 x2 k))) y = (fun y : S1x1024x512.Idx => PS x0 x2 (y 1) ⟨128 + (y 2).val, by have : (y 2).val < 512 := (y 2).isLt; omega⟩) ((Rect.unit (s := S1x1024x512) (k0_off56 k) S1x256x512.size (k0_off56_inb k)).emb y) := by
  obtain ⟨q, c, rfl⟩ := split_n y
  have e : (Rect.unit (s := S1x1024x512) (k0_off56 k) S1x256x512.size (k0_off56_inb k)).emb (ix3 0 q c : S1x256x512.Idx) = (ix3 0 (rowT (tOf k) q) c : S1x1024x512.Idx) := by
    blk_ext [k0_off56_eq, tOf, rowT]
  refine Eq.trans ?_ (congrArg (fun y : S1x1024x512.Idx => PS x0 x2 (y 1) ⟨128 + (y 2).val, by have : (y 2).val < 512 := (y 2).isLt; omega⟩) e).symm
  have h : ∀ (v41 : FVec Ideal S256x768 .f32), (k0_pay98 (F := Ideal) v41) (ix3 0 q c) = v41 (ix2 q ⟨128 + c.val, by omega⟩) := by
    intro v41
    pointwise [k0_pay98]
  refine (h _).trans ?_
  rw [pay13_val]
  rfl

section

/-- The block of the second branch's values. -/
abbrev B20 (x0 : Vec Ideal S1x1024x1024 .f32) (x1 : Vec Ideal S3456x1024 .bf16) : S1x8x4x64x256.Idx → EReal :=
  fun y : S1x8x4x64x256.Idx => PT x0 x1 (rowT (y 2) (y 4)) ⟨1920 + (64 * (y 1).val + (y 3).val), by have : (y 1).val < 8 := (y 1).isLt; have : (y 3).val < 64 := (y 3).isLt; omega⟩

variable (x0 : Vec Ideal S1x1024x1024 .f32) (x1 : Vec Ideal S3456x1024 .bf16) (k : Fin k0_t1_loop.trips)

theorem val20 (h : ℕ) (hh : h < 8) (f : FVec Ideal S512x256 .f32 → S1x1x1x64x256.Idx → EReal)
    (hf : ∀ v (d : Fin 64) (q : Fin 256), f v (ix5 0 0 0 d q) = v (ix2 ⟨64 * h + d.val, by omega⟩ q))
    (E : S1x1x1x64x256.Idx → S1x8x4x64x256.Idx)
    (hE : ∀ (d : Fin 64) (q : Fin 256), E (ix5 0 0 0 d q) = (ix5 0 (⟨h, hh⟩ : Fin 8) (tOf k) d q : S1x8x4x64x256.Idx)) (y : S1x1x1x64x256.Idx) :
    f (k0_pay15 (F := Ideal) (k0_pay1 (ld4 x0 k)) (ld45 x1 k)) y = B20 x0 x1 (E y) := by
  obtain ⟨d, q, rfl⟩ := split_64 y
  refine Eq.trans ?_ (congrArg (B20 x0 x1) (hE d q)).symm
  refine (hf ..).trans ?_
  rw [pay15_val]
  rfl

theorem pc20_0 (y : S1x1x1x64x256.Idx) :
    (k0_pay102 (F := Ideal) (k0_pay15 (k0_pay1 (ld4 x0 k)) (ld45 x1 k))) y = B20 x0 x1 ((Rect.unit (s := S1x8x4x64x256) (k0_off58 k) S1x1x1x64x256.size (k0_off58_inb k)).emb y) :=
  val20 x0 x1 k 0 (by omega) (fun v47 => (k0_pay102 (F := Ideal) v47)) (by intro v47 d q; pointwise [k0_pay102]) _ (by intro d q; blk_ext [k0_off58_eq, tOf, rowT]) y

theorem pc20_1 (y : S1x1x1x64x256.Idx) :
    (k0_pay105 (F := Ideal) (k0_pay15 (k0_pay1 (ld4 x0 k)) (ld45 x1 k))) y = B20 x0 x1 ((Rect.unit (s := S1x8x4x64x256) (k0_off60 k) S1x1x1x64x256.size (k0_off60_inb k)).emb y) :=
  val20 x0 x1 k 1 (by omega) (fun v47 => (k0_pay105 (F := Ideal) v47)) (by intro v47 d q; pointwise [k0_pay105]) _ (by intro d q; blk_ext [k0_off60_eq, tOf, rowT]) y

theorem pc20_2 (y : S1x1x1x64x256.Idx) :
    (k0_pay108 (F := Ideal) (k0_pay15 (k0_pay1 (ld4 x0 k)) (ld45 x1 k))) y = B20 x0 x1 ((Rect.unit (s := S1x8x4x64x256) (k0_off62 k) S1x1x1x64x256.size (k0_off62_inb k)).emb y) :=
  val20 x0 x1 k 2 (by omega) (fun v47 => (k0_pay108 (F := Ideal) v47)) (by intro v47 d q; pointwise [k0_pay108]) _ (by intro d q; blk_ext [k0_off62_eq, tOf, rowT]) y

theorem pc20_3 (y : S1x1x1x64x256.Idx) :
    (k0_pay112 (F := Ideal) (k0_pay15 (k0_pay1 (ld4 x0 k)) (ld45 x1 k))) y = B20 x0 x1 ((Rect.unit (s := S1x8x4x64x256) (k0_off64 k) S1x1x1x64x256.size (k0_off64_inb k)).emb y) :=
  val20 x0 x1 k 3 (by omega) (fun v47 => (k0_pay112 (F := Ideal) v47)) (by intro v47 d q; pointwise [k0_pay112]) _ (by intro d q; blk_ext [k0_off64_eq, tOf, rowT]) y

theorem pc20_4 (y : S1x1x1x64x256.Idx) :
    (k0_pay115 (F := Ideal) (k0_pay15 (k0_pay1 (ld4 x0 k)) (ld45 x1 k))) y = B20 x0 x1 ((Rect.unit (s := S1x8x4x64x256) (k0_off66 k) S1x1x1x64x256.size (k0_off66_inb k)).emb y) :=
  val20 x0 x1 k 4 (by omega) (fun v47 => (k0_pay115 (F := Ideal) v47)) (by intro v47 d q; pointwise [k0_pay115]) _ (by intro d q; blk_ext [k0_off66_eq, tOf, rowT]) y

theorem pc20_5 (y : S1x1x1x64x256.Idx) :
    (k0_pay119 (F := Ideal) (k0_pay15 (k0_pay1 (ld4 x0 k)) (ld45 x1 k))) y = B20 x0 x1 ((Rect.unit (s := S1x8x4x64x256) (k0_off68 k) S1x1x1x64x256.size (k0_off68_inb k)).emb y) :=
  val20 x0 x1 k 5 (by omega) (fun v47 => (k0_pay119 (F := Ideal) v47)) (by intro v47 d q; pointwise [k0_pay119]) _ (by intro d q; blk_ext [k0_off68_eq, tOf, rowT]) y

theorem pc20_6 (y : S1x1x1x64x256.Idx) :
    (k0_pay122 (F := Ideal) (k0_pay15 (k0_pay1 (ld4 x0 k)) (ld45 x1 k))) y = B20 x0 x1 ((Rect.unit (s := S1x8x4x64x256) (k0_off70 k) S1x1x1x64x256.size (k0_off70_inb k)).emb y) :=
  val20 x0 x1 k 6 (by omega) (fun v47 => (k0_pay122 (F := Ideal) v47)) (by intro v47 d q; pointwise [k0_pay122]) _ (by intro d q; blk_ext [k0_off70_eq, tOf, rowT]) y

theorem pc20_7 (y : S1x1x1x64x256.Idx) :
    (k0_pay126 (F := Ideal) (k0_pay15 (k0_pay1 (ld4 x0 k)) (ld45 x1 k))) y = B20 x0 x1 ((Rect.unit (s := S1x8x4x64x256) (k0_off72 k) S1x1x1x64x256.size (k0_off72_inb k)).emb y) :=
  val20 x0 x1 k 7 (by omega) (fun v47 => (k0_pay126 (F := Ideal) v47)) (by intro v47 d q; pointwise [k0_pay126]) _ (by intro d q; blk_ext [k0_off72_eq, tOf, rowT]) y

end

theorem pc21_0 (x0 : Vec Ideal S1x1024x1024 .f32) (x1 : Vec Ideal S3456x1024 .bf16) (k : Fin k0_t1_loop.trips) (y : S1x1x512x256.Idx) :
    (k0_pay127 (F := Ideal) (k0_pay5 (ld4 x0 k) (ld16 x1 k))) y = (fun y : S1x4x512x256.Idx => PT x0 x1 (rowT (y 1) (y 3)) ⟨896 + (y 2).val, by have : (y 2).val < 512 := (y 2).isLt; omega⟩) ((Rect.unit (s := S1x4x512x256) (k0_off73 k) S1x1x512x256.size (k0_off73_inb k)).emb y) := by
  obtain ⟨r, q, rfl⟩ := split_w y
  have e : (Rect.unit (s := S1x4x512x256) (k0_off73 k) S1x1x512x256.size (k0_off73_inb k)).emb (ix4 0 0 r q : S1x1x512x256.Idx) = (ix4 0 (tOf k) r q : S1x4x512x256.Idx) := by
    blk_ext [k0_off73_eq, tOf, rowT]
  refine Eq.trans ?_ (congrArg (fun y : S1x4x512x256.Idx => PT x0 x1 (rowT (y 1) (y 3)) ⟨896 + (y 2).val, by have : (y 2).val < 512 := (y 2).isLt; omega⟩) e).symm
  have h : ∀ (w : FVec Ideal S512x256 .f32), (k0_pay127 (F := Ideal) w) (ix4 0 0 r q) = w (ix2 r q) := by
    intro w
    pointwise [k0_pay127]
  refine (h _).trans ?_
  rw [pay5_val]
  rfl

theorem pc22_0 (x0 : Vec Ideal S1x1024x1024 .f32) (x1 : Vec Ideal S3456x1024 .bf16) (k : Fin k0_t1_loop.trips) (y : S1x1x512x256.Idx) :
    (k0_pay128 (F := Ideal) (k0_pay16 (k0_pay1 (ld4 x0 k)) (ld48 x1 k))) y = (fun y : S1x4x512x256.Idx => PT x0 x1 (rowT (y 1) (y 3)) ⟨2432 + (y 2).val, by have : (y 2).val < 512 := (y 2).isLt; omega⟩) ((Rect.unit (s := S1x4x512x256) (k0_off73 k) S1x1x512x256.size (k0_off73_inb k)).emb y) := by
  obtain ⟨r, q, rfl⟩ := split_w y
  have e : (Rect.unit (s := S1x4x512x256) (k0_off73 k) S1x1x512x256.size (k0_off73_inb k)).emb (ix4 0 0 r q : S1x1x512x256.Idx) = (ix4 0 (tOf k) r q : S1x4x512x256.Idx) := by
    blk_ext [k0_off73_eq, tOf, rowT]
  refine Eq.trans ?_ (congrArg (fun y : S1x4x512x256.Idx => PT x0 x1 (rowT (y 1) (y 3)) ⟨2432 + (y 2).val, by have : (y 2).val < 512 := (y 2).isLt; omega⟩) e).symm
  have h : ∀ (w : FVec Ideal S512x256 .f32), (k0_pay128 (F := Ideal) w) (ix4 0 0 r q) = w (ix2 r q) := by
    intro w
    pointwise [k0_pay128]
  refine (h _).trans ?_
  rw [pay16_val]
  rfl

theorem pc23_0 (x0 : Vec Ideal S1x1024x1024 .f32) (x1 : Vec Ideal S3456x1024 .bf16) (x13 : Vec Ideal S1x256x512 .bf16) (x14 : Vec Ideal S1x512x256 .bf16) (k : Fin k0_t1_loop.trips) (y : S1x1x128x256.Idx) :
    (k0_pay21 (F := Ideal) (k0_pay18 (k0_pay7 (ld21 x14 k)) (k0_pay8 (ld4 x0 k) (ld7 x1 k) (ld19 x13 k))) (k0_pay19 (k0_pay1 (ld4 x0 k)) (ld51 x1 k)) (k0_pay20 (k0_pay1 (ld4 x0 k)) (ld51 x1 k))) y = (fun y : S1x4x512x256.Idx => G23 x0 x1 x13 x14 (y 1) (y 2) (y 3)) ((Rect.unit (s := S1x4x512x256) (k0_off2 k) S1x1x128x256.size (k0_off2_inb k)).emb y) := by
  obtain ⟨d, q, rfl⟩ := split_m y
  have e : (Rect.unit (s := S1x4x512x256) (k0_off2 k) S1x1x128x256.size (k0_off2_inb k)).emb (ix4 0 0 d q : S1x1x128x256.Idx) = (ix4 0 (tOf k) ⟨128 * 0 + d.val, by omega⟩ q : S1x4x512x256.Idx) := by
    blk_ext [k0_off2_eq, tOf, rowT]
  refine Eq.trans ?_ (congrArg (fun y : S1x4x512x256.Idx => G23 x0 x1 x13 x14 (y 1) (y 2) (y 3)) e).symm
  have h : ∀ (sc : FVec Ideal S256x256 .f32) (v21 : Vec Ideal S1x512x256 .bf16) (v6 : FVec Ideal S256x1024 .bf16) (v51 : Vec Ideal S512x1024 .bf16),
      (k0_pay21 (F := Ideal) (k0_pay18 (k0_pay7 v21) sc) (k0_pay19 v6 v51) (k0_pay20 v6 v51)) (ix4 0 0 d q) = memK (fun m => sc (ix2 m q) * ISD) (fun m => v21 (ix3 0 ⟨128 * 0 + d.val, by omega⟩ m))
        * silu (k0_pay17 (F := Ideal) v6 v51 (ix2 ⟨128 * 0 + d.val, by omega⟩ q)) := by
    intro sc v21 v6 v51
    unfold memK top silu sg ISD
    rw [← zero_sub]
    pointwise [k0_pay21, k0_pay18, k0_pay7, k0_pay19, k0_pay20]
  refine (h _ (ld21 x14 k) _ (ld51 x1 k)).trans ?_
  rw [pay17_val]
  simp only [sc0_val, ld21_apply]
  exact (G23_a x0 x1 x13 x14 (tOf k) 0 d q).symm

theorem pc23_1 (x0 : Vec Ideal S1x1024x1024 .f32) (x1 : Vec Ideal S3456x1024 .bf16) (x13 : Vec Ideal S1x256x512 .bf16) (x14 : Vec Ideal S1x512x256 .bf16) (k : Fin k0_t1_loop.trips) (y : S1x1x128x256.Idx) :
    (k0_pay22 (F := Ideal) (k0_pay7 (ld21 x14 k)) (k0_pay9 (ld4 x0 k) (ld7 x1 k) (ld19 x13 k)) (k0_pay17 (k0_pay1 (ld4 x0 k)) (ld51 x1 k))) y = (fun y : S1x4x512x256.Idx => G23 x0 x1 x13 x14 (y 1) (y 2) (y 3)) ((Rect.unit (s := S1x4x512x256) (k0_off3 k) S1x1x128x256.size (k0_off3_inb k)).emb y) := by
  obtain ⟨d, q, rfl⟩ := split_m y
  have e : (Rect.unit (s := S1x4x512x256) (k0_off3 k) S1x1x128x256.size (k0_off3_inb k)).emb (ix4 0 0 d q : S1x1x128x256.Idx) = (ix4 0 (tOf k) ⟨128 * 1 + d.val, by omega⟩ q : S1x4x512x256.Idx) := by
    blk_ext [k0_off3_eq, tOf, rowT]
  refine Eq.trans ?_ (congrArg (fun y : S1x4x512x256.Idx => G23 x0 x1 x13 x14 (y 1) (y 2) (y 3)) e).symm
  have h : ∀ (sc : FVec Ideal S256x256 .f32) (v21 : Vec Ideal S1x512x256 .bf16) (v6 : FVec Ideal S256x1024 .bf16) (v51 : Vec Ideal S512x1024 .bf16),
      (k0_pay22 (F := Ideal) (k0_pay7 v21) sc (k0_pay17 v6 v51)) (ix4 0 0 d q) = memK (fun m => sc (ix2 m q) * ISD) (fun m => v21 (ix3 0 ⟨128 * 1 + d.val, by omega⟩ m))
        * silu (k0_pay17 (F := Ideal) v6 v51 (ix2 ⟨128 * 1 + d.val, by omega⟩ q)) := by
    intro sc v21 v6 v51
    unfold memK top silu sg ISD
    rw [← zero_sub]
    pointwise [k0_pay22, k0_pay7]
  refine (h _ (ld21 x14 k) _ (ld51 x1 k)).trans ?_
  rw [pay17_val]
  simp only [sc1_val, ld21_apply]
  exact (G23_a x0 x1 x13 x14 (tOf k) 1 d q).symm

theorem pc23_2 (x0 : Vec Ideal S1x1024x1024 .f32) (x1 : Vec Ideal S3456x1024 .bf16) (x13 : Vec Ideal S1x256x512 .bf16) (x14 : Vec Ideal S1x512x256 .bf16) (k : Fin k0_t1_loop.trips) (y : S1x1x128x256.Idx) :
    (k0_pay23 (F := Ideal) (k0_pay7 (ld21 x14 k)) (k0_pay10 (ld4 x0 k) (ld10 x1 k) (ld19 x13 k)) (k0_pay17 (k0_pay1 (ld4 x0 k)) (ld51 x1 k))) y = (fun y : S1x4x512x256.Idx => G23 x0 x1 x13 x14 (y 1) (y 2) (y 3)) ((Rect.unit (s := S1x4x512x256) (k0_off4 k) S1x1x128x256.size (k0_off4_inb k)).emb y) := by
  obtain ⟨d, q, rfl⟩ := split_m y
  have e : (Rect.unit (s := S1x4x512x256) (k0_off4 k) S1x1x128x256.size (k0_off4_inb k)).emb (ix4 0 0 d q : S1x1x128x256.Idx) = (ix4 0 (tOf k) ⟨128 * 2 + d.val, by omega⟩ q : S1x4x512x256.Idx) := by
    blk_ext [k0_off4_eq, tOf, rowT]
  refine Eq.trans ?_ (congrArg (fun y : S1x4x512x256.Idx => G23 x0 x1 x13 x14 (y 1) (y 2) (y 3)) e).symm
  have h : ∀ (sc : FVec Ideal S256x256 .f32) (v21 : Vec Ideal S1x512x256 .bf16) (v6 : FVec Ideal S256x1024 .bf16) (v51 : Vec Ideal S512x1024 .bf16),
      (k0_pay23 (F := Ideal) (k0_pay7 v21) sc (k0_pay17 v6 v51)) (ix4 0 0 d q) = memK (fun m => sc (ix2 m q) * ISD) (fun m => v21 (ix3 0 ⟨128 * 2 + d.val, by omega⟩ m))
        * silu (k0_pay17 (F := Ideal) v6 v51 (ix2 ⟨128 * 2 + d.val, by omega⟩ q)) := by
    intro sc v21 v6 v51
    unfold memK top silu sg ISD
    rw [← zero_sub]
    pointwise [k0_pay23, k0_pay7]
  refine (h _ (ld21 x14 k) _ (ld51 x1 k)).trans ?_
  rw [pay17_val]
  simp only [sc2_val, ld21_apply]
  exact (G23_a x0 x1 x13 x14 (tOf k) 2 d q).symm

theorem pc23_3 (x0 : Vec Ideal S1x1024x1024 .f32) (x1 : Vec Ideal S3456x1024 .bf16) (x13 : Vec Ideal S1x256x512 .bf16) (x14 : Vec Ideal S1x512x256 .bf16) (k : Fin k0_t1_loop.trips) (y : S1x1x128x256.Idx) :
    (k0_pay28 (F := Ideal) (k0_pay17 (k0_pay1 (ld4 x0 k)) (ld51 x1 k)) (k0_pay25 (k0_pay12 (k0_pay6 (ld19 x13 k)) (k0_pay11 (ld4 x0 k) (ld10 x1 k)))) (k0_pay26 (k0_pay7 (ld21 x14 k))) (k0_pay27 (k0_pay12 (k0_pay6 (ld19 x13 k)) (k0_pay11 (ld4 x0 k) (ld10 x1 k))))) y = (fun y : S1x4x512x256.Idx => G23 x0 x1 x13 x14 (y 1) (y 2) (y 3)) ((Rect.unit (s := S1x4x512x256) (k0_off5 k) S1x1x128x256.size (k0_off5_inb k)).emb y) := by
  obtain ⟨d, q, rfl⟩ := split_m y
  have e : (Rect.unit (s := S1x4x512x256) (k0_off5 k) S1x1x128x256.size (k0_off5_inb k)).emb (ix4 0 0 d q : S1x1x128x256.Idx) = (ix4 0 (tOf k) ⟨128 * 3 + d.val, by omega⟩ q : S1x4x512x256.Idx) := by
    blk_ext [k0_off5_eq, tOf, rowT]
  refine Eq.trans ?_ (congrArg (fun y : S1x4x512x256.Idx => G23 x0 x1 x13 x14 (y 1) (y 2) (y 3)) e).symm
  have h : ∀ (sc : FVec Ideal S256x256 .f32) (v21 : Vec Ideal S1x512x256 .bf16) (v6 : FVec Ideal S256x1024 .bf16) (v51 : Vec Ideal S512x1024 .bf16),
      (k0_pay28 (F := Ideal) (k0_pay17 v6 v51) (k0_pay25 sc) (k0_pay26 (k0_pay7 v21)) (k0_pay27 sc)) (ix4 0 0 d q) = memK (fun m => sc (ix2 m q) * ISD) (fun m => v21 (ix3 0 ⟨128 * 3 + d.val, by omega⟩ m))
        * silu (k0_pay17 (F := Ideal) v6 v51 (ix2 ⟨128 * 3 + d.val, by omega⟩ q)) := by
    intro sc v21 v6 v51
    unfold memK top silu sg ISD
    rw [← zero_sub]
    pointwise [k0_pay28, k0_pay25, k0_pay24, k0_pay26, k0_pay7, k0_pay27]
  refine (h _ (ld21 x14 k) _ (ld51 x1 k)).trans ?_
  rw [pay17_val]
  simp only [sc3_val, ld21_apply]
  exact (G23_a x0 x1 x13 x14 (tOf k) 3 d q).symm

end Cert.Kernel3Ideal.In

end
-- ==== Proof.In.Out.lean ====
/-
  What the input projection's body leaves in each of its nine blocks.
-/
module

public import proofs.«01_k».proof.Proof.Gen.Kernel3Ideal.Frame
public import proofs.«01_k».proof.Proof.In.Trip
public import proofs.«01_k».proof.Proof.In.PieceB
public import Idealize.ShloMosaic.Lib.WholeRead

@[expose] public section

set_option maxRecDepth 16384

noncomputable section

namespace Cert.Kernel3Ideal.In

open Idealize.ShloMosaic Idealize.ShloMosaic.TcCoe
open Cert.Kernel3Ideal.Gen Cert.ObCore Cert.InCore
open scoped BigOperators

section Pieces

variable {F : FTy → Type} [FloatOps F] [Named F]

variable (c : Dev nD) (i : grid0.Coords) (arg2 : Memref sig .tc .vmem S1x1024x1024 .f32) (harg2 : arg2.IsWhole) (arg3 : Memref sig .tc .vmem S3456x1024 .bf16) (harg3 : arg3.IsWhole) (arg4 : Memref sig .tc .vmem S1024x768 .bf16) (harg4 : arg4.IsWhole) (arg5 : Memref sig .tc .vmem S256x1 .f32) (harg5 : arg5.IsWhole) (arg6 : Memref sig .tc .vmem S128x1 .f32) (harg6 : arg6.IsWhole) (arg7 : Memref sig .tc .vmem S1x128 .f32) (harg7 : arg7.IsWhole) (arg8 : Memref sig .tc .vmem S768x256 .bf16) (harg8 : arg8.IsWhole) (arg9 : Memref sig .tc .vmem S512x128 .bf16) (harg9 : arg9.IsWhole) (arg10 : Memref sig .tc .vmem S256x1024 .bf16) (harg10 : arg10.IsWhole) (arg11 : Memref sig .tc .vmem S4x128x256 .f32) (harg11 : arg11.IsWhole) (arg12 : Memref sig .tc .vmem S4x128x256 .f32) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1x256x512 .bf16) (harg15 : arg15.IsWhole) (arg16 : Memref sig .tc .vmem S1x512x256 .bf16) (harg16 : arg16.IsWhole) (arg17 : Memref sig .tc .vmem S1x8x4x128x256 .bf16) (harg17 : arg17.IsWhole) (arg18 : Memref sig .tc .vmem S1x1024x1024 .bf16) (harg18 : arg18.IsWhole) (arg19 : Memref sig .tc .vmem S1x8x4x80x256 .bf16) (harg19 : arg19.IsWhole) (arg20 : Memref sig .tc .vmem S1x8x4x128x256 .bf16) (harg20 : arg20.IsWhole) (arg21 : Memref sig .tc .vmem S1x1024x512 .bf16) (harg21 : arg21.IsWhole) (arg22 : Memref sig .tc .vmem S1x8x4x64x256 .bf16) (harg22 : arg22.IsWhole) (arg23 : Memref sig .tc .vmem S1x4x512x256 .f32) (harg23 : arg23.IsWhole) (arg24 : Memref sig .tc .vmem S1x4x512x256 .f32) (harg24 : arg24.IsWhole) (arg25 : Memref sig .tc .vmem S1x4x512x256 .bf16) (harg25 : arg25.IsWhole)
  (x0 : Vec F S1x1024x1024 .f32) (x1 : Vec F S3456x1024 .bf16) (x2 : Vec F S1024x768 .bf16) (x3 : Vec F S256x1 .f32) (x4 : Vec F S128x1 .f32) (x5 : Vec F S1x128 .f32) (x6 : Vec F S768x256 .bf16) (x7 : Vec F S512x128 .bf16) (x8 : Vec F S256x1024 .bf16) (x9 : Vec F S4x128x256 .f32) (x10 : Vec F S4x128x256 .f32) (x11 : Vec F S1024x128 .f32) (x12 : Vec F S1024x128 .f32) (x13 : Vec F S1x256x512 .bf16) (x14 : Vec F S1x512x256 .bf16)

/-- The lists of pieces of the nine blocks. -/
abbrev Nine (F : FTy → Type) [FloatOps F] [Named F] : Type :=
  List (View.Piece (Elt F) S1x8x4x128x256 .bf16) × List (View.Piece (Elt F) S1x1024x1024 .bf16) × List (View.Piece (Elt F) S1x8x4x80x256 .bf16) × List (View.Piece (Elt F) S1x8x4x128x256 .bf16) × List (View.Piece (Elt F) S1x1024x512 .bf16) × List (View.Piece (Elt F) S1x8x4x64x256 .bf16) × List (View.Piece (Elt F) S1x4x512x256 .f32) × List (View.Piece (Elt F) S1x4x512x256 .f32) × List (View.Piece (Elt F) S1x4x512x256 .bf16)

/-- Every piece of the nine lists is a piece of some trip's. -/
structure From {T : ℕ} (a : Nine F) (t : Fin T → Nine F) : Prop where
  m15 : ∀ p ∈ a.1, ∃ k, p ∈ (t k).1
  m16 : ∀ p ∈ a.2.1, ∃ k, p ∈ (t k).2.1
  m17 : ∀ p ∈ a.2.2.1, ∃ k, p ∈ (t k).2.2.1
  m18 : ∀ p ∈ a.2.2.2.1, ∃ k, p ∈ (t k).2.2.2.1
  m19 : ∀ p ∈ a.2.2.2.2.1, ∃ k, p ∈ (t k).2.2.2.2.1
  m20 : ∀ p ∈ a.2.2.2.2.2.1, ∃ k, p ∈ (t k).2.2.2.2.2.1
  m21 : ∀ p ∈ a.2.2.2.2.2.2.1, ∃ k, p ∈ (t k).2.2.2.2.2.2.1
  m22 : ∀ p ∈ a.2.2.2.2.2.2.2.1, ∃ k, p ∈ (t k).2.2.2.2.2.2.2.1
  m23 : ∀ p ∈ a.2.2.2.2.2.2.2.2, ∃ k, p ∈ (t k).2.2.2.2.2.2.2.2

theorem From.nil {T : ℕ} (t : Fin T → Nine F) : From (([], [], [], [], [], [], [], [], []) : Nine F) t := by
  constructor <;> exact fun p hp => absurd hp List.not_mem_nil

theorem From.cons {T : ℕ} {a b : Nine F} {t : Fin T → Nine F} (h : From a t) (k : Fin T)
    (e : b = ((t k).1 ++ a.1, (t k).2.1 ++ a.2.1, (t k).2.2.1 ++ a.2.2.1, (t k).2.2.2.1 ++ a.2.2.2.1, (t k).2.2.2.2.1 ++ a.2.2.2.2.1, (t k).2.2.2.2.2.1 ++ a.2.2.2.2.2.1, (t k).2.2.2.2.2.2.1 ++ a.2.2.2.2.2.2.1, (t k).2.2.2.2.2.2.2.1 ++ a.2.2.2.2.2.2.2.1, (t k).2.2.2.2.2.2.2.2 ++ a.2.2.2.2.2.2.2.2)) : From b t := by
  subst e
  exact ⟨fun p hp => (List.mem_append.mp hp).elim (fun h => ⟨k, h⟩) (h.m15 p), fun p hp => (List.mem_append.mp hp).elim (fun h => ⟨k, h⟩) (h.m16 p), fun p hp => (List.mem_append.mp hp).elim (fun h => ⟨k, h⟩) (h.m17 p), fun p hp => (List.mem_append.mp hp).elim (fun h => ⟨k, h⟩) (h.m18 p), fun p hp => (List.mem_append.mp hp).elim (fun h => ⟨k, h⟩) (h.m19 p), fun p hp => (List.mem_append.mp hp).elim (fun h => ⟨k, h⟩) (h.m20 p), fun p hp => (List.mem_append.mp hp).elim (fun h => ⟨k, h⟩) (h.m21 p), fun p hp => (List.mem_append.mp hp).elim (fun h => ⟨k, h⟩) (h.m22 p), fun p hp => (List.mem_append.mp hp).elim (fun h => ⟨k, h⟩) (h.m23 p)⟩

theorem pieces_from (n : ℕ) (hn : n ≤ k0_t1_loop.trips) :
    From (F := F) (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 (harg2.unread x0) (harg3.unread x1) (harg4.unread x2) (harg5.unread x3) (harg6.unread x4) (harg7.unread x5) (harg8.unread x6) (harg9.unread x7) (harg10.unread x8) (harg11.unread x9) (harg12.unread x10) (harg13.unread x11) (harg14.unread x12) (harg15.unread x13) (harg16.unread x14) n) (tripL_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 (harg2.unread x0) (harg3.unread x1) (harg4.unread x2) (harg5.unread x3) (harg6.unread x4) (harg7.unread x5) (harg8.unread x6) (harg9.unread x7) (harg10.unread x8) (harg11.unread x9) (harg12.unread x10) (harg13.unread x11) (harg14.unread x12) (harg15.unread x13) (harg16.unread x14)) := by
  induction n with
  | zero => exact From.nil _
  | succ n ih =>
    have h := pb_k0_t1_succ (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 (harg2.unread x0) (harg3.unread x1) (harg4.unread x2) (harg5.unread x3) (harg6.unread x4) (harg7.unread x5) (harg8.unread x6) (harg9.unread x7) (harg10.unread x8) (harg11.unread x9) (harg12.unread x10) (harg13.unread x11) (harg14.unread x12) (harg15.unread x13) (harg16.unread x14) ⟨n, hn⟩
    rw [h]
    exact (ih (by omega)).cons ⟨n, hn⟩ rfl

theorem run_from : From (F := F) ((fun r => (r.1, r.2.1, r.2.2.1, r.2.2.2.1, r.2.2.2.2.1, r.2.2.2.2.2.1, r.2.2.2.2.2.2.1, r.2.2.2.2.2.2.2.1, r.2.2.2.2.2.2.2.2.1)) (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14)) (tripL_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 (harg2.unread x0) (harg3.unread x1) (harg4.unread x2) (harg5.unread x3) (harg6.unread x4) (harg7.unread x5) (harg8.unread x6) (harg9.unread x7) (harg10.unread x8) (harg11.unread x9) (harg12.unread x10) (harg13.unread x11) (harg14.unread x12) (harg15.unread x13) (harg16.unread x14)) := by
  unfold kernelRun0_A
  exact pieces_from (hn := by decide +kernel) ..

end Pieces

section Blocks

variable (c : Dev nD) (i : grid0.Coords) (arg2 : Memref sig .tc .vmem S1x1024x1024 .f32) (harg2 : arg2.IsWhole) (arg3 : Memref sig .tc .vmem S3456x1024 .bf16) (harg3 : arg3.IsWhole) (arg4 : Memref sig .tc .vmem S1024x768 .bf16) (harg4 : arg4.IsWhole) (arg5 : Memref sig .tc .vmem S256x1 .f32) (harg5 : arg5.IsWhole) (arg6 : Memref sig .tc .vmem S128x1 .f32) (harg6 : arg6.IsWhole) (arg7 : Memref sig .tc .vmem S1x128 .f32) (harg7 : arg7.IsWhole) (arg8 : Memref sig .tc .vmem S768x256 .bf16) (harg8 : arg8.IsWhole) (arg9 : Memref sig .tc .vmem S512x128 .bf16) (harg9 : arg9.IsWhole) (arg10 : Memref sig .tc .vmem S256x1024 .bf16) (harg10 : arg10.IsWhole) (arg11 : Memref sig .tc .vmem S4x128x256 .f32) (harg11 : arg11.IsWhole) (arg12 : Memref sig .tc .vmem S4x128x256 .f32) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1x256x512 .bf16) (harg15 : arg15.IsWhole) (arg16 : Memref sig .tc .vmem S1x512x256 .bf16) (harg16 : arg16.IsWhole) (arg17 : Memref sig .tc .vmem S1x8x4x128x256 .bf16) (harg17 : arg17.IsWhole) (arg18 : Memref sig .tc .vmem S1x1024x1024 .bf16) (harg18 : arg18.IsWhole) (arg19 : Memref sig .tc .vmem S1x8x4x80x256 .bf16) (harg19 : arg19.IsWhole) (arg20 : Memref sig .tc .vmem S1x8x4x128x256 .bf16) (harg20 : arg20.IsWhole) (arg21 : Memref sig .tc .vmem S1x1024x512 .bf16) (harg21 : arg21.IsWhole) (arg22 : Memref sig .tc .vmem S1x8x4x64x256 .bf16) (harg22 : arg22.IsWhole) (arg23 : Memref sig .tc .vmem S1x4x512x256 .f32) (harg23 : arg23.IsWhole) (arg24 : Memref sig .tc .vmem S1x4x512x256 .f32) (harg24 : arg24.IsWhole) (arg25 : Memref sig .tc .vmem S1x4x512x256 .bf16) (harg25 : arg25.IsWhole)
  (x0 : Vec Ideal S1x1024x1024 .f32) (x1 : Vec Ideal S3456x1024 .bf16) (x2 : Vec Ideal S1024x768 .bf16) (x3 : Vec Ideal S256x1 .f32) (x4 : Vec Ideal S128x1 .f32) (x5 : Vec Ideal S1x128 .f32) (x6 : Vec Ideal S768x256 .bf16) (x7 : Vec Ideal S512x128 .bf16) (x8 : Vec Ideal S256x1024 .bf16) (x9 : Vec Ideal S4x128x256 .f32) (x10 : Vec Ideal S4x128x256 .f32) (x11 : Vec Ideal S1024x128 .f32) (x12 : Vec Ideal S1024x128 .f32) (x13 : Vec Ideal S1x256x512 .bf16) (x14 : Vec Ideal S1x512x256 .bf16)

theorem trips' (k : Fin k0_t1_loop.trips) :
    tripL_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 (harg2.unread x0) (harg3.unread x1) (harg4.unread x2) (harg5.unread x3) (harg6.unread x4) (harg7.unread x5) (harg8.unread x6) (harg9.unread x7) (harg10.unread x8) (harg11.unread x9) (harg12.unread x10) (harg13.unread x11) (harg14.unread x12) (harg15.unread x13) (harg16.unread x14) k
      = (ps15 k (ld4 x0 k) (ld13 x1 k) (ld189 x3 k) (ld193 x6 k) (ld200 x9 k) (ld203 x10 k),
        ps16 k (ld4 x0 k) (ld39 x2 k) (ld512 x5 k) (ld518 x11 k) (ld523 x12 k) (ld530 x8 k),
        ps17 k (ld4 x0 k) (ld13 x1 k) (ld406 x4 k) (ld410 x7 k),
        ps18 k (ld4 x0 k) (ld42 x1 k),
        ps19 k (ld4 x0 k) (ld39 x2 k),
        ps20 k (ld4 x0 k) (ld45 x1 k),
        ps21 k (ld4 x0 k) (ld16 x1 k),
        ps22 k (ld4 x0 k) (ld48 x1 k),
        ps23 k (ld4 x0 k) (ld7 x1 k) (ld10 x1 k) (ld19 x13 k) (ld21 x14 k) (ld51 x1 k)) := by
  refine (trips ..).trans ?_
  rw [show (View.readAt (Elt Ideal) arg2.view (Rect.unit (s := S1x1024x1024) (k0_off1 k) S1x256x1024.size (k0_off1_inb k)).toLoadRect (harg2.unread x0)) = ld4 x0 k from funext fun y => harg2.readAt_unread x0 _ y,
    show (View.readAt (Elt Ideal) arg3.view (Rect.unit (s := S3456x1024) ![512, 0] S384x1024.size inb_S3456x1024_S384x1024_512_0).toLoadRect (harg3.unread x1)) = ld13 x1 k from funext fun y => harg3.readAt_unread x1 _ y,
    show (View.readAt (Elt Ideal) arg5.view (Rect.unit (s := S256x1) ![0, 0] S256x1.size inb_S256x1_S256x1_0_0).toLoadRect (harg5.unread x3)) = ld189 x3 k from funext fun y => harg5.readAt_unread x3 _ y,
    show (View.readAt (Elt Ideal) arg8.view (Rect.unit (s := S768x256) ![0, 0] S768x256.size inb_S768x256_S768x256_0_0).toLoadRect (harg8.unread x6)) = ld193 x6 k from funext fun y => harg8.readAt_unread x6 _ y,
    show (View.readAt (Elt Ideal) arg11.view (Rect.unit (s := S4x128x256) (k0_off6 k) S1x128x256.size (k0_off6_inb k)).toLoadRect (harg11.unread x9)) = ld200 x9 k from funext fun y => harg11.readAt_unread x9 _ y,
    show (View.readAt (Elt Ideal) arg12.view (Rect.unit (s := S4x128x256) (k0_off6 k) S1x128x256.size (k0_off6_inb k)).toLoadRect (harg12.unread x10)) = ld203 x10 k from funext fun y => harg12.readAt_unread x10 _ y,
    show (View.readAt (Elt Ideal) arg4.view (Rect.unit (s := S1024x768) ![0, 0] S1024x768.size inb_S1024x768_S1024x768_0_0).toLoadRect (harg4.unread x2)) = ld39 x2 k from funext fun y => harg4.readAt_unread x2 _ y,
    show (View.readAt (Elt Ideal) arg7.view (Rect.unit (s := S1x128) ![0, 0] S1x128.size inb_S1x128_S1x128_0_0).toLoadRect (harg7.unread x5)) = ld512 x5 k from funext fun y => harg7.readAt_unread x5 _ y,
    show (View.readAt (Elt Ideal) arg13.view (Rect.unit (s := S1024x128) (k0_off55 k) S256x128.size (k0_off55_inb k)).toLoadRect (harg13.unread x11)) = ld518 x11 k from funext fun y => harg13.readAt_unread x11 _ y,
    show (View.readAt (Elt Ideal) arg14.view (Rect.unit (s := S1024x128) (k0_off55 k) S256x128.size (k0_off55_inb k)).toLoadRect (harg14.unread x12)) = ld523 x12 k from funext fun y => harg14.readAt_unread x12 _ y,
    show (View.readAt (Elt Ideal) arg10.view (Rect.unit (s := S256x1024) ![0, 0] S256x1024.size inb_S256x1024_S256x1024_0_0).toLoadRect (harg10.unread x8)) = ld530 x8 k from funext fun y => harg10.readAt_unread x8 _ y,
    show (View.readAt (Elt Ideal) arg6.view (Rect.unit (s := S128x1) ![0, 0] S128x1.size inb_S128x1_S128x1_0_0).toLoadRect (harg6.unread x4)) = ld406 x4 k from funext fun y => harg6.readAt_unread x4 _ y,
    show (View.readAt (Elt Ideal) arg9.view (Rect.unit (s := S512x128) ![0, 0] S512x128.size inb_S512x128_S512x128_0_0).toLoadRect (harg9.unread x7)) = ld410 x7 k from funext fun y => harg9.readAt_unread x7 _ y,
    show (View.readAt (Elt Ideal) arg3.view (Rect.unit (s := S3456x1024) ![1408, 0] S512x1024.size inb_S3456x1024_S512x1024_1408_0).toLoadRect (harg3.unread x1)) = ld42 x1 k from funext fun y => harg3.readAt_unread x1 _ y,
    show (View.readAt (Elt Ideal) arg3.view (Rect.unit (s := S3456x1024) ![1920, 0] S512x1024.size inb_S3456x1024_S512x1024_1920_0).toLoadRect (harg3.unread x1)) = ld45 x1 k from funext fun y => harg3.readAt_unread x1 _ y,
    show (View.readAt (Elt Ideal) arg3.view (Rect.unit (s := S3456x1024) ![896, 0] S512x1024.size inb_S3456x1024_S512x1024_896_0).toLoadRect (harg3.unread x1)) = ld16 x1 k from funext fun y => harg3.readAt_unread x1 _ y,
    show (View.readAt (Elt Ideal) arg3.view (Rect.unit (s := S3456x1024) ![2432, 0] S512x1024.size inb_S3456x1024_S512x1024_2432_0).toLoadRect (harg3.unread x1)) = ld48 x1 k from funext fun y => harg3.readAt_unread x1 _ y,
    show (View.readAt (Elt Ideal) arg3.view (Rect.unit (s := S3456x1024) ![0, 0] S256x1024.size inb_S3456x1024_S256x1024_0_0).toLoadRect (harg3.unread x1)) = ld7 x1 k from funext fun y => harg3.readAt_unread x1 _ y,
    show (View.readAt (Elt Ideal) arg3.view (Rect.unit (s := S3456x1024) ![256, 0] S256x1024.size inb_S3456x1024_S256x1024_256_0).toLoadRect (harg3.unread x1)) = ld10 x1 k from funext fun y => harg3.readAt_unread x1 _ y,
    show (View.readAt (Elt Ideal) arg15.view (Rect.unit (s := S1x256x512) ![0, 0, 0] S1x256x512.size inb_S1x256x512_S1x256x512_0_0_0).toLoadRect (harg15.unread x13)) = ld19 x13 k from funext fun y => harg15.readAt_unread x13 _ y,
    show (View.readAt (Elt Ideal) arg16.view (Rect.unit (s := S1x512x256) ![0, 0, 0] S1x512x256.size inb_S1x512x256_S1x512x256_0_0_0).toLoadRect (harg16.unread x14)) = ld21 x14 k from funext fun y => harg16.readAt_unread x14 _ y,
    show (View.readAt (Elt Ideal) arg3.view (Rect.unit (s := S3456x1024) ![2944, 0] S512x1024.size inb_S3456x1024_S512x1024_2944_0).toLoadRect (harg3.unread x1)) = ld51 x1 k from funext fun y => harg3.readAt_unread x1 _ y]

theorem out15_apply (y : S1x8x4x128x256.Idx) :
    out0_A_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 y = (fun y : S1x8x4x128x256.Idx => G15 x0 x1 x3 x6 x9 x10 (y 1) (y 2) (y 3) (y 4)) y := by
  unfold out0_A_15
  refine View.read_writes_apply_of_pieces (Val := Elt Ideal) VO0_15 _ (fun y : S1x8x4x128x256.Idx => G15 x0 x1 x3 x6 x9 x10 (y 1) (y 2) (y 3) (y 4)) _ ?_ _ (cover0_A_15 ..)
  intro pc hpc
  obtain ⟨k, hk⟩ := (run_from ..).m15 _ hpc
  rw [trips'] at hk
  dsimp only at hk
  unfold ps15 at hk
  simp only [List.mem_cons, List.not_mem_nil, or_false] at hk
  rcases hk with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  exacts [pc15_31 x0 x1 x3 x6 x9 x10 k, pc15_30 x0 x1 x3 x6 x9 x10 k, pc15_29 x0 x1 x3 x6 x9 x10 k, pc15_28 x0 x1 x3 x6 x9 x10 k, pc15_27 x0 x1 x3 x6 x9 x10 k, pc15_26 x0 x1 x3 x6 x9 x10 k, pc15_25 x0 x1 x3 x6 x9 x10 k, pc15_24 x0 x1 x3 x6 x9 x10 k, pc15_23 x0 x1 x3 x6 x9 x10 k, pc15_22 x0 x1 x3 x6 x9 x10 k, pc15_21 x0 x1 x3 x6 x9 x10 k, pc15_20 x0 x1 x3 x6 x9 x10 k, pc15_19 x0 x1 x3 x6 x9 x10 k, pc15_18 x0 x1 x3 x6 x9 x10 k, pc15_17 x0 x1 x3 x6 x9 x10 k, pc15_16 x0 x1 x3 x6 x9 x10 k, pc15_15 x0 x1 x3 x6 x9 x10 k, pc15_14 x0 x1 x3 x6 x9 x10 k, pc15_13 x0 x1 x3 x6 x9 x10 k, pc15_12 x0 x1 x3 x6 x9 x10 k, pc15_11 x0 x1 x3 x6 x9 x10 k, pc15_10 x0 x1 x3 x6 x9 x10 k, pc15_9 x0 x1 x3 x6 x9 x10 k, pc15_8 x0 x1 x3 x6 x9 x10 k, pc15_7 x0 x1 x3 x6 x9 x10 k, pc15_6 x0 x1 x3 x6 x9 x10 k, pc15_5 x0 x1 x3 x6 x9 x10 k, pc15_4 x0 x1 x3 x6 x9 x10 k, pc15_3 x0 x1 x3 x6 x9 x10 k, pc15_2 x0 x1 x3 x6 x9 x10 k, pc15_1 x0 x1 x3 x6 x9 x10 k, pc15_0 x0 x1 x3 x6 x9 x10 k]

theorem out16_apply (y : S1x1024x1024.Idx) :
    out0_A_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 y = (fun y : S1x1024x1024.Idx => G16 x0 x2 x5 x8 x11 x12 (y 1) (y 2)) y := by
  unfold out0_A_16
  refine View.read_writes_apply_of_pieces (Val := Elt Ideal) VO0_16 _ (fun y : S1x1024x1024.Idx => G16 x0 x2 x5 x8 x11 x12 (y 1) (y 2)) _ ?_ _ (cover0_A_16 ..)
  intro pc hpc
  obtain ⟨k, hk⟩ := (run_from ..).m16 _ hpc
  rw [trips'] at hk
  dsimp only at hk
  unfold ps16 at hk
  simp only [List.mem_cons, List.not_mem_nil, or_false] at hk
  subst hk
  exacts [pc16_0 x0 x2 x5 x8 x11 x12 k]

theorem out17_apply (y : S1x8x4x80x256.Idx) :
    out0_A_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 y = (fun y : S1x8x4x80x256.Idx => G17 x0 x1 x4 x7 (y 1) (y 2) (y 3) (y 4)) y := by
  unfold out0_A_17
  refine View.read_writes_apply_of_pieces (Val := Elt Ideal) VO0_17 _ (fun y : S1x8x4x80x256.Idx => G17 x0 x1 x4 x7 (y 1) (y 2) (y 3) (y 4)) _ ?_ _ (cover0_A_17 ..)
  intro pc hpc
  obtain ⟨k, hk⟩ := (run_from ..).m17 _ hpc
  rw [trips'] at hk
  dsimp only at hk
  unfold ps17 at hk
  simp only [List.mem_cons, List.not_mem_nil, or_false] at hk
  rcases hk with rfl | rfl | rfl | rfl | rfl | rfl | rfl | rfl | rfl | rfl | rfl | rfl | rfl | rfl | rfl | rfl
  exacts [pc17_15 x0 x1 x4 x7 k, pc17_14 x0 x1 x4 x7 k, pc17_13 x0 x1 x4 x7 k, pc17_12 x0 x1 x4 x7 k, pc17_11 x0 x1 x4 x7 k, pc17_10 x0 x1 x4 x7 k, pc17_9 x0 x1 x4 x7 k, pc17_8 x0 x1 x4 x7 k, pc17_7 x0 x1 x4 x7 k, pc17_6 x0 x1 x4 x7 k, pc17_5 x0 x1 x4 x7 k, pc17_4 x0 x1 x4 x7 k, pc17_3 x0 x1 x4 x7 k, pc17_2 x0 x1 x4 x7 k, pc17_1 x0 x1 x4 x7 k, pc17_0 x0 x1 x4 x7 k]

theorem out18_apply (y : S1x8x4x128x256.Idx) :
    out0_A_18 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 y = (fun y : S1x8x4x128x256.Idx => G18 x0 x1 (y 1) (y 2) (y 3) (y 4)) y := by
  unfold out0_A_18
  refine View.read_writes_apply_of_pieces (Val := Elt Ideal) VO0_18 _ (fun y : S1x8x4x128x256.Idx => G18 x0 x1 (y 1) (y 2) (y 3) (y 4)) _ ?_ _ (cover0_A_18 ..)
  intro pc hpc
  obtain ⟨k, hk⟩ := (run_from ..).m18 _ hpc
  rw [trips'] at hk
  dsimp only at hk
  unfold ps18 at hk
  simp only [List.mem_cons, List.not_mem_nil, or_false] at hk
  rcases hk with rfl | rfl | rfl | rfl | rfl | rfl | rfl | rfl | rfl | rfl | rfl | rfl | rfl | rfl | rfl | rfl
  exacts [pc18_15 x0 x1 k, pc18_14 x0 x1 k, pc18_13 x0 x1 k, pc18_12 x0 x1 k, pc18_11 x0 x1 k, pc18_10 x0 x1 k, pc18_9 x0 x1 k, pc18_8 x0 x1 k, pc18_7 x0 x1 k, pc18_6 x0 x1 k, pc18_5 x0 x1 k, pc18_4 x0 x1 k, pc18_3 x0 x1 k, pc18_2 x0 x1 k, pc18_1 x0 x1 k, pc18_0 x0 x1 k]

theorem out19_apply (y : S1x1024x512.Idx) :
    out0_A_19 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 y = (fun y : S1x1024x512.Idx => PS x0 x2 (y 1) ⟨128 + (y 2).val, by have : (y 2).val < 512 := (y 2).isLt; omega⟩) y := by
  unfold out0_A_19
  refine View.read_writes_apply_of_pieces (Val := Elt Ideal) VO0_19 _ (fun y : S1x1024x512.Idx => PS x0 x2 (y 1) ⟨128 + (y 2).val, by have : (y 2).val < 512 := (y 2).isLt; omega⟩) _ ?_ _ (cover0_A_19 ..)
  intro pc hpc
  obtain ⟨k, hk⟩ := (run_from ..).m19 _ hpc
  rw [trips'] at hk
  dsimp only at hk
  unfold ps19 at hk
  simp only [List.mem_cons, List.not_mem_nil, or_false] at hk
  subst hk
  exacts [pc19_0 x0 x2 k]

theorem out20_apply (y : S1x8x4x64x256.Idx) :
    out0_A_20 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 y = (fun y : S1x8x4x64x256.Idx => PT x0 x1 (rowT (y 2) (y 4)) ⟨1920 + (64 * (y 1).val + (y 3).val), by have : (y 1).val < 8 := (y 1).isLt; have : (y 3).val < 64 := (y 3).isLt; omega⟩) y := by
  unfold out0_A_20
  refine View.read_writes_apply_of_pieces (Val := Elt Ideal) VO0_20 _ (fun y : S1x8x4x64x256.Idx => PT x0 x1 (rowT (y 2) (y 4)) ⟨1920 + (64 * (y 1).val + (y 3).val), by have : (y 1).val < 8 := (y 1).isLt; have : (y 3).val < 64 := (y 3).isLt; omega⟩) _ ?_ _ (cover0_A_20 ..)
  intro pc hpc
  obtain ⟨k, hk⟩ := (run_from ..).m20 _ hpc
  rw [trips'] at hk
  dsimp only at hk
  unfold ps20 at hk
  simp only [List.mem_cons, List.not_mem_nil, or_false] at hk
  rcases hk with rfl | rfl | rfl | rfl | rfl | rfl | rfl | rfl
  exacts [pc20_7 x0 x1 k, pc20_6 x0 x1 k, pc20_5 x0 x1 k, pc20_4 x0 x1 k, pc20_3 x0 x1 k, pc20_2 x0 x1 k, pc20_1 x0 x1 k, pc20_0 x0 x1 k]

theorem out21_apply (y : S1x4x512x256.Idx) :
    out0_A_21 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 y = (fun y : S1x4x512x256.Idx => PT x0 x1 (rowT (y 1) (y 3)) ⟨896 + (y 2).val, by have : (y 2).val < 512 := (y 2).isLt; omega⟩) y := by
  unfold out0_A_21
  refine View.read_writes_apply_of_pieces (Val := Elt Ideal) VO0_21 _ (fun y : S1x4x512x256.Idx => PT x0 x1 (rowT (y 1) (y 3)) ⟨896 + (y 2).val, by have : (y 2).val < 512 := (y 2).isLt; omega⟩) _ ?_ _ (cover0_A_21 ..)
  intro pc hpc
  obtain ⟨k, hk⟩ := (run_from ..).m21 _ hpc
  rw [trips'] at hk
  dsimp only at hk
  unfold ps21 at hk
  simp only [List.mem_cons, List.not_mem_nil, or_false] at hk
  subst hk
  exacts [pc21_0 x0 x1 k]

theorem out22_apply (y : S1x4x512x256.Idx) :
    out0_A_22 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 y = (fun y : S1x4x512x256.Idx => PT x0 x1 (rowT (y 1) (y 3)) ⟨2432 + (y 2).val, by have : (y 2).val < 512 := (y 2).isLt; omega⟩) y := by
  unfold out0_A_22
  refine View.read_writes_apply_of_pieces (Val := Elt Ideal) VO0_22 _ (fun y : S1x4x512x256.Idx => PT x0 x1 (rowT (y 1) (y 3)) ⟨2432 + (y 2).val, by have : (y 2).val < 512 := (y 2).isLt; omega⟩) _ ?_ _ (cover0_A_22 ..)
  intro pc hpc
  obtain ⟨k, hk⟩ := (run_from ..).m22 _ hpc
  rw [trips'] at hk
  dsimp only at hk
  unfold ps22 at hk
  simp only [List.mem_cons, List.not_mem_nil, or_false] at hk
  subst hk
  exacts [pc22_0 x0 x1 k]

theorem out23_apply (y : S1x4x512x256.Idx) :
    out0_A_23 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 y = (fun y : S1x4x512x256.Idx => G23 x0 x1 x13 x14 (y 1) (y 2) (y 3)) y := by
  unfold out0_A_23
  refine View.read_writes_apply_of_pieces (Val := Elt Ideal) VO0_23 _ (fun y : S1x4x512x256.Idx => G23 x0 x1 x13 x14 (y 1) (y 2) (y 3)) _ ?_ _ (cover0_A_23 ..)
  intro pc hpc
  obtain ⟨k, hk⟩ := (run_from ..).m23 _ hpc
  rw [trips'] at hk
  dsimp only at hk
  unfold ps23 at hk
  simp only [List.mem_cons, List.not_mem_nil, or_false] at hk
  rcases hk with rfl | rfl | rfl | rfl
  exacts [pc23_3 x0 x1 x13 x14 k, pc23_2 x0 x1 x13 x14 k, pc23_1 x0 x1 x13 x14 k, pc23_0 x0 x1 x13 x14 k]

end Blocks

end Cert.Kernel3Ideal.In

end
-- ==== Proof.In.Blocks.lean ====
/-
  The input projections: the blocks the call reads.
-/
module

public import proofs.«01_k».proof.Proof.In.Host
public import proofs.«01_k».proof.Proof.In.Out
public import proofs.«01_k».proof.Proof.Gen.Kernel3Ideal.Frame
public import Idealize.ShloMosaic.Lib.Pointwise

@[expose] public section

set_option maxRecDepth 16384

noncomputable section

namespace Cert.Kernel3Ideal.In

open Cert.Kernel3Ideal Cert.Kernel3Ideal.Gen Cert.InCore Cert.ObCore
open Idealize.ShloMosaic Idealize.ShloMosaic.TcCoe Idealize.SL.Sem
open scoped BigOperators

/-! ### Positions -/

/-- The batch element and the group of tiles of a grid point. -/
def bOf (t : Fin grid0.N) : Fin 8 := ⟨t.val / 4, by have : t.val < 32 := t.isLt; omega⟩
def eOf (t : Fin grid0.N) : Fin 4 := ⟨t.val % 4, by omega⟩

/-- The position of row `p` of group `e`, and back. -/
def posOf (e : Fin 4) (p : Fin 1024) : Fin 4096 := ⟨1024 * e.val + p.val, by omega⟩
def eP (s : Fin 4096) : Fin 4 := ⟨s.val / 1024, by omega⟩
def pP (s : Fin 4096) : Fin 1024 := ⟨s.val % 1024, by omega⟩

/-- The tile of tile `n` of group `e`, and back. -/
def tileOf (e n : Fin 4) : Fin 16 := ⟨4 * e.val + n.val, by omega⟩
def eT (n : Fin 16) : Fin 4 := ⟨n.val / 4, by omega⟩
def nT (n : Fin 16) : Fin 4 := ⟨n.val % 4, by omega⟩

theorem eP_posOf (e : Fin 4) (p : Fin 1024) : eP (posOf e p) = e := Fin.ext (by show (1024 * e.val + p.val) / 1024 = e.val; omega)
theorem pP_posOf (e : Fin 4) (p : Fin 1024) : pP (posOf e p) = p := Fin.ext (by show (1024 * e.val + p.val) % 1024 = p.val; omega)
theorem eT_tileOf (e n : Fin 4) : eT (tileOf e n) = e := Fin.ext (by show (4 * e.val + n.val) / 4 = e.val; omega)
theorem nT_tileOf (e n : Fin 4) : nT (tileOf e n) = n := Fin.ext (by show (4 * e.val + n.val) % 4 = n.val; omega)

/-! ### The blocks -/

def xb (a : FVec Ideal S8x4096x1024 .f32) (b : Fin 8) (e : Fin 4) : Vec Ideal S1x1024x1024 .f32 := fun y => a (ix3 b (posOf e (y 1)) (y 2))
def tb (a : FVec Ideal S16x128x256 .f32) (e : Fin 4) : Vec Ideal S4x128x256 .f32 := fun y => a (ix3 (tileOf e (y 0)) (y 1) (y 2))
def kb (a : FVec Ideal S4096x128 .f32) (e : Fin 4) : Vec Ideal S1024x128 .f32 := fun y => a (ix2 (posOf e (y 0)) (y 1))
def mb (a : FVec Ideal S8x256x512 .bf16) (b : Fin 8) : Vec Ideal S1x256x512 .bf16 := fun y => a (ix3 b (y 1) (y 2))
def vb (a : FVec Ideal S8x512x256 .bf16) (b : Fin 8) : Vec Ideal S1x512x256 .bf16 := fun y => a (ix3 b (y 1) (y 2))

theorem idx0 : ∀ t : Fin grid0.N, win0_0.index t = ![(bOf t).val, (eOf t).val, 0] := by decide +kernel
theorem idx1 : ∀ t : Fin grid0.N, win0_1.index t = ![0, 0] := by decide +kernel
theorem idx2 : ∀ t : Fin grid0.N, win0_2.index t = ![0, 0] := by decide +kernel
theorem idx3 : ∀ t : Fin grid0.N, win0_3.index t = ![0, 0] := by decide +kernel
theorem idx4 : ∀ t : Fin grid0.N, win0_4.index t = ![0, 0] := by decide +kernel
theorem idx5 : ∀ t : Fin grid0.N, win0_5.index t = ![0, 0] := by decide +kernel
theorem idx6 : ∀ t : Fin grid0.N, win0_6.index t = ![0, 0] := by decide +kernel
theorem idx7 : ∀ t : Fin grid0.N, win0_7.index t = ![0, 0] := by decide +kernel
theorem idx8 : ∀ t : Fin grid0.N, win0_8.index t = ![0, 0] := by decide +kernel
theorem idx9 : ∀ t : Fin grid0.N, win0_9.index t = ![(eOf t).val, 0, 0] := by decide +kernel
theorem idx10 : ∀ t : Fin grid0.N, win0_10.index t = ![(eOf t).val, 0, 0] := by decide +kernel
theorem idx11 : ∀ t : Fin grid0.N, win0_11.index t = ![(eOf t).val, 0] := by decide +kernel
theorem idx12 : ∀ t : Fin grid0.N, win0_12.index t = ![(eOf t).val, 0] := by decide +kernel
theorem idx13 : ∀ t : Fin grid0.N, win0_13.index t = ![(bOf t).val, 0, 0] := by decide +kernel
theorem idx14 : ∀ t : Fin grid0.N, win0_14.index t = ![(bOf t).val, 0, 0] := by decide +kernel
theorem idx15 : ∀ t : Fin grid0.N, win0_15.index t = ![(bOf t).val, 0, (eOf t).val, 0, 0] := by decide +kernel
theorem idx16 : ∀ t : Fin grid0.N, win0_16.index t = ![(bOf t).val, (eOf t).val, 0] := by decide +kernel
theorem idx17 : ∀ t : Fin grid0.N, win0_17.index t = ![(bOf t).val, 0, (eOf t).val, 0, 0] := by decide +kernel
theorem idx18 : ∀ t : Fin grid0.N, win0_18.index t = ![(bOf t).val, 0, (eOf t).val, 0, 0] := by decide +kernel
theorem idx19 : ∀ t : Fin grid0.N, win0_19.index t = ![(bOf t).val, (eOf t).val, 0] := by decide +kernel
theorem idx20 : ∀ t : Fin grid0.N, win0_20.index t = ![(bOf t).val, 0, (eOf t).val, 0, 0] := by decide +kernel
theorem idx21 : ∀ t : Fin grid0.N, win0_21.index t = ![(bOf t).val, (eOf t).val, 0, 0] := by decide +kernel
theorem idx22 : ∀ t : Fin grid0.N, win0_22.index t = ![(bOf t).val, (eOf t).val, 0, 0] := by decide +kernel
theorem idx23 : ∀ t : Fin grid0.N, win0_23.index t = ![(bOf t).val, (eOf t).val, 0, 0] := by decide +kernel

variable (m : (ℓ : Loc nD τ sig) → Buf (Elt Ideal) ℓ)

theorem iblk0 (c : Dev nD) (t : Fin grid0.N) : iblk (F := Ideal) m c 0 t = xb (m ((c : Thread nD τ).loc main_arg0)) (bOf t) (eOf t) := by
  funext y
  obtain ⟨p, d, rfl⟩ : ∃ (p : Fin 1024) (d : Fin 1024), y = (ix3 0 p d : S1x1024x1024.Idx) :=
    ⟨y 1, y 2, (eq_ix3 (y : S1x1024x1024.Idx)).trans (congrArg (fun z => (ix3 z (y 1) (y 2) : S1x1024x1024.Idx)) (Subsingleton.elim (α := Fin 1) _ _))⟩
  have h : iblk (F := Ideal) m c 0 t (ix3 0 p d) = V (F := Ideal) m c main_arg0 (ix3 (bOf t) (posOf (eOf t) p) d) := by
    blk_simp [iblk]
    refine congrArg (V (F := Ideal) m c main_arg0) ?_
    blk_ext [idx0, posOf, tileOf]
  rw [h, V_arg0]
  rfl

theorem iblk1 (c : Dev nD) (t : Fin grid0.N) : iblk (F := Ideal) m c 1 t = hWT (m ((c : Thread nD τ).loc main_arg1)) := by
  funext y
  obtain ⟨p, d, rfl⟩ : ∃ (p : Fin 3456) (d : Fin 1024), y = (ix2 p d : S3456x1024.Idx) := ⟨y 0, y 1, eq_ix2 (y : S3456x1024.Idx)⟩
  have h : iblk (F := Ideal) m c 1 t (ix2 p d) = V (F := Ideal) m c main_v8 (ix2 p d) := by
    blk_simp [iblk]
    refine congrArg (V (F := Ideal) m c main_v8) ?_
    blk_ext [idx1, posOf, tileOf]
  rw [h, V_hWT]

theorem iblk2 (c : Dev nD) (t : Fin grid0.N) : iblk (F := Ideal) m c 2 t = hWS (m ((c : Thread nD τ).loc main_arg1)) := by
  funext y
  obtain ⟨p, d, rfl⟩ : ∃ (p : Fin 1024) (d : Fin 768), y = (ix2 p d : S1024x768.Idx) := ⟨y 0, y 1, eq_ix2 (y : S1024x768.Idx)⟩
  have h : iblk (F := Ideal) m c 2 t (ix2 p d) = V (F := Ideal) m c main_v18 (ix2 p d) := by
    blk_simp [iblk]
    refine congrArg (V (F := Ideal) m c main_v18) ?_
    blk_ext [idx2, posOf, tileOf]
  rw [h, V_hWS]

theorem iblk3 (c : Dev nD) (t : Fin grid0.N) : iblk (F := Ideal) m c 3 t = hQg (m ((c : Thread nD τ).loc main_arg2)) := by
  funext y
  obtain ⟨p, d, rfl⟩ : ∃ (p : Fin 256) (d : Fin 1), y = (ix2 p d : S256x1.Idx) := ⟨y 0, y 1, eq_ix2 (y : S256x1.Idx)⟩
  have h : iblk (F := Ideal) m c 3 t (ix2 p d) = V (F := Ideal) m c main_v56 (ix2 p d) := by
    blk_simp [iblk]
    refine congrArg (V (F := Ideal) m c main_v56) ?_
    blk_ext [idx3, posOf, tileOf]
  rw [h, V_hQg]

theorem iblk4 (c : Dev nD) (t : Fin grid0.N) : iblk (F := Ideal) m c 4 t = hKc (m ((c : Thread nD τ).loc main_arg4)) := by
  funext y
  obtain ⟨p, d, rfl⟩ : ∃ (p : Fin 128) (d : Fin 1), y = (ix2 p d : S128x1.Idx) := ⟨y 0, y 1, eq_ix2 (y : S128x1.Idx)⟩
  have h : iblk (F := Ideal) m c 4 t (ix2 p d) = V (F := Ideal) m c main_v57 (ix2 p d) := by
    blk_simp [iblk]
    refine congrArg (V (F := Ideal) m c main_v57) ?_
    blk_ext [idx4, posOf, tileOf]
  rw [h, V_hKc]

theorem iblk5 (c : Dev nD) (t : Fin grid0.N) : iblk (F := Ideal) m c 5 t = hKr (m ((c : Thread nD τ).loc main_arg4)) := by
  funext y
  obtain ⟨p, d, rfl⟩ : ∃ (p : Fin 1) (d : Fin 128), y = (ix2 p d : S1x128.Idx) := ⟨y 0, y 1, eq_ix2 (y : S1x128.Idx)⟩
  have h : iblk (F := Ideal) m c 5 t (ix2 p d) = V (F := Ideal) m c main_v58 (ix2 p d) := by
    blk_simp [iblk]
    refine congrArg (V (F := Ideal) m c main_v58) ?_
    blk_ext [idx5, posOf, tileOf]
  rw [h, V_hKr]

theorem iblk6 (c : Dev nD) (t : Fin grid0.N) : iblk (F := Ideal) m c 6 t = hWq (m ((c : Thread nD τ).loc main_arg3)) := by
  funext y
  obtain ⟨p, d, rfl⟩ : ∃ (p : Fin 768) (d : Fin 256), y = (ix2 p d : S768x256.Idx) := ⟨y 0, y 1, eq_ix2 (y : S768x256.Idx)⟩
  have h : iblk (F := Ideal) m c 6 t (ix2 p d) = V (F := Ideal) m c main_v28 (ix2 p d) := by
    blk_simp [iblk]
    refine congrArg (V (F := Ideal) m c main_v28) ?_
    blk_ext [idx6, posOf, tileOf]
  rw [h, V_hWq]

theorem iblk7 (c : Dev nD) (t : Fin grid0.N) : iblk (F := Ideal) m c 7 t = hWv (m ((c : Thread nD τ).loc main_arg5)) := by
  funext y
  obtain ⟨p, d, rfl⟩ : ∃ (p : Fin 512) (d : Fin 128), y = (ix2 p d : S512x128.Idx) := ⟨y 0, y 1, eq_ix2 (y : S512x128.Idx)⟩
  have h : iblk (F := Ideal) m c 7 t (ix2 p d) = V (F := Ideal) m c main_v33 (ix2 p d) := by
    blk_simp [iblk]
    refine congrArg (V (F := Ideal) m c main_v33) ?_
    blk_ext [idx7, posOf, tileOf]
  rw [h, V_hWv]

theorem iblk8 (c : Dev nD) (t : Fin grid0.N) : iblk (F := Ideal) m c 8 t = hWk (m ((c : Thread nD τ).loc main_arg5)) := by
  funext y
  obtain ⟨p, d, rfl⟩ : ∃ (p : Fin 256) (d : Fin 1024), y = (ix2 p d : S256x1024.Idx) := ⟨y 0, y 1, eq_ix2 (y : S256x1024.Idx)⟩
  have h : iblk (F := Ideal) m c 8 t (ix2 p d) = V (F := Ideal) m c main_v55 (ix2 p d) := by
    blk_simp [iblk]
    refine congrArg (V (F := Ideal) m c main_v55) ?_
    blk_ext [idx8, posOf, tileOf]
  rw [h, V_hWk]

theorem iblk9 (c : Dev nD) (t : Fin grid0.N) : iblk (F := Ideal) m c 9 t = tb (hCosq) (eOf t) := by
  funext y
  obtain ⟨n, r, q, rfl⟩ : ∃ (n : Fin 4) (r : Fin 128) (q : Fin 256), y = (ix3 n r q : S4x128x256.Idx) := ⟨y 0, y 1, y 2, eq_ix3 (y : S4x128x256.Idx)⟩
  have h : iblk (F := Ideal) m c 9 t (ix3 n r q) = V (F := Ideal) m c main_v78 (ix3 (tileOf (eOf t) n) r q) := by
    blk_simp [iblk]
    refine congrArg (V (F := Ideal) m c main_v78) ?_
    blk_ext [idx9, posOf, tileOf]
  rw [h, V_hCosq]
  rfl

theorem iblk10 (c : Dev nD) (t : Fin grid0.N) : iblk (F := Ideal) m c 10 t = tb (hSinq) (eOf t) := by
  funext y
  obtain ⟨n, r, q, rfl⟩ : ∃ (n : Fin 4) (r : Fin 128) (q : Fin 256), y = (ix3 n r q : S4x128x256.Idx) := ⟨y 0, y 1, y 2, eq_ix3 (y : S4x128x256.Idx)⟩
  have h : iblk (F := Ideal) m c 10 t (ix3 n r q) = V (F := Ideal) m c main_v83 (ix3 (tileOf (eOf t) n) r q) := by
    blk_simp [iblk]
    refine congrArg (V (F := Ideal) m c main_v83) ?_
    blk_ext [idx10, posOf, tileOf]
  rw [h, V_hSinq]
  rfl

theorem iblk11 (c : Dev nD) (t : Fin grid0.N) : iblk (F := Ideal) m c 11 t = kb (hCosk) (eOf t) := by
  funext y
  obtain ⟨p, d, rfl⟩ : ∃ (p : Fin 1024) (d : Fin 128), y = (ix2 p d : S1024x128.Idx) := ⟨y 0, y 1, eq_ix2 (y : S1024x128.Idx)⟩
  have h : iblk (F := Ideal) m c 11 t (ix2 p d) = V (F := Ideal) m c main_v85 (ix2 (posOf (eOf t) p) d) := by
    blk_simp [iblk]
    refine congrArg (V (F := Ideal) m c main_v85) ?_
    blk_ext [idx11, posOf, tileOf]
  rw [h, V_hCosk]
  rfl

theorem iblk12 (c : Dev nD) (t : Fin grid0.N) : iblk (F := Ideal) m c 12 t = kb (hSink) (eOf t) := by
  funext y
  obtain ⟨p, d, rfl⟩ : ∃ (p : Fin 1024) (d : Fin 128), y = (ix2 p d : S1024x128.Idx) := ⟨y 0, y 1, eq_ix2 (y : S1024x128.Idx)⟩
  have h : iblk (F := Ideal) m c 12 t (ix2 p d) = V (F := Ideal) m c main_v86 (ix2 (posOf (eOf t) p) d) := by
    blk_simp [iblk]
    refine congrArg (V (F := Ideal) m c main_v86) ?_
    blk_ext [idx12, posOf, tileOf]
  rw [h, V_hSink]
  rfl

theorem iblk13 (c : Dev nD) (t : Fin grid0.N) : iblk (F := Ideal) m c 13 t = mb (hKm (m ((c : Thread nD τ).loc main_arg6))) (bOf t) := by
  funext y
  obtain ⟨p, d, rfl⟩ : ∃ (p : Fin 256) (d : Fin 512), y = (ix3 0 p d : S1x256x512.Idx) :=
    ⟨y 1, y 2, (eq_ix3 (y : S1x256x512.Idx)).trans (congrArg (fun z => (ix3 z (y 1) (y 2) : S1x256x512.Idx)) (Subsingleton.elim (α := Fin 1) _ _))⟩
  have h : iblk (F := Ideal) m c 13 t (ix3 0 p d) = V (F := Ideal) m c main_v88 (ix3 (bOf t) p d) := by
    blk_simp [iblk]
    refine congrArg (V (F := Ideal) m c main_v88) ?_
    blk_ext [idx13, posOf, tileOf]
  rw [h, V_hKm]
  rfl

theorem iblk14 (c : Dev nD) (t : Fin grid0.N) : iblk (F := Ideal) m c 14 t = vb (hVm (m ((c : Thread nD τ).loc main_arg7))) (bOf t) := by
  funext y
  obtain ⟨p, d, rfl⟩ : ∃ (p : Fin 512) (d : Fin 256), y = (ix3 0 p d : S1x512x256.Idx) :=
    ⟨y 1, y 2, (eq_ix3 (y : S1x512x256.Idx)).trans (congrArg (fun z => (ix3 z (y 1) (y 2) : S1x512x256.Idx)) (Subsingleton.elim (α := Fin 1) _ _))⟩
  have h : iblk (F := Ideal) m c 14 t (ix3 0 p d) = V (F := Ideal) m c main_v91 (ix3 (bOf t) p d) := by
    blk_simp [iblk]
    refine congrArg (V (F := Ideal) m c main_v91) ?_
    blk_ext [idx14, posOf, tileOf]
  rw [h, V_hVm]
  rfl

end Cert.Kernel3Ideal.In

end
-- ==== Proof.In.Arrays.lean ====
/-
  The input projections: the arrays the call writes.
-/
module

public import proofs.«01_k».proof.Proof.In.Blocks
public import Idealize.ShloMosaic.Lib.Pipeline.ValueKit
public import proofs.«01_k».proof.Proof.Gen.Kernel3Ideal.Frame
public import Idealize.ShloMosaic.Lib.Pointwise

@[expose] public section

set_option maxRecDepth 16384

noncomputable section

namespace Cert.Kernel3Ideal.In

open Cert.Kernel3Ideal Cert.Kernel3Ideal.Gen Cert.InCore Cert.ObCore
open Idealize.ShloMosaic Idealize.ShloMosaic.TcCoe Idealize.SL.Sem
open scoped BigOperators

/-! ### The output arrays -/

def c19 (d : Fin 512) : Fin 768 := ⟨128 + d.val, by omega⟩
def c20 (h : Fin 8) (d : Fin 64) : Fin 3456 := ⟨1920 + (64 * h.val + d.val), by omega⟩
def c21 (d : Fin 512) : Fin 3456 := ⟨896 + d.val, by omega⟩
def c22 (d : Fin 512) : Fin 3456 := ⟨2432 + d.val, by omega⟩

def O15 (a0 : FVec Ideal S8x4096x1024 .f32) (a1 : FVec Ideal S1024x4000 .f32) (a2 : FVec Ideal S256 .f32) (a3 : FVec Ideal S256x768 .f32) : FVec Ideal S8x8x16x128x256 .bf16 := fun y : S8x8x16x128x256.Idx =>
  G15 (xb a0 (y 0) (eT (y 2))) (hWT a1) (hQg a2) (hWq a3) (tb hCosq (eT (y 2))) (tb hSinq (eT (y 2))) (y 1) (nT (y 2)) (y 3) (y 4)

def O16 (a0 : FVec Ideal S8x4096x1024 .f32) (a1 : FVec Ideal S1024x4000 .f32) (a4 : FVec Ideal S128 .f32) (a5 : FVec Ideal S128x1024 .f32) : FVec Ideal S8x4096x1024 .bf16 := fun y : S8x4096x1024.Idx =>
  G16 (xb a0 (y 0) (eP (y 1))) (hWS a1) (hKr a4) (hWk a5) (kb hCosk (eP (y 1))) (kb hSink (eP (y 1))) (pP (y 1)) (y 2)

def O17 (a0 : FVec Ideal S8x4096x1024 .f32) (a1 : FVec Ideal S1024x4000 .f32) (a4 : FVec Ideal S128 .f32) (a5 : FVec Ideal S128x1024 .f32) : FVec Ideal S8x8x16x80x256 .bf16 := fun y : S8x8x16x80x256.Idx =>
  G17 (xb a0 (y 0) (eT (y 2))) (hWT a1) (hKc a4) (hWv a5) (y 1) (nT (y 2)) (y 3) (y 4)

def O18 (a0 : FVec Ideal S8x4096x1024 .f32) (a1 : FVec Ideal S1024x4000 .f32) : FVec Ideal S8x8x16x128x256 .bf16 := fun y : S8x8x16x128x256.Idx =>
  G18 (xb a0 (y 0) (eT (y 2))) (hWT a1) (y 1) (nT (y 2)) (y 3) (y 4)

def O19 (a0 : FVec Ideal S8x4096x1024 .f32) (a1 : FVec Ideal S1024x4000 .f32) : FVec Ideal S8x4096x512 .bf16 := fun y : S8x4096x512.Idx =>
  PS (xb a0 (y 0) (eP (y 1))) (hWS a1) (pP (y 1)) (c19 (y 2))

def O20 (a0 : FVec Ideal S8x4096x1024 .f32) (a1 : FVec Ideal S1024x4000 .f32) : FVec Ideal S8x8x16x64x256 .bf16 := fun y : S8x8x16x64x256.Idx =>
  PT (xb a0 (y 0) (eT (y 2))) (hWT a1) (rowT (nT (y 2)) (y 4)) (c20 (y 1) (y 3))

def O21 (a0 : FVec Ideal S8x4096x1024 .f32) (a1 : FVec Ideal S1024x4000 .f32) : FVec Ideal S8x16x512x256 .f32 := fun y : S8x16x512x256.Idx =>
  PT (xb a0 (y 0) (eT (y 1))) (hWT a1) (rowT (nT (y 1)) (y 3)) (c21 (y 2))

def O22 (a0 : FVec Ideal S8x4096x1024 .f32) (a1 : FVec Ideal S1024x4000 .f32) : FVec Ideal S8x16x512x256 .f32 := fun y : S8x16x512x256.Idx =>
  PT (xb a0 (y 0) (eT (y 1))) (hWT a1) (rowT (nT (y 1)) (y 3)) (c22 (y 2))

def O23 (a0 : FVec Ideal S8x4096x1024 .f32) (a1 : FVec Ideal S1024x4000 .f32) (a6 : FVec Ideal S8x256x4x128 .f32) (a7 : FVec Ideal S8x256x4x128 .f32) : FVec Ideal S8x16x512x256 .bf16 := fun y : S8x16x512x256.Idx =>
  G23 (xb a0 (y 0) (eT (y 1))) (hWT a1) (mb (hKm a6) (y 0)) (vb (hVm a7) (y 0)) (nT (y 1)) (y 2) (y 3)

variable (m : (ℓ : Loc nD τ sig) → Buf (Elt Ideal) ℓ)

set_option maxHeartbeats 1000000

theorem outs15 (c : Dev nD) (t : Fin grid0.N) (h : Fin 8) (n : Fin 4) (d : Fin 128) (q : Fin 256) :
    (outsAt0 (F := Ideal) m c t).1 (ix5 0 h n d q : S1x8x4x128x256.Idx) = G15 (xb (m ((c : Thread nD τ).loc main_arg0)) (bOf t) (eOf t)) (hWT (m ((c : Thread nD τ).loc main_arg1))) (hQg (m ((c : Thread nD τ).loc main_arg2))) (hWq (m ((c : Thread nD τ).loc main_arg3))) (tb (hCosq) (eOf t)) (tb (hSinq) (eOf t)) h n d q := by
  refine (out15_apply ..).trans ?_
  rw [iblk0, iblk1, iblk3, iblk6, iblk9, iblk10]
  rfl

theorem final15 (c : Dev nD) :
    (dats (F := Ideal) m 0 c).arrAt 15 cfg0.N = O15 (m ((c : Thread nD τ).loc main_arg0)) (m ((c : Thread nD τ).loc main_arg1)) (m ((c : Thread nD τ).loc main_arg2)) (m ((c : Thread nD τ).loc main_arg3)) := by
  refine (dats (F := Ideal) m 0 c).arrAt_eq_of_covers 15 _ (by decide +kernel) fun t hf y => ?_
  blk_simp
  obtain ⟨h, n, d, q, rfl⟩ : ∃ (h : Fin 8) (n : Fin 4) (d : Fin 128) (q : Fin 256), y = (ix5 0 h n d q : S1x8x4x128x256.Idx) :=
    ⟨y 1, y 2, y 3, y 4, (eq_ix5 (y : S1x8x4x128x256.Idx)).trans (congrArg (fun z => (ix5 z (y 1) (y 2) (y 3) (y 4) : S1x8x4x128x256.Idx)) (Subsingleton.elim (α := Fin 1) _ _))⟩
  have hz : (win0_15.blk t).view.emb (ix5 0 h n d q : S1x8x4x128x256.Idx) = (ix5 (bOf t) h (tileOf (eOf t) n) d q : S8x8x16x128x256.Idx) := by
    blk_ext [idx15, posOf, tileOf]
  rw [hz]
  refine (outs15 ..).trans ?_
  show G15 (xb (m ((c : Thread nD τ).loc main_arg0)) (bOf t) (eOf t)) (hWT (m ((c : Thread nD τ).loc main_arg1))) (hQg (m ((c : Thread nD τ).loc main_arg2))) (hWq (m ((c : Thread nD τ).loc main_arg3))) (tb (hCosq) (eOf t)) (tb (hSinq) (eOf t)) h n d q = G15 (xb (m ((c : Thread nD τ).loc main_arg0)) (bOf t) (eT (tileOf (eOf t) n))) (hWT (m ((c : Thread nD τ).loc main_arg1))) (hQg (m ((c : Thread nD τ).loc main_arg2))) (hWq (m ((c : Thread nD τ).loc main_arg3))) (tb hCosq (eT (tileOf (eOf t) n))) (tb hSinq (eT (tileOf (eOf t) n))) h (nT (tileOf (eOf t) n)) d q
  rw [eT_tileOf, nT_tileOf]

theorem outs16 (c : Dev nD) (t : Fin grid0.N) (p : Fin 1024) (d : Fin 1024) :
    (outsAt0 (F := Ideal) m c t).2.1 (ix3 0 p d : S1x1024x1024.Idx) = G16 (xb (m ((c : Thread nD τ).loc main_arg0)) (bOf t) (eOf t)) (hWS (m ((c : Thread nD τ).loc main_arg1))) (hKr (m ((c : Thread nD τ).loc main_arg4))) (hWk (m ((c : Thread nD τ).loc main_arg5))) (kb (hCosk) (eOf t)) (kb (hSink) (eOf t)) p d := by
  refine (out16_apply ..).trans ?_
  rw [iblk0, iblk2, iblk5, iblk8, iblk11, iblk12]
  rfl

theorem final16 (c : Dev nD) :
    (dats (F := Ideal) m 0 c).arrAt 16 cfg0.N = O16 (m ((c : Thread nD τ).loc main_arg0)) (m ((c : Thread nD τ).loc main_arg1)) (m ((c : Thread nD τ).loc main_arg4)) (m ((c : Thread nD τ).loc main_arg5)) := by
  refine (dats (F := Ideal) m 0 c).arrAt_eq_of_covers 16 _ (by decide +kernel) fun t hf y => ?_
  blk_simp
  obtain ⟨p, d, rfl⟩ : ∃ (p : Fin 1024) (d : Fin 1024), y = (ix3 0 p d : S1x1024x1024.Idx) :=
    ⟨y 1, y 2, (eq_ix3 (y : S1x1024x1024.Idx)).trans (congrArg (fun z => (ix3 z (y 1) (y 2) : S1x1024x1024.Idx)) (Subsingleton.elim (α := Fin 1) _ _))⟩
  have hz : (win0_16.blk t).view.emb (ix3 0 p d : S1x1024x1024.Idx) = (ix3 (bOf t) (posOf (eOf t) p) d : S8x4096x1024.Idx) := by
    blk_ext [idx16, posOf, tileOf]
  rw [hz]
  refine (outs16 ..).trans ?_
  show G16 (xb (m ((c : Thread nD τ).loc main_arg0)) (bOf t) (eOf t)) (hWS (m ((c : Thread nD τ).loc main_arg1))) (hKr (m ((c : Thread nD τ).loc main_arg4))) (hWk (m ((c : Thread nD τ).loc main_arg5))) (kb (hCosk) (eOf t)) (kb (hSink) (eOf t)) p d = G16 (xb (m ((c : Thread nD τ).loc main_arg0)) (bOf t) (eP (posOf (eOf t) p))) (hWS (m ((c : Thread nD τ).loc main_arg1))) (hKr (m ((c : Thread nD τ).loc main_arg4))) (hWk (m ((c : Thread nD τ).loc main_arg5))) (kb hCosk (eP (posOf (eOf t) p))) (kb hSink (eP (posOf (eOf t) p))) (pP (posOf (eOf t) p)) d
  rw [eP_posOf, pP_posOf]

theorem outs17 (c : Dev nD) (t : Fin grid0.N) (h : Fin 8) (n : Fin 4) (d : Fin 80) (q : Fin 256) :
    (outsAt0 (F := Ideal) m c t).2.2.1 (ix5 0 h n d q : S1x8x4x80x256.Idx) = G17 (xb (m ((c : Thread nD τ).loc main_arg0)) (bOf t) (eOf t)) (hWT (m ((c : Thread nD τ).loc main_arg1))) (hKc (m ((c : Thread nD τ).loc main_arg4))) (hWv (m ((c : Thread nD τ).loc main_arg5))) h n d q := by
  refine (out17_apply ..).trans ?_
  rw [iblk0, iblk1, iblk4, iblk7]
  rfl

theorem final17 (c : Dev nD) :
    (dats (F := Ideal) m 0 c).arrAt 17 cfg0.N = O17 (m ((c : Thread nD τ).loc main_arg0)) (m ((c : Thread nD τ).loc main_arg1)) (m ((c : Thread nD τ).loc main_arg4)) (m ((c : Thread nD τ).loc main_arg5)) := by
  refine (dats (F := Ideal) m 0 c).arrAt_eq_of_covers 17 _ (by decide +kernel) fun t hf y => ?_
  blk_simp
  obtain ⟨h, n, d, q, rfl⟩ : ∃ (h : Fin 8) (n : Fin 4) (d : Fin 80) (q : Fin 256), y = (ix5 0 h n d q : S1x8x4x80x256.Idx) :=
    ⟨y 1, y 2, y 3, y 4, (eq_ix5 (y : S1x8x4x80x256.Idx)).trans (congrArg (fun z => (ix5 z (y 1) (y 2) (y 3) (y 4) : S1x8x4x80x256.Idx)) (Subsingleton.elim (α := Fin 1) _ _))⟩
  have hz : (win0_17.blk t).view.emb (ix5 0 h n d q : S1x8x4x80x256.Idx) = (ix5 (bOf t) h (tileOf (eOf t) n) d q : S8x8x16x80x256.Idx) := by
    blk_ext [idx17, posOf, tileOf]
  rw [hz]
  refine (outs17 ..).trans ?_
  show G17 (xb (m ((c : Thread nD τ).loc main_arg0)) (bOf t) (eOf t)) (hWT (m ((c : Thread nD τ).loc main_arg1))) (hKc (m ((c : Thread nD τ).loc main_arg4))) (hWv (m ((c : Thread nD τ).loc main_arg5))) h n d q = G17 (xb (m ((c : Thread nD τ).loc main_arg0)) (bOf t) (eT (tileOf (eOf t) n))) (hWT (m ((c : Thread nD τ).loc main_arg1))) (hKc (m ((c : Thread nD τ).loc main_arg4))) (hWv (m ((c : Thread nD τ).loc main_arg5))) h (nT (tileOf (eOf t) n)) d q
  rw [eT_tileOf, nT_tileOf]

theorem outs18 (c : Dev nD) (t : Fin grid0.N) (h : Fin 8) (n : Fin 4) (d : Fin 128) (q : Fin 256) :
    (outsAt0 (F := Ideal) m c t).2.2.2.1 (ix5 0 h n d q : S1x8x4x128x256.Idx) = G18 (xb (m ((c : Thread nD τ).loc main_arg0)) (bOf t) (eOf t)) (hWT (m ((c : Thread nD τ).loc main_arg1))) h n d q := by
  refine (out18_apply ..).trans ?_
  rw [iblk0, iblk1]
  rfl

theorem final18 (c : Dev nD) :
    (dats (F := Ideal) m 0 c).arrAt 18 cfg0.N = O18 (m ((c : Thread nD τ).loc main_arg0)) (m ((c : Thread nD τ).loc main_arg1)) := by
  refine (dats (F := Ideal) m 0 c).arrAt_eq_of_covers 18 _ (by decide +kernel) fun t hf y => ?_
  blk_simp
  obtain ⟨h, n, d, q, rfl⟩ : ∃ (h : Fin 8) (n : Fin 4) (d : Fin 128) (q : Fin 256), y = (ix5 0 h n d q : S1x8x4x128x256.Idx) :=
    ⟨y 1, y 2, y 3, y 4, (eq_ix5 (y : S1x8x4x128x256.Idx)).trans (congrArg (fun z => (ix5 z (y 1) (y 2) (y 3) (y 4) : S1x8x4x128x256.Idx)) (Subsingleton.elim (α := Fin 1) _ _))⟩
  have hz : (win0_18.blk t).view.emb (ix5 0 h n d q : S1x8x4x128x256.Idx) = (ix5 (bOf t) h (tileOf (eOf t) n) d q : S8x8x16x128x256.Idx) := by
    blk_ext [idx18, posOf, tileOf]
  rw [hz]
  refine (outs18 ..).trans ?_
  show G18 (xb (m ((c : Thread nD τ).loc main_arg0)) (bOf t) (eOf t)) (hWT (m ((c : Thread nD τ).loc main_arg1))) h n d q = G18 (xb (m ((c : Thread nD τ).loc main_arg0)) (bOf t) (eT (tileOf (eOf t) n))) (hWT (m ((c : Thread nD τ).loc main_arg1))) h (nT (tileOf (eOf t) n)) d q
  rw [eT_tileOf, nT_tileOf]

theorem outs19 (c : Dev nD) (t : Fin grid0.N) (p : Fin 1024) (d : Fin 512) :
    (outsAt0 (F := Ideal) m c t).2.2.2.2.1 (ix3 0 p d : S1x1024x512.Idx) = PS (xb (m ((c : Thread nD τ).loc main_arg0)) (bOf t) (eOf t)) (hWS (m ((c : Thread nD τ).loc main_arg1))) p (c19 d) := by
  refine (out19_apply ..).trans ?_
  rw [iblk0, iblk2]
  rfl

theorem final19 (c : Dev nD) :
    (dats (F := Ideal) m 0 c).arrAt 19 cfg0.N = O19 (m ((c : Thread nD τ).loc main_arg0)) (m ((c : Thread nD τ).loc main_arg1)) := by
  refine (dats (F := Ideal) m 0 c).arrAt_eq_of_covers 19 _ (by decide +kernel) fun t hf y => ?_
  blk_simp
  obtain ⟨p, d, rfl⟩ : ∃ (p : Fin 1024) (d : Fin 512), y = (ix3 0 p d : S1x1024x512.Idx) :=
    ⟨y 1, y 2, (eq_ix3 (y : S1x1024x512.Idx)).trans (congrArg (fun z => (ix3 z (y 1) (y 2) : S1x1024x512.Idx)) (Subsingleton.elim (α := Fin 1) _ _))⟩
  have hz : (win0_19.blk t).view.emb (ix3 0 p d : S1x1024x512.Idx) = (ix3 (bOf t) (posOf (eOf t) p) d : S8x4096x512.Idx) := by
    blk_ext [idx19, posOf, tileOf]
  rw [hz]
  refine (outs19 ..).trans ?_
  show PS (xb (m ((c : Thread nD τ).loc main_arg0)) (bOf t) (eOf t)) (hWS (m ((c : Thread nD τ).loc main_arg1))) p (c19 d) = PS (xb (m ((c : Thread nD τ).loc main_arg0)) (bOf t) (eP (posOf (eOf t) p))) (hWS (m ((c : Thread nD τ).loc main_arg1))) (pP (posOf (eOf t) p)) (c19 d)
  rw [eP_posOf, pP_posOf]

theorem outs20 (c : Dev nD) (t : Fin grid0.N) (h : Fin 8) (n : Fin 4) (d : Fin 64) (q : Fin 256) :
    (outsAt0 (F := Ideal) m c t).2.2.2.2.2.1 (ix5 0 h n d q : S1x8x4x64x256.Idx) = PT (xb (m ((c : Thread nD τ).loc main_arg0)) (bOf t) (eOf t)) (hWT (m ((c : Thread nD τ).loc main_arg1))) (rowT n q) (c20 h d) := by
  refine (out20_apply ..).trans ?_
  rw [iblk0, iblk1]
  rfl

theorem final20 (c : Dev nD) :
    (dats (F := Ideal) m 0 c).arrAt 20 cfg0.N = O20 (m ((c : Thread nD τ).loc main_arg0)) (m ((c : Thread nD τ).loc main_arg1)) := by
  refine (dats (F := Ideal) m 0 c).arrAt_eq_of_covers 20 _ (by decide +kernel) fun t hf y => ?_
  blk_simp
  obtain ⟨h, n, d, q, rfl⟩ : ∃ (h : Fin 8) (n : Fin 4) (d : Fin 64) (q : Fin 256), y = (ix5 0 h n d q : S1x8x4x64x256.Idx) :=
    ⟨y 1, y 2, y 3, y 4, (eq_ix5 (y : S1x8x4x64x256.Idx)).trans (congrArg (fun z => (ix5 z (y 1) (y 2) (y 3) (y 4) : S1x8x4x64x256.Idx)) (Subsingleton.elim (α := Fin 1) _ _))⟩
  have hz : (win0_20.blk t).view.emb (ix5 0 h n d q : S1x8x4x64x256.Idx) = (ix5 (bOf t) h (tileOf (eOf t) n) d q : S8x8x16x64x256.Idx) := by
    blk_ext [idx20, posOf, tileOf]
  rw [hz]
  refine (outs20 ..).trans ?_
  show PT (xb (m ((c : Thread nD τ).loc main_arg0)) (bOf t) (eOf t)) (hWT (m ((c : Thread nD τ).loc main_arg1))) (rowT n q) (c20 h d) = PT (xb (m ((c : Thread nD τ).loc main_arg0)) (bOf t) (eT (tileOf (eOf t) n))) (hWT (m ((c : Thread nD τ).loc main_arg1))) (rowT (nT (tileOf (eOf t) n)) q) (c20 h d)
  rw [eT_tileOf, nT_tileOf]

theorem outs21 (c : Dev nD) (t : Fin grid0.N) (n : Fin 4) (r : Fin 512) (q : Fin 256) :
    (outsAt0 (F := Ideal) m c t).2.2.2.2.2.2.1 (ix4 0 n r q : S1x4x512x256.Idx) = PT (xb (m ((c : Thread nD τ).loc main_arg0)) (bOf t) (eOf t)) (hWT (m ((c : Thread nD τ).loc main_arg1))) (rowT n q) (c21 r) := by
  refine (out21_apply ..).trans ?_
  rw [iblk0, iblk1]
  rfl

theorem final21 (c : Dev nD) :
    (dats (F := Ideal) m 0 c).arrAt 21 cfg0.N = O21 (m ((c : Thread nD τ).loc main_arg0)) (m ((c : Thread nD τ).loc main_arg1)) := by
  refine (dats (F := Ideal) m 0 c).arrAt_eq_of_covers 21 _ (by decide +kernel) fun t hf y => ?_
  blk_simp
  obtain ⟨n, r, q, rfl⟩ : ∃ (n : Fin 4) (r : Fin 512) (q : Fin 256), y = (ix4 0 n r q : S1x4x512x256.Idx) :=
    ⟨y 1, y 2, y 3, (eq_ix4 (y : S1x4x512x256.Idx)).trans (congrArg (fun z => (ix4 z (y 1) (y 2) (y 3) : S1x4x512x256.Idx)) (Subsingleton.elim (α := Fin 1) _ _))⟩
  have hz : (win0_21.blk t).view.emb (ix4 0 n r q : S1x4x512x256.Idx) = (ix4 (bOf t) (tileOf (eOf t) n) r q : S8x16x512x256.Idx) := by
    blk_ext [idx21, posOf, tileOf]
  rw [hz]
  refine (outs21 ..).trans ?_
  show PT (xb (m ((c : Thread nD τ).loc main_arg0)) (bOf t) (eOf t)) (hWT (m ((c : Thread nD τ).loc main_arg1))) (rowT n q) (c21 r) = PT (xb (m ((c : Thread nD τ).loc main_arg0)) (bOf t) (eT (tileOf (eOf t) n))) (hWT (m ((c : Thread nD τ).loc main_arg1))) (rowT (nT (tileOf (eOf t) n)) q) (c21 r)
  rw [eT_tileOf, nT_tileOf]

theorem outs22 (c : Dev nD) (t : Fin grid0.N) (n : Fin 4) (r : Fin 512) (q : Fin 256) :
    (outsAt0 (F := Ideal) m c t).2.2.2.2.2.2.2.1 (ix4 0 n r q : S1x4x512x256.Idx) = PT (xb (m ((c : Thread nD τ).loc main_arg0)) (bOf t) (eOf t)) (hWT (m ((c : Thread nD τ).loc main_arg1))) (rowT n q) (c22 r) := by
  refine (out22_apply ..).trans ?_
  rw [iblk0, iblk1]
  rfl

theorem final22 (c : Dev nD) :
    (dats (F := Ideal) m 0 c).arrAt 22 cfg0.N = O22 (m ((c : Thread nD τ).loc main_arg0)) (m ((c : Thread nD τ).loc main_arg1)) := by
  refine (dats (F := Ideal) m 0 c).arrAt_eq_of_covers 22 _ (by decide +kernel) fun t hf y => ?_
  blk_simp
  obtain ⟨n, r, q, rfl⟩ : ∃ (n : Fin 4) (r : Fin 512) (q : Fin 256), y = (ix4 0 n r q : S1x4x512x256.Idx) :=
    ⟨y 1, y 2, y 3, (eq_ix4 (y : S1x4x512x256.Idx)).trans (congrArg (fun z => (ix4 z (y 1) (y 2) (y 3) : S1x4x512x256.Idx)) (Subsingleton.elim (α := Fin 1) _ _))⟩
  have hz : (win0_22.blk t).view.emb (ix4 0 n r q : S1x4x512x256.Idx) = (ix4 (bOf t) (tileOf (eOf t) n) r q : S8x16x512x256.Idx) := by
    blk_ext [idx22, posOf, tileOf]
  rw [hz]
  refine (outs22 ..).trans ?_
  show PT (xb (m ((c : Thread nD τ).loc main_arg0)) (bOf t) (eOf t)) (hWT (m ((c : Thread nD τ).loc main_arg1))) (rowT n q) (c22 r) = PT (xb (m ((c : Thread nD τ).loc main_arg0)) (bOf t) (eT (tileOf (eOf t) n))) (hWT (m ((c : Thread nD τ).loc main_arg1))) (rowT (nT (tileOf (eOf t) n)) q) (c22 r)
  rw [eT_tileOf, nT_tileOf]

theorem outs23 (c : Dev nD) (t : Fin grid0.N) (n : Fin 4) (r : Fin 512) (q : Fin 256) :
    (outsAt0 (F := Ideal) m c t).2.2.2.2.2.2.2.2 (ix4 0 n r q : S1x4x512x256.Idx) = G23 (xb (m ((c : Thread nD τ).loc main_arg0)) (bOf t) (eOf t)) (hWT (m ((c : Thread nD τ).loc main_arg1))) (mb (hKm (m ((c : Thread nD τ).loc main_arg6))) (bOf t)) (vb (hVm (m ((c : Thread nD τ).loc main_arg7))) (bOf t)) n r q := by
  refine (out23_apply ..).trans ?_
  rw [iblk0, iblk1, iblk13, iblk14]
  rfl

theorem final23 (c : Dev nD) :
    (dats (F := Ideal) m 0 c).arrAt 23 cfg0.N = O23 (m ((c : Thread nD τ).loc main_arg0)) (m ((c : Thread nD τ).loc main_arg1)) (m ((c : Thread nD τ).loc main_arg6)) (m ((c : Thread nD τ).loc main_arg7)) := by
  refine (dats (F := Ideal) m 0 c).arrAt_eq_of_covers 23 _ (by decide +kernel) fun t hf y => ?_
  blk_simp
  obtain ⟨n, r, q, rfl⟩ : ∃ (n : Fin 4) (r : Fin 512) (q : Fin 256), y = (ix4 0 n r q : S1x4x512x256.Idx) :=
    ⟨y 1, y 2, y 3, (eq_ix4 (y : S1x4x512x256.Idx)).trans (congrArg (fun z => (ix4 z (y 1) (y 2) (y 3) : S1x4x512x256.Idx)) (Subsingleton.elim (α := Fin 1) _ _))⟩
  have hz : (win0_23.blk t).view.emb (ix4 0 n r q : S1x4x512x256.Idx) = (ix4 (bOf t) (tileOf (eOf t) n) r q : S8x16x512x256.Idx) := by
    blk_ext [idx23, posOf, tileOf]
  rw [hz]
  refine (outs23 ..).trans ?_
  show G23 (xb (m ((c : Thread nD τ).loc main_arg0)) (bOf t) (eOf t)) (hWT (m ((c : Thread nD τ).loc main_arg1))) (mb (hKm (m ((c : Thread nD τ).loc main_arg6))) (bOf t)) (vb (hVm (m ((c : Thread nD τ).loc main_arg7))) (bOf t)) n r q = G23 (xb (m ((c : Thread nD τ).loc main_arg0)) (bOf t) (eT (tileOf (eOf t) n))) (hWT (m ((c : Thread nD τ).loc main_arg1))) (mb (hKm (m ((c : Thread nD τ).loc main_arg6))) (bOf t)) (vb (hVm (m ((c : Thread nD τ).loc main_arg7))) (bOf t)) (nT (tileOf (eOf t) n)) r q
  rw [eT_tileOf, nT_tileOf]

end Cert.Kernel3Ideal.In

end
-- ==== Proof.In.HostVal.lean ====
/-
  The input projections: the host's arrays element by element.
-/
module

public import proofs.«01_k».proof.Proof.In.Host
public import proofs.«01_k».proof.Proof.Gen.Kernel3Ideal.Frame
public import Idealize.ShloMosaic.Lib.Pointwise

@[expose] public section

set_option maxRecDepth 16384

noncomputable section

namespace Cert.Kernel3Ideal.In

open Cert.Kernel3Ideal Cert.Kernel3Ideal.Gen Cert.InCore Cert.ObCore
open Idealize.ShloMosaic Idealize.ShloMosaic.TcCoe Idealize.SL.Sem
open scoped BigOperators

theorem hWT_0 (a1 : FVec Ideal S1024x4000 .f32) (c : Fin 512) (j : Fin 1024) :
    hWT a1 (ix2 ⟨c.val, by omega⟩ j) = a1 (ix2 j ⟨2976 + c.val, by omega⟩) := by
  rw [show (⟨c.val, by omega⟩ : Fin 3456) = ⟨0 + c.val, by omega⟩ from Fin.ext (by show c.val = 0 + c.val; omega)]
  pointwise [hWT]

theorem hWT_1 (a1 : FVec Ideal S1024x4000 .f32) (c : Fin 384) (j : Fin 1024) :
    hWT a1 (ix2 ⟨512 + c.val, by omega⟩ j) = a1 (ix2 j ⟨c.val, by omega⟩) := by
  pointwise [hWT]

theorem hWT_2 (a1 : FVec Ideal S1024x4000 .f32) (c : Fin 512) (j : Fin 1024) :
    hWT a1 (ix2 ⟨896 + c.val, by omega⟩ j) = a1 (ix2 j ⟨416 + c.val, by omega⟩) := by
  rw [show (⟨896 + c.val, by omega⟩ : Fin 3456) = ⟨512 + (384 + c.val), by omega⟩ from Fin.ext (by show 896 + c.val = 512 + (384 + c.val); omega)]
  pointwise [hWT]

theorem hWT_3 (a1 : FVec Ideal S1024x4000 .f32) (c : Fin 512) (j : Fin 1024) :
    hWT a1 (ix2 ⟨1408 + c.val, by omega⟩ j) = a1 (ix2 j ⟨928 + c.val, by omega⟩) := by
  rw [show (⟨1408 + c.val, by omega⟩ : Fin 3456) = ⟨512 + (384 + (512 + c.val)), by omega⟩ from Fin.ext (by show 1408 + c.val = 512 + (384 + (512 + c.val)); omega)]
  pointwise [hWT]

theorem hWT_4 (a1 : FVec Ideal S1024x4000 .f32) (c : Fin 1024) (j : Fin 1024) :
    hWT a1 (ix2 ⟨1920 + c.val, by omega⟩ j) = a1 (ix2 j ⟨1952 + c.val, by omega⟩) := by
  rw [show (⟨1920 + c.val, by omega⟩ : Fin 3456) = ⟨512 + (384 + (512 + (512 + c.val))), by omega⟩ from Fin.ext (by show 1920 + c.val = 512 + (384 + (512 + (512 + c.val))); omega)]
  pointwise [hWT]

theorem hWT_5 (a1 : FVec Ideal S1024x4000 .f32) (c : Fin 512) (j : Fin 1024) :
    hWT a1 (ix2 ⟨2944 + c.val, by omega⟩ j) = a1 (ix2 j ⟨3488 + c.val, by omega⟩) := by
  rw [show (⟨2944 + c.val, by omega⟩ : Fin 3456) = ⟨512 + (384 + (512 + (512 + (1024 + c.val)))), by omega⟩ from Fin.ext (by show 2944 + c.val = 512 + (384 + (512 + (512 + (1024 + c.val)))); omega)]
  pointwise [hWT]

theorem hWS_0 (a1 : FVec Ideal S1024x4000 .f32) (c : Fin 128) (j : Fin 1024) :
    hWS a1 (ix2 j ⟨c.val, by omega⟩) = a1 (ix2 j ⟨256 + c.val, by omega⟩) := by
  rw [show (⟨c.val, by omega⟩ : Fin 768) = ⟨0 + c.val, by omega⟩ from Fin.ext (by show c.val = 0 + c.val; omega)]
  pointwise [hWS]

theorem hWS_1 (a1 : FVec Ideal S1024x4000 .f32) (c : Fin 512) (j : Fin 1024) :
    hWS a1 (ix2 j ⟨128 + c.val, by omega⟩) = a1 (ix2 j ⟨1440 + c.val, by omega⟩) := by
  pointwise [hWS]

theorem hWS_2 (a1 : FVec Ideal S1024x4000 .f32) (c : Fin 32) (j : Fin 1024) :
    hWS a1 (ix2 j ⟨640 + c.val, by omega⟩) = a1 (ix2 j ⟨384 + c.val, by omega⟩) := by
  rw [show (⟨640 + c.val, by omega⟩ : Fin 768) = ⟨128 + (512 + c.val), by omega⟩ from Fin.ext (by show 640 + c.val = 128 + (512 + c.val); omega)]
  pointwise [hWS]

theorem hWS_3 (a1 : FVec Ideal S1024x4000 .f32) (c : Fin 16) (j : Fin 1024) :
    hWS a1 (ix2 j ⟨672 + c.val, by omega⟩) = -a1 (ix2 j ⟨384 + (16 + c.val), by omega⟩) := by
  rw [show (⟨672 + c.val, by omega⟩ : Fin 768) = ⟨128 + (512 + (32 + c.val)), by omega⟩ from Fin.ext (by show 672 + c.val = 128 + (512 + (32 + c.val)); omega)]
  pointwise [hWS]
  rw [dif_pos (by omega)]

theorem hWS_4 (a1 : FVec Ideal S1024x4000 .f32) (c : Fin 16) (j : Fin 1024) :
    hWS a1 (ix2 j ⟨688 + c.val, by omega⟩) = a1 (ix2 j ⟨384 + c.val, by omega⟩) := by
  rw [show (⟨688 + c.val, by omega⟩ : Fin 768) = ⟨128 + (512 + (32 + (16 + c.val))), by omega⟩ from Fin.ext (by show 688 + c.val = 128 + (512 + (32 + (16 + c.val))); omega)]
  pointwise [hWS]
  rw [dif_pos (by omega)]

theorem hQg_apply (a2 : FVec Ideal S256 .f32) (i : Fin 256) :
    hQg a2 (ix2 i 0) = a2 (ix1 i) := by
  pointwise [hQg]

theorem hKc_apply (a4 : FVec Ideal S128 .f32) (i : Fin 128) :
    hKc a4 (ix2 i 0) = a4 (ix1 i) := by
  pointwise [hKc]

theorem hKr_apply (a4 : FVec Ideal S128 .f32) (i : Fin 128) :
    hKr a4 (ix2 0 i) = a4 (ix1 i) := by
  pointwise [hKr]

theorem hWq_0 (a3 : FVec Ideal S256x768 .f32) (r : Fin 512) (x : Fin 256) :
    hWq a3 (ix2 ⟨r.val, by omega⟩ x) = a3 (ix2 x ⟨r.val / 64 * 96 + r.val % 64, by omega⟩) := by
  rw [show (⟨r.val, by omega⟩ : Fin 768) = ⟨0 + r.val, by omega⟩ from Fin.ext (by show r.val = 0 + r.val; omega)]
  pointwise [hWq]

theorem hWq_1 (a3 : FVec Ideal S256x768 .f32) (r : Fin 128) (x : Fin 256) :
    hWq a3 (ix2 ⟨512 + r.val, by omega⟩ x) = a3 (ix2 x ⟨r.val / 16 * 96 + (64 + r.val % 16), by omega⟩) := by
  pointwise [hWq]

theorem hWq_2 (a3 : FVec Ideal S256x768 .f32) (r : Fin 128) (x : Fin 256) :
    hWq a3 (ix2 ⟨640 + r.val, by omega⟩ x) = a3 (ix2 x ⟨r.val / 16 * 96 + (80 + r.val % 16), by omega⟩) := by
  rw [show (⟨640 + r.val, by omega⟩ : Fin 768) = ⟨512 + (128 + r.val), by omega⟩ from Fin.ext (by show 640 + r.val = 512 + (128 + r.val); omega)]
  pointwise [hWq]

theorem hWv_apply (a5 : FVec Ideal S128x1024 .f32) (r : Fin 512) (x : Fin 128) :
    hWv a5 (ix2 r x) = a5 (ix2 x ⟨r.val / 64 * 128 + (64 + r.val % 64), by omega⟩) := by
  pointwise [hWv]

theorem hWk_0 (a5 : FVec Ideal S128x1024 .f32) (x : Fin 128) (h : Fin 8) (e : Fin 128) :
    hWk a5 (ix2 ⟨x.val, by omega⟩ ⟨h.val * 128 + e.val, by omega⟩) = Scalar.select (IntOp.cmpi CmpIPredicate.slt (BitVec.ofNat 32 e.val) 64#32)
      (a5 (ix2 x ⟨h.val * 128 + e.val, by omega⟩)) 0 := by
  rw [show (⟨x.val, by omega⟩ : Fin 256) = ⟨0 + x.val, by omega⟩ from Fin.ext (by show x.val = 0 + x.val; omega)]
  pointwise [hWk]
  simp only [mul_zero]

theorem hWk_1 (a5 : FVec Ideal S128x1024 .f32) (x : Fin 128) (h : Fin 8) (e : Fin 128) :
    hWk a5 (ix2 ⟨128 + x.val, by omega⟩ ⟨h.val * 128 + e.val, by omega⟩) = Scalar.select (IntOp.andi (IntOp.cmpi CmpIPredicate.slt (BitVec.ofNat 32 x.val) 32#32)
      (IntOp.cmpi CmpIPredicate.eq (BitVec.ofNat 32 e.val) (IntOp.addi (BitVec.ofNat 32 x.val) 64#32))) 1 0 := by
  pointwise [hWk]

theorem hCosq_apply (n : Fin 16) (r : Fin 128) (q : Fin 256) :
    hCosq (ix3 n r q) = Ideal.cos (hAng (ix2 ⟨n.val * 256 + q.val, by omega⟩ ⟨r.val % 16, by omega⟩)) := by
  pointwise [hCosq]

theorem hCosk_0 (s : Fin 4096) (x : Fin 16) :
    hCosk (ix2 s ⟨x.val, by omega⟩) = Ideal.cos (hAng (ix2 s x)) := by
  rw [show (⟨x.val, by omega⟩ : Fin 128) = ⟨0 + x.val, by omega⟩ from Fin.ext (by show x.val = 0 + x.val; omega)]
  pointwise [hCosk]

theorem hCosk_1 (s : Fin 4096) (x : Fin 16) :
    hCosk (ix2 s ⟨16 + x.val, by omega⟩) = Ideal.cos (hAng (ix2 s x)) := by
  pointwise [hCosk]

theorem hSinq_apply (n : Fin 16) (r : Fin 128) (q : Fin 256) :
    hSinq (ix3 n r q) = Ideal.sin (hAng (ix2 ⟨n.val * 256 + q.val, by omega⟩ ⟨r.val % 16, by omega⟩)) := by
  pointwise [hSinq]

theorem hSink_0 (s : Fin 4096) (x : Fin 16) :
    hSink (ix2 s ⟨x.val, by omega⟩) = Ideal.sin (hAng (ix2 s x)) := by
  rw [show (⟨x.val, by omega⟩ : Fin 128) = ⟨0 + x.val, by omega⟩ from Fin.ext (by show x.val = 0 + x.val; omega)]
  pointwise [hSink]

theorem hSink_1 (s : Fin 4096) (x : Fin 16) :
    hSink (ix2 s ⟨16 + x.val, by omega⟩) = Ideal.sin (hAng (ix2 s x)) := by
  pointwise [hSink]

theorem hKm_apply (a6 : FVec Ideal S8x256x4x128 .f32) (b : Fin 8) (k : Fin 256) (r : Fin 512) :
    hKm a6 (ix3 b k r) = a6 (ix4 b k ⟨r.val / 128, by omega⟩ ⟨r.val % 128, by omega⟩) := by
  pointwise [hKm]

theorem hVm_apply (a7 : FVec Ideal S8x256x4x128 .f32) (b : Fin 8) (k : Fin 256) (r : Fin 512) :
    hVm a7 (ix3 b r k) = a7 (ix4 b k ⟨r.val / 128, by omega⟩ ⟨r.val % 128, by omega⟩) := by
  pointwise [hVm]

end Cert.Kernel3Ideal.In

end
-- ==== Proof.In.Ref.lean ====
/-
  The input projections' reference, element by element.
-/
module

public import proofs.«01_k».proof.Proof.Gen.Reference3Ideal.Run
public import proofs.«01_k».proof.Proof.In.Core
public import Idealize.ShloMosaic.Lib.Pointwise
public import Idealize.ShloMosaic.Lib.Quiescent

@[expose] public section

set_option maxRecDepth 16384

noncomputable section

namespace Cert.Reference3Ideal.In

open Cert.Reference3Ideal Cert.Reference3Ideal.Gen Cert.ObCore Cert.InCore
open Idealize.ShloMosaic Idealize.ShloMosaic.TcCoe
open scoped BigOperators

/-! ### The frame -/

theorem frame {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c => (h c).2.2.2.2.2.2.2.2.2, sem_eq_zero_of_no_sems (by decide) r.2⟩) (Cert.Reference3Ideal.Value.run m ρ)

/-! ### The terms of the results -/

/-- The projection of the inputs. -/
def rP (a0 : FVec Ideal S8x4096x1024 .f32) (a1 : FVec Ideal S1024x4000 .f32) : FVec Ideal S8x4096x4000 .f32 :=
  Host.dotGeneral dot_S8x4096x1024_S1024x4000_S8x4096x4000_2_0_01_1_n_n none a0 a1

/-- The queries before the rotation. -/
def rQa (p : FVec Ideal S8x4096x4000 .f32) (a2 : FVec Ideal S256 .f32) (a3 : FVec Ideal S256x768 .f32) : FVec Ideal S8x4096x8x96 .f32 :=
  shapeCast S8x4096x8x96 (Host.dotGeneral dot_S8x4096x256_S256x768_S8x4096x768_2_0_01_1_n_n none (mulf (mulf (extractStridedSlice S8x4096x256 ![0, 0, 0] p slices_S8x4096x4000_S8x4096x256_0_0_0) (broadcastInDim S8x4096x256 ![0, 1, 2] bcast_S8x4096x1_S8x4096x256_0_1_2 (Host.rsqrt (addf (Host.divf (broadcastInDim S8x4096x1 ![0, 1] bcast_S8x4096_S8x4096x1_0_1 (Host.reduceAdd (mulf (extractStridedSlice S8x4096x256 ![0, 0, 0] p slices_S8x4096x4000_S8x4096x256_0_0_0) (extractStridedSlice S8x4096x256 ![0, 0, 0] p slices_S8x4096x4000_S8x4096x256_0_0_0)) (constant S_ .f32 0x00000000#32) reducesTo_S8x4096x256_S8x4096_d2 h_S_)) (broadcastInDim S8x4096x1 ![] bcast_S_S8x4096x1 (constant S_ .f32 0x43800000#32))) (broadcastInDim S8x4096x1 ![] bcast_S_S8x4096x1 (constant S_ .f32 0x358637BD#32)))))) (broadcastInDim S8x4096x256 ![0, 1, 2] bcast_S1x1x256_S8x4096x256_0_1_2 (broadcastInDim S1x1x256 ![2] bcast_S256_S1x1x256_2 a2))) a3) shapeCasts_S8x4096x768_S8x4096x8x96

/-- The keys and the values of the compressed branch. -/
def rKv (p : FVec Ideal S8x4096x4000 .f32) (a4 : FVec Ideal S128 .f32) (a5 : FVec Ideal S128x1024 .f32) : FVec Ideal S8x4096x8x128 .f32 :=
  shapeCast S8x4096x8x128 (Host.dotGeneral dot_S8x4096x128_S128x1024_S8x4096x1024_2_0_01_1_n_n none (mulf (mulf (extractStridedSlice S8x4096x128 ![0, 0, 256] p slices_S8x4096x4000_S8x4096x128_0_0_256) (broadcastInDim S8x4096x128 ![0, 1, 2] bcast_S8x4096x1_S8x4096x128_0_1_2 (Host.rsqrt (addf (Host.divf (broadcastInDim S8x4096x1 ![0, 1] bcast_S8x4096_S8x4096x1_0_1 (Host.reduceAdd (mulf (extractStridedSlice S8x4096x128 ![0, 0, 256] p slices_S8x4096x4000_S8x4096x128_0_0_256) (extractStridedSlice S8x4096x128 ![0, 0, 256] p slices_S8x4096x4000_S8x4096x128_0_0_256)) (constant S_ .f32 0x00000000#32) reducesTo_S8x4096x128_S8x4096_d2 h_S_)) (broadcastInDim S8x4096x1 ![] bcast_S_S8x4096x1 (constant S_ .f32 0x43000000#32))) (broadcastInDim S8x4096x1 ![] bcast_S_S8x4096x1 (constant S_ .f32 0x358637BD#32)))))) (broadcastInDim S8x4096x128 ![0, 1, 2] bcast_S1x1x128_S8x4096x128_0_1_2 (broadcastInDim S1x1x128 ![2] bcast_S128_S1x1x128_2 a4))) a5) shapeCasts_S8x4096x1024_S8x4096x8x128

/-- The angles. -/
def rAng : FVec Ideal S4096x16 .f32 :=
  mulf (broadcastInDim S4096x16 ![0, 1] bcast_S4096x1_S4096x16_0_1 (broadcastInDim S4096x1 ![0] bcast_S4096_S4096x1_0 (sitofp .f32 (iotaInDim S4096 32 0)))) (broadcastInDim S4096x16 ![0, 1] bcast_S1x16_S4096x16_0_1 (broadcastInDim S1x16 ![1] bcast_S16_S1x16_1 (Host.powf (broadcastInDim S16 ![] bcast_S_S16 (constant S_ .f32 0x461C4000#32)) (Host.divf (Host.negf (sitofp .f32 (iotaInDim S16 32 0))) (broadcastInDim S16 ![] bcast_S_S16 (constant S_ .f32 0x41800000#32))))))

/-- The queries. -/
def rQf (qa : FVec Ideal S8x4096x8x96 .f32) : FVec Ideal S8x4096x8x96 .f32 :=
  Cert.Reference3Ideal.Value.fn_main_v105 (F := Ideal) (extractStridedSlice S8x4096x8x64 ![0, 0, 0, 0] qa slices_S8x4096x8x96_S8x4096x8x64_0_0_0_0) (Cert.Reference3Ideal.Value.fn_main_v104 (F := Ideal) (subf (mulf (extractStridedSlice S8x4096x8x16 ![0, 0, 0, 0] (extractStridedSlice S8x4096x8x32 ![0, 0, 0, 64] qa slices_S8x4096x8x96_S8x4096x8x32_0_0_0_64) slices_S8x4096x8x32_S8x4096x8x16_0_0_0_0) (broadcastInDim S8x4096x8x16 ![0, 1, 2, 3] bcast_S1x4096x1x16_S8x4096x8x16_0_1_2_3 (broadcastInDim S1x4096x1x16 ![1, 3] bcast_S4096x16_S1x4096x1x16_1_3 (Host.cos rAng)))) (mulf (extractStridedSlice S8x4096x8x16 ![0, 0, 0, 16] (extractStridedSlice S8x4096x8x32 ![0, 0, 0, 64] qa slices_S8x4096x8x96_S8x4096x8x32_0_0_0_64) slices_S8x4096x8x32_S8x4096x8x16_0_0_0_16) (broadcastInDim S8x4096x8x16 ![0, 1, 2, 3] bcast_S1x4096x1x16_S8x4096x8x16_0_1_2_3 (broadcastInDim S1x4096x1x16 ![1, 3] bcast_S4096x16_S1x4096x1x16_1_3 (Host.sin rAng))))) (addf (mulf (extractStridedSlice S8x4096x8x16 ![0, 0, 0, 0] (extractStridedSlice S8x4096x8x32 ![0, 0, 0, 64] qa slices_S8x4096x8x96_S8x4096x8x32_0_0_0_64) slices_S8x4096x8x32_S8x4096x8x16_0_0_0_0) (broadcastInDim S8x4096x8x16 ![0, 1, 2, 3] bcast_S1x4096x1x16_S8x4096x8x16_0_1_2_3 (broadcastInDim S1x4096x1x16 ![1, 3] bcast_S4096x16_S1x4096x1x16_1_3 (Host.sin rAng)))) (mulf (extractStridedSlice S8x4096x8x16 ![0, 0, 0, 16] (extractStridedSlice S8x4096x8x32 ![0, 0, 0, 64] qa slices_S8x4096x8x96_S8x4096x8x32_0_0_0_64) slices_S8x4096x8x32_S8x4096x8x16_0_0_0_16) (broadcastInDim S8x4096x8x16 ![0, 1, 2, 3] bcast_S1x4096x1x16_S8x4096x8x16_0_1_2_3 (broadcastInDim S1x4096x1x16 ![1, 3] bcast_S4096x16_S1x4096x1x16_1_3 (Host.cos rAng))))))

/-- The keys. -/
def rKf (p : FVec Ideal S8x4096x4000 .f32) (kv : FVec Ideal S8x4096x8x128 .f32) : FVec Ideal S8x4096x8x96 .f32 :=
  Cert.Reference3Ideal.Value.fn_main_v107 (F := Ideal) (extractStridedSlice S8x4096x8x64 ![0, 0, 0, 0] kv slices_S8x4096x8x128_S8x4096x8x64_0_0_0_0) (broadcastInDim S8x4096x8x32 ![0, 1, 2, 3] bcast_S8x4096x1x32_S8x4096x8x32_0_1_2_3 (Cert.Reference3Ideal.Value.fn_main_v75 (F := Ideal) (subf (mulf (extractStridedSlice S8x4096x1x16 ![0, 0, 0, 0] (shapeCast S8x4096x1x32 (extractStridedSlice S8x4096x32 ![0, 0, 384] p slices_S8x4096x4000_S8x4096x32_0_0_384) shapeCasts_S8x4096x32_S8x4096x1x32) slices_S8x4096x1x32_S8x4096x1x16_0_0_0_0) (broadcastInDim S8x4096x1x16 ![0, 1, 2, 3] bcast_S1x4096x1x16_S8x4096x1x16_0_1_2_3 (broadcastInDim S1x4096x1x16 ![1, 3] bcast_S4096x16_S1x4096x1x16_1_3 (Host.cos rAng)))) (mulf (extractStridedSlice S8x4096x1x16 ![0, 0, 0, 16] (shapeCast S8x4096x1x32 (extractStridedSlice S8x4096x32 ![0, 0, 384] p slices_S8x4096x4000_S8x4096x32_0_0_384) shapeCasts_S8x4096x32_S8x4096x1x32) slices_S8x4096x1x32_S8x4096x1x16_0_0_0_16) (broadcastInDim S8x4096x1x16 ![0, 1, 2, 3] bcast_S1x4096x1x16_S8x4096x1x16_0_1_2_3 (broadcastInDim S1x4096x1x16 ![1, 3] bcast_S4096x16_S1x4096x1x16_1_3 (Host.sin rAng))))) (addf (mulf (extractStridedSlice S8x4096x1x16 ![0, 0, 0, 0] (shapeCast S8x4096x1x32 (extractStridedSlice S8x4096x32 ![0, 0, 384] p slices_S8x4096x4000_S8x4096x32_0_0_384) shapeCasts_S8x4096x32_S8x4096x1x32) slices_S8x4096x1x32_S8x4096x1x16_0_0_0_0) (broadcastInDim S8x4096x1x16 ![0, 1, 2, 3] bcast_S1x4096x1x16_S8x4096x1x16_0_1_2_3 (broadcastInDim S1x4096x1x16 ![1, 3] bcast_S4096x16_S1x4096x1x16_1_3 (Host.sin rAng)))) (mulf (extractStridedSlice S8x4096x1x16 ![0, 0, 0, 16] (shapeCast S8x4096x1x32 (extractStridedSlice S8x4096x32 ![0, 0, 384] p slices_S8x4096x4000_S8x4096x32_0_0_384) shapeCasts_S8x4096x32_S8x4096x1x32) slices_S8x4096x1x32_S8x4096x1x16_0_0_0_16) (broadcastInDim S8x4096x1x16 ![0, 1, 2, 3] bcast_S1x4096x1x16_S8x4096x1x16_0_1_2_3 (broadcastInDim S1x4096x1x16 ![1, 3] bcast_S4096x16_S1x4096x1x16_1_3 (Host.cos rAng)))))))

/-- The values. -/
def rVa (kv : FVec Ideal S8x4096x8x128 .f32) : FVec Ideal S8x4096x8x64 .f32 :=
  extractStridedSlice S8x4096x8x64 ![0, 0, 0, 64] kv slices_S8x4096x8x128_S8x4096x8x64_0_0_0_64

/-- The second branch: queries. -/
def rQb (p : FVec Ideal S8x4096x4000 .f32) : FVec Ideal S8x4096x8x64 .f32 :=
  shapeCast S8x4096x8x64 (extractStridedSlice S8x4096x512 ![0, 0, 928] p slices_S8x4096x4000_S8x4096x512_0_0_928) shapeCasts_S8x4096x512_S8x4096x8x64

/-- The second branch: keys. -/
def rKb (p : FVec Ideal S8x4096x4000 .f32) : FVec Ideal S8x4096x8x64 .f32 :=
  shapeCast S8x4096x8x64 (extractStridedSlice S8x4096x512 ![0, 0, 1440] p slices_S8x4096x4000_S8x4096x512_0_0_1440) shapeCasts_S8x4096x512_S8x4096x8x64

/-- The second branch: values. -/
def rVb (p : FVec Ideal S8x4096x4000 .f32) : FVec Ideal S8x4096x8x64 .f32 :=
  shapeCast S8x4096x8x64 (extractStridedSlice S8x4096x512 ![0, 0, 1952] p slices_S8x4096x4000_S8x4096x512_0_0_1952) shapeCasts_S8x4096x512_S8x4096x8x64

/-- The first gate. -/
def rGa (p : FVec Ideal S8x4096x4000 .f32) : FVec Ideal S8x4096x512 .f32 :=
  extractStridedSlice S8x4096x512 ![0, 0, 416] p slices_S8x4096x4000_S8x4096x512_0_0_416

/-- The second gate. -/
def rGb (p : FVec Ideal S8x4096x4000 .f32) : FVec Ideal S8x4096x512 .f32 :=
  extractStridedSlice S8x4096x512 ![0, 0, 2464] p slices_S8x4096x4000_S8x4096x512_0_0_2464

/-- The memory scores. -/
def rSc (p : FVec Ideal S8x4096x4000 .f32) (a6 : FVec Ideal S8x256x4x128 .f32) : FVec Ideal S8x4x4096x256 .f32 :=
  Host.divf (Host.dotGeneral dot_S8x4096x4x128_S8x256x4x128_S8x4x4096x256_3_3_1_1_02_02 none (shapeCast S8x4096x4x128 (extractStridedSlice S8x4096x512 ![0, 0, 2976] p slices_S8x4096x4000_S8x4096x512_0_0_2976) shapeCasts_S8x4096x512_S8x4096x4x128) a6) (broadcastInDim S8x4x4096x256 ![] bcast_S_S8x4x4096x256 (Host.sqrt (constant S_ .f32 0x43000000#32)))

/-- Their largest. -/
def rTop (sc : FVec Ideal S8x4x4096x256 .f32) : FVec Ideal S8x4x4096 .f32 :=
  Host.reduce FloatOps.maximumf sc (constant S_ .f32 0xFF800000#32) reducesTo_S8x4x4096x256_S8x4x4096_d3 h_S_

/-- Their largest, from below. -/
def rMx (sc : FVec Ideal S8x4x4096x256 .f32) : FVec Ideal S8x4x4096 .f32 :=
  maximumf (broadcastInDim S8x4x4096 ![] bcast_S_S8x4x4096 (constant S_ .f32 0xFF800000#32)) (rTop sc)

/-- Their exponentials. -/
def rEx (sc : FVec Ideal S8x4x4096x256 .f32) : FVec Ideal S8x4x4096x256 .f32 :=
  Host.exp (subf sc (broadcastInDim S8x4x4096x256 ![0, 1, 2, 3] bcast_S8x4x4096x1_S8x4x4096x256_0_1_2_3 (broadcastInDim S8x4x4096x1 ![0, 1, 2] bcast_S8x4x4096_S8x4x4096x1_0_1_2 (rMx sc))))

/-- The memory weights. -/
def rWt (sc : FVec Ideal S8x4x4096x256 .f32) : FVec Ideal S8x4x4096x256 .f32 :=
  Host.divf (rEx sc) (broadcastInDim S8x4x4096x256 ![0, 1, 2, 3] bcast_S8x4x4096x1_S8x4x4096x256_0_1_2_3 (broadcastInDim S8x4x4096x1 ![0, 1, 2] bcast_S8x4x4096_S8x4x4096x1_0_1_2 (Host.reduceAdd (rEx sc) (constant S_ .f32 0x00000000#32) reducesTo_S8x4x4096x256_S8x4x4096_d3 h_S_)))

/-- The gated memory output. -/
def rOm (sc : FVec Ideal S8x4x4096x256 .f32) (p : FVec Ideal S8x4096x4000 .f32) (a7 : FVec Ideal S8x256x4x128 .f32) : FVec Ideal S8x4096x512 .f32 :=
  mulf (shapeCast S8x4096x512 (transpose S8x4096x4x128 [0, 3, 1, 2] (Host.dotGeneral dot_S8x256x4x128_S8x4x4096x256_S8x4x128x4096_1_3_3_2_02_01 none a7 (rWt sc)) transposes_S8x4x128x4096_S8x4096x4x128_0_3_1_2) shapeCasts_S8x4096x4x128_S8x4096x512) (mulf (extractStridedSlice S8x4096x512 ![0, 0, 3488] p slices_S8x4096x4000_S8x4096x512_0_0_3488) (Host.divf (broadcastInDim S8x4096x512 ![] bcast_S_S8x4096x512 (constant S_ .f32 0x3F800000#32)) (addf (broadcastInDim S8x4096x512 ![] bcast_S_S8x4096x512 (constant S_ .f32 0x3F800000#32)) (Host.exp (Host.negf (extractStridedSlice S8x4096x512 ![0, 0, 3488] p slices_S8x4096x4000_S8x4096x512_0_0_3488))))))

set_option maxHeartbeats 1000000 in
theorem res0_eq (m : (ℓ : Loc nD τ sig) → Buf (Elt Ideal) ℓ) (c : Dev nD) :
    Cert.Reference3Ideal.Value.res_out0 (F := Ideal) m c = rQf (rQa (rP (m ((c.tc : Thread nD τ).loc main_arg0)) (m ((c.tc : Thread nD τ).loc main_arg1))) (m ((c.tc : Thread nD τ).loc main_arg2)) (m ((c.tc : Thread nD τ).loc main_arg3))) := rfl

set_option maxHeartbeats 1000000 in
theorem res1_eq (m : (ℓ : Loc nD τ sig) → Buf (Elt Ideal) ℓ) (c : Dev nD) :
    Cert.Reference3Ideal.Value.res_out1 (F := Ideal) m c = rKf (rP (m ((c.tc : Thread nD τ).loc main_arg0)) (m ((c.tc : Thread nD τ).loc main_arg1))) (rKv (rP (m ((c.tc : Thread nD τ).loc main_arg0)) (m ((c.tc : Thread nD τ).loc main_arg1))) (m ((c.tc : Thread nD τ).loc main_arg4)) (m ((c.tc : Thread nD τ).loc main_arg5))) := rfl

set_option maxHeartbeats 1000000 in
theorem res8_eq (m : (ℓ : Loc nD τ sig) → Buf (Elt Ideal) ℓ) (c : Dev nD) :
    Cert.Reference3Ideal.Value.res_out8 (F := Ideal) m c = rOm (rSc (rP (m ((c.tc : Thread nD τ).loc main_arg0)) (m ((c.tc : Thread nD τ).loc main_arg1))) (m ((c.tc : Thread nD τ).loc main_arg6))) (rP (m ((c.tc : Thread nD τ).loc main_arg0)) (m ((c.tc : Thread nD τ).loc main_arg1))) (m ((c.tc : Thread nD τ).loc main_arg7)) := rfl

/-! ### Element by element -/

theorem rP_apply (a0 : FVec Ideal S8x4096x1024 .f32) (a1 : FVec Ideal S1024x4000 .f32) (b : Fin 8) (s : Fin 4096) (c : Fin 4000) :
    rP a0 a1 (ix3 b s c) = ∑ j : Fin 1024, a0 (ix3 b s j) * a1 (ix2 j c) := by
  pointwise [rP]

theorem rQa_apply (p : FVec Ideal S8x4096x4000 .f32) (a2 : FVec Ideal S256 .f32) (a3 : FVec Ideal S256x768 .f32) (b : Fin 8) (s : Fin 4096) (h : Fin 8) (d : Fin 96) :
    rQa p a2 a3 (ix4 b s h d) = ∑ x : Fin 256, rms (Ideal.ofBits FTy.f32 0x43800000#32) (fun i : Fin 256 => p (ix3 b s ⟨i.val, by omega⟩)) (fun i => a2 (ix1 i)) x
      * a3 (ix2 x ⟨h.val * 96 + d.val, by omega⟩) := by
  unfold rms
  pointwise [rQa]

theorem rKv_apply (p : FVec Ideal S8x4096x4000 .f32) (a4 : FVec Ideal S128 .f32) (a5 : FVec Ideal S128x1024 .f32) (b : Fin 8) (s : Fin 4096) (h : Fin 8) (d : Fin 128) :
    rKv p a4 a5 (ix4 b s h d) = ∑ x : Fin 128, rms (Ideal.ofBits FTy.f32 0x43000000#32) (fun i : Fin 128 => p (ix3 b s ⟨256 + i.val, by omega⟩)) (fun i => a4 (ix1 i)) x
      * a5 (ix2 x ⟨h.val * 128 + d.val, by omega⟩) := by
  unfold rms
  pointwise [rKv]

/-- The cosine and the sine of a position's angle. -/
def cs (s : Fin 4096) (i : Fin 16) : EReal := Ideal.cos (rAng (ix2 s i))
def sn (s : Fin 4096) (i : Fin 16) : EReal := Ideal.sin (rAng (ix2 s i))

theorem rQf_a (qa : FVec Ideal S8x4096x8x96 .f32) (b : Fin 8) (s : Fin 4096) (h : Fin 8) (d : Fin 64) :
    rQf qa (ix4 b s h ⟨0 + d.val, by omega⟩) = qa (ix4 b s h ⟨d.val, by omega⟩) := by
  pointwise [rQf, Cert.Reference3Ideal.Value.fn_main_v104, Cert.Reference3Ideal.Value.fn_main_v105]

theorem rQf_b (qa : FVec Ideal S8x4096x8x96 .f32) (b : Fin 8) (s : Fin 4096) (h : Fin 8) (d : Fin 16) :
    rQf qa (ix4 b s h ⟨64 + d.val, by omega⟩) = qa (ix4 b s h ⟨64 + d.val, by omega⟩) * cs s d - qa (ix4 b s h ⟨64 + (16 + d.val), by omega⟩) * sn s d := by
  unfold cs sn
  pointwise [rQf, Cert.Reference3Ideal.Value.fn_main_v104, Cert.Reference3Ideal.Value.fn_main_v105]

theorem rQf_c (qa : FVec Ideal S8x4096x8x96 .f32) (b : Fin 8) (s : Fin 4096) (h : Fin 8) (d : Fin 16) :
    rQf qa (ix4 b s h ⟨64 + (16 + d.val), by omega⟩) = qa (ix4 b s h ⟨64 + d.val, by omega⟩) * sn s d + qa (ix4 b s h ⟨64 + (16 + d.val), by omega⟩) * cs s d := by
  unfold cs sn
  pointwise [rQf, Cert.Reference3Ideal.Value.fn_main_v104, Cert.Reference3Ideal.Value.fn_main_v105]

theorem rKf_a (p : FVec Ideal S8x4096x4000 .f32) (kv : FVec Ideal S8x4096x8x128 .f32) (b : Fin 8) (s : Fin 4096) (h : Fin 8) (d : Fin 64) :
    rKf p kv (ix4 b s h ⟨0 + d.val, by omega⟩) = kv (ix4 b s h ⟨d.val, by omega⟩) := by
  pointwise [rKf, Cert.Reference3Ideal.Value.fn_main_v75, Cert.Reference3Ideal.Value.fn_main_v107]

theorem rKf_b (p : FVec Ideal S8x4096x4000 .f32) (kv : FVec Ideal S8x4096x8x128 .f32) (b : Fin 8) (s : Fin 4096) (h : Fin 8) (d : Fin 16) :
    rKf p kv (ix4 b s h ⟨64 + d.val, by omega⟩) = p (ix3 b s ⟨384 + d.val, by omega⟩) * cs s d - p (ix3 b s ⟨384 + (16 + d.val), by omega⟩) * sn s d := by
  unfold cs sn
  pointwise [rKf, Cert.Reference3Ideal.Value.fn_main_v75, Cert.Reference3Ideal.Value.fn_main_v107]

theorem rKf_c (p : FVec Ideal S8x4096x4000 .f32) (kv : FVec Ideal S8x4096x8x128 .f32) (b : Fin 8) (s : Fin 4096) (h : Fin 8) (d : Fin 16) :
    rKf p kv (ix4 b s h ⟨64 + (16 + d.val), by omega⟩) = p (ix3 b s ⟨384 + d.val, by omega⟩) * sn s d + p (ix3 b s ⟨384 + (16 + d.val), by omega⟩) * cs s d := by
  unfold cs sn
  pointwise [rKf, Cert.Reference3Ideal.Value.fn_main_v75, Cert.Reference3Ideal.Value.fn_main_v107]

theorem rVa_apply (kv : FVec Ideal S8x4096x8x128 .f32) (b : Fin 8) (s : Fin 4096) (h : Fin 8) (d : Fin 64) :
    rVa kv (ix4 b s h d) = kv (ix4 b s h ⟨64 + d.val, by omega⟩) := by
  pointwise [rVa]

theorem rQb_apply (p : FVec Ideal S8x4096x4000 .f32) (b : Fin 8) (s : Fin 4096) (h : Fin 8) (d : Fin 64) :
    rQb p (ix4 b s h d) = p (ix3 b s ⟨928 + (h.val * 64 + d.val), by omega⟩) := by
  pointwise [rQb]

theorem rKb_apply (p : FVec Ideal S8x4096x4000 .f32) (b : Fin 8) (s : Fin 4096) (h : Fin 8) (d : Fin 64) :
    rKb p (ix4 b s h d) = p (ix3 b s ⟨1440 + (h.val * 64 + d.val), by omega⟩) := by
  pointwise [rKb]

theorem rVb_apply (p : FVec Ideal S8x4096x4000 .f32) (b : Fin 8) (s : Fin 4096) (h : Fin 8) (d : Fin 64) :
    rVb p (ix4 b s h d) = p (ix3 b s ⟨1952 + (h.val * 64 + d.val), by omega⟩) := by
  pointwise [rVb]

theorem rGa_apply (p : FVec Ideal S8x4096x4000 .f32) (b : Fin 8) (s : Fin 4096) (r : Fin 512) :
    rGa p (ix3 b s r) = p (ix3 b s ⟨416 + r.val, by omega⟩) := by
  pointwise [rGa]

theorem rGb_apply (p : FVec Ideal S8x4096x4000 .f32) (b : Fin 8) (s : Fin 4096) (r : Fin 512) :
    rGb p (ix3 b s r) = p (ix3 b s ⟨2464 + r.val, by omega⟩) := by
  pointwise [rGb]

theorem rSc_apply (p : FVec Ideal S8x4096x4000 .f32) (a6 : FVec Ideal S8x256x4x128 .f32) (b : Fin 8) (h : Fin 4) (s : Fin 4096) (k : Fin 256) :
    rSc p a6 (ix4 b h s k) = Ideal.div (∑ d : Fin 128, p (ix3 b s ⟨2976 + (h.val * 128 + d.val), by omega⟩) * a6 (ix4 b k h d)) (Ideal.sqrt (Ideal.ofBits FTy.f32 0x43000000#32)) := by
  pointwise [rSc]

theorem rEx_apply (sc : FVec Ideal S8x4x4096x256 .f32) (b : Fin 8) (h : Fin 4) (s : Fin 4096) (k : Fin 256) :
    rEx sc (ix4 b h s k) = Ideal.exp (sc (ix4 b h s k) - rMx sc (ix3 b h s)) := by
  pointwise [rEx]

theorem low_apply (i : S8x4x4096.Idx) :
    broadcastInDim S8x4x4096 ![] bcast_S_S8x4x4096 (constant (F := Ideal) S_ .f32 0xFF800000#32) i = Ideal.ofBits FTy.f32 0xFF800000#32 := rfl

theorem mx_aux (w : FVec Ideal S8x4x4096 .f32) (i : S8x4x4096.Idx) :
    maximumf (broadcastInDim S8x4x4096 ![] bcast_S_S8x4x4096 (constant S_ .f32 0xFF800000#32)) w i = max (Ideal.ofBits FTy.f32 0xFF800000#32) (w i) := by
  rw [maximumf_apply, low_apply]
  rfl

theorem rMx_apply (sc : FVec Ideal S8x4x4096x256 .f32) (b : Fin 8) (h : Fin 4) (s : Fin 4096) :
    rMx sc (ix3 b h s) = max (Ideal.ofBits FTy.f32 0xFF800000#32) (rTop sc (ix3 b h s)) := by
  unfold rMx
  exact mx_aux (rTop sc) (ix3 b h s)

theorem rWt_apply (sc : FVec Ideal S8x4x4096x256 .f32) (b : Fin 8) (h : Fin 4) (s : Fin 4096) (k : Fin 256) :
    rWt sc (ix4 b h s k) = Ideal.div (rEx sc (ix4 b h s k)) (∑ k : Fin 256, rEx sc (ix4 b h s k)) := by
  pointwise [rWt]

theorem rOm_apply (sc : FVec Ideal S8x4x4096x256 .f32) (p : FVec Ideal S8x4096x4000 .f32) (a7 : FVec Ideal S8x256x4x128 .f32) (b : Fin 8) (s : Fin 4096) (r : Fin 512) :
    rOm sc p a7 (ix3 b s r) = (∑ k : Fin 256, a7 (ix4 b k ⟨r.val / 128, by omega⟩ ⟨r.val % 128, by omega⟩) * rWt sc (ix4 b ⟨r.val / 128, by omega⟩ s k))
      * silu (p (ix3 b s ⟨3488 + r.val, by omega⟩)) := by
  unfold silu sg
  pointwise [rOm]

end Cert.Reference3Ideal.In

end
-- ==== Proof.In.RefTop.lean ====
/-
  The largest memory score of a row of the reference.
-/
module

public import proofs.«01_k».proof.Proof.In.Ref

@[expose] public section

set_option maxRecDepth 16384

noncomputable section

namespace Cert.Reference3Ideal.In

open Cert.Reference3Ideal Cert.Reference3Ideal.Gen Cert.ObCore Cert.InCore
open Idealize.ShloMosaic Idealize.ShloMosaic.TcCoe
open scoped BigOperators

theorem reduces : S8x4x4096x256.Reduces [3] S8x4x4096 := by decide

theorem lift_eq (b : Fin 8) (h : Fin 4) (s : Fin 4096) (k : Fin 256) : reduces.lift (ix3 b h s) k = ix4 b h s k := by
  funext a
  fin_cases a <;> rfl

theorem rTop_apply (sc : FVec Ideal S8x4x4096x256 .f32) (b : Fin 8) (h : Fin 4) (s : Fin 4096) :
    rTop sc (ix3 b h s) = top fun k => sc (ix4 b h s k) := by
  unfold rTop top
  rw [Host.reduce_eq_fold_single FloatOps.maximumf sc _ _ reduces]
  refine Finset.fold_congr (fun k _ => congrArg sc (lift_eq b h s k))

end Cert.Reference3Ideal.In

end
-- ==== Proof.In.Math.lean ====
/-
  The facts about extended reals that the input projections need.
-/
module

public import proofs.«01_k».proof.Proof.In.Core
public import proofs.«01_k».proof.Proof.Sb.Core

@[expose] public section

noncomputable section

namespace Cert.InCore

open Idealize.ShloMosaic Cert.SbCore Cert.ObCore
open scoped BigOperators

theorem ofBits_low : Ideal.ofBits FTy.f32 0xFF800000#32 = ⊥ := by
  simp [Ideal.ofBits, Ideal.ieee]

theorem ofBits_128 : Ideal.ofBits FTy.f32 0x43000000#32 = ((128 : ℝ) : EReal) := by
  simp [Ideal.ofBits, Ideal.ieee, -EReal.coe_mul]; norm_num

theorem ofBits_scale : ∃ r : ℝ, 0 < r ∧ Ideal.ofBits FTy.f32 0x3E16C740#32 = (r : EReal) := by
  refine ⟨9881408 / 67108864, by norm_num, ?_⟩
  simp [Ideal.ofBits, Ideal.ieee, -EReal.coe_mul]; norm_num

/-- A positive real scales and divides away. -/
theorem div_mul_self (a : EReal) {r : ℝ} (hr : 0 < r) : Ideal.div (a * (r : EReal)) (r : EReal) = a := by
  unfold Ideal.div
  rw [if_neg (by exact_mod_cast hr.ne'), mul_assoc, ← EReal.coe_inv, ← EReal.coe_mul, mul_inv_cancel₀ hr.ne', EReal.coe_one, mul_one]

/-- Dividing by a positive real is scaling by its inverse. -/
theorem div_coe (a : EReal) {r : ℝ} (hr : 0 < r) : Ideal.div a (r : EReal) = a * ((r⁻¹ : ℝ) : EReal) := by
  unfold Ideal.div
  rw [if_neg (by exact_mod_cast hr.ne'), EReal.coe_inv]

theorem sqrt_128 : Ideal.sqrt (Ideal.ofBits FTy.f32 0x43000000#32) = ((Real.sqrt 128 : ℝ) : EReal) := by
  rw [ofBits_128]
  show (if (128 : ℝ) < 0 then (⊥ : EReal) else ((Real.sqrt 128 : ℝ) : EReal)) = _
  rw [if_neg (by norm_num)]

theorem sqrt_128_pos : 0 < Real.sqrt 128 := Real.sqrt_pos.mpr (by norm_num)

/-- A finite sum of products with negated second factors. -/
theorem sum_mul_neg {n : ℕ} (x w : Fin n → EReal) (hx : ∀ j, x j = ((x j).toReal : EReal)) (hw : ∀ j, w j = ((w j).toReal : EReal)) :
    ∑ j, x j * -(w j) = -(∑ j, x j * w j) := by
  have h1 : ∀ j, x j * -(w j) = (((x j).toReal * -(w j).toReal : ℝ) : EReal) := fun j => by
    rw [EReal.coe_mul, EReal.coe_neg, ← hx j, ← hw j]
  have h2 : ∀ j, x j * w j = (((x j).toReal * (w j).toReal : ℝ) : EReal) := fun j => by
    rw [EReal.coe_mul, ← hx j, ← hw j]
  rw [Finset.sum_congr rfl fun j _ => h1 j, Finset.sum_congr rfl fun j _ => h2 j, sum_coe, sum_coe, ← EReal.coe_neg]
  simp

/-- A sum of products of reals is a real. -/
theorem sum_mul_real {n : ℕ} (x w : Fin n → EReal) (hx : ∀ j, x j = ((x j).toReal : EReal)) (hw : ∀ j, w j = ((w j).toReal : EReal)) :
    ∃ r : ℝ, ∑ j, x j * w j = (r : EReal) := by
  have h2 : ∀ j, x j * w j = (((x j).toReal * (w j).toReal : ℝ) : EReal) := fun j => by
    rw [EReal.coe_mul, ← hx j, ← hw j]
  exact ⟨_, (Finset.sum_congr rfl fun j _ => h2 j).trans (sum_coe _ _)⟩

/-- The largest of finitely many reals is a real. -/
theorem top_real (s : Fin 256 → ℝ) : ∃ M : ℝ, top (fun k => (s k : EReal)) = (M : EReal) := by
  refine ⟨(top fun k => (s k : EReal)).toReal, (EReal.coe_toReal ?_ ?_).symm⟩
  · refine ne_of_lt ?_
    unfold top
    rw [Finset.fold_max_lt, ofBits_low]
    exact ⟨bot_lt_top, fun k _ => EReal.coe_lt_top _⟩
  · refine ne_of_gt ?_
    unfold top
    rw [Finset.lt_fold_max]
    exact Or.inr ⟨0, Finset.mem_univ _, EReal.bot_lt_coe _⟩

/-- The memory read with one division at the end is the read by the weights. -/
theorem memK_eq (s : Fin 256 → ℝ) (v : Fin 256 → EReal) :
    memK (fun k => (s k : EReal)) v
      = ∑ k : Fin 256, v k * Ideal.div (Ideal.exp ((s k : EReal) - max (Ideal.ofBits FTy.f32 0xFF800000#32) (top fun k => (s k : EReal))))
          (∑ k : Fin 256, Ideal.exp ((s k : EReal) - max (Ideal.ofBits FTy.f32 0xFF800000#32) (top fun k => (s k : EReal)))) := by
  obtain ⟨M, hM⟩ := top_real s
  unfold memK
  rw [ofBits_low, max_eq_right bot_le, hM]
  have he : ∀ k, Ideal.exp ((s k : EReal) - (M : EReal)) = ((Real.exp (s k - M) : ℝ) : EReal) := fun k => by
    rw [← EReal.coe_sub]; rfl
  simp only [he]
  rw [sum_coe]
  have hL : 0 < ∑ k : Fin 256, Real.exp (s k - M) := Finset.sum_pos (fun k _ => Real.exp_pos _) ⟨0, Finset.mem_univ _⟩
  rw [div_coe _ hL, one_mul, sum_mul_coe _ _ (inv_nonneg.mpr hL.le)]
  refine Finset.sum_congr rfl fun k _ => ?_
  rw [div_coe _ hL, mul_assoc]

/-! ### The placement of the rotated keys -/

theorem low_half : ∀ e : Fin 128, IntOp.cmpi CmpIPredicate.slt (BitVec.ofNat 32 e.val) 64#32 = if e.val < 64 then 1#1 else 0#1 := by decide +kernel

theorem placed : ∀ x e : Fin 128, IntOp.andi (IntOp.cmpi CmpIPredicate.slt (BitVec.ofNat 32 x.val) 32#32)
    (IntOp.cmpi CmpIPredicate.eq (BitVec.ofNat 32 e.val) (IntOp.addi (BitVec.ofNat 32 x.val) 64#32)) = if x.val < 32 ∧ e.val = x.val + 64 then 1#1 else 0#1 := by decide +kernel

/-- A sum against a placement that misses the column is zero. -/
theorem sum_place_none (f : Fin 128 → EReal) (e : Fin 128) (he : e.val < 64) :
    ∑ x : Fin 128, f x * (Scalar.select (IntOp.andi (IntOp.cmpi CmpIPredicate.slt (BitVec.ofNat 32 x.val) 32#32)
      (IntOp.cmpi CmpIPredicate.eq (BitVec.ofNat 32 e.val) (IntOp.addi (BitVec.ofNat 32 x.val) 64#32))) (1 : EReal) 0) = 0 := by
  refine Finset.sum_eq_zero fun x _ => ?_
  rw [placed, if_neg (by omega)]
  exact mul_zero _

/-- A sum against a placement picks the entry placed at the column. -/
theorem sum_place_one (f : Fin 128 → EReal) (e y : Fin 128) (hy : y.val < 32) (he : e.val = y.val + 64) :
    ∑ x : Fin 128, f x * (Scalar.select (IntOp.andi (IntOp.cmpi CmpIPredicate.slt (BitVec.ofNat 32 x.val) 32#32)
      (IntOp.cmpi CmpIPredicate.eq (BitVec.ofNat 32 e.val) (IntOp.addi (BitVec.ofNat 32 x.val) 64#32))) (1 : EReal) 0) = f y := by
  rw [Finset.sum_eq_single y]
  · rw [placed, if_pos ⟨hy, he⟩]
    exact mul_one _
  · intro x _ hx
    rw [placed, if_neg (fun h => hx (Fin.ext (by omega)))]
    exact mul_zero _
  · exact fun h => absurd (Finset.mem_univ _) h

end Cert.InCore

end
-- ==== Proof.In.Bridge.lean ====
/-
  The input projections: the kernel's blocks are the reference's results.
-/
module

public import proofs.«01_k».proof.Proof.In.Arrays
public import proofs.«01_k».proof.Proof.In.HostVal
public import proofs.«01_k».proof.Proof.In.Ref
public import proofs.«01_k».proof.Proof.In.RefTop
public import proofs.«01_k».proof.Proof.In.Math

@[expose] public section

set_option maxRecDepth 16384

noncomputable section

namespace Cert.InBridge

open Cert.Kernel3Ideal Cert.Kernel3Ideal.In Cert.Reference3Ideal.In Cert.InCore Cert.ObCore Cert.SbCore
open Idealize.ShloMosaic Idealize.ShloMosaic.TcCoe
open scoped BigOperators

/-- The tile of a position, and its column in the tile. -/
def nS (s : Fin 4096) : Fin 16 := ⟨s.val / 256, by omega⟩
def qS (s : Fin 4096) : Fin 256 := ⟨s.val % 256, by omega⟩

theorem posT (s : Fin 4096) : posOf (eT (nS s)) (rowT (nT (nS s)) (qS s)) = s :=
  Fin.ext (by show 1024 * (s.val / 256 / 4) + (256 * (s.val / 256 % 4) + s.val % 256) = s.val; omega)

theorem posP (s : Fin 4096) : posOf (eP s) (pP s) = s :=
  Fin.ext (by show 1024 * (s.val / 1024) + s.val % 1024 = s.val; omega)

theorem tilT (n : Fin 16) : tileOf (eT n) (nT n) = n :=
  Fin.ext (by show 4 * (n.val / 4) + n.val % 4 = n.val; omega)

/-- A column of a head lies in the plain part or in one of the two rotated halves. -/
theorem split96 (d : Fin 96) : (∃ d' : Fin 64, d = ⟨0 + d'.val, by omega⟩) ∨ (∃ d' : Fin 16, d = ⟨64 + d'.val, by omega⟩)
    ∨ (∃ d' : Fin 16, d = ⟨64 + (16 + d'.val), by omega⟩) := by
  by_cases h1 : d.val < 64
  · exact Or.inl ⟨⟨d.val, h1⟩, Fin.ext (Nat.zero_add _).symm⟩
  · by_cases h2 : d.val < 80
    · exact Or.inr (Or.inl ⟨⟨d.val - 64, by omega⟩, Fin.ext (by show d.val = 64 + (d.val - 64); omega)⟩)
    · exact Or.inr (Or.inr ⟨⟨d.val - 80, by omega⟩, Fin.ext (by show d.val = 64 + (16 + (d.val - 80)); omega)⟩)

theorem ang_eq : hAng = rAng := rfl

section

variable (a0 : FVec Ideal S8x4096x1024 .f32) (a1 : FVec Ideal S1024x4000 .f32) (a2 : FVec Ideal S256 .f32) (a3 : FVec Ideal S256x768 .f32)
  (a4 : FVec Ideal S128 .f32) (a5 : FVec Ideal S128x1024 .f32) (a6 a7 : FVec Ideal S8x256x4x128 .f32) (b : Fin 8) (s : Fin 4096)

/-! ### The projections -/

theorem PT_eq (c : Fin 3456) (k : Fin 4000) (hc : ∀ j, hWT a1 (ix2 c j) = a1 (ix2 j k)) :
    PT (xb a0 b (eT (nS s))) (hWT a1) (rowT (nT (nS s)) (qS s)) c = rP a0 a1 (ix3 b s k) := by
  rw [rP_apply]
  unfold PT
  refine Finset.sum_congr rfl fun j _ => ?_
  rw [hc]
  show a0 (ix3 b (posOf (eT (nS s)) (rowT (nT (nS s)) (qS s))) j) * _ = _
  rw [posT]

theorem PS_eq (c : Fin 768) (k : Fin 4000) (hc : ∀ j, hWS a1 (ix2 j c) = a1 (ix2 j k)) :
    PS (xb a0 b (eP s)) (hWS a1) (pP s) c = rP a0 a1 (ix3 b s k) := by
  rw [rP_apply]
  unfold PS
  refine Finset.sum_congr rfl fun j _ => ?_
  rw [hc]
  show a0 (ix3 b (posOf (eP s) (pP s)) j) * _ = _
  rw [posP]

theorem PS_neg (hx : ∀ i, a0 i = (((a0 i : EReal).toReal : ℝ) : EReal)) (hw : ∀ i, a1 i = (((a1 i : EReal).toReal : ℝ) : EReal))
    (c : Fin 768) (k : Fin 4000) (hc : ∀ j, hWS a1 (ix2 j c) = -a1 (ix2 j k)) :
    PS (xb a0 b (eP s)) (hWS a1) (pP s) c = -rP a0 a1 (ix3 b s k) := by
  rw [rP_apply, ← sum_mul_neg (fun j => a0 (ix3 b s j)) (fun j => a1 (ix2 j k)) (fun j => hx _) (fun j => hw _)]
  unfold PS
  refine Finset.sum_congr rfl fun j _ => ?_
  rw [hc]
  show a0 (ix3 b (posOf (eP s) (pP s)) j) * _ = _
  rw [posP]

/-! ### The rotation's factors -/

theorem tb_cos (h : Fin 8) (i : Fin 16) : tb hCosq (eT (nS s)) (ix3 (nT (nS s)) ⟨16 * h.val + i.val, by omega⟩ (qS s)) = cs s i := by
  show hCosq (ix3 (tileOf (eT (nS s)) (nT (nS s))) ⟨16 * h.val + i.val, by omega⟩ (qS s)) = _
  rw [tilT, hCosq_apply, ang_eq]
  unfold cs
  rw [show (⟨(nS s).val * 256 + (qS s).val, by omega⟩ : Fin 4096) = s from Fin.ext (by show s.val / 256 * 256 + s.val % 256 = s.val; omega),
    show (⟨(⟨16 * h.val + i.val, by omega⟩ : Fin 128).val % 16, by omega⟩ : Fin 16) = i from Fin.ext (by show (16 * h.val + i.val) % 16 = i.val; omega)]

theorem tb_sin (h : Fin 8) (i : Fin 16) : tb hSinq (eT (nS s)) (ix3 (nT (nS s)) ⟨16 * h.val + i.val, by omega⟩ (qS s)) = sn s i := by
  show hSinq (ix3 (tileOf (eT (nS s)) (nT (nS s))) ⟨16 * h.val + i.val, by omega⟩ (qS s)) = _
  rw [tilT, hSinq_apply, ang_eq]
  unfold sn
  rw [show (⟨(nS s).val * 256 + (qS s).val, by omega⟩ : Fin 4096) = s from Fin.ext (by show s.val / 256 * 256 + s.val % 256 = s.val; omega),
    show (⟨(⟨16 * h.val + i.val, by omega⟩ : Fin 128).val % 16, by omega⟩ : Fin 16) = i from Fin.ext (by show (16 * h.val + i.val) % 16 = i.val; omega)]

theorem kb_cos0 (i : Fin 16) : kb hCosk (eP s) (ix2 (pP s) ⟨i.val, by omega⟩) = cs s i := by
  show hCosk (ix2 (posOf (eP s) (pP s)) ⟨i.val, by omega⟩) = _
  rw [posP, hCosk_0, ang_eq]
  rfl

theorem kb_cos1 (i : Fin 16) : kb hCosk (eP s) (ix2 (pP s) ⟨16 + i.val, by omega⟩) = cs s i := by
  show hCosk (ix2 (posOf (eP s) (pP s)) ⟨16 + i.val, by omega⟩) = _
  rw [posP, hCosk_1, ang_eq]
  rfl

theorem kb_sin0 (i : Fin 16) : kb hSink (eP s) (ix2 (pP s) ⟨i.val, by omega⟩) = sn s i := by
  show hSink (ix2 (posOf (eP s) (pP s)) ⟨i.val, by omega⟩) = _
  rw [posP, hSink_0, ang_eq]
  rfl

theorem kb_sin1 (i : Fin 16) : kb hSink (eP s) (ix2 (pP s) ⟨16 + i.val, by omega⟩) = sn s i := by
  show hSink (ix2 (posOf (eP s) (pP s)) ⟨16 + i.val, by omega⟩) = _
  rw [posP, hSink_1, ang_eq]
  rfl

/-! ### The queries of the first branch -/

theorem qaRow_eq (r : Fin 768) (h : Fin 8) (d : Fin 96) (hr : ∀ x, hWq a3 (ix2 r x) = a3 (ix2 x ⟨h.val * 96 + d.val, by omega⟩)) :
    qaRow (xb a0 b (eT (nS s))) (hWT a1) (hQg a2) (hWq a3) (rowT (nT (nS s)) (qS s)) r = rQa (rP a0 a1) a2 a3 (ix4 b s h d) := by
  rw [rQa_apply]
  unfold qaRow
  have h1 : (fun i : Fin 256 => PT (xb a0 b (eT (nS s))) (hWT a1) (rowT (nT (nS s)) (qS s)) ⟨512 + i.val, by omega⟩)
      = fun i : Fin 256 => rP a0 a1 (ix3 b s ⟨i.val, by omega⟩) :=
    funext fun i => PT_eq a0 a1 b s _ _ fun j => hWT_1 a1 ⟨i.val, by omega⟩ j
  have h2 : (fun i : Fin 256 => hQg a2 (ix2 i 0)) = fun i => a2 (ix1 i) := funext fun i => hQg_apply a2 i
  rw [h1, h2]
  exact Finset.sum_congr rfl fun x _ => by rw [hr x]

theorem qa_a (h : Fin 8) (d : Fin 64) :
    qaRow (xb a0 b (eT (nS s))) (hWT a1) (hQg a2) (hWq a3) (rowT (nT (nS s)) (qS s)) ⟨64 * h.val + d.val, by omega⟩
      = rQa (rP a0 a1) a2 a3 (ix4 b s h ⟨d.val, by omega⟩) :=
  qaRow_eq a0 a1 a2 a3 b s _ h ⟨d.val, by omega⟩ fun x => (hWq_0 a3 ⟨64 * h.val + d.val, by omega⟩ x).trans
    (congrArg (fun z => a3 (ix2 x z)) (Fin.ext (by show (64 * h.val + d.val) / 64 * 96 + (64 * h.val + d.val) % 64 = h.val * 96 + d.val; omega)))

theorem qa_b (h : Fin 8) (d : Fin 16) :
    qaRow (xb a0 b (eT (nS s))) (hWT a1) (hQg a2) (hWq a3) (rowT (nT (nS s)) (qS s)) ⟨512 + (16 * h.val + d.val), by omega⟩
      = rQa (rP a0 a1) a2 a3 (ix4 b s h ⟨64 + d.val, by omega⟩) :=
  qaRow_eq a0 a1 a2 a3 b s _ h ⟨64 + d.val, by omega⟩ fun x => (hWq_1 a3 ⟨16 * h.val + d.val, by omega⟩ x).trans
    (congrArg (fun z => a3 (ix2 x z)) (Fin.ext (by show (16 * h.val + d.val) / 16 * 96 + (64 + (16 * h.val + d.val) % 16) = h.val * 96 + (64 + d.val); omega)))

theorem qa_c (h : Fin 8) (d : Fin 16) :
    qaRow (xb a0 b (eT (nS s))) (hWT a1) (hQg a2) (hWq a3) (rowT (nT (nS s)) (qS s)) ⟨640 + (16 * h.val + d.val), by omega⟩
      = rQa (rP a0 a1) a2 a3 (ix4 b s h ⟨64 + (16 + d.val), by omega⟩) :=
  qaRow_eq a0 a1 a2 a3 b s _ h ⟨64 + (16 + d.val), by omega⟩ fun x => (hWq_2 a3 ⟨16 * h.val + d.val, by omega⟩ x).trans
    (congrArg (fun z => a3 (ix2 x z)) (Fin.ext (by show (16 * h.val + d.val) / 16 * 96 + (80 + (16 * h.val + d.val) % 16) = h.val * 96 + (64 + (16 + d.val)); omega)))

theorem g15_eq (h : Fin 8) (d : Fin 96) :
    Ideal.div (G15 (xb a0 b (eT (nS s))) (hWT a1) (hQg a2) (hWq a3) (tb hCosq (eT (nS s))) (tb hSinq (eT (nS s))) h (nT (nS s)) ⟨d.val, by omega⟩ (qS s))
      (Ideal.ofBits FTy.f32 0x3E16C740#32) = rQf (rQa (rP a0 a1) a2 a3) (ix4 b s h d) := by
  obtain ⟨r, hr, hs⟩ := ofBits_scale
  have key : ∀ z : EReal, Ideal.div (z * SC) (Ideal.ofBits FTy.f32 0x3E16C740#32) = z := fun z => by
    unfold SC
    rw [hs]
    exact div_mul_self z hr
  rcases split96 d with ⟨d', rfl⟩ | ⟨d', rfl⟩ | ⟨d', rfl⟩
  · rw [rQf_a, G15_a, key, qa_a]
  · rw [rQf_b, G15_b, key, qa_b, qa_c, tb_cos, tb_sin]
  · rw [rQf_c, show (⟨(⟨64 + (16 + d'.val), by omega⟩ : Fin 96).val, by omega⟩ : Fin 128) = ⟨80 + d'.val, by omega⟩ from
      Fin.ext (by show 64 + (16 + d'.val) = 80 + d'.val; omega), G15_c, key, qa_b, qa_c, tb_cos, tb_sin]

/-! ### The keys and the values of the first branch -/

theorem G16_low (x0 : Vec Ideal S1x1024x1024 .f32) (x2 : Vec Ideal S1024x768 .bf16) (x5 : Vec Ideal S1x128 .f32) (x11 x12 : Vec Ideal S1024x128 .f32)
    (p : Fin 1024) (h : Fin 8) (e : Fin 128) (he : e.val < 64) :
    G16 x0 x2 x5 (hWk a5) x11 x12 p ⟨h.val * 128 + e.val, by omega⟩
      = ∑ x : Fin 128, rms (Ideal.ofBits FTy.f32 0x43000000#32) (fun i : Fin 128 => PS x0 x2 p ⟨i.val, by omega⟩) (fun i => x5 (ix2 0 i)) x
        * a5 (ix2 x ⟨h.val * 128 + e.val, by omega⟩) := by
  unfold G16
  have h2 := (Finset.sum_congr (s₁ := Finset.univ) rfl fun (x : Fin 128) _ => congrArg
    (fun z => (PS x0 x2 p ⟨640 + x.val, by omega⟩ * x11 (ix2 p x) + PS x0 x2 p ⟨640 + (x.val + 128 - 96) % 128, by omega⟩ * x12 (ix2 p x)) * z) (hWk_1 a5 x h e)).trans
    (sum_place_none _ e he)
  refine (congrArg₂ (fun u v : EReal => u + v) (Finset.sum_congr rfl fun x _ => ?_) h2).trans (add_zero _)
  rw [hWk_0, low_half, if_pos he]
  rfl

theorem G16_high (x0 : Vec Ideal S1x1024x1024 .f32) (x2 : Vec Ideal S1024x768 .bf16) (x5 : Vec Ideal S1x128 .f32) (x11 x12 : Vec Ideal S1024x128 .f32)
    (p : Fin 1024) (h : Fin 8) (e y : Fin 128) (hy : y.val < 32) (he : e.val = y.val + 64) :
    G16 x0 x2 x5 (hWk a5) x11 x12 p ⟨h.val * 128 + e.val, by omega⟩
      = PS x0 x2 p ⟨640 + y.val, by omega⟩ * x11 (ix2 p y) + PS x0 x2 p ⟨640 + (y.val + 128 - 96) % 128, by omega⟩ * x12 (ix2 p y) := by
  unfold G16
  have h2 := (Finset.sum_congr (s₁ := Finset.univ) rfl fun (x : Fin 128) _ => congrArg
    (fun z => (PS x0 x2 p ⟨640 + x.val, by omega⟩ * x11 (ix2 p x) + PS x0 x2 p ⟨640 + (x.val + 128 - 96) % 128, by omega⟩ * x12 (ix2 p x)) * z) (hWk_1 a5 x h e)).trans
    (sum_place_one (fun x : Fin 128 => PS x0 x2 p ⟨640 + x.val, by omega⟩ * x11 (ix2 p x) + PS x0 x2 p ⟨640 + (x.val + 128 - 96) % 128, by omega⟩ * x12 (ix2 p x)) e y hy he)
  refine (congrArg₂ (fun u v : EReal => u + v) (Finset.sum_eq_zero fun x _ => ?_) h2).trans (zero_add _)
  rw [hWk_0, low_half, if_neg (by omega)]
  exact mul_zero _

theorem g16_eq (hx : ∀ i, a0 i = (((a0 i : EReal).toReal : ℝ) : EReal)) (hw : ∀ i, a1 i = (((a1 i : EReal).toReal : ℝ) : EReal)) (h : Fin 8) (d : Fin 96) :
    G16 (xb a0 b (eP s)) (hWS a1) (hKr a4) (hWk a5) (kb hCosk (eP s)) (kb hSink (eP s)) (pP s) ⟨h.val * 128 + d.val, by omega⟩
      = rKf (rP a0 a1) (rKv (rP a0 a1) a4 a5) (ix4 b s h d) := by
  rcases split96 d with ⟨d', rfl⟩ | ⟨d', rfl⟩ | ⟨d', rfl⟩
  · rw [rKf_a, rKv_apply]
    refine (G16_low a5 _ _ _ _ _ (pP s) h ⟨0 + d'.val, by omega⟩ (by show 0 + d'.val < 64; omega)).trans ?_
    have e1 : (fun i : Fin 128 => PS (xb a0 b (eP s)) (hWS a1) (pP s) ⟨i.val, by omega⟩) = fun i : Fin 128 => rP a0 a1 (ix3 b s ⟨256 + i.val, by omega⟩) :=
      funext fun i => PS_eq a0 a1 b s _ _ fun j => hWS_0 a1 i j
    have e2 : (fun i : Fin 128 => hKr a4 (ix2 0 i)) = fun i => a4 (ix1 i) := funext fun i => hKr_apply a4 i
    rw [e1, e2]
    refine Finset.sum_congr rfl fun x _ => ?_
    rw [show (⟨h.val * 128 + (⟨0 + d'.val, by omega⟩ : Fin 128).val, by omega⟩ : Fin 1024) = ⟨h.val * 128 + (⟨d'.val, by omega⟩ : Fin 128).val, by omega⟩ from
      Fin.ext (by show h.val * 128 + (0 + d'.val) = h.val * 128 + d'.val; omega)]
  · rw [rKf_b]
    refine (G16_high a5 _ _ _ _ _ (pP s) h ⟨64 + d'.val, by omega⟩ ⟨d'.val, by omega⟩ (by show d'.val < 32; omega) (by show 64 + d'.val = d'.val + 64; omega)).trans ?_
    rw [kb_cos0, kb_sin0, PS_eq a0 a1 b s _ ⟨384 + d'.val, by omega⟩ (fun j => hWS_2 a1 ⟨d'.val, by omega⟩ j),
      show (⟨640 + ((⟨d'.val, by omega⟩ : Fin 128).val + 128 - 96) % 128, by omega⟩ : Fin 768) = ⟨672 + d'.val, by omega⟩ from
        Fin.ext (by show 640 + (d'.val + 128 - 96) % 128 = 672 + d'.val; omega),
      PS_neg a0 a1 b s hx hw _ ⟨384 + (16 + d'.val), by omega⟩ (fun j => hWS_3 a1 d' j), sub_eq_add_neg]
    exact congrArg _ (EReal.neg_mul _ _)
  · rw [rKf_c]
    refine (G16_high a5 _ _ _ _ _ (pP s) h ⟨64 + (16 + d'.val), by omega⟩ ⟨16 + d'.val, by omega⟩ (by show 16 + d'.val < 32; omega)
      (by show 64 + (16 + d'.val) = 16 + d'.val + 64; omega)).trans ?_
    rw [kb_cos1, kb_sin1, PS_eq a0 a1 b s _ ⟨384 + (16 + d'.val), by omega⟩ (fun j => hWS_2 a1 ⟨16 + d'.val, by omega⟩ j),
      show (⟨640 + ((⟨16 + d'.val, by omega⟩ : Fin 128).val + 128 - 96) % 128, by omega⟩ : Fin 768) = ⟨688 + d'.val, by omega⟩ from
        Fin.ext (by show 640 + (16 + d'.val + 128 - 96) % 128 = 688 + d'.val; omega),
      PS_eq a0 a1 b s _ ⟨384 + d'.val, by omega⟩ (fun j => hWS_4 a1 d' j)]
    exact add_comm _ _

theorem g17_eq (h : Fin 8) (d : Fin 64) :
    G17 (xb a0 b (eT (nS s))) (hWT a1) (hKc a4) (hWv a5) h (nT (nS s)) ⟨d.val, by omega⟩ (qS s) = rVa (rKv (rP a0 a1) a4 a5) (ix4 b s h d) := by
  rw [rVa_apply, rKv_apply, show (⟨d.val, by omega⟩ : Fin 80) = ⟨0 + d.val, by omega⟩ from Fin.ext (Nat.zero_add _).symm, G17_a]
  have e1 : (fun i : Fin 128 => PT (xb a0 b (eT (nS s))) (hWT a1) (rowT (nT (nS s)) (qS s)) ⟨768 + i.val, by omega⟩)
      = fun i : Fin 128 => rP a0 a1 (ix3 b s ⟨256 + i.val, by omega⟩) := by
    funext i
    rw [show (⟨768 + i.val, by omega⟩ : Fin 3456) = ⟨512 + (256 + i.val), by omega⟩ from Fin.ext (by show 768 + i.val = 512 + (256 + i.val); omega)]
    exact PT_eq a0 a1 b s _ _ fun j => hWT_1 a1 ⟨256 + i.val, by omega⟩ j
  have e2 : (fun i : Fin 128 => hKc a4 (ix2 i 0)) = fun i => a4 (ix1 i) := funext fun i => hKc_apply a4 i
  rw [e1, e2]
  refine Finset.sum_congr rfl fun x _ => congrArg _ ((hWv_apply a5 ⟨64 * h.val + d.val, by omega⟩ x).trans
    (congrArg (fun z => a5 (ix2 x z)) (Fin.ext ?_)))
  show (64 * h.val + d.val) / 64 * 128 + (64 + (64 * h.val + d.val) % 64) = h.val * 128 + (64 + d.val)
  omega

/-! ### The second branch and the gates -/

theorem g18_eq (h : Fin 8) (d : Fin 64) :
    G18 (xb a0 b (eT (nS s))) (hWT a1) h (nT (nS s)) ⟨d.val, by omega⟩ (qS s) + G18 (xb a0 b (eT (nS s))) (hWT a1) h (nT (nS s)) ⟨64 + d.val, by omega⟩ (qS s)
      = rQb (rP a0 a1) (ix4 b s h d) := by
  have hP : PT (xb a0 b (eT (nS s))) (hWT a1) (rowT (nT (nS s)) (qS s)) ⟨1408 + (64 * h.val + d.val), by omega⟩
      = rP a0 a1 (ix3 b s ⟨928 + (h.val * 64 + d.val), by omega⟩) :=
    PT_eq a0 a1 b s _ _ fun j => (hWT_3 a1 ⟨64 * h.val + d.val, by omega⟩ j).trans
      (congrArg (fun z => a1 (ix2 j z)) (Fin.ext (by show 928 + (64 * h.val + d.val) = 928 + (h.val * 64 + d.val); omega)))
  rw [rQb_apply, ← hP, show (⟨d.val, by omega⟩ : Fin 128) = ⟨0 + d.val, by omega⟩ from Fin.ext (Nat.zero_add _).symm]
  rcases Nat.mod_two_eq_zero_or_one h.val with e | e
  · rw [G18_a _ _ h _ _ d 0 (by omega), G18_b _ _ h _ _ d 64 (by omega), add_zero]
  · rw [G18_b _ _ h _ _ d 0 (by omega), G18_a _ _ h _ _ d 64 (by omega), zero_add]

theorem g19_eq (h : Fin 8) (d : Fin 64) : PS (xb a0 b (eP s)) (hWS a1) (pP s) (c19 ⟨h.val * 64 + d.val, by omega⟩) = rKb (rP a0 a1) (ix4 b s h d) := by
  rw [rKb_apply]
  exact PS_eq a0 a1 b s _ _ fun j => hWS_1 a1 ⟨h.val * 64 + d.val, by omega⟩ j

theorem g20_eq (h : Fin 8) (d : Fin 64) : PT (xb a0 b (eT (nS s))) (hWT a1) (rowT (nT (nS s)) (qS s)) (c20 h d) = rVb (rP a0 a1) (ix4 b s h d) := by
  rw [rVb_apply]
  exact PT_eq a0 a1 b s _ _ fun j => (hWT_4 a1 ⟨64 * h.val + d.val, by omega⟩ j).trans
    (congrArg (fun z => a1 (ix2 j z)) (Fin.ext (by show 1952 + (64 * h.val + d.val) = 1952 + (h.val * 64 + d.val); omega)))

theorem g21_eq (r : Fin 512) : PT (xb a0 b (eT (nS s))) (hWT a1) (rowT (nT (nS s)) (qS s)) (c21 r) = rGa (rP a0 a1) (ix3 b s r) := by
  rw [rGa_apply]
  exact PT_eq a0 a1 b s _ _ fun j => hWT_2 a1 r j

theorem g22_eq (r : Fin 512) : PT (xb a0 b (eT (nS s))) (hWT a1) (rowT (nT (nS s)) (qS s)) (c22 r) = rGb (rP a0 a1) (ix3 b s r) := by
  rw [rGb_apply, show c22 r = ⟨1920 + (512 + r.val), by omega⟩ from Fin.ext (by show 2432 + r.val = 1920 + (512 + r.val); omega)]
  exact PT_eq a0 a1 b s _ _ fun j => (hWT_4 a1 ⟨512 + r.val, by omega⟩ j).trans
    (congrArg (fun z => a1 (ix2 j z)) (Fin.ext (by show 1952 + (512 + r.val) = 2464 + r.val; omega)))

/-! ### The memory -/

theorem ISD_eq : ISD = (((Real.sqrt 128)⁻¹ : ℝ) : EReal) := rfl

theorem rP_real (hx : ∀ i, a0 i = (((a0 i : EReal).toReal : ℝ) : EReal)) (hw : ∀ i, a1 i = (((a1 i : EReal).toReal : ℝ) : EReal)) (c : Fin 4000) :
    rP a0 a1 (ix3 b s c) = (((rP a0 a1 (ix3 b s c) : EReal).toReal : ℝ) : EReal) := by
  obtain ⟨r, hr⟩ := sum_mul_real (fun j => a0 (ix3 b s j)) (fun j => a1 (ix2 j c)) (fun j => hx _) (fun j => hw _)
  rw [rP_apply, hr, EReal.toReal_coe]

theorem score_eq (r : Fin 512) (k : Fin 256) :
    (∑ d : Fin 128, mb (hKm a6) b (ix3 0 k ⟨128 * (r.val / 128) + d.val, by omega⟩)
        * PT (xb a0 b (eT (nS s))) (hWT a1) (rowT (nT (nS s)) (qS s)) ⟨128 * (r.val / 128) + d.val, by omega⟩) * ISD
      = rSc (rP a0 a1) a6 (ix4 b ⟨r.val / 128, by omega⟩ s k) := by
  rw [rSc_apply, sqrt_128, div_coe _ sqrt_128_pos, ISD_eq]
  refine congrArg (fun z : EReal => z * (((Real.sqrt 128)⁻¹ : ℝ) : EReal)) (Finset.sum_congr rfl fun d _ => ?_)
  rw [mul_comm]
  refine congrArg₂ (fun u v : EReal => u * v) ?_ ?_
  · exact PT_eq a0 a1 b s _ _ fun j => (hWT_0 a1 ⟨128 * (r.val / 128) + d.val, by omega⟩ j).trans
      (congrArg (fun z => a1 (ix2 j z)) (Fin.ext (by show 2976 + (128 * (r.val / 128) + d.val) = 2976 + (r.val / 128 * 128 + d.val); omega)))
  · refine (hKm_apply a6 b k ⟨128 * (r.val / 128) + d.val, by omega⟩).trans (congrArg₂ (fun u v => a6 (ix4 b k u v)) (Fin.ext ?_) (Fin.ext ?_))
    · show (128 * (r.val / 128) + d.val) / 128 = r.val / 128
      omega
    · show (128 * (r.val / 128) + d.val) % 128 = d.val
      omega

theorem score_real (hx : ∀ i, a0 i = (((a0 i : EReal).toReal : ℝ) : EReal)) (hw : ∀ i, a1 i = (((a1 i : EReal).toReal : ℝ) : EReal))
    (hk : ∀ i, a6 i = (((a6 i : EReal).toReal : ℝ) : EReal)) (h : Fin 4) (k : Fin 256) :
    ∃ z : ℝ, rSc (rP a0 a1) a6 (ix4 b h s k) = (z : EReal) := by
  obtain ⟨z, hz⟩ := sum_mul_real (fun d : Fin 128 => rP a0 a1 (ix3 b s ⟨2976 + (h.val * 128 + d.val), by omega⟩)) (fun d => a6 (ix4 b k h d))
    (fun d => rP_real a0 a1 b s hx hw _) (fun d => hk _)
  refine ⟨z * (Real.sqrt 128)⁻¹, ?_⟩
  rw [rSc_apply, sqrt_128, div_coe _ sqrt_128_pos, hz, EReal.coe_mul]

theorem g23_eq (hx : ∀ i, a0 i = (((a0 i : EReal).toReal : ℝ) : EReal)) (hw : ∀ i, a1 i = (((a1 i : EReal).toReal : ℝ) : EReal))
    (hk : ∀ i, a6 i = (((a6 i : EReal).toReal : ℝ) : EReal)) (r : Fin 512) :
    G23 (xb a0 b (eT (nS s))) (hWT a1) (mb (hKm a6) b) (vb (hVm a7) b) (nT (nS s)) r (qS s) = rOm (rSc (rP a0 a1) a6) (rP a0 a1) a7 (ix3 b s r) := by
  choose S hS using fun k => score_real a0 a1 a6 b s hx hw hk ⟨r.val / 128, by omega⟩ k
  have e1 : (fun m : Fin 256 => (∑ d : Fin 128, mb (hKm a6) b (ix3 0 m ⟨128 * (r.val / 128) + d.val, by omega⟩)
        * PT (xb a0 b (eT (nS s))) (hWT a1) (rowT (nT (nS s)) (qS s)) ⟨128 * (r.val / 128) + d.val, by omega⟩) * ISD) = fun m => (S m : EReal) :=
    funext fun m => (score_eq a0 a1 a6 b s r m).trans (hS m)
  have e2 : (fun m : Fin 256 => vb (hVm a7) b (ix3 0 r m)) = fun m => a7 (ix4 b m ⟨r.val / 128, by omega⟩ ⟨r.val % 128, by omega⟩) :=
    funext fun m => hVm_apply a7 b m r
  have e3 : PT (xb a0 b (eT (nS s))) (hWT a1) (rowT (nT (nS s)) (qS s)) ⟨2944 + r.val, by omega⟩ = rP a0 a1 (ix3 b s ⟨3488 + r.val, by omega⟩) :=
    PT_eq a0 a1 b s _ _ fun j => hWT_5 a1 r j
  have e4 : ∀ k, rEx (rSc (rP a0 a1) a6) (ix4 b ⟨r.val / 128, by omega⟩ s k)
      = Ideal.exp ((S k : EReal) - max (Ideal.ofBits FTy.f32 0xFF800000#32) (top fun k => (S k : EReal))) := fun k => by
    rw [rEx_apply, rMx_apply, rTop_apply, hS k]
    exact congrArg (fun f => Ideal.exp ((S k : EReal) - max (Ideal.ofBits FTy.f32 0xFF800000#32) (top f))) (funext hS)
  unfold G23
  rw [e1, e2, e3, memK_eq, rOm_apply]
  refine congrArg (fun z : EReal => z * silu (rP a0 a1 (ix3 b s ⟨3488 + r.val, by omega⟩))) (Finset.sum_congr rfl fun k _ => congrArg _ ?_)
  rw [rWt_apply, e4 k]
  exact congrArg _ (Finset.sum_congr rfl fun j _ => (e4 j).symm)

end

end Cert.InBridge

end
-- ==== Proof.In.Run.lean ====
/-
  The input projections: the results.
-/
module

public import proofs.«01_k».proof.Proof.In.Arrays
public import Idealize.ShloMosaic.Lib.Quiescent
public import proofs.«01_k».proof.Proof.Gen.Kernel3Ideal.Frame
public import Idealize.ShloMosaic.Lib.Pointwise

@[expose] public section

set_option maxRecDepth 16384

noncomputable section

namespace Cert.Kernel3Ideal.In

open Cert.Kernel3Ideal Cert.Kernel3Ideal.Gen Cert.InCore Cert.ObCore
open Idealize.ShloMosaic Idealize.ShloMosaic.TcCoe Idealize.SL.Sem
open scoped BigOperators

/-! ### The results -/

def tQf (w : FVec Ideal S8x8x16x128x256 .bf16) : FVec Ideal S8x4096x8x96 .f32 :=
  Host.divf (extractStridedSlice S8x4096x8x96 ![0, 0, 0, 0] (extf .f32 (shapeCast S8x4096x8x128 (transpose S8x16x256x8x128 [0, 2, 4, 1, 3] w transposes_S8x8x16x128x256_S8x16x256x8x128_0_2_4_1_3) shapeCasts_S8x16x256x8x128_S8x4096x8x128) bitsLt_bf16_f32) slices_S8x4096x8x128_S8x4096x8x96_0_0_0_0) (broadcastInDim S8x4096x8x96 ![] bcast_S_S8x4096x8x96 (constant S_ .f32 0x3E16C740#32))

def tKf (w : FVec Ideal S8x4096x1024 .bf16) : FVec Ideal S8x4096x8x96 .f32 :=
  extractStridedSlice S8x4096x8x96 ![0, 0, 0, 0] (extf .f32 (shapeCast S8x4096x8x128 w shapeCasts_S8x4096x1024_S8x4096x8x128) bitsLt_bf16_f32) slices_S8x4096x8x128_S8x4096x8x96_0_0_0_0

def tVa (w : FVec Ideal S8x8x16x80x256 .bf16) : FVec Ideal S8x4096x8x64 .f32 :=
  extractStridedSlice S8x4096x8x64 ![0, 0, 0, 0] (extf .f32 (shapeCast S8x4096x8x80 (transpose S8x16x256x8x80 [0, 2, 4, 1, 3] w transposes_S8x8x16x80x256_S8x16x256x8x80_0_2_4_1_3) shapeCasts_S8x16x256x8x80_S8x4096x8x80) bitsLt_bf16_f32) slices_S8x4096x8x80_S8x4096x8x64_0_0_0_0

def tQb (w : FVec Ideal S8x8x16x128x256 .bf16) : FVec Ideal S8x4096x8x64 .f32 :=
  addf (extractStridedSlice S8x4096x8x64 ![0, 0, 0, 0] (extf .f32 (shapeCast S8x4096x8x128 (transpose S8x16x256x8x128 [0, 2, 4, 1, 3] w transposes_S8x8x16x128x256_S8x16x256x8x128_0_2_4_1_3) shapeCasts_S8x16x256x8x128_S8x4096x8x128) bitsLt_bf16_f32) slices_S8x4096x8x128_S8x4096x8x64_0_0_0_0) (extractStridedSlice S8x4096x8x64 ![0, 0, 0, 64] (extf .f32 (shapeCast S8x4096x8x128 (transpose S8x16x256x8x128 [0, 2, 4, 1, 3] w transposes_S8x8x16x128x256_S8x16x256x8x128_0_2_4_1_3) shapeCasts_S8x16x256x8x128_S8x4096x8x128) bitsLt_bf16_f32) slices_S8x4096x8x128_S8x4096x8x64_0_0_0_64)

def tKb (w : FVec Ideal S8x4096x512 .bf16) : FVec Ideal S8x4096x8x64 .f32 :=
  extf .f32 (shapeCast S8x4096x8x64 w shapeCasts_S8x4096x512_S8x4096x8x64) bitsLt_bf16_f32

def tVb (w : FVec Ideal S8x8x16x64x256 .bf16) : FVec Ideal S8x4096x8x64 .f32 :=
  extf .f32 (shapeCast S8x4096x8x64 (transpose S8x16x256x8x64 [0, 2, 4, 1, 3] w transposes_S8x8x16x64x256_S8x16x256x8x64_0_2_4_1_3) shapeCasts_S8x16x256x8x64_S8x4096x8x64) bitsLt_bf16_f32

def tGa (w : FVec Ideal S8x16x512x256 .f32) : FVec Ideal S8x4096x512 .f32 :=
  shapeCast S8x4096x512 (transpose S8x16x256x512 [0, 1, 3, 2] w transposes_S8x16x512x256_S8x16x256x512_0_1_3_2) shapeCasts_S8x16x256x512_S8x4096x512

def tGb (w : FVec Ideal S8x16x512x256 .f32) : FVec Ideal S8x4096x512 .f32 :=
  shapeCast S8x4096x512 (transpose S8x16x256x512 [0, 1, 3, 2] w transposes_S8x16x512x256_S8x16x256x512_0_1_3_2) shapeCasts_S8x16x256x512_S8x4096x512

def tOm (w : FVec Ideal S8x16x512x256 .bf16) : FVec Ideal S8x4096x512 .f32 :=
  extf .f32 (shapeCast S8x4096x512 (transpose S8x16x256x512 [0, 1, 3, 2] w transposes_S8x16x512x256_S8x16x256x512_0_1_3_2) shapeCasts_S8x16x256x512_S8x4096x512) bitsLt_bf16_f32

variable (m : (ℓ : Loc nD τ sig) → Buf (Elt Ideal) ℓ)

set_option maxHeartbeats 4000000

theorem end_tQf (c : Dev nD) :
    Pipeline.afterTail₀ cfgs (dats (F := Ideal) m) 0 (V0 m) [hostOps1] c main_v98 = tQf ((dats m 0 c).arrAt 15 cfg0.N) := by
  unfold Pipeline.afterTail₀ tQf
  simp only [List.flatten_cons, List.flatten_nil, List.append_nil]
  have h := Pipeline.withArrays_arr spec0 launch0.win.arr_inj c (V0 m c) (fun w => (dats m 0 c).arrAt w cfg0.N) 15
  rw [← h]
  after_results_simp <;> rfl

theorem end_tKf (c : Dev nD) :
    Pipeline.afterTail₀ cfgs (dats (F := Ideal) m) 0 (V0 m) [hostOps1] c main_v101 = tKf ((dats m 0 c).arrAt 16 cfg0.N) := by
  unfold Pipeline.afterTail₀ tKf
  simp only [List.flatten_cons, List.flatten_nil, List.append_nil]
  have h := Pipeline.withArrays_arr spec0 launch0.win.arr_inj c (V0 m c) (fun w => (dats m 0 c).arrAt w cfg0.N) 16
  rw [← h]
  after_results_simp <;> rfl

theorem end_tVa (c : Dev nD) :
    Pipeline.afterTail₀ cfgs (dats (F := Ideal) m) 0 (V0 m) [hostOps1] c main_v105 = tVa ((dats m 0 c).arrAt 17 cfg0.N) := by
  unfold Pipeline.afterTail₀ tVa
  simp only [List.flatten_cons, List.flatten_nil, List.append_nil]
  have h := Pipeline.withArrays_arr spec0 launch0.win.arr_inj c (V0 m c) (fun w => (dats m 0 c).arrAt w cfg0.N) 17
  rw [← h]
  after_results_simp <;> rfl

theorem end_tQb (c : Dev nD) :
    Pipeline.afterTail₀ cfgs (dats (F := Ideal) m) 0 (V0 m) [hostOps1] c main_v111 = tQb ((dats m 0 c).arrAt 18 cfg0.N) := by
  unfold Pipeline.afterTail₀ tQb
  simp only [List.flatten_cons, List.flatten_nil, List.append_nil]
  have h := Pipeline.withArrays_arr spec0 launch0.win.arr_inj c (V0 m c) (fun w => (dats m 0 c).arrAt w cfg0.N) 18
  rw [← h]
  after_results_simp <;> rfl

theorem end_tKb (c : Dev nD) :
    Pipeline.afterTail₀ cfgs (dats (F := Ideal) m) 0 (V0 m) [hostOps1] c main_v113 = tKb ((dats m 0 c).arrAt 19 cfg0.N) := by
  unfold Pipeline.afterTail₀ tKb
  simp only [List.flatten_cons, List.flatten_nil, List.append_nil]
  have h := Pipeline.withArrays_arr spec0 launch0.win.arr_inj c (V0 m c) (fun w => (dats m 0 c).arrAt w cfg0.N) 19
  rw [← h]
  after_results_simp <;> rfl

theorem end_tVb (c : Dev nD) :
    Pipeline.afterTail₀ cfgs (dats (F := Ideal) m) 0 (V0 m) [hostOps1] c main_v116 = tVb ((dats m 0 c).arrAt 20 cfg0.N) := by
  unfold Pipeline.afterTail₀ tVb
  simp only [List.flatten_cons, List.flatten_nil, List.append_nil]
  have h := Pipeline.withArrays_arr spec0 launch0.win.arr_inj c (V0 m c) (fun w => (dats m 0 c).arrAt w cfg0.N) 20
  rw [← h]
  after_results_simp <;> rfl

theorem end_tGa (c : Dev nD) :
    Pipeline.afterTail₀ cfgs (dats (F := Ideal) m) 0 (V0 m) [hostOps1] c main_v118 = tGa ((dats m 0 c).arrAt 21 cfg0.N) := by
  unfold Pipeline.afterTail₀ tGa
  simp only [List.flatten_cons, List.flatten_nil, List.append_nil]
  have h := Pipeline.withArrays_arr spec0 launch0.win.arr_inj c (V0 m c) (fun w => (dats m 0 c).arrAt w cfg0.N) 21
  rw [← h]
  after_results_simp <;> rfl

theorem end_tGb (c : Dev nD) :
    Pipeline.afterTail₀ cfgs (dats (F := Ideal) m) 0 (V0 m) [hostOps1] c main_v120 = tGb ((dats m 0 c).arrAt 22 cfg0.N) := by
  unfold Pipeline.afterTail₀ tGb
  simp only [List.flatten_cons, List.flatten_nil, List.append_nil]
  have h := Pipeline.withArrays_arr spec0 launch0.win.arr_inj c (V0 m c) (fun w => (dats m 0 c).arrAt w cfg0.N) 22
  rw [← h]
  after_results_simp <;> rfl

theorem end_tOm (c : Dev nD) :
    Pipeline.afterTail₀ cfgs (dats (F := Ideal) m) 0 (V0 m) [hostOps1] c main_v123 = tOm ((dats m 0 c).arrAt 23 cfg0.N) := by
  unfold Pipeline.afterTail₀ tOm
  simp only [List.flatten_cons, List.flatten_nil, List.append_nil]
  have h := Pipeline.withArrays_arr spec0 launch0.win.arr_inj c (V0 m c) (fun w => (dats m 0 c).arrAt w cfg0.N) 23
  rw [← h]
  after_results_simp <;> rfl

theorem run (ρ : Dev nD → PrngReg) : θ_run defs (onTc (τ := τ) (main (F := Ideal))) ⟨m, fun _ => 0, ρ⟩ (fun r => (∀ c : Dev nD,
      r.2.mem ((c.tc : Thread nD τ).loc main_v98) = tQf (O15 (m ((c : Thread nD τ).loc main_arg0)) (m ((c : Thread nD τ).loc main_arg1)) (m ((c : Thread nD τ).loc main_arg2)) (m ((c : Thread nD τ).loc main_arg3)))
      ∧ r.2.mem ((c.tc : Thread nD τ).loc main_v101) = tKf (O16 (m ((c : Thread nD τ).loc main_arg0)) (m ((c : Thread nD τ).loc main_arg1)) (m ((c : Thread nD τ).loc main_arg4)) (m ((c : Thread nD τ).loc main_arg5)))
      ∧ r.2.mem ((c.tc : Thread nD τ).loc main_v105) = tVa (O17 (m ((c : Thread nD τ).loc main_arg0)) (m ((c : Thread nD τ).loc main_arg1)) (m ((c : Thread nD τ).loc main_arg4)) (m ((c : Thread nD τ).loc main_arg5)))
      ∧ r.2.mem ((c.tc : Thread nD τ).loc main_v111) = tQb (O18 (m ((c : Thread nD τ).loc main_arg0)) (m ((c : Thread nD τ).loc main_arg1)))
      ∧ r.2.mem ((c.tc : Thread nD τ).loc main_v113) = tKb (O19 (m ((c : Thread nD τ).loc main_arg0)) (m ((c : Thread nD τ).loc main_arg1)))
      ∧ r.2.mem ((c.tc : Thread nD τ).loc main_v116) = tVb (O20 (m ((c : Thread nD τ).loc main_arg0)) (m ((c : Thread nD τ).loc main_arg1)))
      ∧ r.2.mem ((c.tc : Thread nD τ).loc main_v118) = tGa (O21 (m ((c : Thread nD τ).loc main_arg0)) (m ((c : Thread nD τ).loc main_arg1)))
      ∧ r.2.mem ((c.tc : Thread nD τ).loc main_v120) = tGb (O22 (m ((c : Thread nD τ).loc main_arg0)) (m ((c : Thread nD τ).loc main_arg1)))
      ∧ r.2.mem ((c.tc : Thread nD τ).loc main_v123) = tOm (O23 (m ((c : Thread nD τ).loc main_arg0)) (m ((c : Thread nD τ).loc main_arg1)) (m ((c : Thread nD τ).loc main_arg6)) (m ((c : Thread nD τ).loc main_arg7)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c =>
    have hr (b : Ref sig .tc) (hs : b.isScoped = false) (hw : ∀ w : Fin 24, (spec0 w).arr.view.ref ≠ b) :=
      (h.2.1 c).2 b (Pipeline.mem_restRefs_of b hs hw)
    ⟨((hr main_v98 (by decide) (by decide)).trans (end_tQf m c)).trans (congrArg tQf (final15 m c)),
      ((hr main_v101 (by decide) (by decide)).trans (end_tKf m c)).trans (congrArg tKf (final16 m c)),
      ((hr main_v105 (by decide) (by decide)).trans (end_tVa m c)).trans (congrArg tVa (final17 m c)),
      ((hr main_v111 (by decide) (by decide)).trans (end_tQb m c)).trans (congrArg tQb (final18 m c)),
      ((hr main_v113 (by decide) (by decide)).trans (end_tKb m c)).trans (congrArg tKb (final19 m c)),
      ((hr main_v116 (by decide) (by decide)).trans (end_tVb m c)).trans (congrArg tVb (final20 m c)),
      ((hr main_v118 (by decide) (by decide)).trans (end_tGa m c)).trans (congrArg tGa (final21 m c)),
      ((hr main_v120 (by decide) (by decide)).trans (end_tGb m c)).trans (congrArg tGb (final22 m c)),
      ((hr main_v123 (by decide) (by decide)).trans (end_tOm m c)).trans (congrArg tOm (final23 m c)),
      h.1.1 c⟩, h.1.2⟩)
    (θ_run_and (frame m ρ) (run_main_quiescent m ρ))

end Cert.Kernel3Ideal.In

end
-- ==== Proof.In.Tail.lean ====
/-
  The input projections: the results element by element.
-/
module

public import proofs.«01_k».proof.Proof.In.Run
public import proofs.«01_k».proof.Proof.Gen.Kernel3Ideal.Frame
public import Idealize.ShloMosaic.Lib.Pointwise

@[expose] public section

set_option maxRecDepth 16384

noncomputable section

namespace Cert.Kernel3Ideal.In

open Cert.Kernel3Ideal Cert.Kernel3Ideal.Gen Cert.InCore Cert.ObCore
open Idealize.ShloMosaic Idealize.ShloMosaic.TcCoe Idealize.SL.Sem
open scoped BigOperators

theorem tQf_apply (w : FVec Ideal S8x8x16x128x256 .bf16) (b : Fin 8) (s : Fin 4096) (h : Fin 8) (d : Fin 96) :
    tQf w (ix4 b s h d) = Ideal.div (w (ix5 b h ⟨s.val / 256, by omega⟩ ⟨d.val, by omega⟩ ⟨s.val % 256, by omega⟩)) (Ideal.ofBits FTy.f32 0x3E16C740#32) := by
  pointwise [tQf]

theorem tKf_apply (w : FVec Ideal S8x4096x1024 .bf16) (b : Fin 8) (s : Fin 4096) (h : Fin 8) (d : Fin 96) :
    tKf w (ix4 b s h d) = w (ix3 b s ⟨h.val * 128 + d.val, by omega⟩) := by
  pointwise [tKf]

theorem tVa_apply (w : FVec Ideal S8x8x16x80x256 .bf16) (b : Fin 8) (s : Fin 4096) (h : Fin 8) (d : Fin 64) :
    tVa w (ix4 b s h d) = w (ix5 b h ⟨s.val / 256, by omega⟩ ⟨d.val, by omega⟩ ⟨s.val % 256, by omega⟩) := by
  pointwise [tVa]

theorem tQb_apply (w : FVec Ideal S8x8x16x128x256 .bf16) (b : Fin 8) (s : Fin 4096) (h : Fin 8) (d : Fin 64) :
    tQb w (ix4 b s h d) = w (ix5 b h ⟨s.val / 256, by omega⟩ ⟨d.val, by omega⟩ ⟨s.val % 256, by omega⟩) + w (ix5 b h ⟨s.val / 256, by omega⟩ ⟨64 + d.val, by omega⟩ ⟨s.val % 256, by omega⟩) := by
  pointwise [tQb]

theorem tKb_apply (w : FVec Ideal S8x4096x512 .bf16) (b : Fin 8) (s : Fin 4096) (h : Fin 8) (d : Fin 64) :
    tKb w (ix4 b s h d) = w (ix3 b s ⟨h.val * 64 + d.val, by omega⟩) := by
  pointwise [tKb]

theorem tVb_apply (w : FVec Ideal S8x8x16x64x256 .bf16) (b : Fin 8) (s : Fin 4096) (h : Fin 8) (d : Fin 64) :
    tVb w (ix4 b s h d) = w (ix5 b h ⟨s.val / 256, by omega⟩ ⟨d.val, by omega⟩ ⟨s.val % 256, by omega⟩) := by
  pointwise [tVb]

theorem tGa_apply (w : FVec Ideal S8x16x512x256 .f32) (b : Fin 8) (s : Fin 4096) (r : Fin 512) :
    tGa w (ix3 b s r) = w (ix4 b ⟨s.val / 256, by omega⟩ r ⟨s.val % 256, by omega⟩) := by
  pointwise [tGa]

theorem tGb_apply (w : FVec Ideal S8x16x512x256 .f32) (b : Fin 8) (s : Fin 4096) (r : Fin 512) :
    tGb w (ix3 b s r) = w (ix4 b ⟨s.val / 256, by omega⟩ r ⟨s.val % 256, by omega⟩) := by
  pointwise [tGb]

theorem tOm_apply (w : FVec Ideal S8x16x512x256 .bf16) (b : Fin 8) (s : Fin 4096) (r : Fin 512) :
    tOm w (ix3 b s r) = w (ix4 b ⟨s.val / 256, by omega⟩ r ⟨s.val % 256, by omega⟩) := by
  pointwise [tOm]

end Cert.Kernel3Ideal.In

end
-- ==== Proof.In.Final.lean ====
/-
  The input projections: the kernel's results are the reference's.
-/
module

public import proofs.«01_k».proof.Proof.In.Bridge
public import proofs.«01_k».proof.Proof.In.Tail

@[expose] public section

set_option maxRecDepth 16384

noncomputable section

namespace Cert.InBridge

open Cert.Kernel3Ideal Cert.Kernel3Ideal.In Cert.Reference3Ideal.In Cert.InCore
open Idealize.ShloMosaic Idealize.ShloMosaic.TcCoe

variable (a0 : FVec Ideal S8x4096x1024 .f32) (a1 : FVec Ideal S1024x4000 .f32) (a2 : FVec Ideal S256 .f32) (a3 : FVec Ideal S256x768 .f32)
  (a4 : FVec Ideal S128 .f32) (a5 : FVec Ideal S128x1024 .f32) (a6 a7 : FVec Ideal S8x256x4x128 .f32)

theorem out0 : tQf (O15 a0 a1 a2 a3) = rQf (rQa (rP a0 a1) a2 a3) := by
  funext i
  rw [eq_ix4 i]
  exact (tQf_apply _ (i 0) (i 1) (i 2) (i 3)).trans (g15_eq a0 a1 a2 a3 (i 0) (i 1) (i 2) (i 3))

theorem out1 (hx : ∀ i, a0 i = (((a0 i : EReal).toReal : ℝ) : EReal)) (hw : ∀ i, a1 i = (((a1 i : EReal).toReal : ℝ) : EReal)) : tKf (O16 a0 a1 a4 a5) = rKf (rP a0 a1) (rKv (rP a0 a1) a4 a5) := by
  funext i
  rw [eq_ix4 i]
  exact (tKf_apply _ (i 0) (i 1) (i 2) (i 3)).trans (g16_eq a0 a1 a4 a5 (i 0) (i 1) hx hw (i 2) (i 3))

theorem out2 : tVa (O17 a0 a1 a4 a5) = rVa (rKv (rP a0 a1) a4 a5) := by
  funext i
  rw [eq_ix4 i]
  exact (tVa_apply _ (i 0) (i 1) (i 2) (i 3)).trans (g17_eq a0 a1 a4 a5 (i 0) (i 1) (i 2) (i 3))

theorem out3 : tQb (O18 a0 a1) = rQb (rP a0 a1) := by
  funext i
  rw [eq_ix4 i]
  exact (tQb_apply _ (i 0) (i 1) (i 2) (i 3)).trans (g18_eq a0 a1 (i 0) (i 1) (i 2) (i 3))

theorem out4 : tKb (O19 a0 a1) = rKb (rP a0 a1) := by
  funext i
  rw [eq_ix4 i]
  exact (tKb_apply _ (i 0) (i 1) (i 2) (i 3)).trans (g19_eq a0 a1 (i 0) (i 1) (i 2) (i 3))

theorem out5 : tVb (O20 a0 a1) = rVb (rP a0 a1) := by
  funext i
  rw [eq_ix4 i]
  exact (tVb_apply _ (i 0) (i 1) (i 2) (i 3)).trans (g20_eq a0 a1 (i 0) (i 1) (i 2) (i 3))

theorem out6 : tGa (O21 a0 a1) = rGa (rP a0 a1) := by
  funext i
  rw [eq_ix3 i]
  exact (tGa_apply _ (i 0) (i 1) (i 2)).trans (g21_eq a0 a1 (i 0) (i 1) (i 2))

theorem out7 : tGb (O22 a0 a1) = rGb (rP a0 a1) := by
  funext i
  rw [eq_ix3 i]
  exact (tGb_apply _ (i 0) (i 1) (i 2)).trans (g22_eq a0 a1 (i 0) (i 1) (i 2))

theorem out8 (hx : ∀ i, a0 i = (((a0 i : EReal).toReal : ℝ) : EReal)) (hw : ∀ i, a1 i = (((a1 i : EReal).toReal : ℝ) : EReal))
    (hk : ∀ i, a6 i = (((a6 i : EReal).toReal : ℝ) : EReal)) : tOm (O23 a0 a1 a6 a7) = rOm (rSc (rP a0 a1) a6) (rP a0 a1) a7 := by
  funext i
  rw [eq_ix3 i]
  exact (tOm_apply _ (i 0) (i 1) (i 2)).trans (g23_eq a0 a1 a6 a7 (i 0) (i 1) hx hw hk (i 2))

end Cert.InBridge

end
-- ==== Proof.In.RefRun.lean ====
/-
  The input projections: the reference's run, its nine results by name.
-/
module

public import proofs.«01_k».proof.Proof.In.Ref

@[expose] public section

set_option maxRecDepth 16384

noncomputable section

namespace Cert.Reference3Ideal.In

open Cert.Reference3Ideal Cert.Reference3Ideal.Gen Cert.ObCore Cert.InCore
open Idealize.ShloMosaic Idealize.ShloMosaic.TcCoe Idealize.SL.Sem

variable (m : (ℓ : Loc nD τ sig) → Buf (Elt Ideal) ℓ)

set_option maxHeartbeats 2000000 in
theorem runs (ρ : Dev nD → PrngReg) : θ_run defs (onTc (τ := τ) (main (F := Ideal))) ⟨m, fun _ => 0, ρ⟩ (fun r => ∀ c : Dev nD,
      r.2.mem ((c.tc : Thread nD τ).loc main_v105) = rQf (rQa (rP (m ((c.tc : Thread nD τ).loc main_arg0)) (m ((c.tc : Thread nD τ).loc main_arg1))) (m ((c.tc : Thread nD τ).loc main_arg2)) (m ((c.tc : Thread nD τ).loc main_arg3)))
      ∧ r.2.mem ((c.tc : Thread nD τ).loc main_v107) = rKf (rP (m ((c.tc : Thread nD τ).loc main_arg0)) (m ((c.tc : Thread nD τ).loc main_arg1))) (rKv (rP (m ((c.tc : Thread nD τ).loc main_arg0)) (m ((c.tc : Thread nD τ).loc main_arg1))) (m ((c.tc : Thread nD τ).loc main_arg4)) (m ((c.tc : Thread nD τ).loc main_arg5)))
      ∧ r.2.mem ((c.tc : Thread nD τ).loc main_v45) = rVa (rKv (rP (m ((c.tc : Thread nD τ).loc main_arg0)) (m ((c.tc : Thread nD τ).loc main_arg1))) (m ((c.tc : Thread nD τ).loc main_arg4)) (m ((c.tc : Thread nD τ).loc main_arg5)))
      ∧ r.2.mem ((c.tc : Thread nD τ).loc main_v108) = rQb (rP (m ((c.tc : Thread nD τ).loc main_arg0)) (m ((c.tc : Thread nD τ).loc main_arg1)))
      ∧ r.2.mem ((c.tc : Thread nD τ).loc main_v109) = rKb (rP (m ((c.tc : Thread nD τ).loc main_arg0)) (m ((c.tc : Thread nD τ).loc main_arg1)))
      ∧ r.2.mem ((c.tc : Thread nD τ).loc main_v110) = rVb (rP (m ((c.tc : Thread nD τ).loc main_arg0)) (m ((c.tc : Thread nD τ).loc main_arg1)))
      ∧ r.2.mem ((c.tc : Thread nD τ).loc main_v5) = rGa (rP (m ((c.tc : Thread nD τ).loc main_arg0)) (m ((c.tc : Thread nD τ).loc main_arg1)))
      ∧ r.2.mem ((c.tc : Thread nD τ).loc main_v9) = rGb (rP (m ((c.tc : Thread nD τ).loc main_arg0)) (m ((c.tc : Thread nD τ).loc main_arg1)))
      ∧ r.2.mem ((c.tc : Thread nD τ).loc main_v131) = rOm (rSc (rP (m ((c.tc : Thread nD τ).loc main_arg0)) (m ((c.tc : Thread nD τ).loc main_arg1))) (m ((c.tc : Thread nD τ).loc main_arg6))) (rP (m ((c.tc : Thread nD τ).loc main_arg0)) (m ((c.tc : Thread nD τ).loc main_arg1))) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    have ⟨h0, h1, h2, h3, h4, h5, h6, h7, h8, h9⟩ := h c
    ⟨h0.trans (res0_eq m c), h1.trans (res1_eq m c), h2.trans rfl, h3.trans rfl, h4.trans rfl, h5.trans rfl, h6.trans rfl, h7.trans rfl,
      h8.trans (res8_eq m c), h9⟩)
    (Cert.Reference3Ideal.Value.run (F := Ideal) m ρ)

end Cert.Reference3Ideal.In

end
-- ==== Proof.lean ====
/-
  The proof of the claims: both frames of the stick-breaking call from its run, the reference's from its own, the named
  constants, the equation of the two results, and the same of the output block and of the input projections.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import proofs.«01_k».proof.Proof.Gen.Kernel2.Frame
public import proofs.«01_k».proof.Proof.Gen.Kernel2Ideal.Frame
public import proofs.«01_k».proof.Proof.Gen.Kernel3
public import proofs.«01_k».proof.Proof.Gen.Kernel3Ideal
public import proofs.«01_k».proof.Proof.Gen.Reference3Ideal
public import proofs.«01_k».proof.Proof.Gen.Reference3Ideal.Run
public import proofs.«01_k».proof.Proof.Gen.Kernel3.Frame
public import proofs.«01_k».proof.Proof.Gen.Kernel3Ideal.Frame
public import proofs.«01_k».proof.Proof.Gen.Pre_finite_in
public import proofs.«01_k».proof.Proof.SbI.Final
public import proofs.«01_k».proof.Proof.SbB.Run
public import proofs.«01_k».proof.Proof.SbR.Ref
public import proofs.«01_k».proof.Proof.Ob.Final
public import proofs.«01_k».proof.Proof.Ob.Ref
public import proofs.«01_k».proof.Proof.In.Final
public import proofs.«01_k».proof.Proof.In.RefRun
public import Idealize.ShloMosaic.Lib.ReduceAll

@[expose] public section

set_option maxRecDepth 16384

noncomputable section

namespace Cert.Proof

open Idealize.ShloMosaic Idealize.ShloMosaic.TcCoe Idealize.SL.Sem Cert.SbCore

theorem preserves : Cert.preserves_Kernel_KernelIdeal :=
  ⟨IdealRules.named_const.statement Cert.KernelIdeal.κ "log2e" .f32 0x3FB8AA3B#32 _ rfl,
   IdealRules.named_const.statement Cert.KernelIdeal.κ "mask" .f32 0xF149F2CA#32 _ rfl,
   IdealRules.named_const.statement Cert.KernelIdeal.κ "spent" .f32 0x7149F2CA#32 _ rfl,
   IdealRules.named_const.statement Cert.KernelIdeal.κ "dead" .f32 0x43180000#32 _ rfl⟩

/-! ### The precondition -/

theorem real_of_lt_top (x : EReal) (h : Ideal.cmp .olt (max x (-x)) (Ideal.ofBits .f32 0x7F800000#32) = 1#1) : x = ((EReal.toReal x : ℝ) : EReal) := by
  have ht : Ideal.ofBits .f32 0x7F800000#32 = ⊤ := by simp [Ideal.ofBits, Ideal.ieee]
  rw [ht] at h
  have hlt : max x (-x) < ⊤ := by
    by_contra hc
    have hd : (BitVec.ofBool (decide (max x (-x) < ⊤)) : BitVec 1) = 1#1 := h
    rw [decide_eq_false hc] at hd
    exact absurd hd (by decide)
  obtain ⟨h1, h2⟩ := max_lt_iff.mp hlt
  refine (EReal.coe_toReal h1.ne ?_).symm
  intro hb
  rw [hb] at h2
  simp at h2

theorem finite_of_pre (a0 a1 a2 : FVec Ideal SQ .f32) (h : Cert.Pre_finite.fn (F := Ideal) a0 a1 a2 = fun _ => 1#1) : Finite a0 ∧ Finite a1 := by
  have h0 := congrFun h ix0
  unfold Cert.Pre_finite.fn at h0
  have h1 := IntOp.andi_eq_one.mp h0
  haveI : Subsingleton (Cert.Pre_finite.S_).Idx := ⟨fun a b => funext fun x => x.elim0⟩
  exact ⟨fun i => real_of_lt_top _ (Host.reduce_andi_all _ _ _ _ _ h1.1 i), fun i => real_of_lt_top _ (Host.reduce_andi_all _ _ _ _ _ h1.2 i)⟩

/-! ### The two results -/

theorem results_eq (q k v : FVec Ideal SQ .f32) (hq : Finite q) (hk : Finite k) :
    Cert.ReferenceIdeal.Sb.refOut q k v = Cert.KernelIdeal.Sb.packed q k v := by
  funext i
  rw [eq_ix4 i]
  exact Cert.ReferenceIdeal.Sb.refOut_apply q k v hq hk (i 0) (i 1) (i 2) (i 3)

theorem algebraic : Cert.algebraic_KernelIdeal_ReferenceIdeal_pre_finite := by
  intro m g m' g' hp hag
  refine ⟨fun c => Cert.KernelIdeal.Sb.packed (m (c.tc.loc Cert.KernelIdeal.main_arg0)) (m (c.tc.loc Cert.KernelIdeal.main_arg1))
    (m (c.tc.loc Cert.KernelIdeal.main_arg2)), ?_, ?_⟩
  · refine (θ_run _ _ _).mono (fun r h c => ?_) (Cert.KernelIdeal.Sb.run (F := Ideal) m g)
    have hf := finite_of_pre _ _ _ (hp c)
    exact ⟨(h.1 c).1.trans ((congrArg Cert.KernelIdeal.Sb.unpack (Cert.KernelIdeal.Sb.final_o m c hf.1 hf.2)).trans (Cert.KernelIdeal.Sb.unpack_result ..)), (h.1 c).2⟩
  · refine (θ_run _ _ _).mono (fun r h c => ?_) (Cert.ReferenceIdeal.Value.run (F := Ideal) m' g')
    have hf := finite_of_pre _ _ _ (hp c)
    obtain ⟨e0, e1, e2⟩ := hag c
    refine ⟨(h c).1.trans ((Cert.ReferenceIdeal.Sb.res_eq m' c).trans ?_), (h c).2⟩
    rw [e0, e1, e2]
    exact results_eq _ _ _ hf.1 hf.2

/-! ### The output block -/

theorem algebraic2 : Cert.algebraic_Kernel2Ideal_Reference2Ideal := by
  intro m g m' g' hp hag
  refine ⟨fun c => Cert.Kernel2Ideal.Ob.result (m (c.tc.loc Cert.Kernel2Ideal.main_arg0)) (m (c.tc.loc Cert.Kernel2Ideal.main_arg1)) (m (c.tc.loc Cert.Kernel2Ideal.main_arg2)) (m (c.tc.loc Cert.Kernel2Ideal.main_arg3)) (m (c.tc.loc Cert.Kernel2Ideal.main_arg4)) (m (c.tc.loc Cert.Kernel2Ideal.main_arg5)) (m (c.tc.loc Cert.Kernel2Ideal.main_arg6)) (m (c.tc.loc Cert.Kernel2Ideal.main_arg7)) (m (c.tc.loc Cert.Kernel2Ideal.main_arg8)) (m (c.tc.loc Cert.Kernel2Ideal.main_arg9)) (m (c.tc.loc Cert.Kernel2Ideal.main_arg10)) (m (c.tc.loc Cert.Kernel2Ideal.main_arg11)) (m (c.tc.loc Cert.Kernel2Ideal.main_arg12)) (m (c.tc.loc Cert.Kernel2Ideal.main_arg13)), ?_, ?_⟩
  · exact (θ_run _ _ _).mono (fun r h => h.1) (Cert.Kernel2Ideal.Ob.run m g)
  · refine (θ_run _ _ _).mono (fun r h c => ?_) (Cert.Reference2Ideal.Value.run (F := Ideal) m' g')
    obtain ⟨e0, e1, e2, e3, e4, e5, e6, e7, e8, e9, e10, e11, e12, e13⟩ := hag c
    refine ⟨(h c).1.trans ((Cert.Reference2Ideal.Ob.res_eq m' c).trans ?_), (h c).2⟩
    rw [e0, e1, e2, e3, e4, e5, e6, e7, e8, e9, e10, e11, e12, e13]
    funext i
    rw [eq_ix3 i]
    exact Cert.Reference2Ideal.Ob.refOut_apply ..

/-! ### The input projections -/

theorem preserves3 : Cert.preserves_Kernel3_Kernel3Ideal :=
  IdealRules.named_const.statement Cert.Kernel3Ideal.κ "inv_sqrt_d" .f32 0x3DB504F3#32 _ rfl

theorem finite_of_pre_in (a0 : FVec Ideal Cert.Pre_finite_in.S8x4096x1024 .f32) (a1 : FVec Ideal Cert.Pre_finite_in.S1024x4000 .f32)
    (a2 : FVec Ideal Cert.Pre_finite_in.S256 .f32) (a3 : FVec Ideal Cert.Pre_finite_in.S256x768 .f32) (a4 : FVec Ideal Cert.Pre_finite_in.S128 .f32)
    (a5 : FVec Ideal Cert.Pre_finite_in.S128x1024 .f32) (a6 a7 : FVec Ideal Cert.Pre_finite_in.S8x256x4x128 .f32)
    (h : Cert.Pre_finite_in.fn (F := Ideal) a0 a1 a2 a3 a4 a5 a6 a7 = fun _ => 1#1) :
    (∀ i, a0 i = (((a0 i : EReal).toReal : ℝ) : EReal)) ∧ (∀ i, a1 i = (((a1 i : EReal).toReal : ℝ) : EReal))
      ∧ ∀ i, a6 i = (((a6 i : EReal).toReal : ℝ) : EReal) := by
  have h0 := congrFun h ix0
  unfold Cert.Pre_finite_in.fn at h0
  have h1 := IntOp.andi_eq_one.mp h0
  have h2 := IntOp.andi_eq_one.mp h1.1
  haveI : Subsingleton (Cert.Pre_finite_in.S_).Idx := ⟨fun a b => funext fun x => x.elim0⟩
  exact ⟨fun i => real_of_lt_top _ (Host.reduce_andi_all _ _ _ _ _ h2.1 i), fun i => real_of_lt_top _ (Host.reduce_andi_all _ _ _ _ _ h2.2 i),
    fun i => real_of_lt_top _ (Host.reduce_andi_all _ _ _ _ _ h1.2 i)⟩

theorem algebraic3 : Cert.algebraic_Kernel3Ideal_Reference3Ideal_pre_finite_in := by
  intro m g m' g' hp hag
  refine ⟨fun c => Cert.Kernel3Ideal.In.tQf (Cert.Kernel3Ideal.In.O15 (m (c.tc.loc Cert.Kernel3Ideal.main_arg0)) (m (c.tc.loc Cert.Kernel3Ideal.main_arg1)) (m (c.tc.loc Cert.Kernel3Ideal.main_arg2)) (m (c.tc.loc Cert.Kernel3Ideal.main_arg3))),
    fun c => Cert.Kernel3Ideal.In.tKf (Cert.Kernel3Ideal.In.O16 (m (c.tc.loc Cert.Kernel3Ideal.main_arg0)) (m (c.tc.loc Cert.Kernel3Ideal.main_arg1)) (m (c.tc.loc Cert.Kernel3Ideal.main_arg4)) (m (c.tc.loc Cert.Kernel3Ideal.main_arg5))),
    fun c => Cert.Kernel3Ideal.In.tVa (Cert.Kernel3Ideal.In.O17 (m (c.tc.loc Cert.Kernel3Ideal.main_arg0)) (m (c.tc.loc Cert.Kernel3Ideal.main_arg1)) (m (c.tc.loc Cert.Kernel3Ideal.main_arg4)) (m (c.tc.loc Cert.Kernel3Ideal.main_arg5))),
    fun c => Cert.Kernel3Ideal.In.tQb (Cert.Kernel3Ideal.In.O18 (m (c.tc.loc Cert.Kernel3Ideal.main_arg0)) (m (c.tc.loc Cert.Kernel3Ideal.main_arg1))),
    fun c => Cert.Kernel3Ideal.In.tKb (Cert.Kernel3Ideal.In.O19 (m (c.tc.loc Cert.Kernel3Ideal.main_arg0)) (m (c.tc.loc Cert.Kernel3Ideal.main_arg1))),
    fun c => Cert.Kernel3Ideal.In.tVb (Cert.Kernel3Ideal.In.O20 (m (c.tc.loc Cert.Kernel3Ideal.main_arg0)) (m (c.tc.loc Cert.Kernel3Ideal.main_arg1))),
    fun c => Cert.Kernel3Ideal.In.tGa (Cert.Kernel3Ideal.In.O21 (m (c.tc.loc Cert.Kernel3Ideal.main_arg0)) (m (c.tc.loc Cert.Kernel3Ideal.main_arg1))),
    fun c => Cert.Kernel3Ideal.In.tGb (Cert.Kernel3Ideal.In.O22 (m (c.tc.loc Cert.Kernel3Ideal.main_arg0)) (m (c.tc.loc Cert.Kernel3Ideal.main_arg1))),
    fun c => Cert.Kernel3Ideal.In.tOm (Cert.Kernel3Ideal.In.O23 (m (c.tc.loc Cert.Kernel3Ideal.main_arg0)) (m (c.tc.loc Cert.Kernel3Ideal.main_arg1)) (m (c.tc.loc Cert.Kernel3Ideal.main_arg6)) (m (c.tc.loc Cert.Kernel3Ideal.main_arg7))), ?_, ?_⟩
  · exact (θ_run _ _ _).mono (fun r h => h.1) (Cert.Kernel3Ideal.In.run m g)
  · refine (θ_run _ _ _).mono (fun r h c => ?_) (Cert.Reference3Ideal.In.runs m' g')
    obtain ⟨hx, hw, hk⟩ := finite_of_pre_in _ _ _ _ _ _ _ _ (hp c)
    obtain ⟨e0, e1, e2, e3, e4, e5, e6, e7⟩ := hag c
    obtain ⟨h0, h1, h2, h3, h4, h5, h6, h7, h8, h9⟩ := h c
    rw [e0, e1, e2, e3] at h0
    rw [e0, e1, e4, e5] at h1 h2
    rw [e0, e1] at h3 h4 h5 h6 h7
    rw [e0, e1, e6, e7] at h8
    exact ⟨h0.trans (Cert.InBridge.out0 ..).symm, h1.trans (Cert.InBridge.out1 _ _ _ _ hx hw).symm, h2.trans (Cert.InBridge.out2 ..).symm,
      h3.trans (Cert.InBridge.out3 ..).symm, h4.trans (Cert.InBridge.out4 ..).symm, h5.trans (Cert.InBridge.out5 ..).symm,
      h6.trans (Cert.InBridge.out6 ..).symm, h7.trans (Cert.InBridge.out7 ..).symm, h8.trans (Cert.InBridge.out8 _ _ _ _ hx hw hk).symm, h9⟩

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
   Cert.Kernel3.Gen.facts, Cert.Kernel3Ideal.Gen.facts, Cert.Reference3Ideal.Gen.facts, Cert.Pre_finite.Gen.facts, Cert.Pre_finite_in.Gen.facts,
   fun m ρ _ => Cert.Kernel.Sb.frame m ρ,
   fun m ρ _ => Cert.KernelIdeal.Sb.frame m ρ,
   fun m ρ _ => Cert.KernelIdeal.Sb.frame m ρ,
   fun m ρ _ => Cert.ReferenceIdeal.Sb.frame m ρ,
   fun m ρ _ => Cert.ReferenceIdeal.Sb.frame m ρ,
   fun m ρ _ => Cert.Kernel2.Gen.frame m ρ,
   fun m ρ _ => Cert.Kernel2Ideal.Gen.frame m ρ,
   fun m ρ _ => Cert.Reference2Ideal.Ob.frame m ρ,
   fun m ρ _ => Cert.Kernel3.Gen.frame m ρ,
   fun m ρ _ => Cert.Kernel3Ideal.Gen.frame m ρ,
   fun m ρ _ => Cert.Kernel3Ideal.Gen.frame m ρ,
   fun m ρ _ => Cert.Reference3Ideal.In.frame m ρ,
   fun m ρ _ => Cert.Reference3Ideal.In.frame m ρ,
   preserves, algebraic, trivial, algebraic2, preserves3, algebraic3⟩

end Cert.Proof

end
